-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.BufferStatement Cert.KernelIdeal.S14x128x2x256 Cert.KernelIdeal.S14x128x1x256
  ∧ IdealRules.bf16_pair.BufferStatement Cert.KernelIdeal.S2x176x2x128 Cert.KernelIdeal.S2x176x1x128
  ∧ IdealRules.bf16_pair.BufferStatement Cert.KernelIdeal.S2x176x2x256 Cert.KernelIdeal.S2x176x1x256
  ∧ IdealRules.bf16_pair.Statement Cert.KernelIdeal.S256x128 Cert.KernelIdeal.S128x128
  ∧ IdealRules.bf16_pair.PackStatement Cert.KernelIdeal.S128x128
  ∧ IdealRules.bf16_pair.Statement Cert.KernelIdeal.S1x128x2x128 Cert.KernelIdeal.S1x128x1x128
  ∧ IdealRules.bf16_pair.Statement Cert.KernelIdeal.S1x128x2x256 Cert.KernelIdeal.S1x128x1x256
  ∧ IdealRules.bf16_pair.Statement Cert.KernelIdeal.S256x256 Cert.KernelIdeal.S128x256
  ∧ IdealRules.bf16_pair.Statement Cert.KernelIdeal.S1x352x112 Cert.KernelIdeal.S1x176x112
  ∧ IdealRules.bf16_pair.Statement Cert.KernelIdeal.S1x176x2x112 Cert.KernelIdeal.S1x176x1x112
  ∧ IdealRules.bf16_pair.Statement Cert.KernelIdeal.S1x176x2x128 Cert.KernelIdeal.S1x176x1x128
  ∧ IdealRules.bf16_pair.Statement Cert.KernelIdeal.S352x128 Cert.KernelIdeal.S176x128
  ∧ IdealRules.bf16_pair.PackStatement Cert.KernelIdeal.S176x128
  ∧ IdealRules.bf16_pair.Statement Cert.KernelIdeal.S1x16x2x256 Cert.KernelIdeal.S1x16x1x256
  ∧ IdealRules.bf16_pair.Statement Cert.KernelIdeal.S32x256 Cert.KernelIdeal.S16x256

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_v38) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S256x1x3584 : Shape := ⟨3, ![256, 1, 3584]⟩
abbrev S38016x1792 : Shape := ⟨2, ![38016, 1792]⟩
abbrev S38016x112 : Shape := ⟨2, ![38016, 112]⟩
abbrev S_ : Shape := ⟨0, ![]⟩

class Facts : Prop where
  bcast_S_S256x1x3584 : S_.BroadcastsInDim S256x1x3584 (![] : Fin 0 → Fin S256x1x3584.rank)
  reducesTo_S256x1x3584_S_d0_1_2 : S256x1x3584.ReducesTo [0, 1, 2] S_
  h_S_ : 0 < S_.numel
  bcast_S_S38016x112 : S_.BroadcastsInDim S38016x112 (![] : Fin 0 → Fin S38016x112.rank)
  reducesTo_S38016x112_S_d0_1 : S38016x112.ReducesTo [0, 1] S_

variable [Facts]

def fn {F : FTy → Type} [FloatOps F] (main_arg0 : FVec F S256x1x3584 .bf16) (main_arg1 : IVec S38016x1792 8) (main_arg2 : FVec F S38016x112 .bf16) : IVec S_ 1 :=
  let main_v0 : FVec F S256x1x3584 .bf16 := Host.absf main_arg0
  let main_cst : FVec F S_ .bf16 := constant S_ .bf16 0x7F80#16
  let main_v1 : FVec F S256x1x3584 .bf16 := broadcastInDim S256x1x3584 ![] bcast_S_S256x1x3584 main_cst
  let main_v2 : IVec S256x1x3584 1 := cmpf .olt main_v0 main_v1
  let main_c : IVec S_ 1 := constantI S_ 1 1#1
  let main_v3 : IVec S_ 1 := (fun x v => Host.reduce IntOp.andi x v reducesTo_S256x1x3584_S_d0_1_2 h_S_) main_v2 main_c
  let main_v4 : FVec F S38016x112 .bf16 := Host.absf main_arg2
  let main_cst_0 : FVec F S_ .bf16 := constant S_ .bf16 0x7F80#16
  let main_v5 : FVec F S38016x112 .bf16 := broadcastInDim S38016x112 ![] bcast_S_S38016x112 main_cst_0
  let main_v6 : IVec S38016x112 1 := cmpf .olt main_v4 main_v5
  let main_c_1 : IVec S_ 1 := constantI S_ 1 1#1
  let main_v7 : IVec S_ 1 := (fun x v => Host.reduce IntOp.andi x v reducesTo_S38016x112_S_d0_1 h_S_) main_v6 main_c_1
  let main_v8 : IVec S_ 1 := andi main_v3 main_v7
  main_v8
-- ==== Kernel.lean ====
abbrev S256x1x3584 : Shape := ⟨3, ![256, 1, 3584]⟩
abbrev S38016x1792 : Shape := ⟨2, ![38016, 1792]⟩
abbrev S38016x112 : Shape := ⟨2, ![38016, 112]⟩
abbrev S256x3584 : Shape := ⟨2, ![256, 3584]⟩
abbrev S1x256 : Shape := ⟨2, ![1, 256]⟩
abbrev S14x128x256 : Shape := ⟨3, ![14, 128, 256]⟩
abbrev S4x704x1792 : Shape := ⟨3, ![4, 704, 1792]⟩
abbrev S4x704x112 : Shape := ⟨3, ![4, 704, 112]⟩
abbrev S2x176x128 : Shape := ⟨3, ![2, 176, 128]⟩
abbrev S2x176x256 : Shape := ⟨3, ![2, 176, 256]⟩
abbrev S_ : Shape := ⟨0, ![]⟩
abbrev S4 : Shape := ⟨1, ![4]⟩
abbrev S176x128 : Shape := ⟨2, ![176, 128]⟩
abbrev S1 : Shape := ⟨1, ![1]⟩
abbrev S1x704x1792 : Shape := ⟨3, ![1, 704, 1792]⟩
abbrev S704x1792 : Shape := ⟨2, ![704, 1792]⟩
abbrev S1x704x112 : Shape := ⟨3, ![1, 704, 112]⟩
abbrev S704x112 : Shape := ⟨2, ![704, 112]⟩
abbrev S128x128 : Shape := ⟨2, ![128, 128]⟩
abbrev S256x128 : Shape := ⟨2, ![256, 128]⟩
abbrev S128x128x1 : Shape := ⟨3, ![128, 128, 1]⟩
abbrev S1x128x128 : Shape := ⟨3, ![1, 128, 128]⟩
abbrev S1x128x256 : Shape := ⟨3, ![1, 128, 256]⟩
abbrev S128x256 : Shape := ⟨2, ![128, 256]⟩
abbrev S256x256 : Shape := ⟨2, ![256, 256]⟩
abbrev S352x112 : Shape := ⟨2, ![352, 112]⟩
abbrev S176x112 : Shape := ⟨2, ![176, 112]⟩
abbrev S1x352x112 : Shape := ⟨3, ![1, 352, 112]⟩
abbrev S1x176x112 : Shape := ⟨3, ![1, 176, 112]⟩
abbrev S1x176x128 : Shape := ⟨3, ![1, 176, 128]⟩
abbrev S176x128x1 : Shape := ⟨3, ![176, 128, 1]⟩
abbrev S8x256 : Shape := ⟨2, ![8, 256]⟩
abbrev S1x16x256 : Shape := ⟨3, ![1, 16, 256]⟩
abbrev S16x256 : Shape := ⟨2, ![16, 256]⟩
abbrev S32x256 : Shape := ⟨2, ![32, 256]⟩
abbrev S1x32x256 : Shape := ⟨3, ![1, 32, 256]⟩
abbrev S256 : Shape := ⟨1, ![256]⟩

abbrev nBuf : Space → Nat
  | .hbm => 7
  | .vmem => 9
  | .smem => 0
  | _ => 0

abbrev bufTy : (tb : Table) → Fin (tcTables nBuf tb) → BufTy
  | .hbm, ⟨0, _⟩ => ⟨S256x1x3584, .bf16⟩
  | .hbm, ⟨1, _⟩ => ⟨S38016x1792, .i8⟩
  | .hbm, ⟨2, _⟩ => ⟨S38016x112, .bf16⟩
  | .hbm, ⟨3, _⟩ => ⟨S256x3584, .bf16⟩
  | .hbm, ⟨4, _⟩ => ⟨S1x256, .i32⟩
  | .hbm, ⟨5, _⟩ => ⟨S1x256, .f32⟩
  | .hbm, ⟨6, _⟩ => ⟨S1x256, .f32⟩
  | .local _ .vmem, ⟨0, _⟩ => ⟨S1x256, .i32⟩
  | .local _ .vmem, ⟨1, _⟩ => ⟨S1x256, .f32⟩
  | .local _ .vmem, ⟨2, _⟩ => ⟨S1x256, .f32⟩
  | .local _ .vmem, ⟨3, _⟩ => ⟨S256x3584, .bf16⟩
  | .local _ .vmem, ⟨4, _⟩ => ⟨S14x128x256, .i32⟩
  | .local _ .vmem, ⟨5, _⟩ => ⟨S4x704x1792, .i8⟩
  | .local _ .vmem, ⟨6, _⟩ => ⟨S4x704x112, .bf16⟩
  | .local _ .vmem, ⟨7, _⟩ => ⟨S2x176x128, .i32⟩
  | .local _ .vmem, ⟨8, _⟩ => ⟨S2x176x256, .i32⟩
  | _, _ => ⟨S256x1x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [BitOps F]

abbrev grid0 : Pipeline.Grid := .none

def k0_off1 (c0_i32_r0 : BitVec 32) : Fin 1 → Nat :=
  let c4_i32_r0 : BitVec 32 := 4#32
  let v1_r0 : BitVec 32 := Scalar.remsi c0_i32_r0 c4_i32_r0
  ![v1_r0.toNat]
def k0_off2 (c0_i32_r0 : BitVec 32) : Fin 3 → Nat :=
  let c4_i32_r0 : BitVec 32 := 4#32
  let v1_r0 : BitVec 32 := Scalar.remsi c0_i32_r0 c4_i32_r0
  let c0_i32_0_r0 : BitVec 32 := 0#32
  let c0_i32_1_r0 : BitVec 32 := 0#32
  ![v1_r0.toNat, 0, 0]
def k0_off3 (c0_i32_r0 : BitVec 32) : Fin 3 → Nat :=
  let c4_i32_r0 : BitVec 32 := 4#32
  let v1_r0 : BitVec 32 := Scalar.remsi c0_i32_r0 c4_i32_r0
  let c0_i32_4_r0 : BitVec 32 := 0#32
  let c0_i32_5_r0 : BitVec 32 := 0#32
  ![v1_r0.toNat, 0, 0]
@[reducible] def k0_t1_loop : Scf.Loop 32 :=
  let c0_i32_37_r0 : BitVec 32 := 0#32
  let c7_i32_r0 : BitVec 32 := 7#32
  let v82_r0 : BitVec 32 := Scalar.addi c0_i32_37_r0 c7_i32_r0
  let c1_i32_38_r0 : BitVec 32 := 1#32
  ⟨c0_i32_37_r0, v82_r0, c1_i32_38_r0⟩
def k0_mult1 (k0_t1 : Fin k0_t1_loop.trips) : BitVec 32 :=
  let c2_i32_116_r0 : BitVec 32 := 2#32
  let c0_i32_37_r0 : BitVec 32 := 0#32
  let c1_i32_38_r0 : BitVec 32 := 1#32
  let arg15_r0 : BitVec 32 := Scf.iv c0_i32_37_r0 c1_i32_38_r0 k0_t1
  let v587_r0 : BitVec 32 := Scalar.muli c2_i32_116_r0 arg15_r0
  let c0_i32_117_r0 : BitVec 32 := 0#32
  let v588_r0 : BitVec 32 := Scalar.addi v587_r0 c0_i32_117_r0
  let c256_i32_r0 : BitVec 32 := 256#32
  let v589_r0 : BitVec 32 := Scalar.muli v588_r0 c256_i32_r0
  v589_r0
def k0_off4 (k0_t1 : Fin k0_t1_loop.trips) (c0_i32_117_r0 : BitVec 32) : Fin 2 → Nat :=
  let c0_118_r0 : Index := 0#32
  let c2_i32_116_r0 : BitVec 32 := 2#32
  let c0_i32_37_r0 : BitVec 32 := 0#32
  let c1_i32_38_r0 : BitVec 32 := 1#32
  let arg15_r0 : BitVec 32 := Scf.iv c0_i32_37_r0 c1_i32_38_r0 k0_t1
  let v587_r0 : BitVec 32 := Scalar.muli c2_i32_116_r0 arg15_r0
  let v588_r0 : BitVec 32 := Scalar.addi v587_r0 c0_i32_117_r0
  let c256_i32_r0 : BitVec 32 := 256#32
  let v589_r0 : BitVec 32 := Scalar.muli v588_r0 c256_i32_r0
  let v590_r0 : BitVec 32 := v589_r0
  let v591_r0 : Index := Scalar.indexCast v590_r0
  ![0, v591_r0.toNat]
def k0_off5 (k0_t1 : Fin k0_t1_loop.trips) (c0_i32_117_r0 : BitVec 32) : Fin 2 → Nat :=
  let c0_120_r0 : Index := 0#32
  let c2_i32_116_r0 : BitVec 32 := 2#32
  let c0_i32_37_r0 : BitVec 32 := 0#32
  let c1_i32_38_r0 : BitVec 32 := 1#32
  let arg15_r0 : BitVec 32 := Scf.iv c0_i32_37_r0 c1_i32_38_r0 k0_t1
  let v587_r0 : BitVec 32 := Scalar.muli c2_i32_116_r0 arg15_r0
  let v588_r0 : BitVec 32 := Scalar.addi v587_r0 c0_i32_117_r0
  let c256_i32_r0 : BitVec 32 := 256#32
  let v589_r0 : BitVec 32 := Scalar.muli v588_r0 c256_i32_r0
  let v590_r0 : BitVec 32 := v589_r0
  let c128_i32_119_r0 : BitVec 32 := 128#32
  let v594_r0 : BitVec 32 := Scalar.addi v590_r0 c128_i32_119_r0
  let v595_r0 : Index := Scalar.indexCast v594_r0
  ![0, v595_r0.toNat]
def k0_off6 (k0_t1 : Fin k0_t1_loop.trips) (c0_i32_135_r0 : BitVec 32) : Fin 3 → Nat :=
  let c2_i32_134_r0 : BitVec 32 := 2#32
  let c0_i32_37_r0 : BitVec 32 := 0#32
  let c1_i32_38_r0 : BitVec 32 := 1#32
  let arg15_r0 : BitVec 32 := Scf.iv c0_i32_37_r0 c1_i32_38_r0 k0_t1
  let v647_r0 : BitVec 32 := Scalar.muli c2_i32_134_r0 arg15_r0
  let v648_r0 : BitVec 32 := Scalar.addi v647_r0 c0_i32_135_r0
  let v649_r0 : Index := Scalar.indexCast v648_r0
  let c0_136_r0 : Index := 0#32
  let c0_137_r0 : Index := 0#32
  ![v649_r0.toNat, 0, 0]
def k0_mult2 (k0_t1 : Fin k0_t1_loop.trips) : BitVec 32 :=
  let c2_i32_155_r0 : BitVec 32 := 2#32
  let c0_i32_37_r0 : BitVec 32 := 0#32
  let c1_i32_38_r0 : BitVec 32 := 1#32
  let arg15_r0 : BitVec 32 := Scf.iv c0_i32_37_r0 c1_i32_38_r0 k0_t1
  let v708_r0 : BitVec 32 := Scalar.muli c2_i32_155_r0 arg15_r0
  let c1_i32_156_r0 : BitVec 32 := 1#32
  let v709_r0 : BitVec 32 := Scalar.addi v708_r0 c1_i32_156_r0
  let c256_i32_157_r0 : BitVec 32 := 256#32
  let v710_r0 : BitVec 32 := Scalar.muli v709_r0 c256_i32_157_r0
  v710_r0
def k0_off7 (k0_t1 : Fin k0_t1_loop.trips) (c0_i32_175_r0 : BitVec 32) : Fin 3 → Nat :=
  let c2_i32_174_r0 : BitVec 32 := 2#32
  let c0_i32_37_r0 : BitVec 32 := 0#32
  let c1_i32_38_r0 : BitVec 32 := 1#32
  let arg15_r0 : BitVec 32 := Scf.iv c0_i32_37_r0 c1_i32_38_r0 k0_t1
  let v768_r0 : BitVec 32 := Scalar.muli c2_i32_174_r0 arg15_r0
  let v769_r0 : BitVec 32 := Scalar.addi v768_r0 c0_i32_175_r0
  let v770_r0 : Index := Scalar.indexCast v769_r0
  let c0_176_r0 : Index := 0#32
  let c128_177_r0 : Index := 128#32
  ![v770_r0.toNat, 0, 128]
@[reducible] def k0_t2_loop : Scf.Loop 32 :=
  let c0_i32_100_r0 : BitVec 32 := 0#32
  let c54_i32_r0 : BitVec 32 := 54#32
  let v217_r0 : BitVec 32 := Scalar.addi c0_i32_100_r0 c54_i32_r0
  let c1_i32_101_r0 : BitVec 32 := 1#32
  ⟨c0_i32_100_r0, v217_r0, c1_i32_101_r0⟩
def k0_cond1 (k0_t2 : Fin k0_t2_loop.trips) : BitVec 1 :=
  let c0_i32_100_r0 : BitVec 32 := 0#32
  let c1_i32_101_r0 : BitVec 32 := 1#32
  let arg15_r0 : BitVec 32 := Scf.iv c0_i32_100_r0 c1_i32_101_r0 k0_t2
  let c3_i32_r0 : BitVec 32 := 3#32
  let v587_r0 : BitVec 32 := Scalar.addi arg15_r0 c3_i32_r0
  let c54_i32_116_r0 : BitVec 32 := 54#32
  let v588_r0 : BitVec 1 := Scalar.cmpi .slt v587_r0 c54_i32_116_r0
  let v589_r0 : BitVec 32 := Scalar.extui v588_r0
  let c0_i32_117_r0 : BitVec 32 := 0#32
  let v590_r0 : BitVec 1 := Scalar.cmpi .ne v589_r0 c0_i32_117_r0
  v590_r0

def k0_off8 (k0_t2 : Fin k0_t2_loop.trips) : Fin 1 → Nat :=
  let c0_i32_100_r0 : BitVec 32 := 0#32
  let c1_i32_101_r0 : BitVec 32 := 1#32
  let arg15_r0 : BitVec 32 := Scf.iv c0_i32_100_r0 c1_i32_101_r0 k0_t2
  let c3_i32_2294_r0 : BitVec 32 := 3#32
  let v6439_r0 : BitVec 32 := Scalar.addi arg15_r0 c3_i32_2294_r0
  let c4_i32_2295_r0 : BitVec 32 := 4#32
  let v6440_r0 : BitVec 32 := Scalar.remsi v6439_r0 c4_i32_2295_r0
  ![v6440_r0.toNat]
def k0_off9 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c3_i32_2294_r0 : BitVec 32 := 3#32
  let v6439_r0 : BitVec 32 := Scalar.addi arg15_r0 c3_i32_2294_r0
  let c4_i32_2295_r0 : BitVec 32 := 4#32
  let v6440_r0 : BitVec 32 := Scalar.remsi v6439_r0 c4_i32_2295_r0
  let c0_i32_2297_r0 : BitVec 32 := 0#32
  let c0_i32_2298_r0 : BitVec 32 := 0#32
  ![v6440_r0.toNat, 0, 0]
def k0_off10 (k0_t2 : Fin k0_t2_loop.trips) : Fin 2 → Nat :=
  let c0_i32_100_r0 : BitVec 32 := 0#32
  let c1_i32_101_r0 : BitVec 32 := 1#32
  let arg15_r0 : BitVec 32 := Scf.iv c0_i32_100_r0 c1_i32_101_r0 k0_t2
  let c3_i32_2294_r0 : BitVec 32 := 3#32
  let v6439_r0 : BitVec 32 := Scalar.addi arg15_r0 c3_i32_2294_r0
  let c704_i32_2296_r0 : BitVec 32 := 704#32
  let v6441_r0 : BitVec 32 := Scalar.muli v6439_r0 c704_i32_2296_r0
  let c0_i32_2299_r0 : BitVec 32 := 0#32
  ![v6441_r0.toNat, 0]
def k0_off11 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c3_i32_2294_r0 : BitVec 32 := 3#32
  let v6439_r0 : BitVec 32 := Scalar.addi arg15_r0 c3_i32_2294_r0
  let c4_i32_2295_r0 : BitVec 32 := 4#32
  let v6440_r0 : BitVec 32 := Scalar.remsi v6439_r0 c4_i32_2295_r0
  let c0_i32_2300_r0 : BitVec 32 := 0#32
  let c0_i32_2301_r0 : BitVec 32 := 0#32
  ![v6440_r0.toNat, 0, 0]
def k0_off12 (k0_t2 : Fin k0_t2_loop.trips) : Fin 2 → Nat :=
  let c0_i32_100_r0 : BitVec 32 := 0#32
  let c1_i32_101_r0 : BitVec 32 := 1#32
  let arg15_r0 : BitVec 32 := Scf.iv c0_i32_100_r0 c1_i32_101_r0 k0_t2
  let c3_i32_2294_r0 : BitVec 32 := 3#32
  let v6439_r0 : BitVec 32 := Scalar.addi arg15_r0 c3_i32_2294_r0
  let c704_i32_2296_r0 : BitVec 32 := 704#32
  let v6441_r0 : BitVec 32 := Scalar.muli v6439_r0 c704_i32_2296_r0
  let c0_i32_2302_r0 : BitVec 32 := 0#32
  ![v6441_r0.toNat, 0]
def k0_cond2 (k0_t2 : Fin k0_t2_loop.trips) : BitVec 1 :=
  let c0_i32_100_r0 : BitVec 32 := 0#32
  let c1_i32_101_r0 : BitVec 32 := 1#32
  let arg15_r0 : BitVec 32 := Scf.iv c0_i32_100_r0 c1_i32_101_r0 k0_t2
  let c1_i32_118_r0 : BitVec 32 := 1#32
  let v591_r0 : BitVec 32 := Scalar.addi arg15_r0 c1_i32_118_r0
  let c54_i32_119_r0 : BitVec 32 := 54#32
  let v592_r0 : BitVec 1 := Scalar.cmpi .slt v591_r0 c54_i32_119_r0
  let v593_r0 : BitVec 32 := Scalar.extui v592_r0
  let c0_i32_120_r0 : BitVec 32 := 0#32
  let v594_r0 : BitVec 1 := Scalar.cmpi .ne v593_r0 c0_i32_120_r0
  v594_r0

def k0_off13 (k0_t2 : Fin k0_t2_loop.trips) : Fin 1 → Nat :=
  let c0_i32_100_r0 : BitVec 32 := 0#32
  let c1_i32_101_r0 : BitVec 32 := 1#32
  let arg15_r0 : BitVec 32 := Scf.iv c0_i32_100_r0 c1_i32_101_r0 k0_t2
  let c1_i32_2294_r0 : BitVec 32 := 1#32
  let v6439_r0 : BitVec 32 := Scalar.addi arg15_r0 c1_i32_2294_r0
  let c4_i32_2295_r0 : BitVec 32 := 4#32
  let v6440_r0 : BitVec 32 := Scalar.remsi v6439_r0 c4_i32_2295_r0
  ![v6440_r0.toNat]
def k0_off14 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c1_i32_2294_r0 : BitVec 32 := 1#32
  let v6439_r0 : BitVec 32 := Scalar.addi arg15_r0 c1_i32_2294_r0
  let c4_i32_2295_r0 : BitVec 32 := 4#32
  let v6440_r0 : BitVec 32 := Scalar.remsi v6439_r0 c4_i32_2295_r0
  let c0_i32_2297_r0 : BitVec 32 := 0#32
  let c0_i32_2298_r0 : BitVec 32 := 0#32
  ![v6440_r0.toNat, 0, 0]
def k0_off15 (k0_t2 : Fin k0_t2_loop.trips) : Fin 2 → Nat :=
  let c0_i32_100_r0 : BitVec 32 := 0#32
  let c1_i32_101_r0 : BitVec 32 := 1#32
  let arg15_r0 : BitVec 32 := Scf.iv c0_i32_100_r0 c1_i32_101_r0 k0_t2
  let c1_i32_2294_r0 : BitVec 32 := 1#32
  let v6439_r0 : BitVec 32 := Scalar.addi arg15_r0 c1_i32_2294_r0
  let c704_i32_2296_r0 : BitVec 32 := 704#32
  let v6441_r0 : BitVec 32 := Scalar.muli v6439_r0 c704_i32_2296_r0
  let c0_i32_2299_r0 : BitVec 32 := 0#32
  ![v6441_r0.toNat, 0]
def k0_off16 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c1_i32_2294_r0 : BitVec 32 := 1#32
  let v6439_r0 : BitVec 32 := Scalar.addi arg15_r0 c1_i32_2294_r0
  let c4_i32_2295_r0 : BitVec 32 := 4#32
  let v6440_r0 : BitVec 32 := Scalar.remsi v6439_r0 c4_i32_2295_r0
  let c0_i32_2300_r0 : BitVec 32 := 0#32
  let c0_i32_2301_r0 : BitVec 32 := 0#32
  ![v6440_r0.toNat, 0, 0]
def k0_off17 (k0_t2 : Fin k0_t2_loop.trips) : Fin 2 → Nat :=
  let c0_i32_100_r0 : BitVec 32 := 0#32
  let c1_i32_101_r0 : BitVec 32 := 1#32
  let arg15_r0 : BitVec 32 := Scf.iv c0_i32_100_r0 c1_i32_101_r0 k0_t2
  let c1_i32_2294_r0 : BitVec 32 := 1#32
  let v6439_r0 : BitVec 32 := Scalar.addi arg15_r0 c1_i32_2294_r0
  let c704_i32_2296_r0 : BitVec 32 := 704#32
  let v6441_r0 : BitVec 32 := Scalar.muli v6439_r0 c704_i32_2296_r0
  let c0_i32_2302_r0 : BitVec 32 := 0#32
  ![v6441_r0.toNat, 0]
def k0_off18 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v711_r0 : Index := Scalar.indexCast v595_r0
  let c0_167_r0 : Index := 0#32
  let c0_168_r0 : Index := 0#32
  ![v711_r0.toNat, 0, 0]
def k0_off19 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v734_r0 : Index := Scalar.indexCast v595_r0
  let c32_r0 : Index := 32#32
  let c0_175_r0 : Index := 0#32
  ![v734_r0.toNat, 32, 0]
def k0_off20 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v757_r0 : Index := Scalar.indexCast v595_r0
  let c64_r0 : Index := 64#32
  let c0_184_r0 : Index := 0#32
  ![v757_r0.toNat, 64, 0]
def k0_off21 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v780_r0 : Index := Scalar.indexCast v595_r0
  let c96_r0 : Index := 96#32
  let c0_192_r0 : Index := 0#32
  ![v780_r0.toNat, 96, 0]
def k0_off22 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v803_r0 : Index := Scalar.indexCast v595_r0
  let c128_201_r0 : Index := 128#32
  let c0_202_r0 : Index := 0#32
  ![v803_r0.toNat, 128, 0]
def k0_off23 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v826_r0 : Index := Scalar.indexCast v595_r0
  let c160_r0 : Index := 160#32
  let c0_210_r0 : Index := 0#32
  ![v826_r0.toNat, 160, 0]
def k0_off24 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v849_r0 : Index := Scalar.indexCast v595_r0
  let c192_r0 : Index := 192#32
  let c0_219_r0 : Index := 0#32
  ![v849_r0.toNat, 192, 0]
def k0_off25 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v872_r0 : Index := Scalar.indexCast v595_r0
  let c224_r0 : Index := 224#32
  let c0_227_r0 : Index := 0#32
  ![v872_r0.toNat, 224, 0]
def k0_off26 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v895_r0 : Index := Scalar.indexCast v595_r0
  let c256_r0 : Index := 256#32
  let c0_236_r0 : Index := 0#32
  ![v895_r0.toNat, 256, 0]
def k0_off27 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v918_r0 : Index := Scalar.indexCast v595_r0
  let c288_r0 : Index := 288#32
  let c0_244_r0 : Index := 0#32
  ![v918_r0.toNat, 288, 0]
def k0_off28 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v941_r0 : Index := Scalar.indexCast v595_r0
  let c320_r0 : Index := 320#32
  let c0_253_r0 : Index := 0#32
  ![v941_r0.toNat, 320, 0]
def k0_off29 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1078_r0 : Index := Scalar.indexCast v595_r0
  let c0_305_r0 : Index := 0#32
  let c256_306_r0 : Index := 256#32
  ![v1078_r0.toNat, 0, 256]
def k0_off30 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1101_r0 : Index := Scalar.indexCast v595_r0
  let c32_315_r0 : Index := 32#32
  let c256_316_r0 : Index := 256#32
  ![v1101_r0.toNat, 32, 256]
def k0_off31 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1124_r0 : Index := Scalar.indexCast v595_r0
  let c64_325_r0 : Index := 64#32
  let c256_326_r0 : Index := 256#32
  ![v1124_r0.toNat, 64, 256]
def k0_off32 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1147_r0 : Index := Scalar.indexCast v595_r0
  let c96_335_r0 : Index := 96#32
  let c256_336_r0 : Index := 256#32
  ![v1147_r0.toNat, 96, 256]
def k0_off33 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1170_r0 : Index := Scalar.indexCast v595_r0
  let c128_345_r0 : Index := 128#32
  let c256_346_r0 : Index := 256#32
  ![v1170_r0.toNat, 128, 256]
def k0_off34 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1193_r0 : Index := Scalar.indexCast v595_r0
  let c160_355_r0 : Index := 160#32
  let c256_356_r0 : Index := 256#32
  ![v1193_r0.toNat, 160, 256]
def k0_off35 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1216_r0 : Index := Scalar.indexCast v595_r0
  let c192_365_r0 : Index := 192#32
  let c256_366_r0 : Index := 256#32
  ![v1216_r0.toNat, 192, 256]
def k0_off36 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1239_r0 : Index := Scalar.indexCast v595_r0
  let c224_375_r0 : Index := 224#32
  let c256_376_r0 : Index := 256#32
  ![v1239_r0.toNat, 224, 256]
def k0_off37 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1262_r0 : Index := Scalar.indexCast v595_r0
  let c256_385_r0 : Index := 256#32
  let c256_386_r0 : Index := 256#32
  ![v1262_r0.toNat, 256, 256]
def k0_off38 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1285_r0 : Index := Scalar.indexCast v595_r0
  let c288_395_r0 : Index := 288#32
  let c256_396_r0 : Index := 256#32
  ![v1285_r0.toNat, 288, 256]
def k0_off39 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1308_r0 : Index := Scalar.indexCast v595_r0
  let c320_405_r0 : Index := 320#32
  let c256_406_r0 : Index := 256#32
  ![v1308_r0.toNat, 320, 256]
def k0_off40 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1507_r0 : Index := Scalar.indexCast v595_r0
  let c0_463_r0 : Index := 0#32
  let c512_r0 : Index := 512#32
  ![v1507_r0.toNat, 0, 512]
def k0_off41 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1530_r0 : Index := Scalar.indexCast v595_r0
  let c32_472_r0 : Index := 32#32
  let c512_473_r0 : Index := 512#32
  ![v1530_r0.toNat, 32, 512]
def k0_off42 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1553_r0 : Index := Scalar.indexCast v595_r0
  let c64_482_r0 : Index := 64#32
  let c512_483_r0 : Index := 512#32
  ![v1553_r0.toNat, 64, 512]
def k0_off43 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1576_r0 : Index := Scalar.indexCast v595_r0
  let c96_492_r0 : Index := 96#32
  let c512_493_r0 : Index := 512#32
  ![v1576_r0.toNat, 96, 512]
def k0_off44 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1599_r0 : Index := Scalar.indexCast v595_r0
  let c128_502_r0 : Index := 128#32
  let c512_503_r0 : Index := 512#32
  ![v1599_r0.toNat, 128, 512]
def k0_off45 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1622_r0 : Index := Scalar.indexCast v595_r0
  let c160_512_r0 : Index := 160#32
  let c512_513_r0 : Index := 512#32
  ![v1622_r0.toNat, 160, 512]
def k0_off46 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1645_r0 : Index := Scalar.indexCast v595_r0
  let c192_522_r0 : Index := 192#32
  let c512_523_r0 : Index := 512#32
  ![v1645_r0.toNat, 192, 512]
def k0_off47 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1668_r0 : Index := Scalar.indexCast v595_r0
  let c224_532_r0 : Index := 224#32
  let c512_533_r0 : Index := 512#32
  ![v1668_r0.toNat, 224, 512]
def k0_off48 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1691_r0 : Index := Scalar.indexCast v595_r0
  let c256_542_r0 : Index := 256#32
  let c512_543_r0 : Index := 512#32
  ![v1691_r0.toNat, 256, 512]
def k0_off49 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1714_r0 : Index := Scalar.indexCast v595_r0
  let c288_552_r0 : Index := 288#32
  let c512_553_r0 : Index := 512#32
  ![v1714_r0.toNat, 288, 512]
def k0_off50 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1737_r0 : Index := Scalar.indexCast v595_r0
  let c320_562_r0 : Index := 320#32
  let c512_563_r0 : Index := 512#32
  ![v1737_r0.toNat, 320, 512]
def k0_off51 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let c0_i32_574_r0 : BitVec 32 := 0#32
  let c0_i32_575_r0 : BitVec 32 := 0#32
  ![v595_r0.toNat, 0, 0]
def k0_off52 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let c0_i32_575_r0 : BitVec 32 := 0#32
  ![v595_r0.toNat, 352, 0]
def k0_off53 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1943_r0 : Index := Scalar.indexCast v595_r0
  let c0_622_r0 : Index := 0#32
  let c768_r0 : Index := 768#32
  ![v1943_r0.toNat, 0, 768]
def k0_off54 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1966_r0 : Index := Scalar.indexCast v595_r0
  let c32_631_r0 : Index := 32#32
  let c768_632_r0 : Index := 768#32
  ![v1966_r0.toNat, 32, 768]
def k0_off55 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1989_r0 : Index := Scalar.indexCast v595_r0
  let c64_641_r0 : Index := 64#32
  let c768_642_r0 : Index := 768#32
  ![v1989_r0.toNat, 64, 768]
def k0_off56 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2012_r0 : Index := Scalar.indexCast v595_r0
  let c96_651_r0 : Index := 96#32
  let c768_652_r0 : Index := 768#32
  ![v2012_r0.toNat, 96, 768]
def k0_off57 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2035_r0 : Index := Scalar.indexCast v595_r0
  let c128_661_r0 : Index := 128#32
  let c768_662_r0 : Index := 768#32
  ![v2035_r0.toNat, 128, 768]
def k0_off58 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2058_r0 : Index := Scalar.indexCast v595_r0
  let c160_671_r0 : Index := 160#32
  let c768_672_r0 : Index := 768#32
  ![v2058_r0.toNat, 160, 768]
def k0_off59 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2081_r0 : Index := Scalar.indexCast v595_r0
  let c192_681_r0 : Index := 192#32
  let c768_682_r0 : Index := 768#32
  ![v2081_r0.toNat, 192, 768]
def k0_off60 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2104_r0 : Index := Scalar.indexCast v595_r0
  let c224_691_r0 : Index := 224#32
  let c768_692_r0 : Index := 768#32
  ![v2104_r0.toNat, 224, 768]
def k0_off61 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2127_r0 : Index := Scalar.indexCast v595_r0
  let c256_701_r0 : Index := 256#32
  let c768_702_r0 : Index := 768#32
  ![v2127_r0.toNat, 256, 768]
def k0_off62 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2150_r0 : Index := Scalar.indexCast v595_r0
  let c288_711_r0 : Index := 288#32
  let c768_712_r0 : Index := 768#32
  ![v2150_r0.toNat, 288, 768]
def k0_off63 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2173_r0 : Index := Scalar.indexCast v595_r0
  let c320_721_r0 : Index := 320#32
  let c768_722_r0 : Index := 768#32
  ![v2173_r0.toNat, 320, 768]
def k0_off64 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2372_r0 : Index := Scalar.indexCast v595_r0
  let c0_775_r0 : Index := 0#32
  let c1024_r0 : Index := 1024#32
  ![v2372_r0.toNat, 0, 1024]
def k0_off65 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2395_r0 : Index := Scalar.indexCast v595_r0
  let c32_784_r0 : Index := 32#32
  let c1024_785_r0 : Index := 1024#32
  ![v2395_r0.toNat, 32, 1024]
def k0_off66 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2418_r0 : Index := Scalar.indexCast v595_r0
  let c64_794_r0 : Index := 64#32
  let c1024_795_r0 : Index := 1024#32
  ![v2418_r0.toNat, 64, 1024]
def k0_off67 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2441_r0 : Index := Scalar.indexCast v595_r0
  let c96_804_r0 : Index := 96#32
  let c1024_805_r0 : Index := 1024#32
  ![v2441_r0.toNat, 96, 1024]
def k0_off68 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2464_r0 : Index := Scalar.indexCast v595_r0
  let c128_814_r0 : Index := 128#32
  let c1024_815_r0 : Index := 1024#32
  ![v2464_r0.toNat, 128, 1024]
def k0_off69 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2487_r0 : Index := Scalar.indexCast v595_r0
  let c160_824_r0 : Index := 160#32
  let c1024_825_r0 : Index := 1024#32
  ![v2487_r0.toNat, 160, 1024]
def k0_off70 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2510_r0 : Index := Scalar.indexCast v595_r0
  let c192_834_r0 : Index := 192#32
  let c1024_835_r0 : Index := 1024#32
  ![v2510_r0.toNat, 192, 1024]
def k0_off71 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2533_r0 : Index := Scalar.indexCast v595_r0
  let c224_844_r0 : Index := 224#32
  let c1024_845_r0 : Index := 1024#32
  ![v2533_r0.toNat, 224, 1024]
def k0_off72 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2556_r0 : Index := Scalar.indexCast v595_r0
  let c256_854_r0 : Index := 256#32
  let c1024_855_r0 : Index := 1024#32
  ![v2556_r0.toNat, 256, 1024]
def k0_off73 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2579_r0 : Index := Scalar.indexCast v595_r0
  let c288_864_r0 : Index := 288#32
  let c1024_865_r0 : Index := 1024#32
  ![v2579_r0.toNat, 288, 1024]
def k0_off74 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2602_r0 : Index := Scalar.indexCast v595_r0
  let c320_874_r0 : Index := 320#32
  let c1024_875_r0 : Index := 1024#32
  ![v2602_r0.toNat, 320, 1024]
def k0_off75 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2801_r0 : Index := Scalar.indexCast v595_r0
  let c0_929_r0 : Index := 0#32
  let c1280_r0 : Index := 1280#32
  ![v2801_r0.toNat, 0, 1280]
def k0_off76 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2824_r0 : Index := Scalar.indexCast v595_r0
  let c32_938_r0 : Index := 32#32
  let c1280_939_r0 : Index := 1280#32
  ![v2824_r0.toNat, 32, 1280]
def k0_off77 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2847_r0 : Index := Scalar.indexCast v595_r0
  let c64_948_r0 : Index := 64#32
  let c1280_949_r0 : Index := 1280#32
  ![v2847_r0.toNat, 64, 1280]
def k0_off78 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2870_r0 : Index := Scalar.indexCast v595_r0
  let c96_958_r0 : Index := 96#32
  let c1280_959_r0 : Index := 1280#32
  ![v2870_r0.toNat, 96, 1280]
def k0_off79 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2893_r0 : Index := Scalar.indexCast v595_r0
  let c128_968_r0 : Index := 128#32
  let c1280_969_r0 : Index := 1280#32
  ![v2893_r0.toNat, 128, 1280]
def k0_off80 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2916_r0 : Index := Scalar.indexCast v595_r0
  let c160_978_r0 : Index := 160#32
  let c1280_979_r0 : Index := 1280#32
  ![v2916_r0.toNat, 160, 1280]
def k0_off81 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2939_r0 : Index := Scalar.indexCast v595_r0
  let c192_988_r0 : Index := 192#32
  let c1280_989_r0 : Index := 1280#32
  ![v2939_r0.toNat, 192, 1280]
def k0_off82 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2962_r0 : Index := Scalar.indexCast v595_r0
  let c224_998_r0 : Index := 224#32
  let c1280_999_r0 : Index := 1280#32
  ![v2962_r0.toNat, 224, 1280]
def k0_off83 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2985_r0 : Index := Scalar.indexCast v595_r0
  let c256_1008_r0 : Index := 256#32
  let c1280_1009_r0 : Index := 1280#32
  ![v2985_r0.toNat, 256, 1280]
def k0_off84 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v3008_r0 : Index := Scalar.indexCast v595_r0
  let c288_1018_r0 : Index := 288#32
  let c1280_1019_r0 : Index := 1280#32
  ![v3008_r0.toNat, 288, 1280]
def k0_off85 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v3031_r0 : Index := Scalar.indexCast v595_r0
  let c320_1028_r0 : Index := 320#32
  let c1280_1029_r0 : Index := 1280#32
  ![v3031_r0.toNat, 320, 1280]
def k0_off86 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v3230_r0 : Index := Scalar.indexCast v595_r0
  let c0_1083_r0 : Index := 0#32
  let c1536_r0 : Index := 1536#32
  ![v3230_r0.toNat, 0, 1536]
def k0_off87 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v3253_r0 : Index := Scalar.indexCast v595_r0
  let c32_1092_r0 : Index := 32#32
  let c1536_1093_r0 : Index := 1536#32
  ![v3253_r0.toNat, 32, 1536]
def k0_off88 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v3276_r0 : Index := Scalar.indexCast v595_r0
  let c64_1102_r0 : Index := 64#32
  let c1536_1103_r0 : Index := 1536#32
  ![v3276_r0.toNat, 64, 1536]
def k0_off89 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v3299_r0 : Index := Scalar.indexCast v595_r0
  let c96_1112_r0 : Index := 96#32
  let c1536_1113_r0 : Index := 1536#32
  ![v3299_r0.toNat, 96, 1536]
def k0_off90 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v3322_r0 : Index := Scalar.indexCast v595_r0
  let c128_1122_r0 : Index := 128#32
  let c1536_1123_r0 : Index := 1536#32
  ![v3322_r0.toNat, 128, 1536]
def k0_off91 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v3345_r0 : Index := Scalar.indexCast v595_r0
  let c160_1132_r0 : Index := 160#32
  let c1536_1133_r0 : Index := 1536#32
  ![v3345_r0.toNat, 160, 1536]
def k0_off92 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v3368_r0 : Index := Scalar.indexCast v595_r0
  let c192_1142_r0 : Index := 192#32
  let c1536_1143_r0 : Index := 1536#32
  ![v3368_r0.toNat, 192, 1536]
def k0_off93 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v3391_r0 : Index := Scalar.indexCast v595_r0
  let c224_1152_r0 : Index := 224#32
  let c1536_1153_r0 : Index := 1536#32
  ![v3391_r0.toNat, 224, 1536]
def k0_off94 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v3414_r0 : Index := Scalar.indexCast v595_r0
  let c256_1162_r0 : Index := 256#32
  let c1536_1163_r0 : Index := 1536#32
  ![v3414_r0.toNat, 256, 1536]
def k0_off95 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v3437_r0 : Index := Scalar.indexCast v595_r0
  let c288_1172_r0 : Index := 288#32
  let c1536_1173_r0 : Index := 1536#32
  ![v3437_r0.toNat, 288, 1536]
def k0_off96 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v3460_r0 : Index := Scalar.indexCast v595_r0
  let c320_1182_r0 : Index := 320#32
  let c1536_1183_r0 : Index := 1536#32
  ![v3460_r0.toNat, 320, 1536]
def k0_off97 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v3633_r0 : Index := Scalar.indexCast v595_r0
  let c352_r0 : Index := 352#32
  let c0_1242_r0 : Index := 0#32
  ![v3633_r0.toNat, 352, 0]
def k0_off98 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v3656_r0 : Index := Scalar.indexCast v595_r0
  let c384_r0 : Index := 384#32
  let c0_1251_r0 : Index := 0#32
  ![v3656_r0.toNat, 384, 0]
def k0_off99 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v3679_r0 : Index := Scalar.indexCast v595_r0
  let c416_r0 : Index := 416#32
  let c0_1260_r0 : Index := 0#32
  ![v3679_r0.toNat, 416, 0]
def k0_off100 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v3702_r0 : Index := Scalar.indexCast v595_r0
  let c448_r0 : Index := 448#32
  let c0_1269_r0 : Index := 0#32
  ![v3702_r0.toNat, 448, 0]
def k0_off101 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v3725_r0 : Index := Scalar.indexCast v595_r0
  let c480_r0 : Index := 480#32
  let c0_1278_r0 : Index := 0#32
  ![v3725_r0.toNat, 480, 0]
def k0_off102 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v3748_r0 : Index := Scalar.indexCast v595_r0
  let c512_1287_r0 : Index := 512#32
  let c0_1288_r0 : Index := 0#32
  ![v3748_r0.toNat, 512, 0]
def k0_off103 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v3771_r0 : Index := Scalar.indexCast v595_r0
  let c544_r0 : Index := 544#32
  let c0_1297_r0 : Index := 0#32
  ![v3771_r0.toNat, 544, 0]
def k0_off104 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v3794_r0 : Index := Scalar.indexCast v595_r0
  let c576_r0 : Index := 576#32
  let c0_1306_r0 : Index := 0#32
  ![v3794_r0.toNat, 576, 0]
def k0_off105 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v3817_r0 : Index := Scalar.indexCast v595_r0
  let c608_r0 : Index := 608#32
  let c0_1315_r0 : Index := 0#32
  ![v3817_r0.toNat, 608, 0]
def k0_off106 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v3840_r0 : Index := Scalar.indexCast v595_r0
  let c640_r0 : Index := 640#32
  let c0_1324_r0 : Index := 0#32
  ![v3840_r0.toNat, 640, 0]
def k0_off107 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v3863_r0 : Index := Scalar.indexCast v595_r0
  let c672_r0 : Index := 672#32
  let c0_1333_r0 : Index := 0#32
  ![v3863_r0.toNat, 672, 0]
def k0_off108 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4000_r0 : Index := Scalar.indexCast v595_r0
  let c352_1388_r0 : Index := 352#32
  let c256_1389_r0 : Index := 256#32
  ![v4000_r0.toNat, 352, 256]
def k0_off109 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4023_r0 : Index := Scalar.indexCast v595_r0
  let c384_1398_r0 : Index := 384#32
  let c256_1399_r0 : Index := 256#32
  ![v4023_r0.toNat, 384, 256]
def k0_off110 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4046_r0 : Index := Scalar.indexCast v595_r0
  let c416_1408_r0 : Index := 416#32
  let c256_1409_r0 : Index := 256#32
  ![v4046_r0.toNat, 416, 256]
def k0_off111 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4069_r0 : Index := Scalar.indexCast v595_r0
  let c448_1418_r0 : Index := 448#32
  let c256_1419_r0 : Index := 256#32
  ![v4069_r0.toNat, 448, 256]
def k0_off112 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4092_r0 : Index := Scalar.indexCast v595_r0
  let c480_1428_r0 : Index := 480#32
  let c256_1429_r0 : Index := 256#32
  ![v4092_r0.toNat, 480, 256]
def k0_off113 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4115_r0 : Index := Scalar.indexCast v595_r0
  let c512_1438_r0 : Index := 512#32
  let c256_1439_r0 : Index := 256#32
  ![v4115_r0.toNat, 512, 256]
def k0_off114 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4138_r0 : Index := Scalar.indexCast v595_r0
  let c544_1448_r0 : Index := 544#32
  let c256_1449_r0 : Index := 256#32
  ![v4138_r0.toNat, 544, 256]
def k0_off115 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4161_r0 : Index := Scalar.indexCast v595_r0
  let c576_1458_r0 : Index := 576#32
  let c256_1459_r0 : Index := 256#32
  ![v4161_r0.toNat, 576, 256]
def k0_off116 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4184_r0 : Index := Scalar.indexCast v595_r0
  let c608_1468_r0 : Index := 608#32
  let c256_1469_r0 : Index := 256#32
  ![v4184_r0.toNat, 608, 256]
def k0_off117 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4207_r0 : Index := Scalar.indexCast v595_r0
  let c640_1478_r0 : Index := 640#32
  let c256_1479_r0 : Index := 256#32
  ![v4207_r0.toNat, 640, 256]
def k0_off118 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4230_r0 : Index := Scalar.indexCast v595_r0
  let c672_1488_r0 : Index := 672#32
  let c256_1489_r0 : Index := 256#32
  ![v4230_r0.toNat, 672, 256]
def k0_off119 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4429_r0 : Index := Scalar.indexCast v595_r0
  let c352_1545_r0 : Index := 352#32
  let c512_1546_r0 : Index := 512#32
  ![v4429_r0.toNat, 352, 512]
def k0_off120 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4452_r0 : Index := Scalar.indexCast v595_r0
  let c384_1555_r0 : Index := 384#32
  let c512_1556_r0 : Index := 512#32
  ![v4452_r0.toNat, 384, 512]
def k0_off121 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4475_r0 : Index := Scalar.indexCast v595_r0
  let c416_1565_r0 : Index := 416#32
  let c512_1566_r0 : Index := 512#32
  ![v4475_r0.toNat, 416, 512]
def k0_off122 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4498_r0 : Index := Scalar.indexCast v595_r0
  let c448_1575_r0 : Index := 448#32
  let c512_1576_r0 : Index := 512#32
  ![v4498_r0.toNat, 448, 512]
def k0_off123 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4521_r0 : Index := Scalar.indexCast v595_r0
  let c480_1585_r0 : Index := 480#32
  let c512_1586_r0 : Index := 512#32
  ![v4521_r0.toNat, 480, 512]
def k0_off124 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4544_r0 : Index := Scalar.indexCast v595_r0
  let c512_1595_r0 : Index := 512#32
  let c512_1596_r0 : Index := 512#32
  ![v4544_r0.toNat, 512, 512]
def k0_off125 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4567_r0 : Index := Scalar.indexCast v595_r0
  let c544_1605_r0 : Index := 544#32
  let c512_1606_r0 : Index := 512#32
  ![v4567_r0.toNat, 544, 512]
def k0_off126 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4590_r0 : Index := Scalar.indexCast v595_r0
  let c576_1615_r0 : Index := 576#32
  let c512_1616_r0 : Index := 512#32
  ![v4590_r0.toNat, 576, 512]
def k0_off127 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4613_r0 : Index := Scalar.indexCast v595_r0
  let c608_1625_r0 : Index := 608#32
  let c512_1626_r0 : Index := 512#32
  ![v4613_r0.toNat, 608, 512]
def k0_off128 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4636_r0 : Index := Scalar.indexCast v595_r0
  let c640_1635_r0 : Index := 640#32
  let c512_1636_r0 : Index := 512#32
  ![v4636_r0.toNat, 640, 512]
def k0_off129 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4659_r0 : Index := Scalar.indexCast v595_r0
  let c672_1645_r0 : Index := 672#32
  let c512_1646_r0 : Index := 512#32
  ![v4659_r0.toNat, 672, 512]
def k0_off130 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c1_i32_122_r0 : BitVec 32 := 1#32
  let v596_r0 : BitVec 32 := Scalar.addi arg15_r0 c1_i32_122_r0
  let c4_i32_123_r0 : BitVec 32 := 4#32
  let v597_r0 : BitVec 32 := Scalar.remsi v596_r0 c4_i32_123_r0
  let c0_i32_1660_r0 : BitVec 32 := 0#32
  let c0_i32_1661_r0 : BitVec 32 := 0#32
  ![v597_r0.toNat, 0, 0]
def k0_off131 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c1_i32_122_r0 : BitVec 32 := 1#32
  let v596_r0 : BitVec 32 := Scalar.addi arg15_r0 c1_i32_122_r0
  let c4_i32_123_r0 : BitVec 32 := 4#32
  let v597_r0 : BitVec 32 := Scalar.remsi v596_r0 c4_i32_123_r0
  let c0_i32_1660_r0 : BitVec 32 := 0#32
  let c0_i32_1661_r0 : BitVec 32 := 0#32
  ![v597_r0.toNat, 0, 0]
def k0_off132 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4865_r0 : Index := Scalar.indexCast v595_r0
  let c352_1710_r0 : Index := 352#32
  let c768_1711_r0 : Index := 768#32
  ![v4865_r0.toNat, 352, 768]
def k0_off133 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4888_r0 : Index := Scalar.indexCast v595_r0
  let c384_1720_r0 : Index := 384#32
  let c768_1721_r0 : Index := 768#32
  ![v4888_r0.toNat, 384, 768]
def k0_off134 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4911_r0 : Index := Scalar.indexCast v595_r0
  let c416_1730_r0 : Index := 416#32
  let c768_1731_r0 : Index := 768#32
  ![v4911_r0.toNat, 416, 768]
def k0_off135 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4934_r0 : Index := Scalar.indexCast v595_r0
  let c448_1740_r0 : Index := 448#32
  let c768_1741_r0 : Index := 768#32
  ![v4934_r0.toNat, 448, 768]
def k0_off136 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4957_r0 : Index := Scalar.indexCast v595_r0
  let c480_1750_r0 : Index := 480#32
  let c768_1751_r0 : Index := 768#32
  ![v4957_r0.toNat, 480, 768]
def k0_off137 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4980_r0 : Index := Scalar.indexCast v595_r0
  let c512_1760_r0 : Index := 512#32
  let c768_1761_r0 : Index := 768#32
  ![v4980_r0.toNat, 512, 768]
def k0_off138 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5003_r0 : Index := Scalar.indexCast v595_r0
  let c544_1770_r0 : Index := 544#32
  let c768_1771_r0 : Index := 768#32
  ![v5003_r0.toNat, 544, 768]
def k0_off139 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5026_r0 : Index := Scalar.indexCast v595_r0
  let c576_1780_r0 : Index := 576#32
  let c768_1781_r0 : Index := 768#32
  ![v5026_r0.toNat, 576, 768]
def k0_off140 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5049_r0 : Index := Scalar.indexCast v595_r0
  let c608_1790_r0 : Index := 608#32
  let c768_1791_r0 : Index := 768#32
  ![v5049_r0.toNat, 608, 768]
def k0_off141 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5072_r0 : Index := Scalar.indexCast v595_r0
  let c640_1800_r0 : Index := 640#32
  let c768_1801_r0 : Index := 768#32
  ![v5072_r0.toNat, 640, 768]
def k0_off142 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5095_r0 : Index := Scalar.indexCast v595_r0
  let c672_1810_r0 : Index := 672#32
  let c768_1811_r0 : Index := 768#32
  ![v5095_r0.toNat, 672, 768]
def k0_off143 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5294_r0 : Index := Scalar.indexCast v595_r0
  let c352_1867_r0 : Index := 352#32
  let c1024_1868_r0 : Index := 1024#32
  ![v5294_r0.toNat, 352, 1024]
def k0_off144 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5317_r0 : Index := Scalar.indexCast v595_r0
  let c384_1877_r0 : Index := 384#32
  let c1024_1878_r0 : Index := 1024#32
  ![v5317_r0.toNat, 384, 1024]
def k0_off145 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5340_r0 : Index := Scalar.indexCast v595_r0
  let c416_1887_r0 : Index := 416#32
  let c1024_1888_r0 : Index := 1024#32
  ![v5340_r0.toNat, 416, 1024]
def k0_off146 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5363_r0 : Index := Scalar.indexCast v595_r0
  let c448_1897_r0 : Index := 448#32
  let c1024_1898_r0 : Index := 1024#32
  ![v5363_r0.toNat, 448, 1024]
def k0_off147 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5386_r0 : Index := Scalar.indexCast v595_r0
  let c480_1907_r0 : Index := 480#32
  let c1024_1908_r0 : Index := 1024#32
  ![v5386_r0.toNat, 480, 1024]
def k0_off148 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5409_r0 : Index := Scalar.indexCast v595_r0
  let c512_1917_r0 : Index := 512#32
  let c1024_1918_r0 : Index := 1024#32
  ![v5409_r0.toNat, 512, 1024]
def k0_off149 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5432_r0 : Index := Scalar.indexCast v595_r0
  let c544_1927_r0 : Index := 544#32
  let c1024_1928_r0 : Index := 1024#32
  ![v5432_r0.toNat, 544, 1024]
def k0_off150 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5455_r0 : Index := Scalar.indexCast v595_r0
  let c576_1937_r0 : Index := 576#32
  let c1024_1938_r0 : Index := 1024#32
  ![v5455_r0.toNat, 576, 1024]
def k0_off151 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5478_r0 : Index := Scalar.indexCast v595_r0
  let c608_1947_r0 : Index := 608#32
  let c1024_1948_r0 : Index := 1024#32
  ![v5478_r0.toNat, 608, 1024]
def k0_off152 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5501_r0 : Index := Scalar.indexCast v595_r0
  let c640_1957_r0 : Index := 640#32
  let c1024_1958_r0 : Index := 1024#32
  ![v5501_r0.toNat, 640, 1024]
def k0_off153 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5524_r0 : Index := Scalar.indexCast v595_r0
  let c672_1967_r0 : Index := 672#32
  let c1024_1968_r0 : Index := 1024#32
  ![v5524_r0.toNat, 672, 1024]
def k0_off154 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5723_r0 : Index := Scalar.indexCast v595_r0
  let c352_2024_r0 : Index := 352#32
  let c1280_2025_r0 : Index := 1280#32
  ![v5723_r0.toNat, 352, 1280]
def k0_off155 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5746_r0 : Index := Scalar.indexCast v595_r0
  let c384_2034_r0 : Index := 384#32
  let c1280_2035_r0 : Index := 1280#32
  ![v5746_r0.toNat, 384, 1280]
def k0_off156 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5769_r0 : Index := Scalar.indexCast v595_r0
  let c416_2044_r0 : Index := 416#32
  let c1280_2045_r0 : Index := 1280#32
  ![v5769_r0.toNat, 416, 1280]
def k0_off157 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5792_r0 : Index := Scalar.indexCast v595_r0
  let c448_2054_r0 : Index := 448#32
  let c1280_2055_r0 : Index := 1280#32
  ![v5792_r0.toNat, 448, 1280]
def k0_off158 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5815_r0 : Index := Scalar.indexCast v595_r0
  let c480_2064_r0 : Index := 480#32
  let c1280_2065_r0 : Index := 1280#32
  ![v5815_r0.toNat, 480, 1280]
def k0_off159 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5838_r0 : Index := Scalar.indexCast v595_r0
  let c512_2074_r0 : Index := 512#32
  let c1280_2075_r0 : Index := 1280#32
  ![v5838_r0.toNat, 512, 1280]
def k0_off160 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5861_r0 : Index := Scalar.indexCast v595_r0
  let c544_2084_r0 : Index := 544#32
  let c1280_2085_r0 : Index := 1280#32
  ![v5861_r0.toNat, 544, 1280]
def k0_off161 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5884_r0 : Index := Scalar.indexCast v595_r0
  let c576_2094_r0 : Index := 576#32
  let c1280_2095_r0 : Index := 1280#32
  ![v5884_r0.toNat, 576, 1280]
def k0_off162 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5907_r0 : Index := Scalar.indexCast v595_r0
  let c608_2104_r0 : Index := 608#32
  let c1280_2105_r0 : Index := 1280#32
  ![v5907_r0.toNat, 608, 1280]
def k0_off163 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5930_r0 : Index := Scalar.indexCast v595_r0
  let c640_2114_r0 : Index := 640#32
  let c1280_2115_r0 : Index := 1280#32
  ![v5930_r0.toNat, 640, 1280]
def k0_off164 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5953_r0 : Index := Scalar.indexCast v595_r0
  let c672_2124_r0 : Index := 672#32
  let c1280_2125_r0 : Index := 1280#32
  ![v5953_r0.toNat, 672, 1280]
def k0_off165 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v6152_r0 : Index := Scalar.indexCast v595_r0
  let c352_2181_r0 : Index := 352#32
  let c1536_2182_r0 : Index := 1536#32
  ![v6152_r0.toNat, 352, 1536]
def k0_off166 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v6175_r0 : Index := Scalar.indexCast v595_r0
  let c384_2191_r0 : Index := 384#32
  let c1536_2192_r0 : Index := 1536#32
  ![v6175_r0.toNat, 384, 1536]
def k0_off167 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v6198_r0 : Index := Scalar.indexCast v595_r0
  let c416_2201_r0 : Index := 416#32
  let c1536_2202_r0 : Index := 1536#32
  ![v6198_r0.toNat, 416, 1536]
def k0_off168 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v6221_r0 : Index := Scalar.indexCast v595_r0
  let c448_2211_r0 : Index := 448#32
  let c1536_2212_r0 : Index := 1536#32
  ![v6221_r0.toNat, 448, 1536]
def k0_off169 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v6244_r0 : Index := Scalar.indexCast v595_r0
  let c480_2221_r0 : Index := 480#32
  let c1536_2222_r0 : Index := 1536#32
  ![v6244_r0.toNat, 480, 1536]
def k0_off170 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v6267_r0 : Index := Scalar.indexCast v595_r0
  let c512_2231_r0 : Index := 512#32
  let c1536_2232_r0 : Index := 1536#32
  ![v6267_r0.toNat, 512, 1536]
def k0_off171 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v6290_r0 : Index := Scalar.indexCast v595_r0
  let c544_2241_r0 : Index := 544#32
  let c1536_2242_r0 : Index := 1536#32
  ![v6290_r0.toNat, 544, 1536]
def k0_off172 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v6313_r0 : Index := Scalar.indexCast v595_r0
  let c576_2251_r0 : Index := 576#32
  let c1536_2252_r0 : Index := 1536#32
  ![v6313_r0.toNat, 576, 1536]
def k0_off173 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v6336_r0 : Index := Scalar.indexCast v595_r0
  let c608_2261_r0 : Index := 608#32
  let c1536_2262_r0 : Index := 1536#32
  ![v6336_r0.toNat, 608, 1536]
def k0_off174 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v6359_r0 : Index := Scalar.indexCast v595_r0
  let c640_2271_r0 : Index := 640#32
  let c1536_2272_r0 : Index := 1536#32
  ![v6359_r0.toNat, 640, 1536]
def k0_off175 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v6382_r0 : Index := Scalar.indexCast v595_r0
  let c672_2281_r0 : Index := 672#32
  let c1536_2282_r0 : Index := 1536#32
  ![v6382_r0.toNat, 672, 1536]
abbrev stage0_0 : Fin 1 → Memref sig .tc .vmem S1x256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
abbrev S256x1x3584 : Shape := ⟨3, ![256, 1, 3584]⟩
abbrev S38016x1792 : Shape := ⟨2, ![38016, 1792]⟩
abbrev S38016x112 : Shape := ⟨2, ![38016, 112]⟩
abbrev S256x3584 : Shape := ⟨2, ![256, 3584]⟩
abbrev S1x256 : Shape := ⟨2, ![1, 256]⟩
abbrev S14x128x256 : Shape := ⟨3, ![14, 128, 256]⟩
abbrev S14x128x2x256 : Shape := ⟨4, ![14, 128, 2, 256]⟩
abbrev S14x128x1x256 : Shape := ⟨4, ![14, 128, 1, 256]⟩
abbrev S4x704x1792 : Shape := ⟨3, ![4, 704, 1792]⟩
abbrev S4x704x112 : Shape := ⟨3, ![4, 704, 112]⟩
abbrev S2x176x128 : Shape := ⟨3, ![2, 176, 128]⟩
abbrev S2x176x2x128 : Shape := ⟨4, ![2, 176, 2, 128]⟩
abbrev S2x176x1x128 : Shape := ⟨4, ![2, 176, 1, 128]⟩
abbrev S2x176x256 : Shape := ⟨3, ![2, 176, 256]⟩
abbrev S2x176x2x256 : Shape := ⟨4, ![2, 176, 2, 256]⟩
abbrev S2x176x1x256 : Shape := ⟨4, ![2, 176, 1, 256]⟩
abbrev S_ : Shape := ⟨0, ![]⟩
abbrev S4 : Shape := ⟨1, ![4]⟩
abbrev S176x128 : Shape := ⟨2, ![176, 128]⟩
abbrev S1 : Shape := ⟨1, ![1]⟩
abbrev S1x704x1792 : Shape := ⟨3, ![1, 704, 1792]⟩
abbrev S704x1792 : Shape := ⟨2, ![704, 1792]⟩
abbrev S1x704x112 : Shape := ⟨3, ![1, 704, 112]⟩
abbrev S704x112 : Shape := ⟨2, ![704, 112]⟩
abbrev S128x128 : Shape := ⟨2, ![128, 128]⟩
abbrev S256x128 : Shape := ⟨2, ![256, 128]⟩
abbrev S128x128x1 : Shape := ⟨3, ![128, 128, 1]⟩
abbrev S1x128x128 : Shape := ⟨3, ![1, 128, 128]⟩
abbrev S1x128x2x128 : Shape := ⟨4, ![1, 128, 2, 128]⟩
abbrev S1x128x1x128 : Shape := ⟨4, ![1, 128, 1, 128]⟩
abbrev S1x128x256 : Shape := ⟨3, ![1, 128, 256]⟩
abbrev S1x128x2x256 : Shape := ⟨4, ![1, 128, 2, 256]⟩
abbrev S1x128x1x256 : Shape := ⟨4, ![1, 128, 1, 256]⟩
abbrev S128x256 : Shape := ⟨2, ![128, 256]⟩
abbrev S256x256 : Shape := ⟨2, ![256, 256]⟩
abbrev S352x112 : Shape := ⟨2, ![352, 112]⟩
abbrev S176x112 : Shape := ⟨2, ![176, 112]⟩
abbrev S1x352x112 : Shape := ⟨3, ![1, 352, 112]⟩
abbrev S1x176x112 : Shape := ⟨3, ![1, 176, 112]⟩
abbrev S1x176x2x112 : Shape := ⟨4, ![1, 176, 2, 112]⟩
abbrev S1x176x1x112 : Shape := ⟨4, ![1, 176, 1, 112]⟩
abbrev S1x176x128 : Shape := ⟨3, ![1, 176, 128]⟩
abbrev S1x176x2x128 : Shape := ⟨4, ![1, 176, 2, 128]⟩
abbrev S1x176x1x128 : Shape := ⟨4, ![1, 176, 1, 128]⟩
abbrev S352x128 : Shape := ⟨2, ![352, 128]⟩
abbrev S176x128x1 : Shape := ⟨3, ![176, 128, 1]⟩
abbrev S8x256 : Shape := ⟨2, ![8, 256]⟩
abbrev S1x16x256 : Shape := ⟨3, ![1, 16, 256]⟩
abbrev S1x16x2x256 : Shape := ⟨4, ![1, 16, 2, 256]⟩
abbrev S1x16x1x256 : Shape := ⟨4, ![1, 16, 1, 256]⟩
abbrev S16x256 : Shape := ⟨2, ![16, 256]⟩
abbrev S32x256 : Shape := ⟨2, ![32, 256]⟩
abbrev S1x32x256 : Shape := ⟨3, ![1, 32, 256]⟩
abbrev S256 : Shape := ⟨1, ![256]⟩

abbrev nBuf : Space → Nat
  | .hbm => 7
  | .vmem => 9
  | .smem => 0
  | _ => 0

abbrev bufTy : (tb : Table) → Fin (tcTables nBuf tb) → BufTy
  | .hbm, ⟨0, _⟩ => ⟨S256x1x3584, .bf16⟩
  | .hbm, ⟨1, _⟩ => ⟨S38016x1792, .i8⟩
  | .hbm, ⟨2, _⟩ => ⟨S38016x112, .bf16⟩
  | .hbm, ⟨3, _⟩ => ⟨S256x3584, .bf16⟩
  | .hbm, ⟨4, _⟩ => ⟨S1x256, .i32⟩
  | .hbm, ⟨5, _⟩ => ⟨S1x256, .f32⟩
  | .hbm, ⟨6, _⟩ => ⟨S1x256, .f32⟩
  | .local _ .vmem, ⟨0, _⟩ => ⟨S1x256, .i32⟩
  | .local _ .vmem, ⟨1, _⟩ => ⟨S1x256, .f32⟩
  | .local _ .vmem, ⟨2, _⟩ => ⟨S1x256, .f32⟩
  | .local _ .vmem, ⟨3, _⟩ => ⟨S256x3584, .bf16⟩
  | .local _ .vmem, ⟨4, _⟩ => ⟨S14x128x2x256, .bf16⟩
  | .local _ .vmem, ⟨5, _⟩ => ⟨S4x704x1792, .i8⟩
  | .local _ .vmem, ⟨6, _⟩ => ⟨S4x704x112, .bf16⟩
  | .local _ .vmem, ⟨7, _⟩ => ⟨S2x176x2x128, .bf16⟩
  | .local _ .vmem, ⟨8, _⟩ => ⟨S2x176x2x256, .bf16⟩
  | _, _ => ⟨S256x1x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

def k0_off1 (c0_i32_r0 : BitVec 32) : Fin 1 → Nat :=
  let c4_i32_r0 : BitVec 32 := 4#32
  let v1_r0 : BitVec 32 := Scalar.remsi c0_i32_r0 c4_i32_r0
  ![v1_r0.toNat]
def k0_off2 (c0_i32_r0 : BitVec 32) : Fin 3 → Nat :=
  let c4_i32_r0 : BitVec 32 := 4#32
  let v1_r0 : BitVec 32 := Scalar.remsi c0_i32_r0 c4_i32_r0
  let c0_i32_0_r0 : BitVec 32 := 0#32
  let c0_i32_1_r0 : BitVec 32 := 0#32
  ![v1_r0.toNat, 0, 0]
def k0_off3 (c0_i32_r0 : BitVec 32) : Fin 3 → Nat :=
  let c4_i32_r0 : BitVec 32 := 4#32
  let v1_r0 : BitVec 32 := Scalar.remsi c0_i32_r0 c4_i32_r0
  let c0_i32_4_r0 : BitVec 32 := 0#32
  let c0_i32_5_r0 : BitVec 32 := 0#32
  ![v1_r0.toNat, 0, 0]
@[reducible] def k0_t1_loop : Scf.Loop 32 :=
  let c0_i32_37_r0 : BitVec 32 := 0#32
  let c7_i32_r0 : BitVec 32 := 7#32
  let v82_r0 : BitVec 32 := Scalar.addi c0_i32_37_r0 c7_i32_r0
  let c1_i32_38_r0 : BitVec 32 := 1#32
  ⟨c0_i32_37_r0, v82_r0, c1_i32_38_r0⟩
def k0_mult1 (k0_t1 : Fin k0_t1_loop.trips) : BitVec 32 :=
  let c2_i32_116_r0 : BitVec 32 := 2#32
  let c0_i32_37_r0 : BitVec 32 := 0#32
  let c1_i32_38_r0 : BitVec 32 := 1#32
  let arg15_r0 : BitVec 32 := Scf.iv c0_i32_37_r0 c1_i32_38_r0 k0_t1
  let v587_r0 : BitVec 32 := Scalar.muli c2_i32_116_r0 arg15_r0
  let c0_i32_117_r0 : BitVec 32 := 0#32
  let v588_r0 : BitVec 32 := Scalar.addi v587_r0 c0_i32_117_r0
  let c256_i32_r0 : BitVec 32 := 256#32
  let v589_r0 : BitVec 32 := Scalar.muli v588_r0 c256_i32_r0
  v589_r0
def k0_off4 (k0_t1 : Fin k0_t1_loop.trips) (c0_i32_117_r0 : BitVec 32) : Fin 2 → Nat :=
  let c0_118_r0 : Index := 0#32
  let c2_i32_116_r0 : BitVec 32 := 2#32
  let c0_i32_37_r0 : BitVec 32 := 0#32
  let c1_i32_38_r0 : BitVec 32 := 1#32
  let arg15_r0 : BitVec 32 := Scf.iv c0_i32_37_r0 c1_i32_38_r0 k0_t1
  let v587_r0 : BitVec 32 := Scalar.muli c2_i32_116_r0 arg15_r0
  let v588_r0 : BitVec 32 := Scalar.addi v587_r0 c0_i32_117_r0
  let c256_i32_r0 : BitVec 32 := 256#32
  let v589_r0 : BitVec 32 := Scalar.muli v588_r0 c256_i32_r0
  let v590_r0 : BitVec 32 := v589_r0
  let v591_r0 : Index := Scalar.indexCast v590_r0
  ![0, v591_r0.toNat]
def k0_off5 (k0_t1 : Fin k0_t1_loop.trips) (c0_i32_117_r0 : BitVec 32) : Fin 2 → Nat :=
  let c0_120_r0 : Index := 0#32
  let c2_i32_116_r0 : BitVec 32 := 2#32
  let c0_i32_37_r0 : BitVec 32 := 0#32
  let c1_i32_38_r0 : BitVec 32 := 1#32
  let arg15_r0 : BitVec 32 := Scf.iv c0_i32_37_r0 c1_i32_38_r0 k0_t1
  let v587_r0 : BitVec 32 := Scalar.muli c2_i32_116_r0 arg15_r0
  let v588_r0 : BitVec 32 := Scalar.addi v587_r0 c0_i32_117_r0
  let c256_i32_r0 : BitVec 32 := 256#32
  let v589_r0 : BitVec 32 := Scalar.muli v588_r0 c256_i32_r0
  let v590_r0 : BitVec 32 := v589_r0
  let c128_i32_119_r0 : BitVec 32 := 128#32
  let v594_r0 : BitVec 32 := Scalar.addi v590_r0 c128_i32_119_r0
  let v595_r0 : Index := Scalar.indexCast v594_r0
  ![0, v595_r0.toNat]
def k0_off6 (k0_t1 : Fin k0_t1_loop.trips) (c0_i32_135_r0 : BitVec 32) : Fin 4 → Nat :=
  let c2_i32_134_r0 : BitVec 32 := 2#32
  let c0_i32_37_r0 : BitVec 32 := 0#32
  let c1_i32_38_r0 : BitVec 32 := 1#32
  let arg15_r0 : BitVec 32 := Scf.iv c0_i32_37_r0 c1_i32_38_r0 k0_t1
  let v647_r0 : BitVec 32 := Scalar.muli c2_i32_134_r0 arg15_r0
  let v648_r0 : BitVec 32 := Scalar.addi v647_r0 c0_i32_135_r0
  let v649_r0 : Index := Scalar.indexCast v648_r0
  let c0_136_r0 : Index := 0#32
  let c0_137_r0 : Index := 0#32
  ![v649_r0.toNat, 0, 0, 0]
def k0_mult2 (k0_t1 : Fin k0_t1_loop.trips) : BitVec 32 :=
  let c2_i32_155_r0 : BitVec 32 := 2#32
  let c0_i32_37_r0 : BitVec 32 := 0#32
  let c1_i32_38_r0 : BitVec 32 := 1#32
  let arg15_r0 : BitVec 32 := Scf.iv c0_i32_37_r0 c1_i32_38_r0 k0_t1
  let v708_r0 : BitVec 32 := Scalar.muli c2_i32_155_r0 arg15_r0
  let c1_i32_156_r0 : BitVec 32 := 1#32
  let v709_r0 : BitVec 32 := Scalar.addi v708_r0 c1_i32_156_r0
  let c256_i32_157_r0 : BitVec 32 := 256#32
  let v710_r0 : BitVec 32 := Scalar.muli v709_r0 c256_i32_157_r0
  v710_r0
def k0_off7 (k0_t1 : Fin k0_t1_loop.trips) (c0_i32_175_r0 : BitVec 32) : Fin 4 → Nat :=
  let c2_i32_174_r0 : BitVec 32 := 2#32
  let c0_i32_37_r0 : BitVec 32 := 0#32
  let c1_i32_38_r0 : BitVec 32 := 1#32
  let arg15_r0 : BitVec 32 := Scf.iv c0_i32_37_r0 c1_i32_38_r0 k0_t1
  let v768_r0 : BitVec 32 := Scalar.muli c2_i32_174_r0 arg15_r0
  let v769_r0 : BitVec 32 := Scalar.addi v768_r0 c0_i32_175_r0
  let v770_r0 : Index := Scalar.indexCast v769_r0
  let c0_176_r0 : Index := 0#32
  let c128_177_r0 : Index := 128#32
  ![v770_r0.toNat, 0, 0, 128]
@[reducible] def k0_t2_loop : Scf.Loop 32 :=
  let c0_i32_100_r0 : BitVec 32 := 0#32
  let c54_i32_r0 : BitVec 32 := 54#32
  let v217_r0 : BitVec 32 := Scalar.addi c0_i32_100_r0 c54_i32_r0
  let c1_i32_101_r0 : BitVec 32 := 1#32
  ⟨c0_i32_100_r0, v217_r0, c1_i32_101_r0⟩
def k0_cond1 (k0_t2 : Fin k0_t2_loop.trips) : BitVec 1 :=
  let c0_i32_100_r0 : BitVec 32 := 0#32
  let c1_i32_101_r0 : BitVec 32 := 1#32
  let arg15_r0 : BitVec 32 := Scf.iv c0_i32_100_r0 c1_i32_101_r0 k0_t2
  let c3_i32_r0 : BitVec 32 := 3#32
  let v587_r0 : BitVec 32 := Scalar.addi arg15_r0 c3_i32_r0
  let c54_i32_116_r0 : BitVec 32 := 54#32
  let v588_r0 : BitVec 1 := Scalar.cmpi .slt v587_r0 c54_i32_116_r0
  let v589_r0 : BitVec 32 := Scalar.extui v588_r0
  let c0_i32_117_r0 : BitVec 32 := 0#32
  let v590_r0 : BitVec 1 := Scalar.cmpi .ne v589_r0 c0_i32_117_r0
  v590_r0

def k0_off8 (k0_t2 : Fin k0_t2_loop.trips) : Fin 1 → Nat :=
  let c0_i32_100_r0 : BitVec 32 := 0#32
  let c1_i32_101_r0 : BitVec 32 := 1#32
  let arg15_r0 : BitVec 32 := Scf.iv c0_i32_100_r0 c1_i32_101_r0 k0_t2
  let c3_i32_2294_r0 : BitVec 32 := 3#32
  let v6439_r0 : BitVec 32 := Scalar.addi arg15_r0 c3_i32_2294_r0
  let c4_i32_2295_r0 : BitVec 32 := 4#32
  let v6440_r0 : BitVec 32 := Scalar.remsi v6439_r0 c4_i32_2295_r0
  ![v6440_r0.toNat]
def k0_off9 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c3_i32_2294_r0 : BitVec 32 := 3#32
  let v6439_r0 : BitVec 32 := Scalar.addi arg15_r0 c3_i32_2294_r0
  let c4_i32_2295_r0 : BitVec 32 := 4#32
  let v6440_r0 : BitVec 32 := Scalar.remsi v6439_r0 c4_i32_2295_r0
  let c0_i32_2297_r0 : BitVec 32 := 0#32
  let c0_i32_2298_r0 : BitVec 32 := 0#32
  ![v6440_r0.toNat, 0, 0]
def k0_off10 (k0_t2 : Fin k0_t2_loop.trips) : Fin 2 → Nat :=
  let c0_i32_100_r0 : BitVec 32 := 0#32
  let c1_i32_101_r0 : BitVec 32 := 1#32
  let arg15_r0 : BitVec 32 := Scf.iv c0_i32_100_r0 c1_i32_101_r0 k0_t2
  let c3_i32_2294_r0 : BitVec 32 := 3#32
  let v6439_r0 : BitVec 32 := Scalar.addi arg15_r0 c3_i32_2294_r0
  let c704_i32_2296_r0 : BitVec 32 := 704#32
  let v6441_r0 : BitVec 32 := Scalar.muli v6439_r0 c704_i32_2296_r0
  let c0_i32_2299_r0 : BitVec 32 := 0#32
  ![v6441_r0.toNat, 0]
def k0_off11 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c3_i32_2294_r0 : BitVec 32 := 3#32
  let v6439_r0 : BitVec 32 := Scalar.addi arg15_r0 c3_i32_2294_r0
  let c4_i32_2295_r0 : BitVec 32 := 4#32
  let v6440_r0 : BitVec 32 := Scalar.remsi v6439_r0 c4_i32_2295_r0
  let c0_i32_2300_r0 : BitVec 32 := 0#32
  let c0_i32_2301_r0 : BitVec 32 := 0#32
  ![v6440_r0.toNat, 0, 0]
def k0_off12 (k0_t2 : Fin k0_t2_loop.trips) : Fin 2 → Nat :=
  let c0_i32_100_r0 : BitVec 32 := 0#32
  let c1_i32_101_r0 : BitVec 32 := 1#32
  let arg15_r0 : BitVec 32 := Scf.iv c0_i32_100_r0 c1_i32_101_r0 k0_t2
  let c3_i32_2294_r0 : BitVec 32 := 3#32
  let v6439_r0 : BitVec 32 := Scalar.addi arg15_r0 c3_i32_2294_r0
  let c704_i32_2296_r0 : BitVec 32 := 704#32
  let v6441_r0 : BitVec 32 := Scalar.muli v6439_r0 c704_i32_2296_r0
  let c0_i32_2302_r0 : BitVec 32 := 0#32
  ![v6441_r0.toNat, 0]
def k0_cond2 (k0_t2 : Fin k0_t2_loop.trips) : BitVec 1 :=
  let c0_i32_100_r0 : BitVec 32 := 0#32
  let c1_i32_101_r0 : BitVec 32 := 1#32
  let arg15_r0 : BitVec 32 := Scf.iv c0_i32_100_r0 c1_i32_101_r0 k0_t2
  let c1_i32_118_r0 : BitVec 32 := 1#32
  let v591_r0 : BitVec 32 := Scalar.addi arg15_r0 c1_i32_118_r0
  let c54_i32_119_r0 : BitVec 32 := 54#32
  let v592_r0 : BitVec 1 := Scalar.cmpi .slt v591_r0 c54_i32_119_r0
  let v593_r0 : BitVec 32 := Scalar.extui v592_r0
  let c0_i32_120_r0 : BitVec 32 := 0#32
  let v594_r0 : BitVec 1 := Scalar.cmpi .ne v593_r0 c0_i32_120_r0
  v594_r0

def k0_off13 (k0_t2 : Fin k0_t2_loop.trips) : Fin 1 → Nat :=
  let c0_i32_100_r0 : BitVec 32 := 0#32
  let c1_i32_101_r0 : BitVec 32 := 1#32
  let arg15_r0 : BitVec 32 := Scf.iv c0_i32_100_r0 c1_i32_101_r0 k0_t2
  let c1_i32_2294_r0 : BitVec 32 := 1#32
  let v6439_r0 : BitVec 32 := Scalar.addi arg15_r0 c1_i32_2294_r0
  let c4_i32_2295_r0 : BitVec 32 := 4#32
  let v6440_r0 : BitVec 32 := Scalar.remsi v6439_r0 c4_i32_2295_r0
  ![v6440_r0.toNat]
def k0_off14 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c1_i32_2294_r0 : BitVec 32 := 1#32
  let v6439_r0 : BitVec 32 := Scalar.addi arg15_r0 c1_i32_2294_r0
  let c4_i32_2295_r0 : BitVec 32 := 4#32
  let v6440_r0 : BitVec 32 := Scalar.remsi v6439_r0 c4_i32_2295_r0
  let c0_i32_2297_r0 : BitVec 32 := 0#32
  let c0_i32_2298_r0 : BitVec 32 := 0#32
  ![v6440_r0.toNat, 0, 0]
def k0_off15 (k0_t2 : Fin k0_t2_loop.trips) : Fin 2 → Nat :=
  let c0_i32_100_r0 : BitVec 32 := 0#32
  let c1_i32_101_r0 : BitVec 32 := 1#32
  let arg15_r0 : BitVec 32 := Scf.iv c0_i32_100_r0 c1_i32_101_r0 k0_t2
  let c1_i32_2294_r0 : BitVec 32 := 1#32
  let v6439_r0 : BitVec 32 := Scalar.addi arg15_r0 c1_i32_2294_r0
  let c704_i32_2296_r0 : BitVec 32 := 704#32
  let v6441_r0 : BitVec 32 := Scalar.muli v6439_r0 c704_i32_2296_r0
  let c0_i32_2299_r0 : BitVec 32 := 0#32
  ![v6441_r0.toNat, 0]
def k0_off16 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c1_i32_2294_r0 : BitVec 32 := 1#32
  let v6439_r0 : BitVec 32 := Scalar.addi arg15_r0 c1_i32_2294_r0
  let c4_i32_2295_r0 : BitVec 32 := 4#32
  let v6440_r0 : BitVec 32 := Scalar.remsi v6439_r0 c4_i32_2295_r0
  let c0_i32_2300_r0 : BitVec 32 := 0#32
  let c0_i32_2301_r0 : BitVec 32 := 0#32
  ![v6440_r0.toNat, 0, 0]
def k0_off17 (k0_t2 : Fin k0_t2_loop.trips) : Fin 2 → Nat :=
  let c0_i32_100_r0 : BitVec 32 := 0#32
  let c1_i32_101_r0 : BitVec 32 := 1#32
  let arg15_r0 : BitVec 32 := Scf.iv c0_i32_100_r0 c1_i32_101_r0 k0_t2
  let c1_i32_2294_r0 : BitVec 32 := 1#32
  let v6439_r0 : BitVec 32 := Scalar.addi arg15_r0 c1_i32_2294_r0
  let c704_i32_2296_r0 : BitVec 32 := 704#32
  let v6441_r0 : BitVec 32 := Scalar.muli v6439_r0 c704_i32_2296_r0
  let c0_i32_2302_r0 : BitVec 32 := 0#32
  ![v6441_r0.toNat, 0]
def k0_off18 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v711_r0 : Index := Scalar.indexCast v595_r0
  let c0_167_r0 : Index := 0#32
  let c0_168_r0 : Index := 0#32
  ![v711_r0.toNat, 0, 0]
def k0_off19 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v734_r0 : Index := Scalar.indexCast v595_r0
  let c32_r0 : Index := 32#32
  let c0_175_r0 : Index := 0#32
  ![v734_r0.toNat, 32, 0]
def k0_off20 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v757_r0 : Index := Scalar.indexCast v595_r0
  let c64_r0 : Index := 64#32
  let c0_184_r0 : Index := 0#32
  ![v757_r0.toNat, 64, 0]
def k0_off21 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v780_r0 : Index := Scalar.indexCast v595_r0
  let c96_r0 : Index := 96#32
  let c0_192_r0 : Index := 0#32
  ![v780_r0.toNat, 96, 0]
def k0_off22 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v803_r0 : Index := Scalar.indexCast v595_r0
  let c128_201_r0 : Index := 128#32
  let c0_202_r0 : Index := 0#32
  ![v803_r0.toNat, 128, 0]
def k0_off23 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v826_r0 : Index := Scalar.indexCast v595_r0
  let c160_r0 : Index := 160#32
  let c0_210_r0 : Index := 0#32
  ![v826_r0.toNat, 160, 0]
def k0_off24 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v849_r0 : Index := Scalar.indexCast v595_r0
  let c192_r0 : Index := 192#32
  let c0_219_r0 : Index := 0#32
  ![v849_r0.toNat, 192, 0]
def k0_off25 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v872_r0 : Index := Scalar.indexCast v595_r0
  let c224_r0 : Index := 224#32
  let c0_227_r0 : Index := 0#32
  ![v872_r0.toNat, 224, 0]
def k0_off26 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v895_r0 : Index := Scalar.indexCast v595_r0
  let c256_r0 : Index := 256#32
  let c0_236_r0 : Index := 0#32
  ![v895_r0.toNat, 256, 0]
def k0_off27 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v918_r0 : Index := Scalar.indexCast v595_r0
  let c288_r0 : Index := 288#32
  let c0_244_r0 : Index := 0#32
  ![v918_r0.toNat, 288, 0]
def k0_off28 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v941_r0 : Index := Scalar.indexCast v595_r0
  let c320_r0 : Index := 320#32
  let c0_253_r0 : Index := 0#32
  ![v941_r0.toNat, 320, 0]
def k0_off29 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1078_r0 : Index := Scalar.indexCast v595_r0
  let c0_305_r0 : Index := 0#32
  let c256_306_r0 : Index := 256#32
  ![v1078_r0.toNat, 0, 256]
def k0_off30 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1101_r0 : Index := Scalar.indexCast v595_r0
  let c32_315_r0 : Index := 32#32
  let c256_316_r0 : Index := 256#32
  ![v1101_r0.toNat, 32, 256]
def k0_off31 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1124_r0 : Index := Scalar.indexCast v595_r0
  let c64_325_r0 : Index := 64#32
  let c256_326_r0 : Index := 256#32
  ![v1124_r0.toNat, 64, 256]
def k0_off32 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1147_r0 : Index := Scalar.indexCast v595_r0
  let c96_335_r0 : Index := 96#32
  let c256_336_r0 : Index := 256#32
  ![v1147_r0.toNat, 96, 256]
def k0_off33 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1170_r0 : Index := Scalar.indexCast v595_r0
  let c128_345_r0 : Index := 128#32
  let c256_346_r0 : Index := 256#32
  ![v1170_r0.toNat, 128, 256]
def k0_off34 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1193_r0 : Index := Scalar.indexCast v595_r0
  let c160_355_r0 : Index := 160#32
  let c256_356_r0 : Index := 256#32
  ![v1193_r0.toNat, 160, 256]
def k0_off35 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1216_r0 : Index := Scalar.indexCast v595_r0
  let c192_365_r0 : Index := 192#32
  let c256_366_r0 : Index := 256#32
  ![v1216_r0.toNat, 192, 256]
def k0_off36 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1239_r0 : Index := Scalar.indexCast v595_r0
  let c224_375_r0 : Index := 224#32
  let c256_376_r0 : Index := 256#32
  ![v1239_r0.toNat, 224, 256]
def k0_off37 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1262_r0 : Index := Scalar.indexCast v595_r0
  let c256_385_r0 : Index := 256#32
  let c256_386_r0 : Index := 256#32
  ![v1262_r0.toNat, 256, 256]
def k0_off38 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1285_r0 : Index := Scalar.indexCast v595_r0
  let c288_395_r0 : Index := 288#32
  let c256_396_r0 : Index := 256#32
  ![v1285_r0.toNat, 288, 256]
def k0_off39 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1308_r0 : Index := Scalar.indexCast v595_r0
  let c320_405_r0 : Index := 320#32
  let c256_406_r0 : Index := 256#32
  ![v1308_r0.toNat, 320, 256]
def k0_off40 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1507_r0 : Index := Scalar.indexCast v595_r0
  let c0_463_r0 : Index := 0#32
  let c512_r0 : Index := 512#32
  ![v1507_r0.toNat, 0, 512]
def k0_off41 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1530_r0 : Index := Scalar.indexCast v595_r0
  let c32_472_r0 : Index := 32#32
  let c512_473_r0 : Index := 512#32
  ![v1530_r0.toNat, 32, 512]
def k0_off42 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1553_r0 : Index := Scalar.indexCast v595_r0
  let c64_482_r0 : Index := 64#32
  let c512_483_r0 : Index := 512#32
  ![v1553_r0.toNat, 64, 512]
def k0_off43 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1576_r0 : Index := Scalar.indexCast v595_r0
  let c96_492_r0 : Index := 96#32
  let c512_493_r0 : Index := 512#32
  ![v1576_r0.toNat, 96, 512]
def k0_off44 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1599_r0 : Index := Scalar.indexCast v595_r0
  let c128_502_r0 : Index := 128#32
  let c512_503_r0 : Index := 512#32
  ![v1599_r0.toNat, 128, 512]
def k0_off45 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1622_r0 : Index := Scalar.indexCast v595_r0
  let c160_512_r0 : Index := 160#32
  let c512_513_r0 : Index := 512#32
  ![v1622_r0.toNat, 160, 512]
def k0_off46 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1645_r0 : Index := Scalar.indexCast v595_r0
  let c192_522_r0 : Index := 192#32
  let c512_523_r0 : Index := 512#32
  ![v1645_r0.toNat, 192, 512]
def k0_off47 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1668_r0 : Index := Scalar.indexCast v595_r0
  let c224_532_r0 : Index := 224#32
  let c512_533_r0 : Index := 512#32
  ![v1668_r0.toNat, 224, 512]
def k0_off48 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1691_r0 : Index := Scalar.indexCast v595_r0
  let c256_542_r0 : Index := 256#32
  let c512_543_r0 : Index := 512#32
  ![v1691_r0.toNat, 256, 512]
def k0_off49 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1714_r0 : Index := Scalar.indexCast v595_r0
  let c288_552_r0 : Index := 288#32
  let c512_553_r0 : Index := 512#32
  ![v1714_r0.toNat, 288, 512]
def k0_off50 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1737_r0 : Index := Scalar.indexCast v595_r0
  let c320_562_r0 : Index := 320#32
  let c512_563_r0 : Index := 512#32
  ![v1737_r0.toNat, 320, 512]
def k0_off51 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let c0_i32_574_r0 : BitVec 32 := 0#32
  let c0_i32_575_r0 : BitVec 32 := 0#32
  ![v595_r0.toNat, 0, 0]
def k0_off52 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let c0_i32_575_r0 : BitVec 32 := 0#32
  ![v595_r0.toNat, 352, 0]
def k0_off53 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1943_r0 : Index := Scalar.indexCast v595_r0
  let c0_622_r0 : Index := 0#32
  let c768_r0 : Index := 768#32
  ![v1943_r0.toNat, 0, 768]
def k0_off54 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1966_r0 : Index := Scalar.indexCast v595_r0
  let c32_631_r0 : Index := 32#32
  let c768_632_r0 : Index := 768#32
  ![v1966_r0.toNat, 32, 768]
def k0_off55 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v1989_r0 : Index := Scalar.indexCast v595_r0
  let c64_641_r0 : Index := 64#32
  let c768_642_r0 : Index := 768#32
  ![v1989_r0.toNat, 64, 768]
def k0_off56 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2012_r0 : Index := Scalar.indexCast v595_r0
  let c96_651_r0 : Index := 96#32
  let c768_652_r0 : Index := 768#32
  ![v2012_r0.toNat, 96, 768]
def k0_off57 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2035_r0 : Index := Scalar.indexCast v595_r0
  let c128_661_r0 : Index := 128#32
  let c768_662_r0 : Index := 768#32
  ![v2035_r0.toNat, 128, 768]
def k0_off58 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2058_r0 : Index := Scalar.indexCast v595_r0
  let c160_671_r0 : Index := 160#32
  let c768_672_r0 : Index := 768#32
  ![v2058_r0.toNat, 160, 768]
def k0_off59 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2081_r0 : Index := Scalar.indexCast v595_r0
  let c192_681_r0 : Index := 192#32
  let c768_682_r0 : Index := 768#32
  ![v2081_r0.toNat, 192, 768]
def k0_off60 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2104_r0 : Index := Scalar.indexCast v595_r0
  let c224_691_r0 : Index := 224#32
  let c768_692_r0 : Index := 768#32
  ![v2104_r0.toNat, 224, 768]
def k0_off61 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2127_r0 : Index := Scalar.indexCast v595_r0
  let c256_701_r0 : Index := 256#32
  let c768_702_r0 : Index := 768#32
  ![v2127_r0.toNat, 256, 768]
def k0_off62 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2150_r0 : Index := Scalar.indexCast v595_r0
  let c288_711_r0 : Index := 288#32
  let c768_712_r0 : Index := 768#32
  ![v2150_r0.toNat, 288, 768]
def k0_off63 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2173_r0 : Index := Scalar.indexCast v595_r0
  let c320_721_r0 : Index := 320#32
  let c768_722_r0 : Index := 768#32
  ![v2173_r0.toNat, 320, 768]
def k0_off64 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2372_r0 : Index := Scalar.indexCast v595_r0
  let c0_775_r0 : Index := 0#32
  let c1024_r0 : Index := 1024#32
  ![v2372_r0.toNat, 0, 1024]
def k0_off65 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2395_r0 : Index := Scalar.indexCast v595_r0
  let c32_784_r0 : Index := 32#32
  let c1024_785_r0 : Index := 1024#32
  ![v2395_r0.toNat, 32, 1024]
def k0_off66 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2418_r0 : Index := Scalar.indexCast v595_r0
  let c64_794_r0 : Index := 64#32
  let c1024_795_r0 : Index := 1024#32
  ![v2418_r0.toNat, 64, 1024]
def k0_off67 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2441_r0 : Index := Scalar.indexCast v595_r0
  let c96_804_r0 : Index := 96#32
  let c1024_805_r0 : Index := 1024#32
  ![v2441_r0.toNat, 96, 1024]
def k0_off68 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2464_r0 : Index := Scalar.indexCast v595_r0
  let c128_814_r0 : Index := 128#32
  let c1024_815_r0 : Index := 1024#32
  ![v2464_r0.toNat, 128, 1024]
def k0_off69 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2487_r0 : Index := Scalar.indexCast v595_r0
  let c160_824_r0 : Index := 160#32
  let c1024_825_r0 : Index := 1024#32
  ![v2487_r0.toNat, 160, 1024]
def k0_off70 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2510_r0 : Index := Scalar.indexCast v595_r0
  let c192_834_r0 : Index := 192#32
  let c1024_835_r0 : Index := 1024#32
  ![v2510_r0.toNat, 192, 1024]
def k0_off71 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2533_r0 : Index := Scalar.indexCast v595_r0
  let c224_844_r0 : Index := 224#32
  let c1024_845_r0 : Index := 1024#32
  ![v2533_r0.toNat, 224, 1024]
def k0_off72 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2556_r0 : Index := Scalar.indexCast v595_r0
  let c256_854_r0 : Index := 256#32
  let c1024_855_r0 : Index := 1024#32
  ![v2556_r0.toNat, 256, 1024]
def k0_off73 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2579_r0 : Index := Scalar.indexCast v595_r0
  let c288_864_r0 : Index := 288#32
  let c1024_865_r0 : Index := 1024#32
  ![v2579_r0.toNat, 288, 1024]
def k0_off74 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2602_r0 : Index := Scalar.indexCast v595_r0
  let c320_874_r0 : Index := 320#32
  let c1024_875_r0 : Index := 1024#32
  ![v2602_r0.toNat, 320, 1024]
def k0_off75 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2801_r0 : Index := Scalar.indexCast v595_r0
  let c0_929_r0 : Index := 0#32
  let c1280_r0 : Index := 1280#32
  ![v2801_r0.toNat, 0, 1280]
def k0_off76 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2824_r0 : Index := Scalar.indexCast v595_r0
  let c32_938_r0 : Index := 32#32
  let c1280_939_r0 : Index := 1280#32
  ![v2824_r0.toNat, 32, 1280]
def k0_off77 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2847_r0 : Index := Scalar.indexCast v595_r0
  let c64_948_r0 : Index := 64#32
  let c1280_949_r0 : Index := 1280#32
  ![v2847_r0.toNat, 64, 1280]
def k0_off78 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2870_r0 : Index := Scalar.indexCast v595_r0
  let c96_958_r0 : Index := 96#32
  let c1280_959_r0 : Index := 1280#32
  ![v2870_r0.toNat, 96, 1280]
def k0_off79 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2893_r0 : Index := Scalar.indexCast v595_r0
  let c128_968_r0 : Index := 128#32
  let c1280_969_r0 : Index := 1280#32
  ![v2893_r0.toNat, 128, 1280]
def k0_off80 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2916_r0 : Index := Scalar.indexCast v595_r0
  let c160_978_r0 : Index := 160#32
  let c1280_979_r0 : Index := 1280#32
  ![v2916_r0.toNat, 160, 1280]
def k0_off81 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2939_r0 : Index := Scalar.indexCast v595_r0
  let c192_988_r0 : Index := 192#32
  let c1280_989_r0 : Index := 1280#32
  ![v2939_r0.toNat, 192, 1280]
def k0_off82 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2962_r0 : Index := Scalar.indexCast v595_r0
  let c224_998_r0 : Index := 224#32
  let c1280_999_r0 : Index := 1280#32
  ![v2962_r0.toNat, 224, 1280]
def k0_off83 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v2985_r0 : Index := Scalar.indexCast v595_r0
  let c256_1008_r0 : Index := 256#32
  let c1280_1009_r0 : Index := 1280#32
  ![v2985_r0.toNat, 256, 1280]
def k0_off84 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v3008_r0 : Index := Scalar.indexCast v595_r0
  let c288_1018_r0 : Index := 288#32
  let c1280_1019_r0 : Index := 1280#32
  ![v3008_r0.toNat, 288, 1280]
def k0_off85 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v3031_r0 : Index := Scalar.indexCast v595_r0
  let c320_1028_r0 : Index := 320#32
  let c1280_1029_r0 : Index := 1280#32
  ![v3031_r0.toNat, 320, 1280]
def k0_off86 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v3230_r0 : Index := Scalar.indexCast v595_r0
  let c0_1083_r0 : Index := 0#32
  let c1536_r0 : Index := 1536#32
  ![v3230_r0.toNat, 0, 1536]
def k0_off87 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v3253_r0 : Index := Scalar.indexCast v595_r0
  let c32_1092_r0 : Index := 32#32
  let c1536_1093_r0 : Index := 1536#32
  ![v3253_r0.toNat, 32, 1536]
def k0_off88 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v3276_r0 : Index := Scalar.indexCast v595_r0
  let c64_1102_r0 : Index := 64#32
  let c1536_1103_r0 : Index := 1536#32
  ![v3276_r0.toNat, 64, 1536]
def k0_off89 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v3299_r0 : Index := Scalar.indexCast v595_r0
  let c96_1112_r0 : Index := 96#32
  let c1536_1113_r0 : Index := 1536#32
  ![v3299_r0.toNat, 96, 1536]
def k0_off90 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v3322_r0 : Index := Scalar.indexCast v595_r0
  let c128_1122_r0 : Index := 128#32
  let c1536_1123_r0 : Index := 1536#32
  ![v3322_r0.toNat, 128, 1536]
def k0_off91 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v3345_r0 : Index := Scalar.indexCast v595_r0
  let c160_1132_r0 : Index := 160#32
  let c1536_1133_r0 : Index := 1536#32
  ![v3345_r0.toNat, 160, 1536]
def k0_off92 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v3368_r0 : Index := Scalar.indexCast v595_r0
  let c192_1142_r0 : Index := 192#32
  let c1536_1143_r0 : Index := 1536#32
  ![v3368_r0.toNat, 192, 1536]
def k0_off93 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v3391_r0 : Index := Scalar.indexCast v595_r0
  let c224_1152_r0 : Index := 224#32
  let c1536_1153_r0 : Index := 1536#32
  ![v3391_r0.toNat, 224, 1536]
def k0_off94 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v3414_r0 : Index := Scalar.indexCast v595_r0
  let c256_1162_r0 : Index := 256#32
  let c1536_1163_r0 : Index := 1536#32
  ![v3414_r0.toNat, 256, 1536]
def k0_off95 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v3437_r0 : Index := Scalar.indexCast v595_r0
  let c288_1172_r0 : Index := 288#32
  let c1536_1173_r0 : Index := 1536#32
  ![v3437_r0.toNat, 288, 1536]
def k0_off96 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v3460_r0 : Index := Scalar.indexCast v595_r0
  let c320_1182_r0 : Index := 320#32
  let c1536_1183_r0 : Index := 1536#32
  ![v3460_r0.toNat, 320, 1536]
def k0_off97 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v3633_r0 : Index := Scalar.indexCast v595_r0
  let c352_r0 : Index := 352#32
  let c0_1242_r0 : Index := 0#32
  ![v3633_r0.toNat, 352, 0]
def k0_off98 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v3656_r0 : Index := Scalar.indexCast v595_r0
  let c384_r0 : Index := 384#32
  let c0_1251_r0 : Index := 0#32
  ![v3656_r0.toNat, 384, 0]
def k0_off99 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v3679_r0 : Index := Scalar.indexCast v595_r0
  let c416_r0 : Index := 416#32
  let c0_1260_r0 : Index := 0#32
  ![v3679_r0.toNat, 416, 0]
def k0_off100 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v3702_r0 : Index := Scalar.indexCast v595_r0
  let c448_r0 : Index := 448#32
  let c0_1269_r0 : Index := 0#32
  ![v3702_r0.toNat, 448, 0]
def k0_off101 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v3725_r0 : Index := Scalar.indexCast v595_r0
  let c480_r0 : Index := 480#32
  let c0_1278_r0 : Index := 0#32
  ![v3725_r0.toNat, 480, 0]
def k0_off102 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v3748_r0 : Index := Scalar.indexCast v595_r0
  let c512_1287_r0 : Index := 512#32
  let c0_1288_r0 : Index := 0#32
  ![v3748_r0.toNat, 512, 0]
def k0_off103 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v3771_r0 : Index := Scalar.indexCast v595_r0
  let c544_r0 : Index := 544#32
  let c0_1297_r0 : Index := 0#32
  ![v3771_r0.toNat, 544, 0]
def k0_off104 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v3794_r0 : Index := Scalar.indexCast v595_r0
  let c576_r0 : Index := 576#32
  let c0_1306_r0 : Index := 0#32
  ![v3794_r0.toNat, 576, 0]
def k0_off105 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v3817_r0 : Index := Scalar.indexCast v595_r0
  let c608_r0 : Index := 608#32
  let c0_1315_r0 : Index := 0#32
  ![v3817_r0.toNat, 608, 0]
def k0_off106 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v3840_r0 : Index := Scalar.indexCast v595_r0
  let c640_r0 : Index := 640#32
  let c0_1324_r0 : Index := 0#32
  ![v3840_r0.toNat, 640, 0]
def k0_off107 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v3863_r0 : Index := Scalar.indexCast v595_r0
  let c672_r0 : Index := 672#32
  let c0_1333_r0 : Index := 0#32
  ![v3863_r0.toNat, 672, 0]
def k0_off108 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4000_r0 : Index := Scalar.indexCast v595_r0
  let c352_1388_r0 : Index := 352#32
  let c256_1389_r0 : Index := 256#32
  ![v4000_r0.toNat, 352, 256]
def k0_off109 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4023_r0 : Index := Scalar.indexCast v595_r0
  let c384_1398_r0 : Index := 384#32
  let c256_1399_r0 : Index := 256#32
  ![v4023_r0.toNat, 384, 256]
def k0_off110 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4046_r0 : Index := Scalar.indexCast v595_r0
  let c416_1408_r0 : Index := 416#32
  let c256_1409_r0 : Index := 256#32
  ![v4046_r0.toNat, 416, 256]
def k0_off111 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4069_r0 : Index := Scalar.indexCast v595_r0
  let c448_1418_r0 : Index := 448#32
  let c256_1419_r0 : Index := 256#32
  ![v4069_r0.toNat, 448, 256]
def k0_off112 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4092_r0 : Index := Scalar.indexCast v595_r0
  let c480_1428_r0 : Index := 480#32
  let c256_1429_r0 : Index := 256#32
  ![v4092_r0.toNat, 480, 256]
def k0_off113 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4115_r0 : Index := Scalar.indexCast v595_r0
  let c512_1438_r0 : Index := 512#32
  let c256_1439_r0 : Index := 256#32
  ![v4115_r0.toNat, 512, 256]
def k0_off114 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4138_r0 : Index := Scalar.indexCast v595_r0
  let c544_1448_r0 : Index := 544#32
  let c256_1449_r0 : Index := 256#32
  ![v4138_r0.toNat, 544, 256]
def k0_off115 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4161_r0 : Index := Scalar.indexCast v595_r0
  let c576_1458_r0 : Index := 576#32
  let c256_1459_r0 : Index := 256#32
  ![v4161_r0.toNat, 576, 256]
def k0_off116 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4184_r0 : Index := Scalar.indexCast v595_r0
  let c608_1468_r0 : Index := 608#32
  let c256_1469_r0 : Index := 256#32
  ![v4184_r0.toNat, 608, 256]
def k0_off117 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4207_r0 : Index := Scalar.indexCast v595_r0
  let c640_1478_r0 : Index := 640#32
  let c256_1479_r0 : Index := 256#32
  ![v4207_r0.toNat, 640, 256]
def k0_off118 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4230_r0 : Index := Scalar.indexCast v595_r0
  let c672_1488_r0 : Index := 672#32
  let c256_1489_r0 : Index := 256#32
  ![v4230_r0.toNat, 672, 256]
def k0_off119 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4429_r0 : Index := Scalar.indexCast v595_r0
  let c352_1545_r0 : Index := 352#32
  let c512_1546_r0 : Index := 512#32
  ![v4429_r0.toNat, 352, 512]
def k0_off120 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4452_r0 : Index := Scalar.indexCast v595_r0
  let c384_1555_r0 : Index := 384#32
  let c512_1556_r0 : Index := 512#32
  ![v4452_r0.toNat, 384, 512]
def k0_off121 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4475_r0 : Index := Scalar.indexCast v595_r0
  let c416_1565_r0 : Index := 416#32
  let c512_1566_r0 : Index := 512#32
  ![v4475_r0.toNat, 416, 512]
def k0_off122 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4498_r0 : Index := Scalar.indexCast v595_r0
  let c448_1575_r0 : Index := 448#32
  let c512_1576_r0 : Index := 512#32
  ![v4498_r0.toNat, 448, 512]
def k0_off123 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4521_r0 : Index := Scalar.indexCast v595_r0
  let c480_1585_r0 : Index := 480#32
  let c512_1586_r0 : Index := 512#32
  ![v4521_r0.toNat, 480, 512]
def k0_off124 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4544_r0 : Index := Scalar.indexCast v595_r0
  let c512_1595_r0 : Index := 512#32
  let c512_1596_r0 : Index := 512#32
  ![v4544_r0.toNat, 512, 512]
def k0_off125 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4567_r0 : Index := Scalar.indexCast v595_r0
  let c544_1605_r0 : Index := 544#32
  let c512_1606_r0 : Index := 512#32
  ![v4567_r0.toNat, 544, 512]
def k0_off126 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4590_r0 : Index := Scalar.indexCast v595_r0
  let c576_1615_r0 : Index := 576#32
  let c512_1616_r0 : Index := 512#32
  ![v4590_r0.toNat, 576, 512]
def k0_off127 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4613_r0 : Index := Scalar.indexCast v595_r0
  let c608_1625_r0 : Index := 608#32
  let c512_1626_r0 : Index := 512#32
  ![v4613_r0.toNat, 608, 512]
def k0_off128 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4636_r0 : Index := Scalar.indexCast v595_r0
  let c640_1635_r0 : Index := 640#32
  let c512_1636_r0 : Index := 512#32
  ![v4636_r0.toNat, 640, 512]
def k0_off129 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4659_r0 : Index := Scalar.indexCast v595_r0
  let c672_1645_r0 : Index := 672#32
  let c512_1646_r0 : Index := 512#32
  ![v4659_r0.toNat, 672, 512]
def k0_off130 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c1_i32_122_r0 : BitVec 32 := 1#32
  let v596_r0 : BitVec 32 := Scalar.addi arg15_r0 c1_i32_122_r0
  let c4_i32_123_r0 : BitVec 32 := 4#32
  let v597_r0 : BitVec 32 := Scalar.remsi v596_r0 c4_i32_123_r0
  let c0_i32_1660_r0 : BitVec 32 := 0#32
  let c0_i32_1661_r0 : BitVec 32 := 0#32
  ![v597_r0.toNat, 0, 0]
def k0_off131 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c1_i32_122_r0 : BitVec 32 := 1#32
  let v596_r0 : BitVec 32 := Scalar.addi arg15_r0 c1_i32_122_r0
  let c4_i32_123_r0 : BitVec 32 := 4#32
  let v597_r0 : BitVec 32 := Scalar.remsi v596_r0 c4_i32_123_r0
  let c0_i32_1660_r0 : BitVec 32 := 0#32
  let c0_i32_1661_r0 : BitVec 32 := 0#32
  ![v597_r0.toNat, 0, 0]
def k0_off132 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4865_r0 : Index := Scalar.indexCast v595_r0
  let c352_1710_r0 : Index := 352#32
  let c768_1711_r0 : Index := 768#32
  ![v4865_r0.toNat, 352, 768]
def k0_off133 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4888_r0 : Index := Scalar.indexCast v595_r0
  let c384_1720_r0 : Index := 384#32
  let c768_1721_r0 : Index := 768#32
  ![v4888_r0.toNat, 384, 768]
def k0_off134 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4911_r0 : Index := Scalar.indexCast v595_r0
  let c416_1730_r0 : Index := 416#32
  let c768_1731_r0 : Index := 768#32
  ![v4911_r0.toNat, 416, 768]
def k0_off135 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4934_r0 : Index := Scalar.indexCast v595_r0
  let c448_1740_r0 : Index := 448#32
  let c768_1741_r0 : Index := 768#32
  ![v4934_r0.toNat, 448, 768]
def k0_off136 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4957_r0 : Index := Scalar.indexCast v595_r0
  let c480_1750_r0 : Index := 480#32
  let c768_1751_r0 : Index := 768#32
  ![v4957_r0.toNat, 480, 768]
def k0_off137 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v4980_r0 : Index := Scalar.indexCast v595_r0
  let c512_1760_r0 : Index := 512#32
  let c768_1761_r0 : Index := 768#32
  ![v4980_r0.toNat, 512, 768]
def k0_off138 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5003_r0 : Index := Scalar.indexCast v595_r0
  let c544_1770_r0 : Index := 544#32
  let c768_1771_r0 : Index := 768#32
  ![v5003_r0.toNat, 544, 768]
def k0_off139 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5026_r0 : Index := Scalar.indexCast v595_r0
  let c576_1780_r0 : Index := 576#32
  let c768_1781_r0 : Index := 768#32
  ![v5026_r0.toNat, 576, 768]
def k0_off140 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5049_r0 : Index := Scalar.indexCast v595_r0
  let c608_1790_r0 : Index := 608#32
  let c768_1791_r0 : Index := 768#32
  ![v5049_r0.toNat, 608, 768]
def k0_off141 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5072_r0 : Index := Scalar.indexCast v595_r0
  let c640_1800_r0 : Index := 640#32
  let c768_1801_r0 : Index := 768#32
  ![v5072_r0.toNat, 640, 768]
def k0_off142 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5095_r0 : Index := Scalar.indexCast v595_r0
  let c672_1810_r0 : Index := 672#32
  let c768_1811_r0 : Index := 768#32
  ![v5095_r0.toNat, 672, 768]
def k0_off143 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5294_r0 : Index := Scalar.indexCast v595_r0
  let c352_1867_r0 : Index := 352#32
  let c1024_1868_r0 : Index := 1024#32
  ![v5294_r0.toNat, 352, 1024]
def k0_off144 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5317_r0 : Index := Scalar.indexCast v595_r0
  let c384_1877_r0 : Index := 384#32
  let c1024_1878_r0 : Index := 1024#32
  ![v5317_r0.toNat, 384, 1024]
def k0_off145 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5340_r0 : Index := Scalar.indexCast v595_r0
  let c416_1887_r0 : Index := 416#32
  let c1024_1888_r0 : Index := 1024#32
  ![v5340_r0.toNat, 416, 1024]
def k0_off146 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5363_r0 : Index := Scalar.indexCast v595_r0
  let c448_1897_r0 : Index := 448#32
  let c1024_1898_r0 : Index := 1024#32
  ![v5363_r0.toNat, 448, 1024]
def k0_off147 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5386_r0 : Index := Scalar.indexCast v595_r0
  let c480_1907_r0 : Index := 480#32
  let c1024_1908_r0 : Index := 1024#32
  ![v5386_r0.toNat, 480, 1024]
def k0_off148 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5409_r0 : Index := Scalar.indexCast v595_r0
  let c512_1917_r0 : Index := 512#32
  let c1024_1918_r0 : Index := 1024#32
  ![v5409_r0.toNat, 512, 1024]
def k0_off149 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5432_r0 : Index := Scalar.indexCast v595_r0
  let c544_1927_r0 : Index := 544#32
  let c1024_1928_r0 : Index := 1024#32
  ![v5432_r0.toNat, 544, 1024]
def k0_off150 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5455_r0 : Index := Scalar.indexCast v595_r0
  let c576_1937_r0 : Index := 576#32
  let c1024_1938_r0 : Index := 1024#32
  ![v5455_r0.toNat, 576, 1024]
def k0_off151 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5478_r0 : Index := Scalar.indexCast v595_r0
  let c608_1947_r0 : Index := 608#32
  let c1024_1948_r0 : Index := 1024#32
  ![v5478_r0.toNat, 608, 1024]
def k0_off152 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5501_r0 : Index := Scalar.indexCast v595_r0
  let c640_1957_r0 : Index := 640#32
  let c1024_1958_r0 : Index := 1024#32
  ![v5501_r0.toNat, 640, 1024]
def k0_off153 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5524_r0 : Index := Scalar.indexCast v595_r0
  let c672_1967_r0 : Index := 672#32
  let c1024_1968_r0 : Index := 1024#32
  ![v5524_r0.toNat, 672, 1024]
def k0_off154 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5723_r0 : Index := Scalar.indexCast v595_r0
  let c352_2024_r0 : Index := 352#32
  let c1280_2025_r0 : Index := 1280#32
  ![v5723_r0.toNat, 352, 1280]
def k0_off155 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5746_r0 : Index := Scalar.indexCast v595_r0
  let c384_2034_r0 : Index := 384#32
  let c1280_2035_r0 : Index := 1280#32
  ![v5746_r0.toNat, 384, 1280]
def k0_off156 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5769_r0 : Index := Scalar.indexCast v595_r0
  let c416_2044_r0 : Index := 416#32
  let c1280_2045_r0 : Index := 1280#32
  ![v5769_r0.toNat, 416, 1280]
def k0_off157 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5792_r0 : Index := Scalar.indexCast v595_r0
  let c448_2054_r0 : Index := 448#32
  let c1280_2055_r0 : Index := 1280#32
  ![v5792_r0.toNat, 448, 1280]
def k0_off158 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5815_r0 : Index := Scalar.indexCast v595_r0
  let c480_2064_r0 : Index := 480#32
  let c1280_2065_r0 : Index := 1280#32
  ![v5815_r0.toNat, 480, 1280]
def k0_off159 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5838_r0 : Index := Scalar.indexCast v595_r0
  let c512_2074_r0 : Index := 512#32
  let c1280_2075_r0 : Index := 1280#32
  ![v5838_r0.toNat, 512, 1280]
def k0_off160 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5861_r0 : Index := Scalar.indexCast v595_r0
  let c544_2084_r0 : Index := 544#32
  let c1280_2085_r0 : Index := 1280#32
  ![v5861_r0.toNat, 544, 1280]
def k0_off161 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5884_r0 : Index := Scalar.indexCast v595_r0
  let c576_2094_r0 : Index := 576#32
  let c1280_2095_r0 : Index := 1280#32
  ![v5884_r0.toNat, 576, 1280]
def k0_off162 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5907_r0 : Index := Scalar.indexCast v595_r0
  let c608_2104_r0 : Index := 608#32
  let c1280_2105_r0 : Index := 1280#32
  ![v5907_r0.toNat, 608, 1280]
def k0_off163 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5930_r0 : Index := Scalar.indexCast v595_r0
  let c640_2114_r0 : Index := 640#32
  let c1280_2115_r0 : Index := 1280#32
  ![v5930_r0.toNat, 640, 1280]
def k0_off164 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v5953_r0 : Index := Scalar.indexCast v595_r0
  let c672_2124_r0 : Index := 672#32
  let c1280_2125_r0 : Index := 1280#32
  ![v5953_r0.toNat, 672, 1280]
def k0_off165 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v6152_r0 : Index := Scalar.indexCast v595_r0
  let c352_2181_r0 : Index := 352#32
  let c1536_2182_r0 : Index := 1536#32
  ![v6152_r0.toNat, 352, 1536]
def k0_off166 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v6175_r0 : Index := Scalar.indexCast v595_r0
  let c384_2191_r0 : Index := 384#32
  let c1536_2192_r0 : Index := 1536#32
  ![v6175_r0.toNat, 384, 1536]
def k0_off167 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v6198_r0 : Index := Scalar.indexCast v595_r0
  let c416_2201_r0 : Index := 416#32
  let c1536_2202_r0 : Index := 1536#32
  ![v6198_r0.toNat, 416, 1536]
def k0_off168 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v6221_r0 : Index := Scalar.indexCast v595_r0
  let c448_2211_r0 : Index := 448#32
  let c1536_2212_r0 : Index := 1536#32
  ![v6221_r0.toNat, 448, 1536]
def k0_off169 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v6244_r0 : Index := Scalar.indexCast v595_r0
  let c480_2221_r0 : Index := 480#32
  let c1536_2222_r0 : Index := 1536#32
  ![v6244_r0.toNat, 480, 1536]
def k0_off170 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v6267_r0 : Index := Scalar.indexCast v595_r0
  let c512_2231_r0 : Index := 512#32
  let c1536_2232_r0 : Index := 1536#32
  ![v6267_r0.toNat, 512, 1536]
def k0_off171 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v6290_r0 : Index := Scalar.indexCast v595_r0
  let c544_2241_r0 : Index := 544#32
  let c1536_2242_r0 : Index := 1536#32
  ![v6290_r0.toNat, 544, 1536]
def k0_off172 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v6313_r0 : Index := Scalar.indexCast v595_r0
  let c576_2251_r0 : Index := 576#32
  let c1536_2252_r0 : Index := 1536#32
  ![v6313_r0.toNat, 576, 1536]
def k0_off173 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v6336_r0 : Index := Scalar.indexCast v595_r0
  let c608_2261_r0 : Index := 608#32
  let c1536_2262_r0 : Index := 1536#32
  ![v6336_r0.toNat, 608, 1536]
def k0_off174 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v6359_r0 : Index := Scalar.indexCast v595_r0
  let c640_2271_r0 : Index := 640#32
  let c1536_2272_r0 : Index := 1536#32
  ![v6359_r0.toNat, 640, 1536]
def k0_off175 (k0_t2 : Fin k0_t2_loop.trips) : Fin 3 → Nat :=
  let c0_i32_100_r0 : BitVec 32 := 0#32
  let c1_i32_101_r0 : BitVec 32 := 1#32
  let arg15_r0 : BitVec 32 := Scf.iv c0_i32_100_r0 c1_i32_101_r0 k0_t2
  let c4_i32_121_r0 : BitVec 32 := 4#32
  let v595_r0 : BitVec 32 := Scalar.remsi arg15_r0 c4_i32_121_r0
  let v6382_r0 : Index := Scalar.indexCast v595_r0
  let c672_2281_r0 : Index := 672#32
  let c1536_2282_r0 : Index := 1536#32
  ![v6382_r0.toNat, 672, 1536]
abbrev stage0_0 : Fin 1 → Memref sig .tc .vmem S1x256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S256x1x3584 : Shape := ⟨3, ![256, 1, 3584]⟩
abbrev S38016x1792 : Shape := ⟨2, ![38016, 1792]⟩
abbrev S38016x112 : Shape := ⟨2, ![38016, 112]⟩
abbrev S38016x112x16 : Shape := ⟨3, ![38016, 112, 16]⟩
abbrev S38016x112x1 : Shape := ⟨3, ![38016, 112, 1]⟩
abbrev S_ : Shape := ⟨0, ![]⟩
abbrev S256x112x32 : Shape := ⟨3, ![256, 112, 32]⟩
abbrev S256x112x16 : Shape := ⟨3, ![256, 112, 16]⟩
abbrev S256x1792 : Shape := ⟨2, ![256, 1792]⟩
abbrev S256x38016 : Shape := ⟨2, ![256, 38016]⟩
abbrev S256 : Shape := ⟨1, ![256]⟩
abbrev S256x1 : Shape := ⟨2, ![256, 1]⟩
abbrev S1x256 : Shape := ⟨2, ![1, 256]⟩

abbrev nBuf : Space → Nat
  | .hbm => 55
  | .vmem => 0
  | .smem => 0
  | _ => 0

abbrev bufTy : (tb : Table) → Fin (tcTables nBuf tb) → BufTy
  | .hbm, ⟨0, _⟩ => ⟨S256x1x3584, .bf16⟩
  | .hbm, ⟨1, _⟩ => ⟨S38016x1792, .i8⟩
  | .hbm, ⟨2, _⟩ => ⟨S38016x112, .bf16⟩
  | .hbm, ⟨3, _⟩ => ⟨S38016x1792, .i32⟩
  | .hbm, ⟨4, _⟩ => ⟨S38016x112x16, .i32⟩
  | .hbm, ⟨5, _⟩ => ⟨S38016x112x1, .bf16⟩
  | .hbm, ⟨6, _⟩ => ⟨S_, .i32⟩
  | .hbm, ⟨7, _⟩ => ⟨S38016x112x16, .i32⟩
  | .hbm, ⟨8, _⟩ => ⟨S38016x112x16, .i32⟩
  | .hbm, ⟨9, _⟩ => ⟨S38016x112x16, .bf16⟩
  | .hbm, ⟨10, _⟩ => ⟨S_, .bf16⟩
  | .hbm, ⟨11, _⟩ => ⟨S38016x112x16, .bf16⟩
  | .hbm, ⟨12, _⟩ => ⟨S38016x112x16, .bf16⟩
  | .hbm, ⟨13, _⟩ => ⟨S38016x112x16, .bf16⟩
  | .hbm, ⟨14, _⟩ => ⟨S38016x112x16, .bf16⟩
  | .hbm, ⟨15, _⟩ => ⟨S38016x1792, .bf16⟩
  | .hbm, ⟨16, _⟩ => ⟨S_, .i32⟩
  | .hbm, ⟨17, _⟩ => ⟨S38016x112x16, .i32⟩
  | .hbm, ⟨18, _⟩ => ⟨S38016x112x16, .i32⟩
  | .hbm, ⟨19, _⟩ => ⟨S38016x112x16, .bf16⟩
  | .hbm, ⟨20, _⟩ => ⟨S_, .bf16⟩
  | .hbm, ⟨21, _⟩ => ⟨S38016x112x16, .bf16⟩
  | .hbm, ⟨22, _⟩ => ⟨S38016x112x16, .bf16⟩
  | .hbm, ⟨23, _⟩ => ⟨S38016x112x16, .bf16⟩
  | .hbm, ⟨24, _⟩ => ⟨S38016x112x16, .bf16⟩
  | .hbm, ⟨25, _⟩ => ⟨S38016x1792, .bf16⟩
  | .hbm, ⟨26, _⟩ => ⟨S256x112x32, .bf16⟩
  | .hbm, ⟨27, _⟩ => ⟨S256x112x16, .bf16⟩
  | .hbm, ⟨28, _⟩ => ⟨S256x1792, .bf16⟩
  | .hbm, ⟨29, _⟩ => ⟨S256x112x16, .bf16⟩
  | .hbm, ⟨30, _⟩ => ⟨S256x1792, .bf16⟩
  | .hbm, ⟨31, _⟩ => ⟨S256x38016, .f32⟩
  | .hbm, ⟨32, _⟩ => ⟨S256x38016, .f32⟩
  | .hbm, ⟨33, _⟩ => ⟨S256x38016, .f32⟩
  | .hbm, ⟨34, _⟩ => ⟨S_, .f32⟩
  | .hbm, ⟨35, _⟩ => ⟨S256, .f32⟩
  | .hbm, ⟨36, _⟩ => ⟨S256x38016, .i32⟩
  | .hbm, ⟨37, _⟩ => ⟨S_, .f32⟩
  | .hbm, ⟨38, _⟩ => ⟨S_, .i32⟩
  | .hbm, ⟨39, _⟩ => ⟨S256, .f32⟩
  | .hbm, ⟨40, _⟩ => ⟨S256, .i32⟩
  | .hbm, ⟨41, _⟩ => ⟨S256x38016, .i32⟩
  | .hbm, ⟨42, _⟩ => ⟨S256x1, .i32⟩
  | .hbm, ⟨43, _⟩ => ⟨S256x38016, .i32⟩
  | .hbm, ⟨44, _⟩ => ⟨S256x38016, .i1⟩
  | .hbm, ⟨45, _⟩ => ⟨S_, .f32⟩
  | .hbm, ⟨46, _⟩ => ⟨S_, .f32⟩
  | .hbm, ⟨47, _⟩ => ⟨S256x38016, .f32⟩
  | .hbm, ⟨48, _⟩ => ⟨S256x38016, .f32⟩
  | .hbm, ⟨49, _⟩ => ⟨S_, .f32⟩
  | .hbm, ⟨50, _⟩ => ⟨S256, .f32⟩
  | .hbm, ⟨51, _⟩ => ⟨S256, .f32⟩
  | .hbm, ⟨52, _⟩ => ⟨S1x256, .i32⟩
  | .hbm, ⟨53, _⟩ => ⟨S1x256, .f32⟩
  | .hbm, ⟨54, _⟩ => ⟨S1x256, .f32⟩
  | _, _ => ⟨S256x1x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_call0_v0 : Ref sig .tc := ⟨.hbm, 36, rfl⟩
abbrev main_call0_cst : Ref sig .tc := ⟨.hbm, 37, rfl⟩
abbrev main_call0_c : Ref sig .tc := ⟨.hbm, 38, rfl⟩
abbrev main_call0_v1_0 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_call1_v0 : Ref sig .tc := ⟨.hbm, 46, rfl⟩
abbrev main_call1_v1 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]
-- ==== Proof.RefRun.lean ====
/- The reference program's run: its @main as the list of its host operations, and what each result buffer holds after
   them, as named functions of the three arguments. -/
module

public import proofs.«01_k».proof.Proof.Gen.ReferenceIdeal
public import Idealize.ShloMosaic.Lib.StableHlo.Run
public import Idealize.ShloMosaic.Lib.Pipeline.Frame

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- @main's operations, in order (a called function's operations stand in its call's place). -/
abbrev ops : List (HloOp τ sig (Elt F)) :=
  [ unary main_arg1 main_v0 ((extui 32 · natLt_8_32) : (⟨S38016x1792, .i8⟩ : BufTy).Contents (Elt F) → (⟨S38016x1792, .i32⟩ : BufTy).Contents (Elt F)),
    reshape main_v0 main_v1 (rfl : (.i32 : EltTy) = .i32) shapeCasts_S38016x1792_S38016x112x16,
    unary main_arg2 main_v2 (broadcastInDim S38016x112x1 ![0, 1] bcast_S38016x112_S38016x112x1_0_1 : (⟨S38016x112, .bf16⟩ : BufTy).Contents (Elt F) → (⟨S38016x112x1, .bf16⟩ : BufTy).Contents (Elt F)),
    nullary main_c (constantI S_ 32 15#32),
    unary main_c main_v3 (broadcastInDim S38016x112x16 ![] bcast_S_S38016x112x16 : (⟨S_, .i32⟩ : BufTy).Contents (Elt F) → (⟨S38016x112x16, .i32⟩ : BufTy).Contents (Elt F)),
    binary main_v1 main_v3 main_v4 (andi : (⟨S38016x112x16, .i32⟩ : BufTy).Contents (Elt F) → (⟨S38016x112x16, .i32⟩ : BufTy).Contents (Elt F) → (⟨S38016x112x16, .i32⟩ : BufTy).Contents (Elt F)),
    unary main_v4 main_v5 (sitofp .bf16 : (⟨S38016x112x16, .i32⟩ : BufTy).Contents (Elt F) → (⟨S38016x112x16, .bf16⟩ : BufTy).Contents (Elt F)),
    nullary main_cst (constant S_ .bf16 0x4100#16),
    unary main_cst main_v6 (broadcastInDim S38016x112x16 ![] bcast_S_S38016x112x16 : (⟨S_, .bf16⟩ : BufTy).Contents (Elt F) → (⟨S38016x112x16, .bf16⟩ : BufTy).Contents (Elt F)),
    binary main_v5 main_v6 main_v7 (subf : (⟨S38016x112x16, .bf16⟩ : BufTy).Contents (Elt F) → (⟨S38016x112x16, .bf16⟩ : BufTy).Contents (Elt F) → (⟨S38016x112x16, .bf16⟩ : BufTy).Contents (Elt F)),
    unary main_v2 main_v8 (broadcastInDim S38016x112x16 ![0, 1, 2] bcast_S38016x112x1_S38016x112x16_0_1_2 : (⟨S38016x112x1, .bf16⟩ : BufTy).Contents (Elt F) → (⟨S38016x112x16, .bf16⟩ : BufTy).Contents (Elt F)),
    binary main_v7 main_v8 main_v9 (mulf : (⟨S38016x112x16, .bf16⟩ : BufTy).Contents (Elt F) → (⟨S38016x112x16, .bf16⟩ : BufTy).Contents (Elt F) → (⟨S38016x112x16, .bf16⟩ : BufTy).Contents (Elt F)),
    reshape main_v9 main_v10 (rfl : (.bf16 : EltTy) = .bf16) shapeCasts_S38016x112x16_S38016x1792,
    nullary main_c_0 (constantI S_ 32 4#32),
    unary main_c_0 main_v11 (broadcastInDim S38016x112x16 ![] bcast_S_S38016x112x16 : (⟨S_, .i32⟩ : BufTy).Contents (Elt F) → (⟨S38016x112x16, .i32⟩ : BufTy).Contents (Elt F)),
    binary main_v1 main_v11 main_v12 (Host.shrsi : (⟨S38016x112x16, .i32⟩ : BufTy).Contents (Elt F) → (⟨S38016x112x16, .i32⟩ : BufTy).Contents (Elt F) → (⟨S38016x112x16, .i32⟩ : BufTy).Contents (Elt F)),
    unary main_v12 main_v13 (sitofp .bf16 : (⟨S38016x112x16, .i32⟩ : BufTy).Contents (Elt F) → (⟨S38016x112x16, .bf16⟩ : BufTy).Contents (Elt F)),
    nullary main_cst_1 (constant S_ .bf16 0x4100#16),
    unary main_cst_1 main_v14 (broadcastInDim S38016x112x16 ![] bcast_S_S38016x112x16 : (⟨S_, .bf16⟩ : BufTy).Contents (Elt F) → (⟨S38016x112x16, .bf16⟩ : BufTy).Contents (Elt F)),
    binary main_v13 main_v14 main_v15 (subf : (⟨S38016x112x16, .bf16⟩ : BufTy).Contents (Elt F) → (⟨S38016x112x16, .bf16⟩ : BufTy).Contents (Elt F) → (⟨S38016x112x16, .bf16⟩ : BufTy).Contents (Elt F)),
    unary main_v2 main_v16 (broadcastInDim S38016x112x16 ![0, 1, 2] bcast_S38016x112x1_S38016x112x16_0_1_2 : (⟨S38016x112x1, .bf16⟩ : BufTy).Contents (Elt F) → (⟨S38016x112x16, .bf16⟩ : BufTy).Contents (Elt F)),
    binary main_v15 main_v16 main_v17 (mulf : (⟨S38016x112x16, .bf16⟩ : BufTy).Contents (Elt F) → (⟨S38016x112x16, .bf16⟩ : BufTy).Contents (Elt F) → (⟨S38016x112x16, .bf16⟩ : BufTy).Contents (Elt F)),
    reshape main_v17 main_v18 (rfl : (.bf16 : EltTy) = .bf16) shapeCasts_S38016x112x16_S38016x1792,
    reshape main_arg0 main_v19 (rfl : (.bf16 : EltTy) = .bf16) shapeCasts_S256x1x3584_S256x112x32,
    unary main_v19 main_v20 ((extractStridedSlice S256x112x16 ![0, 0, 0] · slices_S256x112x32_S256x112x16_0_0_0) : (⟨S256x112x32, .bf16⟩ : BufTy).Contents (Elt F) → (⟨S256x112x16, .bf16⟩ : BufTy).Contents (Elt F)),
    reshape main_v20 main_v21 (rfl : (.bf16 : EltTy) = .bf16) shapeCasts_S256x112x16_S256x1792,
    unary main_v19 main_v22 ((extractStridedSlice S256x112x16 ![0, 0, 16] · slices_S256x112x32_S256x112x16_0_0_16) : (⟨S256x112x32, .bf16⟩ : BufTy).Contents (Elt F) → (⟨S256x112x16, .bf16⟩ : BufTy).Contents (Elt F)),
    reshape main_v22 main_v23 (rfl : (.bf16 : EltTy) = .bf16) shapeCasts_S256x112x16_S256x1792,
    binary main_v21 main_v10 main_v24 ((fun l r => Host.dotGeneral dot_S256x1792_S38016x1792_S256x38016_1_1_0_0_n_n none l r) : (⟨S256x1792, .bf16⟩ : BufTy).Contents (Elt F) → (⟨S38016x1792, .bf16⟩ : BufTy).Contents (Elt F) → (⟨S256x38016, .f32⟩ : BufTy).Contents (Elt F)),
    binary main_v23 main_v18 main_v25 ((fun l r => Host.dotGeneral dot_S256x1792_S38016x1792_S256x38016_1_1_0_0_n_n none l r) : (⟨S256x1792, .bf16⟩ : BufTy).Contents (Elt F) → (⟨S38016x1792, .bf16⟩ : BufTy).Contents (Elt F) → (⟨S256x38016, .f32⟩ : BufTy).Contents (Elt F)),
    binary main_v24 main_v25 main_v26 (addf : (⟨S256x38016, .f32⟩ : BufTy).Contents (Elt F) → (⟨S256x38016, .f32⟩ : BufTy).Contents (Elt F) → (⟨S256x38016, .f32⟩ : BufTy).Contents (Elt F)),
    nullary main_cst_2 (constant S_ .f32 0xFF800000#32),
    binary main_v26 main_cst_2 main_v27 ((fun x v => Host.reduce FloatOps.maximumf x v reducesTo_S256x38016_S256_d1 h_S_) : (⟨S256x38016, .f32⟩ : BufTy).Contents (Elt F) → (⟨S_, .f32⟩ : BufTy).Contents (Elt F) → (⟨S256, .f32⟩ : BufTy).Contents (Elt F)),
    nullary main_call0_v0 ((iotaInDim S256x38016 32 1) : (⟨S256x38016, .i32⟩ : BufTy).Contents (Elt F)),
    nullary main_call0_cst ((constant S_ .f32 0xFF800000#32) : (⟨S_, .f32⟩ : BufTy).Contents (Elt F)),
    nullary main_call0_c ((constantI S_ 32 0#32) : (⟨S_, .i32⟩ : BufTy).Contents (Elt F)),
    quaternary main_v26 main_call0_v0 main_call0_cst main_call0_c main_call0_v1_0 ((fun x y u v j => (Host.argReduce reducer_argmax_f32_i32 x y u v reducesTo_S256x38016_S256_d1 h_S_ j).1) : (⟨S256x38016, .f32⟩ : BufTy).Contents (Elt F) → (⟨S256x38016, .i32⟩ : BufTy).Contents (Elt F) → (⟨S_, .f32⟩ : BufTy).Contents (Elt F) → (⟨S_, .i32⟩ : BufTy).Contents (Elt F) → (⟨S256, .f32⟩ : BufTy).Contents (Elt F)),
    quaternary main_v26 main_call0_v0 main_call0_cst main_call0_c main_v28 ((fun x y u v j => (Host.argReduce reducer_argmax_f32_i32 x y u v reducesTo_S256x38016_S256_d1 h_S_ j).2) : (⟨S256x38016, .f32⟩ : BufTy).Contents (Elt F) → (⟨S256x38016, .i32⟩ : BufTy).Contents (Elt F) → (⟨S_, .f32⟩ : BufTy).Contents (Elt F) → (⟨S_, .i32⟩ : BufTy).Contents (Elt F) → (⟨S256, .i32⟩ : BufTy).Contents (Elt F)),
    nullary main_v29 (iotaInDim S256x38016 32 1),
    unary main_v28 main_v30 (broadcastInDim S256x1 ![0] bcast_S256_S256x1_0 : (⟨S256, .i32⟩ : BufTy).Contents (Elt F) → (⟨S256x1, .i32⟩ : BufTy).Contents (Elt F)),
    unary main_v30 main_v31 (broadcastInDim S256x38016 ![0, 1] bcast_S256x1_S256x38016_0_1 : (⟨S256x1, .i32⟩ : BufTy).Contents (Elt F) → (⟨S256x38016, .i32⟩ : BufTy).Contents (Elt F)),
    binary main_v29 main_v31 main_v32 (cmpi .eq : (⟨S256x38016, .i32⟩ : BufTy).Contents (Elt F) → (⟨S256x38016, .i32⟩ : BufTy).Contents (Elt F) → (⟨S256x38016, .i1⟩ : BufTy).Contents (Elt F)),
    nullary main_cst_3 (constant S_ .f32 0xFF800000#32),
    unary main_cst_3 main_call1_v0 (id : (⟨S_, .f32⟩ : BufTy).Contents (Elt F) → (⟨S_, .f32⟩ : BufTy).Contents (Elt F)),
    unary main_call1_v0 main_call1_v1 ((broadcastInDim S256x38016 ![] bcast_S_S256x38016) : (⟨S_, .f32⟩ : BufTy).Contents (Elt F) → (⟨S256x38016, .f32⟩ : BufTy).Contents (Elt F)),
    ternary main_v32 main_call1_v1 main_v26 main_v33 (select : (⟨S256x38016, .i1⟩ : BufTy).Contents (Elt F) → (⟨S256x38016, .f32⟩ : BufTy).Contents (Elt F) → (⟨S256x38016, .f32⟩ : BufTy).Contents (Elt F) → (⟨S256x38016, .f32⟩ : BufTy).Contents (Elt F)),
    nullary main_cst_4 (constant S_ .f32 0xFF800000#32),
    binary main_v33 main_cst_4 main_v34 ((fun x v => Host.reduce FloatOps.maximumf x v reducesTo_S256x38016_S256_d1 h_S_) : (⟨S256x38016, .f32⟩ : BufTy).Contents (Elt F) → (⟨S_, .f32⟩ : BufTy).Contents (Elt F) → (⟨S256, .f32⟩ : BufTy).Contents (Elt F)),
    binary main_v27 main_v34 main_v35 (subf : (⟨S256, .f32⟩ : BufTy).Contents (Elt F) → (⟨S256, .f32⟩ : BufTy).Contents (Elt F) → (⟨S256, .f32⟩ : BufTy).Contents (Elt F)),
    reshape main_v28 main_v36 (rfl : (.i32 : EltTy) = .i32) shapeCasts_S256_S1x256,
    reshape main_v35 main_v37 (rfl : (.f32 : EltTy) = .f32) shapeCasts_S256_S1x256,
    reshape main_v27 main_v38 (rfl : (.f32 : EltTy) = .f32) shapeCasts_S256_S1x256 ]

set_option maxRecDepth 8192 in
/-- @main runs exactly the operations of `ops`. -/
theorem main_eq (c : Dev nD) : main (F := F) c = seq ops := rfl
/-- The program has no scoped buffer. -/
theorem scopedRefs_eq : (Finset.univ.filter fun b : Ref sig .tc => b.isScoped) = ∅ := by decide
/-- The program has no scoped semaphore. -/
theorem scopedSems_eq : (Finset.univ.filter fun sm : SemLoc sig => sm.isScoped .tc) = ∅ := by decide
set_option maxRecDepth 8192 in
/-- Every operation touches only the program's own buffers. -/
theorem ops_sub : (ops : List (HloOp τ sig (Elt F))).Forall fun op => op.bufs ⊆ tcRefs τ sig :=
  ⟨unary_bufs_sub .., reshape_bufs_sub .., unary_bufs_sub .., nullary_bufs_sub .., unary_bufs_sub .., binary_bufs_sub .., unary_bufs_sub .., nullary_bufs_sub .., unary_bufs_sub .., binary_bufs_sub .., unary_bufs_sub .., binary_bufs_sub .., reshape_bufs_sub .., nullary_bufs_sub .., unary_bufs_sub .., binary_bufs_sub .., unary_bufs_sub .., nullary_bufs_sub .., unary_bufs_sub .., binary_bufs_sub .., unary_bufs_sub .., binary_bufs_sub .., reshape_bufs_sub .., reshape_bufs_sub .., unary_bufs_sub .., reshape_bufs_sub .., unary_bufs_sub .., reshape_bufs_sub .., binary_bufs_sub .., binary_bufs_sub .., binary_bufs_sub .., nullary_bufs_sub .., binary_bufs_sub .., nullary_bufs_sub .., nullary_bufs_sub .., nullary_bufs_sub .., quaternary_bufs_sub .., quaternary_bufs_sub .., nullary_bufs_sub .., unary_bufs_sub .., unary_bufs_sub .., binary_bufs_sub .., nullary_bufs_sub .., unary_bufs_sub .., unary_bufs_sub .., ternary_bufs_sub .., nullary_bufs_sub .., binary_bufs_sub .., binary_bufs_sub .., reshape_bufs_sub .., reshape_bufs_sub .., reshape_bufs_sub ..⟩

/-- The packed codes widened to 32 bits, by row, scale group and byte. -/
def codes (w : IVec S38016x1792 8) : IVec S38016x112x16 32 := shapeCast _ (extui 32 w natLt_8_32) shapeCasts_S38016x1792_S38016x112x16
/-- The scales repeated over the sixteen bytes of their group. -/
def scales (s : FVec F S38016x112 .bf16) : FVec F S38016x112x16 .bf16 :=
  broadcastInDim S38016x112x16 ![0, 1, 2] bcast_S38016x112x1_S38016x112x16_0_1_2 (broadcastInDim S38016x112x1 ![0, 1] bcast_S38016x112_S38016x112x1_0_1 s)
/-- The constant 8 everywhere. -/
def eights : FVec F S38016x112x16 .bf16 := broadcastInDim S38016x112x16 ![] bcast_S_S38016x112x16 (constant S_ .bf16 0x4100#16)
/-- The weights of the low nibbles. -/
def wLo (w : IVec S38016x1792 8) (s : FVec F S38016x112 .bf16) : FVec F S38016x1792 .bf16 :=
  shapeCast _ (mulf (subf (sitofp .bf16 (andi (codes w) (broadcastInDim S38016x112x16 ![] bcast_S_S38016x112x16 (constantI S_ 32 15#32)))) eights) (scales s)) shapeCasts_S38016x112x16_S38016x1792
/-- The weights of the high nibbles. -/
def wHi (w : IVec S38016x1792 8) (s : FVec F S38016x112 .bf16) : FVec F S38016x1792 .bf16 :=
  shapeCast _ (mulf (subf (sitofp .bf16 (Host.shrsi (codes w) (broadcastInDim S38016x112x16 ![] bcast_S_S38016x112x16 (constantI S_ 32 4#32)))) eights) (scales s)) shapeCasts_S38016x112x16_S38016x1792
/-- The activations that meet low nibbles: the first sixteen of each group of thirty-two. -/
def xLo (x : FVec F S256x1x3584 .bf16) : FVec F S256x1792 .bf16 :=
  shapeCast _ (extractStridedSlice S256x112x16 ![0, 0, 0] (shapeCast S256x112x32 x shapeCasts_S256x1x3584_S256x112x32) slices_S256x112x32_S256x112x16_0_0_0) shapeCasts_S256x112x16_S256x1792
/-- The activations that meet high nibbles: the last sixteen of each group of thirty-two. -/
def xHi (x : FVec F S256x1x3584 .bf16) : FVec F S256x1792 .bf16 :=
  shapeCast _ (extractStridedSlice S256x112x16 ![0, 0, 16] (shapeCast S256x112x32 x shapeCasts_S256x1x3584_S256x112x32) slices_S256x112x32_S256x112x16_0_0_16) shapeCasts_S256x112x16_S256x1792
/-- The logits: one row per activation row, one column per vocabulary row. -/
def logits (x : FVec F S256x1x3584 .bf16) (w : IVec S38016x1792 8) (s : FVec F S38016x112 .bf16) : FVec F S256x38016 .f32 :=
  addf (Host.dotGeneral dot_S256x1792_S38016x1792_S256x38016_1_1_0_0_n_n none (xLo x) (wLo w s))
    (Host.dotGeneral dot_S256x1792_S38016x1792_S256x38016_1_1_0_0_n_n none (xHi x) (wHi w s))
/-- The greatest logit of each row. -/
def topOf (L : FVec F S256x38016 .f32) : FVec F S256 .f32 :=
  Host.reduce FloatOps.maximumf L (constant S_ .f32 0xFF800000#32) reducesTo_S256x38016_S256_d1 h_S_
/-- The first result of the arg-max along a row: the greatest value. -/
def amaxF : (⟨S256x38016, .f32⟩ : BufTy).Contents (Elt F) → (⟨S256x38016, .i32⟩ : BufTy).Contents (Elt F) → (⟨S_, .f32⟩ : BufTy).Contents (Elt F) → (⟨S_, .i32⟩ : BufTy).Contents (Elt F) → (⟨S256, .f32⟩ : BufTy).Contents (Elt F) :=
  fun x y u v j => (Host.argReduce reducer_argmax_f32_i32 x y u v reducesTo_S256x38016_S256_d1 h_S_ j).1
/-- The second result of the arg-max along a row: the position of the greatest value. -/
def amaxI : (⟨S256x38016, .f32⟩ : BufTy).Contents (Elt F) → (⟨S256x38016, .i32⟩ : BufTy).Contents (Elt F) → (⟨S_, .f32⟩ : BufTy).Contents (Elt F) → (⟨S_, .i32⟩ : BufTy).Contents (Elt F) → (⟨S256, .i32⟩ : BufTy).Contents (Elt F) :=
  fun x y u v j => (Host.argReduce reducer_argmax_f32_i32 x y u v reducesTo_S256x38016_S256_d1 h_S_ j).2
/-- The position of the greatest logit of each row. -/
def tokOf (L : FVec F S256x38016 .f32) : IVec S256 32 :=
  amaxI L (iotaInDim S256x38016 32 1) (constant S_ .f32 0xFF800000#32) (constantI S_ 32 0#32)
/-- The greatest logit of each row off the position `t`. -/
def secondOf (L : FVec F S256x38016 .f32) (t : IVec S256 32) : FVec F S256 .f32 :=
  Host.reduce FloatOps.maximumf
    (select (cmpi .eq (iotaInDim S256x38016 32 1) (broadcastInDim S256x38016 ![0, 1] bcast_S256x1_S256x38016_0_1 (broadcastInDim S256x1 ![0] bcast_S256_S256x1_0 t)))
      (broadcastInDim S256x38016 ![] bcast_S_S256x38016 (constant S_ .f32 0xFF800000#32)) L)
    (constant S_ .f32 0xFF800000#32) reducesTo_S256x38016_S256_d1 h_S_

/-- The operations up to the logits. -/
abbrev opsA : List (HloOp τ sig (Elt F)) :=
  [ unary main_arg1 main_v0 ((extui 32 · natLt_8_32) : (⟨S38016x1792, .i8⟩ : BufTy).Contents (Elt F) → (⟨S38016x1792, .i32⟩ : BufTy).Contents (Elt F)),
    reshape main_v0 main_v1 (rfl : (.i32 : EltTy) = .i32) shapeCasts_S38016x1792_S38016x112x16,
    unary main_arg2 main_v2 (broadcastInDim S38016x112x1 ![0, 1] bcast_S38016x112_S38016x112x1_0_1 : (⟨S38016x112, .bf16⟩ : BufTy).Contents (Elt F) → (⟨S38016x112x1, .bf16⟩ : BufTy).Contents (Elt F)),
    nullary main_c (constantI S_ 32 15#32),
    unary main_c main_v3 (broadcastInDim S38016x112x16 ![] bcast_S_S38016x112x16 : (⟨S_, .i32⟩ : BufTy).Contents (Elt F) → (⟨S38016x112x16, .i32⟩ : BufTy).Contents (Elt F)),
    binary main_v1 main_v3 main_v4 (andi : (⟨S38016x112x16, .i32⟩ : BufTy).Contents (Elt F) → (⟨S38016x112x16, .i32⟩ : BufTy).Contents (Elt F) → (⟨S38016x112x16, .i32⟩ : BufTy).Contents (Elt F)),
    unary main_v4 main_v5 (sitofp .bf16 : (⟨S38016x112x16, .i32⟩ : BufTy).Contents (Elt F) → (⟨S38016x112x16, .bf16⟩ : BufTy).Contents (Elt F)),
    nullary main_cst (constant S_ .bf16 0x4100#16),
    unary main_cst main_v6 (broadcastInDim S38016x112x16 ![] bcast_S_S38016x112x16 : (⟨S_, .bf16⟩ : BufTy).Contents (Elt F) → (⟨S38016x112x16, .bf16⟩ : BufTy).Contents (Elt F)),
    binary main_v5 main_v6 main_v7 (subf : (⟨S38016x112x16, .bf16⟩ : BufTy).Contents (Elt F) → (⟨S38016x112x16, .bf16⟩ : BufTy).Contents (Elt F) → (⟨S38016x112x16, .bf16⟩ : BufTy).Contents (Elt F)),
    unary main_v2 main_v8 (broadcastInDim S38016x112x16 ![0, 1, 2] bcast_S38016x112x1_S38016x112x16_0_1_2 : (⟨S38016x112x1, .bf16⟩ : BufTy).Contents (Elt F) → (⟨S38016x112x16, .bf16⟩ : BufTy).Contents (Elt F)),
    binary main_v7 main_v8 main_v9 (mulf : (⟨S38016x112x16, .bf16⟩ : BufTy).Contents (Elt F) → (⟨S38016x112x16, .bf16⟩ : BufTy).Contents (Elt F) → (⟨S38016x112x16, .bf16⟩ : BufTy).Contents (Elt F)),
    reshape main_v9 main_v10 (rfl : (.bf16 : EltTy) = .bf16) shapeCasts_S38016x112x16_S38016x1792,
    nullary main_c_0 (constantI S_ 32 4#32),
    unary main_c_0 main_v11 (broadcastInDim S38016x112x16 ![] bcast_S_S38016x112x16 : (⟨S_, .i32⟩ : BufTy).Contents (Elt F) → (⟨S38016x112x16, .i32⟩ : BufTy).Contents (Elt F)),
    binary main_v1 main_v11 main_v12 (Host.shrsi : (⟨S38016x112x16, .i32⟩ : BufTy).Contents (Elt F) → (⟨S38016x112x16, .i32⟩ : BufTy).Contents (Elt F) → (⟨S38016x112x16, .i32⟩ : BufTy).Contents (Elt F)),
    unary main_v12 main_v13 (sitofp .bf16 : (⟨S38016x112x16, .i32⟩ : BufTy).Contents (Elt F) → (⟨S38016x112x16, .bf16⟩ : BufTy).Contents (Elt F)),
    nullary main_cst_1 (constant S_ .bf16 0x4100#16),
    unary main_cst_1 main_v14 (broadcastInDim S38016x112x16 ![] bcast_S_S38016x112x16 : (⟨S_, .bf16⟩ : BufTy).Contents (Elt F) → (⟨S38016x112x16, .bf16⟩ : BufTy).Contents (Elt F)),
    binary main_v13 main_v14 main_v15 (subf : (⟨S38016x112x16, .bf16⟩ : BufTy).Contents (Elt F) → (⟨S38016x112x16, .bf16⟩ : BufTy).Contents (Elt F) → (⟨S38016x112x16, .bf16⟩ : BufTy).Contents (Elt F)),
    unary main_v2 main_v16 (broadcastInDim S38016x112x16 ![0, 1, 2] bcast_S38016x112x1_S38016x112x16_0_1_2 : (⟨S38016x112x1, .bf16⟩ : BufTy).Contents (Elt F) → (⟨S38016x112x16, .bf16⟩ : BufTy).Contents (Elt F)),
    binary main_v15 main_v16 main_v17 (mulf : (⟨S38016x112x16, .bf16⟩ : BufTy).Contents (Elt F) → (⟨S38016x112x16, .bf16⟩ : BufTy).Contents (Elt F) → (⟨S38016x112x16, .bf16⟩ : BufTy).Contents (Elt F)),
    reshape main_v17 main_v18 (rfl : (.bf16 : EltTy) = .bf16) shapeCasts_S38016x112x16_S38016x1792,
    reshape main_arg0 main_v19 (rfl : (.bf16 : EltTy) = .bf16) shapeCasts_S256x1x3584_S256x112x32,
    unary main_v19 main_v20 ((extractStridedSlice S256x112x16 ![0, 0, 0] · slices_S256x112x32_S256x112x16_0_0_0) : (⟨S256x112x32, .bf16⟩ : BufTy).Contents (Elt F) → (⟨S256x112x16, .bf16⟩ : BufTy).Contents (Elt F)),
    reshape main_v20 main_v21 (rfl : (.bf16 : EltTy) = .bf16) shapeCasts_S256x112x16_S256x1792,
    unary main_v19 main_v22 ((extractStridedSlice S256x112x16 ![0, 0, 16] · slices_S256x112x32_S256x112x16_0_0_16) : (⟨S256x112x32, .bf16⟩ : BufTy).Contents (Elt F) → (⟨S256x112x16, .bf16⟩ : BufTy).Contents (Elt F)),
    reshape main_v22 main_v23 (rfl : (.bf16 : EltTy) = .bf16) shapeCasts_S256x112x16_S256x1792,
    binary main_v21 main_v10 main_v24 ((fun l r => Host.dotGeneral dot_S256x1792_S38016x1792_S256x38016_1_1_0_0_n_n none l r) : (⟨S256x1792, .bf16⟩ : BufTy).Contents (Elt F) → (⟨S38016x1792, .bf16⟩ : BufTy).Contents (Elt F) → (⟨S256x38016, .f32⟩ : BufTy).Contents (Elt F)),
    binary main_v23 main_v18 main_v25 ((fun l r => Host.dotGeneral dot_S256x1792_S38016x1792_S256x38016_1_1_0_0_n_n none l r) : (⟨S256x1792, .bf16⟩ : BufTy).Contents (Elt F) → (⟨S38016x1792, .bf16⟩ : BufTy).Contents (Elt F) → (⟨S256x38016, .f32⟩ : BufTy).Contents (Elt F)),
    binary main_v24 main_v25 main_v26 (addf : (⟨S256x38016, .f32⟩ : BufTy).Contents (Elt F) → (⟨S256x38016, .f32⟩ : BufTy).Contents (Elt F) → (⟨S256x38016, .f32⟩ : BufTy).Contents (Elt F)) ]
/-- The operations after the logits, with any two functions in the places of the arg-max's two results. -/
abbrev opsB (f : (⟨S256x38016, .f32⟩ : BufTy).Contents (Elt F) → (⟨S256x38016, .i32⟩ : BufTy).Contents (Elt F) → (⟨S_, .f32⟩ : BufTy).Contents (Elt F) → (⟨S_, .i32⟩ : BufTy).Contents (Elt F) → (⟨S256, .f32⟩ : BufTy).Contents (Elt F)) (g : (⟨S256x38016, .f32⟩ : BufTy).Contents (Elt F) → (⟨S256x38016, .i32⟩ : BufTy).Contents (Elt F) → (⟨S_, .f32⟩ : BufTy).Contents (Elt F) → (⟨S_, .i32⟩ : BufTy).Contents (Elt F) → (⟨S256, .i32⟩ : BufTy).Contents (Elt F)) : List (HloOp τ sig (Elt F)) :=
  [ nullary main_cst_2 (constant S_ .f32 0xFF800000#32),
    binary main_v26 main_cst_2 main_v27 ((fun x v => Host.reduce FloatOps.maximumf x v reducesTo_S256x38016_S256_d1 h_S_) : (⟨S256x38016, .f32⟩ : BufTy).Contents (Elt F) → (⟨S_, .f32⟩ : BufTy).Contents (Elt F) → (⟨S256, .f32⟩ : BufTy).Contents (Elt F)),
    nullary main_call0_v0 ((iotaInDim S256x38016 32 1) : (⟨S256x38016, .i32⟩ : BufTy).Contents (Elt F)),
    nullary main_call0_cst ((constant S_ .f32 0xFF800000#32) : (⟨S_, .f32⟩ : BufTy).Contents (Elt F)),
    nullary main_call0_c ((constantI S_ 32 0#32) : (⟨S_, .i32⟩ : BufTy).Contents (Elt F)),
    quaternary main_v26 main_call0_v0 main_call0_cst main_call0_c main_call0_v1_0 f,
    quaternary main_v26 main_call0_v0 main_call0_cst main_call0_c main_v28 g,
    nullary main_v29 (iotaInDim S256x38016 32 1),
    unary main_v28 main_v30 (broadcastInDim S256x1 ![0] bcast_S256_S256x1_0 : (⟨S256, .i32⟩ : BufTy).Contents (Elt F) → (⟨S256x1, .i32⟩ : BufTy).Contents (Elt F)),
    unary main_v30 main_v31 (broadcastInDim S256x38016 ![0, 1] bcast_S256x1_S256x38016_0_1 : (⟨S256x1, .i32⟩ : BufTy).Contents (Elt F) → (⟨S256x38016, .i32⟩ : BufTy).Contents (Elt F)),
    binary main_v29 main_v31 main_v32 (cmpi .eq : (⟨S256x38016, .i32⟩ : BufTy).Contents (Elt F) → (⟨S256x38016, .i32⟩ : BufTy).Contents (Elt F) → (⟨S256x38016, .i1⟩ : BufTy).Contents (Elt F)),
    nullary main_cst_3 (constant S_ .f32 0xFF800000#32),
    unary main_cst_3 main_call1_v0 (id : (⟨S_, .f32⟩ : BufTy).Contents (Elt F) → (⟨S_, .f32⟩ : BufTy).Contents (Elt F)),
    unary main_call1_v0 main_call1_v1 ((broadcastInDim S256x38016 ![] bcast_S_S256x38016) : (⟨S_, .f32⟩ : BufTy).Contents (Elt F) → (⟨S256x38016, .f32⟩ : BufTy).Contents (Elt F)),
    ternary main_v32 main_call1_v1 main_v26 main_v33 (select : (⟨S256x38016, .i1⟩ : BufTy).Contents (Elt F) → (⟨S256x38016, .f32⟩ : BufTy).Contents (Elt F) → (⟨S256x38016, .f32⟩ : BufTy).Contents (Elt F) → (⟨S256x38016, .f32⟩ : BufTy).Contents (Elt F)),
    nullary main_cst_4 (constant S_ .f32 0xFF800000#32),
    binary main_v33 main_cst_4 main_v34 ((fun x v => Host.reduce FloatOps.maximumf x v reducesTo_S256x38016_S256_d1 h_S_) : (⟨S256x38016, .f32⟩ : BufTy).Contents (Elt F) → (⟨S_, .f32⟩ : BufTy).Contents (Elt F) → (⟨S256, .f32⟩ : BufTy).Contents (Elt F)),
    binary main_v27 main_v34 main_v35 (subf : (⟨S256, .f32⟩ : BufTy).Contents (Elt F) → (⟨S256, .f32⟩ : BufTy).Contents (Elt F) → (⟨S256, .f32⟩ : BufTy).Contents (Elt F)),
    reshape main_v28 main_v36 (rfl : (.i32 : EltTy) = .i32) shapeCasts_S256_S1x256,
    reshape main_v35 main_v37 (rfl : (.f32 : EltTy) = .f32) shapeCasts_S256_S1x256,
    reshape main_v27 main_v38 (rfl : (.f32 : EltTy) = .f32) shapeCasts_S256_S1x256 ]

/-- The logits of device `c`'s arguments. -/
abbrev L (m : (ℓ : Loc nD τ sig) → Buf (Elt F) ℓ) (c : Dev nD) : FVec F S256x38016 .f32 :=
  logits (m ((c.tc : Thread nD τ).loc main_arg0)) (m ((c.tc : Thread nD τ).loc main_arg1)) (m ((c.tc : Thread nD τ).loc main_arg2))

set_option maxRecDepth 8192 in
set_option maxHeartbeats 2000000 in
/-- The logits after the first operations. -/
theorem A_v26 (V : Valuation τ sig (Elt F)) : after opsA V (Proc.devRef .tc main_v26) = logits (V (Proc.devRef .tc main_arg0)) (V (Proc.devRef .tc main_arg1)) (V (Proc.devRef .tc main_arg2)) := by
  simp only [opsA]; after_results_simp <;> rfl
set_option maxRecDepth 8192 in
set_option maxHeartbeats 2000000 in
/-- The first operations keep this argument. -/
theorem A_main_arg0 (V : Valuation τ sig (Elt F)) : after opsA V (Proc.devRef .tc main_arg0) = V (Proc.devRef .tc main_arg0) := by
  simp only [opsA]; after_results_simp <;> rfl
set_option maxRecDepth 8192 in
set_option maxHeartbeats 2000000 in
/-- The last operations keep this argument. -/
theorem B_main_arg0 (f : (⟨S256x38016, .f32⟩ : BufTy).Contents (Elt F) → (⟨S256x38016, .i32⟩ : BufTy).Contents (Elt F) → (⟨S_, .f32⟩ : BufTy).Contents (Elt F) → (⟨S_, .i32⟩ : BufTy).Contents (Elt F) → (⟨S256, .f32⟩ : BufTy).Contents (Elt F)) (g : (⟨S256x38016, .f32⟩ : BufTy).Contents (Elt F) → (⟨S256x38016, .i32⟩ : BufTy).Contents (Elt F) → (⟨S_, .f32⟩ : BufTy).Contents (Elt F) → (⟨S_, .i32⟩ : BufTy).Contents (Elt F) → (⟨S256, .i32⟩ : BufTy).Contents (Elt F)) (V : Valuation τ sig (Elt F)) : after (opsB f g) V (Proc.devRef .tc main_arg0) = V (Proc.devRef .tc main_arg0) := by
  simp only [opsB]; after_results_simp <;> rfl
set_option maxRecDepth 8192 in
set_option maxHeartbeats 2000000 in
/-- The first operations keep this argument. -/
theorem A_main_arg1 (V : Valuation τ sig (Elt F)) : after opsA V (Proc.devRef .tc main_arg1) = V (Proc.devRef .tc main_arg1) := by
  simp only [opsA]; after_results_simp <;> rfl
set_option maxRecDepth 8192 in
set_option maxHeartbeats 2000000 in
/-- The last operations keep this argument. -/
theorem B_main_arg1 (f : (⟨S256x38016, .f32⟩ : BufTy).Contents (Elt F) → (⟨S256x38016, .i32⟩ : BufTy).Contents (Elt F) → (⟨S_, .f32⟩ : BufTy).Contents (Elt F) → (⟨S_, .i32⟩ : BufTy).Contents (Elt F) → (⟨S256, .f32⟩ : BufTy).Contents (Elt F)) (g : (⟨S256x38016, .f32⟩ : BufTy).Contents (Elt F) → (⟨S256x38016, .i32⟩ : BufTy).Contents (Elt F) → (⟨S_, .f32⟩ : BufTy).Contents (Elt F) → (⟨S_, .i32⟩ : BufTy).Contents (Elt F) → (⟨S256, .i32⟩ : BufTy).Contents (Elt F)) (V : Valuation τ sig (Elt F)) : after (opsB f g) V (Proc.devRef .tc main_arg1) = V (Proc.devRef .tc main_arg1) := by
  simp only [opsB]; after_results_simp <;> rfl
set_option maxRecDepth 8192 in
set_option maxHeartbeats 2000000 in
/-- The first operations keep this argument. -/
theorem A_main_arg2 (V : Valuation τ sig (Elt F)) : after opsA V (Proc.devRef .tc main_arg2) = V (Proc.devRef .tc main_arg2) := by
  simp only [opsA]; after_results_simp <;> rfl
set_option maxRecDepth 8192 in
set_option maxHeartbeats 2000000 in
/-- The last operations keep this argument. -/
theorem B_main_arg2 (f : (⟨S256x38016, .f32⟩ : BufTy).Contents (Elt F) → (⟨S256x38016, .i32⟩ : BufTy).Contents (Elt F) → (⟨S_, .f32⟩ : BufTy).Contents (Elt F) → (⟨S_, .i32⟩ : BufTy).Contents (Elt F) → (⟨S256, .f32⟩ : BufTy).Contents (Elt F)) (g : (⟨S256x38016, .f32⟩ : BufTy).Contents (Elt F) → (⟨S256x38016, .i32⟩ : BufTy).Contents (Elt F) → (⟨S_, .f32⟩ : BufTy).Contents (Elt F) → (⟨S_, .i32⟩ : BufTy).Contents (Elt F) → (⟨S256, .i32⟩ : BufTy).Contents (Elt F)) (V : Valuation τ sig (Elt F)) : after (opsB f g) V (Proc.devRef .tc main_arg2) = V (Proc.devRef .tc main_arg2) := by
  simp only [opsB]; after_results_simp <;> rfl
set_option maxRecDepth 8192 in
set_option maxHeartbeats 2000000 in
/-- A result after the last operations. -/
theorem B_main_v36 (f : (⟨S256x38016, .f32⟩ : BufTy).Contents (Elt F) → (⟨S256x38016, .i32⟩ : BufTy).Contents (Elt F) → (⟨S_, .f32⟩ : BufTy).Contents (Elt F) → (⟨S_, .i32⟩ : BufTy).Contents (Elt F) → (⟨S256, .f32⟩ : BufTy).Contents (Elt F)) (g : (⟨S256x38016, .f32⟩ : BufTy).Contents (Elt F) → (⟨S256x38016, .i32⟩ : BufTy).Contents (Elt F) → (⟨S_, .f32⟩ : BufTy).Contents (Elt F) → (⟨S_, .i32⟩ : BufTy).Contents (Elt F) → (⟨S256, .i32⟩ : BufTy).Contents (Elt F)) (V : Valuation τ sig (Elt F)) : after (opsB f g) V (Proc.devRef .tc main_v36) = shapeCast _ (g (V (Proc.devRef .tc main_v26)) (iotaInDim S256x38016 32 1) (constant S_ .f32 0xFF800000#32) (constantI S_ 32 0#32)) shapeCasts_S256_S1x256 := by
  simp only [opsB]; after_results_simp <;> rfl
set_option maxRecDepth 8192 in
set_option maxHeartbeats 2000000 in
/-- A result after the last operations. -/
theorem B_main_v37 (f : (⟨S256x38016, .f32⟩ : BufTy).Contents (Elt F) → (⟨S256x38016, .i32⟩ : BufTy).Contents (Elt F) → (⟨S_, .f32⟩ : BufTy).Contents (Elt F) → (⟨S_, .i32⟩ : BufTy).Contents (Elt F) → (⟨S256, .f32⟩ : BufTy).Contents (Elt F)) (g : (⟨S256x38016, .f32⟩ : BufTy).Contents (Elt F) → (⟨S256x38016, .i32⟩ : BufTy).Contents (Elt F) → (⟨S_, .f32⟩ : BufTy).Contents (Elt F) → (⟨S_, .i32⟩ : BufTy).Contents (Elt F) → (⟨S256, .i32⟩ : BufTy).Contents (Elt F)) (V : Valuation τ sig (Elt F)) : after (opsB f g) V (Proc.devRef .tc main_v37) = shapeCast _ (subf (topOf (V (Proc.devRef .tc main_v26))) (secondOf (V (Proc.devRef .tc main_v26)) (g (V (Proc.devRef .tc main_v26)) (iotaInDim S256x38016 32 1) (constant S_ .f32 0xFF800000#32) (constantI S_ 32 0#32)))) shapeCasts_S256_S1x256 := by
  simp only [opsB]; after_results_simp <;> rfl
set_option maxRecDepth 8192 in
set_option maxHeartbeats 2000000 in
/-- A result after the last operations. -/
theorem B_main_v38 (f : (⟨S256x38016, .f32⟩ : BufTy).Contents (Elt F) → (⟨S256x38016, .i32⟩ : BufTy).Contents (Elt F) → (⟨S_, .f32⟩ : BufTy).Contents (Elt F) → (⟨S_, .i32⟩ : BufTy).Contents (Elt F) → (⟨S256, .f32⟩ : BufTy).Contents (Elt F)) (g : (⟨S256x38016, .f32⟩ : BufTy).Contents (Elt F) → (⟨S256x38016, .i32⟩ : BufTy).Contents (Elt F) → (⟨S_, .f32⟩ : BufTy).Contents (Elt F) → (⟨S_, .i32⟩ : BufTy).Contents (Elt F) → (⟨S256, .i32⟩ : BufTy).Contents (Elt F)) (V : Valuation τ sig (Elt F)) : after (opsB f g) V (Proc.devRef .tc main_v38) = shapeCast _ (topOf (V (Proc.devRef .tc main_v26))) shapeCasts_S256_S1x256 := by
  simp only [opsB]; after_results_simp <;> rfl

/-- The operations are the ones up to the logits, then the rest. -/
theorem ops_split : (ops : List (HloOp τ sig (Elt F))) = opsA ++ opsB amaxF amaxI := rfl

/-- Every execution of the reference ends with the token, the margin and the greatest logit of `L` in its three results,
    and its arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v36) = shapeCast _ (tokOf (L m c)) shapeCasts_S256_S1x256
      ∧ r.2.mem ((c.tc : Thread nD τ).loc main_v37) = shapeCast _ (subf (topOf (L m c)) (secondOf (L m c) (tokOf (L m c)))) shapeCasts_S256_S1x256
      ∧ r.2.mem ((c.tc : Thread nD τ).loc main_v38) = shapeCast _ (topOf (L m c)) shapeCasts_S256_S1x256
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
      have hs : ∀ b : Ref sig .tc, r.2.mem ((c.tc : Thread nD τ).loc b) = after (opsB amaxF amaxI) (after opsA (launchContents m c)) (Proc.devRef .tc b) :=
        fun b => (h c b).trans (by rw [ops_split, StableHlo.after_append])
      have hL : after opsA (launchContents m c) (Proc.devRef .tc main_v26) = L m c := A_v26 _
      refine ⟨(hs _).trans ((B_main_v36 amaxF amaxI _).trans ?_), (hs _).trans ((B_main_v37 amaxF amaxI _).trans ?_), (hs _).trans ((B_main_v38 amaxF amaxI _).trans ?_),
        (hs _).trans ((B_main_arg0 _ _ _).trans (A_main_arg0 _)), (hs _).trans ((B_main_arg1 _ _ _).trans (A_main_arg1 _)), (hs _).trans ((B_main_arg2 _ _ _).trans (A_main_arg2 _))⟩ <;> rw [hL] <;> rfl)
    (run_seq scopedRefs_eq scopedSems_eq defs main (fun _ => ops) main_eq (fun _ => ops_sub) m ρ)

end Cert.ReferenceIdeal.Value

end
-- ==== Proof.Copy.lean ====
/-
  One local copy of a block, started and waited for: while it runs, its owner keeps the part of the source that is not
  read; when it is waited for, the destination holds what the copy wrote and the source is whole again.
-/
module

public import Idealize.ShloMosaic.Lib.Transfers
public import Idealize.ShloMosaic.Lib.Tactic

@[expose] public section

noncomputable section

namespace Cert.Proof.Copy

open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Ix : Type} [DecidableEq Ix] {Val : EltTy → Type} {Name : Type} [DecidableEq Name]
variable {U : Type} [URA U] {Lvl : Type} [Preorder Lvl] [Infinite Name]
variable (EC : UEmb Counters (MT nD τ sig Ix Val Name U Lvl)) [EC.LandsIn (upEmb : UEmb _ (MT nD τ sig Ix Val Name U Lvl))]
variable {Λ : Labels} {defs : Defs nD τ sig Val Λ} (𝒱 : Variants) (c : Thread nD τ) (bd : Option 𝒱.V)
variable {α : Type} {Q : α → sProp (MT nD τ sig Ix Val Name U Lvl)} {sp sp' : Space} {s : Shape} {e : EltTy}

local notation "𝕄" => MT nD τ sig Ix Val Name U Lvl

/-- Some contents of the elements `Sd` of a buffer satisfying `P`. -/
def Held (b : Loc nD τ sig) (Sd : Finset (Idx b)) (P : Buf Val b → Prop) : sProp 𝕄 :=
  iprop(∃ f, ⌜P f⌝ ∗ b ↦[Sd]{fullShare} f)

/-- A copy in flight from `src` into a buffer whose elements `Sd` will satisfy `P`, with the source's unread elements. -/
def Fly (sm : SemLoc sig) (ι : Ix) (N : ℕ) (a : Loc nD τ sig) (Sa : Finset (Idx a)) (q : PosShare TreeShare) (fs : Buf Val a)
    (b : Loc nD τ sig) (Sd : Finset (Idx b)) (P : Buf Val b → Prop) : sProp 𝕄 :=
  iprop(Flight EC c sm ι N iprop(Held b Sd P ∗ a ↦[Sa]{q} fs) ∗ a ↦[Finset.univ \ Sa]{q} fs)

/-- Starting a copy: the source's elements leave, the destination's too. -/
theorem start {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {fs : Buf Val (src.view.loc c)}
    {Sd : Finset (Idx (dst.view.loc c))} (P0 P : Buf Val (dst.view.loc c) → Prop)
    (ι : Ix) (N : ℕ) (hN : dst.view.amount sm = N) (hN0 : 0 < N) (hSd : dst.view.set ⊆ Sd)
    (hP : ∀ fd, P0 fd → P (dst.view.write Val fd (ReadAs.same.apply (src.view.read Val fs)) Finset.univ)) :
    iprop((src.view.loc c ↦{q} fs) ∗ Held (dst.view.loc c) Sd P0 ∗ semVal (c, sm) 0)
      ⊢ iprop((Fly EC c sm ι N (src.view.loc c) src.view.set q fs (dst.view.loc c) Sd P -∗ wp frame (wpE defs 𝒱 c bd) Set.univ (k ⟨⟩) Q)
          -∗ wp frame (wpE defs 𝒱 c bd) Set.univ (.op (.enqueueDmaAs src (.here dst) ReadAs.same sm hsrc hdst hsem) k) Q) := by
  unfold Fly Held
  iintro ⟨Hs, ⟨%fd, %h0, Hd⟩, Hv⟩ Hk
  ihave Hs := (pointsTo_split_subset (Finset.subset_univ src.view.set)).1 $$ Hs
  icases Hs with ⟨Hs, Hr⟩
  iapply (wp_dmaLocal EC 𝒱 c bd ι N hN hN0 hSd) $$ [Hs Hd Hv]
  · isplitl [Hs]; · iexact Hs
    isplitl [Hd]; · iexact Hd
    iexact Hv
  iintro HF
  iapply Hk
  isplitl [HF]
  · iapply (Flight_mono (EC := EC) (c := c) ?_) $$ HF
    iintro ⟨Hd, Hs⟩
    isplitl [Hd]
    · iexists _
      isplitr
      · ipureintro; exact hP fd h0
      · iexact Hd
    · iexact Hs
  · iexact Hr

/-- Waiting for a copy: the destination is back at what the copy wrote, the source whole. -/
theorem wait {κ' : Kind} {sem : DmaSem sig} {s' : Shape} {e' : EltTy}
    {srcw : Memref sig c.2.kind sp' s' e'} {dstw : Memref sig κ' sp s e} {hsrc : srcw.view.WordExact} {hdst : dstw.view.WordExact}
    {k : PUnit → Prog (TpuEff nD τ sig Val Λ c.2) α} (ι : Ix) {N : ℕ} (hN : dstw.view.dmaCredit = N)
    {a : Loc nD τ sig} {Sa : Finset (Idx a)} {q : PosShare TreeShare} {fs : Buf Val a} {b : Loc nD τ sig} {Sd : Finset (Idx b)} {P : Buf Val b → Prop} :
    iprop(Fly EC c (.dma sem) ι N a Sa q fs b Sd P ∗ (∃ W : Waits sig Ix, owes c 0 W))
      ⊢ iprop((iprop(((a ↦{q} fs) ∗ Held b Sd P ∗ semVal (c, .dma sem) 0) ∗ (∃ W : Waits sig Ix, owes c 0 W)) -∗ wp frame (wpE defs 𝒱 c bd) Set.univ (k ⟨⟩) Q)
          -∗ wp frame (wpE defs 𝒱 c bd) Set.univ (.op (.waitDma2 sem srcw dstw hsrc hdst) k) Q) := by
  unfold Fly
  iintro ⟨⟨HF, Hr⟩, %W, HW⟩ Hk
  iapply (wp_waitLocal EC 𝒱 c bd ι hN (D := iprop(Held b Sd P ∗ a ↦[Sa]{q} fs))) $$ [HF HW]
  · isplitl [HF]; · iexact HF
    iexact HW
  iintro ⟨⟨Hd, Hs⟩, Hv, HW⟩
  iapply Hk
  isplitl [Hd Hs Hr Hv]
  · isplitl [Hs Hr]
    · iapply (pointsTo_split_subset (Finset.subset_univ Sa)).2
      isplitl [Hs]; · iexact Hs
      iexact Hr
    · isplitl [Hd]; · iexact Hd
      iexact Hv
  · iexists _
    iexact HW

end Cert.Proof.Copy

end
-- ==== Proof.RingI.lean ====
/-
  The idealized kernel's buffers, semaphores and copies as one resource: which copies are running is its index, and
  every operation of the kernel takes it to itself at another index.
-/
module

public import proofs.«01_k».proof.Proof.Gen.KernelIdeal.Launch
public import proofs.«01_k».proof.Proof.Gen.KernelIdeal.Points
public import proofs.«01_k».proof.Proof.Copy
public import Idealize.ShloMosaic.Lib.Pipeline.Frame
public import Idealize.ShloMosaic.Lib.ReshapeSlab
public import Idealize.ShloMosaic.Lib.Ring.FamCut
public import Idealize.ShloMosaic.Lib.Exec.Context

@[expose] public section

noncomputable section

namespace Cert.Proof.KernelIdeal

open Cert.KernelIdeal Cert.KernelIdeal.Gen Cert.Proof
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The buffers -/

abbrev a0 : Memref sig .tc .hbm S256x3584 .bf16 := Memref.whole main_v0
abbrev a1 : Memref sig .tc .hbm S38016x1792 .i8 := Memref.whole main_arg1
abbrev a2 : Memref sig .tc .hbm S38016x112 .bf16 := Memref.whole main_arg2
abbrev a6 : Memref sig .tc .vmem S256x3584 .bf16 := Memref.whole cc0_scratch0
abbrev a7 : Memref sig .tc .vmem S14x128x2x256 .bf16 := Memref.whole cc0_scratch1
abbrev a8 : Memref sig .tc .vmem S4x704x1792 .i8 := Memref.whole cc0_scratch2
abbrev a9 : Memref sig .tc .vmem S4x704x112 .bf16 := Memref.whole cc0_scratch3
abbrev a10 : Memref sig .tc .vmem S2x176x2x128 .bf16 := Memref.whole cc0_scratch4
abbrev a11 : Memref sig .tc .vmem S2x176x2x256 .bf16 := Memref.whole cc0_scratch5

theorem inb8 (j : Fin 4) : ∀ a, (![j.val, 0, 0] : Fin 3 → ℕ) a + S1x704x1792.size a ≤ S4x704x1792.size a := by
  intro a; fin_cases a <;> simp [Shape.size] <;> omega
theorem inb9 (j : Fin 4) : ∀ a, (![j.val, 0, 0] : Fin 3 → ℕ) a + S1x704x112.size a ≤ S4x704x112.size a := by
  intro a; fin_cases a <;> simp [Shape.size] <;> omega
theorem inbS (j : Fin 4) : ∀ a, (![j.val] : Fin 1 → ℕ) a + S1.size a ≤ S4.size a := by
  intro a; fin_cases a; simp [Shape.size]; omega

/-- The ring's slots and their semaphores. -/
abbrev d8 (j : Fin 4) : Memref sig .tc .vmem S704x1792 .i8 :=
  (a8.slice (Rect.unit (s := S4x704x1792) ![j.val, 0, 0] S1x704x1792.size (inb8 j)) (fun _ => rfl)).squeeze S704x1792 squeezes_S1x704x1792_S704x1792
abbrev d9 (j : Fin 4) : Memref sig .tc .vmem S704x112 .bf16 :=
  (a9.slice (Rect.unit (s := S4x704x112) ![j.val, 0, 0] S1x704x112.size (inb9 j)) (fun _ => rfl)).squeeze S704x112 squeezes_S1x704x112_S704x112
abbrev q8 (j : Fin 4) : DmaSem sig := ((cc0_scratch7.slice (Rect.unit (s := S4) ![j.val] S1.size (inbS j))).squeeze S_ squeezes_S1_S_).sem
abbrev q9 (j : Fin 4) : DmaSem sig := ((cc0_scratch8.slice (Rect.unit (s := S4) ![j.val] S1.size (inbS j))).squeeze S_ squeezes_S1_S_).sem

/-- The share of the arrays each slot's copies read. -/
def qs : Fin 4 → PosShare TreeShare
  | 0 => fullShare.left.left
  | 1 => fullShare.left.right
  | 2 => fullShare.right.left
  | 3 => fullShare.right.right

abbrev ℓ8 (c : Dev nD) : Loc nD τ sig := a8.view.loc (c : Thread nD τ)
abbrev ℓ9 (c : Dev nD) : Loc nD τ sig := a9.view.loc (c : Thread nD τ)
def R8 (j : Fin 4) : Rect S4x704x1792 := Rect.unit (s := S4x704x1792) ![j.val, 0, 0] S1x704x1792.size (inb8 j)
def I8 (c : Dev nD) (j : Fin 4) : Finset (Idx (ℓ8 c)) := (a8.view.slice (R8 j)).set
theorem set8 (c : Dev nD) (j : Fin 4) : (d8 j).view.set = I8 c j := View.set_reshape _ _
def R9 (j : Fin 4) : Rect S4x704x112 := Rect.unit (s := S4x704x112) ![j.val, 0, 0] S1x704x112.size (inb9 j)
def I9 (c : Dev nD) (j : Fin 4) : Finset (Idx (ℓ9 c)) := (a9.view.slice (R9 j)).set
theorem set9 (c : Dev nD) (j : Fin 4) : (d9 j).view.set = I9 c j := View.set_reshape _ _

theorem I8_disj (c : Dev nD) : ∀ i j, i ≠ j → Disjoint (I8 c i) (I8 c j) := fun i j h =>
  View.disjoint_slice_of_sep a8.view (R8 i) (R8 j) (0 : Fin 3) rfl rfl
    (show i.val + 1 ≤ j.val ∨ j.val + 1 ≤ i.val by
      have : i.val ≠ j.val := fun e => h (Fin.ext e)
      omega)
theorem I9_disj (c : Dev nD) : ∀ i j, i ≠ j → Disjoint (I9 c i) (I9 c j) := fun i j h =>
  View.disjoint_slice_of_sep a9.view (R9 i) (R9 j) (0 : Fin 3) rfl rfl
    (show i.val + 1 ≤ j.val ∨ j.val + 1 ≤ i.val by
      have : i.val ≠ j.val := fun e => h (Fin.ext e)
      omega)

/-- Some contents of a whole buffer. -/
def any (c : Dev nD) {sp : Space} {s : Shape} {e : EltTy} (M : Memref sig .tc sp s e) : sProp 𝕄 :=
  iprop(∃ f : Buf (Elt F) (M.view.loc (c : Thread nD τ)), M.view.loc (c : Thread nD τ) ↦{fullShare} f)

abbrev yes {α : Type} : α → Prop := fun _ => True

abbrev EC : UEmb Counters 𝕄 := countersEmb

abbrev N8 : ℕ := (d8 0).view.amount (.dma (q8 0))
abbrev N9 : ℕ := (d9 0).view.amount (.dma (q9 0))
abbrev N6 : ℕ := a6.view.amount (.dma cc0_scratch6.sem)

section
variable (c : Dev nD) (V : (b : Ref sig .tc) → Buf (Elt F) ((c : Thread nD τ).loc b))

/-- A slot of the codes' ring, its copy running or not. -/
def St8 (j : Fin 4) : Bool → sProp 𝕄
  | false => iprop((a1.view.loc (c : Thread nD τ) ↦{qs j} (V main_arg1)) ∗ Copy.Held (ℓ8 c) (I8 c j) yes ∗ semVal ((c : Thread nD τ), .dma (q8 j)) 0)
  | true => iprop(∃ Sa, Copy.Fly EC (c : Thread nD τ) (.dma (q8 j)) () N8 (a1.view.loc (c : Thread nD τ)) Sa (qs j) (V main_arg1) (ℓ8 c) (I8 c j) yes)
/-- A slot of the scales' ring, its copy running or not. -/
def St9 (j : Fin 4) : Bool → sProp 𝕄
  | false => iprop((a2.view.loc (c : Thread nD τ) ↦{qs j} (V main_arg2)) ∗ Copy.Held (ℓ9 c) (I9 c j) yes ∗ semVal ((c : Thread nD τ), .dma (q9 j)) 0)
  | true => iprop(∃ Sa, Copy.Fly EC (c : Thread nD τ) (.dma (q9 j)) () N9 (a2.view.loc (c : Thread nD τ)) Sa (qs j) (V main_arg2) (ℓ9 c) (I9 c j) yes)
/-- The copy of `x`, running or not. -/
def StX : Bool → sProp 𝕄
  | false => iprop((a0.view.loc (c : Thread nD τ) ↦{fullShare} (V main_v0)) ∗ Copy.Held (a6.view.loc (c : Thread nD τ)) Finset.univ yes ∗ semVal ((c : Thread nD τ), .dma cc0_scratch6.sem) 0)
  | true => iprop(∃ Sa, Copy.Fly EC (c : Thread nD τ) (.dma cc0_scratch6.sem) () N6 (a0.view.loc (c : Thread nD τ)) Sa fullShare (V main_v0) (a6.view.loc (c : Thread nD τ)) Finset.univ yes)

theorem St8_false (j : Fin 4) : St8 c V j false = iprop((a1.view.loc (c : Thread nD τ) ↦{qs j} (V main_arg1)) ∗ Copy.Held (ℓ8 c) (I8 c j) yes ∗ semVal ((c : Thread nD τ), .dma (q8 j)) 0) := rfl
theorem St8_true (j : Fin 4) : St8 c V j true = iprop(∃ Sa, Copy.Fly EC (c : Thread nD τ) (.dma (q8 j)) () N8 (a1.view.loc (c : Thread nD τ)) Sa (qs j) (V main_arg1) (ℓ8 c) (I8 c j) yes) := rfl
theorem St9_false (j : Fin 4) : St9 c V j false = iprop((a2.view.loc (c : Thread nD τ) ↦{qs j} (V main_arg2)) ∗ Copy.Held (ℓ9 c) (I9 c j) yes ∗ semVal ((c : Thread nD τ), .dma (q9 j)) 0) := rfl
theorem St9_true (j : Fin 4) : St9 c V j true = iprop(∃ Sa, Copy.Fly EC (c : Thread nD τ) (.dma (q9 j)) () N9 (a2.view.loc (c : Thread nD τ)) Sa (qs j) (V main_arg2) (ℓ9 c) (I9 c j) yes) := rfl
theorem StX_false : StX c V false = iprop((a0.view.loc (c : Thread nD τ) ↦{fullShare} (V main_v0)) ∗ Copy.Held (a6.view.loc (c : Thread nD τ)) Finset.univ yes ∗ semVal ((c : Thread nD τ), .dma cc0_scratch6.sem) 0) := rfl
theorem StX_true : StX c V true = iprop(∃ Sa, Copy.Fly EC (c : Thread nD τ) (.dma cc0_scratch6.sem) () N6 (a0.view.loc (c : Thread nD τ)) Sa fullShare (V main_v0) (a6.view.loc (c : Thread nD τ)) Finset.univ yes) := rfl
end

/-- Four slots at their states. -/
def Four (P : Fin 4 → Bool → sProp 𝕄) (s : Fin 4 → Bool) : sProp 𝕄 := iprop(P 0 (s 0) ∗ P 1 (s 1) ∗ P 2 (s 2) ∗ P 3 (s 3))

/-- One of four slots taken out, and put back in any state. -/
theorem four_take (P : Fin 4 → Bool → sProp 𝕄) (s : Fin 4 → Bool) (j : Fin 4) :
    Four P s ⊢ iprop(P j (s j) ∗ ∀ b, P j b -∗ Four P (Function.update s j b)) := by
  unfold Four
  have h : ∀ i, i ≠ j → ∀ b, Function.update s j b i = s i := fun i hi b => Function.update_of_ne hi _ _
  have e : ∀ b, Function.update s j b j = b := fun b => Function.update_self _ _ _
  match j, h, e with
  | 0, h, e =>
    iintro ⟨H0, H1, H2, H3⟩
    isplitl [H0]; · iexact H0
    iintro %b H
    rw [e, h 1 (by decide), h 2 (by decide), h 3 (by decide)]
    isplitl [H]; · iexact H
    isplitl [H1]; · iexact H1
    isplitl [H2]; · iexact H2
    iexact H3
  | 1, h, e =>
    iintro ⟨H0, H1, H2, H3⟩
    isplitl [H1]; · iexact H1
    iintro %b H
    rw [e, h 0 (by decide), h 2 (by decide), h 3 (by decide)]
    isplitl [H0]; · iexact H0
    isplitl [H]; · iexact H
    isplitl [H2]; · iexact H2
    iexact H3
  | 2, h, e =>
    iintro ⟨H0, H1, H2, H3⟩
    isplitl [H2]; · iexact H2
    iintro %b H
    rw [e, h 0 (by decide), h 1 (by decide), h 3 (by decide)]
    isplitl [H0]; · iexact H0
    isplitl [H1]; · iexact H1
    isplitl [H]; · iexact H
    iexact H3
  | 3, h, e =>
    iintro ⟨H0, H1, H2, H3⟩
    isplitl [H3]; · iexact H3
    iintro %b H
    rw [e, h 0 (by decide), h 1 (by decide), h 2 (by decide)]
    isplitl [H0]; · iexact H0
    isplitl [H1]; · iexact H1
    isplitl [H2]; · iexact H2
    iexact H

section
variable (c : Dev nD) (V : (b : Ref sig .tc) → Buf (Elt F) ((c : Thread nD τ).loc b))
variable (a3 : Memref sig .tc .vmem S1x256 .i32) (a4 a5 : Memref sig .tc .vmem S1x256 .f32)

/-- Everything the kernel holds: the copy of `x` in state `x`, the rings' in states `s8`, `s9`. -/
def RS (x : Bool) (s8 s9 : Fin 4 → Bool) : sProp 𝕄 :=
  iprop(any c a3 ∗ any c a4 ∗ any c a5 ∗ StX c V x ∗ any c a7 ∗ Four (St8 c V) s8 ∗ Four (St9 c V) s9 ∗ any c a10 ∗ any c a11
    ∗ ∃ W : Waits sig Unit, owes (c : Thread nD τ) 0 W)

theorem RS_a3 (x : Bool) (s8 s9 : Fin 4 → Bool) : RS c V a3 a4 a5 x s8 s9 ⊢ iprop(any c a3 ∗ (any c a3 -∗ RS c V a3 a4 a5 x s8 s9)) := by
  unfold RS
  iintro ⟨Ha3, Ha4, Ha5, Hx, Ha7, Hs8, Hs9, Ha10, Ha11, HW⟩
  isplitl [Ha3]; · iexact Ha3
  iintro H
  isplitl [H]; · iexact H
  isplitl [Ha4]; · iexact Ha4
  isplitl [Ha5]; · iexact Ha5
  isplitl [Hx]; · iexact Hx
  isplitl [Ha7]; · iexact Ha7
  isplitl [Hs8]; · iexact Hs8
  isplitl [Hs9]; · iexact Hs9
  isplitl [Ha10]; · iexact Ha10
  isplitl [Ha11]; · iexact Ha11
  iexact HW

theorem RS_a4 (x : Bool) (s8 s9 : Fin 4 → Bool) : RS c V a3 a4 a5 x s8 s9 ⊢ iprop(any c a4 ∗ (any c a4 -∗ RS c V a3 a4 a5 x s8 s9)) := by
  unfold RS
  iintro ⟨Ha3, Ha4, Ha5, Hx, Ha7, Hs8, Hs9, Ha10, Ha11, HW⟩
  isplitl [Ha4]; · iexact Ha4
  iintro H
  isplitl [Ha3]; · iexact Ha3
  isplitl [H]; · iexact H
  isplitl [Ha5]; · iexact Ha5
  isplitl [Hx]; · iexact Hx
  isplitl [Ha7]; · iexact Ha7
  isplitl [Hs8]; · iexact Hs8
  isplitl [Hs9]; · iexact Hs9
  isplitl [Ha10]; · iexact Ha10
  isplitl [Ha11]; · iexact Ha11
  iexact HW

theorem RS_a5 (x : Bool) (s8 s9 : Fin 4 → Bool) : RS c V a3 a4 a5 x s8 s9 ⊢ iprop(any c a5 ∗ (any c a5 -∗ RS c V a3 a4 a5 x s8 s9)) := by
  unfold RS
  iintro ⟨Ha3, Ha4, Ha5, Hx, Ha7, Hs8, Hs9, Ha10, Ha11, HW⟩
  isplitl [Ha5]; · iexact Ha5
  iintro H
  isplitl [Ha3]; · iexact Ha3
  isplitl [Ha4]; · iexact Ha4
  isplitl [H]; · iexact H
  isplitl [Hx]; · iexact Hx
  isplitl [Ha7]; · iexact Ha7
  isplitl [Hs8]; · iexact Hs8
  isplitl [Hs9]; · iexact Hs9
  isplitl [Ha10]; · iexact Ha10
  isplitl [Ha11]; · iexact Ha11
  iexact HW

theorem RS_a7 (x : Bool) (s8 s9 : Fin 4 → Bool) : RS c V a3 a4 a5 x s8 s9 ⊢ iprop(any c a7 ∗ (any c a7 -∗ RS c V a3 a4 a5 x s8 s9)) := by
  unfold RS
  iintro ⟨Ha3, Ha4, Ha5, Hx, Ha7, Hs8, Hs9, Ha10, Ha11, HW⟩
  isplitl [Ha7]; · iexact Ha7
  iintro H
  isplitl [Ha3]; · iexact Ha3
  isplitl [Ha4]; · iexact Ha4
  isplitl [Ha5]; · iexact Ha5
  isplitl [Hx]; · iexact Hx
  isplitl [H]; · iexact H
  isplitl [Hs8]; · iexact Hs8
  isplitl [Hs9]; · iexact Hs9
  isplitl [Ha10]; · iexact Ha10
  isplitl [Ha11]; · iexact Ha11
  iexact HW

theorem RS_a10 (x : Bool) (s8 s9 : Fin 4 → Bool) : RS c V a3 a4 a5 x s8 s9 ⊢ iprop(any c a10 ∗ (any c a10 -∗ RS c V a3 a4 a5 x s8 s9)) := by
  unfold RS
  iintro ⟨Ha3, Ha4, Ha5, Hx, Ha7, Hs8, Hs9, Ha10, Ha11, HW⟩
  isplitl [Ha10]; · iexact Ha10
  iintro H
  isplitl [Ha3]; · iexact Ha3
  isplitl [Ha4]; · iexact Ha4
  isplitl [Ha5]; · iexact Ha5
  isplitl [Hx]; · iexact Hx
  isplitl [Ha7]; · iexact Ha7
  isplitl [Hs8]; · iexact Hs8
  isplitl [Hs9]; · iexact Hs9
  isplitl [H]; · iexact H
  isplitl [Ha11]; · iexact Ha11
  iexact HW

theorem RS_a11 (x : Bool) (s8 s9 : Fin 4 → Bool) : RS c V a3 a4 a5 x s8 s9 ⊢ iprop(any c a11 ∗ (any c a11 -∗ RS c V a3 a4 a5 x s8 s9)) := by
  unfold RS
  iintro ⟨Ha3, Ha4, Ha5, Hx, Ha7, Hs8, Hs9, Ha10, Ha11, HW⟩
  isplitl [Ha11]; · iexact Ha11
  iintro H
  isplitl [Ha3]; · iexact Ha3
  isplitl [Ha4]; · iexact Ha4
  isplitl [Ha5]; · iexact Ha5
  isplitl [Hx]; · iexact Hx
  isplitl [Ha7]; · iexact Ha7
  isplitl [Hs8]; · iexact Hs8
  isplitl [Hs9]; · iexact Hs9
  isplitl [Ha10]; · iexact Ha10
  isplitl [H]; · iexact H
  iexact HW

theorem RS_x (x : Bool) (s8 s9 : Fin 4 → Bool) : RS c V a3 a4 a5 x s8 s9 ⊢ iprop((StX c V x ∗ ∃ W : Waits sig Unit, owes (c : Thread nD τ) 0 W)
    ∗ ∀ b, (StX c V b ∗ ∃ W : Waits sig Unit, owes (c : Thread nD τ) 0 W) -∗ RS c V a3 a4 a5 b s8 s9) := by
  unfold RS
  iintro ⟨Ha3, Ha4, Ha5, Hx, Ha7, Hs8, Hs9, Ha10, Ha11, HW⟩
  isplitl [Hx HW]
  · isplitl [Hx]; · iexact Hx
    iexact HW
  iintro %b ⟨H, HW⟩
  isplitl [Ha3]; · iexact Ha3
  isplitl [Ha4]; · iexact Ha4
  isplitl [Ha5]; · iexact Ha5
  isplitl [H]; · iexact H
  isplitl [Ha7]; · iexact Ha7
  isplitl [Hs8]; · iexact Hs8
  isplitl [Hs9]; · iexact Hs9
  isplitl [Ha10]; · iexact Ha10
  isplitl [Ha11]; · iexact Ha11
  iexact HW

theorem RS_8 (x : Bool) (s8 s9 : Fin 4 → Bool) (j : Fin 4) : RS c V a3 a4 a5 x s8 s9 ⊢ iprop((St8 c V j (s8 j) ∗ ∃ W : Waits sig Unit, owes (c : Thread nD τ) 0 W)
    ∗ ∀ b, (St8 c V j b ∗ ∃ W : Waits sig Unit, owes (c : Thread nD τ) 0 W) -∗ RS c V a3 a4 a5 x (Function.update s8 j b) s9) := by
  unfold RS
  iintro ⟨Ha3, Ha4, Ha5, Hx, Ha7, Hs8, Hs9, Ha10, Ha11, HW⟩
  ihave Hs8 := (four_take (St8 c V) s8 j) $$ Hs8
  icases Hs8 with ⟨Hj, Hr⟩
  isplitl [Hj HW]
  · isplitl [Hj]; · iexact Hj
    iexact HW
  iintro %b ⟨H, HW⟩
  ispecialize Hr $$ %b H
  isplitl [Ha3]; · iexact Ha3
  isplitl [Ha4]; · iexact Ha4
  isplitl [Ha5]; · iexact Ha5
  isplitl [Hx]; · iexact Hx
  isplitl [Ha7]; · iexact Ha7
  isplitl [Hr]; · iexact Hr
  isplitl [Hs9]; · iexact Hs9
  isplitl [Ha10]; · iexact Ha10
  isplitl [Ha11]; · iexact Ha11
  iexact HW

theorem RS_9 (x : Bool) (s8 s9 : Fin 4 → Bool) (j : Fin 4) : RS c V a3 a4 a5 x s8 s9 ⊢ iprop((St9 c V j (s9 j) ∗ ∃ W : Waits sig Unit, owes (c : Thread nD τ) 0 W)
    ∗ ∀ b, (St9 c V j b ∗ ∃ W : Waits sig Unit, owes (c : Thread nD τ) 0 W) -∗ RS c V a3 a4 a5 x s8 (Function.update s9 j b)) := by
  unfold RS
  iintro ⟨Ha3, Ha4, Ha5, Hx, Ha7, Hs8, Hs9, Ha10, Ha11, HW⟩
  ihave Hs9 := (four_take (St9 c V) s9 j) $$ Hs9
  icases Hs9 with ⟨Hj, Hr⟩
  isplitl [Hj HW]
  · isplitl [Hj]; · iexact Hj
    iexact HW
  iintro %b ⟨H, HW⟩
  ispecialize Hr $$ %b H
  isplitl [Ha3]; · iexact Ha3
  isplitl [Ha4]; · iexact Ha4
  isplitl [Ha5]; · iexact Ha5
  isplitl [Hx]; · iexact Hx
  isplitl [Ha7]; · iexact Ha7
  isplitl [Hs8]; · iexact Hs8
  isplitl [Hr]; · iexact Hr
  isplitl [Ha10]; · iexact Ha10
  isplitl [Ha11]; · iexact Ha11
  iexact HW

end

end Cert.Proof.KernelIdeal
-- ==== Proof.StepI.lean ====
/-
  The operations of the idealized kernel over its one resource (Proof/RingI.lean).
-/
module

public import proofs.«01_k».proof.Proof.RingI
public import Idealize.ShloMosaic.Rules.Step

@[expose] public section

noncomputable section

namespace Cert.Proof.KernelIdeal

open Cert.KernelIdeal Cert.KernelIdeal.Gen Cert.Proof
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The kernel's core runs `p` to `Q`. -/
abbrev Wk (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

section
variable (c : Dev nD)

/-- A load of a whole buffer held by `P`. -/
theorem load_any {α : Type} {Q : α → sProp 𝕄} {P : sProp 𝕄} {sp : CoreSpace} {s : Shape} {e : EltTy} {M : Memref sig .tc sp s e}
    (h : P ⊢ iprop(any c M ∗ (any c M -∗ P))) {r : LoadRect s} {hl : M.view.LoadsAt r}
    {k : (r.shape.Idx → Elt F e) → Prog (TpuEff nD τ sig (Elt F) Λ₀ .tc) α} :
    P ⊢ iprop((∀ v, P -∗ Wk c (k v) Q) -∗ Wk c (.op (.load M r hl) k) Q) := by
  iintro HP Hk
  ihave HP := h $$ HP
  icases HP with ⟨HM, HP⟩
  unfold any
  icases HM with ⟨%f, HM⟩
  iapply (wp_load (c := (c : Thread nD τ)) Variants.none none Set.univ (Finset.subset_univ _)) $$ HM
  iintro HM
  iapply Hk
  iapply HP
  iexists f
  iexact HM

/-- A store into a whole buffer held by `P`. -/
theorem store_any {α : Type} {Q : α → sProp 𝕄} {P : sProp 𝕄} {sp : CoreSpace} {s : Shape} {e : EltTy} {M : Memref sig .tc sp s e}
    (h : P ⊢ iprop(any c M ∗ (any c M -∗ P))) {r : Rect s} {w : r.shape.Idx → Elt F e} {Mk : Finset r.shape.Idx} {hx : (M.access r).Stores Mk} {hm : Mk = Finset.univ ∨ _}
    {k : PUnit → Prog (TpuEff nD τ sig (Elt F) Λ₀ .tc) α} :
    P ⊢ iprop((P -∗ Wk c (k ⟨⟩) Q) -∗ Wk c (.op (.store M r w Mk hx hm) k) Q) := by
  iintro HP Hk
  ihave HP := h $$ HP
  icases HP with ⟨HM, HP⟩
  unfold any
  icases HM with ⟨%f, HM⟩
  iapply (wp_store (c := (c : Thread nD τ)) (m := M) (r := r) (f := f) Variants.none none Set.univ (Finset.subset_univ _)) $$ HM
  iintro HM
  iapply Hk
  iapply HP
  iexists _
  iexact HM

end

section
variable (c : Dev nD) (V : (b : Ref sig .tc) → Buf (Elt F) ((c : Thread nD τ).loc b))
variable (a3 : Memref sig .tc .vmem S1x256 .i32) (a4 a5 : Memref sig .tc .vmem S1x256 .f32)
variable {x : Bool} {s8 s9 : Fin 4 → Bool}

/-- A slot at rest and in flight, as its parts. -/
abbrev H8 (j : Fin 4) : sProp 𝕄 := iprop((a1.view.loc (c : Thread nD τ) ↦{qs j} (V main_arg1)) ∗ Copy.Held (ℓ8 c) (I8 c j) yes ∗ semVal ((c : Thread nD τ), .dma (q8 j)) 0)
abbrev T8 (j : Fin 4) : sProp 𝕄 := iprop(∃ Sa, Copy.Fly EC (c : Thread nD τ) (.dma (q8 j)) () N8 (a1.view.loc (c : Thread nD τ)) Sa (qs j) (V main_arg1) (ℓ8 c) (I8 c j) yes)
abbrev H9 (j : Fin 4) : sProp 𝕄 := iprop((a2.view.loc (c : Thread nD τ) ↦{qs j} (V main_arg2)) ∗ Copy.Held (ℓ9 c) (I9 c j) yes ∗ semVal ((c : Thread nD τ), .dma (q9 j)) 0)
abbrev T9 (j : Fin 4) : sProp 𝕄 := iprop(∃ Sa, Copy.Fly EC (c : Thread nD τ) (.dma (q9 j)) () N9 (a2.view.loc (c : Thread nD τ)) Sa (qs j) (V main_arg2) (ℓ9 c) (I9 c j) yes)
abbrev HX : sProp 𝕄 := iprop((a0.view.loc (c : Thread nD τ) ↦{fullShare} (V main_v0)) ∗ Copy.Held (a6.view.loc (c : Thread nD τ)) Finset.univ yes ∗ semVal ((c : Thread nD τ), .dma cc0_scratch6.sem) 0)
abbrev TX : sProp 𝕄 := iprop(∃ Sa, Copy.Fly EC (c : Thread nD τ) (.dma cc0_scratch6.sem) () N6 (a0.view.loc (c : Thread nD τ)) Sa fullShare (V main_v0) (a6.view.loc (c : Thread nD τ)) Finset.univ yes)
abbrev OW : sProp 𝕄 := iprop(∃ W : Waits sig Unit, owes (c : Thread nD τ) 0 W)

theorem take8 (b b' : Bool) {j : Fin 4} (hj : s8 j = b) : RS c V a3 a4 a5 x s8 s9 ⊢ iprop((St8 c V j b ∗ OW c)
    ∗ ((St8 c V j b' ∗ OW c) -∗ RS c V a3 a4 a5 x (Function.update s8 j b') s9)) := by
  subst hj
  iintro HP
  ihave HP := (RS_8 c V a3 a4 a5 x s8 s9 j) $$ HP
  icases HP with ⟨H, HP⟩
  isplitl [H]; · iexact H
  iapply HP
theorem take8_ft {j : Fin 4} (hj : s8 j = false) : RS c V a3 a4 a5 x s8 s9 ⊢ iprop((H8 c V j ∗ OW c) ∗ ((T8 c V j ∗ OW c) -∗ RS c V a3 a4 a5 x (Function.update s8 j true) s9)) :=
  take8 c V a3 a4 a5 false true hj
theorem take8_tf {j : Fin 4} (hj : s8 j = true) : RS c V a3 a4 a5 x s8 s9 ⊢ iprop((T8 c V j ∗ OW c) ∗ ((H8 c V j ∗ OW c) -∗ RS c V a3 a4 a5 x (Function.update s8 j false) s9)) :=
  take8 c V a3 a4 a5 true false hj
theorem take9 (b b' : Bool) {j : Fin 4} (hj : s9 j = b) : RS c V a3 a4 a5 x s8 s9 ⊢ iprop((St9 c V j b ∗ OW c)
    ∗ ((St9 c V j b' ∗ OW c) -∗ RS c V a3 a4 a5 x s8 (Function.update s9 j b'))) := by
  subst hj
  iintro HP
  ihave HP := (RS_9 c V a3 a4 a5 x s8 s9 j) $$ HP
  icases HP with ⟨H, HP⟩
  isplitl [H]; · iexact H
  iapply HP
theorem take9_ft {j : Fin 4} (hj : s9 j = false) : RS c V a3 a4 a5 x s8 s9 ⊢ iprop((H9 c V j ∗ OW c) ∗ ((T9 c V j ∗ OW c) -∗ RS c V a3 a4 a5 x s8 (Function.update s9 j true))) :=
  take9 c V a3 a4 a5 false true hj
theorem take9_tf {j : Fin 4} (hj : s9 j = true) : RS c V a3 a4 a5 x s8 s9 ⊢ iprop((T9 c V j ∗ OW c) ∗ ((H9 c V j ∗ OW c) -∗ RS c V a3 a4 a5 x s8 (Function.update s9 j false))) :=
  take9 c V a3 a4 a5 true false hj
theorem takeX_ft : RS c V a3 a4 a5 false s8 s9 ⊢ iprop((HX c V ∗ OW c) ∗ ((TX c V ∗ OW c) -∗ RS c V a3 a4 a5 true s8 s9)) := by
  iintro HP
  ihave HP := (RS_x c V a3 a4 a5 false s8 s9) $$ HP
  icases HP with ⟨H, HP⟩
  isplitl [H]; · iexact H
  ispecialize HP $$ %true
  iexact HP
theorem takeX_tf : RS c V a3 a4 a5 true s8 s9 ⊢ iprop((TX c V ∗ OW c) ∗ ((HX c V ∗ OW c) -∗ RS c V a3 a4 a5 false s8 s9)) := by
  iintro HP
  ihave HP := (RS_x c V a3 a4 a5 true s8 s9) $$ HP
  icases HP with ⟨H, HP⟩
  isplitl [H]; · iexact H
  ispecialize HP $$ %false
  iexact HP

theorem held_out {b : Loc nD τ sig} {S : Finset (Idx b)} : Copy.Held (Name := ℕ) (U := Pipeline.UD sig nD τ) (Lvl := ℕ) (Ix := Unit) (Val := Elt F) b S yes ⊢ (iprop(∃ f, b ↦[S]{fullShare} f) : sProp 𝕄) := by
  unfold Copy.Held
  iintro ⟨%f, %hf, HM⟩
  iexists f
  iexact HM
theorem held_in {b : Loc nD τ sig} {S : Finset (Idx b)} : (iprop(∃ f, b ↦[S]{fullShare} f) : sProp 𝕄) ⊢ Copy.Held (Name := ℕ) (U := Pipeline.UD sig nD τ) (Lvl := ℕ) (Ix := Unit) (Val := Elt F) b S yes := by
  unfold Copy.Held
  iintro ⟨%f, HM⟩
  iexists f
  isplitr; · ipureintro; trivial
  iexact HM

theorem take8_ff {j : Fin 4} (hj : s8 j = false) : RS c V a3 a4 a5 x s8 s9 ⊢ iprop((∃ f, ℓ8 c ↦[I8 c j]{fullShare} f) ∗ ((∃ f, ℓ8 c ↦[I8 c j]{fullShare} f) -∗ RS c V a3 a4 a5 x s8 s9)) := by
  have hu : Function.update s8 j false = s8 := by rw [← hj]; exact Function.update_eq_self _ _
  have h := take8 c V a3 a4 a5 (x := x) (s8 := s8) (s9 := s9) false false hj
  rw [hu] at h
  refine h.trans ?_
  change iprop((H8 c V j ∗ OW c) ∗ ((H8 c V j ∗ OW c) -∗ RS c V a3 a4 a5 x s8 s9)) ⊢ _
  iintro ⟨⟨⟨H1, H2, H3⟩, HW⟩, HP⟩
  ihave H2 := held_out $$ H2
  isplitl [H2]; · iexact H2
  iintro H2
  ihave H2 := held_in $$ H2
  iapply HP
  isplitl [H1 H2 H3]
  · isplitl [H1]; · iexact H1
    isplitl [H2]; · iexact H2
    iexact H3
  iexact HW
theorem take9_ff {j : Fin 4} (hj : s9 j = false) : RS c V a3 a4 a5 x s8 s9 ⊢ iprop((∃ f, ℓ9 c ↦[I9 c j]{fullShare} f) ∗ ((∃ f, ℓ9 c ↦[I9 c j]{fullShare} f) -∗ RS c V a3 a4 a5 x s8 s9)) := by
  have hu : Function.update s9 j false = s9 := by rw [← hj]; exact Function.update_eq_self _ _
  have h := take9 c V a3 a4 a5 (x := x) (s8 := s8) (s9 := s9) false false hj
  rw [hu] at h
  refine h.trans ?_
  change iprop((H9 c V j ∗ OW c) ∗ ((H9 c V j ∗ OW c) -∗ RS c V a3 a4 a5 x s8 s9)) ⊢ _
  iintro ⟨⟨⟨H1, H2, H3⟩, HW⟩, HP⟩
  ihave H2 := held_out $$ H2
  isplitl [H2]; · iexact H2
  iintro H2
  ihave H2 := held_in $$ H2
  iapply HP
  isplitl [H1 H2 H3]
  · isplitl [H1]; · iexact H1
    isplitl [H2]; · iexact H2
    iexact H3
  iexact HW
theorem takeX_ff : RS c V a3 a4 a5 false s8 s9 ⊢ iprop((∃ f, a6.view.loc (c : Thread nD τ) ↦[Finset.univ]{fullShare} f) ∗ ((∃ f, a6.view.loc (c : Thread nD τ) ↦[Finset.univ]{fullShare} f) -∗ RS c V a3 a4 a5 false s8 s9)) := by
  have h : RS c V a3 a4 a5 false s8 s9 ⊢ iprop((HX c V ∗ OW c) ∗ ((HX c V ∗ OW c) -∗ RS c V a3 a4 a5 false s8 s9)) := by
    iintro HP
    ihave HP := (RS_x c V a3 a4 a5 false s8 s9) $$ HP
    icases HP with ⟨H, HP⟩
    isplitl [H]; · iexact H
    ispecialize HP $$ %false
    iexact HP
  refine h.trans ?_
  iintro ⟨⟨⟨H1, H2, H3⟩, HW⟩, HP⟩
  ihave H2 := held_out $$ H2
  isplitl [H2]; · iexact H2
  iintro H2
  ihave H2 := held_in $$ H2
  iapply HP
  isplitl [H1 H2 H3]
  · isplitl [H1]; · iexact H1
    isplitl [H2]; · iexact H2
    iexact H3
  iexact HW

/-- A load of a slot of the codes' ring that no copy writes. -/
theorem load_8 {α : Type} {Q : α → sProp 𝕄} {j : Fin 4} (hj : s8 j = false) {r : LoadRect S4x704x1792} (hr : r.set ⊆ (R8 j).set) {hl : a8.view.LoadsAt r}
    {k : (r.shape.Idx → Elt F .i8) → Prog (TpuEff nD τ sig (Elt F) Λ₀ .tc) α} :
    RS c V a3 a4 a5 x s8 s9 ⊢ iprop((∀ v, RS c V a3 a4 a5 x s8 s9 -∗ Wk c (k v) Q) -∗ Wk c (.op (.load a8 r hl) k) Q) := by
  iintro HP Hk
  ihave HP := (take8_ff c V a3 a4 a5 hj) $$ HP
  icases HP with ⟨⟨%f, HM⟩, HP⟩
  iapply (wp_load (c := (c : Thread nD τ)) (m := a8) (S := I8 c j) Variants.none none Set.univ ?_) $$ HM
  · unfold I8; rw [View.set_slice]; exact Finset.map_subset_map.2 hr
  iintro HM
  iapply Hk
  iapply HP
  iexists f
  iexact HM

/-- A load of a slot of the scales' ring that no copy writes. -/
theorem load_9 {α : Type} {Q : α → sProp 𝕄} {j : Fin 4} (hj : s9 j = false) {r : LoadRect S4x704x112} (hr : r.set ⊆ (R9 j).set) {hl : a9.view.LoadsAt r}
    {k : (r.shape.Idx → Elt F .bf16) → Prog (TpuEff nD τ sig (Elt F) Λ₀ .tc) α} :
    RS c V a3 a4 a5 x s8 s9 ⊢ iprop((∀ v, RS c V a3 a4 a5 x s8 s9 -∗ Wk c (k v) Q) -∗ Wk c (.op (.load a9 r hl) k) Q) := by
  iintro HP Hk
  ihave HP := (take9_ff c V a3 a4 a5 hj) $$ HP
  icases HP with ⟨⟨%f, HM⟩, HP⟩
  iapply (wp_load (c := (c : Thread nD τ)) (m := a9) (S := I9 c j) Variants.none none Set.univ ?_) $$ HM
  · unfold I9; rw [View.set_slice]; exact Finset.map_subset_map.2 hr
  iintro HM
  iapply Hk
  iapply HP
  iexists f
  iexact HM

/-- A copy into a slot of the codes' ring started. -/
theorem start_8 {α : Type} {Q : α → sProp 𝕄} {j : Fin 4} (hj : s8 j = false) {o : Fin 3 → ℕ} (ho : o = ![j.val, 0, 0]) {io : ∀ a, o a + S1x704x1792.size a ≤ S4x704x1792.size a} {so : Fin 1 → ℕ} (hso : so = ![j.val]) {iso : ∀ a, so a + S1.size a ≤ S4.size a}
    {o1 : Fin 2 → ℕ} {io1 : ∀ a, o1 a + S704x1792.size a ≤ S38016x1792.size a}
    {h1 : _} {h2 : _} {h3 : _} {k : PUnit → Prog (TpuEff nD τ sig (Elt F) Λ₀ .tc) α} :
    RS c V a3 a4 a5 x s8 s9 ⊢ iprop((RS c V a3 a4 a5 x (Function.update s8 j true) s9 -∗ Wk c (k ⟨⟩) Q)
      -∗ Wk c (.op (.enqueueDma (a1.slice (Rect.unit (s := S38016x1792) o1 S704x1792.size io1) (fun _ => rfl))
          (.here ((a8.slice (Rect.unit (s := S4x704x1792) o S1x704x1792.size io) (fun _ => rfl)).squeeze S704x1792 squeezes_S1x704x1792_S704x1792))
          (.dma ((cc0_scratch7.slice (Rect.unit (s := S4) so S1.size iso)).squeeze S_ squeezes_S1_S_).sem) h1 h2 h3) k) Q) := by
  subst ho hso
  iintro HP Hk
  ihave HP := (take8_ft c V a3 a4 a5 hj) $$ HP
  icases HP with ⟨⟨HS, HW⟩, HP⟩
  iapply (Copy.start (c := (c : Thread nD τ)) EC Variants.none none (src := a1.slice (Rect.unit (s := S38016x1792) o1 S704x1792.size io1) (fun _ => rfl)) (dst := d8 j) (sm := .dma (q8 j)) (Sd := I8 c j) yes yes () N8 rfl (View.dmaCredit_pos _ (by decide)) (set8 c j).subset (fun _ _ => trivial)) $$ HS
  iintro HF
  iapply Hk
  iapply HP
  isplitl [HF]
  · iexists _
    iexact HF
  iexact HW

/-- A copy into a slot of the codes' ring waited for. -/
theorem wait_8 {α : Type} {Q : α → sProp 𝕄} {j : Fin 4} (hj : s8 j = true) {o : Fin 3 → ℕ} (ho : o = ![j.val, 0, 0]) {io : ∀ a, o a + S1x704x1792.size a ≤ S4x704x1792.size a} {so : Fin 1 → ℕ} (hso : so = ![j.val]) {iso : ∀ a, so a + S1.size a ≤ S4.size a}
    {o1 : Fin 2 → ℕ} {io1 : ∀ a, o1 a + S704x1792.size a ≤ S38016x1792.size a}
    {h1 : _} {h2 : _} {k : PUnit → Prog (TpuEff nD τ sig (Elt F) Λ₀ .tc) α} :
    RS c V a3 a4 a5 x s8 s9 ⊢ iprop((RS c V a3 a4 a5 x (Function.update s8 j false) s9 -∗ Wk c (k ⟨⟩) Q)
      -∗ Wk c (.op (.waitDma2 ((cc0_scratch7.slice (Rect.unit (s := S4) so S1.size iso)).squeeze S_ squeezes_S1_S_).sem
          (a1.slice (Rect.unit (s := S38016x1792) o1 S704x1792.size io1) (fun _ => rfl))
          ((a8.slice (Rect.unit (s := S4x704x1792) o S1x704x1792.size io) (fun _ => rfl)).squeeze S704x1792 squeezes_S1x704x1792_S704x1792) h1 h2) k) Q) := by
  subst ho hso
  iintro HP Hk
  ihave HP := (take8_tf c V a3 a4 a5 hj) $$ HP
  icases HP with ⟨⟨HS, HW⟩, HP⟩
  icases HS with ⟨%Sa, HS⟩
  iapply (Copy.wait (c := (c : Thread nD τ)) EC Variants.none none () (sem := q8 j) (srcw := a1.slice (Rect.unit (s := S38016x1792) o1 S704x1792.size io1) (fun _ => rfl)) (dstw := d8 j) (hsrc := h1) (hdst := h2) (N := N8) rfl) $$ [HS HW]
  · isplitl [HS]; · iexact HS
    iexact HW
  iintro HF
  iapply Hk
  iapply HP
  iexact HF

/-- A copy into a slot of the scales' ring started. -/
theorem start_9 {α : Type} {Q : α → sProp 𝕄} {j : Fin 4} (hj : s9 j = false) {o : Fin 3 → ℕ} (ho : o = ![j.val, 0, 0]) {io : ∀ a, o a + S1x704x112.size a ≤ S4x704x112.size a} {so : Fin 1 → ℕ} (hso : so = ![j.val]) {iso : ∀ a, so a + S1.size a ≤ S4.size a}
    {o1 : Fin 2 → ℕ} {io1 : ∀ a, o1 a + S704x112.size a ≤ S38016x112.size a}
    {h1 : _} {h2 : _} {h3 : _} {k : PUnit → Prog (TpuEff nD τ sig (Elt F) Λ₀ .tc) α} :
    RS c V a3 a4 a5 x s8 s9 ⊢ iprop((RS c V a3 a4 a5 x s8 (Function.update s9 j true) -∗ Wk c (k ⟨⟩) Q)
      -∗ Wk c (.op (.enqueueDma (a2.slice (Rect.unit (s := S38016x112) o1 S704x112.size io1) (fun _ => rfl))
          (.here ((a9.slice (Rect.unit (s := S4x704x112) o S1x704x112.size io) (fun _ => rfl)).squeeze S704x112 squeezes_S1x704x112_S704x112))
          (.dma ((cc0_scratch8.slice (Rect.unit (s := S4) so S1.size iso)).squeeze S_ squeezes_S1_S_).sem) h1 h2 h3) k) Q) := by
  subst ho hso
  iintro HP Hk
  ihave HP := (take9_ft c V a3 a4 a5 hj) $$ HP
  icases HP with ⟨⟨HS, HW⟩, HP⟩
  iapply (Copy.start (c := (c : Thread nD τ)) EC Variants.none none (src := a2.slice (Rect.unit (s := S38016x112) o1 S704x112.size io1) (fun _ => rfl)) (dst := d9 j) (sm := .dma (q9 j)) (Sd := I9 c j) yes yes () N9 rfl (View.dmaCredit_pos _ (by decide)) (set9 c j).subset (fun _ _ => trivial)) $$ HS
  iintro HF
  iapply Hk
  iapply HP
  isplitl [HF]
  · iexists _
    iexact HF
  iexact HW

/-- A copy into a slot of the scales' ring waited for. -/
theorem wait_9 {α : Type} {Q : α → sProp 𝕄} {j : Fin 4} (hj : s9 j = true) {o : Fin 3 → ℕ} (ho : o = ![j.val, 0, 0]) {io : ∀ a, o a + S1x704x112.size a ≤ S4x704x112.size a} {so : Fin 1 → ℕ} (hso : so = ![j.val]) {iso : ∀ a, so a + S1.size a ≤ S4.size a}
    {o1 : Fin 2 → ℕ} {io1 : ∀ a, o1 a + S704x112.size a ≤ S38016x112.size a}
    {h1 : _} {h2 : _} {k : PUnit → Prog (TpuEff nD τ sig (Elt F) Λ₀ .tc) α} :
    RS c V a3 a4 a5 x s8 s9 ⊢ iprop((RS c V a3 a4 a5 x s8 (Function.update s9 j false) -∗ Wk c (k ⟨⟩) Q)
      -∗ Wk c (.op (.waitDma2 ((cc0_scratch8.slice (Rect.unit (s := S4) so S1.size iso)).squeeze S_ squeezes_S1_S_).sem
          (a2.slice (Rect.unit (s := S38016x112) o1 S704x112.size io1) (fun _ => rfl))
          ((a9.slice (Rect.unit (s := S4x704x112) o S1x704x112.size io) (fun _ => rfl)).squeeze S704x112 squeezes_S1x704x112_S704x112) h1 h2) k) Q) := by
  subst ho hso
  iintro HP Hk
  ihave HP := (take9_tf c V a3 a4 a5 hj) $$ HP
  icases HP with ⟨⟨HS, HW⟩, HP⟩
  icases HS with ⟨%Sa, HS⟩
  iapply (Copy.wait (c := (c : Thread nD τ)) EC Variants.none none () (sem := q9 j) (srcw := a2.slice (Rect.unit (s := S38016x112) o1 S704x112.size io1) (fun _ => rfl)) (dstw := d9 j) (hsrc := h1) (hdst := h2) (N := N9) rfl) $$ [HS HW]
  · isplitl [HS]; · iexact HS
    iexact HW
  iintro HF
  iapply Hk
  iapply HP
  iexact HF

/-- The copy of `x` started. -/
theorem start_x {α : Type} {Q : α → sProp 𝕄} {h1 : _} {h2 : _} {h3 : _} {k : PUnit → Prog (TpuEff nD τ sig (Elt F) Λ₀ .tc) α} :
    RS c V a3 a4 a5 false s8 s9 ⊢ iprop((RS c V a3 a4 a5 true s8 s9 -∗ Wk c (k ⟨⟩) Q)
      -∗ Wk c (.op (.enqueueDma a0 (.here a6) (.dma cc0_scratch6.sem) h1 h2 h3) k) Q) := by
  iintro HP Hk
  ihave HP := (takeX_ft c V a3 a4 a5) $$ HP
  icases HP with ⟨⟨HS, HW⟩, HP⟩
  iapply (Copy.start (c := (c : Thread nD τ)) EC Variants.none none (src := a0) (dst := a6) (sm := .dma cc0_scratch6.sem) (Sd := Finset.univ) yes yes () N6 rfl (View.dmaCredit_pos _ (by decide)) (Finset.subset_univ _) (fun _ _ => trivial)) $$ HS
  iintro HF
  iapply Hk
  iapply HP
  isplitl [HF]
  · iexists _
    iexact HF
  iexact HW

/-- The copy of `x` waited for. -/
theorem wait_x {α : Type} {Q : α → sProp 𝕄} {h1 : _} {h2 : _} {k : PUnit → Prog (TpuEff nD τ sig (Elt F) Λ₀ .tc) α} :
    RS c V a3 a4 a5 true s8 s9 ⊢ iprop((RS c V a3 a4 a5 false s8 s9 -∗ Wk c (k ⟨⟩) Q)
      -∗ Wk c (.op (.waitDma2 cc0_scratch6.sem a0 a6 h1 h2) k) Q) := by
  iintro HP Hk
  ihave HP := (takeX_tf c V a3 a4 a5) $$ HP
  icases HP with ⟨⟨HS, HW⟩, HP⟩
  icases HS with ⟨%Sa, HS⟩
  iapply (Copy.wait (c := (c : Thread nD τ)) EC Variants.none none () (N := N6) rfl) $$ [HS HW]
  · isplitl [HS]; · iexact HS
    iexact HW
  iintro HF
  iapply Hk
  iapply HP
  iexact HF

/-- A load of the copied `x`. -/
theorem load_6 {α : Type} {Q : α → sProp 𝕄} {r : LoadRect S256x3584} {hl : a6.view.LoadsAt r} {k : (r.shape.Idx → Elt F .bf16) → Prog (TpuEff nD τ sig (Elt F) Λ₀ .tc) α} :
    RS c V a3 a4 a5 false s8 s9 ⊢ iprop((∀ v, RS c V a3 a4 a5 false s8 s9 -∗ Wk c (k v) Q) -∗ Wk c (.op (.load a6 r hl) k) Q) := by
  iintro HP Hk
  ihave HP := (takeX_ff c V a3 a4 a5) $$ HP
  icases HP with ⟨⟨%f, HM⟩, HP⟩
  iapply (wp_load (c := (c : Thread nD τ)) (m := a6) (S := Finset.univ) Variants.none none Set.univ (Finset.subset_univ _)) $$ HM
  iintro HM
  iapply Hk
  iapply HP
  iexists f
  iexact HM

end

end Cert.Proof.KernelIdeal
-- ==== Proof.OkI.lean ====
/-
  Programs of the idealized kernel that take its one resource (Proof/RingI.lean) from one state of the copies to
  another, composed.
-/
module

public import proofs.«01_k».proof.Proof.StepI
public import Idealize.ShloMosaic.Lib.Mxu
public import Idealize.ShloMosaic.Lib.Mxu.Lemmas
public import Idealize.ShloMosaic.Lib.Scf

@[expose] public section

noncomputable section

namespace Cert.Proof.KernelIdeal

open Cert.KernelIdeal Cert.KernelIdeal.Gen Cert.Proof
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The kernel's programs. -/
abbrev PI (F : FTy → Type) [FloatOps F] (α : Type) : Type 1 := Prog (TpuEff nD τ sig (Elt F) Λ₀ .tc) α

theorem wk_ret (c : Dev nD) {α : Type} (Q : α → sProp 𝕄) (a : α) : Q a ⊢ Wk c (.ret a : PI F α) Q := by
  unfold Wk
  rw [wp_ret]
  exact fupd_intro

/-- The copies' states: of `x`, of the codes' ring, of the scales' ring. -/
abbrev Fl : Type := Bool × (Fin 4 → Bool) × (Fin 4 → Bool)

section
variable (c : Dev nD) (V : (b : Ref sig .tc) → Buf (Elt F) ((c : Thread nD τ).loc b))
variable (a3 : Memref sig .tc .vmem S1x256 .i32) (a4 a5 : Memref sig .tc .vmem S1x256 .f32)

abbrev RSt (s : Fl) : sProp 𝕄 := RS c V a3 a4 a5 s.1 s.2.1 s.2.2

/-- `p` runs from the state `s` to the state `s'`, its result satisfying `φ`. -/
def Ok (s s' : Fl) {α : Type} (p : PI F α) (φ : α → Prop) : Prop :=
  ∀ Q : α → sProp 𝕄, RSt c V a3 a4 a5 s ⊢ iprop((∀ r, ⌜φ r⌝ -∗ RSt c V a3 a4 a5 s' -∗ Q r) -∗ Wk c p Q)

variable {c V a3 a4 a5}

theorem Ok.ret {s : Fl} {α : Type} {a : α} {φ : α → Prop} (h : φ a) : Ok c V a3 a4 a5 s s (.ret a) φ := by
  intro Q
  iintro HR Hk
  iapply (wk_ret c Q a)
  ispecialize Hk $$ %a
  iapply Hk
  · ipureintro; exact h
  · iexact HR

theorem Ok.bind {s s' s'' : Fl} {α β : Type} {p : PI F α} {f : α → PI F β} {φ : α → Prop} {ψ : β → Prop}
    (h : Ok c V a3 a4 a5 s s' p φ) (hf : ∀ a, φ a → Ok c V a3 a4 a5 s' s'' (f a) ψ) : Ok c V a3 a4 a5 s s'' (p >>= f) ψ := by
  intro Q
  have e : Wk c (p >>= f) Q = Wk c p (fun a => Wk c (f a) Q) := wp_bind ..
  rw [e]
  have h1 := h (fun a => Wk c (f a) Q)
  iintro HR Hk
  iapply h1 $$ HR
  iintro %a %ha HR
  iapply (hf a ha Q) $$ HR
  iexact Hk

theorem Ok.mono {s s' : Fl} {α : Type} {p : PI F α} {φ ψ : α → Prop} (h : Ok c V a3 a4 a5 s s' p φ) (hφ : ∀ a, φ a → ψ a) : Ok c V a3 a4 a5 s s' p ψ := by
  intro Q
  iintro HR Hk
  iapply (h Q) $$ HR
  iintro %a %ha HR
  ispecialize Hk $$ %a
  iapply Hk
  · ipureintro; exact hφ a ha
  · iexact HR

/-- From a rule for one operation in front of any continuation. -/
theorem Ok.of_op {s s' : Fl} {β : Type} {e : TpuEff nD τ sig (Elt F) Λ₀ .tc β}
    (h : ∀ Q : β → sProp 𝕄, RSt c V a3 a4 a5 s ⊢ iprop((∀ v, RSt c V a3 a4 a5 s' -∗ Wk c (.ret v : PI F β) Q) -∗ Wk c (.op e .ret) Q)) :
    Ok c V a3 a4 a5 s s' (Prog.lift e) yes := by
  intro Q
  iintro HR Hk
  iapply (h Q) $$ HR
  iintro %v HR
  iapply (wk_ret c Q v)
  ispecialize Hk $$ %v
  iapply Hk
  · ipureintro; trivial
  · iexact HR

theorem Ok.assume {s : Fl} {P : Prop} {d : Decidable P} (h : P) {s' : Fl} {β : Type} {k : PLift P → PI F β} {φ : β → Prop}
    (hk : Ok c V a3 a4 a5 s s' (k ⟨h⟩) φ) : Ok c V a3 a4 a5 s s' (.op (.assume P d) k) φ := by
  intro Q
  iintro HR Hk
  iapply (wp_assume (defs := defs₀ (F := F)) (Q := Q) (k := k) Variants.none (c : Thread nD τ) none Set.univ h)
  iapply (hk Q) $$ HR
  iexact Hk

theorem Ok.pushRhs {s : Fl} {m : Mxu F} {q r : Fin 2} {tr : Bool} {φ : FTy} {v : FVec F (Mxu.STile 256) φ} (h : m.PushOk q r tr) :
    Ok c V a3 a4 a5 s s (m.pushRhs q r tr v) (fun m' => m' = m.pushed q r tr v) := by
  unfold Mxu.pushRhs
  exact Ok.assume h (Ok.ret rfl)

theorem Ok.exit {s : Fl} {m : Mxu F} (h : m.Drained) : Ok c V a3 a4 a5 s s (m.exit) yes := by
  unfold Mxu.exit
  exact Ok.assume h (Ok.ret trivial)

/-- A counted loop whose every trip keeps to an invariant. -/
theorem Ok.for {w : ℕ} {σ : Type} (lb ub st : BitVec w) (hok : Scf.OK lb ub st) (init : σ) (body : Fin (Scf.trips lb ub st) → σ → PI F σ)
    (fl : ℕ → Fl) (I : ℕ → σ → Prop) (h0 : I 0 init)
    (hb : ∀ (k : Fin (Scf.trips lb ub st)) (acc : σ), I k.val acc → Ok c V a3 a4 a5 (fl k.val) (fl (k.val + 1)) (body k acc) (I (k.val + 1))) :
    Ok c V a3 a4 a5 (fl 0) (fl (Scf.trips lb ub st)) (Scf.for lb ub st hok init body) (I (Scf.trips lb ub st)) := by
  intro Q
  have h := Scf.wp_for (M := 𝕄) frame (wpE (defs₀ (F := F)) Variants.none (c : Thread nD τ) none) Set.univ lb ub st hok init body
    (fun n acc => iprop(⌜I n acc⌝ ∗ RSt c V a3 a4 a5 (fl n))) (fun k acc => by
      iintro ⟨%hI, HR⟩
      iapply (hb k acc hI (fun r => iprop(⌜I (k.val + 1) r⌝ ∗ RSt c V a3 a4 a5 (fl (k.val + 1))))) $$ HR
      iintro %r %hr HR
      isplitr; · ipureintro; exact hr
      iexact HR) (Q := Q)
  iintro HR Hk
  iapply h
  isplitl [HR]
  · isplitr; · ipureintro; exact h0
    iexact HR
  iintro %acc ⟨%hI, HR⟩
  ispecialize Hk $$ %acc
  iapply Hk
  · ipureintro; exact hI
  · iexact HR

/-! ## The operations -/

section
variable {sp : CoreSpace} {sh : Shape} {e : EltTy} {M : Memref sig .tc sp sh e} {s : Fl}

theorem ok_load (h : RSt c V a3 a4 a5 s ⊢ iprop(any c M ∗ (any c M -∗ RSt c V a3 a4 a5 s))) {r : LoadRect sh} {hl : M.view.LoadsAt r} :
    Ok c V a3 a4 a5 s s (Prog.lift (.load M r hl)) yes := Ok.of_op fun _ => load_any c h

theorem ok_store (h : RSt c V a3 a4 a5 s ⊢ iprop(any c M ∗ (any c M -∗ RSt c V a3 a4 a5 s))) {r : Rect sh} {w : r.shape.Idx → Elt F e}
    {Mk : Finset r.shape.Idx} {hx : (M.access r).Stores Mk} {hm : Mk = Finset.univ ∨ _} :
    Ok c V a3 a4 a5 s s (Prog.lift (.store M r w Mk hx hm)) yes := by
  refine Ok.of_op fun Q => ?_
  have h1 := store_any c h (r := r) (w := w) (Mk := Mk) (hx := hx) (hm := hm) (Q := Q) (k := .ret)
  iintro HR Hk
  iapply h1 $$ HR
  iintro HR
  ispecialize Hk $$ %(⟨⟩ : PUnit)
  iapply Hk
  iexact HR
end

end

end Cert.Proof.KernelIdeal
-- ==== Proof.Trip.lean ====
/-
  The kernel's trip as a program written by recursion: the seven chunks of the two sub-blocks, the eleven strips of a
  chunk, the pushes of the next chunk's tiles, the folds of the sub-block before. The reads and writes of the buffers
  are parameters (`Ops`), so that the printed kernel and its idealization are both instances of it.
-/
module

public import Idealize.ShloMosaic.Lib.Mxu
public import Idealize.ShloMosaic.Lib.Scf
public import Idealize.ShloMosaic.PureOps

@[expose] public section

noncomputable section

namespace Cert.Proof.Trip

open Idealize.ShloMosaic Idealize.SL.Sem

abbrev A32 : Shape := ⟨2, ![32, 256]⟩
abbrev A8 : Shape := ⟨2, ![8, 256]⟩

theorem bc_down : A32.Bitcasts 8 A8 32 := by decide
theorem bc_up : A8.Bitcasts 32 A32 8 := by decide
theorem slices (q : Fin 4) : A32.Slices ![8 * q.val, 0] A8 := by revert q; decide

/-- The address of strip `st`'s accumulator in set `a` (0 or 1). -/
def addr (a st : ℕ) : ℕ := 88 * (a % 2) + 8 * (st % 11)

theorem fits_addr (a st : ℕ) : Mxu.Fits (addr a st) 32 := by
  unfold Mxu.Fits addr; omega

variable {F : FTy → Type} [FloatOps F]

/-- The low four bits of each byte, less eight, times the scale. -/
def dqLo (q : IVec A32 8) (sc : FVec F A32 .bf16) : FVec F A32 .bf16 :=
  mulf (subf (sitofp .bf16 (bitcast A32 8 (andi (bitcast A8 32 q bc_down) (broadcast A8 252645135#32)) bc_up))
    (broadcast A32 (Scalar.ofBits .bf16 0x4100#16))) sc

/-- The high four bits of each byte, less eight, times the scale. -/
def dqHi (q : IVec A32 8) (sc : FVec F A32 .bf16) : FVec F A32 .bf16 :=
  mulf (subf (sitofp .bf16 (bitcast A32 8 (andi (shrui (bitcast A8 32 q bc_down) (broadcast A8 4#32)) (broadcast A8 252645135#32)) bc_up))
    (broadcast A32 (Scalar.ofBits .bf16 0x4100#16))) sc

/-- What the fold carries: the running maximum, the running second maximum, the tile number of the maximum. -/
abbrev St (F : FTy → Type) [FloatOps F] : Type := FVec F A8 .f32 × FVec F A8 .f32 × IVec A8 32

/-- Rows `8 q … 8 q + 7` of a strip. -/
def rows (l : FVec F A32 .f32) (q : Fin 4) : FVec F A8 .f32 := extractStridedSlice A8 ![8 * q.val, 0] l (slices q)

/-- One tile of eight rows folded, numbered `n`. -/
def foldRow (s : St F) (l : FVec F A8 .f32) (n : BitVec 32) : St F :=
  (maximumf s.1 l, maximumf s.2.1 (minimumf s.1 l), select (cmpf .ogt l s.1) (broadcast A8 n) s.2.2)

/-- The four tiles of a strip, the first numbered `n`. -/
def foldStrip (s : St F) (l : FVec F A32 .f32) (n : ℕ) : St F :=
  foldRow (foldRow (foldRow (foldRow s (rows l 0) (BitVec.ofNat 32 n)) (rows l 1) (BitVec.ofNat 32 (n + 1)))
    (rows l 2) (BitVec.ofNat 32 (n + 2))) (rows l 3) (BitVec.ofNat 32 (n + 3))

/-- The strip `st` of set `a` popped off both units and folded, its first tile numbered `n`. -/
def popFold (m : Mxu F) (s : St F) (a st n : ℕ) : Mxu F × St F :=
  let m1 := m.pop 0 (addr a st) 32 (fits_addr a st)
  (m1.pop 1 (addr a st) 32 (fits_addr a st),
   foldStrip s (addf (m.read 0 (addr a st) (fits_addr a st)) (m1.read 1 (addr a st) (fits_addr a st))) n)

/-- `n` strips popped and folded from strip `st` on; sub-block `b`'s fold numbers its first tile `44 b`. -/
def popFolds (b a : ℕ) : (n st : ℕ) → Mxu F × St F → Mxu F × St F
  | 0, _, ms => ms
  | n + 1, st, ms => popFolds b a n (st + 1) (popFold ms.1 ms.2 a st (44 * b + 4 * st))

variable {nD : ℕ} {τ : Topo} {sig : RefSig} {Λ : Labels} {p : Proc τ} {R : Type}

/-- Programs of the kernel's thread. -/
abbrev Pg (nD : ℕ) (τ : Topo) (sig : RefSig) (Λ : Labels) (p : Proc τ) (F : FTy → Type) [FloatOps F] (R : Type) : Type 1 :=
  Prog (TpuEff nD τ sig (Elt F) Λ p) R

/-- The buffers' part of a trip: preparing step `(b, c)` (the scale words and the next step's expansion), reading a
    strip's expanded scales, reading a strip's codes, reading a tile of `x`. -/
structure Ops (nD : ℕ) (τ : Topo) (sig : RefSig) (Λ : Labels) (p : Proc τ) (F : FTy → Type) [FloatOps F] (R : Type) where
  prep : (b c : ℕ) → (Unit → Pg nD τ sig Λ p F R) → Pg nD τ sig Λ p F R
  wide : (src st : ℕ) → (FVec F A32 .bf16 → Pg nD τ sig Λ p F R) → Pg nD τ sig Λ p F R
  codes : (b c st : ℕ) → (IVec A32 8 → Pg nD τ sig Λ p F R) → Pg nD τ sig Λ p F R
  tile : (n : ℕ) → (FVec F (Mxu.STile 256) .bf16 → Pg nD τ sig Λ p F R) → Pg nD τ sig Λ p F R

variable (O : Ops nD τ sig Λ p F R)

/-- Strip `st` of step `(b, c)`: both nibbles' products accumulated, the first strip loading the staged tiles. -/
def strip (b c st : ℕ) (m : Mxu F) (κ : Mxu F → Pg nD τ sig Λ p F R) : Pg nD τ sig Λ p F R :=
  O.wide ((b * 7 + c) % 2) st fun sc => O.codes b c st fun q =>
    match st with
    | 0 => κ ((m.accLhs 0 0 (addr b 0) (dqLo q sc) (fits_addr b 0)).accLhs 1 0 (addr b 0) (dqHi q sc) (fits_addr b 0))
    | st + 1 => .op (.assume ((m.gmr 0).isSome = true)) fun h0 =>
        let m1 := m.accBy 0 ((m.gmr 0).get h0.down) (addr b (st + 1)) (dqLo q sc) (fits_addr b (st + 1))
        .op (.assume ((m1.gmr 1).isSome = true)) fun h1 =>
          κ (m1.accBy 1 ((m1.gmr 1).get h1.down) (addr b (st + 1)) (dqHi q sc) (fits_addr b (st + 1)))

/-- The first `n` strips of step `(b, c)`. -/
def strips (b c : ℕ) : (n : ℕ) → Mxu F → (Mxu F → Pg nD τ sig Λ p F R) → Pg nD τ sig Λ p F R
  | 0, m, κ => κ m
  | n + 1, m, κ => strips b c n m fun m' => strip O b c n m' κ

/-- Chunk `c`'s two tiles staged. -/
def push (c : ℕ) (m : Mxu F) (κ : Mxu F → Pg nD τ sig Λ p F R) : Pg nD τ sig Λ p F R :=
  O.tile (2 * c) fun t => .op (.assume (m.PushOk 0 0 true)) fun _ =>
    O.tile (2 * c + 1) fun t' => .op (.assume ((m.pushed 0 0 true t).PushOk 1 0 true)) fun _ =>
      κ ((m.pushed 0 0 true t).pushed 1 0 true t')

/-- The number of strips step `c` folds. -/
def nFold (c : ℕ) : ℕ := min (2 * c) 11 - 2 * (c - 1)

/-- Step `(b, c)`. -/
def step (b c : ℕ) (ms : Mxu F × St F) (κ : Mxu F × St F → Pg nD τ sig Λ p F R) : Pg nD τ sig Λ p F R :=
  O.prep b c fun _ => strips O b c 11 ms.1 fun m => push O ((c + 1) % 7) m fun m =>
    κ (popFolds b (b + 1) (nFold c) (2 * (c - 1)) (m, ms.2))

/-- The first `n` steps of sub-block `b`. -/
def steps (b : ℕ) : (n : ℕ) → Mxu F × St F → (Mxu F × St F → Pg nD τ sig Λ p F R) → Pg nD τ sig Λ p F R
  | 0, ms, κ => κ ms
  | n + 1, ms, κ => steps b n ms fun ms' => step O b n ms' κ

/-- The running maxima started afresh on the first trip. -/
def fresh (w : BitVec 1) (s : St F) : St F :=
  (Scalar.select w (broadcast A8 (Scalar.ofBits .f32 0xFF800000#32)) s.1,
   Scalar.select w (broadcast A8 (Scalar.ofBits .f32 0xFF800000#32)) s.2.1, s.2.2)

/-- A trip after its copies: the carried tile numbers less the trip's 88 tiles, both sub-blocks. -/
def trip (w : BitVec 1) (ms : Mxu F × St F) (κ : Mxu F × St F → Pg nD τ sig Λ p F R) : Pg nD τ sig Λ p F R :=
  steps O 0 7 (ms.1, (ms.2.1, ms.2.2.1, subi ms.2.2.2 (broadcast A8 88#32))) fun ms =>
    steps O 1 7 (ms.1, fresh w ms.2) κ

end Cert.Proof.Trip
-- ==== Proof.TripI.lean ====
/-
  The idealized kernel's trip is the trip written by recursion (Proof/Trip.lean) over its own buffers.
-/
module

public import proofs.«01_k».proof.Proof.Trip
public import proofs.«01_k».proof.Proof.Gen.KernelIdeal.Skeleton
public import Idealize.ShloMosaic.Lib.Tactic
public import Idealize.ShloMosaic.Lib.Pipeline.Regions

@[expose] public section

noncomputable section

namespace Cert.Proof.KernelIdeal

open Cert.KernelIdeal Cert.KernelIdeal.Gen Cert.Proof.Trip
open Idealize.ShloMosaic Idealize.ShloMosaic.TcCoe Idealize.SL.Sem

variable {F : FTy → Type} [FloatOps F] {R : Type}

local notation "PgI" => Pg nD τ sig Λ₀ Proc.tc F R

/-! ## Values -/

/-- Sixteen packed rows of expanded scales as thirty-two rows. -/
def wideVal (raw : Vec F S1x16x2x256 .bf16) : FVec F S32x256 .bf16 :=
  interleaveRows S32x256
    (shapeCast S16x256 (shapeCast S1x16x256 (rowsOfParity 0 S1x16x1x256 raw bitcasts_S1x16x2x256_w16_S1x16x1x256_w32) shapeCasts_S1x16x1x256_S1x16x256) shapeCasts_S1x16x256_S16x256)
    (shapeCast S16x256 (shapeCast S1x16x256 (rowsOfParity 1 S1x16x1x256 raw bitcasts_S1x16x2x256_w16_S1x16x1x256_w32) shapeCasts_S1x16x1x256_S1x16x256) shapeCasts_S1x16x256_S16x256)
    bitcasts_S32x256_w16_S16x256_w32

/-- A packed tile of `x` as its 256 rows. -/
def tileVal (raw : Vec F S1x128x2x256 .bf16) : FVec F S256x256 .bf16 :=
  interleaveRows S256x256
    (shapeCast S128x256 (shapeCast S1x128x256 (rowsOfParity 0 S1x128x1x256 raw bitcasts_S1x128x2x256_w16_S1x128x1x256_w32) shapeCasts_S1x128x1x256_S1x128x256) shapeCasts_S1x128x256_S128x256)
    (shapeCast S128x256 (shapeCast S1x128x256 (rowsOfParity 1 S1x128x1x256 raw bitcasts_S1x128x2x256_w16_S1x128x1x256_w32) shapeCasts_S1x128x1x256_S1x128x256) shapeCasts_S1x128x256_S128x256)
    bitcasts_S256x256_w16_S128x256_w32

/-- The lane numbers' quotient by sixteen, rounded down. -/
def floor16 (v : IVec S176x128 32) : IVec S176x128 32 :=
  select
    (andi
      (cmpi .ne
        (subi (extui 32 (cmpi .sgt v (broadcast S176x128 0#32)) natLt_1_32) (extui 32 (cmpi .slt v (broadcast S176x128 0#32)) natLt_1_32))
        (broadcast S176x128 (Scalar.subi (Scalar.extui (Scalar.cmpi .sgt 16#32 0#32)) (Scalar.extui (Scalar.cmpi .slt 16#32 0#32)))))
      (cmpi .ne (remsi v (broadcast S176x128 16#32)) (broadcast S176x128 0#32)))
    (subi (divsi v (broadcast S176x128 16#32)) (broadcast S176x128 1#32))
    (divsi v (broadcast S176x128 16#32))

/-- One half's lanes taken at `idx`. -/
def gatherHalf (w : FVec F S176x128 .bf16) (idx : IVec S176x128 32) : FVec F S176x128 .bf16 :=
  truncf .bf16 (dynamicGather 1 (extf .f32 w)
    (shapeCast S176x128
      (shapeCast S176x128x1 (select (cmpi .slt idx (broadcast S176x128 0#32)) (addi idx (broadcast S176x128 128#32)) idx)
        shapeCasts_S176x128_S176x128x1)
      shapeCasts_S176x128x1_S176x128))

/-- One half of the packed scale words. -/
def halfWords (p : Fin 2) (raw : Vec F S1x176x2x128 .bf16) : FVec F S176x128 .bf16 :=
  shapeCast S176x128 (shapeCast S1x176x128 (rowsOfParity p S1x176x1x128 raw bitcasts_S1x176x2x128_w16_S1x176x1x128_w32) shapeCasts_S1x176x1x128_S1x176x128) shapeCasts_S1x176x128_S176x128

/-- What an expansion stores for the half of a chunk whose first scale is number `n`. -/
def expandVal (v0 : IVec S176x128 32) (n : ℕ) (raw : Vec F S1x176x2x128 .bf16) : Vec F S1x176x2x128 .bf16 :=
  interleaveRows S1x176x2x128
    (shapeCast S1x176x1x128 (shapeCast S1x176x128 (gatherHalf (halfWords 0 raw) (addi (floor16 v0) (broadcast S176x128 (BitVec.ofNat 32 n)))) shapeCasts_S176x128_S1x176x128) shapeCasts_S1x176x128_S1x176x1x128)
    (shapeCast S1x176x1x128 (shapeCast S1x176x128 (gatherHalf (halfWords 1 raw) (addi (floor16 v0) (broadcast S176x128 (BitVec.ofNat 32 n)))) shapeCasts_S176x128_S1x176x128) shapeCasts_S1x176x128_S1x176x1x128)
    bitcasts_S1x176x2x128_w16_S1x176x1x128_w32

/-- A sub-block's scales packed for the scale words. -/
def stageVal (raw : Vec F S1x352x112 .bf16) : Vec F S1x176x2x112 .bf16 :=
  interleaveRows S1x176x2x112
    (shapeCast S1x176x1x112 (shapeCast S1x176x112 (shapeCast S176x112 (rowsOfParity 0 S1x176x112 raw bitcasts_S1x352x112_w16_S1x176x112_w32) shapeCasts_S1x176x112_S176x112) shapeCasts_S176x112_S1x176x112) shapeCasts_S1x176x112_S1x176x1x112)
    (shapeCast S1x176x1x112 (shapeCast S1x176x112 (shapeCast S176x112 (rowsOfParity 1 S1x176x112 raw bitcasts_S1x352x112_w16_S1x176x112_w32) shapeCasts_S1x176x112_S176x112) shapeCasts_S176x112_S1x176x112) shapeCasts_S1x176x112_S1x176x1x112)
    bitcasts_S1x176x2x112_w16_S1x176x1x112_w32

/-! ## Places -/

theorem inb_wide (src st : ℕ) : ∀ a, (![src % 2, 16 * (st % 11), 0, 0] : Fin 4 → ℕ) a + S1x16x2x256.size a ≤ S2x176x2x256.size a := by
  intro a; fin_cases a <;> simp [Shape.size] <;> omega

theorem inb_tile (n : ℕ) : ∀ a, (![n % 14, 0, 0, 0] : Fin 4 → ℕ) a + S1x128x2x256.size a ≤ S14x128x2x256.size a := by
  intro a; fin_cases a <;> simp [Shape.size]; omega

theorem inb_words (b : ℕ) : ∀ a, (![b % 2, 0, 0, 0] : Fin 4 → ℕ) a + S1x176x2x128.size a ≤ S2x176x2x128.size a := by
  intro a; fin_cases a <;> simp [Shape.size]; omega

theorem inb_stage (b : ℕ) : ∀ a, (![b % 2, 0, 0, 0] : Fin 4 → ℕ) a + S1x176x2x112.size a ≤ S2x176x2x128.size a := by
  intro a; fin_cases a <;> simp [Shape.size]; omega

theorem inb_half (dst h : ℕ) : ∀ a, (![dst % 2, 0, 0, 128 * (h % 2)] : Fin 4 → ℕ) a + S1x176x2x128.size a ≤ S2x176x2x256.size a := by
  intro a; fin_cases a <;> simp [Shape.size] <;> omega

theorem inb_codes (k : Fin 4) (b c st : ℕ) :
    ∀ a, (![k.val, 352 * (b % 2) + 32 * (st % 11), 256 * (c % 7)] : Fin 3 → ℕ) a + S1x32x256.size a ≤ S4x704x1792.size a := by
  intro a; fin_cases a <;> simp [Shape.size] <;> omega

theorem inb_rows (k : Fin 4) (b : ℕ) :
    ∀ a, (![k.val, 352 * (b % 2), 0] : Fin 3 → ℕ) a + S1x352x112.size a ≤ S4x704x112.size a := by
  intro a; fin_cases a <;> simp [Shape.size] <;> omega

/-- The ring slot trip `k` reads. -/
def slotNow (k : Fin k0_t2_loop.trips) : Fin 4 := ⟨(Scalar.remsi (Scf.iv 0#32 1#32 k) 4#32).toNat, by revert k; decide⟩

/-- The ring slot the next trip reads. -/
def slotNext (k : Fin k0_t2_loop.trips) : Fin 4 :=
  ⟨(Scalar.remsi (Scalar.addi (Scf.iv 0#32 1#32 k) 1#32) 4#32).toNat, by revert k; decide⟩

/-! ## The buffers' part -/

section

variable (arg7 : Memref sig .tc .vmem S14x128x2x256 .bf16) (arg8 : Memref sig .tc .vmem S4x704x1792 .i8)
  (arg9 : Memref sig .tc .vmem S4x704x112 .bf16) (arg10 : Memref sig .tc .vmem S2x176x2x128 .bf16) (harg10 : arg10.IsWhole)
  (arg11 : Memref sig .tc .vmem S2x176x2x256 .bf16) (harg11 : arg11.IsWhole)

/-- The scale words of sub-block `1 - b` staged. -/
def stageOp (k : Fin k0_t2_loop.trips) (b : ℕ) (κ : Unit → PgI) : PgI :=
  .op (.load arg9 (Rect.unit (s := S4x704x112) ![(match b with | 0 => slotNow k | _ => slotNext k).val, 352 * ((b + 1) % 2), 0] S1x352x112.size (inb_rows _ (b + 1))).toLoadRect (View.loadsAt_vmem h_S1x352x112)) fun raw =>
  .op (.load arg10 (Rect.unit (s := S2x176x2x128) ![(b + 1) % 2, 0, 0, 0] S1x176x2x112.size (inb_stage (b + 1))).toLoadRect (View.loadsAt_vmem h_S1x176x2x112)) fun _ =>
  .op (.store arg10 (Rect.unit (s := S2x176x2x128) ![(b + 1) % 2, 0, 0, 0] S1x176x2x112.size (inb_stage (b + 1))) (stageVal raw) Finset.univ (View.stores_vmem h_S1x176x2x112 ((harg10.pairWhole rank2_S2x176x2x128).storeExact_slice rfl _ (Rect.wholeRows_unit rank2_S2x176x2x128 rfl rfl) pairs_S2x176x2x128_bf16) (fun _ => rfl)) (.inl rfl))
  fun _ => κ ()

/-- Half `h` of step `t`'s scales expanded into its place. -/
def expandOp (v0 : IVec S176x128 32) (t h : ℕ) (κ : Unit → PgI) : PgI :=
  .op (.load arg10 (Rect.unit (s := S2x176x2x128) ![t / 7 % 2, 0, 0, 0] S1x176x2x128.size (inb_words (t / 7))).toLoadRect (View.loadsAt_vmem h_S1x176x2x128)) fun raw =>
  .op (.load arg11 (Rect.unit (s := S2x176x2x256) ![t % 2, 0, 0, 128 * (h % 2)] S1x176x2x128.size (inb_half t h)).toLoadRect (View.loadsAt_vmem h_S1x176x2x128)) fun _ =>
  .op (.store arg11 (Rect.unit (s := S2x176x2x256) ![t % 2, 0, 0, 128 * (h % 2)] S1x176x2x128.size (inb_half t h)) (expandVal v0 (8 * (2 * (t % 7) + h)) raw) Finset.univ (View.stores_vmem h_S1x176x2x128 ((harg11.pairWhole rank2_S2x176x2x256).storeExact_slice rfl _ (Rect.wholeRows_unit rank2_S2x176x2x256 rfl rfl) pairs_S2x176x2x256_bf16) (fun _ => rfl)) (.inl rfl))
  fun _ => κ ()

/-- The buffers' part of trip `k`. -/
def opsI (v0 : IVec S176x128 32) (k : Fin k0_t2_loop.trips) : Ops nD τ sig Λ₀ Proc.tc F R where
  prep b c κ :=
    let expand := fun (_ : Unit) => expandOp arg10 arg11 harg11 v0 ((b * 7 + c + 1) % 14) 0 fun _ => expandOp arg10 arg11 harg11 v0 ((b * 7 + c + 1) % 14) 1 κ
    match c with
    | 3 => stageOp arg9 arg10 harg10 k b expand
    | _ => expand ()
  wide src st κ :=
    .op (.load arg11 (Rect.unit (s := S2x176x2x256) ![src % 2, 16 * (st % 11), 0, 0] S1x16x2x256.size (inb_wide src st)).toLoadRect (View.loadsAt_vmem h_S1x16x2x256)) fun raw => κ (wideVal raw)
  codes b c st κ :=
    .op (.load arg8 (Rect.unit (s := S4x704x1792) ![(slotNow k).val, 352 * (b % 2) + 32 * (st % 11), 256 * (c % 7)] S1x32x256.size (inb_codes (slotNow k) b c st)).toLoadRect (View.loadsAt_vmem h_S1x32x256)) fun raw => κ (shapeCast S32x256 raw shapeCasts_S1x32x256_S32x256)
  tile n κ :=
    .op (.load arg7 (Rect.unit (s := S14x128x2x256) ![n % 14, 0, 0, 0] S1x128x2x256.size (inb_tile n)).toLoadRect (View.loadsAt_vmem h_S1x128x2x256)) fun raw => κ (tileVal raw)

end

end Cert.Proof.KernelIdeal
-- ==== Proof.TripIEq.lean ====
/- The copies at the head of a trip, and the printed trip as these followed by the trip written by recursion. -/
module

public import proofs.«01_k».proof.Proof.TripI

@[expose] public section

noncomputable section

namespace Cert.Proof.KernelIdeal

open Cert.KernelIdeal Cert.KernelIdeal.Gen Cert.Proof.Trip
open Idealize.ShloMosaic Idealize.ShloMosaic.TcCoe Idealize.SL.Sem

variable {F : FTy → Type} [FloatOps F]

theorem bind_split {E : Type → Type} {α β γ : Type} {p : Prog E α} {h : Prog E PUnit.{1}} {x : α} (hp : p = h >>= fun _ => Prog.ret x)
    (f : α → Prog E β) (g : β → Prog E γ) {q : Prog E γ} (hq : f x >>= g = q) : (p >>= f) >>= g = h >>= fun _ => q := by
  subst hp
  rw [Prog.bind_assoc, Prog.bind_assoc]
  exact congrArg (h >>= ·) (funext fun _ => hq)

section
variable (arg0 : Memref sig .tc .hbm S256x3584 .bf16) (harg0 : arg0.IsWhole) (arg1 : Memref sig .tc .hbm S38016x1792 .i8) (harg1 : arg1.IsWhole) (arg2 : Memref sig .tc .hbm S38016x112 .bf16) (harg2 : arg2.IsWhole) (arg3 : Memref sig .tc .vmem S1x256 .i32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x3584 .bf16) (harg6 : arg6.IsWhole) (arg7 : Memref sig .tc .vmem S14x128x2x256 .bf16) (harg7 : arg7.IsWhole) (arg8 : Memref sig .tc .vmem S4x704x1792 .i8) (harg8 : arg8.IsWhole) (arg9 : Memref sig .tc .vmem S4x704x112 .bf16) (harg9 : arg9.IsWhole) (arg10 : Memref sig .tc .vmem S2x176x2x128 .bf16) (harg10 : arg10.IsWhole) (arg11 : Memref sig .tc .vmem S2x176x2x256 .bf16) (harg11 : arg11.IsWhole) (arg12 : DmaSems sig S_) (arg13 : DmaSems sig S4) (arg14 : DmaSems sig S4)

/-- The copies trip `k` starts: the blocks three trips ahead, if there are such. -/
def startOp (k0_t2 : Fin k0_t2_loop.trips) : Prog (TpuEff nD τ sig (Elt F) Λ₀ .tc) PUnit := do
  let arg15_r0 : BitVec 32 := Scf.iv 0#32 1#32 k0_t2
  let c3_i32_r0 : BitVec 32 := 3#32
  let v587_r0 : BitVec 32 := Scalar.addi arg15_r0 c3_i32_r0
  let c54_i32_116_r0 : BitVec 32 := 54#32
  let v588_r0 : BitVec 1 := Scalar.cmpi .slt v587_r0 c54_i32_116_r0
  let v589_r0 : BitVec 32 := Scalar.extui v588_r0
  let c0_i32_117_r0 : BitVec 32 := 0#32
  let v590_r0 : BitVec 1 := Scalar.cmpi .ne v589_r0 c0_i32_117_r0
  if k0_h1 : k0_cond1 k0_t2 = 1#1 then do
    let c3_i32_2294_r0 : BitVec 32 := 3#32
    let v6439_r0 : BitVec 32 := Scalar.addi arg15_r0 c3_i32_2294_r0
    let c4_i32_2295_r0 : BitVec 32 := 4#32
    let v6440_r0 : BitVec 32 := Scalar.remsi v6439_r0 c4_i32_2295_r0
    let c704_i32_2296_r0 : BitVec 32 := 704#32
    let v6441_r0 : BitVec 32 := Scalar.muli v6439_r0 c704_i32_2296_r0
    let v6442_r0 : DmaSems sig S1 := arg13.slice (Rect.unit (s := S4) (k0_off8 k0_t2) S1.size (k0_off8_inb k0_t2 k0_h1))
    let v6443_r0 : DmaSems sig S_ := v6442_r0.squeeze S_ squeezes_S1_S_
    let c0_i32_2297_r0 : BitVec 32 := 0#32
    let c0_i32_2298_r0 : BitVec 32 := 0#32
    let v6444_r0 : Memref sig .tc .vmem S1x704x1792 .i8 := arg8.slice (Rect.unit (s := S4x704x1792) (k0_off9 k0_t2) S1x704x1792.size (k0_off9_inb k0_t2 k0_h1)) (fun _ => rfl)
    let v6445_r0 : Memref sig .tc .vmem S704x1792 .i8 := v6444_r0.squeeze S704x1792 squeezes_S1x704x1792_S704x1792
    let c0_i32_2299_r0 : BitVec 32 := 0#32
    let v6446_r0 : Memref sig .tc .hbm S704x1792 .i8 := arg1.slice (Rect.unit (s := S38016x1792) (k0_off10 k0_t2) S704x1792.size (k0_off10_inb k0_t2 k0_h1)) (fun _ => rfl)
    Prog.lift (.enqueueDma v6446_r0 (.here v6445_r0) (.dma v6443_r0.sem) (harg1.wordExact_slice rfl _ (k0_off10_wordsi8 k0_t2 k0_h1)) ((harg8.wordExact_slice rfl _ (k0_off9_wordsi8 k0_t2 k0_h1)).reshape _ _) ⟨Or.inl rfl, trivial⟩)
    let v6447_r0 : DmaSems sig S1 := arg14.slice (Rect.unit (s := S4) (k0_off8 k0_t2) S1.size (k0_off8_inb k0_t2 k0_h1))
    let v6448_r0 : DmaSems sig S_ := v6447_r0.squeeze S_ squeezes_S1_S_
    let c0_i32_2300_r0 : BitVec 32 := 0#32
    let c0_i32_2301_r0 : BitVec 32 := 0#32
    let v6449_r0 : Memref sig .tc .vmem S1x704x112 .bf16 := arg9.slice (Rect.unit (s := S4x704x112) (k0_off11 k0_t2) S1x704x112.size (k0_off11_inb k0_t2 k0_h1)) (fun _ => rfl)
    let v6450_r0 : Memref sig .tc .vmem S704x112 .bf16 := v6449_r0.squeeze S704x112 squeezes_S1x704x112_S704x112
    let c0_i32_2302_r0 : BitVec 32 := 0#32
    let v6451_r0 : Memref sig .tc .hbm S704x112 .bf16 := arg2.slice (Rect.unit (s := S38016x112) (k0_off12 k0_t2) S704x112.size (k0_off12_inb k0_t2 k0_h1)) (fun _ => rfl)
    Prog.lift (.enqueueDma v6451_r0 (.here v6450_r0) (.dma v6448_r0.sem) (harg2.wordExact_slice rfl _ (k0_off12_wordsbf16 k0_t2 k0_h1)) ((harg9.wordExact_slice rfl _ (k0_off11_wordsbf16 k0_t2 k0_h1)).reshape _ _) ⟨Or.inl rfl, trivial⟩)
    pure ⟨⟩
  else do
    pure ⟨⟩

/-- The copies trip `k` waits for: the next trip's blocks, if there is a next trip. -/
def waitOp (k0_t2 : Fin k0_t2_loop.trips) : Prog (TpuEff nD τ sig (Elt F) Λ₀ .tc) PUnit := do
  let arg15_r0 : BitVec 32 := Scf.iv 0#32 1#32 k0_t2
  let c1_i32_118_r0 : BitVec 32 := 1#32
  let v591_r0 : BitVec 32 := Scalar.addi arg15_r0 c1_i32_118_r0
  let c54_i32_119_r0 : BitVec 32 := 54#32
  let v592_r0 : BitVec 1 := Scalar.cmpi .slt v591_r0 c54_i32_119_r0
  let v593_r0 : BitVec 32 := Scalar.extui v592_r0
  let c0_i32_120_r0 : BitVec 32 := 0#32
  let v594_r0 : BitVec 1 := Scalar.cmpi .ne v593_r0 c0_i32_120_r0
  if k0_h2 : k0_cond2 k0_t2 = 1#1 then do
    let c1_i32_2294_r0 : BitVec 32 := 1#32
    let v6439_r0 : BitVec 32 := Scalar.addi arg15_r0 c1_i32_2294_r0
    let c4_i32_2295_r0 : BitVec 32 := 4#32
    let v6440_r0 : BitVec 32 := Scalar.remsi v6439_r0 c4_i32_2295_r0
    let c704_i32_2296_r0 : BitVec 32 := 704#32
    let v6441_r0 : BitVec 32 := Scalar.muli v6439_r0 c704_i32_2296_r0
    let v6442_r0 : DmaSems sig S1 := arg13.slice (Rect.unit (s := S4) (k0_off13 k0_t2) S1.size (k0_off13_inb k0_t2 k0_h2))
    let v6443_r0 : DmaSems sig S_ := v6442_r0.squeeze S_ squeezes_S1_S_
    let c0_i32_2297_r0 : BitVec 32 := 0#32
    let c0_i32_2298_r0 : BitVec 32 := 0#32
    let v6444_r0 : Memref sig .tc .vmem S1x704x1792 .i8 := arg8.slice (Rect.unit (s := S4x704x1792) (k0_off14 k0_t2) S1x704x1792.size (k0_off14_inb k0_t2 k0_h2)) (fun _ => rfl)
    let v6445_r0 : Memref sig .tc .vmem S704x1792 .i8 := v6444_r0.squeeze S704x1792 squeezes_S1x704x1792_S704x1792
    let c0_i32_2299_r0 : BitVec 32 := 0#32
    let v6446_r0 : Memref sig .tc .hbm S704x1792 .i8 := arg1.slice (Rect.unit (s := S38016x1792) (k0_off15 k0_t2) S704x1792.size (k0_off15_inb k0_t2 k0_h2)) (fun _ => rfl)
    Prog.lift (.waitDma2 v6443_r0.sem v6446_r0 v6445_r0 (harg1.wordExact_slice rfl _ (k0_off15_wordsi8 k0_t2 k0_h2)) ((harg8.wordExact_slice rfl _ (k0_off14_wordsi8 k0_t2 k0_h2)).reshape _ _))
    let v6447_r0 : DmaSems sig S1 := arg14.slice (Rect.unit (s := S4) (k0_off13 k0_t2) S1.size (k0_off13_inb k0_t2 k0_h2))
    let v6448_r0 : DmaSems sig S_ := v6447_r0.squeeze S_ squeezes_S1_S_
    let c0_i32_2300_r0 : BitVec 32 := 0#32
    let c0_i32_2301_r0 : BitVec 32 := 0#32
    let v6449_r0 : Memref sig .tc .vmem S1x704x112 .bf16 := arg9.slice (Rect.unit (s := S4x704x112) (k0_off16 k0_t2) S1x704x112.size (k0_off16_inb k0_t2 k0_h2)) (fun _ => rfl)
    let v6450_r0 : Memref sig .tc .vmem S704x112 .bf16 := v6449_r0.squeeze S704x112 squeezes_S1x704x112_S704x112
    let c0_i32_2302_r0 : BitVec 32 := 0#32
    let v6451_r0 : Memref sig .tc .hbm S704x112 .bf16 := arg2.slice (Rect.unit (s := S38016x112) (k0_off17 k0_t2) S704x112.size (k0_off17_inb k0_t2 k0_h2)) (fun _ => rfl)
    Prog.lift (.waitDma2 v6448_r0.sem v6451_r0 v6450_r0 (harg2.wordExact_slice rfl _ (k0_off17_wordsbf16 k0_t2 k0_h2)) ((harg9.wordExact_slice rfl _ (k0_off16_wordsbf16 k0_t2 k0_h2)).reshape _ _))
    pure ⟨⟩
  else do
    pure ⟨⟩

end

theorem part6_eq (arg0 : Memref sig .tc .hbm S256x3584 .bf16) (harg0 : arg0.IsWhole) (arg1 : Memref sig .tc .hbm S38016x1792 .i8) (harg1 : arg1.IsWhole) (arg2 : Memref sig .tc .hbm S38016x112 .bf16) (harg2 : arg2.IsWhole) (arg3 : Memref sig .tc .vmem S1x256 .i32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x3584 .bf16) (harg6 : arg6.IsWhole) (arg7 : Memref sig .tc .vmem S14x128x2x256 .bf16) (harg7 : arg7.IsWhole) (arg8 : Memref sig .tc .vmem S4x704x1792 .i8) (harg8 : arg8.IsWhole) (arg9 : Memref sig .tc .vmem S4x704x112 .bf16) (harg9 : arg9.IsWhole) (arg10 : Memref sig .tc .vmem S2x176x2x128 .bf16) (harg10 : arg10.IsWhole) (arg11 : Memref sig .tc .vmem S2x176x2x256 .bf16) (harg11 : arg11.IsWhole) (arg12 : DmaSems sig S_) (arg13 : DmaSems sig S4) (arg14 : DmaSems sig S4) (v0 : IVec S176x128 32)  (k : Fin k0_t2_loop.trips) (ix : IVec S8x256 32) :
    k0_part6 (F := F) arg0 harg0 arg1 harg1 arg2 harg2 arg3 harg3 arg4 harg4 arg5 harg5 arg6 harg6 arg7 harg7 arg8 harg8 arg9 harg9 arg10 harg10 arg11 harg11 arg12 arg13 arg14 v0 0#32 1#32 k ix =
      (startOp arg1 harg1 arg2 harg2 arg8 harg8 arg9 harg9 arg13 arg14 k >>= fun _ => waitOp arg1 harg1 arg2 harg2 arg8 harg8 arg9 harg9 arg13 arg14 k) >>= fun _ =>
        Prog.ret ⟨Scf.iv 0#32 1#32 k, Scalar.remsi (Scf.iv 0#32 1#32 k) 4#32, subi ix (broadcast S8x256 88#32), addi (floor16 v0) (broadcast S176x128 16#32)⟩ := by
  unfold k0_part6 startOp waitOp
  by_cases h1 : k0_cond1 k = 1#1 <;> by_cases h2 : k0_cond2 k = 1#1
  · rw [dif_pos h1, dif_pos h1, dif_pos h2, dif_pos h2]; rfl
  · rw [dif_pos h1, dif_pos h1, dif_neg h2, dif_neg h2]; rfl
  · rw [dif_neg h1, dif_neg h1, dif_pos h2, dif_pos h2]; rfl
  · rw [dif_neg h1, dif_neg h1, dif_neg h2, dif_neg h2]; rfl

/-- The printed trip. -/
theorem body_eq (arg0 : Memref sig .tc .hbm S256x3584 .bf16) (harg0 : arg0.IsWhole) (arg1 : Memref sig .tc .hbm S38016x1792 .i8) (harg1 : arg1.IsWhole) (arg2 : Memref sig .tc .hbm S38016x112 .bf16) (harg2 : arg2.IsWhole) (arg3 : Memref sig .tc .vmem S1x256 .i32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x3584 .bf16) (harg6 : arg6.IsWhole) (arg7 : Memref sig .tc .vmem S14x128x2x256 .bf16) (harg7 : arg7.IsWhole) (arg8 : Memref sig .tc .vmem S4x704x1792 .i8) (harg8 : arg8.IsWhole) (arg9 : Memref sig .tc .vmem S4x704x112 .bf16) (harg9 : arg9.IsWhole) (arg10 : Memref sig .tc .vmem S2x176x2x128 .bf16) (harg10 : arg10.IsWhole) (arg11 : Memref sig .tc .vmem S2x176x2x256 .bf16) (harg11 : arg11.IsWhole) (arg12 : DmaSems sig S_) (arg13 : DmaSems sig S4) (arg14 : DmaSems sig S4) (v0 : IVec S176x128 32) (k0_mxu3 : Mxu F) (v210_r0 : FVec F S176x128 .f32) (v211_r0_lo : FVec F S176x128 .bf16) (k : Fin k0_t2_loop.trips) (top sec : FVec F S8x256 .f32) (ix : IVec S8x256 32) (m : Mxu F) :
    k0_t2_body arg0 harg0 arg1 harg1 arg2 harg2 arg3 harg3 arg4 harg4 arg5 harg5 arg6 harg6 arg7 harg7 arg8 harg8 arg9 harg9 arg10 harg10 arg11 harg11 arg12 arg13 arg14 v0 k0_mxu3 v210_r0 v211_r0_lo k (top, sec, ix, m) =
      (startOp arg1 harg1 arg2 harg2 arg8 harg8 arg9 harg9 arg13 arg14 k >>= fun _ => waitOp arg1 harg1 arg2 harg2 arg8 harg8 arg9 harg9 arg13 arg14 k) >>= fun _ =>
        trip (opsI arg7 arg8 arg9 arg10 harg10 arg11 harg11 v0 k) (Scalar.cmpi .eq (Scf.iv 0#32 1#32 k) 0#32) (m, (top, sec, ix))
          fun ms => .ret (ms.2.1, ms.2.2.1, ms.2.2.2, ms.1) := by
  unfold k0_t2_body
  unfold k0_part161
  dsimp only
  refine bind_split (E := TpuEff nD τ sig (Elt F) Λ₀ .tc) (part6_eq arg0 harg0 arg1 harg1 arg2 harg2 arg3 harg3 arg4 harg4 arg5 harg5 arg6 harg6 arg7 harg7 arg8 harg8 arg9 harg9 arg10 harg10 arg11 harg11 arg12 arg13 arg14 v0 k ix) _ _ ?_
  chain_rfl

end Cert.Proof.KernelIdeal
-- ==== Proof.TripMxu.lean ====
/-
  What the matrix units hold in the course of a trip: the tile of the chunk at hand, the rows of the set the sub-block
  sums into, the rows of the other set waiting for their fold. The meaning of the tiles, of the left-hand sides and of
  the sums is a parameter (`Spec`).
-/
module

public import proofs.«01_k».proof.Proof.Trip
public import Idealize.ShloMosaic.Lib.Mxu.Lemmas

@[expose] public section

noncomputable section

namespace Cert.Proof.Trip

open Idealize.ShloMosaic Idealize.SL.Sem

variable {F : FTy → Type} [FloatOps F]

/-- The product of a strip's left-hand side and a tile. -/
def prod (l : FVec F A32 .bf16) (t : FVec F (Mxu.STile 256) .bf16) : FVec F A32 .f32 :=
  FloatOps.mxuPass (DotDims.transposedRhs 32 256 256) l t

/-- What a trip's values mean: the tiles of chunk `c`, the left-hand sides of strip `st` of step `(b, c)`, the sums of
    `n` chunks, the rows sub-block `b` folds, and what the fold carries after `n` strips. -/
structure Spec (F : FTy → Type) [FloatOps F] where
  tile : ℕ → Fin 2 → FVec F (Mxu.STile 256) .bf16 → Prop
  lhs : ℕ → ℕ → ℕ → Fin 2 → FVec F A32 .bf16 → Prop
  sum : ℕ → ℕ → Fin 2 → ℕ → FVec F A32 .f32 → Prop
  old : ℕ → ℕ → Fin 2 → FVec F A32 .f32 → Prop
  fold : ℕ → ℕ → St F → Prop
  sum_one : ∀ b st q t l, b < 2 → st < 11 → tile 0 q t → lhs b 0 st q l → sum b st q 1 (prod l t)
  sum_succ : ∀ b st q c t l v, b < 2 → st < 11 → 0 < c → c < 7 → tile c q t → lhs b c st q l → sum b st q c v → sum b st q (c + 1) (addf v (prod l t))
  fold_succ : ∀ b n s v0 v1, b < 2 → n < 11 → fold b n s → old b n 0 v0 → old b n 1 v1 → fold b (n + 1) (foldStrip s (addf v0 v1) (44 * b + 4 * n))

/-- Unit `q` in step `(b, c)` with `st` strips summed and `nf` strips of the other set folded. -/
structure Unit1 (S : Spec F) (m : Mxu F) (q : Fin 2) (b c st nf : ℕ) : Prop where
  spare : m.reg q 1 = none
  staged : st = 0 → ∃ t, m.reg q 0 = some ⟨.bf16, true, t⟩ ∧ S.tile (c % 7) q t
  loaded : 0 < st → m.reg q 0 = none ∧ ∃ t, m.gmr q = some ⟨.bf16, true, t⟩ ∧ S.tile (c % 7) q t
  dead : ∀ s < 11, c + (if s < st then 1 else 0) = 0 → ∀ R : Fin 1024, 4 * addr b s ≤ R.val → R.val < 4 * addr b s + 32 → m.live q R = false
  live : ∀ s < 11, 0 < c + (if s < st then 1 else 0) → ∀ R : Fin 1024, 4 * addr b s ≤ R.val → R.val < 4 * addr b s + 32 → m.live q R = true
  sum : ∀ s < 11, 0 < c + (if s < st then 1 else 0) → S.sum b s q (c + (if s < st then 1 else 0)) (m.read q (addr b s) (fits_addr b s))
  gone : ∀ s < nf, s < 11 → ∀ R : Fin 1024, 4 * addr (b + 1) s ≤ R.val → R.val < 4 * addr (b + 1) s + 32 → m.live q R = false
  old : ∀ s < 11, nf ≤ s → S.old b s q (m.read q (addr (b + 1) s) (fits_addr (b + 1) s))
  rest : ∀ R : Fin 1024, 704 ≤ R.val → m.live q R = false

theorem Unit1.congr {S : Spec F} {m m' : Mxu F} {q : Fin 2} {b c st nf : ℕ} (h : Unit1 S m q b c st nf)
    (hr : ∀ r, m'.reg q r = m.reg q r) (hg : m'.gmr q = m.gmr q) (hl : ∀ R, m'.live q R = m.live q R)
    (ha : ∀ A (hf : Mxu.Fits A 32), m'.read q A hf = m.read q A hf) : Unit1 S m' q b c st nf where
  spare := by rw [hr]; exact h.spare
  staged e := by rw [hr]; exact h.staged e
  loaded e := by rw [hr, hg]; exact h.loaded e
  dead s hs e R h1 h2 := by rw [hl]; exact h.dead s hs e R h1 h2
  live s hs e R h1 h2 := by rw [hl]; exact h.live s hs e R h1 h2
  sum s hs e := by rw [ha]; exact h.sum s hs e
  gone s hs e R h1 h2 := by rw [hl]; exact h.gone s hs e R h1 h2
  old s hs e := by rw [ha]; exact h.old s hs e
  rest R e := by rw [hl]; exact h.rest R e

/-- The other unit's operations leave a unit as it was. -/
theorem Unit1.accLhs_ne {S : Spec F} {m : Mxu F} {q q' : Fin 2} {b c st nf : ℕ} (h : Unit1 S m q b c st nf) (hne : q ≠ q')
    (A : ℕ) (l : FVec F A32 .bf16) (hf : Mxu.Fits A 32) : Unit1 S (m.accLhs q' 0 A l hf) q b c st nf :=
  h.congr (fun r => Mxu.reg_accLhs_ne _ _ _ _ _ _ _ _ fun e => hne e.1) (Mxu.gmr_accLhs_ne _ _ _ _ _ _ _ hne)
    (fun R => by rw [Mxu.live_accLhs, if_neg fun e => hne e.1]) (fun A' h' => Mxu.read_accLhs_ne _ _ _ _ _ _ _ _ h' (.inl hne))

theorem Unit1.accBy_ne {S : Spec F} {m : Mxu F} {q q' : Fin 2} {b c st nf : ℕ} (h : Unit1 S m q b c st nf) (hne : q ≠ q')
    (t : Mxu.Staged F) (A : ℕ) (l : FVec F A32 .bf16) (hf : Mxu.Fits A 32) : Unit1 S (m.accBy q' t A l hf) q b c st nf :=
  h.congr (fun _ => rfl) rfl
    (fun R => by rw [Mxu.live_accBy, if_neg fun e => hne e.1]) (fun A' h' => Mxu.read_accBy_ne _ _ _ _ _ _ _ _ h' (.inl hne))

theorem Unit1.pop_ne {S : Spec F} {m : Mxu F} {q q' : Fin 2} {b c st nf : ℕ} (h : Unit1 S m q b c st nf) (hne : q ≠ q')
    (A : ℕ) (hf : Mxu.Fits A 32) : Unit1 S (m.pop q' A 32 hf) q b c st nf :=
  h.congr (fun _ => rfl) rfl
    (fun R => by rw [Mxu.live_pop, if_neg fun e => hne e.1]) (fun A' h' => Mxu.read_pop_ne _ _ _ _ _ _ h' (.inl hne))

theorem Unit1.pushed_ne {S : Spec F} {m : Mxu F} {q q' : Fin 2} {b c st nf : ℕ} (h : Unit1 S m q b c st nf) (hne : q ≠ q')
    (t : FVec F (Mxu.STile 256) .bf16) : Unit1 S (m.pushed q' 0 true t) q b c st nf :=
  h.congr (fun r => Mxu.reg_pushed_ne _ _ _ _ _ _ _ fun e => hne e.1) (by rw [Mxu.gmr_pushed])
    (fun R => by rw [Mxu.live_pushed]) (fun A' h' => Mxu.read_pushed _ _ _ _ _ _ _ h')

/-- Accumulating strip `st` by a tile of the chunk at hand: the rows of every strip afterwards. -/
theorem Unit1.accBy_rows {S : Spec F} {m : Mxu F} {q : Fin 2} {b c st nf : ℕ} (h : Unit1 S m q b c st nf) (hb : b < 2) (hc : c < 7) (hst : st < 11)
    {t : FVec F (Mxu.STile 256) .bf16} (ht : S.tile (c % 7) q t) {l : FVec F A32 .bf16} (hl : S.lhs b c st q l) :
    ∀ s < 11, 0 < c + (if s < st + 1 then 1 else 0) → S.sum b s q (c + (if s < st + 1 then 1 else 0))
      ((m.accBy q ⟨.bf16, true, t⟩ (addr b st) l (fits_addr b st)).read q (addr b s) (fits_addr b s)) := by
  intro s hs hpos
  rw [Nat.mod_eq_of_lt hc] at ht
  by_cases e : s = st
  · subst e
    rw [if_pos (Nat.lt_succ_self s)]
    rcases Nat.eq_zero_or_pos c with rfl | hc0
    · rw [Mxu.read_accBy_of_not_live _ _ _ _ _ _ fun r => h.dead s hs (by simp) _ (by simp [Mxu.row]) (by have := r.isLt; simp [Mxu.row])]
      exact S.sum_one b s q t l hb hs ht hl
    · have h0 : c + (if s < s then 1 else 0) = c := by simp
      rw [Mxu.read_accBy_of_live _ _ _ _ _ _ fun r => h.live s hs (by rw [h0]; exact hc0) _ (by simp [Mxu.row]) (by have := r.isLt; simp [Mxu.row])]
      have h3 := h.sum s hs (by rw [h0]; exact hc0)
      rw [h0] at h3
      exact S.sum_succ b s q c t l _ hb hs hc0 hc ht hl h3
  · have hi : (if s < st + 1 then 1 else 0) = (if s < st then 1 else 0) := by
      by_cases h1 : s < st
      · rw [if_pos h1, if_pos (by omega)]
      · rw [if_neg h1, if_neg (by omega)]
    rw [hi] at hpos ⊢
    rw [Mxu.read_accBy_ne _ _ _ _ _ _ _ _ _ (.inr (by unfold addr; omega))]
    exact h.sum s hs hpos

theorem accBy_live_iff {m : Mxu F} {q : Fin 2} {b st : ℕ} (t : Mxu.Staged F) (l : FVec F A32 .bf16) (R : Fin 1024) :
    (m.accBy q t (addr b st) l (fits_addr b st)).live q R = if 4 * addr b st ≤ R.val ∧ R.val < 4 * addr b st + 32 then true else m.live q R := by
  rw [Mxu.live_accBy]; simp

/-- The accumulate of strip `st`, whatever becomes of the registers. -/
theorem Unit1.step {S : Spec F} {m m' : Mxu F} {q : Fin 2} {b c st nf : ℕ} (h : Unit1 S m q b c st nf) (hb : b < 2) (hc : c < 7) (hst : st < 11)
    {t : FVec F (Mxu.STile 256) .bf16} (ht : S.tile (c % 7) q t) {l : FVec F A32 .bf16} (hl : S.lhs b c st q l)
    (h1 : m'.reg q 1 = none) (h0 : m'.reg q 0 = none) (hg : m'.gmr q = some ⟨.bf16, true, t⟩)
    (hlive : ∀ R, m'.live q R = (m.accBy q ⟨.bf16, true, t⟩ (addr b st) l (fits_addr b st)).live q R)
    (hread : ∀ A (hf : Mxu.Fits A 32), m'.read q A hf = (m.accBy q ⟨.bf16, true, t⟩ (addr b st) l (fits_addr b st)).read q A hf) :
    Unit1 S m' q b c (st + 1) nf where
  spare := h1
  staged e := absurd e (Nat.succ_ne_zero st)
  loaded _ := ⟨h0, t, hg, ht⟩
  dead s hs e R r1 r2 := by
    have hlt : ¬ s < st + 1 := fun hh => by rw [if_pos hh] at e; omega
    have hc0 : c = 0 := by omega
    rw [hlive, accBy_live_iff, if_neg (by unfold addr at *; omega)]
    exact h.dead s hs (by rw [if_neg (by omega)]; omega) R r1 r2
  live s hs e R r1 r2 := by
    rw [hlive, accBy_live_iff]
    split
    · rfl
    · rename_i hn
      have hne : s ≠ st := fun hh => hn (by subst hh; exact ⟨r1, r2⟩)
      refine h.live s hs ?_ R r1 r2
      by_cases hh : s < st
      · rw [if_pos hh]; omega
      · rw [if_neg (by omega)] at e; omega
  sum s hs e := by rw [hread]; exact h.accBy_rows hb hc hst ht hl s hs e
  gone s hs e R r1 r2 := by
    rw [hlive, accBy_live_iff, if_neg (by unfold addr at *; omega)]
    exact h.gone s hs e R r1 r2
  old s hs e := by
    rw [hread, Mxu.read_accBy_ne _ _ _ _ _ _ _ _ _ (.inr (by unfold addr; omega))]
    exact h.old s hs e
  rest R e := by
    rw [hlive, accBy_live_iff, if_neg (by unfold addr at *; omega)]
    exact h.rest R e

/-- The first strip of a step: the staged tile loaded. -/
theorem Unit1.accLhs {S : Spec F} {m : Mxu F} {q : Fin 2} {b c nf : ℕ} (h : Unit1 S m q b c 0 nf) (hb : b < 2) (hc : c < 7)
    {l : FVec F A32 .bf16} (hl : S.lhs b c 0 q l) : Unit1 S (m.accLhs q 0 (addr b 0) l (fits_addr b 0)) q b c 1 nf := by
  obtain ⟨t, ht, hT⟩ := h.staged rfl
  have hs : m.staged q 0 = ⟨.bf16, true, t⟩ := by rw [Mxu.staged_eq, ht]; rfl
  refine h.step hb hc (by omega) hT hl ?_ (Mxu.reg_accLhs _ _ _ _ _ _) ?_ ?_ ?_
  · rw [Mxu.reg_accLhs_ne _ _ _ _ _ _ _ _ (by simp)]; exact h.spare
  · rw [Mxu.gmr_accLhs, hs]
  · intro R; rw [Mxu.live_accLhs, Mxu.live_accBy]
  · intro A hf; rw [Mxu.read_accLhs_eq_accBy, hs]

/-- A later strip. -/
theorem Unit1.accBy {S : Spec F} {m : Mxu F} {q : Fin 2} {b c st nf : ℕ} (h : Unit1 S m q b c st nf) (hb : b < 2) (hc : c < 7) (hst : st < 11)
    (h0 : 0 < st) {l : FVec F A32 .bf16} (hl : S.lhs b c st q l) :
    ∃ t, m.gmr q = some t ∧ Unit1 S (m.accBy q t (addr b st) l (fits_addr b st)) q b c (st + 1) nf := by
  obtain ⟨hr, t, ht, hT⟩ := h.loaded h0
  exact ⟨_, ht, h.step hb hc hst hT hl h.spare hr ht (fun _ => rfl) fun _ _ => rfl⟩

/-- The next chunk's tile staged. -/
theorem Unit1.pushed {S : Spec F} {m : Mxu F} {q : Fin 2} {b c nf : ℕ} (h : Unit1 S m q b c 11 nf)
    {t : FVec F (Mxu.STile 256) .bf16} (ht : S.tile ((c + 1) % 7) q t) :
    m.PushOk q 0 true ∧ Unit1 S (m.pushed q 0 true t) q b (c + 1) 0 nf := by
  obtain ⟨hr, -⟩ := h.loaded (by omega)
  have key : ∀ s, s < 11 → c + (if s < 11 then 1 else 0) = c + 1 + (if s < 0 then 1 else 0) := fun s hs => by rw [if_pos hs, if_neg (by omega)]
  refine ⟨Mxu.pushOk_of_none _ _ _ _ hr, ?_, ?_, ?_, ?_, ?_, ?_, ?_, ?_, ?_⟩
  · rw [Mxu.reg_pushed_ne _ _ _ _ _ _ _ (by simp)]; exact h.spare
  · exact fun _ => ⟨t, Mxu.reg_pushed_of_none _ _ _ _ _ hr, ht⟩
  · intro e; omega
  · intro s hs e; omega
  · intro s hs e R r1 r2; rw [Mxu.live_pushed]; exact h.live s hs (by rw [key s hs]; exact e) R r1 r2
  · intro s hs e; rw [Mxu.read_pushed, ← key s hs]; exact h.sum s hs (by rw [key s hs]; exact e)
  · intro s hs e R r1 r2; rw [Mxu.live_pushed]; exact h.gone s hs e R r1 r2
  · intro s hs e; rw [Mxu.read_pushed]; exact h.old s hs e
  · intro R e; rw [Mxu.live_pushed]; exact h.rest R e

/-- A strip of the other set popped. -/
theorem Unit1.pop {S : Spec F} {m : Mxu F} {q : Fin 2} {b c st nf : ℕ} (h : Unit1 S m q b c st nf) (hnf : nf < 11) :
    Unit1 S (m.pop q (addr (b + 1) nf) 32 (fits_addr (b + 1) nf)) q b c st (nf + 1) where
  spare := h.spare
  staged := h.staged
  loaded := h.loaded
  dead s hs e R r1 r2 := by
    rw [Mxu.live_pop]; split
    · rfl
    · exact h.dead s hs e R r1 r2
  live s hs e R r1 r2 := by
    rw [Mxu.live_pop, if_neg (by unfold addr at *; omega)]; exact h.live s hs e R r1 r2
  sum s hs e := by
    rw [Mxu.read_pop_ne _ _ _ _ _ _ _ (.inr (by unfold addr; omega))]; exact h.sum s hs e
  gone s hs e R r1 r2 := by
    rw [Mxu.live_pop]; split
    · rfl
    · rename_i hn
      have : s ≠ nf := fun hh => hn (by subst hh; exact ⟨rfl, r1, r2⟩)
      exact h.gone s (by omega) e R r1 r2
  old s hs e := by
    rw [Mxu.read_pop_ne _ _ _ _ _ _ _ (.inr (by unfold addr; omega))]; exact h.old s hs (by omega)
  rest R e := by
    rw [Mxu.live_pop]; split
    · rfl
    · exact h.rest R e

/-- Both units, and what the fold carries. -/
structure Both (S : Spec F) (ms : Mxu F × St F) (b c st nf : ℕ) : Prop where
  u : ∀ q, Unit1 S ms.1 q b c st nf
  f : S.fold b nf ms.2

theorem Both.popFold {S : Spec F} {ms : Mxu F × St F} {b c st nf : ℕ} (h : Both S ms b c st nf) (hb : b < 2) (hnf : nf < 11) :
    Both S (popFold ms.1 ms.2 (b + 1) nf (44 * b + 4 * nf)) b c st (nf + 1) := by
  refine ⟨fun q => ?_, ?_⟩
  · unfold Trip.popFold; dsimp only
    match q with
    | 0 => exact ((h.u 0).pop hnf).pop_ne (by decide) _ _
    | 1 =>
      have h1 := ((h.u 1).pop_ne (q' := 0) (by decide) _ (fits_addr (b + 1) nf)).pop hnf
      exact h1
  · unfold Trip.popFold; dsimp only
    refine S.fold_succ b nf _ _ _ hb hnf h.f ((h.u 0).old nf hnf le_rfl) ?_
    rw [Mxu.read_pop_ne _ _ _ _ _ _ _ (.inl (by decide))]
    exact (h.u 1).old nf hnf le_rfl

theorem Both.popFolds {S : Spec F} {b c st : ℕ} (hb : b < 2) : ∀ (n nf : ℕ) (ms : Mxu F × St F), nf + n ≤ 11 → Both S ms b c st nf →
    Both S (popFolds b (b + 1) n nf ms) b c st (nf + n)
  | 0, nf, ms, _, h => h
  | n + 1, nf, ms, hn, h => by
    have h1 := Both.popFolds hb n (nf + 1) _ (by omega) (h.popFold hb (by omega))
    rw [show nf + (n + 1) = nf + 1 + n by omega]
    exact h1

end Cert.Proof.Trip
-- ==== Proof.TripWp.lean ====
/-
  A trip meets its specification: from the buffers as a trip finds them and the matrix units between sub-blocks, the
  trip runs to its continuation with the buffers as the next trip finds them. By recursion on strips and steps, over
  the triples of the buffers' part (`OpsOk`).
-/
module

public import proofs.«01_k».proof.Proof.TripMxu
public import Idealize.ShloMosaic.Rules.Step

@[expose] public section

noncomputable section

namespace Cert.Proof.Trip

open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F] {nD : ℕ} {τ : Topo} {sig : RefSig} {Λ : Labels} {p : Proc τ} {R : Type}
variable {M : Type} [URA M]

/-- The triples of a trip's buffer operations: `Res k` is what holds after `k` of the fourteen steps were prepared. -/
structure OpsOk (S : Spec F) (O : Ops nD τ sig Λ p F R) (W : Pg nD τ sig Λ p F R → sProp M) (Res : ℕ → sProp M) where
  sc : ℕ → ℕ → ℕ → FVec F A32 .bf16 → Prop
  co : ℕ → ℕ → ℕ → IVec A32 8 → Prop
  lhs : ∀ b c st s q, b < 2 → c < 7 → st < 11 → sc b c st s → co b c st q → S.lhs b c st 0 (dqLo q s) ∧ S.lhs b c st 1 (dqHi q s)
  prep : ∀ b c κ, b < 2 → c < 7 → Res (b * 7 + c) ⊢ iprop((Res (b * 7 + c + 1) -∗ W (κ ())) -∗ W (O.prep b c κ))
  wide : ∀ b c st κ, b < 2 → c < 7 → st < 11 →
    Res (b * 7 + c + 1) ⊢ iprop((∀ v, ⌜sc b c st v⌝ -∗ Res (b * 7 + c + 1) -∗ W (κ v)) -∗ W (O.wide ((b * 7 + c) % 2) st κ))
  codes : ∀ b c st κ, b < 2 → c < 7 → st < 11 →
    Res (b * 7 + c + 1) ⊢ iprop((∀ v, ⌜co b c st v⌝ -∗ Res (b * 7 + c + 1) -∗ W (κ v)) -∗ W (O.codes b c st κ))
  tile : ∀ k c (q : Fin 2) κ, k < 15 → c < 7 →
    Res k ⊢ iprop((∀ v, ⌜S.tile c q v⌝ -∗ Res k -∗ W (κ v)) -∗ W (O.tile (2 * c + q.val) κ))
  assume : ∀ (P : Prop) (d : Decidable P) (κ : PLift P → Pg nD τ sig Λ p F R) (h : P), W (κ ⟨h⟩) ⊢ W (.op (.assume P d) κ)

variable {S : Spec F} {O : Ops nD τ sig Λ p F R} {W : Pg nD τ sig Λ p F R → sProp M} {Res : ℕ → sProp M}

theorem strip_ok (H : OpsOk S O W Res) {b c st nf : ℕ} (hb : b < 2) (hc : c < 7) (hst : st < 11) {m : Mxu F}
    (hm : ∀ q, Unit1 S m q b c st nf) (κ : Mxu F → Pg nD τ sig Λ p F R) :
    Res (b * 7 + c + 1) ⊢ iprop((∀ m', ⌜∀ q, Unit1 S m' q b c (st + 1) nf⌝ -∗ Res (b * 7 + c + 1) -∗ W (κ m')) -∗ W (strip O b c st m κ)) := by
  unfold strip
  iintro HR Hk
  iapply (H.wide b c st _ hb hc hst) $$ HR
  iintro %s %hs HR
  iapply (H.codes b c st _ hb hc hst) $$ HR
  iintro %v %hv HR
  obtain ⟨h0, h1⟩ := H.lhs b c st s v hb hc hst hs hv
  match st, hst, hm, h0, h1 with
  | 0, hst, hm, h0, h1 =>
    ispecialize Hk $$ %((m.accLhs 0 0 (addr b 0) (dqLo v s) (fits_addr b 0)).accLhs 1 0 (addr b 0) (dqHi v s) (fits_addr b 0))
    iapply Hk
    · ipureintro
      intro q
      match q with
      | 0 => exact ((hm 0).accLhs hb hc h0).accLhs_ne (by decide) _ _ _
      | 1 => exact ((hm 1).accLhs_ne (q' := 0) (by decide) _ _ _).accLhs hb hc h1
    · iexact HR
  | st + 1, hst, hm, h0, h1 =>
    obtain ⟨t0, e0, g0⟩ := (hm 0).accBy hb hc hst (Nat.succ_pos st) h0
    obtain ⟨t1, e1, g1⟩ := ((hm 1).accBy_ne (q' := 0) (by decide) t0 (addr b (st + 1)) (dqLo v s) (fits_addr b (st + 1))).accBy hb hc hst (Nat.succ_pos st) h1
    have i0 : (m.gmr 0).isSome = true := by rw [e0]; rfl
    have j0 : (m.gmr 0).get i0 = t0 := by simp [e0]
    iapply (H.assume _ _ _ i0)
    rw [j0]
    have i1 : ((m.accBy 0 t0 (addr b (st + 1)) (dqLo v s) (fits_addr b (st + 1))).gmr 1).isSome = true := by rw [e1]; rfl
    have j1 : ((m.accBy 0 t0 (addr b (st + 1)) (dqLo v s) (fits_addr b (st + 1))).gmr 1).get i1 = t1 := by simp only [e1]; rfl
    iapply (H.assume _ _ _ i1)
    try dsimp only
    rw [j1]
    ispecialize Hk $$ %((m.accBy 0 t0 (addr b (st + 1)) (dqLo v s) (fits_addr b (st + 1))).accBy 1 t1 (addr b (st + 1)) (dqHi v s) (fits_addr b (st + 1)))
    iapply Hk
    · ipureintro
      intro q
      match q with
      | 0 => exact g0.accBy_ne (by decide) _ _ _ _
      | 1 => exact g1
    · iexact HR

theorem strips_ok (H : OpsOk S O W Res) {b c nf : ℕ} (hb : b < 2) (hc : c < 7) {m : Mxu F} (hm : ∀ q, Unit1 S m q b c 0 nf) :
    ∀ (n : ℕ) (_ : n ≤ 11) (κ : Mxu F → Pg nD τ sig Λ p F R),
    Res (b * 7 + c + 1) ⊢ iprop((∀ m', ⌜∀ q, Unit1 S m' q b c n nf⌝ -∗ Res (b * 7 + c + 1) -∗ W (κ m')) -∗ W (strips O b c n m κ))
  | 0, _, κ => by
    unfold strips
    iintro HR Hk
    ispecialize Hk $$ %m
    iapply Hk
    · ipureintro; exact hm
    · iexact HR
  | n + 1, hn, κ => by
    unfold strips
    iintro HR Hk
    iapply (strips_ok H hb hc hm n (by omega) _) $$ HR
    iintro %m' %hm' HR
    iapply (strip_ok H hb hc (by omega) hm' κ) $$ HR
    iexact Hk

theorem push_ok (H : OpsOk S O W Res) {b c nf k : ℕ} (hk : k < 15) {m : Mxu F} (hm : ∀ q, Unit1 S m q b c 11 nf)
    (κ : Mxu F → Pg nD τ sig Λ p F R) :
    Res k ⊢ iprop((∀ m', ⌜∀ q, Unit1 S m' q b (c + 1) 0 nf⌝ -∗ Res k -∗ W (κ m')) -∗ W (push O ((c + 1) % 7) m κ)) := by
  unfold push
  iintro HR Hk
  iapply (H.tile k ((c + 1) % 7) 0 _ hk (Nat.mod_lt _ (by omega))) $$ HR
  iintro %t %ht HR
  obtain ⟨p0, g0⟩ := (hm 0).pushed ht
  iapply (H.assume _ _ _ p0)
  iapply (H.tile k ((c + 1) % 7) 1 _ hk (Nat.mod_lt _ (by omega))) $$ HR
  iintro %t' %ht' HR
  obtain ⟨p1, g1⟩ := ((hm 1).pushed_ne (q' := 0) (by decide) t).pushed ht'
  iapply (H.assume _ _ _ p1)
  ispecialize Hk $$ %((m.pushed 0 0 true t).pushed 1 0 true t')
  iapply Hk
  · ipureintro
    intro q
    match q with
    | 0 => exact g0.pushed_ne (by decide) _
    | 1 => exact g1
  · iexact HR

/-- The number of strips folded before step `c`. -/
def folded (c : ℕ) : ℕ := min (2 * (c - 1)) 11

theorem step_ok (H : OpsOk S O W Res) {b c : ℕ} (hb : b < 2) (hc : c < 7) {ms : Mxu F × St F} (hm : Both S ms b c 0 (folded c))
    (κ : Mxu F × St F → Pg nD τ sig Λ p F R) :
    Res (b * 7 + c) ⊢ iprop((∀ ms', ⌜Both S ms' b (c + 1) 0 (folded (c + 1))⌝ -∗ Res (b * 7 + c + 1) -∗ W (κ ms')) -∗ W (step O b c ms κ)) := by
  unfold step
  iintro HR Hk
  iapply (H.prep b c _ hb hc) $$ HR
  iintro HR
  iapply (strips_ok H hb hc hm.u 11 le_rfl _) $$ HR
  iintro %m %hm1 HR
  iapply (push_ok H (by omega) hm1 _) $$ HR
  iintro %m2 %hm2 HR
  ispecialize Hk $$ %(popFolds b (b + 1) (nFold c) (2 * (c - 1)) (m2, ms.2))
  iapply Hk
  · ipureintro
    have e : folded c = 2 * (c - 1) := by unfold folded; omega
    have e2 : folded (c + 1) = folded c + nFold c := by unfold folded nFold; omega
    have h := Both.popFolds (S := S) hb (nFold c) (folded c) (m2, ms.2) (by unfold folded nFold; omega) ⟨hm2, hm.f⟩
    rw [e2]
    rw [e] at h ⊢
    exact h
  · iexact HR

theorem steps_ok (H : OpsOk S O W Res) {b : ℕ} (hb : b < 2) {ms : Mxu F × St F} (hm : Both S ms b 0 0 0) :
    ∀ (n : ℕ) (_ : n ≤ 7) (κ : Mxu F × St F → Pg nD τ sig Λ p F R),
    Res (b * 7) ⊢ iprop((∀ ms', ⌜Both S ms' b n 0 (folded n)⌝ -∗ Res (b * 7 + n) -∗ W (κ ms')) -∗ W (steps O b n ms κ))
  | 0, _, κ => by
    unfold steps
    iintro HR Hk
    ispecialize Hk $$ %ms
    iapply Hk
    · ipureintro; exact hm
    · iexact HR
  | n + 1, hn, κ => by
    unfold steps
    iintro HR Hk
    iapply (steps_ok H hb hm n (by omega) _) $$ HR
    iintro %m' %hm' HR
    iapply (step_ok H hb (by omega) hm' κ) $$ HR
    iexact Hk

theorem read_addr (m : Mxu F) (q : Fin 2) {A A' : ℕ} (e : A = A') (h : Mxu.Fits A 32) (h' : Mxu.Fits A' 32) : m.read q A h = m.read q A' h' := by
  subst e; rfl

/-- Between sub-blocks the sets change places: the sums of sub-block `b` are the rows sub-block `b'` folds. -/
theorem Both.turn {S S' : Spec F} {ms : Mxu F × St F} {b b' : ℕ} (h : Both S ms b 7 0 11) (s : St F) (hbb : (b' + b) % 2 = 1)
    (ht : ∀ q t, S.tile 0 q t → S'.tile 0 q t) (ho : ∀ st q v, st < 11 → S.sum b st q 7 v → S'.old b' st q v)
    (hf : S'.fold b' 0 s) : Both S' (ms.1, s) b' 0 0 0 := by
  have ea : ∀ st, addr (b' + 1) st = addr b st := fun st => by unfold addr; omega
  have eb : ∀ st, addr b' st = addr (b + 1) st := fun st => by unfold addr; omega
  refine ⟨fun q => ?_, hf⟩
  have hu := h.u q
  refine ⟨hu.spare, ?_, ?_, ?_, ?_, ?_, ?_, ?_, hu.rest⟩
  · intro _; obtain ⟨t, e, h1⟩ := hu.staged rfl; exact ⟨t, e, ht q t h1⟩
  · intro e; omega
  · intro s hs _ R r1 r2; rw [eb] at r1 r2; exact hu.gone s hs hs R r1 r2
  · intro s hs e; simp at e
  · intro s hs e; simp at e
  · intro s hs; omega
  · intro s hs _
    refine ho s q _ hs ?_
    have := hu.sum s hs (by simp)
    simp only [Nat.not_lt_zero, if_false, Nat.add_zero] at this
    rw [read_addr ms.1 q (ea s) (fits_addr (b' + 1) s) (fits_addr b s)]
    exact this

/-- A trip meets its specification. -/
theorem trip_ok (H : OpsOk S O W Res) (w : BitVec 1) {ms : Mxu F × St F}
    (hm : Both S (ms.1, (ms.2.1, ms.2.2.1, subi ms.2.2.2 (broadcast A8 88#32))) 0 0 0 0)
    (hold : ∀ st q v, st < 11 → S.sum 0 st q 7 v → S.old 1 st q v) (hfresh : ∀ s, S.fold 0 11 s → S.fold 1 0 (fresh w s))
    (κ : Mxu F × St F → Pg nD τ sig Λ p F R) :
    Res 0 ⊢ iprop((∀ ms', ⌜Both S ms' 1 7 0 11⌝ -∗ Res 14 -∗ W (κ ms')) -∗ W (trip O w ms κ)) := by
  unfold trip
  iintro HR Hk
  iapply (steps_ok H (b := 0) (by omega) hm 7 le_rfl _) $$ HR
  iintro %ms1 %hm1 HR
  have hm2 : Both S (ms1.1, fresh w ms1.2) 1 0 0 0 := Both.turn hm1 _ (by decide) (fun _ _ h => h) hold (hfresh _ hm1.f)
  iapply (steps_ok H (b := 1) (by omega) hm2 7 le_rfl κ) $$ HR
  iexact Hk

end Cert.Proof.Trip
-- ==== Proof.TripOkI.lean ====
/-
  The idealized kernel's trip over its one resource: the copies at its head, the buffers' operations, the trip.
-/
module

public import proofs.«01_k».proof.Proof.OkI
public import proofs.«01_k».proof.Proof.TripIEq
public import proofs.«01_k».proof.Proof.TripWp

@[expose] public section

noncomputable section

namespace Cert.Proof.KernelIdeal

open Cert.KernelIdeal Cert.KernelIdeal.Gen Cert.Proof Cert.Proof.Trip
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable {c : Dev nD} {V : (b : Ref sig .tc) → Buf (Elt F) ((c : Thread nD τ).loc b)}
variable {a3 : Memref sig .tc .vmem S1x256 .i32} {a4 a5 : Memref sig .tc .vmem S1x256 .f32}

/-! ## The copies as steps -/

theorem Ok.of_unit {s s' : Fl} {e : TpuEff nD τ sig (Elt F) Λ₀ .tc PUnit}
    (h : ∀ (Q : PUnit → sProp 𝕄), RSt c V a3 a4 a5 s ⊢ iprop((RSt c V a3 a4 a5 s' -∗ Wk c (.ret ⟨⟩ : PI F PUnit) Q) -∗ Wk c (.op e .ret) Q)) :
    Ok c V a3 a4 a5 s s' (Prog.lift e) yes := by
  refine Ok.of_op fun Q => ?_
  iintro HR Hk
  iapply (h Q) $$ HR
  iintro HR
  ispecialize Hk $$ %(⟨⟩ : PUnit)
  iapply Hk
  iexact HR

theorem ok_start_8 {x : Bool} {s8 s9 : Fin 4 → Bool} (j : Fin 4) (hj : s8 j = false) {o : Fin 3 → ℕ} (ho : o = ![j.val, 0, 0]) {io : ∀ a, o a + S1x704x1792.size a ≤ S4x704x1792.size a}
    {so : Fin 1 → ℕ} (hso : so = ![j.val]) {iso : ∀ a, so a + S1.size a ≤ S4.size a} {o1 : Fin 2 → ℕ} {io1 : ∀ a, o1 a + S704x1792.size a ≤ S38016x1792.size a}
    {h1 : _} {h2 : _} {h3 : _} : Ok c V a3 a4 a5 (x, s8, s9) (x, Function.update s8 j true, s9) (Prog.lift (.enqueueDma (a1.slice (Rect.unit (s := S38016x1792) o1 S704x1792.size io1) (fun _ => rfl)) (.here ((a8.slice (Rect.unit (s := S4x704x1792) o S1x704x1792.size io) (fun _ => rfl)).squeeze S704x1792 squeezes_S1x704x1792_S704x1792)) (.dma ((cc0_scratch7.slice (Rect.unit (s := S4) so S1.size iso)).squeeze S_ squeezes_S1_S_).sem) h1 h2 h3)) yes :=
  Ok.of_unit fun Q => start_8 c V a3 a4 a5 hj ho hso
theorem ok_wait_8 {x : Bool} {s8 s9 : Fin 4 → Bool} (j : Fin 4) (hj : s8 j = true) {o : Fin 3 → ℕ} (ho : o = ![j.val, 0, 0]) {io : ∀ a, o a + S1x704x1792.size a ≤ S4x704x1792.size a}
    {so : Fin 1 → ℕ} (hso : so = ![j.val]) {iso : ∀ a, so a + S1.size a ≤ S4.size a} {o1 : Fin 2 → ℕ} {io1 : ∀ a, o1 a + S704x1792.size a ≤ S38016x1792.size a}
    {h1 : _} {h2 : _}  : Ok c V a3 a4 a5 (x, s8, s9) (x, Function.update s8 j false, s9) (Prog.lift (.waitDma2 ((cc0_scratch7.slice (Rect.unit (s := S4) so S1.size iso)).squeeze S_ squeezes_S1_S_).sem (a1.slice (Rect.unit (s := S38016x1792) o1 S704x1792.size io1) (fun _ => rfl)) ((a8.slice (Rect.unit (s := S4x704x1792) o S1x704x1792.size io) (fun _ => rfl)).squeeze S704x1792 squeezes_S1x704x1792_S704x1792) h1 h2)) yes :=
  Ok.of_unit fun Q => wait_8 c V a3 a4 a5 hj ho hso
theorem ok_start_9 {x : Bool} {s8 s9 : Fin 4 → Bool} (j : Fin 4) (hj : s9 j = false) {o : Fin 3 → ℕ} (ho : o = ![j.val, 0, 0]) {io : ∀ a, o a + S1x704x112.size a ≤ S4x704x112.size a}
    {so : Fin 1 → ℕ} (hso : so = ![j.val]) {iso : ∀ a, so a + S1.size a ≤ S4.size a} {o1 : Fin 2 → ℕ} {io1 : ∀ a, o1 a + S704x112.size a ≤ S38016x112.size a}
    {h1 : _} {h2 : _} {h3 : _} : Ok c V a3 a4 a5 (x, s8, s9) (x, s8, Function.update s9 j true) (Prog.lift (.enqueueDma (a2.slice (Rect.unit (s := S38016x112) o1 S704x112.size io1) (fun _ => rfl)) (.here ((a9.slice (Rect.unit (s := S4x704x112) o S1x704x112.size io) (fun _ => rfl)).squeeze S704x112 squeezes_S1x704x112_S704x112)) (.dma ((cc0_scratch8.slice (Rect.unit (s := S4) so S1.size iso)).squeeze S_ squeezes_S1_S_).sem) h1 h2 h3)) yes :=
  Ok.of_unit fun Q => start_9 c V a3 a4 a5 hj ho hso
theorem ok_wait_9 {x : Bool} {s8 s9 : Fin 4 → Bool} (j : Fin 4) (hj : s9 j = true) {o : Fin 3 → ℕ} (ho : o = ![j.val, 0, 0]) {io : ∀ a, o a + S1x704x112.size a ≤ S4x704x112.size a}
    {so : Fin 1 → ℕ} (hso : so = ![j.val]) {iso : ∀ a, so a + S1.size a ≤ S4.size a} {o1 : Fin 2 → ℕ} {io1 : ∀ a, o1 a + S704x112.size a ≤ S38016x112.size a}
    {h1 : _} {h2 : _}  : Ok c V a3 a4 a5 (x, s8, s9) (x, s8, Function.update s9 j false) (Prog.lift (.waitDma2 ((cc0_scratch8.slice (Rect.unit (s := S4) so S1.size iso)).squeeze S_ squeezes_S1_S_).sem (a2.slice (Rect.unit (s := S38016x112) o1 S704x112.size io1) (fun _ => rfl)) ((a9.slice (Rect.unit (s := S4x704x112) o S1x704x112.size io) (fun _ => rfl)).squeeze S704x112 squeezes_S1x704x112_S704x112) h1 h2)) yes :=
  Ok.of_unit fun Q => wait_9 c V a3 a4 a5 hj ho hso

/-! ## The copies of a trip -/

/-- Which slots' copies run before trip `n`: the two blocks after block `n`, if there are such. -/
def fr (n : ℕ) (j : Fin 4) : Bool := decide (((n + 1) % 4 = j.val ∧ n + 1 < 54) ∨ ((n + 2) % 4 = j.val ∧ n + 2 < 54))

def jS (k : Fin k0_t2_loop.trips) : Fin 4 := ⟨(k.val + 3) % 4, Nat.mod_lt _ (by decide)⟩
def jW (k : Fin k0_t2_loop.trips) : Fin 4 := ⟨(k.val + 1) % 4, Nat.mod_lt _ (by decide)⟩

/-- After the copies a trip starts. -/
def gr (k : Fin k0_t2_loop.trips) : Fin 4 → Bool := if k0_cond1 k = 1#1 then Function.update (fr k.val) (jS k) true else fr k.val

theorem fr_jS (k : Fin k0_t2_loop.trips) : fr k.val (jS k) = false := by revert k; decide
theorem gr_jW (k : Fin k0_t2_loop.trips) : k0_cond2 k = 1#1 → gr k (jW k) = true := by revert k; decide
theorem gr_next (k : Fin k0_t2_loop.trips) : (if k0_cond2 k = 1#1 then Function.update (gr k) (jW k) false else gr k) = fr (k.val + 1) := by
  funext j; revert j k; decide
theorem fr_now (k : Fin k0_t2_loop.trips) : fr (k.val + 1) (slotNow k) = false := by revert k; decide
theorem fr_slotNext (k : Fin k0_t2_loop.trips) : fr (k.val + 1) (slotNext k) = false := by revert k; decide

theorem off8 (k : Fin k0_t2_loop.trips) : k0_off8 k = ![(jS k).val] := by revert k; decide
theorem off9 (k : Fin k0_t2_loop.trips) : k0_off9 k = ![(jS k).val, 0, 0] := by revert k; decide
theorem off11 (k : Fin k0_t2_loop.trips) : k0_off11 k = ![(jS k).val, 0, 0] := by revert k; decide
theorem off13 (k : Fin k0_t2_loop.trips) : k0_off13 k = ![(jW k).val] := by revert k; decide
theorem off14 (k : Fin k0_t2_loop.trips) : k0_off14 k = ![(jW k).val, 0, 0] := by revert k; decide
theorem off16 (k : Fin k0_t2_loop.trips) : k0_off16 k = ![(jW k).val, 0, 0] := by revert k; decide

theorem startOp_ok (h1 : a1.IsWhole) (h2 : a2.IsWhole) (h8 : a8.IsWhole) (h9 : a9.IsWhole) (k : Fin k0_t2_loop.trips) :
    Ok c V a3 a4 a5 (false, fr k.val, fr k.val) (false, gr k, gr k) (startOp a1 h1 a2 h2 a8 h8 a9 h9 cc0_scratch7 cc0_scratch8 k) yes := by
  unfold startOp gr
  by_cases h : k0_cond1 k = 1#1
  · rw [dif_pos h, if_pos h]
    refine Ok.bind (ok_start_8 (jS k) (fr_jS k) (off9 k) (off8 k)) fun _ _ => ?_
    refine Ok.bind (ok_start_9 (jS k) (fr_jS k) (off11 k) (off8 k)) fun _ _ => ?_
    exact Ok.ret trivial
  · rw [dif_neg h, if_neg h]
    exact Ok.ret trivial

theorem waitOp_ok (h1 : a1.IsWhole) (h2 : a2.IsWhole) (h8 : a8.IsWhole) (h9 : a9.IsWhole) (k : Fin k0_t2_loop.trips) :
    Ok c V a3 a4 a5 (false, gr k, gr k) (false, fr (k.val + 1), fr (k.val + 1)) (waitOp a1 h1 a2 h2 a8 h8 a9 h9 cc0_scratch7 cc0_scratch8 k) yes := by
  rw [← gr_next k]
  unfold waitOp
  by_cases h : k0_cond2 k = 1#1
  · rw [dif_pos h, if_pos h]
    refine Ok.bind (ok_wait_8 (jW k) (gr_jW k h) (off14 k) (off13 k)) fun _ _ => ?_
    refine Ok.bind (ok_wait_9 (jW k) (gr_jW k h) (off16 k) (off13 k)) fun _ _ => ?_
    exact Ok.ret trivial
  · rw [dif_neg h, if_neg h]
    exact Ok.ret trivial

/-! ## The buffers' operations of a trip -/

/-- No condition on the values. -/
def trivS (F : FTy → Type) [FloatOps F] : Spec F where
  tile _ _ _ := True
  lhs _ _ _ _ _ := True
  sum _ _ _ _ _ := True
  old _ _ _ _ := True
  fold _ _ _ := True
  sum_one _ _ _ _ _ _ _ _ _ := trivial
  sum_succ _ _ _ _ _ _ _ _ _ _ _ _ _ _ := trivial
  fold_succ _ _ _ _ _ _ _ _ _ _ := trivial

theorem sub_codes (k : Fin 4) (b ch st : ℕ) :
    ((Rect.unit (s := S4x704x1792) ![k.val, 352 * (b % 2) + 32 * (st % 11), 256 * (ch % 7)] S1x32x256.size (inb_codes k b ch st)).toLoadRect).set ⊆ (R8 k).set := by
  intro i hi
  have h := (LoadRect.mem_set _).mp hi
  refine Rect.mem_set_unit.2 fun a => ?_
  obtain ⟨j, hj, e⟩ := h a
  match a with
  | 0 => change j < 1 at hj; change (i 0).val = k.val + 1 * j at e; change k.val ≤ (i 0).val ∧ (i 0).val < k.val + 1; omega
  | 1 => exact ⟨Nat.zero_le _, by have := (i 1).isLt; exact (Nat.zero_add _).symm ▸ this⟩
  | 2 => exact ⟨Nat.zero_le _, by have := (i 2).isLt; exact (Nat.zero_add _).symm ▸ this⟩

theorem sub_rows (k : Fin 4) (b : ℕ) :
    ((Rect.unit (s := S4x704x112) ![k.val, 352 * (b % 2), 0] S1x352x112.size (inb_rows k b)).toLoadRect).set ⊆ (R9 k).set := by
  intro i hi
  have h := (LoadRect.mem_set _).mp hi
  refine Rect.mem_set_unit.2 fun a => ?_
  obtain ⟨j, hj, e⟩ := h a
  match a with
  | 0 => change j < 1 at hj; change (i 0).val = k.val + 1 * j at e; change k.val ≤ (i 0).val ∧ (i 0).val < k.val + 1; omega
  | 1 => exact ⟨Nat.zero_le _, by have := (i 1).isLt; exact (Nat.zero_add _).symm ▸ this⟩
  | 2 => exact ⟨Nat.zero_le _, by have := (i 2).isLt; exact (Nat.zero_add _).symm ▸ this⟩

section
variable (c V a3 a4 a5) {R : Type} {s : Fin 4 → Bool}

theorem stage_ok (h10 : a10.IsWhole) (k : Fin k0_t2_loop.trips) (hn : s (slotNow k) = false) (hx : s (slotNext k) = false) (b : ℕ) (κ : Unit → PI F R) (Q : R → sProp 𝕄) :
    RS c V a3 a4 a5 false s s ⊢ iprop((RS c V a3 a4 a5 false s s -∗ Wk c (κ ()) Q) -∗ Wk c (stageOp a9 a10 h10 k b κ) Q) := by
  unfold stageOp
  iintro HR Hk
  iapply (load_9 c V a3 a4 a5 (j := (match b with | 0 => slotNow k | _ => slotNext k)) (by split <;> assumption) (sub_rows _ _)) $$ HR
  iintro %v HR
  iapply (load_any c (RS_a10 c V a3 a4 a5 false s s)) $$ HR
  iintro %w HR
  iapply (store_any c (RS_a10 c V a3 a4 a5 false s s)) $$ HR
  iexact Hk

theorem expand_ok (h11 : a11.IsWhole) (v0 : IVec S176x128 32) (t h : ℕ) (κ : Unit → PI F R) (Q : R → sProp 𝕄) :
    RS c V a3 a4 a5 false s s ⊢ iprop((RS c V a3 a4 a5 false s s -∗ Wk c (κ ()) Q) -∗ Wk c (expandOp a10 a11 h11 v0 t h κ) Q) := by
  unfold expandOp
  iintro HR Hk
  iapply (load_any c (RS_a10 c V a3 a4 a5 false s s)) $$ HR
  iintro %v HR
  iapply (load_any c (RS_a11 c V a3 a4 a5 false s s)) $$ HR
  iintro %w HR
  iapply (store_any c (RS_a11 c V a3 a4 a5 false s s)) $$ HR
  iexact Hk

theorem prep_ok (h10 : a10.IsWhole) (h11 : a11.IsWhole) (v0 : IVec S176x128 32) (k : Fin k0_t2_loop.trips) (hn : s (slotNow k) = false) (hx : s (slotNext k) = false)
    (b ch : ℕ) (κ : Unit → PI F R) (Q : R → sProp 𝕄) :
    RS c V a3 a4 a5 false s s ⊢ iprop((RS c V a3 a4 a5 false s s -∗ Wk c (κ ()) Q) -∗ Wk c ((opsI a7 a8 a9 a10 h10 a11 h11 v0 k).prep b ch κ) Q) := by
  have he : RS c V a3 a4 a5 false s s ⊢ iprop((RS c V a3 a4 a5 false s s -∗ Wk c (κ ()) Q) -∗
      Wk c (expandOp a10 a11 h11 v0 ((b * 7 + ch + 1) % 14) 0 fun _ => expandOp a10 a11 h11 v0 ((b * 7 + ch + 1) % 14) 1 κ) Q) := by
    iintro HR Hk
    iapply (expand_ok c V a3 a4 a5 h11 v0 _ 0 _ Q) $$ HR
    iintro HR
    iapply (expand_ok c V a3 a4 a5 h11 v0 _ 1 κ Q) $$ HR
    iexact Hk
  by_cases h3 : ch = 3
  · subst h3
    change RS c V a3 a4 a5 false s s ⊢ iprop((RS c V a3 a4 a5 false s s -∗ Wk c (κ ()) Q) -∗ Wk c (stageOp a9 a10 h10 k b (fun _ => expandOp a10 a11 h11 v0 ((b * 7 + 3 + 1) % 14) 0 fun _ => expandOp a10 a11 h11 v0 ((b * 7 + 3 + 1) % 14) 1 κ)) Q)
    iintro HR Hk
    iapply (stage_ok c V a3 a4 a5 h10 k hn hx b _ Q) $$ HR
    iintro HR
    iapply he $$ HR
    iexact Hk
  · have e : (opsI a7 a8 a9 a10 h10 a11 h11 v0 k).prep b ch κ = expandOp a10 a11 h11 v0 ((b * 7 + ch + 1) % 14) 0 fun _ => expandOp a10 a11 h11 v0 ((b * 7 + ch + 1) % 14) 1 κ := by
      unfold opsI
      dsimp only
      split
      · exact absurd rfl h3
      · rfl
    rw [e]
    exact he

/-- The buffers' operations of trip `k`, no copy writing the slots it reads. -/
def opsOk (h10 : a10.IsWhole) (h11 : a11.IsWhole) (v0 : IVec S176x128 32) (k : Fin k0_t2_loop.trips) (hn : s (slotNow k) = false) (hx : s (slotNext k) = false) (Q : R → sProp 𝕄) :
    OpsOk (trivS F) (opsI a7 a8 a9 a10 h10 a11 h11 v0 k) (fun p => Wk c p Q) (fun _ => RS c V a3 a4 a5 false s s) where
  sc _ _ _ _ := True
  co _ _ _ _ := True
  lhs _ _ _ _ _ _ _ _ _ _ := ⟨trivial, trivial⟩
  prep b ch κ _ _ := prep_ok c V a3 a4 a5 h10 h11 v0 k hn hx b ch κ Q
  wide b ch st κ _ _ _ := by
    unfold opsI
    dsimp only
    iintro HR Hk
    iapply (load_any c (RS_a11 c V a3 a4 a5 false s s)) $$ HR
    iintro %v HR
    ispecialize Hk $$ %(wideVal v)
    iapply Hk
    · ipureintro; trivial
    · iexact HR
  codes b ch st κ _ _ _ := by
    unfold opsI
    dsimp only
    iintro HR Hk
    iapply (load_8 c V a3 a4 a5 (j := slotNow k) hn (sub_codes _ _ _ _)) $$ HR
    iintro %v HR
    ispecialize Hk $$ %_
    iapply Hk
    · ipureintro; trivial
    · iexact HR
  tile n ch q κ _ _ := by
    unfold opsI
    dsimp only
    iintro HR Hk
    iapply (load_any c (RS_a7 c V a3 a4 a5 false s s)) $$ HR
    iintro %v HR
    ispecialize Hk $$ %(tileVal v)
    iapply Hk
    · ipureintro; trivial
    · iexact HR
  assume P d κ h := wp_assume (defs := defs₀ (F := F)) (Q := Q) (k := κ) Variants.none (c : Thread nD τ) none Set.univ h

end

end

end Cert.Proof.KernelIdeal
-- ==== Proof.BodyI.lean ====
/-
  The idealized kernel's body: it keeps the ring, and ends with no copy running and the matrix unit drained.
-/
module

public import proofs.«01_k».proof.Proof.TripOkI
public import proofs.«01_k».proof.Proof.Gen.KernelIdeal.Skeleton

@[expose] public section

noncomputable section

namespace Cert.Proof.KernelIdeal

open Cert.KernelIdeal Cert.KernelIdeal.Gen Cert.Proof Cert.Proof.Trip
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable {c : Dev nD} {V : (b : Ref sig .tc) → Buf (Elt F) ((c : Thread nD τ).loc b)}
variable {a3 : Memref sig .tc .vmem S1x256 .i32} {a4 a5 : Memref sig .tc .vmem S1x256 .f32}
variable (h0 : a0.IsWhole) (h1 : a1.IsWhole) (h2 : a2.IsWhole) (h3 : a3.IsWhole) (h4 : a4.IsWhole) (h5 : a5.IsWhole)
  (h6 : a6.IsWhole) (h7 : a7.IsWhole) (h8 : a8.IsWhole) (h9 : a9.IsWhole) (h10 : a10.IsWhole) (h11 : a11.IsWhole)

theorem ok_load_6 {s8 s9 : Fin 4 → Bool} {r : LoadRect S256x3584} {hl : a6.view.LoadsAt r} : Ok c V a3 a4 a5 (false, s8, s9) (false, s8, s9) (Prog.lift (.load a6 r hl)) yes :=
  Ok.of_op (s' := (false, s8, s9)) fun _ => load_6 c V a3 a4 a5

theorem ok_load_9 {s8 s9 : Fin 4 → Bool} (j : Fin 4) (hj : s9 j = false) {r : LoadRect S4x704x112} (hr : r.set ⊆ (R9 j).set) {hl : a9.view.LoadsAt r} :
    Ok c V a3 a4 a5 (false, s8, s9) (false, s8, s9) (Prog.lift (.load a9 r hl)) yes :=
  Ok.of_op (s' := (false, s8, s9)) fun _ => load_9 c V a3 a4 a5 hj hr

theorem ok_start_x {s8 s9 : Fin 4 → Bool} {h1 : _} {h2 : _} {h3 : _} :
    Ok c V a3 a4 a5 (false, s8, s9) (true, s8, s9) (Prog.lift (.enqueueDma a0 (.here a6) (.dma cc0_scratch6.sem) h1 h2 h3)) yes :=
  Ok.of_unit (s' := (true, s8, s9)) fun _ => start_x c V a3 a4 a5

theorem ok_wait_x {s8 s9 : Fin 4 → Bool} {h1 : _} {h2 : _} :
    Ok c V a3 a4 a5 (true, s8, s9) (false, s8, s9) (Prog.lift (.waitDma2 cc0_scratch6.sem a0 a6 h1 h2)) yes :=
  Ok.of_unit (s' := (false, s8, s9)) fun _ => wait_x c V a3 a4 a5

section
variable {s8 s9 : Fin 4 → Bool}

theorem part1_ok (v79_r0 : IVec S128x128 32) (c0_i32_37_r0 : BitVec 32) (c1_i32_38_r0 : BitVec 32) (k0_t1 : Fin k0_t1_loop.trips) :
    Ok c V a3 a4 a5 (false, s8, s9) (false, s8, s9) (k0_part1 a0 h0 a1 h1 a2 h2 a3 h3 a4 h4 a5 h5 a6 h6 a7 h7 a8 h8 a9 h9 a10 h10 a11 h11 cc0_scratch6 cc0_scratch7 cc0_scratch8 v79_r0 c0_i32_37_r0 c1_i32_38_r0 k0_t1) yes := by
  rw [k0_part1_eq_skeleton]
  unfold k0_part1_skel
  refine Ok.bind (ok_load_6) fun _ _ => ?_
  refine Ok.bind (ok_load_6) fun _ _ => ?_
  exact Ok.ret trivial

theorem part2_ok (v79_r0 : IVec S128x128 32) (v81_r0 : IVec S128x128 1) (k0_t1 : Fin k0_t1_loop.trips) (arg15_r0 : BitVec 32) (v593_r0_lo : FVec F S128x128 .bf16) (v593_r0_hi : FVec F S128x128 .bf16) (v597_r0_hi : FVec F S128x128 .bf16) (v599_r0 : IVec S128x128 32) (v622_r0_lo : FVec F S128x128 .bf16) (v622_r0_hi : FVec F S128x128 .bf16) (v627_r0 : FVec F S128x128 .f32) (v629_r0 : IVec S128x128 1) (c128_i32_131_r0 : BitVec 32) :
    Ok c V a3 a4 a5 (false, s8, s9) (false, s8, s9) (k0_part2 a0 h0 a1 h1 a2 h2 a3 h3 a4 h4 a5 h5 a6 h6 a7 h7 a8 h8 a9 h9 a10 h10 a11 h11 cc0_scratch6 cc0_scratch7 cc0_scratch8 v79_r0 v81_r0 k0_t1 arg15_r0 v593_r0_lo v593_r0_hi v597_r0_hi v599_r0 v622_r0_lo v622_r0_hi v627_r0 v629_r0 c128_i32_131_r0) yes := by
  rw [k0_part2_eq_skeleton]
  unfold k0_part2_skel
  refine Ok.bind (ok_load (RS_a7 c V a3 a4 a5 _ _ _)) fun _ _ => ?_
  refine Ok.bind (ok_store (RS_a7 c V a3 a4 a5 _ _ _)) fun _ _ => ?_
  exact Ok.ret trivial

theorem part3_ok (v81_r0 : IVec S128x128 1) (k0_t1 : Fin k0_t1_loop.trips) (arg15_r0 : BitVec 32) (v597_r0_lo : FVec F S128x128 .bf16) (v597_r0_hi : FVec F S128x128 .bf16) (v654_r0 : IVec S128x128 32) (v667_r0 : FVec F S128x128 .f32) (v668_r0 : FVec F S128x128 .f32) (v670_r0 : IVec S128x128 1) (c128_i32_144_r0 : BitVec 32) :
    Ok c V a3 a4 a5 (false, s8, s9) (false, s8, s9) (k0_part3 a0 h0 a1 h1 a2 h2 a3 h3 a4 h4 a5 h5 a6 h6 a7 h7 a8 h8 a9 h9 a10 h10 a11 h11 cc0_scratch6 cc0_scratch7 cc0_scratch8 v81_r0 k0_t1 arg15_r0 v597_r0_lo v597_r0_hi v654_r0 v667_r0 v668_r0 v670_r0 c128_i32_144_r0) yes := by
  rw [k0_part3_eq_skeleton]
  unfold k0_part3_skel
  refine Ok.bind (ok_load (RS_a7 c V a3 a4 a5 _ _ _)) fun _ _ => ?_
  refine Ok.bind (ok_store (RS_a7 c V a3 a4 a5 _ _ _)) fun _ _ => ?_
  exact Ok.ret trivial

theorem part4_ok (v79_r0 : IVec S128x128 32) (k0_t1 : Fin k0_t1_loop.trips) (v710_r0 : BitVec 32) :
    Ok c V a3 a4 a5 (false, s8, s9) (false, s8, s9) (k0_part4 a0 h0 a1 h1 a2 h2 a3 h3 a4 h4 a5 h5 a6 h6 a7 h7 a8 h8 a9 h9 a10 h10 a11 h11 cc0_scratch6 cc0_scratch7 cc0_scratch8 v79_r0 k0_t1 v710_r0) yes := by
  rw [k0_part4_eq_skeleton]
  unfold k0_part4_skel
  refine Ok.bind (ok_load_6) fun _ _ => ?_
  refine Ok.bind (ok_load_6) fun _ _ => ?_
  exact Ok.ret trivial

theorem part5_ok (v79_r0 : IVec S128x128 32) (v81_r0 : IVec S128x128 1) (k0_t1 : Fin k0_t1_loop.trips) (arg15_r0 : BitVec 32) (v714_r0_lo : FVec F S128x128 .bf16) (v714_r0_hi : FVec F S128x128 .bf16) (v720_r0 : IVec S128x128 32) (v743_r0_lo : FVec F S128x128 .bf16) (v743_r0_hi : FVec F S128x128 .bf16) (v756_r0 : FVec F S128x128 .f32) (v757_r0 : FVec F S128x128 .f32) :
    Ok c V a3 a4 a5 (false, s8, s9) (false, s8, s9) (k0_part5 a0 h0 a1 h1 a2 h2 a3 h3 a4 h4 a5 h5 a6 h6 a7 h7 a8 h8 a9 h9 a10 h10 a11 h11 cc0_scratch6 cc0_scratch7 cc0_scratch8 v79_r0 v81_r0 k0_t1 arg15_r0 v714_r0_lo v714_r0_hi v720_r0 v743_r0_lo v743_r0_hi v756_r0 v757_r0) yes := by
  rw [k0_part5_eq_skeleton]
  unfold k0_part5_skel
  refine Ok.bind (ok_load (RS_a7 c V a3 a4 a5 _ _ _)) fun _ _ => ?_
  refine Ok.bind (ok_store (RS_a7 c V a3 a4 a5 _ _ _)) fun _ _ => ?_
  exact Ok.ret trivial

/-- A trip of the loop that lays out the left operand. -/
theorem t1_ok (k0_mxu1 : Mxu F) (v34_r0 : IVec S128x128 32) (v60_r0 : IVec S128x128 32) (v62_r0 : BitVec 32) (v64_r0 : IVec S128x128 32) (v66_r0 : IVec S128x128 1) (v67_r0 : IVec S128x128 32) (k : Fin k0_t1_loop.trips) (u : Unit) :
    Ok c V a3 a4 a5 (false, s8, s9) (false, s8, s9) (k0_t1_body a0 h0 a1 h1 a2 h2 a3 h3 a4 h4 a5 h5 a6 h6 a7 h7 a8 h8 a9 h9 a10 h10 a11 h11 cc0_scratch6 cc0_scratch7 cc0_scratch8 k0_mxu1 v34_r0 v60_r0 v62_r0 v64_r0 v66_r0 v67_r0 k u) yes := by
  unfold k0_t1_body
  refine Ok.bind (part1_ok h0 h1 h2 h3 h4 h5 h6 h7 h8 h9 h10 h11 _ _ _ _) fun r _ => ?_
  obtain ⟨_, _, _, _, _, _, _, _, _, _, _⟩ := r
  refine Ok.bind (part2_ok h0 h1 h2 h3 h4 h5 h6 h7 h8 h9 h10 h11 _ _ _ _ _ _ _ _ _ _ _ _ _) fun r _ => ?_
  obtain ⟨_, _, _, _, _⟩ := r
  refine Ok.bind (part3_ok h0 h1 h2 h3 h4 h5 h6 h7 h8 h9 h10 h11 _ _ _ _ _ _ _ _ _ _) fun _ _ => ?_
  refine Ok.bind (part4_ok h0 h1 h2 h3 h4 h5 h6 h7 h8 h9 h10 h11 _ _ _) fun r _ => ?_
  obtain ⟨_, _, _, _, _, _, _, _, _⟩ := r
  refine Ok.bind (part5_ok h0 h1 h2 h3 h4 h5 h6 h7 h8 h9 h10 h11 _ _ _ _ _ _ _ _ _ _ _) fun r _ => ?_
  obtain ⟨_, _, _⟩ := r
  refine Ok.bind (ok_load (RS_a7 c V a3 a4 a5 _ _ _)) fun _ _ => ?_
  refine Ok.bind (ok_store (RS_a7 c V a3 a4 a5 _ _ _)) fun _ _ => ?_
  exact Ok.ret trivial

end

/-! ## The copies before the loops -/

/-- No copy runs. -/
def f0 : Fin 4 → Bool := fun _ => false
def f2 : Fin 4 → Bool := Function.update (Function.update f0 0 true) 1 true
def f3 : Fin 4 → Bool := Function.update f2 2 true

theorem f3_wait : Function.update f3 0 false = fr 0 := by funext j; revert j; decide
theorem fr_end : fr 54 = f0 := by funext j; revert j; decide

theorem part163_ok  :
    Ok c V a3 a4 a5 (false, f0, f0) (true, f2, f2) (k0_part163 a0 h0 a1 h1 a2 h2 a3 h3 a4 h4 a5 h5 a6 h6 a7 h7 a8 h8 a9 h9 a10 h10 a11 h11 cc0_scratch6 cc0_scratch7 cc0_scratch8 ) (fun r => r.1 = Mxu.init) := by
  rw [k0_part163_eq_skeleton]
  unfold k0_part163_skel
  refine Ok.bind ok_start_x fun _ _ => ?_
  refine Ok.bind (ok_start_8 0 rfl (by decide) (by decide)) fun _ _ => ?_
  refine Ok.bind (ok_start_9 0 rfl (by decide) (by decide)) fun _ _ => ?_
  refine Ok.bind (ok_start_8 1 rfl (by decide) (by decide)) fun _ _ => ?_
  refine Ok.bind (ok_start_9 1 rfl (by decide) (by decide)) fun _ _ => ?_
  exact Ok.ret rfl

theorem part164_ok  :
    Ok c V a3 a4 a5 (true, f2, f2) (false, f3, f3) (k0_part164 a0 h0 a1 h1 a2 h2 a3 h3 a4 h4 a5 h5 a6 h6 a7 h7 a8 h8 a9 h9 a10 h10 a11 h11 cc0_scratch6 cc0_scratch7 cc0_scratch8 ) yes := by
  rw [k0_part164_eq_skeleton]
  unfold k0_part164_skel
  refine Ok.bind (ok_start_8 2 rfl (by decide) (by decide)) fun _ _ => ?_
  refine Ok.bind (ok_start_9 2 rfl (by decide) (by decide)) fun _ _ => ?_
  refine Ok.bind ok_wait_x fun _ _ => ?_
  exact Ok.ret trivial

/-- A matrix unit whose tiles are staged and none of whose rows are live. -/
def Staged (m : Mxu F) : Prop :=
  (∀ q, m.reg q 1 = none) ∧ (∀ q, ∃ t, m.reg q 0 = some ⟨.bf16, true, t⟩) ∧ ∀ q R, m.live q R = false

theorem init_staged (t t' : FVec F (Mxu.STile 256) .bf16) : Staged (((Mxu.init : Mxu F).pushed 0 0 true t).pushed 1 0 true t') := by
  refine ⟨fun q => ?_, fun q => ?_, fun q R => rfl⟩
  · fin_cases q <;> rfl
  · fin_cases q <;> exact ⟨_, rfl⟩

theorem Staged.both {m : Mxu F} (h : Staged m) (s : St F) : Both (trivS F) (m, s) 0 0 0 0 where
  u q := ⟨h.1 q, fun _ => let ⟨t, e⟩ := h.2.1 q; ⟨t, e, trivial⟩, fun h => absurd h (by decide), fun _ _ _ R _ _ => h.2.2 q R,
    fun _ _ h => absurd h (by simp), fun _ _ h => absurd h (by simp), fun _ h => absurd h (by simp), fun _ _ _ => trivial, fun R _ => h.2.2 q R⟩
  f := trivial

theorem part165_ok (k0_mxu1 : Mxu F) (v34_r0 : IVec S128x128 32) (v60_r0 : IVec S128x128 32) (v62_r0 : BitVec 32) (v64_r0 : IVec S128x128 32) (v66_r0 : IVec S128x128 1) (v67_r0 : IVec S128x128 32) (hm : k0_mxu1 = Mxu.init) :
    Ok c V a3 a4 a5 (false, f3, f3) (false, fr 0, f3) (k0_part165 a0 h0 a1 h1 a2 h2 a3 h3 a4 h4 a5 h5 a6 h6 a7 h7 a8 h8 a9 h9 a10 h10 a11 h11 cc0_scratch6 cc0_scratch7 cc0_scratch8 k0_mxu1 v34_r0 v60_r0 v62_r0 v64_r0 v66_r0 v67_r0) Staged := by
  rw [k0_part165_eq_skeleton]
  unfold k0_part165_skel
  refine Ok.bind (Ok.for _ _ _ _ _ _ (fun _ => (false, f3, f3)) (fun _ _ => True) trivial fun k u _ => t1_ok h0 h1 h2 h3 h4 h5 h6 h7 h8 h9 h10 h11 _ _ _ _ _ _ _ k u) fun _ _ => ?_
  refine Ok.bind (ok_load (RS_a7 c V a3 a4 a5 _ _ _)) fun _ _ => ?_
  refine Ok.bind (Ok.pushRhs (Mxu.pushOk_of_none _ _ _ _ (by rw [hm]; rfl))) fun m1 e1 => ?_
  refine Ok.bind (ok_load (RS_a7 c V a3 a4 a5 _ _ _)) fun _ _ => ?_
  refine Ok.bind (Ok.pushRhs (Mxu.pushOk_of_none _ _ _ _ (by rw [e1, hm]; rfl))) fun m2 e2 => ?_
  rw [← f3_wait]
  refine Ok.bind (ok_wait_8 0 rfl (by decide) (by decide)) fun _ _ => ?_
  refine Ok.ret ?_
  rw [e2, e1, hm]
  exact init_staged _ _

theorem part166_ok (v0 : IVec S176x128 32) :
    Ok c V a3 a4 a5 (false, fr 0, f3) (false, fr 0, fr 0) (k0_part166 a0 h0 a1 h1 a2 h2 a3 h3 a4 h4 a5 h5 a6 h6 a7 h7 a8 h8 a9 h9 a10 h10 a11 h11 cc0_scratch6 cc0_scratch7 cc0_scratch8 v0) yes := by
  rw [k0_part166_eq_skeleton]
  unfold k0_part166_skel
  rw [← f3_wait]
  refine Ok.bind (ok_wait_9 0 rfl (by decide) (by decide)) fun _ _ => ?_
  refine Ok.bind (ok_load_9 0 rfl (sub_rows 0 0)) fun _ _ => ?_
  refine Ok.bind (ok_load (RS_a10 c V a3 a4 a5 _ _ _)) fun _ _ => ?_
  refine Ok.bind (ok_store (RS_a10 c V a3 a4 a5 _ _ _)) fun _ _ => ?_
  exact Ok.ret trivial

theorem part167_ok (v0 : IVec S176x128 32) (v130_r0 : IVec S176x128 32) :
    Ok c V a3 a4 a5 (false, fr 0, fr 0) (false, fr 0, fr 0) (k0_part167 a0 h0 a1 h1 a2 h2 a3 h3 a4 h4 a5 h5 a6 h6 a7 h7 a8 h8 a9 h9 a10 h10 a11 h11 cc0_scratch6 cc0_scratch7 cc0_scratch8 v0 v130_r0) yes := by
  rw [k0_part167_eq_skeleton]
  unfold k0_part167_skel
  refine Ok.bind (ok_load (RS_a10 c V a3 a4 a5 _ _ _)) fun _ _ => ?_
  refine Ok.bind (ok_load (RS_a11 c V a3 a4 a5 _ _ _)) fun _ _ => ?_
  refine Ok.bind (ok_store (RS_a11 c V a3 a4 a5 _ _ _)) fun _ _ => ?_
  exact Ok.ret trivial

theorem part168_ok (v0 : IVec S176x128 32) (c16_i32_81_r0 : BitVec 32) (v162_r0 : IVec S176x128 32) (v165_r0 : IVec S176x128 32) (v166_r0 : IVec S176x128 32) :
    Ok c V a3 a4 a5 (false, fr 0, fr 0) (false, fr 0, fr 0) (k0_part168 a0 h0 a1 h1 a2 h2 a3 h3 a4 h4 a5 h5 a6 h6 a7 h7 a8 h8 a9 h9 a10 h10 a11 h11 cc0_scratch6 cc0_scratch7 cc0_scratch8 v0 c16_i32_81_r0 v162_r0 v165_r0 v166_r0) yes := by
  rw [k0_part168_eq_skeleton]
  unfold k0_part168_skel
  refine Ok.bind (ok_load (RS_a10 c V a3 a4 a5 _ _ _)) fun _ _ => ?_
  exact Ok.ret trivial

/-! ## The loop -/

/-- A trip of the main loop. -/
theorem t2_ok (v0 : IVec S176x128 32) (k0_mxu3 : Mxu F) (v210_r0 : FVec F S176x128 .f32) (v211_r0_lo : FVec F S176x128 .bf16) (k : Fin k0_t2_loop.trips)
    (acc : FVec F A8 .f32 × FVec F A8 .f32 × IVec A8 32 × Mxu F) (h : Both (trivS F) (acc.2.2.2, (acc.1, acc.2.1, acc.2.2.1)) 0 0 0 0) :
    Ok c V a3 a4 a5 (false, fr k.val, fr k.val) (false, fr (k.val + 1), fr (k.val + 1)) (k0_t2_body a0 h0 a1 h1 a2 h2 a3 h3 a4 h4 a5 h5 a6 h6 a7 h7 a8 h8 a9 h9 a10 h10 a11 h11 cc0_scratch6 cc0_scratch7 cc0_scratch8 v0 k0_mxu3 v210_r0 v211_r0_lo k acc)
      (fun r => Both (trivS F) (r.2.2.2, (r.1, r.2.1, r.2.2.1)) 0 0 0 0) := by
  obtain ⟨top, sec, ix, m⟩ := acc
  rw [body_eq]
  refine Ok.bind (Ok.bind (startOp_ok h1 h2 h8 h9 k) fun _ _ => waitOp_ok h1 h2 h8 h9 k) fun _ _ => ?_
  intro Q
  iintro HR Hk
  iapply (trip_ok (opsOk c V a3 a4 a5 h10 h11 v0 k (fr_now k) (fr_slotNext k) Q) _ (ms := (m, (top, sec, ix))) ⟨h.u, trivial⟩ (fun _ _ _ _ _ => trivial) (fun _ _ => trivial) _) $$ HR
  iintro %ms %hb HR
  iapply (wk_ret c Q _)
  ispecialize Hk $$ %(ms.2.1, ms.2.2.1, ms.2.2.2, ms.1)
  iapply Hk
  · ipureintro; exact hb.turn _ (by decide) (fun _ _ _ => trivial) (fun _ _ _ _ _ => trivial) trivial
  · iexact HR

/-- No tile staged, and the live rows are those of the second block from step `n` on. -/
def Dr (n : ℕ) (m : Mxu F) : Prop :=
  (∀ q r, m.reg q r = none) ∧ ∀ q (R : Fin 1024), m.live q R = true → 352 + 32 * n ≤ R.val ∧ R.val < 704

theorem Dr.pops {n : ℕ} {m : Mxu F} (h : Dr n m) {a : ℕ} (ha : a = 88 + 8 * n) (f f' : Mxu.Fits a 32) :
    Dr (n + 1) ((m.pop 0 a 32 f).pop 1 a 32 f') := by
  subst ha
  refine ⟨h.1, fun q R hl => ?_⟩
  rw [Mxu.live_pop, Mxu.live_pop] at hl
  split at hl
  · cases hl
  split at hl
  · cases hl
  next h1 h0 =>
  have h' := h.2 q R hl
  refine ⟨?_, h'.2⟩
  by_contra hc
  have hr : 4 * (88 + 8 * n) ≤ R.val ∧ R.val < 4 * (88 + 8 * n) + 32 := by omega
  match q with
  | 0 => exact h0 ⟨rfl, hr⟩
  | 1 => exact h1 ⟨rfl, hr⟩

theorem Dr.drained {m : Mxu F} (h : Dr 11 m) : m.Drained := by
  refine ⟨fun q r => by rw [h.1 q r]; rfl, fun q R => ?_⟩
  by_contra hc
  have := h.2 q R (by simpa using hc)
  omega

/-- The last products and their pops. -/
theorem last_ok {m : Mxu F} {s : St F} (h : Both (trivS F) (m, s) 0 0 0 0) (v v' : FVec F (Mxu.STile 32) .bf16) (f f' f'' f4 : Mxu.Fits 0 32)
    (g g' : Mxu.Fits 88 32) :
    Dr 1 (((((( m.accLhs 0 0 0 v f).pop 0 0 32 f').accLhs 1 0 0 v' f'').pop 1 0 32 f4).pop 0 88 32 g).pop 1 88 32 g') := by
  have hlow : ∀ q (R : Fin 1024), R.val < 352 → m.live q R = false := fun q R hR =>
    (h.u q).dead (R.val / 32) (by omega) (by simp) R (by unfold addr; omega) (by unfold addr; omega)
  have h0 : Dr 0 ((((m.accLhs 0 0 0 v f).pop 0 0 32 f').accLhs 1 0 0 v' f'').pop 1 0 32 f4) := by
    refine ⟨fun q r => ?_, fun q R hl => ?_⟩
    · rw [Mxu.reg_pop]
      by_cases h1 : q = 1 ∧ r = 0
      · rw [h1.1, h1.2, Mxu.reg_accLhs]
      rw [Mxu.reg_accLhs_ne (hne := h1), Mxu.reg_pop]
      by_cases h0 : q = 0 ∧ r = 0
      · rw [h0.1, h0.2, Mxu.reg_accLhs]
      rw [Mxu.reg_accLhs_ne (hne := h0)]
      have hr : r = 1 := by
        match q, r with
        | _, 1 => rfl
        | 0, 0 => exact absurd ⟨rfl, rfl⟩ h0
        | 1, 0 => exact absurd ⟨rfl, rfl⟩ h1
      rw [hr]
      exact (h.u q).spare
    · rw [Mxu.live_pop, Mxu.live_accLhs, Mxu.live_pop, Mxu.live_accLhs] at hl
      have hm : m.live q R = true := by
        split at hl
        · cases hl
        split at hl
        · cases hl
        exact hl
      constructor
      · by_contra hc
        rw [hlow q R (by omega)] at hm
        cases hm
      · by_contra hc
        rw [(h.u q).rest R (by omega)] at hm
        cases hm
  exact h0.pops rfl g g'

theorem part169_ok (v0 : IVec S176x128 32) (k0_mxu3 : Mxu F) (v210_r0 : FVec F S176x128 .f32) (v211_r0_lo : FVec F S176x128 .bf16) (hm : Staged k0_mxu3) :
    Ok c V a3 a4 a5 (false, fr 0, fr 0) (false, f0, f0) (k0_part169 a0 h0 a1 h1 a2 h2 a3 h3 a4 h4 a5 h5 a6 h6 a7 h7 a8 h8 a9 h9 a10 h10 a11 h11 cc0_scratch6 cc0_scratch7 cc0_scratch8 v0 k0_mxu3 v210_r0 v211_r0_lo) (fun r => Dr 1 r.1) := by
  rw [k0_part169_eq_skeleton]
  unfold k0_part169_skel
  refine Ok.bind (ok_load (RS_a11 c V a3 a4 a5 _ _ _)) fun _ _ => ?_
  refine Ok.bind (ok_store (RS_a11 c V a3 a4 a5 _ _ _)) fun _ _ => ?_
  have hl := Ok.for (c := c) (V := V) (a3 := a3) (a4 := a4) (a5 := a5) _ _ _ k0_t2_ok (k0_pay1176 (F := F), k0_pay1176 (F := F), k0_pay1177, k0_mxu3)
    (k0_t2_body a0 h0 a1 h1 a2 h2 a3 h3 a4 h4 a5 h5 a6 h6 a7 h7 a8 h8 a9 h9 a10 h10 a11 h11 cc0_scratch6 cc0_scratch7 cc0_scratch8 v0 k0_mxu3 v210_r0 v211_r0_lo) (fun n => (false, fr n, fr n))
    (fun _ acc => Both (trivS F) (acc.2.2.2, (acc.1, acc.2.1, acc.2.2.1)) 0 0 0 0) (hm.both _) fun k acc h => t2_ok h0 h1 h2 h3 h4 h5 h6 h7 h8 h9 h10 h11 _ _ _ _ k acc h
  rw [← fr_end]
  refine Ok.bind hl fun r hr => ?_
  obtain ⟨_, _, _, m⟩ := r
  refine Ok.ret ?_
  exact last_ok hr _ _ fits_0_32 fits_0_32 fits_0_32 fits_0_32 fits_88_32 fits_88_32

theorem part170_ok (k0_mxu391 : Mxu F) (v225_r0 : FVec F S32x256 .f32) (v238_r0 : IVec S8x256 32) (v239_r0 : FVec F S8x256 .f32) (v240_r0 : FVec F S8x256 .f32) (v242_r0 : FVec F S8x256 .f32) (v243_r0 : IVec S8x256 1) (v244_r0 : IVec S8x256 32) (h : Dr 1 k0_mxu391) :
    Ok c V a3 a4 a5 (false, f0, f0) (false, f0, f0) (k0_part170 a0 h0 a1 h1 a2 h2 a3 h3 a4 h4 a5 h5 a6 h6 a7 h7 a8 h8 a9 h9 a10 h10 a11 h11 cc0_scratch6 cc0_scratch7 cc0_scratch8 k0_mxu391 v225_r0 v238_r0 v239_r0 v240_r0 v242_r0 v243_r0 v244_r0) (fun r => Dr 3 r.1) := by
  rw [k0_part170_eq_skeleton]
  unfold k0_part170_skel
  refine Ok.ret ?_
  exact ((h.pops rfl fits_96_32 fits_96_32).pops rfl fits_104_32 fits_104_32)

theorem part171_ok (k0_mxu395 : Mxu F) (v287_r0 : FVec F S32x256 .f32) (v290_r0 : FVec F S8x256 .f32) (v293_r0 : IVec S8x256 32) (v294_r0 : FVec F S8x256 .f32) (h : Dr 3 k0_mxu395) :
    Ok c V a3 a4 a5 (false, f0, f0) (false, f0, f0) (k0_part171 a0 h0 a1 h1 a2 h2 a3 h3 a4 h4 a5 h5 a6 h6 a7 h7 a8 h8 a9 h9 a10 h10 a11 h11 cc0_scratch6 cc0_scratch7 cc0_scratch8 k0_mxu395 v287_r0 v290_r0 v293_r0 v294_r0) (fun r => Dr 4 r.1) := by
  rw [k0_part171_eq_skeleton]
  unfold k0_part171_skel
  refine Ok.ret ?_
  exact (h.pops rfl fits_112_32 fits_112_32)

theorem part172_ok (k0_mxu397 : Mxu F) (v339_r0 : FVec F S8x256 .f32) (v340_r0 : FVec F S8x256 .f32) (v342_r0 : FVec F S8x256 .f32) (v345_r0 : IVec S8x256 32) (h : Dr 4 k0_mxu397) :
    Ok c V a3 a4 a5 (false, f0, f0) (false, f0, f0) (k0_part172 a0 h0 a1 h1 a2 h2 a3 h3 a4 h4 a5 h5 a6 h6 a7 h7 a8 h8 a9 h9 a10 h10 a11 h11 cc0_scratch6 cc0_scratch7 cc0_scratch8 k0_mxu397 v339_r0 v340_r0 v342_r0 v345_r0) (fun r => Dr 6 r.1) := by
  rw [k0_part172_eq_skeleton]
  unfold k0_part172_skel
  refine Ok.ret ?_
  exact ((h.pops rfl fits_120_32 fits_120_32).pops rfl fits_128_32 fits_128_32)

theorem part173_ok (k0_mxu401 : Mxu F) (v380_r0 : FVec F S32x256 .f32) (v390_r0 : FVec F S8x256 .f32) (v393_r0 : IVec S8x256 32) (v394_r0 : FVec F S8x256 .f32) (v395_r0 : FVec F S8x256 .f32) (h : Dr 6 k0_mxu401) :
    Ok c V a3 a4 a5 (false, f0, f0) (false, f0, f0) (k0_part173 a0 h0 a1 h1 a2 h2 a3 h3 a4 h4 a5 h5 a6 h6 a7 h7 a8 h8 a9 h9 a10 h10 a11 h11 cc0_scratch6 cc0_scratch7 cc0_scratch8 k0_mxu401 v380_r0 v390_r0 v393_r0 v394_r0 v395_r0) (fun r => Dr 8 r.2.2.1) := by
  rw [k0_part173_eq_skeleton]
  unfold k0_part173_skel
  refine Ok.ret ?_
  exact ((h.pops rfl fits_136_32 fits_136_32).pops rfl fits_144_32 fits_144_32)

theorem part174_ok (v438_r0 : IVec S8x256 32) (v439_r0 : FVec F S8x256 .f32) (k0_mxu405 : Mxu F) (v442_r0 : FVec F S32x256 .f32) (v443_r0 : FVec F S8x256 .f32) (v445_r0 : FVec F S8x256 .f32) (h : Dr 8 k0_mxu405) :
    Ok c V a3 a4 a5 (false, f0, f0) (false, f0, f0) (k0_part174 a0 h0 a1 h1 a2 h2 a3 h3 a4 h4 a5 h5 a6 h6 a7 h7 a8 h8 a9 h9 a10 h10 a11 h11 cc0_scratch6 cc0_scratch7 cc0_scratch8 v438_r0 v439_r0 k0_mxu405 v442_r0 v443_r0 v445_r0) (fun r => Dr 9 r.1) := by
  rw [k0_part174_eq_skeleton]
  unfold k0_part174_skel
  refine Ok.ret ?_
  exact (h.pops rfl fits_152_32 fits_152_32)

theorem part175_ok (k0_mxu407 : Mxu F) (v490_r0 : FVec F S8x256 .f32) (v493_r0 : IVec S8x256 32) (v494_r0 : FVec F S8x256 .f32) (v495_r0 : FVec F S8x256 .f32) (v496_r0 : FVec F S8x256 .f32) (h : Dr 9 k0_mxu407) :
    Ok c V a3 a4 a5 (false, f0, f0) (false, f0, f0) (k0_part175 a0 h0 a1 h1 a2 h2 a3 h3 a4 h4 a5 h5 a6 h6 a7 h7 a8 h8 a9 h9 a10 h10 a11 h11 cc0_scratch6 cc0_scratch7 cc0_scratch8 k0_mxu407 v490_r0 v493_r0 v494_r0 v495_r0 v496_r0) (fun r => Dr 11 r.1) := by
  rw [k0_part175_eq_skeleton]
  unfold k0_part175_skel
  refine Ok.ret ?_
  exact ((h.pops rfl fits_160_32 fits_160_32).pops rfl fits_168_32 fits_168_32)

/-! ## The body -/

theorem part176_ok  :
    Ok c V a3 a4 a5 (false, f0, f0) (false, f0, f0) (k0_part176 a0 h0 a1 h1 a2 h2 a3 h3 a4 h4 a5 h5 a6 h6 a7 h7 a8 h8 a9 h9 a10 h10 a11 h11 cc0_scratch6 cc0_scratch7 cc0_scratch8 ) (fun r => Dr 11 r.1) := by
  rw [k0_part176_eq_skeleton]
  unfold k0_part176_skel
  refine Ok.bind (part163_ok h0 h1 h2 h3 h4 h5 h6 h7 h8 h9 h10 h11) fun r hm => ?_
  obtain ⟨_, _⟩ := r
  refine Ok.bind (part164_ok h0 h1 h2 h3 h4 h5 h6 h7 h8 h9 h10 h11) fun r _ => ?_
  obtain ⟨_, _, _, _, _, _⟩ := r
  refine Ok.bind (part165_ok h0 h1 h2 h3 h4 h5 h6 h7 h8 h9 h10 h11 _ _ _ _ _ _ _ hm) fun _ hs => ?_
  refine Ok.bind (part166_ok h0 h1 h2 h3 h4 h5 h6 h7 h8 h9 h10 h11 _) fun _ _ => ?_
  refine Ok.bind (part167_ok h0 h1 h2 h3 h4 h5 h6 h7 h8 h9 h10 h11 _ _) fun r _ => ?_
  obtain ⟨_, _, _, _⟩ := r
  refine Ok.bind (part168_ok h0 h1 h2 h3 h4 h5 h6 h7 h8 h9 h10 h11 _ _ _ _ _) fun r _ => ?_
  obtain ⟨_, _⟩ := r
  refine Ok.bind (part169_ok h0 h1 h2 h3 h4 h5 h6 h7 h8 h9 h10 h11 _ _ _ _ hs) fun r h => ?_
  obtain ⟨_, _, _, _, _, _, _, _⟩ := r
  refine Ok.bind (part170_ok h0 h1 h2 h3 h4 h5 h6 h7 h8 h9 h10 h11 _ _ _ _ _ _ _ _ h) fun r h => ?_
  obtain ⟨_, _, _, _, _⟩ := r
  refine Ok.bind (part171_ok h0 h1 h2 h3 h4 h5 h6 h7 h8 h9 h10 h11 _ _ _ _ _ h) fun r h => ?_
  obtain ⟨_, _, _, _, _⟩ := r
  refine Ok.bind (part172_ok h0 h1 h2 h3 h4 h5 h6 h7 h8 h9 h10 h11 _ _ _ _ _ h) fun r h => ?_
  obtain ⟨_, _, _, _, _, _⟩ := r
  refine Ok.bind (part173_ok h0 h1 h2 h3 h4 h5 h6 h7 h8 h9 h10 h11 _ _ _ _ _ _ h) fun r h => ?_
  obtain ⟨_, _, _, _, _, _⟩ := r
  refine Ok.bind (part174_ok h0 h1 h2 h3 h4 h5 h6 h7 h8 h9 h10 h11 _ _ _ _ _ _ h) fun r h => ?_
  obtain ⟨_, _, _, _, _, _⟩ := r
  refine Ok.bind (part175_ok h0 h1 h2 h3 h4 h5 h6 h7 h8 h9 h10 h11 _ _ _ _ _ _ h) fun r h => ?_
  obtain ⟨_, _, _, _, _, _, _⟩ := r
  exact Ok.ret h

/-- The kernel's body keeps the ring, no copy running at either end. -/
theorem head_ok : Ok c V a3 a4 a5 (false, f0, f0) (false, f0, f0) (cc0_q4_head a0 h0 a1 h1 a2 h2 a3 h3 a4 h4 a5 h5 a6 h6 a7 h7 a8 h8 a9 h9 a10 h10 a11 h11 cc0_scratch6 cc0_scratch7 cc0_scratch8) yes := by
  rw [cc0_q4_head_eq_skeleton]
  unfold cc0_q4_head_skel
  refine Ok.bind (part176_ok h0 h1 h2 h3 h4 h5 h6 h7 h8 h9 h10 h11) fun r h => ?_
  obtain ⟨_, _, _, _⟩ := r
  refine Ok.bind (ok_load (RS_a3 c V a3 a4 a5 _ _ _)) fun _ _ => ?_
  refine Ok.bind (ok_store (RS_a3 c V a3 a4 a5 _ _ _)) fun _ _ => ?_
  refine Ok.bind (ok_load (RS_a4 c V a3 a4 a5 _ _ _)) fun _ _ => ?_
  refine Ok.bind (ok_store (RS_a4 c V a3 a4 a5 _ _ _)) fun _ _ => ?_
  refine Ok.bind (ok_load (RS_a5 c V a3 a4 a5 _ _ _)) fun _ _ => ?_
  refine Ok.bind (ok_store (RS_a5 c V a3 a4 a5 _ _ _)) fun _ _ => ?_
  refine Ok.bind (Ok.exit h.drained) fun _ _ => ?_
  exact Ok.ret trivial

end

end Cert.Proof.KernelIdeal
-- ==== Proof.RunI.lean ====
/-
  The idealized kernel's run: it ends with its arguments unchanged and every semaphore at zero.
-/
module

public import proofs.«01_k».proof.Proof.BodyI
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Frame
public import Idealize.ShloMosaic.Lib.Pipeline.FrameBody
public import Idealize.ShloMosaic.Lib.Ring

@[expose] public section

noncomputable section

namespace Cert.Proof.KernelIdeal

open Cert.KernelIdeal Cert.KernelIdeal.Gen Cert.Proof
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The resources at entry and at exit -/

theorem quarter_out {ℓ : Loc nD τ sig} (f : Buf (Elt F) ℓ) :
    (ℓ ↦{fullShare} f : sProp 𝕄) ⊢ iprop((ℓ ↦{qs 0} f) ∗ (ℓ ↦{qs 1} f) ∗ (ℓ ↦{qs 2} f) ∗ (ℓ ↦{qs 3} f)) := by
  iintro H
  ihave H := (pointsTo_share (PosShare.mem_left_op_right fullShare)).1 $$ H
  icases H with ⟨HL, HR⟩
  ihave HL := (pointsTo_share (PosShare.mem_left_op_right fullShare.left)).1 $$ HL
  ihave HR := (pointsTo_share (PosShare.mem_left_op_right fullShare.right)).1 $$ HR
  icases HL with ⟨H0, H1⟩
  icases HR with ⟨H2, H3⟩
  isplitl [H0]; · iexact H0
  isplitl [H1]; · iexact H1
  isplitl [H2]; · iexact H2
  iexact H3

theorem quarter_in {ℓ : Loc nD τ sig} (f : Buf (Elt F) ℓ) :
    iprop((ℓ ↦{qs 0} f) ∗ (ℓ ↦{qs 1} f) ∗ (ℓ ↦{qs 2} f) ∗ (ℓ ↦{qs 3} f)) ⊢ (ℓ ↦{fullShare} f : sProp 𝕄) := by
  iintro ⟨H0, H1, H2, H3⟩
  iapply (pointsTo_share (PosShare.mem_left_op_right fullShare)).2
  isplitl [H0 H1]
  · iapply (pointsTo_share (PosShare.mem_left_op_right fullShare.left)).2
    isplitl [H0]; · iexact H0
    iexact H1
  · iapply (pointsTo_share (PosShare.mem_left_op_right fullShare.right)).2
    isplitl [H2]; · iexact H2
    iexact H3

/-- Four elements' separating product. -/
theorem bigSep_four (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

theorem parts_out {ℓ : Loc nD τ sig} (I : Fin 4 → Finset (Idx ℓ)) (hd : ∀ i j, i ≠ j → Disjoint (I i) (I j)) :
    (iprop(∃ f : Buf (Elt F) ℓ, ℓ ↦{fullShare} f) : sProp 𝕄) ⊢ iprop((Copy.Held ℓ (I 0) yes ∗ Copy.Held ℓ (I 1) yes ∗ Copy.Held ℓ (I 2) yes ∗ Copy.Held ℓ (I 3) yes)
      ∗ ∃ f : Buf (Elt F) ℓ, ℓ ↦[Ring.restOf I]{fullShare} f) := by
  refine (Ring.fam_split_ex I hd).trans ?_
  rw [bigSep_four]
  iintro ⟨⟨H0, H1, H2, H3⟩, HR⟩
  isplitl [H0 H1 H2 H3]
  · isplitl [H0]; · iapply held_in $$ H0
    isplitl [H1]; · iapply held_in $$ H1
    isplitl [H2]; · iapply held_in $$ H2
    iapply held_in $$ H3
  iexact HR

theorem parts_in {ℓ : Loc nD τ sig} (I : Fin 4 → Finset (Idx ℓ)) (hd : ∀ i j, i ≠ j → Disjoint (I i) (I j)) :
    iprop((Copy.Held ℓ (I 0) yes ∗ Copy.Held ℓ (I 1) yes ∗ Copy.Held ℓ (I 2) yes ∗ Copy.Held ℓ (I 3) yes)
      ∗ ∃ f : Buf (Elt F) ℓ, ℓ ↦[Ring.restOf I]{fullShare} f) ⊢ (iprop(∃ f : Buf (Elt F) ℓ, ℓ ↦{fullShare} f) : sProp 𝕄) := by
  have h : ∀ f₀ : Buf (Elt F) ℓ, iprop((Copy.Held ℓ (I 0) yes ∗ Copy.Held ℓ (I 1) yes ∗ Copy.Held ℓ (I 2) yes ∗ Copy.Held ℓ (I 3) yes)
      ∗ ∃ f : Buf (Elt F) ℓ, ℓ ↦[Ring.restOf I]{fullShare} f) ⊢ (iprop(∃ f : Buf (Elt F) ℓ, ℓ ↦{fullShare} f) : sProp 𝕄) := fun f₀ => by
    refine BIBase.Entails.trans ?_ (Ring.fam_join I hd f₀)
    rw [bigSep_four]
    iintro ⟨⟨H0, H1, H2, H3⟩, HR⟩
    isplitl [H0 H1 H2 H3]
    · isplitl [H0]; · iapply held_out $$ H0
      isplitl [H1]; · iapply held_out $$ H1
      isplitl [H2]; · iapply held_out $$ H2
      iapply held_out $$ H3
    iexact HR
  iintro ⟨H, ⟨%r, HR⟩⟩
  iapply (h r)
  isplitl [H]; · iexact H
  iexists r
  iexact HR

section
variable (c : Dev nD) (V : (b : Ref sig .tc) → Buf (Elt F) ((c : Thread nD τ).loc b))

/-- A ring's slots with no copy running, and what of its buffer is in no slot. -/
def Ring8 : sProp 𝕄 := iprop((a1.view.loc (c : Thread nD τ) ↦{fullShare} (V main_arg1)) ∗ any c a8
  ∗ (semVal ((c : Thread nD τ), .dma (q8 0)) 0 ∗ semVal ((c : Thread nD τ), .dma (q8 1)) 0 ∗ semVal ((c : Thread nD τ), .dma (q8 2)) 0 ∗ semVal ((c : Thread nD τ), .dma (q8 3)) 0))
def Rest8 : sProp 𝕄 := iprop(∃ f : Buf (Elt F) (ℓ8 c), ℓ8 c ↦[Ring.restOf (I8 c)]{fullShare} f)

theorem four8 : Four (St8 c V) f0 = iprop(((a1.view.loc (c : Thread nD τ) ↦{qs 0} (V main_arg1)) ∗ Copy.Held (ℓ8 c) (I8 c 0) yes ∗ semVal ((c : Thread nD τ), .dma (q8 0)) 0)
    ∗ ((a1.view.loc (c : Thread nD τ) ↦{qs 1} (V main_arg1)) ∗ Copy.Held (ℓ8 c) (I8 c 1) yes ∗ semVal ((c : Thread nD τ), .dma (q8 1)) 0)
    ∗ ((a1.view.loc (c : Thread nD τ) ↦{qs 2} (V main_arg1)) ∗ Copy.Held (ℓ8 c) (I8 c 2) yes ∗ semVal ((c : Thread nD τ), .dma (q8 2)) 0)
    ∗ ((a1.view.loc (c : Thread nD τ) ↦{qs 3} (V main_arg1)) ∗ Copy.Held (ℓ8 c) (I8 c 3) yes ∗ semVal ((c : Thread nD τ), .dma (q8 3)) 0)) := rfl

theorem ring8_out : Ring8 c V ⊢ iprop(Four (St8 c V) f0 ∗ Rest8 (F := F) c) := by
  rw [four8]
  unfold Ring8 Rest8 any
  iintro ⟨HA, HB, ⟨S0, S1, S2, S3⟩⟩
  ihave HA := (quarter_out (V main_arg1)) $$ HA
  ihave HB := (parts_out (I8 c) (I8_disj c)) $$ HB
  icases HA with ⟨A0, A1, A2, A3⟩
  icases HB with ⟨⟨B0, B1, B2, B3⟩, HR⟩
  isplitl [A0 B0 S0 A1 B1 S1 A2 B2 S2 A3 B3 S3]
  · isplitl [A0 B0 S0]
    · isplitl [A0]; · iexact A0
      isplitl [B0]; · iexact B0
      iexact S0
    isplitl [A1 B1 S1]
    · isplitl [A1]; · iexact A1
      isplitl [B1]; · iexact B1
      iexact S1
    isplitl [A2 B2 S2]
    · isplitl [A2]; · iexact A2
      isplitl [B2]; · iexact B2
      iexact S2
    isplitl [A3]; · iexact A3
    isplitl [B3]; · iexact B3
    iexact S3
  iexact HR

theorem ring8_in : iprop(Four (St8 c V) f0 ∗ Rest8 (F := F) c) ⊢ Ring8 c V := by
  rw [four8]
  unfold Ring8 Rest8 any
  iintro ⟨⟨⟨A0, B0, S0⟩, ⟨A1, B1, S1⟩, ⟨A2, B2, S2⟩, ⟨A3, B3, S3⟩⟩, HR⟩
  isplitl [A0 A1 A2 A3]
  · iapply (quarter_in (V main_arg1))
    isplitl [A0]; · iexact A0
    isplitl [A1]; · iexact A1
    isplitl [A2]; · iexact A2
    iexact A3
  isplitl [B0 B1 B2 B3 HR]
  · iapply (parts_in (I8 c) (I8_disj c))
    isplitl [B0 B1 B2 B3]
    · isplitl [B0]; · iexact B0
      isplitl [B1]; · iexact B1
      isplitl [B2]; · iexact B2
      iexact B3
    iexact HR
  isplitl [S0]; · iexact S0
  isplitl [S1]; · iexact S1
  isplitl [S2]; · iexact S2
  iexact S3

/-- A ring's slots with no copy running, and what of its buffer is in no slot. -/
def Ring9 : sProp 𝕄 := iprop((a2.view.loc (c : Thread nD τ) ↦{fullShare} (V main_arg2)) ∗ any c a9
  ∗ (semVal ((c : Thread nD τ), .dma (q9 0)) 0 ∗ semVal ((c : Thread nD τ), .dma (q9 1)) 0 ∗ semVal ((c : Thread nD τ), .dma (q9 2)) 0 ∗ semVal ((c : Thread nD τ), .dma (q9 3)) 0))
def Rest9 : sProp 𝕄 := iprop(∃ f : Buf (Elt F) (ℓ9 c), ℓ9 c ↦[Ring.restOf (I9 c)]{fullShare} f)

theorem four9 : Four (St9 c V) f0 = iprop(((a2.view.loc (c : Thread nD τ) ↦{qs 0} (V main_arg2)) ∗ Copy.Held (ℓ9 c) (I9 c 0) yes ∗ semVal ((c : Thread nD τ), .dma (q9 0)) 0)
    ∗ ((a2.view.loc (c : Thread nD τ) ↦{qs 1} (V main_arg2)) ∗ Copy.Held (ℓ9 c) (I9 c 1) yes ∗ semVal ((c : Thread nD τ), .dma (q9 1)) 0)
    ∗ ((a2.view.loc (c : Thread nD τ) ↦{qs 2} (V main_arg2)) ∗ Copy.Held (ℓ9 c) (I9 c 2) yes ∗ semVal ((c : Thread nD τ), .dma (q9 2)) 0)
    ∗ ((a2.view.loc (c : Thread nD τ) ↦{qs 3} (V main_arg2)) ∗ Copy.Held (ℓ9 c) (I9 c 3) yes ∗ semVal ((c : Thread nD τ), .dma (q9 3)) 0)) := rfl

theorem ring9_out : Ring9 c V ⊢ iprop(Four (St9 c V) f0 ∗ Rest9 (F := F) c) := by
  rw [four9]
  unfold Ring9 Rest9 any
  iintro ⟨HA, HB, ⟨S0, S1, S2, S3⟩⟩
  ihave HA := (quarter_out (V main_arg2)) $$ HA
  ihave HB := (parts_out (I9 c) (I9_disj c)) $$ HB
  icases HA with ⟨A0, A1, A2, A3⟩
  icases HB with ⟨⟨B0, B1, B2, B3⟩, HR⟩
  isplitl [A0 B0 S0 A1 B1 S1 A2 B2 S2 A3 B3 S3]
  · isplitl [A0 B0 S0]
    · isplitl [A0]; · iexact A0
      isplitl [B0]; · iexact B0
      iexact S0
    isplitl [A1 B1 S1]
    · isplitl [A1]; · iexact A1
      isplitl [B1]; · iexact B1
      iexact S1
    isplitl [A2 B2 S2]
    · isplitl [A2]; · iexact A2
      isplitl [B2]; · iexact B2
      iexact S2
    isplitl [A3]; · iexact A3
    isplitl [B3]; · iexact B3
    iexact S3
  iexact HR

theorem ring9_in : iprop(Four (St9 c V) f0 ∗ Rest9 (F := F) c) ⊢ Ring9 c V := by
  rw [four9]
  unfold Ring9 Rest9 any
  iintro ⟨⟨⟨A0, B0, S0⟩, ⟨A1, B1, S1⟩, ⟨A2, B2, S2⟩, ⟨A3, B3, S3⟩⟩, HR⟩
  isplitl [A0 A1 A2 A3]
  · iapply (quarter_in (V main_arg2))
    isplitl [A0]; · iexact A0
    isplitl [A1]; · iexact A1
    isplitl [A2]; · iexact A2
    iexact A3
  isplitl [B0 B1 B2 B3 HR]
  · iapply (parts_in (I9 c) (I9_disj c))
    isplitl [B0 B1 B2 B3]
    · isplitl [B0]; · iexact B0
      isplitl [B1]; · iexact B1
      isplitl [B2]; · iexact B2
      iexact B3
    iexact HR
  isplitl [S0]; · iexact S0
  isplitl [S1]; · iexact S1
  isplitl [S2]; · iexact S2
  iexact S3

/-- The copy of `x`, not running. -/
def Side : sProp 𝕄 := iprop((a0.view.loc (c : Thread nD τ) ↦{fullShare} (V main_v0)) ∗ any c a6 ∗ semVal ((c : Thread nD τ), .dma cc0_scratch6.sem) 0)

theorem side_out : Side c V ⊢ StX c V false := by
  rw [StX_false]
  unfold Side any
  iintro ⟨HA, HB, HS⟩
  isplitl [HA]; · iexact HA
  isplitl [HB]; · iapply held_in $$ HB
  iexact HS

theorem side_in : StX c V false ⊢ Side c V := by
  rw [StX_false]
  unfold Side any
  iintro ⟨HA, HB, HS⟩
  isplitl [HA]; · iexact HA
  isplitl [HB]; · iapply held_out $$ HB
  iexact HS

end

/-! ## What the launch hands over -/

variable (m : (ℓ : Loc nD τ sig) → Buf (Elt F) ℓ) (ρ : Dev nD → PrngReg)

abbrev osem0 : Fin 9 → SemLoc sig := fun j => (![SemLoc.dma 3, SemLoc.dma 4, SemLoc.dma 5, SemLoc.dma 6, SemLoc.dma 7, SemLoc.dma 8, SemLoc.dma 9, SemLoc.dma 10, SemLoc.dma 11] : Fin 9 → SemLoc sig) j
theorem ownSemFacts0 : Pipeline.OwnSemFacts spec0 osem0 := by decide
theorem ownSems0_eq (c : Dev nD) : (Pipeline.ownSems0 (Ix := Unit) (Name := ℕ) (U := Pipeline.UD sig nD τ) (Lvl := ℕ) (Val := Elt F) (τ := τ) osem0 c : sProp 𝕄)
    = iprop(semVal ((c : Thread nD τ), .dma cc0_scratch6.sem) 0
      ∗ semVal ((c : Thread nD τ), .dma (q8 0)) 0 ∗ semVal ((c : Thread nD τ), .dma (q8 1)) 0 ∗ semVal ((c : Thread nD τ), .dma (q8 2)) 0 ∗ semVal ((c : Thread nD τ), .dma (q8 3)) 0
      ∗ semVal ((c : Thread nD τ), .dma (q9 0)) 0 ∗ semVal ((c : Thread nD τ), .dma (q9 1)) 0 ∗ semVal ((c : Thread nD τ), .dma (q9 2)) 0 ∗ semVal ((c : Thread nD τ), .dma (q9 3)) 0) := by
  rw [Pipeline.ownSems0_eq_of_list c osem0 [0, 1, 2, 3, 4, 5, 6, 7, 8] (by decide) (by decide)]; rfl

/-- The arrays in HBM the body's copies read. -/
def H0 : Finset (Ref sig .tc) := {main_v0, main_arg1, main_arg2}
theorem H0_sub : H0 ⊆ Pipeline.restRefs sig spec0 := by decide
theorem hbmPts0_eq (c : Dev nD) : (bigSep H0 (fun b => ((c : Thread nD τ).loc b) ↦{fullShare} V m c b) : sProp 𝕄)
    = iprop((a0.view.loc (c : Thread nD τ) ↦{fullShare} V m c main_v0) ∗ (a1.view.loc (c : Thread nD τ) ↦{fullShare} V m c main_arg1) ∗ (a2.view.loc (c : Thread nD τ) ↦{fullShare} V m c main_arg2)) := by
  rw [BI.bigSep_eq_bigSepL_of_eq [main_v0, main_arg1, main_arg2] (by decide) (by decide)]; rfl

abbrev Ph (c : Dev nD) : sProp 𝕄 := Pipeline.ΦD osem0 spec0 H0 (V m) c

theorem Ph_eq (c : Dev nD) : Ph m c = iprop((any c a6 ∗ any c a7 ∗ any c a8 ∗ any c a9 ∗ any c a10 ∗ any c a11) ∗ (∃ r, prngReg c r)
    ∗ (semVal ((c : Thread nD τ), .dma cc0_scratch6.sem) 0
      ∗ semVal ((c : Thread nD τ), .dma (q8 0)) 0 ∗ semVal ((c : Thread nD τ), .dma (q8 1)) 0 ∗ semVal ((c : Thread nD τ), .dma (q8 2)) 0 ∗ semVal ((c : Thread nD τ), .dma (q8 3)) 0
      ∗ semVal ((c : Thread nD τ), .dma (q9 0)) 0 ∗ semVal ((c : Thread nD τ), .dma (q9 1)) 0 ∗ semVal ((c : Thread nD τ), .dma (q9 2)) 0 ∗ semVal ((c : Thread nD τ), .dma (q9 3)) 0)
    ∗ ((a0.view.loc (c : Thread nD τ) ↦{fullShare} V m c main_v0) ∗ (a1.view.loc (c : Thread nD τ) ↦{fullShare} V m c main_arg1) ∗ (a2.view.loc (c : Thread nD τ) ↦{fullShare} V m c main_arg2))) := by
  unfold Ph
  rw [Pipeline.ΦD_eq, scopedRest0_eq, ownSems0_eq, hbmPts0_eq]
  rfl

section
variable (c : Dev nD) (a3 : Memref sig .tc .vmem S1x256 .i32) (a4 a5 : Memref sig .tc .vmem S1x256 .f32)

/-- What the body keeps beside its ring. -/
abbrev Kept : sProp 𝕄 := iprop(Rest8 (F := F) c ∗ Rest9 (F := F) c ∗ ∃ r, prngReg c r)
abbrev Outs : sProp 𝕄 := iprop(any c a3 ∗ any c a4 ∗ any c a5 ∗ ∃ W : Waits sig Unit, owes (c : Thread nD τ) 0 W)

theorem entry : iprop(Ph m c ∗ Outs (F := F) c a3 a4 a5) ⊢ iprop(RS c (V m c) a3 a4 a5 false f0 f0 ∗ Kept (F := F) c) := by
  rw [Ph_eq]
  unfold RS
  iintro ⟨⟨⟨M6, M7, M8, M9, M10, M11⟩, HG, ⟨SX, S0, S1, S2, S3, T0, T1, T2, T3⟩, ⟨A0, A1, A2⟩⟩, ⟨O3, O4, O5, HW⟩⟩
  ihave HX := (side_out c (V m c)) $$ [A0 M6 SX]
  · unfold Side
    isplitl [A0]; · iexact A0
    isplitl [M6]; · iexact M6
    iexact SX
  ihave H8 := (ring8_out c (V m c)) $$ [A1 M8 S0 S1 S2 S3]
  · unfold Ring8
    isplitl [A1]; · iexact A1
    isplitl [M8]; · iexact M8
    isplitl [S0]; · iexact S0
    isplitl [S1]; · iexact S1
    isplitl [S2]; · iexact S2
    iexact S3
  ihave H9 := (ring9_out c (V m c)) $$ [A2 M9 T0 T1 T2 T3]
  · unfold Ring9
    isplitl [A2]; · iexact A2
    isplitl [M9]; · iexact M9
    isplitl [T0]; · iexact T0
    isplitl [T1]; · iexact T1
    isplitl [T2]; · iexact T2
    iexact T3
  icases H8 with ⟨H8, R8⟩
  icases H9 with ⟨H9, R9⟩
  isplitl [HX H8 H9 M7 M10 M11 O3 O4 O5 HW]
  · isplitl [O3]; · iexact O3
    isplitl [O4]; · iexact O4
    isplitl [O5]; · iexact O5
    isplitl [HX]; · iexact HX
    isplitl [M7]; · iexact M7
    isplitl [H8]; · iexact H8
    isplitl [H9]; · iexact H9
    isplitl [M10]; · iexact M10
    isplitl [M11]; · iexact M11
    iexact HW
  isplitl [R8]; · iexact R8
  isplitl [R9]; · iexact R9
  iexact HG

theorem exit : iprop(RS c (V m c) a3 a4 a5 false f0 f0 ∗ Kept (F := F) c) ⊢ iprop(Ph m c ∗ Outs (F := F) c a3 a4 a5) := by
  rw [Ph_eq]
  unfold RS
  iintro ⟨⟨O3, O4, O5, HX, M7, H8, H9, M10, M11, HW⟩, ⟨R8, R9, HG⟩⟩
  ihave HX := (side_in c (V m c)) $$ HX
  ihave H8 := (ring8_in c (V m c)) $$ [H8 R8]
  · isplitl [H8]; · iexact H8
    iexact R8
  ihave H9 := (ring9_in c (V m c)) $$ [H9 R9]
  · isplitl [H9]; · iexact H9
    iexact R9
  unfold Side Ring8 Ring9
  icases HX with ⟨A0, M6, SX⟩
  icases H8 with ⟨A1, M8, ⟨S0, S1, S2, S3⟩⟩
  icases H9 with ⟨A2, M9, ⟨T0, T1, T2, T3⟩⟩
  isplitl [M6 M7 M8 M9 M10 M11 HG SX S0 S1 S2 S3 T0 T1 T2 T3 A0 A1 A2]
  · isplitl [M6 M7 M8 M9 M10 M11]
    · isplitl [M6]; · iexact M6
      isplitl [M7]; · iexact M7
      isplitl [M8]; · iexact M8
      isplitl [M9]; · iexact M9
      isplitl [M10]; · iexact M10
      iexact M11
    isplitl [HG]; · iexact HG
    isplitl [SX S0 S1 S2 S3 T0 T1 T2 T3]
    · isplitl [SX]; · iexact SX
      isplitl [S0]; · iexact S0
      isplitl [S1]; · iexact S1
      isplitl [S2]; · iexact S2
      isplitl [S3]; · iexact S3
      isplitl [T0]; · iexact T0
      isplitl [T1]; · iexact T1
      isplitl [T2]; · iexact T2
      iexact T3
    isplitl [A0]; · iexact A0
    isplitl [A1]; · iexact A1
    iexact A2
  isplitl [O3]; · iexact O3
  isplitl [O4]; · iexact O4
  isplitl [O5]; · iexact O5
  iexact HW

end

/-- The body from what the launch hands over back to it. -/
theorem body_wp (c : Dev nD) (a3 : Memref sig .tc .vmem S1x256 .i32) (a4 a5 : Memref sig .tc .vmem S1x256 .f32)
    (h0 : a0.IsWhole) (h1 : a1.IsWhole) (h2 : a2.IsWhole) (h3 : a3.IsWhole) (h4 : a4.IsWhole) (h5 : a5.IsWhole)
    (h6 : a6.IsWhole) (h7 : a7.IsWhole) (h8 : a8.IsWhole) (h9 : a9.IsWhole) (h10 : a10.IsWhole) (h11 : a11.IsWhole) :
    iprop(Ph m c ∗ Outs (F := F) c a3 a4 a5) ⊢ Wk c (cc0_q4_head a0 h0 a1 h1 a2 h2 a3 h3 a4 h4 a5 h5 a6 h6 a7 h7 a8 h8 a9 h9 a10 h10 a11 h11 cc0_scratch6 cc0_scratch7 cc0_scratch8)
      fun _ => iprop(Ph m c ∗ Outs (F := F) c a3 a4 a5) := by
  have hb := head_ok (c := c) (V := V m c) (a3 := a3) (a4 := a4) (a5 := a5) h0 h1 h2 h3 h4 h5 h6 h7 h8 h9 h10 h11
    fun _ => iprop(Ph m c ∗ Outs (F := F) c a3 a4 a5)
  have hx := exit m c a3 a4 a5
  refine (entry m c a3 a4 a5).trans ?_
  iintro ⟨HR, HK⟩
  iapply hb $$ HR
  iintro %r %hr HR
  iapply hx
  isplitl [HR]; · iexact HR
  iexact HK

/-! ## The run -/

def rdat (c : Dev nD) : Pipeline.RDat τ (Elt F) Unit ℕ (Pipeline.UD sig nD τ) ℕ cfg0 c where
  A w := V m c (Pipeline.arrRef spec0 w)
  after _ _ _ _ := True
  Φ _ := Ph m c
  q _ := fullShare
  owed _ := 0

theorem defs₀_row (t : Fin cfg0.N) : defs₀ (F := F) .tc cfg0.body (cfg0.bodyArgs t (cfg0.slots t)) = bodyAt0 t := by
  unfold defs₀; rw [Defs.onTc_tc]

theorem owns_any (c : Dev nD) (b : Ref sig .tc) (X : _) : owns (c : Thread nD τ) (Memref.whole b) fullShare X ⊢ (any (F := F) c (Memref.whole b) : sProp 𝕄) := by
  rw [owns_whole]
  unfold any
  iintro H
  iexists X
  iexact H
theorem any_owns (c : Dev nD) (b : Ref sig .tc) : any (F := F) c (Memref.whole b) ⊢ (iprop(∃ X, ⌜True⌝ ∗ owns (c : Thread nD τ) (Memref.whole b) fullShare X) : sProp 𝕄) := by
  unfold any
  iintro ⟨%f, H⟩
  iexists f
  isplitr; · ipureintro; trivial
  rw [owns_whole]
  iexact H

theorem body_obligation (c : Dev nD) : (rdat m c).BodyObligation (defs₀ (F := F)) Variants.none () Set.univ := fun t Y _ => by
  have e1 : (rdat m c).Φ t.castSucc = Ph m c := rfl
  have e2 : (rdat m c).Φ t.succ = Ph m c := rfl
  rw [bigSep_W0, bigSep_W0, defs₀_row, e1, e2]
  have hb := body_wp m c (Memref.whole cc0_stg0_0) (Memref.whole cc0_stg1_0) (Memref.whole cc0_stg2_0) (Memref.isWhole_whole _) (Memref.isWhole_whole _) (Memref.isWhole_whole _) (hstage0_0 0) (hstage0_1 0) (hstage0_2 0)
    (Memref.isWhole_whole _) (Memref.isWhole_whole _) (Memref.isWhole_whole _) (Memref.isWhole_whole _) (Memref.isWhole_whole _) (Memref.isWhole_whole _)
  refine BIBase.Entails.trans ?_ (hb.trans ?_)
  · iintro ⟨HP, HW, ⟨H0, H1, H2⟩⟩
    isplitl [HP]; · iexact HP
    isplitl [H0]; · iapply (owns_any c cc0_stg0_0 _) $$ H0
    isplitl [H1]; · iapply (owns_any c cc0_stg1_0 _) $$ H1
    isplitl [H2]; · iapply (owns_any c cc0_stg2_0 _) $$ H2
    unfold Pipeline.RDat.owesAt Pipeline.owesWithin
    icases HW with ⟨%W, -, HW⟩
    iexists W
    iexact HW
  · refine wp_mono _ _ _ fun _ => ?_
    iintro ⟨HP, ⟨H0, H1, H2, ⟨%W, HW⟩⟩⟩
    isplitl [HP]; · iexact HP
    isplitl [HW]
    · unfold Pipeline.RDat.owesAt Pipeline.owesWithin
      iexists W
      isplitr; · ipureintro; exact fun _ _ => Or.inl trivial
      iexact HW
    isplitl [H0]; · iapply (any_owns c cc0_stg0_0) $$ H0
    isplitl [H1]; · iapply (any_owns c cc0_stg1_0) $$ H1
    iapply (any_owns c cc0_stg2_0) $$ H2

/-- Up to the region, the host operations' contents. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_main : θ_run defs (onTc (τ := τ) (main (F := F))) (s₀ m ρ) (fun r => Pipeline.RDat.FramePost cfg0 (rdat m) (V m) r ∧ r.2.sem = fun _ => 0) :=
  Pipeline.RDat.θ_run_frame_dma (Q' := _) cfgs (0 : Fin 1) launch0 osem0 defs₀ Variants.none (rdat m) ownSemFacts0 H0 H0_sub m ρ main
    (hbody := body_obligation m) (hshare := fun c w => by unfold Pipeline.RDat.share; split <;> rfl)
    (howed := fun _ _ => rfl) (V := V m) (hmain := hmainD m Variants.none) (hA := fun _ _ => rfl)
    (hin := fun _ => .rfl) (hout := fun _ => .rfl)

/-- The run ends, its arguments are unchanged, and every semaphore counts zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main m ρ)

end Cert.Proof.KernelIdeal
-- ==== Proof.RingK.lean ====
/-
  The kernel's buffers, semaphores and copies as one resource: which copies are running is its index, and
  every operation of the kernel takes it to itself at another index.
-/
module

public import proofs.«01_k».proof.Proof.Gen.Kernel.Launch
public import proofs.«01_k».proof.Proof.Gen.Kernel.Points
public import proofs.«01_k».proof.Proof.Copy
public import Idealize.ShloMosaic.Lib.Pipeline.Frame
public import Idealize.ShloMosaic.Lib.ReshapeSlab
public import Idealize.ShloMosaic.Lib.Ring.FamCut
public import Idealize.ShloMosaic.Lib.Exec.Context

@[expose] public section

noncomputable section

namespace Cert.Proof.Kernel

open Cert.Kernel Cert.Kernel.Gen Cert.Proof
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

/-! ## The buffers -/

abbrev a0 : Memref sig .tc .hbm S256x3584 .bf16 := Memref.whole main_v0
abbrev a1 : Memref sig .tc .hbm S38016x1792 .i8 := Memref.whole main_arg1
abbrev a2 : Memref sig .tc .hbm S38016x112 .bf16 := Memref.whole main_arg2
abbrev a6 : Memref sig .tc .vmem S256x3584 .bf16 := Memref.whole cc0_scratch0
abbrev a7 : Memref sig .tc .vmem S14x128x256 .i32 := Memref.whole cc0_scratch1
abbrev a8 : Memref sig .tc .vmem S4x704x1792 .i8 := Memref.whole cc0_scratch2
abbrev a9 : Memref sig .tc .vmem S4x704x112 .bf16 := Memref.whole cc0_scratch3
abbrev a10 : Memref sig .tc .vmem S2x176x128 .i32 := Memref.whole cc0_scratch4
abbrev a11 : Memref sig .tc .vmem S2x176x256 .i32 := Memref.whole cc0_scratch5

theorem inb8 (j : Fin 4) : ∀ a, (![j.val, 0, 0] : Fin 3 → ℕ) a + S1x704x1792.size a ≤ S4x704x1792.size a := by
  intro a; fin_cases a <;> simp [Shape.size] <;> omega
theorem inb9 (j : Fin 4) : ∀ a, (![j.val, 0, 0] : Fin 3 → ℕ) a + S1x704x112.size a ≤ S4x704x112.size a := by
  intro a; fin_cases a <;> simp [Shape.size] <;> omega
theorem inbS (j : Fin 4) : ∀ a, (![j.val] : Fin 1 → ℕ) a + S1.size a ≤ S4.size a := by
  intro a; fin_cases a; simp [Shape.size]; omega

/-- The ring's slots and their semaphores. -/
abbrev d8 (j : Fin 4) : Memref sig .tc .vmem S704x1792 .i8 :=
  (a8.slice (Rect.unit (s := S4x704x1792) ![j.val, 0, 0] S1x704x1792.size (inb8 j)) (fun _ => rfl)).squeeze S704x1792 squeezes_S1x704x1792_S704x1792
abbrev d9 (j : Fin 4) : Memref sig .tc .vmem S704x112 .bf16 :=
  (a9.slice (Rect.unit (s := S4x704x112) ![j.val, 0, 0] S1x704x112.size (inb9 j)) (fun _ => rfl)).squeeze S704x112 squeezes_S1x704x112_S704x112
abbrev q8 (j : Fin 4) : DmaSem sig := ((cc0_scratch7.slice (Rect.unit (s := S4) ![j.val] S1.size (inbS j))).squeeze S_ squeezes_S1_S_).sem
abbrev q9 (j : Fin 4) : DmaSem sig := ((cc0_scratch8.slice (Rect.unit (s := S4) ![j.val] S1.size (inbS j))).squeeze S_ squeezes_S1_S_).sem

/-- The share of the arrays each slot's copies read. -/
def qs : Fin 4 → PosShare TreeShare
  | 0 => fullShare.left.left
  | 1 => fullShare.left.right
  | 2 => fullShare.right.left
  | 3 => fullShare.right.right

abbrev ℓ8 (c : Dev nD) : Loc nD τ sig := a8.view.loc (c : Thread nD τ)
abbrev ℓ9 (c : Dev nD) : Loc nD τ sig := a9.view.loc (c : Thread nD τ)
def R8 (j : Fin 4) : Rect S4x704x1792 := Rect.unit (s := S4x704x1792) ![j.val, 0, 0] S1x704x1792.size (inb8 j)
def I8 (c : Dev nD) (j : Fin 4) : Finset (Idx (ℓ8 c)) := (a8.view.slice (R8 j)).set
theorem set8 (c : Dev nD) (j : Fin 4) : (d8 j).view.set = I8 c j := View.set_reshape _ _
def R9 (j : Fin 4) : Rect S4x704x112 := Rect.unit (s := S4x704x112) ![j.val, 0, 0] S1x704x112.size (inb9 j)
def I9 (c : Dev nD) (j : Fin 4) : Finset (Idx (ℓ9 c)) := (a9.view.slice (R9 j)).set
theorem set9 (c : Dev nD) (j : Fin 4) : (d9 j).view.set = I9 c j := View.set_reshape _ _

theorem I8_disj (c : Dev nD) : ∀ i j, i ≠ j → Disjoint (I8 c i) (I8 c j) := fun i j h =>
  View.disjoint_slice_of_sep a8.view (R8 i) (R8 j) (0 : Fin 3) rfl rfl
    (show i.val + 1 ≤ j.val ∨ j.val + 1 ≤ i.val by
      have : i.val ≠ j.val := fun e => h (Fin.ext e)
      omega)
theorem I9_disj (c : Dev nD) : ∀ i j, i ≠ j → Disjoint (I9 c i) (I9 c j) := fun i j h =>
  View.disjoint_slice_of_sep a9.view (R9 i) (R9 j) (0 : Fin 3) rfl rfl
    (show i.val + 1 ≤ j.val ∨ j.val + 1 ≤ i.val by
      have : i.val ≠ j.val := fun e => h (Fin.ext e)
      omega)

/-- Some contents of a whole buffer. -/
def any (c : Dev nD) {sp : Space} {s : Shape} {e : EltTy} (M : Memref sig .tc sp s e) : sProp 𝕄 :=
  iprop(∃ f : Buf (Elt F) (M.view.loc (c : Thread nD τ)), M.view.loc (c : Thread nD τ) ↦{fullShare} f)

abbrev yes {α : Type} : α → Prop := fun _ => True

abbrev EC : UEmb Counters 𝕄 := countersEmb

abbrev N8 : ℕ := (d8 0).view.amount (.dma (q8 0))
abbrev N9 : ℕ := (d9 0).view.amount (.dma (q9 0))
abbrev N6 : ℕ := a6.view.amount (.dma cc0_scratch6.sem)

section
variable (c : Dev nD) (V : (b : Ref sig .tc) → Buf (Elt F) ((c : Thread nD τ).loc b))

/-- A slot of the codes' ring, its copy running or not. -/
def St8 (j : Fin 4) : Bool → sProp 𝕄
  | false => iprop((a1.view.loc (c : Thread nD τ) ↦{qs j} (V main_arg1)) ∗ Copy.Held (ℓ8 c) (I8 c j) yes ∗ semVal ((c : Thread nD τ), .dma (q8 j)) 0)
  | true => iprop(∃ Sa, Copy.Fly EC (c : Thread nD τ) (.dma (q8 j)) () N8 (a1.view.loc (c : Thread nD τ)) Sa (qs j) (V main_arg1) (ℓ8 c) (I8 c j) yes)
/-- A slot of the scales' ring, its copy running or not. -/
def St9 (j : Fin 4) : Bool → sProp 𝕄
  | false => iprop((a2.view.loc (c : Thread nD τ) ↦{qs j} (V main_arg2)) ∗ Copy.Held (ℓ9 c) (I9 c j) yes ∗ semVal ((c : Thread nD τ), .dma (q9 j)) 0)
  | true => iprop(∃ Sa, Copy.Fly EC (c : Thread nD τ) (.dma (q9 j)) () N9 (a2.view.loc (c : Thread nD τ)) Sa (qs j) (V main_arg2) (ℓ9 c) (I9 c j) yes)
/-- The copy of `x`, running or not. -/
def StX : Bool → sProp 𝕄
  | false => iprop((a0.view.loc (c : Thread nD τ) ↦{fullShare} (V main_v0)) ∗ Copy.Held (a6.view.loc (c : Thread nD τ)) Finset.univ yes ∗ semVal ((c : Thread nD τ), .dma cc0_scratch6.sem) 0)
  | true => iprop(∃ Sa, Copy.Fly EC (c : Thread nD τ) (.dma cc0_scratch6.sem) () N6 (a0.view.loc (c : Thread nD τ)) Sa fullShare (V main_v0) (a6.view.loc (c : Thread nD τ)) Finset.univ yes)

theorem St8_false (j : Fin 4) : St8 c V j false = iprop((a1.view.loc (c : Thread nD τ) ↦{qs j} (V main_arg1)) ∗ Copy.Held (ℓ8 c) (I8 c j) yes ∗ semVal ((c : Thread nD τ), .dma (q8 j)) 0) := rfl
theorem St8_true (j : Fin 4) : St8 c V j true = iprop(∃ Sa, Copy.Fly EC (c : Thread nD τ) (.dma (q8 j)) () N8 (a1.view.loc (c : Thread nD τ)) Sa (qs j) (V main_arg1) (ℓ8 c) (I8 c j) yes) := rfl
theorem St9_false (j : Fin 4) : St9 c V j false = iprop((a2.view.loc (c : Thread nD τ) ↦{qs j} (V main_arg2)) ∗ Copy.Held (ℓ9 c) (I9 c j) yes ∗ semVal ((c : Thread nD τ), .dma (q9 j)) 0) := rfl
theorem St9_true (j : Fin 4) : St9 c V j true = iprop(∃ Sa, Copy.Fly EC (c : Thread nD τ) (.dma (q9 j)) () N9 (a2.view.loc (c : Thread nD τ)) Sa (qs j) (V main_arg2) (ℓ9 c) (I9 c j) yes) := rfl
theorem StX_false : StX c V false = iprop((a0.view.loc (c : Thread nD τ) ↦{fullShare} (V main_v0)) ∗ Copy.Held (a6.view.loc (c : Thread nD τ)) Finset.univ yes ∗ semVal ((c : Thread nD τ), .dma cc0_scratch6.sem) 0) := rfl
theorem StX_true : StX c V true = iprop(∃ Sa, Copy.Fly EC (c : Thread nD τ) (.dma cc0_scratch6.sem) () N6 (a0.view.loc (c : Thread nD τ)) Sa fullShare (V main_v0) (a6.view.loc (c : Thread nD τ)) Finset.univ yes) := rfl
end

/-- Four slots at their states. -/
def Four (P : Fin 4 → Bool → sProp 𝕄) (s : Fin 4 → Bool) : sProp 𝕄 := iprop(P 0 (s 0) ∗ P 1 (s 1) ∗ P 2 (s 2) ∗ P 3 (s 3))

/-- One of four slots taken out, and put back in any state. -/
theorem four_take (P : Fin 4 → Bool → sProp 𝕄) (s : Fin 4 → Bool) (j : Fin 4) :
    Four P s ⊢ iprop(P j (s j) ∗ ∀ b, P j b -∗ Four P (Function.update s j b)) := by
  unfold Four
  have h : ∀ i, i ≠ j → ∀ b, Function.update s j b i = s i := fun i hi b => Function.update_of_ne hi _ _
  have e : ∀ b, Function.update s j b j = b := fun b => Function.update_self _ _ _
  match j, h, e with
  | 0, h, e =>
    iintro ⟨H0, H1, H2, H3⟩
    isplitl [H0]; · iexact H0
    iintro %b H
    rw [e, h 1 (by decide), h 2 (by decide), h 3 (by decide)]
    isplitl [H]; · iexact H
    isplitl [H1]; · iexact H1
    isplitl [H2]; · iexact H2
    iexact H3
  | 1, h, e =>
    iintro ⟨H0, H1, H2, H3⟩
    isplitl [H1]; · iexact H1
    iintro %b H
    rw [e, h 0 (by decide), h 2 (by decide), h 3 (by decide)]
    isplitl [H0]; · iexact H0
    isplitl [H]; · iexact H
    isplitl [H2]; · iexact H2
    iexact H3
  | 2, h, e =>
    iintro ⟨H0, H1, H2, H3⟩
    isplitl [H2]; · iexact H2
    iintro %b H
    rw [e, h 0 (by decide), h 1 (by decide), h 3 (by decide)]
    isplitl [H0]; · iexact H0
    isplitl [H1]; · iexact H1
    isplitl [H]; · iexact H
    iexact H3
  | 3, h, e =>
    iintro ⟨H0, H1, H2, H3⟩
    isplitl [H3]; · iexact H3
    iintro %b H
    rw [e, h 0 (by decide), h 1 (by decide), h 2 (by decide)]
    isplitl [H0]; · iexact H0
    isplitl [H1]; · iexact H1
    isplitl [H2]; · iexact H2
    iexact H

section
variable (c : Dev nD) (V : (b : Ref sig .tc) → Buf (Elt F) ((c : Thread nD τ).loc b))
variable (a3 : Memref sig .tc .vmem S1x256 .i32) (a4 a5 : Memref sig .tc .vmem S1x256 .f32)

/-- Everything the kernel holds: the copy of `x` in state `x`, the rings' in states `s8`, `s9`. -/
def RS (x : Bool) (s8 s9 : Fin 4 → Bool) : sProp 𝕄 :=
  iprop(any c a3 ∗ any c a4 ∗ any c a5 ∗ StX c V x ∗ any c a7 ∗ Four (St8 c V) s8 ∗ Four (St9 c V) s9 ∗ any c a10 ∗ any c a11
    ∗ ∃ W : Waits sig Unit, owes (c : Thread nD τ) 0 W)

theorem RS_a3 (x : Bool) (s8 s9 : Fin 4 → Bool) : RS c V a3 a4 a5 x s8 s9 ⊢ iprop(any c a3 ∗ (any c a3 -∗ RS c V a3 a4 a5 x s8 s9)) := by
  unfold RS
  iintro ⟨Ha3, Ha4, Ha5, Hx, Ha7, Hs8, Hs9, Ha10, Ha11, HW⟩
  isplitl [Ha3]; · iexact Ha3
  iintro H
  isplitl [H]; · iexact H
  isplitl [Ha4]; · iexact Ha4
  isplitl [Ha5]; · iexact Ha5
  isplitl [Hx]; · iexact Hx
  isplitl [Ha7]; · iexact Ha7
  isplitl [Hs8]; · iexact Hs8
  isplitl [Hs9]; · iexact Hs9
  isplitl [Ha10]; · iexact Ha10
  isplitl [Ha11]; · iexact Ha11
  iexact HW

theorem RS_a4 (x : Bool) (s8 s9 : Fin 4 → Bool) : RS c V a3 a4 a5 x s8 s9 ⊢ iprop(any c a4 ∗ (any c a4 -∗ RS c V a3 a4 a5 x s8 s9)) := by
  unfold RS
  iintro ⟨Ha3, Ha4, Ha5, Hx, Ha7, Hs8, Hs9, Ha10, Ha11, HW⟩
  isplitl [Ha4]; · iexact Ha4
  iintro H
  isplitl [Ha3]; · iexact Ha3
  isplitl [H]; · iexact H
  isplitl [Ha5]; · iexact Ha5
  isplitl [Hx]; · iexact Hx
  isplitl [Ha7]; · iexact Ha7
  isplitl [Hs8]; · iexact Hs8
  isplitl [Hs9]; · iexact Hs9
  isplitl [Ha10]; · iexact Ha10
  isplitl [Ha11]; · iexact Ha11
  iexact HW

theorem RS_a5 (x : Bool) (s8 s9 : Fin 4 → Bool) : RS c V a3 a4 a5 x s8 s9 ⊢ iprop(any c a5 ∗ (any c a5 -∗ RS c V a3 a4 a5 x s8 s9)) := by
  unfold RS
  iintro ⟨Ha3, Ha4, Ha5, Hx, Ha7, Hs8, Hs9, Ha10, Ha11, HW⟩
  isplitl [Ha5]; · iexact Ha5
  iintro H
  isplitl [Ha3]; · iexact Ha3
  isplitl [Ha4]; · iexact Ha4
  isplitl [H]; · iexact H
  isplitl [Hx]; · iexact Hx
  isplitl [Ha7]; · iexact Ha7
  isplitl [Hs8]; · iexact Hs8
  isplitl [Hs9]; · iexact Hs9
  isplitl [Ha10]; · iexact Ha10
  isplitl [Ha11]; · iexact Ha11
  iexact HW

theorem RS_a7 (x : Bool) (s8 s9 : Fin 4 → Bool) : RS c V a3 a4 a5 x s8 s9 ⊢ iprop(any c a7 ∗ (any c a7 -∗ RS c V a3 a4 a5 x s8 s9)) := by
  unfold RS
  iintro ⟨Ha3, Ha4, Ha5, Hx, Ha7, Hs8, Hs9, Ha10, Ha11, HW⟩
  isplitl [Ha7]; · iexact Ha7
  iintro H
  isplitl [Ha3]; · iexact Ha3
  isplitl [Ha4]; · iexact Ha4
  isplitl [Ha5]; · iexact Ha5
  isplitl [Hx]; · iexact Hx
  isplitl [H]; · iexact H
  isplitl [Hs8]; · iexact Hs8
  isplitl [Hs9]; · iexact Hs9
  isplitl [Ha10]; · iexact Ha10
  isplitl [Ha11]; · iexact Ha11
  iexact HW

theorem RS_a10 (x : Bool) (s8 s9 : Fin 4 → Bool) : RS c V a3 a4 a5 x s8 s9 ⊢ iprop(any c a10 ∗ (any c a10 -∗ RS c V a3 a4 a5 x s8 s9)) := by
  unfold RS
  iintro ⟨Ha3, Ha4, Ha5, Hx, Ha7, Hs8, Hs9, Ha10, Ha11, HW⟩
  isplitl [Ha10]; · iexact Ha10
  iintro H
  isplitl [Ha3]; · iexact Ha3
  isplitl [Ha4]; · iexact Ha4
  isplitl [Ha5]; · iexact Ha5
  isplitl [Hx]; · iexact Hx
  isplitl [Ha7]; · iexact Ha7
  isplitl [Hs8]; · iexact Hs8
  isplitl [Hs9]; · iexact Hs9
  isplitl [H]; · iexact H
  isplitl [Ha11]; · iexact Ha11
  iexact HW

theorem RS_a11 (x : Bool) (s8 s9 : Fin 4 → Bool) : RS c V a3 a4 a5 x s8 s9 ⊢ iprop(any c a11 ∗ (any c a11 -∗ RS c V a3 a4 a5 x s8 s9)) := by
  unfold RS
  iintro ⟨Ha3, Ha4, Ha5, Hx, Ha7, Hs8, Hs9, Ha10, Ha11, HW⟩
  isplitl [Ha11]; · iexact Ha11
  iintro H
  isplitl [Ha3]; · iexact Ha3
  isplitl [Ha4]; · iexact Ha4
  isplitl [Ha5]; · iexact Ha5
  isplitl [Hx]; · iexact Hx
  isplitl [Ha7]; · iexact Ha7
  isplitl [Hs8]; · iexact Hs8
  isplitl [Hs9]; · iexact Hs9
  isplitl [Ha10]; · iexact Ha10
  isplitl [H]; · iexact H
  iexact HW

theorem RS_x (x : Bool) (s8 s9 : Fin 4 → Bool) : RS c V a3 a4 a5 x s8 s9 ⊢ iprop((StX c V x ∗ ∃ W : Waits sig Unit, owes (c : Thread nD τ) 0 W)
    ∗ ∀ b, (StX c V b ∗ ∃ W : Waits sig Unit, owes (c : Thread nD τ) 0 W) -∗ RS c V a3 a4 a5 b s8 s9) := by
  unfold RS
  iintro ⟨Ha3, Ha4, Ha5, Hx, Ha7, Hs8, Hs9, Ha10, Ha11, HW⟩
  isplitl [Hx HW]
  · isplitl [Hx]; · iexact Hx
    iexact HW
  iintro %b ⟨H, HW⟩
  isplitl [Ha3]; · iexact Ha3
  isplitl [Ha4]; · iexact Ha4
  isplitl [Ha5]; · iexact Ha5
  isplitl [H]; · iexact H
  isplitl [Ha7]; · iexact Ha7
  isplitl [Hs8]; · iexact Hs8
  isplitl [Hs9]; · iexact Hs9
  isplitl [Ha10]; · iexact Ha10
  isplitl [Ha11]; · iexact Ha11
  iexact HW

theorem RS_8 (x : Bool) (s8 s9 : Fin 4 → Bool) (j : Fin 4) : RS c V a3 a4 a5 x s8 s9 ⊢ iprop((St8 c V j (s8 j) ∗ ∃ W : Waits sig Unit, owes (c : Thread nD τ) 0 W)
    ∗ ∀ b, (St8 c V j b ∗ ∃ W : Waits sig Unit, owes (c : Thread nD τ) 0 W) -∗ RS c V a3 a4 a5 x (Function.update s8 j b) s9) := by
  unfold RS
  iintro ⟨Ha3, Ha4, Ha5, Hx, Ha7, Hs8, Hs9, Ha10, Ha11, HW⟩
  ihave Hs8 := (four_take (St8 c V) s8 j) $$ Hs8
  icases Hs8 with ⟨Hj, Hr⟩
  isplitl [Hj HW]
  · isplitl [Hj]; · iexact Hj
    iexact HW
  iintro %b ⟨H, HW⟩
  ispecialize Hr $$ %b H
  isplitl [Ha3]; · iexact Ha3
  isplitl [Ha4]; · iexact Ha4
  isplitl [Ha5]; · iexact Ha5
  isplitl [Hx]; · iexact Hx
  isplitl [Ha7]; · iexact Ha7
  isplitl [Hr]; · iexact Hr
  isplitl [Hs9]; · iexact Hs9
  isplitl [Ha10]; · iexact Ha10
  isplitl [Ha11]; · iexact Ha11
  iexact HW

theorem RS_9 (x : Bool) (s8 s9 : Fin 4 → Bool) (j : Fin 4) : RS c V a3 a4 a5 x s8 s9 ⊢ iprop((St9 c V j (s9 j) ∗ ∃ W : Waits sig Unit, owes (c : Thread nD τ) 0 W)
    ∗ ∀ b, (St9 c V j b ∗ ∃ W : Waits sig Unit, owes (c : Thread nD τ) 0 W) -∗ RS c V a3 a4 a5 x s8 (Function.update s9 j b)) := by
  unfold RS
  iintro ⟨Ha3, Ha4, Ha5, Hx, Ha7, Hs8, Hs9, Ha10, Ha11, HW⟩
  ihave Hs9 := (four_take (St9 c V) s9 j) $$ Hs9
  icases Hs9 with ⟨Hj, Hr⟩
  isplitl [Hj HW]
  · isplitl [Hj]; · iexact Hj
    iexact HW
  iintro %b ⟨H, HW⟩
  ispecialize Hr $$ %b H
  isplitl [Ha3]; · iexact Ha3
  isplitl [Ha4]; · iexact Ha4
  isplitl [Ha5]; · iexact Ha5
  isplitl [Hx]; · iexact Hx
  isplitl [Ha7]; · iexact Ha7
  isplitl [Hs8]; · iexact Hs8
  isplitl [Hr]; · iexact Hr
  isplitl [Ha10]; · iexact Ha10
  isplitl [Ha11]; · iexact Ha11
  iexact HW

end

end Cert.Proof.Kernel
-- ==== Proof.StepK.lean ====
/-
  The operations of the kernel over its one resource (Proof/RingK.lean).
-/
module

public import proofs.«01_k».proof.Proof.RingK
public import Idealize.ShloMosaic.Rules.Step

@[expose] public section

noncomputable section

namespace Cert.Proof.Kernel

open Cert.Kernel Cert.Kernel.Gen Cert.Proof
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

/-- The kernel's core runs `p` to `Q`. -/
abbrev Wk (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

section
variable (c : Dev nD)

/-- A load of a whole buffer held by `P`. -/
theorem load_any {α : Type} {Q : α → sProp 𝕄} {P : sProp 𝕄} {sp : CoreSpace} {s : Shape} {e : EltTy} {M : Memref sig .tc sp s e}
    (h : P ⊢ iprop(any c M ∗ (any c M -∗ P))) {r : LoadRect s} {hl : M.view.LoadsAt r}
    {k : (r.shape.Idx → Elt F e) → Prog (TpuEff nD τ sig (Elt F) Λ₀ .tc) α} :
    P ⊢ iprop((∀ v, P -∗ Wk c (k v) Q) -∗ Wk c (.op (.load M r hl) k) Q) := by
  iintro HP Hk
  ihave HP := h $$ HP
  icases HP with ⟨HM, HP⟩
  unfold any
  icases HM with ⟨%f, HM⟩
  iapply (wp_load (c := (c : Thread nD τ)) Variants.none none Set.univ (Finset.subset_univ _)) $$ HM
  iintro HM
  iapply Hk
  iapply HP
  iexists f
  iexact HM

/-- A store into a whole buffer held by `P`. -/
theorem store_any {α : Type} {Q : α → sProp 𝕄} {P : sProp 𝕄} {sp : CoreSpace} {s : Shape} {e : EltTy} {M : Memref sig .tc sp s e}
    (h : P ⊢ iprop(any c M ∗ (any c M -∗ P))) {r : Rect s} {w : r.shape.Idx → Elt F e} {Mk : Finset r.shape.Idx} {hx : (M.access r).Stores Mk} {hm : Mk = Finset.univ ∨ _}
    {k : PUnit → Prog (TpuEff nD τ sig (Elt F) Λ₀ .tc) α} :
    P ⊢ iprop((P -∗ Wk c (k ⟨⟩) Q) -∗ Wk c (.op (.store M r w Mk hx hm) k) Q) := by
  iintro HP Hk
  ihave HP := h $$ HP
  icases HP with ⟨HM, HP⟩
  unfold any
  icases HM with ⟨%f, HM⟩
  iapply (wp_store (c := (c : Thread nD τ)) (m := M) (r := r) (f := f) Variants.none none Set.univ (Finset.subset_univ _)) $$ HM
  iintro HM
  iapply Hk
  iapply HP
  iexists _
  iexact HM

end

section
variable (c : Dev nD) (V : (b : Ref sig .tc) → Buf (Elt F) ((c : Thread nD τ).loc b))
variable (a3 : Memref sig .tc .vmem S1x256 .i32) (a4 a5 : Memref sig .tc .vmem S1x256 .f32)
variable {x : Bool} {s8 s9 : Fin 4 → Bool}

/-- A slot at rest and in flight, as its parts. -/
abbrev H8 (j : Fin 4) : sProp 𝕄 := iprop((a1.view.loc (c : Thread nD τ) ↦{qs j} (V main_arg1)) ∗ Copy.Held (ℓ8 c) (I8 c j) yes ∗ semVal ((c : Thread nD τ), .dma (q8 j)) 0)
abbrev T8 (j : Fin 4) : sProp 𝕄 := iprop(∃ Sa, Copy.Fly EC (c : Thread nD τ) (.dma (q8 j)) () N8 (a1.view.loc (c : Thread nD τ)) Sa (qs j) (V main_arg1) (ℓ8 c) (I8 c j) yes)
abbrev H9 (j : Fin 4) : sProp 𝕄 := iprop((a2.view.loc (c : Thread nD τ) ↦{qs j} (V main_arg2)) ∗ Copy.Held (ℓ9 c) (I9 c j) yes ∗ semVal ((c : Thread nD τ), .dma (q9 j)) 0)
abbrev T9 (j : Fin 4) : sProp 𝕄 := iprop(∃ Sa, Copy.Fly EC (c : Thread nD τ) (.dma (q9 j)) () N9 (a2.view.loc (c : Thread nD τ)) Sa (qs j) (V main_arg2) (ℓ9 c) (I9 c j) yes)
abbrev HX : sProp 𝕄 := iprop((a0.view.loc (c : Thread nD τ) ↦{fullShare} (V main_v0)) ∗ Copy.Held (a6.view.loc (c : Thread nD τ)) Finset.univ yes ∗ semVal ((c : Thread nD τ), .dma cc0_scratch6.sem) 0)
abbrev TX : sProp 𝕄 := iprop(∃ Sa, Copy.Fly EC (c : Thread nD τ) (.dma cc0_scratch6.sem) () N6 (a0.view.loc (c : Thread nD τ)) Sa fullShare (V main_v0) (a6.view.loc (c : Thread nD τ)) Finset.univ yes)
abbrev OW : sProp 𝕄 := iprop(∃ W : Waits sig Unit, owes (c : Thread nD τ) 0 W)

theorem take8 (b b' : Bool) {j : Fin 4} (hj : s8 j = b) : RS c V a3 a4 a5 x s8 s9 ⊢ iprop((St8 c V j b ∗ OW c)
    ∗ ((St8 c V j b' ∗ OW c) -∗ RS c V a3 a4 a5 x (Function.update s8 j b') s9)) := by
  subst hj
  iintro HP
  ihave HP := (RS_8 c V a3 a4 a5 x s8 s9 j) $$ HP
  icases HP with ⟨H, HP⟩
  isplitl [H]; · iexact H
  iapply HP
theorem take8_ft {j : Fin 4} (hj : s8 j = false) : RS c V a3 a4 a5 x s8 s9 ⊢ iprop((H8 c V j ∗ OW c) ∗ ((T8 c V j ∗ OW c) -∗ RS c V a3 a4 a5 x (Function.update s8 j true) s9)) :=
  take8 c V a3 a4 a5 false true hj
theorem take8_tf {j : Fin 4} (hj : s8 j = true) : RS c V a3 a4 a5 x s8 s9 ⊢ iprop((T8 c V j ∗ OW c) ∗ ((H8 c V j ∗ OW c) -∗ RS c V a3 a4 a5 x (Function.update s8 j false) s9)) :=
  take8 c V a3 a4 a5 true false hj
theorem take9 (b b' : Bool) {j : Fin 4} (hj : s9 j = b) : RS c V a3 a4 a5 x s8 s9 ⊢ iprop((St9 c V j b ∗ OW c)
    ∗ ((St9 c V j b' ∗ OW c) -∗ RS c V a3 a4 a5 x s8 (Function.update s9 j b'))) := by
  subst hj
  iintro HP
  ihave HP := (RS_9 c V a3 a4 a5 x s8 s9 j) $$ HP
  icases HP with ⟨H, HP⟩
  isplitl [H]; · iexact H
  iapply HP
theorem take9_ft {j : Fin 4} (hj : s9 j = false) : RS c V a3 a4 a5 x s8 s9 ⊢ iprop((H9 c V j ∗ OW c) ∗ ((T9 c V j ∗ OW c) -∗ RS c V a3 a4 a5 x s8 (Function.update s9 j true))) :=
  take9 c V a3 a4 a5 false true hj
theorem take9_tf {j : Fin 4} (hj : s9 j = true) : RS c V a3 a4 a5 x s8 s9 ⊢ iprop((T9 c V j ∗ OW c) ∗ ((H9 c V j ∗ OW c) -∗ RS c V a3 a4 a5 x s8 (Function.update s9 j false))) :=
  take9 c V a3 a4 a5 true false hj
theorem takeX_ft : RS c V a3 a4 a5 false s8 s9 ⊢ iprop((HX c V ∗ OW c) ∗ ((TX c V ∗ OW c) -∗ RS c V a3 a4 a5 true s8 s9)) := by
  iintro HP
  ihave HP := (RS_x c V a3 a4 a5 false s8 s9) $$ HP
  icases HP with ⟨H, HP⟩
  isplitl [H]; · iexact H
  ispecialize HP $$ %true
  iexact HP
theorem takeX_tf : RS c V a3 a4 a5 true s8 s9 ⊢ iprop((TX c V ∗ OW c) ∗ ((HX c V ∗ OW c) -∗ RS c V a3 a4 a5 false s8 s9)) := by
  iintro HP
  ihave HP := (RS_x c V a3 a4 a5 true s8 s9) $$ HP
  icases HP with ⟨H, HP⟩
  isplitl [H]; · iexact H
  ispecialize HP $$ %false
  iexact HP

theorem held_out {b : Loc nD τ sig} {S : Finset (Idx b)} : Copy.Held (Name := ℕ) (U := Pipeline.UD sig nD τ) (Lvl := ℕ) (Ix := Unit) (Val := Elt F) b S yes ⊢ (iprop(∃ f, b ↦[S]{fullShare} f) : sProp 𝕄) := by
  unfold Copy.Held
  iintro ⟨%f, %hf, HM⟩
  iexists f
  iexact HM
theorem held_in {b : Loc nD τ sig} {S : Finset (Idx b)} : (iprop(∃ f, b ↦[S]{fullShare} f) : sProp 𝕄) ⊢ Copy.Held (Name := ℕ) (U := Pipeline.UD sig nD τ) (Lvl := ℕ) (Ix := Unit) (Val := Elt F) b S yes := by
  unfold Copy.Held
  iintro ⟨%f, HM⟩
  iexists f
  isplitr; · ipureintro; trivial
  iexact HM

theorem take8_ff {j : Fin 4} (hj : s8 j = false) : RS c V a3 a4 a5 x s8 s9 ⊢ iprop((∃ f, ℓ8 c ↦[I8 c j]{fullShare} f) ∗ ((∃ f, ℓ8 c ↦[I8 c j]{fullShare} f) -∗ RS c V a3 a4 a5 x s8 s9)) := by
  have hu : Function.update s8 j false = s8 := by rw [← hj]; exact Function.update_eq_self _ _
  have h := take8 c V a3 a4 a5 (x := x) (s8 := s8) (s9 := s9) false false hj
  rw [hu] at h
  refine h.trans ?_
  change iprop((H8 c V j ∗ OW c) ∗ ((H8 c V j ∗ OW c) -∗ RS c V a3 a4 a5 x s8 s9)) ⊢ _
  iintro ⟨⟨⟨H1, H2, H3⟩, HW⟩, HP⟩
  ihave H2 := held_out $$ H2
  isplitl [H2]; · iexact H2
  iintro H2
  ihave H2 := held_in $$ H2
  iapply HP
  isplitl [H1 H2 H3]
  · isplitl [H1]; · iexact H1
    isplitl [H2]; · iexact H2
    iexact H3
  iexact HW
theorem take9_ff {j : Fin 4} (hj : s9 j = false) : RS c V a3 a4 a5 x s8 s9 ⊢ iprop((∃ f, ℓ9 c ↦[I9 c j]{fullShare} f) ∗ ((∃ f, ℓ9 c ↦[I9 c j]{fullShare} f) -∗ RS c V a3 a4 a5 x s8 s9)) := by
  have hu : Function.update s9 j false = s9 := by rw [← hj]; exact Function.update_eq_self _ _
  have h := take9 c V a3 a4 a5 (x := x) (s8 := s8) (s9 := s9) false false hj
  rw [hu] at h
  refine h.trans ?_
  change iprop((H9 c V j ∗ OW c) ∗ ((H9 c V j ∗ OW c) -∗ RS c V a3 a4 a5 x s8 s9)) ⊢ _
  iintro ⟨⟨⟨H1, H2, H3⟩, HW⟩, HP⟩
  ihave H2 := held_out $$ H2
  isplitl [H2]; · iexact H2
  iintro H2
  ihave H2 := held_in $$ H2
  iapply HP
  isplitl [H1 H2 H3]
  · isplitl [H1]; · iexact H1
    isplitl [H2]; · iexact H2
    iexact H3
  iexact HW
theorem takeX_ff : RS c V a3 a4 a5 false s8 s9 ⊢ iprop((∃ f, a6.view.loc (c : Thread nD τ) ↦[Finset.univ]{fullShare} f) ∗ ((∃ f, a6.view.loc (c : Thread nD τ) ↦[Finset.univ]{fullShare} f) -∗ RS c V a3 a4 a5 false s8 s9)) := by
  have h : RS c V a3 a4 a5 false s8 s9 ⊢ iprop((HX c V ∗ OW c) ∗ ((HX c V ∗ OW c) -∗ RS c V a3 a4 a5 false s8 s9)) := by
    iintro HP
    ihave HP := (RS_x c V a3 a4 a5 false s8 s9) $$ HP
    icases HP with ⟨H, HP⟩
    isplitl [H]; · iexact H
    ispecialize HP $$ %false
    iexact HP
  refine h.trans ?_
  iintro ⟨⟨⟨H1, H2, H3⟩, HW⟩, HP⟩
  ihave H2 := held_out $$ H2
  isplitl [H2]; · iexact H2
  iintro H2
  ihave H2 := held_in $$ H2
  iapply HP
  isplitl [H1 H2 H3]
  · isplitl [H1]; · iexact H1
    isplitl [H2]; · iexact H2
    iexact H3
  iexact HW

/-- A load of a slot of the codes' ring that no copy writes. -/
theorem load_8 {α : Type} {Q : α → sProp 𝕄} {j : Fin 4} (hj : s8 j = false) {r : LoadRect S4x704x1792} (hr : r.set ⊆ (R8 j).set) {hl : a8.view.LoadsAt r}
    {k : (r.shape.Idx → Elt F .i8) → Prog (TpuEff nD τ sig (Elt F) Λ₀ .tc) α} :
    RS c V a3 a4 a5 x s8 s9 ⊢ iprop((∀ v, RS c V a3 a4 a5 x s8 s9 -∗ Wk c (k v) Q) -∗ Wk c (.op (.load a8 r hl) k) Q) := by
  iintro HP Hk
  ihave HP := (take8_ff c V a3 a4 a5 hj) $$ HP
  icases HP with ⟨⟨%f, HM⟩, HP⟩
  iapply (wp_load (c := (c : Thread nD τ)) (m := a8) (S := I8 c j) Variants.none none Set.univ ?_) $$ HM
  · unfold I8; rw [View.set_slice]; exact Finset.map_subset_map.2 hr
  iintro HM
  iapply Hk
  iapply HP
  iexists f
  iexact HM

/-- A load of a slot of the scales' ring that no copy writes. -/
theorem load_9 {α : Type} {Q : α → sProp 𝕄} {j : Fin 4} (hj : s9 j = false) {r : LoadRect S4x704x112} (hr : r.set ⊆ (R9 j).set) {hl : a9.view.LoadsAt r}
    {k : (r.shape.Idx → Elt F .bf16) → Prog (TpuEff nD τ sig (Elt F) Λ₀ .tc) α} :
    RS c V a3 a4 a5 x s8 s9 ⊢ iprop((∀ v, RS c V a3 a4 a5 x s8 s9 -∗ Wk c (k v) Q) -∗ Wk c (.op (.load a9 r hl) k) Q) := by
  iintro HP Hk
  ihave HP := (take9_ff c V a3 a4 a5 hj) $$ HP
  icases HP with ⟨⟨%f, HM⟩, HP⟩
  iapply (wp_load (c := (c : Thread nD τ)) (m := a9) (S := I9 c j) Variants.none none Set.univ ?_) $$ HM
  · unfold I9; rw [View.set_slice]; exact Finset.map_subset_map.2 hr
  iintro HM
  iapply Hk
  iapply HP
  iexists f
  iexact HM

/-- A copy into a slot of the codes' ring started. -/
theorem start_8 {α : Type} {Q : α → sProp 𝕄} {j : Fin 4} (hj : s8 j = false) {o : Fin 3 → ℕ} (ho : o = ![j.val, 0, 0]) {io : ∀ a, o a + S1x704x1792.size a ≤ S4x704x1792.size a} {so : Fin 1 → ℕ} (hso : so = ![j.val]) {iso : ∀ a, so a + S1.size a ≤ S4.size a}
    {o1 : Fin 2 → ℕ} {io1 : ∀ a, o1 a + S704x1792.size a ≤ S38016x1792.size a}
    {h1 : _} {h2 : _} {h3 : _} {k : PUnit → Prog (TpuEff nD τ sig (Elt F) Λ₀ .tc) α} :
    RS c V a3 a4 a5 x s8 s9 ⊢ iprop((RS c V a3 a4 a5 x (Function.update s8 j true) s9 -∗ Wk c (k ⟨⟩) Q)
      -∗ Wk c (.op (.enqueueDma (a1.slice (Rect.unit (s := S38016x1792) o1 S704x1792.size io1) (fun _ => rfl))
          (.here ((a8.slice (Rect.unit (s := S4x704x1792) o S1x704x1792.size io) (fun _ => rfl)).squeeze S704x1792 squeezes_S1x704x1792_S704x1792))
          (.dma ((cc0_scratch7.slice (Rect.unit (s := S4) so S1.size iso)).squeeze S_ squeezes_S1_S_).sem) h1 h2 h3) k) Q) := by
  subst ho hso
  iintro HP Hk
  ihave HP := (take8_ft c V a3 a4 a5 hj) $$ HP
  icases HP with ⟨⟨HS, HW⟩, HP⟩
  iapply (Copy.start (c := (c : Thread nD τ)) EC Variants.none none (src := a1.slice (Rect.unit (s := S38016x1792) o1 S704x1792.size io1) (fun _ => rfl)) (dst := d8 j) (sm := .dma (q8 j)) (Sd := I8 c j) yes yes () N8 rfl (View.dmaCredit_pos _ (by decide)) (set8 c j).subset (fun _ _ => trivial)) $$ HS
  iintro HF
  iapply Hk
  iapply HP
  isplitl [HF]
  · iexists _
    iexact HF
  iexact HW

/-- A copy into a slot of the codes' ring waited for. -/
theorem wait_8 {α : Type} {Q : α → sProp 𝕄} {j : Fin 4} (hj : s8 j = true) {o : Fin 3 → ℕ} (ho : o = ![j.val, 0, 0]) {io : ∀ a, o a + S1x704x1792.size a ≤ S4x704x1792.size a} {so : Fin 1 → ℕ} (hso : so = ![j.val]) {iso : ∀ a, so a + S1.size a ≤ S4.size a}
    {o1 : Fin 2 → ℕ} {io1 : ∀ a, o1 a + S704x1792.size a ≤ S38016x1792.size a}
    {h1 : _} {h2 : _} {k : PUnit → Prog (TpuEff nD τ sig (Elt F) Λ₀ .tc) α} :
    RS c V a3 a4 a5 x s8 s9 ⊢ iprop((RS c V a3 a4 a5 x (Function.update s8 j false) s9 -∗ Wk c (k ⟨⟩) Q)
      -∗ Wk c (.op (.waitDma2 ((cc0_scratch7.slice (Rect.unit (s := S4) so S1.size iso)).squeeze S_ squeezes_S1_S_).sem
          (a1.slice (Rect.unit (s := S38016x1792) o1 S704x1792.size io1) (fun _ => rfl))
          ((a8.slice (Rect.unit (s := S4x704x1792) o S1x704x1792.size io) (fun _ => rfl)).squeeze S704x1792 squeezes_S1x704x1792_S704x1792) h1 h2) k) Q) := by
  subst ho hso
  iintro HP Hk
  ihave HP := (take8_tf c V a3 a4 a5 hj) $$ HP
  icases HP with ⟨⟨HS, HW⟩, HP⟩
  icases HS with ⟨%Sa, HS⟩
  iapply (Copy.wait (c := (c : Thread nD τ)) EC Variants.none none () (sem := q8 j) (srcw := a1.slice (Rect.unit (s := S38016x1792) o1 S704x1792.size io1) (fun _ => rfl)) (dstw := d8 j) (hsrc := h1) (hdst := h2) (N := N8) rfl) $$ [HS HW]
  · isplitl [HS]; · iexact HS
    iexact HW
  iintro HF
  iapply Hk
  iapply HP
  iexact HF

/-- A copy into a slot of the scales' ring started. -/
theorem start_9 {α : Type} {Q : α → sProp 𝕄} {j : Fin 4} (hj : s9 j = false) {o : Fin 3 → ℕ} (ho : o = ![j.val, 0, 0]) {io : ∀ a, o a + S1x704x112.size a ≤ S4x704x112.size a} {so : Fin 1 → ℕ} (hso : so = ![j.val]) {iso : ∀ a, so a + S1.size a ≤ S4.size a}
    {o1 : Fin 2 → ℕ} {io1 : ∀ a, o1 a + S704x112.size a ≤ S38016x112.size a}
    {h1 : _} {h2 : _} {h3 : _} {k : PUnit → Prog (TpuEff nD τ sig (Elt F) Λ₀ .tc) α} :
    RS c V a3 a4 a5 x s8 s9 ⊢ iprop((RS c V a3 a4 a5 x s8 (Function.update s9 j true) -∗ Wk c (k ⟨⟩) Q)
      -∗ Wk c (.op (.enqueueDma (a2.slice (Rect.unit (s := S38016x112) o1 S704x112.size io1) (fun _ => rfl))
          (.here ((a9.slice (Rect.unit (s := S4x704x112) o S1x704x112.size io) (fun _ => rfl)).squeeze S704x112 squeezes_S1x704x112_S704x112))
          (.dma ((cc0_scratch8.slice (Rect.unit (s := S4) so S1.size iso)).squeeze S_ squeezes_S1_S_).sem) h1 h2 h3) k) Q) := by
  subst ho hso
  iintro HP Hk
  ihave HP := (take9_ft c V a3 a4 a5 hj) $$ HP
  icases HP with ⟨⟨HS, HW⟩, HP⟩
  iapply (Copy.start (c := (c : Thread nD τ)) EC Variants.none none (src := a2.slice (Rect.unit (s := S38016x112) o1 S704x112.size io1) (fun _ => rfl)) (dst := d9 j) (sm := .dma (q9 j)) (Sd := I9 c j) yes yes () N9 rfl (View.dmaCredit_pos _ (by decide)) (set9 c j).subset (fun _ _ => trivial)) $$ HS
  iintro HF
  iapply Hk
  iapply HP
  isplitl [HF]
  · iexists _
    iexact HF
  iexact HW

/-- A copy into a slot of the scales' ring waited for. -/
theorem wait_9 {α : Type} {Q : α → sProp 𝕄} {j : Fin 4} (hj : s9 j = true) {o : Fin 3 → ℕ} (ho : o = ![j.val, 0, 0]) {io : ∀ a, o a + S1x704x112.size a ≤ S4x704x112.size a} {so : Fin 1 → ℕ} (hso : so = ![j.val]) {iso : ∀ a, so a + S1.size a ≤ S4.size a}
    {o1 : Fin 2 → ℕ} {io1 : ∀ a, o1 a + S704x112.size a ≤ S38016x112.size a}
    {h1 : _} {h2 : _} {k : PUnit → Prog (TpuEff nD τ sig (Elt F) Λ₀ .tc) α} :
    RS c V a3 a4 a5 x s8 s9 ⊢ iprop((RS c V a3 a4 a5 x s8 (Function.update s9 j false) -∗ Wk c (k ⟨⟩) Q)
      -∗ Wk c (.op (.waitDma2 ((cc0_scratch8.slice (Rect.unit (s := S4) so S1.size iso)).squeeze S_ squeezes_S1_S_).sem
          (a2.slice (Rect.unit (s := S38016x112) o1 S704x112.size io1) (fun _ => rfl))
          ((a9.slice (Rect.unit (s := S4x704x112) o S1x704x112.size io) (fun _ => rfl)).squeeze S704x112 squeezes_S1x704x112_S704x112) h1 h2) k) Q) := by
  subst ho hso
  iintro HP Hk
  ihave HP := (take9_tf c V a3 a4 a5 hj) $$ HP
  icases HP with ⟨⟨HS, HW⟩, HP⟩
  icases HS with ⟨%Sa, HS⟩
  iapply (Copy.wait (c := (c : Thread nD τ)) EC Variants.none none () (sem := q9 j) (srcw := a2.slice (Rect.unit (s := S38016x112) o1 S704x112.size io1) (fun _ => rfl)) (dstw := d9 j) (hsrc := h1) (hdst := h2) (N := N9) rfl) $$ [HS HW]
  · isplitl [HS]; · iexact HS
    iexact HW
  iintro HF
  iapply Hk
  iapply HP
  iexact HF

/-- The copy of `x` started. -/
theorem start_x {α : Type} {Q : α → sProp 𝕄} {h1 : _} {h2 : _} {h3 : _} {k : PUnit → Prog (TpuEff nD τ sig (Elt F) Λ₀ .tc) α} :
    RS c V a3 a4 a5 false s8 s9 ⊢ iprop((RS c V a3 a4 a5 true s8 s9 -∗ Wk c (k ⟨⟩) Q)
      -∗ Wk c (.op (.enqueueDma a0 (.here a6) (.dma cc0_scratch6.sem) h1 h2 h3) k) Q) := by
  iintro HP Hk
  ihave HP := (takeX_ft c V a3 a4 a5) $$ HP
  icases HP with ⟨⟨HS, HW⟩, HP⟩
  iapply (Copy.start (c := (c : Thread nD τ)) EC Variants.none none (src := a0) (dst := a6) (sm := .dma cc0_scratch6.sem) (Sd := Finset.univ) yes yes () N6 rfl (View.dmaCredit_pos _ (by decide)) (Finset.subset_univ _) (fun _ _ => trivial)) $$ HS
  iintro HF
  iapply Hk
  iapply HP
  isplitl [HF]
  · iexists _
    iexact HF
  iexact HW

/-- The copy of `x` waited for. -/
theorem wait_x {α : Type} {Q : α → sProp 𝕄} {h1 : _} {h2 : _} {k : PUnit → Prog (TpuEff nD τ sig (Elt F) Λ₀ .tc) α} :
    RS c V a3 a4 a5 true s8 s9 ⊢ iprop((RS c V a3 a4 a5 false s8 s9 -∗ Wk c (k ⟨⟩) Q)
      -∗ Wk c (.op (.waitDma2 cc0_scratch6.sem a0 a6 h1 h2) k) Q) := by
  iintro HP Hk
  ihave HP := (takeX_tf c V a3 a4 a5) $$ HP
  icases HP with ⟨⟨HS, HW⟩, HP⟩
  icases HS with ⟨%Sa, HS⟩
  iapply (Copy.wait (c := (c : Thread nD τ)) EC Variants.none none () (N := N6) rfl) $$ [HS HW]
  · isplitl [HS]; · iexact HS
    iexact HW
  iintro HF
  iapply Hk
  iapply HP
  iexact HF

/-- A load of the copied `x`. -/
theorem load_6 {α : Type} {Q : α → sProp 𝕄} {r : LoadRect S256x3584} {hl : a6.view.LoadsAt r} {k : (r.shape.Idx → Elt F .bf16) → Prog (TpuEff nD τ sig (Elt F) Λ₀ .tc) α} :
    RS c V a3 a4 a5 false s8 s9 ⊢ iprop((∀ v, RS c V a3 a4 a5 false s8 s9 -∗ Wk c (k v) Q) -∗ Wk c (.op (.load a6 r hl) k) Q) := by
  iintro HP Hk
  ihave HP := (takeX_ff c V a3 a4 a5) $$ HP
  icases HP with ⟨⟨%f, HM⟩, HP⟩
  iapply (wp_load (c := (c : Thread nD τ)) (m := a6) (S := Finset.univ) Variants.none none Set.univ (Finset.subset_univ _)) $$ HM
  iintro HM
  iapply Hk
  iapply HP
  iexists f
  iexact HM

end

end Cert.Proof.Kernel
-- ==== Proof.OkK.lean ====
/-
  Programs of the kernel that take its one resource (Proof/RingK.lean) from one state of the copies to
  another, composed.
-/
module

public import proofs.«01_k».proof.Proof.StepK
public import Idealize.ShloMosaic.Lib.Mxu
public import Idealize.ShloMosaic.Lib.Mxu.Lemmas
public import Idealize.ShloMosaic.Lib.Scf

@[expose] public section

noncomputable section

namespace Cert.Proof.Kernel

open Cert.Kernel Cert.Kernel.Gen Cert.Proof
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

/-- The kernel's programs. -/
abbrev PK (F : FTy → Type) [BitOps F] (α : Type) : Type 1 := Prog (TpuEff nD τ sig (Elt F) Λ₀ .tc) α

theorem wk_ret (c : Dev nD) {α : Type} (Q : α → sProp 𝕄) (a : α) : Q a ⊢ Wk c (.ret a : PK F α) Q := by
  unfold Wk
  rw [wp_ret]
  exact fupd_intro

/-- The copies' states: of `x`, of the codes' ring, of the scales' ring. -/
abbrev Fl : Type := Bool × (Fin 4 → Bool) × (Fin 4 → Bool)

section
variable (c : Dev nD) (V : (b : Ref sig .tc) → Buf (Elt F) ((c : Thread nD τ).loc b))
variable (a3 : Memref sig .tc .vmem S1x256 .i32) (a4 a5 : Memref sig .tc .vmem S1x256 .f32)

abbrev RSt (s : Fl) : sProp 𝕄 := RS c V a3 a4 a5 s.1 s.2.1 s.2.2

/-- `p` runs from the state `s` to the state `s'`, its result satisfying `φ`. -/
def Ok (s s' : Fl) {α : Type} (p : PK F α) (φ : α → Prop) : Prop :=
  ∀ Q : α → sProp 𝕄, RSt c V a3 a4 a5 s ⊢ iprop((∀ r, ⌜φ r⌝ -∗ RSt c V a3 a4 a5 s' -∗ Q r) -∗ Wk c p Q)

variable {c V a3 a4 a5}

theorem Ok.ret {s : Fl} {α : Type} {a : α} {φ : α → Prop} (h : φ a) : Ok c V a3 a4 a5 s s (.ret a) φ := by
  intro Q
  iintro HR Hk
  iapply (wk_ret c Q a)
  ispecialize Hk $$ %a
  iapply Hk
  · ipureintro; exact h
  · iexact HR

theorem Ok.bind {s s' s'' : Fl} {α β : Type} {p : PK F α} {f : α → PK F β} {φ : α → Prop} {ψ : β → Prop}
    (h : Ok c V a3 a4 a5 s s' p φ) (hf : ∀ a, φ a → Ok c V a3 a4 a5 s' s'' (f a) ψ) : Ok c V a3 a4 a5 s s'' (p >>= f) ψ := by
  intro Q
  have e : Wk c (p >>= f) Q = Wk c p (fun a => Wk c (f a) Q) := wp_bind ..
  rw [e]
  have h1 := h (fun a => Wk c (f a) Q)
  iintro HR Hk
  iapply h1 $$ HR
  iintro %a %ha HR
  iapply (hf a ha Q) $$ HR
  iexact Hk

theorem Ok.mono {s s' : Fl} {α : Type} {p : PK F α} {φ ψ : α → Prop} (h : Ok c V a3 a4 a5 s s' p φ) (hφ : ∀ a, φ a → ψ a) : Ok c V a3 a4 a5 s s' p ψ := by
  intro Q
  iintro HR Hk
  iapply (h Q) $$ HR
  iintro %a %ha HR
  ispecialize Hk $$ %a
  iapply Hk
  · ipureintro; exact hφ a ha
  · iexact HR

/-- From a rule for one operation in front of any continuation. -/
theorem Ok.of_op {s s' : Fl} {β : Type} {e : TpuEff nD τ sig (Elt F) Λ₀ .tc β}
    (h : ∀ Q : β → sProp 𝕄, RSt c V a3 a4 a5 s ⊢ iprop((∀ v, RSt c V a3 a4 a5 s' -∗ Wk c (.ret v : PK F β) Q) -∗ Wk c (.op e .ret) Q)) :
    Ok c V a3 a4 a5 s s' (Prog.lift e) yes := by
  intro Q
  iintro HR Hk
  iapply (h Q) $$ HR
  iintro %v HR
  iapply (wk_ret c Q v)
  ispecialize Hk $$ %v
  iapply Hk
  · ipureintro; trivial
  · iexact HR

theorem Ok.assume {s : Fl} {P : Prop} {d : Decidable P} (h : P) {s' : Fl} {β : Type} {k : PLift P → PK F β} {φ : β → Prop}
    (hk : Ok c V a3 a4 a5 s s' (k ⟨h⟩) φ) : Ok c V a3 a4 a5 s s' (.op (.assume P d) k) φ := by
  intro Q
  iintro HR Hk
  iapply (wp_assume (defs := defs₀ (F := F)) (Q := Q) (k := k) Variants.none (c : Thread nD τ) none Set.univ h)
  iapply (hk Q) $$ HR
  iexact Hk

theorem Ok.pushRhs {s : Fl} {m : Mxu F} {q r : Fin 2} {tr : Bool} {φ : FTy} {v : FVec F (Mxu.STile 256) φ} (h : m.PushOk q r tr) :
    Ok c V a3 a4 a5 s s (m.pushRhs q r tr v) (fun m' => m' = m.pushed q r tr v) := by
  unfold Mxu.pushRhs
  exact Ok.assume h (Ok.ret rfl)

theorem Ok.exit {s : Fl} {m : Mxu F} (h : m.Drained) : Ok c V a3 a4 a5 s s (m.exit) yes := by
  unfold Mxu.exit
  exact Ok.assume h (Ok.ret trivial)

/-- A counted loop whose every trip keeps to an invariant. -/
theorem Ok.for {w : ℕ} {σ : Type} (lb ub st : BitVec w) (hok : Scf.OK lb ub st) (init : σ) (body : Fin (Scf.trips lb ub st) → σ → PK F σ)
    (fl : ℕ → Fl) (I : ℕ → σ → Prop) (h0 : I 0 init)
    (hb : ∀ (k : Fin (Scf.trips lb ub st)) (acc : σ), I k.val acc → Ok c V a3 a4 a5 (fl k.val) (fl (k.val + 1)) (body k acc) (I (k.val + 1))) :
    Ok c V a3 a4 a5 (fl 0) (fl (Scf.trips lb ub st)) (Scf.for lb ub st hok init body) (I (Scf.trips lb ub st)) := by
  intro Q
  have h := Scf.wp_for (M := 𝕄) frame (wpE (defs₀ (F := F)) Variants.none (c : Thread nD τ) none) Set.univ lb ub st hok init body
    (fun n acc => iprop(⌜I n acc⌝ ∗ RSt c V a3 a4 a5 (fl n))) (fun k acc => by
      iintro ⟨%hI, HR⟩
      iapply (hb k acc hI (fun r => iprop(⌜I (k.val + 1) r⌝ ∗ RSt c V a3 a4 a5 (fl (k.val + 1))))) $$ HR
      iintro %r %hr HR
      isplitr; · ipureintro; exact hr
      iexact HR) (Q := Q)
  iintro HR Hk
  iapply h
  isplitl [HR]
  · isplitr; · ipureintro; exact h0
    iexact HR
  iintro %acc ⟨%hI, HR⟩
  ispecialize Hk $$ %acc
  iapply Hk
  · ipureintro; exact hI
  · iexact HR

/-! ## The operations -/

section
variable {sp : CoreSpace} {sh : Shape} {e : EltTy} {M : Memref sig .tc sp sh e} {s : Fl}

theorem ok_load (h : RSt c V a3 a4 a5 s ⊢ iprop(any c M ∗ (any c M -∗ RSt c V a3 a4 a5 s))) {r : LoadRect sh} {hl : M.view.LoadsAt r} :
    Ok c V a3 a4 a5 s s (Prog.lift (.load M r hl)) yes := Ok.of_op fun _ => load_any c h

theorem ok_store (h : RSt c V a3 a4 a5 s ⊢ iprop(any c M ∗ (any c M -∗ RSt c V a3 a4 a5 s))) {r : Rect sh} {w : r.shape.Idx → Elt F e}
    {Mk : Finset r.shape.Idx} {hx : (M.access r).Stores Mk} {hm : Mk = Finset.univ ∨ _} :
    Ok c V a3 a4 a5 s s (Prog.lift (.store M r w Mk hx hm)) yes := by
  refine Ok.of_op fun Q => ?_
  have h1 := store_any c h (r := r) (w := w) (Mk := Mk) (hx := hx) (hm := hm) (Q := Q) (k := .ret)
  iintro HR Hk
  iapply h1 $$ HR
  iintro HR
  ispecialize Hk $$ %(⟨⟩ : PUnit)
  iapply Hk
  iexact HR
end

end

end Cert.Proof.Kernel
-- ==== Proof.TripK.lean ====
/-
  The kernel's trip is the trip written by recursion (Proof/Trip.lean) over its own buffers.
-/
module

public import proofs.«01_k».proof.Proof.Trip
public import proofs.«01_k».proof.Proof.Gen.Kernel.Skeleton
public import Idealize.ShloMosaic.Lib.Tactic
public import Idealize.ShloMosaic.Lib.Pipeline.Regions

@[expose] public section

noncomputable section

namespace Cert.Proof.Kernel

open Cert.Kernel Cert.Kernel.Gen Cert.Proof.Trip
open Idealize.ShloMosaic Idealize.ShloMosaic.TcCoe Idealize.SL.Sem

variable {F : FTy → Type} [BitOps F] {R : Type}

local notation "PgK" => Pg nD τ sig Λ₀ Proc.tc F R

/-! ## Values -/

/-- Sixteen rows of words of expanded scales as thirty-two rows. -/
def wideVal (raw : Vec F S1x16x256 .i32) : FVec F S32x256 .bf16 :=
  bitcastToFloat .bf16 (bitcast S32x256 16 (shapeCast S16x256 raw shapeCasts_S1x16x256_S16x256) bitcasts_S16x256_w32_S32x256_w16)

/-- The words of a tile of `x` as its 256 rows. -/
def tileVal (raw : Vec F S1x128x256 .i32) : FVec F S256x256 .bf16 :=
  bitcastToFloat .bf16 (bitcast S256x256 16 (shapeCast S128x256 raw shapeCasts_S1x128x256_S128x256) bitcasts_S128x256_w32_S256x256_w16)

/-- The lane numbers' quotient by sixteen, rounded down. -/
def floor16 (v : IVec S176x128 32) : IVec S176x128 32 :=
  select
    (andi
      (cmpi .ne
        (subi (extui 32 (cmpi .sgt v (broadcast S176x128 0#32)) natLt_1_32) (extui 32 (cmpi .slt v (broadcast S176x128 0#32)) natLt_1_32))
        (broadcast S176x128 (Scalar.subi (Scalar.extui (Scalar.cmpi .sgt 16#32 0#32)) (Scalar.extui (Scalar.cmpi .slt 16#32 0#32)))))
      (cmpi .ne (remsi v (broadcast S176x128 16#32)) (broadcast S176x128 0#32)))
    (subi (divsi v (broadcast S176x128 16#32)) (broadcast S176x128 1#32))
    (divsi v (broadcast S176x128 16#32))

/-- One half's lanes taken at `idx`. -/
def gatherHalf (w : IVec S176x128 32) (idx : IVec S176x128 32) : FVec F S176x128 .f32 :=
  dynamicGather 1 (bitcastToFloat .f32 w)
    (shapeCast S176x128
      (shapeCast S176x128x1 (select (cmpi .slt idx (broadcast S176x128 0#32)) (addi idx (broadcast S176x128 128#32)) idx)
        shapeCasts_S176x128_S176x128x1)
      shapeCasts_S176x128x1_S176x128)

/-- What an expansion stores for the half of a chunk whose first scale is number `n`. -/
def expandVal (v0 : IVec S176x128 32) (n : ℕ) (raw : Vec F S1x176x128 .i32) : Vec F S1x176x128 .i32 :=
  shapeCast S1x176x128
    (packElementwise
      (gatherHalf (F := F) (shli (shapeCast S176x128 raw shapeCasts_S1x176x128_S176x128) (broadcast S176x128 16#32))
        (addi (floor16 v0) (broadcast S176x128 (BitVec.ofNat 32 n))))
      (gatherHalf (F := F) (andi (shapeCast S176x128 raw shapeCasts_S1x176x128_S176x128) (broadcast S176x128 4294901760#32))
        (addi (floor16 v0) (broadcast S176x128 (BitVec.ofNat 32 n)))))
    shapeCasts_S176x128_S1x176x128

/-- A sub-block's scales packed for the scale words. -/
def stageVal (raw : Vec F S1x352x112 .bf16) : Vec F S1x176x112 .i32 :=
  shapeCast S1x176x112
    (shapeCast S176x112 (bitcast S1x176x112 32 (bitcastToInt raw) bitcasts_S1x352x112_w16_S1x176x112_w32) shapeCasts_S1x176x112_S176x112)
    shapeCasts_S176x112_S1x176x112

/-! ## Places -/

theorem inb_wide (src st : ℕ) : ∀ a, (![src % 2, 16 * (st % 11), 0] : Fin 3 → ℕ) a + S1x16x256.size a ≤ S2x176x256.size a := by
  intro a; fin_cases a <;> simp [Shape.size] <;> omega

theorem inb_tile (n : ℕ) : ∀ a, (![n % 14, 0, 0] : Fin 3 → ℕ) a + S1x128x256.size a ≤ S14x128x256.size a := by
  intro a; fin_cases a <;> simp [Shape.size]; omega

theorem inb_words (b : ℕ) : ∀ a, (![b % 2, 0, 0] : Fin 3 → ℕ) a + S1x176x128.size a ≤ S2x176x128.size a := by
  intro a; fin_cases a <;> simp [Shape.size]; omega

theorem inb_stage (b : ℕ) : ∀ a, (![b % 2, 0, 0] : Fin 3 → ℕ) a + S1x176x112.size a ≤ S2x176x128.size a := by
  intro a; fin_cases a <;> simp [Shape.size]; omega

theorem inb_half (dst h : ℕ) : ∀ a, (![dst % 2, 0, 128 * (h % 2)] : Fin 3 → ℕ) a + S1x176x128.size a ≤ S2x176x256.size a := by
  intro a; fin_cases a <;> simp [Shape.size] <;> omega

theorem inb_codes (k : Fin 4) (b c st : ℕ) :
    ∀ a, (![k.val, 352 * (b % 2) + 32 * (st % 11), 256 * (c % 7)] : Fin 3 → ℕ) a + S1x32x256.size a ≤ S4x704x1792.size a := by
  intro a; fin_cases a <;> simp [Shape.size] <;> omega

theorem inb_rows (k : Fin 4) (b : ℕ) :
    ∀ a, (![k.val, 352 * (b % 2), 0] : Fin 3 → ℕ) a + S1x352x112.size a ≤ S4x704x112.size a := by
  intro a; fin_cases a <;> simp [Shape.size] <;> omega

/-- The ring slot trip `k` reads. -/
def slotNow (k : Fin k0_t2_loop.trips) : Fin 4 := ⟨(Scalar.remsi (Scf.iv 0#32 1#32 k) 4#32).toNat, by revert k; decide⟩

/-- The ring slot the next trip reads. -/
def slotNext (k : Fin k0_t2_loop.trips) : Fin 4 :=
  ⟨(Scalar.remsi (Scalar.addi (Scf.iv 0#32 1#32 k) 1#32) 4#32).toNat, by revert k; decide⟩

/-! ## The buffers' part -/

section

variable (arg7 : Memref sig .tc .vmem S14x128x256 .i32) (arg8 : Memref sig .tc .vmem S4x704x1792 .i8)
  (arg9 : Memref sig .tc .vmem S4x704x112 .bf16) (arg10 : Memref sig .tc .vmem S2x176x128 .i32)
  (arg11 : Memref sig .tc .vmem S2x176x256 .i32)

/-- The scale words of sub-block `1 - b` staged. -/
def stageOp (k : Fin k0_t2_loop.trips) (b : ℕ) (κ : Unit → PgK) : PgK :=
  .op (.load arg9 (Rect.unit (s := S4x704x112) ![(match b with | 0 => slotNow k | _ => slotNext k).val, 352 * ((b + 1) % 2), 0] S1x352x112.size (inb_rows _ (b + 1))).toLoadRect (View.loadsAt_vmem h_S1x352x112)) fun raw =>
  .op (.load arg10 (Rect.unit (s := S2x176x128) ![(b + 1) % 2, 0, 0] S1x176x112.size (inb_stage (b + 1))).toLoadRect (View.loadsAt_vmem h_S1x176x112)) fun _ =>
  .op (.store arg10 (Rect.unit (s := S2x176x128) ![(b + 1) % 2, 0, 0] S1x176x112.size (inb_stage (b + 1))) (stageVal raw) Finset.univ (View.stores_vmem_bits_univ h_S1x176x112 rfl) (.inl rfl))
  fun _ => κ ()

/-- Half `h` of step `t`'s scales expanded into its place. -/
def expandOp (v0 : IVec S176x128 32) (t h : ℕ) (κ : Unit → PgK) : PgK :=
  .op (.load arg10 (Rect.unit (s := S2x176x128) ![t / 7 % 2, 0, 0] S1x176x128.size (inb_words (t / 7))).toLoadRect (View.loadsAt_vmem h_S1x176x128)) fun raw =>
  .op (.load arg11 (Rect.unit (s := S2x176x256) ![t % 2, 0, 128 * (h % 2)] S1x176x128.size (inb_half t h)).toLoadRect (View.loadsAt_vmem h_S1x176x128)) fun _ =>
  .op (.store arg11 (Rect.unit (s := S2x176x256) ![t % 2, 0, 128 * (h % 2)] S1x176x128.size (inb_half t h)) (expandVal v0 (8 * (2 * (t % 7) + h)) raw) Finset.univ (View.stores_vmem_bits_univ h_S1x176x128 rfl) (.inl rfl))
  fun _ => κ ()

/-- The buffers' part of trip `k`. -/
def opsK (v0 : IVec S176x128 32) (k : Fin k0_t2_loop.trips) : Ops nD τ sig Λ₀ Proc.tc F R where
  prep b c κ :=
    let expand := fun (_ : Unit) => expandOp arg10 arg11 v0 ((b * 7 + c + 1) % 14) 0 fun _ => expandOp arg10 arg11 v0 ((b * 7 + c + 1) % 14) 1 κ
    match c with
    | 3 => stageOp arg9 arg10 k b expand
    | _ => expand ()
  wide src st κ :=
    .op (.load arg11 (Rect.unit (s := S2x176x256) ![src % 2, 16 * (st % 11), 0] S1x16x256.size (inb_wide src st)).toLoadRect (View.loadsAt_vmem h_S1x16x256)) fun raw => κ (wideVal raw)
  codes b c st κ :=
    .op (.load arg8 (Rect.unit (s := S4x704x1792) ![(slotNow k).val, 352 * (b % 2) + 32 * (st % 11), 256 * (c % 7)] S1x32x256.size (inb_codes (slotNow k) b c st)).toLoadRect (View.loadsAt_vmem h_S1x32x256)) fun raw => κ (shapeCast S32x256 raw shapeCasts_S1x32x256_S32x256)
  tile n κ :=
    .op (.load arg7 (Rect.unit (s := S14x128x256) ![n % 14, 0, 0] S1x128x256.size (inb_tile n)).toLoadRect (View.loadsAt_vmem h_S1x128x256)) fun raw => κ (tileVal raw)

end

end Cert.Proof.Kernel
-- ==== Proof.TripKEq.lean ====
/- The copies at the head of a trip, and the printed trip as these followed by the trip written by recursion. -/
module

public import proofs.«01_k».proof.Proof.TripK

@[expose] public section

noncomputable section

namespace Cert.Proof.Kernel

open Cert.Kernel Cert.Kernel.Gen Cert.Proof.Trip
open Idealize.ShloMosaic Idealize.ShloMosaic.TcCoe Idealize.SL.Sem

variable {F : FTy → Type} [BitOps F]

theorem bind_split {E : Type → Type} {α β γ : Type} {p : Prog E α} {h : Prog E PUnit.{1}} {x : α} (hp : p = h >>= fun _ => Prog.ret x)
    (f : α → Prog E β) (g : β → Prog E γ) {q : Prog E γ} (hq : f x >>= g = q) : (p >>= f) >>= g = h >>= fun _ => q := by
  subst hp
  rw [Prog.bind_assoc, Prog.bind_assoc]
  exact congrArg (h >>= ·) (funext fun _ => hq)

section
variable (arg0 : Memref sig .tc .hbm S256x3584 .bf16) (harg0 : arg0.IsWhole) (arg1 : Memref sig .tc .hbm S38016x1792 .i8) (harg1 : arg1.IsWhole) (arg2 : Memref sig .tc .hbm S38016x112 .bf16) (harg2 : arg2.IsWhole) (arg3 : Memref sig .tc .vmem S1x256 .i32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x3584 .bf16) (harg6 : arg6.IsWhole) (arg7 : Memref sig .tc .vmem S14x128x256 .i32) (harg7 : arg7.IsWhole) (arg8 : Memref sig .tc .vmem S4x704x1792 .i8) (harg8 : arg8.IsWhole) (arg9 : Memref sig .tc .vmem S4x704x112 .bf16) (harg9 : arg9.IsWhole) (arg10 : Memref sig .tc .vmem S2x176x128 .i32) (harg10 : arg10.IsWhole) (arg11 : Memref sig .tc .vmem S2x176x256 .i32) (harg11 : arg11.IsWhole) (arg12 : DmaSems sig S_) (arg13 : DmaSems sig S4) (arg14 : DmaSems sig S4)

/-- The copies trip `k` starts: the blocks three trips ahead, if there are such. -/
def startOp (k0_t2 : Fin k0_t2_loop.trips) : Prog (TpuEff nD τ sig (Elt F) Λ₀ .tc) PUnit := do
  let arg15_r0 : BitVec 32 := Scf.iv 0#32 1#32 k0_t2
  let c3_i32_r0 : BitVec 32 := 3#32
  let v587_r0 : BitVec 32 := Scalar.addi arg15_r0 c3_i32_r0
  let c54_i32_116_r0 : BitVec 32 := 54#32
  let v588_r0 : BitVec 1 := Scalar.cmpi .slt v587_r0 c54_i32_116_r0
  let v589_r0 : BitVec 32 := Scalar.extui v588_r0
  let c0_i32_117_r0 : BitVec 32 := 0#32
  let v590_r0 : BitVec 1 := Scalar.cmpi .ne v589_r0 c0_i32_117_r0
  if k0_h1 : k0_cond1 k0_t2 = 1#1 then do
    let c3_i32_2294_r0 : BitVec 32 := 3#32
    let v6439_r0 : BitVec 32 := Scalar.addi arg15_r0 c3_i32_2294_r0
    let c4_i32_2295_r0 : BitVec 32 := 4#32
    let v6440_r0 : BitVec 32 := Scalar.remsi v6439_r0 c4_i32_2295_r0
    let c704_i32_2296_r0 : BitVec 32 := 704#32
    let v6441_r0 : BitVec 32 := Scalar.muli v6439_r0 c704_i32_2296_r0
    let v6442_r0 : DmaSems sig S1 := arg13.slice (Rect.unit (s := S4) (k0_off8 k0_t2) S1.size (k0_off8_inb k0_t2 k0_h1))
    let v6443_r0 : DmaSems sig S_ := v6442_r0.squeeze S_ squeezes_S1_S_
    let c0_i32_2297_r0 : BitVec 32 := 0#32
    let c0_i32_2298_r0 : BitVec 32 := 0#32
    let v6444_r0 : Memref sig .tc .vmem S1x704x1792 .i8 := arg8.slice (Rect.unit (s := S4x704x1792) (k0_off9 k0_t2) S1x704x1792.size (k0_off9_inb k0_t2 k0_h1)) (fun _ => rfl)
    let v6445_r0 : Memref sig .tc .vmem S704x1792 .i8 := v6444_r0.squeeze S704x1792 squeezes_S1x704x1792_S704x1792
    let c0_i32_2299_r0 : BitVec 32 := 0#32
    let v6446_r0 : Memref sig .tc .hbm S704x1792 .i8 := arg1.slice (Rect.unit (s := S38016x1792) (k0_off10 k0_t2) S704x1792.size (k0_off10_inb k0_t2 k0_h1)) (fun _ => rfl)
    Prog.lift (.enqueueDma v6446_r0 (.here v6445_r0) (.dma v6443_r0.sem) (harg1.wordExact_slice rfl _ (k0_off10_wordsi8 k0_t2 k0_h1)) ((harg8.wordExact_slice rfl _ (k0_off9_wordsi8 k0_t2 k0_h1)).reshape _ _) ⟨Or.inl rfl, trivial⟩)
    let v6447_r0 : DmaSems sig S1 := arg14.slice (Rect.unit (s := S4) (k0_off8 k0_t2) S1.size (k0_off8_inb k0_t2 k0_h1))
    let v6448_r0 : DmaSems sig S_ := v6447_r0.squeeze S_ squeezes_S1_S_
    let c0_i32_2300_r0 : BitVec 32 := 0#32
    let c0_i32_2301_r0 : BitVec 32 := 0#32
    let v6449_r0 : Memref sig .tc .vmem S1x704x112 .bf16 := arg9.slice (Rect.unit (s := S4x704x112) (k0_off11 k0_t2) S1x704x112.size (k0_off11_inb k0_t2 k0_h1)) (fun _ => rfl)
    let v6450_r0 : Memref sig .tc .vmem S704x112 .bf16 := v6449_r0.squeeze S704x112 squeezes_S1x704x112_S704x112
    let c0_i32_2302_r0 : BitVec 32 := 0#32
    let v6451_r0 : Memref sig .tc .hbm S704x112 .bf16 := arg2.slice (Rect.unit (s := S38016x112) (k0_off12 k0_t2) S704x112.size (k0_off12_inb k0_t2 k0_h1)) (fun _ => rfl)
    Prog.lift (.enqueueDma v6451_r0 (.here v6450_r0) (.dma v6448_r0.sem) (harg2.wordExact_slice rfl _ (k0_off12_wordsbf16 k0_t2 k0_h1)) ((harg9.wordExact_slice rfl _ (k0_off11_wordsbf16 k0_t2 k0_h1)).reshape _ _) ⟨Or.inl rfl, trivial⟩)
    pure ⟨⟩
  else do
    pure ⟨⟩

/-- The copies trip `k` waits for: the next trip's blocks, if there is a next trip. -/
def waitOp (k0_t2 : Fin k0_t2_loop.trips) : Prog (TpuEff nD τ sig (Elt F) Λ₀ .tc) PUnit := do
  let arg15_r0 : BitVec 32 := Scf.iv 0#32 1#32 k0_t2
  let c1_i32_118_r0 : BitVec 32 := 1#32
  let v591_r0 : BitVec 32 := Scalar.addi arg15_r0 c1_i32_118_r0
  let c54_i32_119_r0 : BitVec 32 := 54#32
  let v592_r0 : BitVec 1 := Scalar.cmpi .slt v591_r0 c54_i32_119_r0
  let v593_r0 : BitVec 32 := Scalar.extui v592_r0
  let c0_i32_120_r0 : BitVec 32 := 0#32
  let v594_r0 : BitVec 1 := Scalar.cmpi .ne v593_r0 c0_i32_120_r0
  if k0_h2 : k0_cond2 k0_t2 = 1#1 then do
    let c1_i32_2294_r0 : BitVec 32 := 1#32
    let v6439_r0 : BitVec 32 := Scalar.addi arg15_r0 c1_i32_2294_r0
    let c4_i32_2295_r0 : BitVec 32 := 4#32
    let v6440_r0 : BitVec 32 := Scalar.remsi v6439_r0 c4_i32_2295_r0
    let c704_i32_2296_r0 : BitVec 32 := 704#32
    let v6441_r0 : BitVec 32 := Scalar.muli v6439_r0 c704_i32_2296_r0
    let v6442_r0 : DmaSems sig S1 := arg13.slice (Rect.unit (s := S4) (k0_off13 k0_t2) S1.size (k0_off13_inb k0_t2 k0_h2))
    let v6443_r0 : DmaSems sig S_ := v6442_r0.squeeze S_ squeezes_S1_S_
    let c0_i32_2297_r0 : BitVec 32 := 0#32
    let c0_i32_2298_r0 : BitVec 32 := 0#32
    let v6444_r0 : Memref sig .tc .vmem S1x704x1792 .i8 := arg8.slice (Rect.unit (s := S4x704x1792) (k0_off14 k0_t2) S1x704x1792.size (k0_off14_inb k0_t2 k0_h2)) (fun _ => rfl)
    let v6445_r0 : Memref sig .tc .vmem S704x1792 .i8 := v6444_r0.squeeze S704x1792 squeezes_S1x704x1792_S704x1792
    let c0_i32_2299_r0 : BitVec 32 := 0#32
    let v6446_r0 : Memref sig .tc .hbm S704x1792 .i8 := arg1.slice (Rect.unit (s := S38016x1792) (k0_off15 k0_t2) S704x1792.size (k0_off15_inb k0_t2 k0_h2)) (fun _ => rfl)
    Prog.lift (.waitDma2 v6443_r0.sem v6446_r0 v6445_r0 (harg1.wordExact_slice rfl _ (k0_off15_wordsi8 k0_t2 k0_h2)) ((harg8.wordExact_slice rfl _ (k0_off14_wordsi8 k0_t2 k0_h2)).reshape _ _))
    let v6447_r0 : DmaSems sig S1 := arg14.slice (Rect.unit (s := S4) (k0_off13 k0_t2) S1.size (k0_off13_inb k0_t2 k0_h2))
    let v6448_r0 : DmaSems sig S_ := v6447_r0.squeeze S_ squeezes_S1_S_
    let c0_i32_2300_r0 : BitVec 32 := 0#32
    let c0_i32_2301_r0 : BitVec 32 := 0#32
    let v6449_r0 : Memref sig .tc .vmem S1x704x112 .bf16 := arg9.slice (Rect.unit (s := S4x704x112) (k0_off16 k0_t2) S1x704x112.size (k0_off16_inb k0_t2 k0_h2)) (fun _ => rfl)
    let v6450_r0 : Memref sig .tc .vmem S704x112 .bf16 := v6449_r0.squeeze S704x112 squeezes_S1x704x112_S704x112
    let c0_i32_2302_r0 : BitVec 32 := 0#32
    let v6451_r0 : Memref sig .tc .hbm S704x112 .bf16 := arg2.slice (Rect.unit (s := S38016x112) (k0_off17 k0_t2) S704x112.size (k0_off17_inb k0_t2 k0_h2)) (fun _ => rfl)
    Prog.lift (.waitDma2 v6448_r0.sem v6451_r0 v6450_r0 (harg2.wordExact_slice rfl _ (k0_off17_wordsbf16 k0_t2 k0_h2)) ((harg9.wordExact_slice rfl _ (k0_off16_wordsbf16 k0_t2 k0_h2)).reshape _ _))
    pure ⟨⟩
  else do
    pure ⟨⟩

end

theorem part6_eq (arg0 : Memref sig .tc .hbm S256x3584 .bf16) (harg0 : arg0.IsWhole) (arg1 : Memref sig .tc .hbm S38016x1792 .i8) (harg1 : arg1.IsWhole) (arg2 : Memref sig .tc .hbm S38016x112 .bf16) (harg2 : arg2.IsWhole) (arg3 : Memref sig .tc .vmem S1x256 .i32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x3584 .bf16) (harg6 : arg6.IsWhole) (arg7 : Memref sig .tc .vmem S14x128x256 .i32) (harg7 : arg7.IsWhole) (arg8 : Memref sig .tc .vmem S4x704x1792 .i8) (harg8 : arg8.IsWhole) (arg9 : Memref sig .tc .vmem S4x704x112 .bf16) (harg9 : arg9.IsWhole) (arg10 : Memref sig .tc .vmem S2x176x128 .i32) (harg10 : arg10.IsWhole) (arg11 : Memref sig .tc .vmem S2x176x256 .i32) (harg11 : arg11.IsWhole) (arg12 : DmaSems sig S_) (arg13 : DmaSems sig S4) (arg14 : DmaSems sig S4) (v0 : IVec S176x128 32)  (k : Fin k0_t2_loop.trips) (ix : IVec S8x256 32) :
    k0_part6 (F := F) arg0 harg0 arg1 harg1 arg2 harg2 arg3 harg3 arg4 harg4 arg5 harg5 arg6 harg6 arg7 harg7 arg8 harg8 arg9 harg9 arg10 harg10 arg11 harg11 arg12 arg13 arg14 v0 0#32 1#32 k ix =
      (startOp arg1 harg1 arg2 harg2 arg8 harg8 arg9 harg9 arg13 arg14 k >>= fun _ => waitOp arg1 harg1 arg2 harg2 arg8 harg8 arg9 harg9 arg13 arg14 k) >>= fun _ =>
        Prog.ret ⟨Scf.iv 0#32 1#32 k, Scalar.remsi (Scf.iv 0#32 1#32 k) 4#32, subi ix (broadcast S8x256 88#32), addi (floor16 v0) (broadcast S176x128 16#32)⟩ := by
  unfold k0_part6 startOp waitOp
  by_cases h1 : k0_cond1 k = 1#1 <;> by_cases h2 : k0_cond2 k = 1#1
  · rw [dif_pos h1, dif_pos h1, dif_pos h2, dif_pos h2]; rfl
  · rw [dif_pos h1, dif_pos h1, dif_neg h2, dif_neg h2]; rfl
  · rw [dif_neg h1, dif_neg h1, dif_pos h2, dif_pos h2]; rfl
  · rw [dif_neg h1, dif_neg h1, dif_neg h2, dif_neg h2]; rfl

/-- The printed trip. -/
theorem body_eq (arg0 : Memref sig .tc .hbm S256x3584 .bf16) (harg0 : arg0.IsWhole) (arg1 : Memref sig .tc .hbm S38016x1792 .i8) (harg1 : arg1.IsWhole) (arg2 : Memref sig .tc .hbm S38016x112 .bf16) (harg2 : arg2.IsWhole) (arg3 : Memref sig .tc .vmem S1x256 .i32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x3584 .bf16) (harg6 : arg6.IsWhole) (arg7 : Memref sig .tc .vmem S14x128x256 .i32) (harg7 : arg7.IsWhole) (arg8 : Memref sig .tc .vmem S4x704x1792 .i8) (harg8 : arg8.IsWhole) (arg9 : Memref sig .tc .vmem S4x704x112 .bf16) (harg9 : arg9.IsWhole) (arg10 : Memref sig .tc .vmem S2x176x128 .i32) (harg10 : arg10.IsWhole) (arg11 : Memref sig .tc .vmem S2x176x256 .i32) (harg11 : arg11.IsWhole) (arg12 : DmaSems sig S_) (arg13 : DmaSems sig S4) (arg14 : DmaSems sig S4) (v0 : IVec S176x128 32) (k0_mxu3 : Mxu F) (v162_r0 : IVec S176x128 32) (v181_r0 : IVec S176x128 1) (c1_i32_87_r0 : BitVec 32) (k : Fin k0_t2_loop.trips) (top sec : FVec F S8x256 .f32) (ix : IVec S8x256 32) (m : Mxu F) :
    k0_t2_body arg0 harg0 arg1 harg1 arg2 harg2 arg3 harg3 arg4 harg4 arg5 harg5 arg6 harg6 arg7 harg7 arg8 harg8 arg9 harg9 arg10 harg10 arg11 harg11 arg12 arg13 arg14 v0 k0_mxu3 v162_r0 v181_r0 c1_i32_87_r0 k (top, sec, ix, m) =
      (startOp arg1 harg1 arg2 harg2 arg8 harg8 arg9 harg9 arg13 arg14 k >>= fun _ => waitOp arg1 harg1 arg2 harg2 arg8 harg8 arg9 harg9 arg13 arg14 k) >>= fun _ =>
        trip (opsK arg7 arg8 arg9 arg10 arg11 v0 k) (Scalar.cmpi .eq (Scf.iv 0#32 1#32 k) 0#32) (m, (top, sec, ix))
          fun ms => .ret (ms.2.1, ms.2.2.1, ms.2.2.2, ms.1) := by
  unfold k0_t2_body
  unfold k0_part148
  dsimp only
  refine bind_split (E := TpuEff nD τ sig (Elt F) Λ₀ .tc) (part6_eq arg0 harg0 arg1 harg1 arg2 harg2 arg3 harg3 arg4 harg4 arg5 harg5 arg6 harg6 arg7 harg7 arg8 harg8 arg9 harg9 arg10 harg10 arg11 harg11 arg12 arg13 arg14 v0 k ix) _ _ ?_
  chain_rfl

end Cert.Proof.Kernel
-- ==== Proof.TripOkK.lean ====
/-
  The kernel's trip over its one resource: the copies at its head, the buffers' operations, the trip.
-/
module

public import proofs.«01_k».proof.Proof.OkK
public import proofs.«01_k».proof.Proof.TripKEq
public import proofs.«01_k».proof.Proof.TripWp

@[expose] public section

noncomputable section

namespace Cert.Proof.Kernel

open Cert.Kernel Cert.Kernel.Gen Cert.Proof Cert.Proof.Trip
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

section
variable {c : Dev nD} {V : (b : Ref sig .tc) → Buf (Elt F) ((c : Thread nD τ).loc b)}
variable {a3 : Memref sig .tc .vmem S1x256 .i32} {a4 a5 : Memref sig .tc .vmem S1x256 .f32}

/-! ## The copies as steps -/

theorem Ok.of_unit {s s' : Fl} {e : TpuEff nD τ sig (Elt F) Λ₀ .tc PUnit}
    (h : ∀ (Q : PUnit → sProp 𝕄), RSt c V a3 a4 a5 s ⊢ iprop((RSt c V a3 a4 a5 s' -∗ Wk c (.ret ⟨⟩ : PK F PUnit) Q) -∗ Wk c (.op e .ret) Q)) :
    Ok c V a3 a4 a5 s s' (Prog.lift e) yes := by
  refine Ok.of_op fun Q => ?_
  iintro HR Hk
  iapply (h Q) $$ HR
  iintro HR
  ispecialize Hk $$ %(⟨⟩ : PUnit)
  iapply Hk
  iexact HR

theorem ok_start_8 {x : Bool} {s8 s9 : Fin 4 → Bool} (j : Fin 4) (hj : s8 j = false) {o : Fin 3 → ℕ} (ho : o = ![j.val, 0, 0]) {io : ∀ a, o a + S1x704x1792.size a ≤ S4x704x1792.size a}
    {so : Fin 1 → ℕ} (hso : so = ![j.val]) {iso : ∀ a, so a + S1.size a ≤ S4.size a} {o1 : Fin 2 → ℕ} {io1 : ∀ a, o1 a + S704x1792.size a ≤ S38016x1792.size a}
    {h1 : _} {h2 : _} {h3 : _} : Ok c V a3 a4 a5 (x, s8, s9) (x, Function.update s8 j true, s9) (Prog.lift (.enqueueDma (a1.slice (Rect.unit (s := S38016x1792) o1 S704x1792.size io1) (fun _ => rfl)) (.here ((a8.slice (Rect.unit (s := S4x704x1792) o S1x704x1792.size io) (fun _ => rfl)).squeeze S704x1792 squeezes_S1x704x1792_S704x1792)) (.dma ((cc0_scratch7.slice (Rect.unit (s := S4) so S1.size iso)).squeeze S_ squeezes_S1_S_).sem) h1 h2 h3)) yes :=
  Ok.of_unit fun Q => start_8 c V a3 a4 a5 hj ho hso
theorem ok_wait_8 {x : Bool} {s8 s9 : Fin 4 → Bool} (j : Fin 4) (hj : s8 j = true) {o : Fin 3 → ℕ} (ho : o = ![j.val, 0, 0]) {io : ∀ a, o a + S1x704x1792.size a ≤ S4x704x1792.size a}
    {so : Fin 1 → ℕ} (hso : so = ![j.val]) {iso : ∀ a, so a + S1.size a ≤ S4.size a} {o1 : Fin 2 → ℕ} {io1 : ∀ a, o1 a + S704x1792.size a ≤ S38016x1792.size a}
    {h1 : _} {h2 : _}  : Ok c V a3 a4 a5 (x, s8, s9) (x, Function.update s8 j false, s9) (Prog.lift (.waitDma2 ((cc0_scratch7.slice (Rect.unit (s := S4) so S1.size iso)).squeeze S_ squeezes_S1_S_).sem (a1.slice (Rect.unit (s := S38016x1792) o1 S704x1792.size io1) (fun _ => rfl)) ((a8.slice (Rect.unit (s := S4x704x1792) o S1x704x1792.size io) (fun _ => rfl)).squeeze S704x1792 squeezes_S1x704x1792_S704x1792) h1 h2)) yes :=
  Ok.of_unit fun Q => wait_8 c V a3 a4 a5 hj ho hso
theorem ok_start_9 {x : Bool} {s8 s9 : Fin 4 → Bool} (j : Fin 4) (hj : s9 j = false) {o : Fin 3 → ℕ} (ho : o = ![j.val, 0, 0]) {io : ∀ a, o a + S1x704x112.size a ≤ S4x704x112.size a}
    {so : Fin 1 → ℕ} (hso : so = ![j.val]) {iso : ∀ a, so a + S1.size a ≤ S4.size a} {o1 : Fin 2 → ℕ} {io1 : ∀ a, o1 a + S704x112.size a ≤ S38016x112.size a}
    {h1 : _} {h2 : _} {h3 : _} : Ok c V a3 a4 a5 (x, s8, s9) (x, s8, Function.update s9 j true) (Prog.lift (.enqueueDma (a2.slice (Rect.unit (s := S38016x112) o1 S704x112.size io1) (fun _ => rfl)) (.here ((a9.slice (Rect.unit (s := S4x704x112) o S1x704x112.size io) (fun _ => rfl)).squeeze S704x112 squeezes_S1x704x112_S704x112)) (.dma ((cc0_scratch8.slice (Rect.unit (s := S4) so S1.size iso)).squeeze S_ squeezes_S1_S_).sem) h1 h2 h3)) yes :=
  Ok.of_unit fun Q => start_9 c V a3 a4 a5 hj ho hso
theorem ok_wait_9 {x : Bool} {s8 s9 : Fin 4 → Bool} (j : Fin 4) (hj : s9 j = true) {o : Fin 3 → ℕ} (ho : o = ![j.val, 0, 0]) {io : ∀ a, o a + S1x704x112.size a ≤ S4x704x112.size a}
    {so : Fin 1 → ℕ} (hso : so = ![j.val]) {iso : ∀ a, so a + S1.size a ≤ S4.size a} {o1 : Fin 2 → ℕ} {io1 : ∀ a, o1 a + S704x112.size a ≤ S38016x112.size a}
    {h1 : _} {h2 : _}  : Ok c V a3 a4 a5 (x, s8, s9) (x, s8, Function.update s9 j false) (Prog.lift (.waitDma2 ((cc0_scratch8.slice (Rect.unit (s := S4) so S1.size iso)).squeeze S_ squeezes_S1_S_).sem (a2.slice (Rect.unit (s := S38016x112) o1 S704x112.size io1) (fun _ => rfl)) ((a9.slice (Rect.unit (s := S4x704x112) o S1x704x112.size io) (fun _ => rfl)).squeeze S704x112 squeezes_S1x704x112_S704x112) h1 h2)) yes :=
  Ok.of_unit fun Q => wait_9 c V a3 a4 a5 hj ho hso

/-! ## The copies of a trip -/

/-- Which slots' copies run before trip `n`: the two blocks after block `n`, if there are such. -/
def fr (n : ℕ) (j : Fin 4) : Bool := decide (((n + 1) % 4 = j.val ∧ n + 1 < 54) ∨ ((n + 2) % 4 = j.val ∧ n + 2 < 54))

def jS (k : Fin k0_t2_loop.trips) : Fin 4 := ⟨(k.val + 3) % 4, Nat.mod_lt _ (by decide)⟩
def jW (k : Fin k0_t2_loop.trips) : Fin 4 := ⟨(k.val + 1) % 4, Nat.mod_lt _ (by decide)⟩

/-- After the copies a trip starts. -/
def gr (k : Fin k0_t2_loop.trips) : Fin 4 → Bool := if k0_cond1 k = 1#1 then Function.update (fr k.val) (jS k) true else fr k.val

theorem fr_jS (k : Fin k0_t2_loop.trips) : fr k.val (jS k) = false := by revert k; decide
theorem gr_jW (k : Fin k0_t2_loop.trips) : k0_cond2 k = 1#1 → gr k (jW k) = true := by revert k; decide
theorem gr_next (k : Fin k0_t2_loop.trips) : (if k0_cond2 k = 1#1 then Function.update (gr k) (jW k) false else gr k) = fr (k.val + 1) := by
  funext j; revert j k; decide
theorem fr_now (k : Fin k0_t2_loop.trips) : fr (k.val + 1) (slotNow k) = false := by revert k; decide
theorem fr_slotNext (k : Fin k0_t2_loop.trips) : fr (k.val + 1) (slotNext k) = false := by revert k; decide

theorem off8 (k : Fin k0_t2_loop.trips) : k0_off8 k = ![(jS k).val] := by revert k; decide
theorem off9 (k : Fin k0_t2_loop.trips) : k0_off9 k = ![(jS k).val, 0, 0] := by revert k; decide
theorem off11 (k : Fin k0_t2_loop.trips) : k0_off11 k = ![(jS k).val, 0, 0] := by revert k; decide
theorem off13 (k : Fin k0_t2_loop.trips) : k0_off13 k = ![(jW k).val] := by revert k; decide
theorem off14 (k : Fin k0_t2_loop.trips) : k0_off14 k = ![(jW k).val, 0, 0] := by revert k; decide
theorem off16 (k : Fin k0_t2_loop.trips) : k0_off16 k = ![(jW k).val, 0, 0] := by revert k; decide

theorem startOp_ok (h1 : a1.IsWhole) (h2 : a2.IsWhole) (h8 : a8.IsWhole) (h9 : a9.IsWhole) (k : Fin k0_t2_loop.trips) :
    Ok c V a3 a4 a5 (false, fr k.val, fr k.val) (false, gr k, gr k) (startOp a1 h1 a2 h2 a8 h8 a9 h9 cc0_scratch7 cc0_scratch8 k) yes := by
  unfold startOp gr
  by_cases h : k0_cond1 k = 1#1
  · rw [dif_pos h, if_pos h]
    refine Ok.bind (ok_start_8 (jS k) (fr_jS k) (off9 k) (off8 k)) fun _ _ => ?_
    refine Ok.bind (ok_start_9 (jS k) (fr_jS k) (off11 k) (off8 k)) fun _ _ => ?_
    exact Ok.ret trivial
  · rw [dif_neg h, if_neg h]
    exact Ok.ret trivial

theorem waitOp_ok (h1 : a1.IsWhole) (h2 : a2.IsWhole) (h8 : a8.IsWhole) (h9 : a9.IsWhole) (k : Fin k0_t2_loop.trips) :
    Ok c V a3 a4 a5 (false, gr k, gr k) (false, fr (k.val + 1), fr (k.val + 1)) (waitOp a1 h1 a2 h2 a8 h8 a9 h9 cc0_scratch7 cc0_scratch8 k) yes := by
  rw [← gr_next k]
  unfold waitOp
  by_cases h : k0_cond2 k = 1#1
  · rw [dif_pos h, if_pos h]
    refine Ok.bind (ok_wait_8 (jW k) (gr_jW k h) (off14 k) (off13 k)) fun _ _ => ?_
    refine Ok.bind (ok_wait_9 (jW k) (gr_jW k h) (off16 k) (off13 k)) fun _ _ => ?_
    exact Ok.ret trivial
  · rw [dif_neg h, if_neg h]
    exact Ok.ret trivial

/-! ## The buffers' operations of a trip -/

/-- No condition on the values. -/
def trivS (F : FTy → Type) [BitOps F] : Spec F where
  tile _ _ _ := True
  lhs _ _ _ _ _ := True
  sum _ _ _ _ _ := True
  old _ _ _ _ := True
  fold _ _ _ := True
  sum_one _ _ _ _ _ _ _ _ _ := trivial
  sum_succ _ _ _ _ _ _ _ _ _ _ _ _ _ _ := trivial
  fold_succ _ _ _ _ _ _ _ _ _ _ := trivial

theorem sub_codes (k : Fin 4) (b ch st : ℕ) :
    ((Rect.unit (s := S4x704x1792) ![k.val, 352 * (b % 2) + 32 * (st % 11), 256 * (ch % 7)] S1x32x256.size (inb_codes k b ch st)).toLoadRect).set ⊆ (R8 k).set := by
  intro i hi
  have h := (LoadRect.mem_set _).mp hi
  refine Rect.mem_set_unit.2 fun a => ?_
  obtain ⟨j, hj, e⟩ := h a
  match a with
  | 0 => change j < 1 at hj; change (i 0).val = k.val + 1 * j at e; change k.val ≤ (i 0).val ∧ (i 0).val < k.val + 1; omega
  | 1 => exact ⟨Nat.zero_le _, by have := (i 1).isLt; exact (Nat.zero_add _).symm ▸ this⟩
  | 2 => exact ⟨Nat.zero_le _, by have := (i 2).isLt; exact (Nat.zero_add _).symm ▸ this⟩

theorem sub_rows (k : Fin 4) (b : ℕ) :
    ((Rect.unit (s := S4x704x112) ![k.val, 352 * (b % 2), 0] S1x352x112.size (inb_rows k b)).toLoadRect).set ⊆ (R9 k).set := by
  intro i hi
  have h := (LoadRect.mem_set _).mp hi
  refine Rect.mem_set_unit.2 fun a => ?_
  obtain ⟨j, hj, e⟩ := h a
  match a with
  | 0 => change j < 1 at hj; change (i 0).val = k.val + 1 * j at e; change k.val ≤ (i 0).val ∧ (i 0).val < k.val + 1; omega
  | 1 => exact ⟨Nat.zero_le _, by have := (i 1).isLt; exact (Nat.zero_add _).symm ▸ this⟩
  | 2 => exact ⟨Nat.zero_le _, by have := (i 2).isLt; exact (Nat.zero_add _).symm ▸ this⟩

section
variable (c V a3 a4 a5) {R : Type} {s : Fin 4 → Bool}

theorem stage_ok (k : Fin k0_t2_loop.trips) (hn : s (slotNow k) = false) (hx : s (slotNext k) = false) (b : ℕ) (κ : Unit → PK F R) (Q : R → sProp 𝕄) :
    RS c V a3 a4 a5 false s s ⊢ iprop((RS c V a3 a4 a5 false s s -∗ Wk c (κ ()) Q) -∗ Wk c (stageOp a9 a10 k b κ) Q) := by
  unfold stageOp
  iintro HR Hk
  iapply (load_9 c V a3 a4 a5 (j := (match b with | 0 => slotNow k | _ => slotNext k)) (by split <;> assumption) (sub_rows _ _)) $$ HR
  iintro %v HR
  iapply (load_any c (RS_a10 c V a3 a4 a5 false s s)) $$ HR
  iintro %w HR
  iapply (store_any c (RS_a10 c V a3 a4 a5 false s s)) $$ HR
  iexact Hk

theorem expand_ok (v0 : IVec S176x128 32) (t h : ℕ) (κ : Unit → PK F R) (Q : R → sProp 𝕄) :
    RS c V a3 a4 a5 false s s ⊢ iprop((RS c V a3 a4 a5 false s s -∗ Wk c (κ ()) Q) -∗ Wk c (expandOp a10 a11 v0 t h κ) Q) := by
  unfold expandOp
  iintro HR Hk
  iapply (load_any c (RS_a10 c V a3 a4 a5 false s s)) $$ HR
  iintro %v HR
  iapply (load_any c (RS_a11 c V a3 a4 a5 false s s)) $$ HR
  iintro %w HR
  iapply (store_any c (RS_a11 c V a3 a4 a5 false s s)) $$ HR
  iexact Hk

theorem prep_ok (v0 : IVec S176x128 32) (k : Fin k0_t2_loop.trips) (hn : s (slotNow k) = false) (hx : s (slotNext k) = false)
    (b ch : ℕ) (κ : Unit → PK F R) (Q : R → sProp 𝕄) :
    RS c V a3 a4 a5 false s s ⊢ iprop((RS c V a3 a4 a5 false s s -∗ Wk c (κ ()) Q) -∗ Wk c ((opsK a7 a8 a9 a10 a11 v0 k).prep b ch κ) Q) := by
  have he : RS c V a3 a4 a5 false s s ⊢ iprop((RS c V a3 a4 a5 false s s -∗ Wk c (κ ()) Q) -∗
      Wk c (expandOp a10 a11 v0 ((b * 7 + ch + 1) % 14) 0 fun _ => expandOp a10 a11 v0 ((b * 7 + ch + 1) % 14) 1 κ) Q) := by
    iintro HR Hk
    iapply (expand_ok c V a3 a4 a5 v0 _ 0 _ Q) $$ HR
    iintro HR
    iapply (expand_ok c V a3 a4 a5 v0 _ 1 κ Q) $$ HR
    iexact Hk
  by_cases h3 : ch = 3
  · subst h3
    change RS c V a3 a4 a5 false s s ⊢ iprop((RS c V a3 a4 a5 false s s -∗ Wk c (κ ()) Q) -∗ Wk c (stageOp a9 a10 k b (fun _ => expandOp a10 a11 v0 ((b * 7 + 3 + 1) % 14) 0 fun _ => expandOp a10 a11 v0 ((b * 7 + 3 + 1) % 14) 1 κ)) Q)
    iintro HR Hk
    iapply (stage_ok c V a3 a4 a5 k hn hx b _ Q) $$ HR
    iintro HR
    iapply he $$ HR
    iexact Hk
  · have e : (opsK a7 a8 a9 a10 a11 v0 k).prep b ch κ = expandOp a10 a11 v0 ((b * 7 + ch + 1) % 14) 0 fun _ => expandOp a10 a11 v0 ((b * 7 + ch + 1) % 14) 1 κ := by
      unfold opsK
      dsimp only
      split
      · exact absurd rfl h3
      · rfl
    rw [e]
    exact he

/-- The buffers' operations of trip `k`, no copy writing the slots it reads. -/
def opsOk (v0 : IVec S176x128 32) (k : Fin k0_t2_loop.trips) (hn : s (slotNow k) = false) (hx : s (slotNext k) = false) (Q : R → sProp 𝕄) :
    OpsOk (trivS F) (opsK a7 a8 a9 a10 a11 v0 k) (fun p => Wk c p Q) (fun _ => RS c V a3 a4 a5 false s s) where
  sc _ _ _ _ := True
  co _ _ _ _ := True
  lhs _ _ _ _ _ _ _ _ _ _ := ⟨trivial, trivial⟩
  prep b ch κ _ _ := prep_ok c V a3 a4 a5 v0 k hn hx b ch κ Q
  wide b ch st κ _ _ _ := by
    unfold opsK
    dsimp only
    iintro HR Hk
    iapply (load_any c (RS_a11 c V a3 a4 a5 false s s)) $$ HR
    iintro %v HR
    ispecialize Hk $$ %(wideVal v)
    iapply Hk
    · ipureintro; trivial
    · iexact HR
  codes b ch st κ _ _ _ := by
    unfold opsK
    dsimp only
    iintro HR Hk
    iapply (load_8 c V a3 a4 a5 (j := slotNow k) hn (sub_codes _ _ _ _)) $$ HR
    iintro %v HR
    ispecialize Hk $$ %_
    iapply Hk
    · ipureintro; trivial
    · iexact HR
  tile n ch q κ _ _ := by
    unfold opsK
    dsimp only
    iintro HR Hk
    iapply (load_any c (RS_a7 c V a3 a4 a5 false s s)) $$ HR
    iintro %v HR
    ispecialize Hk $$ %(tileVal v)
    iapply Hk
    · ipureintro; trivial
    · iexact HR
  assume P d κ h := wp_assume (defs := defs₀ (F := F)) (Q := Q) (k := κ) Variants.none (c : Thread nD τ) none Set.univ h

end

end

end Cert.Proof.Kernel
-- ==== Proof.BodyK.lean ====
/-
  The kernel's body: it keeps the ring, and ends with no copy running and the matrix unit drained.
-/
module

public import proofs.«01_k».proof.Proof.TripOkK
public import proofs.«01_k».proof.Proof.Gen.Kernel.Skeleton

@[expose] public section

noncomputable section

namespace Cert.Proof.Kernel

open Cert.Kernel Cert.Kernel.Gen Cert.Proof Cert.Proof.Trip
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

section
variable {c : Dev nD} {V : (b : Ref sig .tc) → Buf (Elt F) ((c : Thread nD τ).loc b)}
variable {a3 : Memref sig .tc .vmem S1x256 .i32} {a4 a5 : Memref sig .tc .vmem S1x256 .f32}
variable (h0 : a0.IsWhole) (h1 : a1.IsWhole) (h2 : a2.IsWhole) (h3 : a3.IsWhole) (h4 : a4.IsWhole) (h5 : a5.IsWhole)
  (h6 : a6.IsWhole) (h7 : a7.IsWhole) (h8 : a8.IsWhole) (h9 : a9.IsWhole) (h10 : a10.IsWhole) (h11 : a11.IsWhole)

theorem ok_load_6 {s8 s9 : Fin 4 → Bool} {r : LoadRect S256x3584} {hl : a6.view.LoadsAt r} : Ok c V a3 a4 a5 (false, s8, s9) (false, s8, s9) (Prog.lift (.load a6 r hl)) yes :=
  Ok.of_op (s' := (false, s8, s9)) fun _ => load_6 c V a3 a4 a5

theorem ok_load_9 {s8 s9 : Fin 4 → Bool} (j : Fin 4) (hj : s9 j = false) {r : LoadRect S4x704x112} (hr : r.set ⊆ (R9 j).set) {hl : a9.view.LoadsAt r} :
    Ok c V a3 a4 a5 (false, s8, s9) (false, s8, s9) (Prog.lift (.load a9 r hl)) yes :=
  Ok.of_op (s' := (false, s8, s9)) fun _ => load_9 c V a3 a4 a5 hj hr

theorem ok_start_x {s8 s9 : Fin 4 → Bool} {h1 : _} {h2 : _} {h3 : _} :
    Ok c V a3 a4 a5 (false, s8, s9) (true, s8, s9) (Prog.lift (.enqueueDma a0 (.here a6) (.dma cc0_scratch6.sem) h1 h2 h3)) yes :=
  Ok.of_unit (s' := (true, s8, s9)) fun _ => start_x c V a3 a4 a5

theorem ok_wait_x {s8 s9 : Fin 4 → Bool} {h1 : _} {h2 : _} :
    Ok c V a3 a4 a5 (true, s8, s9) (false, s8, s9) (Prog.lift (.waitDma2 cc0_scratch6.sem a0 a6 h1 h2)) yes :=
  Ok.of_unit (s' := (false, s8, s9)) fun _ => wait_x c V a3 a4 a5

section
variable {s8 s9 : Fin 4 → Bool}

theorem part1_ok (v79_r0 : IVec S128x128 32) (c0_i32_37_r0 : BitVec 32) (c1_i32_38_r0 : BitVec 32) (k0_t1 : Fin k0_t1_loop.trips) :
    Ok c V a3 a4 a5 (false, s8, s9) (false, s8, s9) (k0_part1 a0 h0 a1 h1 a2 h2 a3 h3 a4 h4 a5 h5 a6 h6 a7 h7 a8 h8 a9 h9 a10 h10 a11 h11 cc0_scratch6 cc0_scratch7 cc0_scratch8 v79_r0 c0_i32_37_r0 c1_i32_38_r0 k0_t1) yes := by
  rw [k0_part1_eq_skeleton]
  unfold k0_part1_skel
  refine Ok.bind (ok_load_6) fun _ _ => ?_
  refine Ok.bind (ok_load_6) fun _ _ => ?_
  exact Ok.ret trivial

theorem part2_ok (v79_r0 : IVec S128x128 32) (v81_r0 : IVec S128x128 1) (k0_t1 : Fin k0_t1_loop.trips) (arg15_r0 : BitVec 32) (v593_r0 : IVec S128x128 32) (v599_r0 : IVec S128x128 32) (v622_r0 : IVec S128x128 32) (v626_r0 : IVec S128x128 32) (v627_r0 : FVec F S128x128 .f32) (v629_r0 : IVec S128x128 1) :
    Ok c V a3 a4 a5 (false, s8, s9) (false, s8, s9) (k0_part2 a0 h0 a1 h1 a2 h2 a3 h3 a4 h4 a5 h5 a6 h6 a7 h7 a8 h8 a9 h9 a10 h10 a11 h11 cc0_scratch6 cc0_scratch7 cc0_scratch8 v79_r0 v81_r0 k0_t1 arg15_r0 v593_r0 v599_r0 v622_r0 v626_r0 v627_r0 v629_r0) yes := by
  rw [k0_part2_eq_skeleton]
  unfold k0_part2_skel
  refine Ok.bind (ok_load (RS_a7 c V a3 a4 a5 _ _ _)) fun _ _ => ?_
  refine Ok.bind (ok_store (RS_a7 c V a3 a4 a5 _ _ _)) fun _ _ => ?_
  exact Ok.ret trivial

theorem part3_ok (v81_r0 : IVec S128x128 1) (k0_t1 : Fin k0_t1_loop.trips) (arg15_r0 : BitVec 32) (v597_r0 : IVec S128x128 32) (v654_r0 : IVec S128x128 32) (v667_r0 : FVec F S128x128 .f32) (v668_r0 : FVec F S128x128 .f32) (v674_r0 : IVec S128x128x1 32) :
    Ok c V a3 a4 a5 (false, s8, s9) (false, s8, s9) (k0_part3 a0 h0 a1 h1 a2 h2 a3 h3 a4 h4 a5 h5 a6 h6 a7 h7 a8 h8 a9 h9 a10 h10 a11 h11 cc0_scratch6 cc0_scratch7 cc0_scratch8 v81_r0 k0_t1 arg15_r0 v597_r0 v654_r0 v667_r0 v668_r0 v674_r0) yes := by
  rw [k0_part3_eq_skeleton]
  unfold k0_part3_skel
  refine Ok.bind (ok_load (RS_a7 c V a3 a4 a5 _ _ _)) fun _ _ => ?_
  refine Ok.bind (ok_store (RS_a7 c V a3 a4 a5 _ _ _)) fun _ _ => ?_
  refine Ok.bind (ok_load_6) fun _ _ => ?_
  refine Ok.bind (ok_load_6) fun _ _ => ?_
  exact Ok.ret trivial

theorem part4_ok (v79_r0 : IVec S128x128 32) (v714_r0 : IVec S128x128 32) (v717_r0 : Vec F S256x128 .bf16) :
    Ok c V a3 a4 a5 (false, s8, s9) (false, s8, s9) (k0_part4 a0 h0 a1 h1 a2 h2 a3 h3 a4 h4 a5 h5 a6 h6 a7 h7 a8 h8 a9 h9 a10 h10 a11 h11 cc0_scratch6 cc0_scratch7 cc0_scratch8 v79_r0 v714_r0 v717_r0) yes := by
  rw [k0_part4_eq_skeleton]
  unfold k0_part4_skel
  exact Ok.ret trivial

theorem part5_ok (v79_r0 : IVec S128x128 32) (v81_r0 : IVec S128x128 1) (k0_t1 : Fin k0_t1_loop.trips) (arg15_r0 : BitVec 32) (v714_r0 : IVec S128x128 32) (v718_r0 : IVec S128x128 32) (v743_r0 : IVec S128x128 32) (v756_r0 : FVec F S128x128 .f32) (v757_r0 : FVec F S128x128 .f32) (v764_r0 : IVec S128x128 32) :
    Ok c V a3 a4 a5 (false, s8, s9) (false, s8, s9) (k0_part5 a0 h0 a1 h1 a2 h2 a3 h3 a4 h4 a5 h5 a6 h6 a7 h7 a8 h8 a9 h9 a10 h10 a11 h11 cc0_scratch6 cc0_scratch7 cc0_scratch8 v79_r0 v81_r0 k0_t1 arg15_r0 v714_r0 v718_r0 v743_r0 v756_r0 v757_r0 v764_r0) yes := by
  rw [k0_part5_eq_skeleton]
  unfold k0_part5_skel
  refine Ok.bind (ok_load (RS_a7 c V a3 a4 a5 _ _ _)) fun _ _ => ?_
  refine Ok.bind (ok_store (RS_a7 c V a3 a4 a5 _ _ _)) fun _ _ => ?_
  exact Ok.ret trivial

/-- A trip of the loop that lays out the left operand. -/
theorem t1_ok (k0_mxu1 : Mxu F) (v34_r0 : IVec S128x128 32) (v60_r0 : IVec S128x128 32) (v62_r0 : BitVec 32) (v64_r0 : IVec S128x128 32) (v66_r0 : IVec S128x128 1) (v67_r0 : IVec S128x128 32) (k : Fin k0_t1_loop.trips) (u : Unit) :
    Ok c V a3 a4 a5 (false, s8, s9) (false, s8, s9) (k0_t1_body a0 h0 a1 h1 a2 h2 a3 h3 a4 h4 a5 h5 a6 h6 a7 h7 a8 h8 a9 h9 a10 h10 a11 h11 cc0_scratch6 cc0_scratch7 cc0_scratch8 k0_mxu1 v34_r0 v60_r0 v62_r0 v64_r0 v66_r0 v67_r0 k u) yes := by
  unfold k0_t1_body
  refine Ok.bind (part1_ok h0 h1 h2 h3 h4 h5 h6 h7 h8 h9 h10 h11 _ _ _ _) fun r _ => ?_
  obtain ⟨_, _, _, _, _, _, _, _⟩ := r
  refine Ok.bind (part2_ok h0 h1 h2 h3 h4 h5 h6 h7 h8 h9 h10 h11 _ _ _ _ _ _ _ _ _ _) fun r _ => ?_
  obtain ⟨_, _, _, _⟩ := r
  refine Ok.bind (part3_ok h0 h1 h2 h3 h4 h5 h6 h7 h8 h9 h10 h11 _ _ _ _ _ _ _ _) fun r _ => ?_
  obtain ⟨_, _⟩ := r
  refine Ok.bind (part4_ok h0 h1 h2 h3 h4 h5 h6 h7 h8 h9 h10 h11 _ _ _) fun r _ => ?_
  obtain ⟨_, _, _, _, _⟩ := r
  refine Ok.bind (part5_ok h0 h1 h2 h3 h4 h5 h6 h7 h8 h9 h10 h11 _ _ _ _ _ _ _ _ _ _) fun r _ => ?_
  obtain ⟨_, _, _, _, _⟩ := r
  refine Ok.bind (ok_load (RS_a7 c V a3 a4 a5 _ _ _)) fun _ _ => ?_
  refine Ok.bind (ok_store (RS_a7 c V a3 a4 a5 _ _ _)) fun _ _ => ?_
  exact Ok.ret trivial

end

/-! ## The copies before the loops -/

/-- No copy runs. -/
def f0 : Fin 4 → Bool := fun _ => false
def f2 : Fin 4 → Bool := Function.update (Function.update f0 0 true) 1 true
def f3 : Fin 4 → Bool := Function.update f2 2 true

theorem f3_wait : Function.update f3 0 false = fr 0 := by funext j; revert j; decide
theorem fr_end : fr 54 = f0 := by funext j; revert j; decide

theorem part151_ok  :
    Ok c V a3 a4 a5 (false, f0, f0) (true, f2, f2) (k0_part151 a0 h0 a1 h1 a2 h2 a3 h3 a4 h4 a5 h5 a6 h6 a7 h7 a8 h8 a9 h9 a10 h10 a11 h11 cc0_scratch6 cc0_scratch7 cc0_scratch8 ) (fun r => r.1 = Mxu.init) := by
  rw [k0_part151_eq_skeleton]
  unfold k0_part151_skel
  refine Ok.bind ok_start_x fun _ _ => ?_
  refine Ok.bind (ok_start_8 0 rfl (by decide) (by decide)) fun _ _ => ?_
  refine Ok.bind (ok_start_9 0 rfl (by decide) (by decide)) fun _ _ => ?_
  refine Ok.bind (ok_start_8 1 rfl (by decide) (by decide)) fun _ _ => ?_
  refine Ok.bind (ok_start_9 1 rfl (by decide) (by decide)) fun _ _ => ?_
  exact Ok.ret rfl

theorem part152_ok  :
    Ok c V a3 a4 a5 (true, f2, f2) (false, f3, f3) (k0_part152 a0 h0 a1 h1 a2 h2 a3 h3 a4 h4 a5 h5 a6 h6 a7 h7 a8 h8 a9 h9 a10 h10 a11 h11 cc0_scratch6 cc0_scratch7 cc0_scratch8 ) yes := by
  rw [k0_part152_eq_skeleton]
  unfold k0_part152_skel
  refine Ok.bind (ok_start_8 2 rfl (by decide) (by decide)) fun _ _ => ?_
  refine Ok.bind (ok_start_9 2 rfl (by decide) (by decide)) fun _ _ => ?_
  refine Ok.bind ok_wait_x fun _ _ => ?_
  exact Ok.ret trivial

/-- A matrix unit whose tiles are staged and none of whose rows are live. -/
def Staged (m : Mxu F) : Prop :=
  (∀ q, m.reg q 1 = none) ∧ (∀ q, ∃ t, m.reg q 0 = some ⟨.bf16, true, t⟩) ∧ ∀ q R, m.live q R = false

theorem init_staged (t t' : FVec F (Mxu.STile 256) .bf16) : Staged (((Mxu.init : Mxu F).pushed 0 0 true t).pushed 1 0 true t') := by
  refine ⟨fun q => ?_, fun q => ?_, fun q R => rfl⟩
  · fin_cases q <;> rfl
  · fin_cases q <;> exact ⟨_, rfl⟩

theorem Staged.both {m : Mxu F} (h : Staged m) (s : St F) : Both (trivS F) (m, s) 0 0 0 0 where
  u q := ⟨h.1 q, fun _ => let ⟨t, e⟩ := h.2.1 q; ⟨t, e, trivial⟩, fun h => absurd h (by decide), fun _ _ _ R _ _ => h.2.2 q R,
    fun _ _ h => absurd h (by simp), fun _ _ h => absurd h (by simp), fun _ h => absurd h (by simp), fun _ _ _ => trivial, fun R _ => h.2.2 q R⟩
  f := trivial

theorem part153_ok (k0_mxu1 : Mxu F) (v34_r0 : IVec S128x128 32) (v60_r0 : IVec S128x128 32) (v62_r0 : BitVec 32) (v64_r0 : IVec S128x128 32) (v66_r0 : IVec S128x128 1) (v67_r0 : IVec S128x128 32) (hm : k0_mxu1 = Mxu.init) :
    Ok c V a3 a4 a5 (false, f3, f3) (false, fr 0, f3) (k0_part153 a0 h0 a1 h1 a2 h2 a3 h3 a4 h4 a5 h5 a6 h6 a7 h7 a8 h8 a9 h9 a10 h10 a11 h11 cc0_scratch6 cc0_scratch7 cc0_scratch8 k0_mxu1 v34_r0 v60_r0 v62_r0 v64_r0 v66_r0 v67_r0) Staged := by
  rw [k0_part153_eq_skeleton]
  unfold k0_part153_skel
  refine Ok.bind (Ok.for _ _ _ _ _ _ (fun _ => (false, f3, f3)) (fun _ _ => True) trivial fun k u _ => t1_ok h0 h1 h2 h3 h4 h5 h6 h7 h8 h9 h10 h11 _ _ _ _ _ _ _ k u) fun _ _ => ?_
  refine Ok.bind (ok_load (RS_a7 c V a3 a4 a5 _ _ _)) fun _ _ => ?_
  refine Ok.bind (Ok.pushRhs (Mxu.pushOk_of_none _ _ _ _ (by rw [hm]; rfl))) fun m1 e1 => ?_
  refine Ok.bind (ok_load (RS_a7 c V a3 a4 a5 _ _ _)) fun _ _ => ?_
  refine Ok.bind (Ok.pushRhs (Mxu.pushOk_of_none _ _ _ _ (by rw [e1, hm]; rfl))) fun m2 e2 => ?_
  rw [← f3_wait]
  refine Ok.bind (ok_wait_8 0 rfl (by decide) (by decide)) fun _ _ => ?_
  refine Ok.ret ?_
  rw [e2, e1, hm]
  exact init_staged _ _

theorem part154_ok (v0 : IVec S176x128 32) :
    Ok c V a3 a4 a5 (false, fr 0, f3) (false, fr 0, fr 0) (k0_part154 a0 h0 a1 h1 a2 h2 a3 h3 a4 h4 a5 h5 a6 h6 a7 h7 a8 h8 a9 h9 a10 h10 a11 h11 cc0_scratch6 cc0_scratch7 cc0_scratch8 v0) yes := by
  rw [k0_part154_eq_skeleton]
  unfold k0_part154_skel
  rw [← f3_wait]
  refine Ok.bind (ok_wait_9 0 rfl (by decide) (by decide)) fun _ _ => ?_
  refine Ok.bind (ok_load_9 0 rfl (sub_rows 0 0)) fun _ _ => ?_
  refine Ok.bind (ok_load (RS_a10 c V a3 a4 a5 _ _ _)) fun _ _ => ?_
  refine Ok.bind (ok_store (RS_a10 c V a3 a4 a5 _ _ _)) fun _ _ => ?_
  refine Ok.bind (ok_load (RS_a10 c V a3 a4 a5 _ _ _)) fun _ _ => ?_
  exact Ok.ret trivial

theorem part155_ok (v0 : IVec S176x128 32) (v132_r0 : IVec S176x128 32) (v134_r0 : IVec S176x128 32) (v136_r0 : IVec S176x128 32) (c_m65536_i32_r0 : BitVec 32) :
    Ok c V a3 a4 a5 (false, fr 0, fr 0) (false, fr 0, fr 0) (k0_part155 a0 h0 a1 h1 a2 h2 a3 h3 a4 h4 a5 h5 a6 h6 a7 h7 a8 h8 a9 h9 a10 h10 a11 h11 cc0_scratch6 cc0_scratch7 cc0_scratch8 v0 v132_r0 v134_r0 v136_r0 c_m65536_i32_r0) yes := by
  rw [k0_part155_eq_skeleton]
  unfold k0_part155_skel
  refine Ok.bind (ok_load (RS_a11 c V a3 a4 a5 _ _ _)) fun _ _ => ?_
  refine Ok.bind (ok_store (RS_a11 c V a3 a4 a5 _ _ _)) fun _ _ => ?_
  exact Ok.ret trivial

/-! ## The loop -/

/-- A trip of the main loop. -/
theorem t2_ok (v0 : IVec S176x128 32) (k0_mxu3 : Mxu F) (v162_r0 : IVec S176x128 32) (v181_r0 : IVec S176x128 1) (c1_i32_87_r0 : BitVec 32) (k : Fin k0_t2_loop.trips)
    (acc : FVec F A8 .f32 × FVec F A8 .f32 × IVec A8 32 × Mxu F) (h : Both (trivS F) (acc.2.2.2, (acc.1, acc.2.1, acc.2.2.1)) 0 0 0 0) :
    Ok c V a3 a4 a5 (false, fr k.val, fr k.val) (false, fr (k.val + 1), fr (k.val + 1)) (k0_t2_body a0 h0 a1 h1 a2 h2 a3 h3 a4 h4 a5 h5 a6 h6 a7 h7 a8 h8 a9 h9 a10 h10 a11 h11 cc0_scratch6 cc0_scratch7 cc0_scratch8 v0 k0_mxu3 v162_r0 v181_r0 c1_i32_87_r0 k acc)
      (fun r => Both (trivS F) (r.2.2.2, (r.1, r.2.1, r.2.2.1)) 0 0 0 0) := by
  obtain ⟨top, sec, ix, m⟩ := acc
  rw [body_eq]
  refine Ok.bind (Ok.bind (startOp_ok h1 h2 h8 h9 k) fun _ _ => waitOp_ok h1 h2 h8 h9 k) fun _ _ => ?_
  intro Q
  iintro HR Hk
  iapply (trip_ok (opsOk c V a3 a4 a5 v0 k (fr_now k) (fr_slotNext k) Q) _ (ms := (m, (top, sec, ix))) ⟨h.u, trivial⟩ (fun _ _ _ _ _ => trivial) (fun _ _ => trivial) _) $$ HR
  iintro %ms %hb HR
  iapply (wk_ret c Q _)
  ispecialize Hk $$ %(ms.2.1, ms.2.2.1, ms.2.2.2, ms.1)
  iapply Hk
  · ipureintro; exact hb.turn _ (by decide) (fun _ _ _ => trivial) (fun _ _ _ _ _ => trivial) trivial
  · iexact HR

/-- No tile staged, and the live rows are those of the second block from step `n` on. -/
def Dr (n : ℕ) (m : Mxu F) : Prop :=
  (∀ q r, m.reg q r = none) ∧ ∀ q (R : Fin 1024), m.live q R = true → 352 + 32 * n ≤ R.val ∧ R.val < 704

theorem Dr.pops {n : ℕ} {m : Mxu F} (h : Dr n m) {a : ℕ} (ha : a = 88 + 8 * n) (f f' : Mxu.Fits a 32) :
    Dr (n + 1) ((m.pop 0 a 32 f).pop 1 a 32 f') := by
  subst ha
  refine ⟨h.1, fun q R hl => ?_⟩
  rw [Mxu.live_pop, Mxu.live_pop] at hl
  split at hl
  · cases hl
  split at hl
  · cases hl
  next h1 h0 =>
  have h' := h.2 q R hl
  refine ⟨?_, h'.2⟩
  by_contra hc
  have hr : 4 * (88 + 8 * n) ≤ R.val ∧ R.val < 4 * (88 + 8 * n) + 32 := by omega
  match q with
  | 0 => exact h0 ⟨rfl, hr⟩
  | 1 => exact h1 ⟨rfl, hr⟩

theorem Dr.drained {m : Mxu F} (h : Dr 11 m) : m.Drained := by
  refine ⟨fun q r => by rw [h.1 q r]; rfl, fun q R => ?_⟩
  by_contra hc
  have := h.2 q R (by simpa using hc)
  omega

/-- The last products and their pops. -/
theorem last_ok {m : Mxu F} {s : St F} (h : Both (trivS F) (m, s) 0 0 0 0) (v v' : FVec F (Mxu.STile 32) .bf16) (f f' f'' f4 : Mxu.Fits 0 32) :
    Dr 0 ((((m.accLhs 0 0 0 v f).pop 0 0 32 f').accLhs 1 0 0 v' f'').pop 1 0 32 f4) := by
  have hlow : ∀ q (R : Fin 1024), R.val < 352 → m.live q R = false := fun q R hR =>
    (h.u q).dead (R.val / 32) (by omega) (by simp) R (by unfold addr; omega) (by unfold addr; omega)
  refine ⟨fun q r => ?_, fun q R hl => ?_⟩
  · rw [Mxu.reg_pop]
    by_cases h1 : q = 1 ∧ r = 0
    · rw [h1.1, h1.2, Mxu.reg_accLhs]
    rw [Mxu.reg_accLhs_ne (hne := h1), Mxu.reg_pop]
    by_cases h0 : q = 0 ∧ r = 0
    · rw [h0.1, h0.2, Mxu.reg_accLhs]
    rw [Mxu.reg_accLhs_ne (hne := h0)]
    have hr : r = 1 := by
      match q, r with
      | _, 1 => rfl
      | 0, 0 => exact absurd ⟨rfl, rfl⟩ h0
      | 1, 0 => exact absurd ⟨rfl, rfl⟩ h1
    rw [hr]
    exact (h.u q).spare
  · rw [Mxu.live_pop, Mxu.live_accLhs, Mxu.live_pop, Mxu.live_accLhs] at hl
    have hm : m.live q R = true := by
      split at hl
      · cases hl
      split at hl
      · cases hl
      exact hl
    constructor
    · by_contra hc
      rw [hlow q R (by omega)] at hm
      cases hm
    · by_contra hc
      rw [(h.u q).rest R (by omega)] at hm
      cases hm

theorem part156_ok (v0 : IVec S176x128 32) (k0_mxu3 : Mxu F) (v162_r0 : IVec S176x128 32) (v181_r0 : IVec S176x128 1) (c1_i32_87_r0 : BitVec 32) (hm : Staged k0_mxu3) :
    Ok c V a3 a4 a5 (false, fr 0, fr 0) (false, f0, f0) (k0_part156 a0 h0 a1 h1 a2 h2 a3 h3 a4 h4 a5 h5 a6 h6 a7 h7 a8 h8 a9 h9 a10 h10 a11 h11 cc0_scratch6 cc0_scratch7 cc0_scratch8 v0 k0_mxu3 v162_r0 v181_r0 c1_i32_87_r0) (fun r => ∃ m s, Both (trivS F) (m, s) 0 0 0 0 ∧ r.2.2.2 = m.accLhs 0 0 0 (k0_pay1167 (F := F)) fits_0_32) := by
  rw [k0_part156_eq_skeleton]
  unfold k0_part156_skel
  refine Ok.bind (ok_load (RS_a10 c V a3 a4 a5 _ _ _)) fun _ _ => ?_
  refine Ok.bind (ok_load (RS_a11 c V a3 a4 a5 _ _ _)) fun _ _ => ?_
  refine Ok.bind (ok_store (RS_a11 c V a3 a4 a5 _ _ _)) fun _ _ => ?_
  have hl := Ok.for (c := c) (V := V) (a3 := a3) (a4 := a4) (a5 := a5) _ _ _ k0_t2_ok (k0_pay1162 (F := F), k0_pay1162 (F := F), k0_pay1163, k0_mxu3)
    (k0_t2_body a0 h0 a1 h1 a2 h2 a3 h3 a4 h4 a5 h5 a6 h6 a7 h7 a8 h8 a9 h9 a10 h10 a11 h11 cc0_scratch6 cc0_scratch7 cc0_scratch8 v0 k0_mxu3 v162_r0 v181_r0 c1_i32_87_r0) (fun n => (false, fr n, fr n))
    (fun _ acc => Both (trivS F) (acc.2.2.2, (acc.1, acc.2.1, acc.2.2.1)) 0 0 0 0) (hm.both _) fun k acc h => t2_ok h0 h1 h2 h3 h4 h5 h6 h7 h8 h9 h10 h11 _ _ _ _ _ k acc h
  rw [← fr_end]
  refine Ok.bind hl fun r hr => ?_
  obtain ⟨_, _, _, m⟩ := r
  refine Ok.ret ?_
  exact ⟨_, _, hr, rfl⟩

theorem part157_ok (v218_0_r0 : FVec F S8x256 .f32) (v218_1_r0 : FVec F S8x256 .f32) (v218_2_r0 : IVec S8x256 32) (k0_mxu386 : Mxu F) (h : ∃ m s, Both (trivS F) (m, s) 0 0 0 0 ∧ k0_mxu386 = m.accLhs 0 0 0 (k0_pay1167 (F := F)) fits_0_32) :
    Ok c V a3 a4 a5 (false, f0, f0) (false, f0, f0) (k0_part157 a0 h0 a1 h1 a2 h2 a3 h3 a4 h4 a5 h5 a6 h6 a7 h7 a8 h8 a9 h9 a10 h10 a11 h11 cc0_scratch6 cc0_scratch7 cc0_scratch8 v218_0_r0 v218_1_r0 v218_2_r0 k0_mxu386) (fun r => Dr 2 r.1) := by
  rw [k0_part157_eq_skeleton]
  unfold k0_part157_skel
  obtain ⟨m, s, hb, e⟩ := h
  refine Ok.ret ?_
  dsimp only
  rw [e]
  exact ((last_ok hb _ _ fits_0_32 fits_0_32 fits_0_32 fits_0_32).pops rfl fits_88_32 fits_88_32).pops rfl fits_96_32 fits_96_32

theorem part158_ok (k0_mxu393 : Mxu F) (v256_r0 : FVec F S32x256 .f32) (v262_r0 : IVec S8x256 32) (v263_r0 : FVec F S8x256 .f32) (v264_r0 : FVec F S8x256 .f32) (v266_r0 : FVec F S8x256 .f32) (h : Dr 2 k0_mxu393) :
    Ok c V a3 a4 a5 (false, f0, f0) (false, f0, f0) (k0_part158 a0 h0 a1 h1 a2 h2 a3 h3 a4 h4 a5 h5 a6 h6 a7 h7 a8 h8 a9 h9 a10 h10 a11 h11 cc0_scratch6 cc0_scratch7 cc0_scratch8 k0_mxu393 v256_r0 v262_r0 v263_r0 v264_r0 v266_r0) (fun r => ∃ m f, Dr 3 m ∧ r.2.2.2.2 = m.pop 0 112 32 f) := by
  rw [k0_part158_eq_skeleton]
  unfold k0_part158_skel
  refine Ok.ret ?_
  exact ⟨_, fits_112_32, h.pops rfl fits_104_32 fits_104_32, rfl⟩

theorem part159_ok (v311_r0 : FVec F S8x256 .f32) (v314_r0 : IVec S8x256 32) (v315_r0 : FVec F S8x256 .f32) (v316_r0 : FVec F S32x256 .f32) (k0_mxu396 : Mxu F) (h : ∃ m f, Dr 3 m ∧ k0_mxu396 = m.pop 0 112 32 f) :
    Ok c V a3 a4 a5 (false, f0, f0) (false, f0, f0) (k0_part159 a0 h0 a1 h1 a2 h2 a3 h3 a4 h4 a5 h5 a6 h6 a7 h7 a8 h8 a9 h9 a10 h10 a11 h11 cc0_scratch6 cc0_scratch7 cc0_scratch8 v311_r0 v314_r0 v315_r0 v316_r0 k0_mxu396) (fun r => Dr 5 r.1) := by
  rw [k0_part159_eq_skeleton]
  unfold k0_part159_skel
  obtain ⟨m, f, hd, e⟩ := h
  refine Ok.ret ?_
  dsimp only
  rw [e]
  exact (hd.pops rfl f fits_112_32).pops rfl fits_120_32 fits_120_32

theorem part160_ok (k0_mxu399 : Mxu F) (v349_r0 : FVec F S32x256 .f32) (v362_r0 : IVec S8x256 32) (v363_r0 : FVec F S8x256 .f32) (v364_r0 : FVec F S8x256 .f32) (v366_r0 : FVec F S8x256 .f32) (v367_r0 : IVec S8x256 1) (h : Dr 5 k0_mxu399) :
    Ok c V a3 a4 a5 (false, f0, f0) (false, f0, f0) (k0_part160 a0 h0 a1 h1 a2 h2 a3 h3 a4 h4 a5 h5 a6 h6 a7 h7 a8 h8 a9 h9 a10 h10 a11 h11 cc0_scratch6 cc0_scratch7 cc0_scratch8 k0_mxu399 v349_r0 v362_r0 v363_r0 v364_r0 v366_r0 v367_r0) (fun r => Dr 7 r.2.2.1) := by
  rw [k0_part160_eq_skeleton]
  unfold k0_part160_skel
  refine Ok.ret ?_
  exact ((h.pops rfl fits_128_32 fits_128_32).pops rfl fits_136_32 fits_136_32)

theorem part161_ok (v407_r0 : IVec S8x256 32) (v408_r0 : FVec F S8x256 .f32) (k0_mxu403 : Mxu F) (v411_r0 : FVec F S32x256 .f32) (v412_r0 : FVec F S8x256 .f32) (v414_r0 : FVec F S8x256 .f32) (v415_r0 : IVec S8x256 1) (v416_r0 : IVec S8x256 32) (h : Dr 7 k0_mxu403) :
    Ok c V a3 a4 a5 (false, f0, f0) (false, f0, f0) (k0_part161 a0 h0 a1 h1 a2 h2 a3 h3 a4 h4 a5 h5 a6 h6 a7 h7 a8 h8 a9 h9 a10 h10 a11 h11 cc0_scratch6 cc0_scratch7 cc0_scratch8 v407_r0 v408_r0 k0_mxu403 v411_r0 v412_r0 v414_r0 v415_r0 v416_r0) (fun r => Dr 8 r.1) := by
  rw [k0_part161_eq_skeleton]
  unfold k0_part161_skel
  refine Ok.ret ?_
  exact (h.pops rfl fits_144_32 fits_144_32)

theorem part162_ok (k0_mxu405 : Mxu F) (v462_r0 : IVec S8x256 32) (v463_r0 : FVec F S8x256 .f32) (v464_r0 : FVec F S8x256 .f32) (v466_r0 : FVec F S8x256 .f32) (v467_r0 : IVec S8x256 1) (c119_i32_r0 : BitVec 32) (h : Dr 8 k0_mxu405) :
    Ok c V a3 a4 a5 (false, f0, f0) (false, f0, f0) (k0_part162 a0 h0 a1 h1 a2 h2 a3 h3 a4 h4 a5 h5 a6 h6 a7 h7 a8 h8 a9 h9 a10 h10 a11 h11 cc0_scratch6 cc0_scratch7 cc0_scratch8 k0_mxu405 v462_r0 v463_r0 v464_r0 v466_r0 v467_r0 c119_i32_r0) (fun r => Dr 10 r.1) := by
  rw [k0_part162_eq_skeleton]
  unfold k0_part162_skel
  refine Ok.ret ?_
  exact ((h.pops rfl fits_152_32 fits_152_32).pops rfl fits_160_32 fits_160_32)

theorem part163_ok (k0_mxu409 : Mxu F) (v504_r0 : FVec F S32x256 .f32) (v511_r0 : FVec F S8x256 .f32) (v512_r0 : FVec F S8x256 .f32) (v514_r0 : FVec F S8x256 .f32) (v517_r0 : IVec S8x256 32) (h : Dr 10 k0_mxu409) :
    Ok c V a3 a4 a5 (false, f0, f0) (false, f0, f0) (k0_part163 a0 h0 a1 h1 a2 h2 a3 h3 a4 h4 a5 h5 a6 h6 a7 h7 a8 h8 a9 h9 a10 h10 a11 h11 cc0_scratch6 cc0_scratch7 cc0_scratch8 k0_mxu409 v504_r0 v511_r0 v512_r0 v514_r0 v517_r0) (fun r => Dr 11 r.1) := by
  rw [k0_part163_eq_skeleton]
  unfold k0_part163_skel
  refine Ok.ret ?_
  exact (h.pops rfl fits_168_32 fits_168_32)

/-! ## The body -/

/-- The kernel's body keeps the ring, no copy running at either end. -/
theorem head_ok : Ok c V a3 a4 a5 (false, f0, f0) (false, f0, f0) (cc0_q4_head a0 h0 a1 h1 a2 h2 a3 h3 a4 h4 a5 h5 a6 h6 a7 h7 a8 h8 a9 h9 a10 h10 a11 h11 cc0_scratch6 cc0_scratch7 cc0_scratch8) yes := by
  rw [cc0_q4_head_eq_skeleton]
  unfold cc0_q4_head_skel
  refine Ok.bind (part151_ok h0 h1 h2 h3 h4 h5 h6 h7 h8 h9 h10 h11 ) fun r hm => ?_
  obtain ⟨_, _⟩ := r
  refine Ok.bind (part152_ok h0 h1 h2 h3 h4 h5 h6 h7 h8 h9 h10 h11 ) fun r _ => ?_
  obtain ⟨_, _, _, _, _, _⟩ := r
  refine Ok.bind (part153_ok h0 h1 h2 h3 h4 h5 h6 h7 h8 h9 h10 h11 _ _ _ _ _ _ _ hm) fun r hs => ?_
  refine Ok.bind (part154_ok h0 h1 h2 h3 h4 h5 h6 h7 h8 h9 h10 h11 _) fun r _ => ?_
  obtain ⟨_, _, _, _⟩ := r
  refine Ok.bind (part155_ok h0 h1 h2 h3 h4 h5 h6 h7 h8 h9 h10 h11 _ _ _ _ _) fun r _ => ?_
  obtain ⟨_, _, _⟩ := r
  refine Ok.bind (part156_ok h0 h1 h2 h3 h4 h5 h6 h7 h8 h9 h10 h11 _ _ _ _ _ hs) fun r h => ?_
  obtain ⟨_, _, _, _⟩ := r
  refine Ok.bind (part157_ok h0 h1 h2 h3 h4 h5 h6 h7 h8 h9 h10 h11 _ _ _ _ h) fun r h => ?_
  obtain ⟨_, _, _, _, _, _⟩ := r
  refine Ok.bind (part158_ok h0 h1 h2 h3 h4 h5 h6 h7 h8 h9 h10 h11 _ _ _ _ _ _ h) fun r h => ?_
  obtain ⟨_, _, _, _, _⟩ := r
  refine Ok.bind (part159_ok h0 h1 h2 h3 h4 h5 h6 h7 h8 h9 h10 h11 _ _ _ _ _ h) fun r h => ?_
  obtain ⟨_, _, _, _, _, _, _⟩ := r
  refine Ok.bind (part160_ok h0 h1 h2 h3 h4 h5 h6 h7 h8 h9 h10 h11 _ _ _ _ _ _ _ h) fun r h => ?_
  obtain ⟨_, _, _, _, _, _, _, _⟩ := r
  refine Ok.bind (part161_ok h0 h1 h2 h3 h4 h5 h6 h7 h8 h9 h10 h11 _ _ _ _ _ _ _ _ h) fun r h => ?_
  obtain ⟨_, _, _, _, _, _, _⟩ := r
  refine Ok.bind (part162_ok h0 h1 h2 h3 h4 h5 h6 h7 h8 h9 h10 h11 _ _ _ _ _ _ _ h) fun r h => ?_
  obtain ⟨_, _, _, _, _, _⟩ := r
  refine Ok.bind (part163_ok h0 h1 h2 h3 h4 h5 h6 h7 h8 h9 h10 h11 _ _ _ _ _ _ h) fun r h => ?_
  obtain ⟨_, _, _, _⟩ := r
  refine Ok.bind (ok_load (RS_a3 c V a3 a4 a5 _ _ _)) fun _ _ => ?_
  refine Ok.bind (ok_store (RS_a3 c V a3 a4 a5 _ _ _)) fun _ _ => ?_
  refine Ok.bind (ok_load (RS_a4 c V a3 a4 a5 _ _ _)) fun _ _ => ?_
  refine Ok.bind (ok_store (RS_a4 c V a3 a4 a5 _ _ _)) fun _ _ => ?_
  refine Ok.bind (ok_load (RS_a5 c V a3 a4 a5 _ _ _)) fun _ _ => ?_
  refine Ok.bind (ok_store (RS_a5 c V a3 a4 a5 _ _ _)) fun _ _ => ?_
  refine Ok.bind (Ok.exit h.drained) fun _ _ => ?_
  exact Ok.ret trivial

end

end Cert.Proof.Kernel
-- ==== Proof.RunK.lean ====
/-
  The kernel's run: it ends with its arguments unchanged and every semaphore at zero.
-/
module

public import proofs.«01_k».proof.Proof.BodyK
public import proofs.«01_k».proof.Proof.Gen.Kernel.Launch
public import proofs.«01_k».proof.Proof.Gen.Kernel.Points
public import proofs.«01_k».proof.Proof.Gen.Kernel.Frame
public import Idealize.ShloMosaic.Lib.Pipeline.Frame
public import Idealize.ShloMosaic.Lib.Pipeline.FrameBody
public import Idealize.ShloMosaic.Lib.Ring

@[expose] public section

noncomputable section

namespace Cert.Proof.Kernel

open Cert.Kernel Cert.Kernel.Gen Cert.Proof
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

/-! ## The resources at entry and at exit -/

theorem quarter_out {ℓ : Loc nD τ sig} (f : Buf (Elt F) ℓ) :
    (ℓ ↦{fullShare} f : sProp 𝕄) ⊢ iprop((ℓ ↦{qs 0} f) ∗ (ℓ ↦{qs 1} f) ∗ (ℓ ↦{qs 2} f) ∗ (ℓ ↦{qs 3} f)) := by
  iintro H
  ihave H := (pointsTo_share (PosShare.mem_left_op_right fullShare)).1 $$ H
  icases H with ⟨HL, HR⟩
  ihave HL := (pointsTo_share (PosShare.mem_left_op_right fullShare.left)).1 $$ HL
  ihave HR := (pointsTo_share (PosShare.mem_left_op_right fullShare.right)).1 $$ HR
  icases HL with ⟨H0, H1⟩
  icases HR with ⟨H2, H3⟩
  isplitl [H0]; · iexact H0
  isplitl [H1]; · iexact H1
  isplitl [H2]; · iexact H2
  iexact H3

theorem quarter_in {ℓ : Loc nD τ sig} (f : Buf (Elt F) ℓ) :
    iprop((ℓ ↦{qs 0} f) ∗ (ℓ ↦{qs 1} f) ∗ (ℓ ↦{qs 2} f) ∗ (ℓ ↦{qs 3} f)) ⊢ (ℓ ↦{fullShare} f : sProp 𝕄) := by
  iintro ⟨H0, H1, H2, H3⟩
  iapply (pointsTo_share (PosShare.mem_left_op_right fullShare)).2
  isplitl [H0 H1]
  · iapply (pointsTo_share (PosShare.mem_left_op_right fullShare.left)).2
    isplitl [H0]; · iexact H0
    iexact H1
  · iapply (pointsTo_share (PosShare.mem_left_op_right fullShare.right)).2
    isplitl [H2]; · iexact H2
    iexact H3

/-- Four elements' separating product. -/
theorem bigSep_four (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

theorem parts_out {ℓ : Loc nD τ sig} (I : Fin 4 → Finset (Idx ℓ)) (hd : ∀ i j, i ≠ j → Disjoint (I i) (I j)) :
    (iprop(∃ f : Buf (Elt F) ℓ, ℓ ↦{fullShare} f) : sProp 𝕄) ⊢ iprop((Copy.Held ℓ (I 0) yes ∗ Copy.Held ℓ (I 1) yes ∗ Copy.Held ℓ (I 2) yes ∗ Copy.Held ℓ (I 3) yes)
      ∗ ∃ f : Buf (Elt F) ℓ, ℓ ↦[Ring.restOf I]{fullShare} f) := by
  refine (Ring.fam_split_ex I hd).trans ?_
  rw [bigSep_four]
  iintro ⟨⟨H0, H1, H2, H3⟩, HR⟩
  isplitl [H0 H1 H2 H3]
  · isplitl [H0]; · iapply held_in $$ H0
    isplitl [H1]; · iapply held_in $$ H1
    isplitl [H2]; · iapply held_in $$ H2
    iapply held_in $$ H3
  iexact HR

theorem parts_in {ℓ : Loc nD τ sig} (I : Fin 4 → Finset (Idx ℓ)) (hd : ∀ i j, i ≠ j → Disjoint (I i) (I j)) :
    iprop((Copy.Held ℓ (I 0) yes ∗ Copy.Held ℓ (I 1) yes ∗ Copy.Held ℓ (I 2) yes ∗ Copy.Held ℓ (I 3) yes)
      ∗ ∃ f : Buf (Elt F) ℓ, ℓ ↦[Ring.restOf I]{fullShare} f) ⊢ (iprop(∃ f : Buf (Elt F) ℓ, ℓ ↦{fullShare} f) : sProp 𝕄) := by
  have h : ∀ f₀ : Buf (Elt F) ℓ, iprop((Copy.Held ℓ (I 0) yes ∗ Copy.Held ℓ (I 1) yes ∗ Copy.Held ℓ (I 2) yes ∗ Copy.Held ℓ (I 3) yes)
      ∗ ∃ f : Buf (Elt F) ℓ, ℓ ↦[Ring.restOf I]{fullShare} f) ⊢ (iprop(∃ f : Buf (Elt F) ℓ, ℓ ↦{fullShare} f) : sProp 𝕄) := fun f₀ => by
    refine BIBase.Entails.trans ?_ (Ring.fam_join I hd f₀)
    rw [bigSep_four]
    iintro ⟨⟨H0, H1, H2, H3⟩, HR⟩
    isplitl [H0 H1 H2 H3]
    · isplitl [H0]; · iapply held_out $$ H0
      isplitl [H1]; · iapply held_out $$ H1
      isplitl [H2]; · iapply held_out $$ H2
      iapply held_out $$ H3
    iexact HR
  iintro ⟨H, ⟨%r, HR⟩⟩
  iapply (h r)
  isplitl [H]; · iexact H
  iexists r
  iexact HR

section
variable (c : Dev nD) (V : (b : Ref sig .tc) → Buf (Elt F) ((c : Thread nD τ).loc b))

/-- A ring's slots with no copy running, and what of its buffer is in no slot. -/
def Ring8 : sProp 𝕄 := iprop((a1.view.loc (c : Thread nD τ) ↦{fullShare} (V main_arg1)) ∗ any c a8
  ∗ (semVal ((c : Thread nD τ), .dma (q8 0)) 0 ∗ semVal ((c : Thread nD τ), .dma (q8 1)) 0 ∗ semVal ((c : Thread nD τ), .dma (q8 2)) 0 ∗ semVal ((c : Thread nD τ), .dma (q8 3)) 0))
def Rest8 : sProp 𝕄 := iprop(∃ f : Buf (Elt F) (ℓ8 c), ℓ8 c ↦[Ring.restOf (I8 c)]{fullShare} f)

theorem four8 : Four (St8 c V) f0 = iprop(((a1.view.loc (c : Thread nD τ) ↦{qs 0} (V main_arg1)) ∗ Copy.Held (ℓ8 c) (I8 c 0) yes ∗ semVal ((c : Thread nD τ), .dma (q8 0)) 0)
    ∗ ((a1.view.loc (c : Thread nD τ) ↦{qs 1} (V main_arg1)) ∗ Copy.Held (ℓ8 c) (I8 c 1) yes ∗ semVal ((c : Thread nD τ), .dma (q8 1)) 0)
    ∗ ((a1.view.loc (c : Thread nD τ) ↦{qs 2} (V main_arg1)) ∗ Copy.Held (ℓ8 c) (I8 c 2) yes ∗ semVal ((c : Thread nD τ), .dma (q8 2)) 0)
    ∗ ((a1.view.loc (c : Thread nD τ) ↦{qs 3} (V main_arg1)) ∗ Copy.Held (ℓ8 c) (I8 c 3) yes ∗ semVal ((c : Thread nD τ), .dma (q8 3)) 0)) := rfl

theorem ring8_out : Ring8 c V ⊢ iprop(Four (St8 c V) f0 ∗ Rest8 (F := F) c) := by
  rw [four8]
  unfold Ring8 Rest8 any
  iintro ⟨HA, HB, ⟨S0, S1, S2, S3⟩⟩
  ihave HA := (quarter_out (V main_arg1)) $$ HA
  ihave HB := (parts_out (I8 c) (I8_disj c)) $$ HB
  icases HA with ⟨A0, A1, A2, A3⟩
  icases HB with ⟨⟨B0, B1, B2, B3⟩, HR⟩
  isplitl [A0 B0 S0 A1 B1 S1 A2 B2 S2 A3 B3 S3]
  · isplitl [A0 B0 S0]
    · isplitl [A0]; · iexact A0
      isplitl [B0]; · iexact B0
      iexact S0
    isplitl [A1 B1 S1]
    · isplitl [A1]; · iexact A1
      isplitl [B1]; · iexact B1
      iexact S1
    isplitl [A2 B2 S2]
    · isplitl [A2]; · iexact A2
      isplitl [B2]; · iexact B2
      iexact S2
    isplitl [A3]; · iexact A3
    isplitl [B3]; · iexact B3
    iexact S3
  iexact HR

theorem ring8_in : iprop(Four (St8 c V) f0 ∗ Rest8 (F := F) c) ⊢ Ring8 c V := by
  rw [four8]
  unfold Ring8 Rest8 any
  iintro ⟨⟨⟨A0, B0, S0⟩, ⟨A1, B1, S1⟩, ⟨A2, B2, S2⟩, ⟨A3, B3, S3⟩⟩, HR⟩
  isplitl [A0 A1 A2 A3]
  · iapply (quarter_in (V main_arg1))
    isplitl [A0]; · iexact A0
    isplitl [A1]; · iexact A1
    isplitl [A2]; · iexact A2
    iexact A3
  isplitl [B0 B1 B2 B3 HR]
  · iapply (parts_in (I8 c) (I8_disj c))
    isplitl [B0 B1 B2 B3]
    · isplitl [B0]; · iexact B0
      isplitl [B1]; · iexact B1
      isplitl [B2]; · iexact B2
      iexact B3
    iexact HR
  isplitl [S0]; · iexact S0
  isplitl [S1]; · iexact S1
  isplitl [S2]; · iexact S2
  iexact S3

/-- A ring's slots with no copy running, and what of its buffer is in no slot. -/
def Ring9 : sProp 𝕄 := iprop((a2.view.loc (c : Thread nD τ) ↦{fullShare} (V main_arg2)) ∗ any c a9
  ∗ (semVal ((c : Thread nD τ), .dma (q9 0)) 0 ∗ semVal ((c : Thread nD τ), .dma (q9 1)) 0 ∗ semVal ((c : Thread nD τ), .dma (q9 2)) 0 ∗ semVal ((c : Thread nD τ), .dma (q9 3)) 0))
def Rest9 : sProp 𝕄 := iprop(∃ f : Buf (Elt F) (ℓ9 c), ℓ9 c ↦[Ring.restOf (I9 c)]{fullShare} f)

theorem four9 : Four (St9 c V) f0 = iprop(((a2.view.loc (c : Thread nD τ) ↦{qs 0} (V main_arg2)) ∗ Copy.Held (ℓ9 c) (I9 c 0) yes ∗ semVal ((c : Thread nD τ), .dma (q9 0)) 0)
    ∗ ((a2.view.loc (c : Thread nD τ) ↦{qs 1} (V main_arg2)) ∗ Copy.Held (ℓ9 c) (I9 c 1) yes ∗ semVal ((c : Thread nD τ), .dma (q9 1)) 0)
    ∗ ((a2.view.loc (c : Thread nD τ) ↦{qs 2} (V main_arg2)) ∗ Copy.Held (ℓ9 c) (I9 c 2) yes ∗ semVal ((c : Thread nD τ), .dma (q9 2)) 0)
    ∗ ((a2.view.loc (c : Thread nD τ) ↦{qs 3} (V main_arg2)) ∗ Copy.Held (ℓ9 c) (I9 c 3) yes ∗ semVal ((c : Thread nD τ), .dma (q9 3)) 0)) := rfl

theorem ring9_out : Ring9 c V ⊢ iprop(Four (St9 c V) f0 ∗ Rest9 (F := F) c) := by
  rw [four9]
  unfold Ring9 Rest9 any
  iintro ⟨HA, HB, ⟨S0, S1, S2, S3⟩⟩
  ihave HA := (quarter_out (V main_arg2)) $$ HA
  ihave HB := (parts_out (I9 c) (I9_disj c)) $$ HB
  icases HA with ⟨A0, A1, A2, A3⟩
  icases HB with ⟨⟨B0, B1, B2, B3⟩, HR⟩
  isplitl [A0 B0 S0 A1 B1 S1 A2 B2 S2 A3 B3 S3]
  · isplitl [A0 B0 S0]
    · isplitl [A0]; · iexact A0
      isplitl [B0]; · iexact B0
      iexact S0
    isplitl [A1 B1 S1]
    · isplitl [A1]; · iexact A1
      isplitl [B1]; · iexact B1
      iexact S1
    isplitl [A2 B2 S2]
    · isplitl [A2]; · iexact A2
      isplitl [B2]; · iexact B2
      iexact S2
    isplitl [A3]; · iexact A3
    isplitl [B3]; · iexact B3
    iexact S3
  iexact HR

theorem ring9_in : iprop(Four (St9 c V) f0 ∗ Rest9 (F := F) c) ⊢ Ring9 c V := by
  rw [four9]
  unfold Ring9 Rest9 any
  iintro ⟨⟨⟨A0, B0, S0⟩, ⟨A1, B1, S1⟩, ⟨A2, B2, S2⟩, ⟨A3, B3, S3⟩⟩, HR⟩
  isplitl [A0 A1 A2 A3]
  · iapply (quarter_in (V main_arg2))
    isplitl [A0]; · iexact A0
    isplitl [A1]; · iexact A1
    isplitl [A2]; · iexact A2
    iexact A3
  isplitl [B0 B1 B2 B3 HR]
  · iapply (parts_in (I9 c) (I9_disj c))
    isplitl [B0 B1 B2 B3]
    · isplitl [B0]; · iexact B0
      isplitl [B1]; · iexact B1
      isplitl [B2]; · iexact B2
      iexact B3
    iexact HR
  isplitl [S0]; · iexact S0
  isplitl [S1]; · iexact S1
  isplitl [S2]; · iexact S2
  iexact S3

/-- The copy of `x`, not running. -/
def Side : sProp 𝕄 := iprop((a0.view.loc (c : Thread nD τ) ↦{fullShare} (V main_v0)) ∗ any c a6 ∗ semVal ((c : Thread nD τ), .dma cc0_scratch6.sem) 0)

theorem side_out : Side c V ⊢ StX c V false := by
  rw [StX_false]
  unfold Side any
  iintro ⟨HA, HB, HS⟩
  isplitl [HA]; · iexact HA
  isplitl [HB]; · iapply held_in $$ HB
  iexact HS

theorem side_in : StX c V false ⊢ Side c V := by
  rw [StX_false]
  unfold Side any
  iintro ⟨HA, HB, HS⟩
  isplitl [HA]; · iexact HA
  isplitl [HB]; · iapply held_out $$ HB
  iexact HS

end

/-! ## What the launch hands over -/

variable (m : (ℓ : Loc nD τ sig) → Buf (Elt F) ℓ) (ρ : Dev nD → PrngReg)

abbrev osem0 : Fin 9 → SemLoc sig := fun j => (![SemLoc.dma 3, SemLoc.dma 4, SemLoc.dma 5, SemLoc.dma 6, SemLoc.dma 7, SemLoc.dma 8, SemLoc.dma 9, SemLoc.dma 10, SemLoc.dma 11] : Fin 9 → SemLoc sig) j
theorem ownSemFacts0 : Pipeline.OwnSemFacts spec0 osem0 := by decide
theorem ownSems0_eq (c : Dev nD) : (Pipeline.ownSems0 (Ix := Unit) (Name := ℕ) (U := Pipeline.UD sig nD τ) (Lvl := ℕ) (Val := Elt F) (τ := τ) osem0 c : sProp 𝕄)
    = iprop(semVal ((c : Thread nD τ), .dma cc0_scratch6.sem) 0
      ∗ semVal ((c : Thread nD τ), .dma (q8 0)) 0 ∗ semVal ((c : Thread nD τ), .dma (q8 1)) 0 ∗ semVal ((c : Thread nD τ), .dma (q8 2)) 0 ∗ semVal ((c : Thread nD τ), .dma (q8 3)) 0
      ∗ semVal ((c : Thread nD τ), .dma (q9 0)) 0 ∗ semVal ((c : Thread nD τ), .dma (q9 1)) 0 ∗ semVal ((c : Thread nD τ), .dma (q9 2)) 0 ∗ semVal ((c : Thread nD τ), .dma (q9 3)) 0) := by
  rw [Pipeline.ownSems0_eq_of_list c osem0 [0, 1, 2, 3, 4, 5, 6, 7, 8] (by decide) (by decide)]; rfl

/-- The arrays in HBM the body's copies read. -/
def H0 : Finset (Ref sig .tc) := {main_v0, main_arg1, main_arg2}
theorem H0_sub : H0 ⊆ Pipeline.restRefs sig spec0 := by decide
theorem hbmPts0_eq (c : Dev nD) : (bigSep H0 (fun b => ((c : Thread nD τ).loc b) ↦{fullShare} V m c b) : sProp 𝕄)
    = iprop((a0.view.loc (c : Thread nD τ) ↦{fullShare} V m c main_v0) ∗ (a1.view.loc (c : Thread nD τ) ↦{fullShare} V m c main_arg1) ∗ (a2.view.loc (c : Thread nD τ) ↦{fullShare} V m c main_arg2)) := by
  rw [BI.bigSep_eq_bigSepL_of_eq [main_v0, main_arg1, main_arg2] (by decide) (by decide)]; rfl

abbrev Ph (c : Dev nD) : sProp 𝕄 := Pipeline.ΦD osem0 spec0 H0 (V m) c

theorem Ph_eq (c : Dev nD) : Ph m c = iprop((any c a6 ∗ any c a7 ∗ any c a8 ∗ any c a9 ∗ any c a10 ∗ any c a11) ∗ (∃ r, prngReg c r)
    ∗ (semVal ((c : Thread nD τ), .dma cc0_scratch6.sem) 0
      ∗ semVal ((c : Thread nD τ), .dma (q8 0)) 0 ∗ semVal ((c : Thread nD τ), .dma (q8 1)) 0 ∗ semVal ((c : Thread nD τ), .dma (q8 2)) 0 ∗ semVal ((c : Thread nD τ), .dma (q8 3)) 0
      ∗ semVal ((c : Thread nD τ), .dma (q9 0)) 0 ∗ semVal ((c : Thread nD τ), .dma (q9 1)) 0 ∗ semVal ((c : Thread nD τ), .dma (q9 2)) 0 ∗ semVal ((c : Thread nD τ), .dma (q9 3)) 0)
    ∗ ((a0.view.loc (c : Thread nD τ) ↦{fullShare} V m c main_v0) ∗ (a1.view.loc (c : Thread nD τ) ↦{fullShare} V m c main_arg1) ∗ (a2.view.loc (c : Thread nD τ) ↦{fullShare} V m c main_arg2))) := by
  unfold Ph
  rw [Pipeline.ΦD_eq, scopedRest0_eq, ownSems0_eq, hbmPts0_eq]
  rfl

section
variable (c : Dev nD) (a3 : Memref sig .tc .vmem S1x256 .i32) (a4 a5 : Memref sig .tc .vmem S1x256 .f32)

/-- What the body keeps beside its ring. -/
abbrev Kept : sProp 𝕄 := iprop(Rest8 (F := F) c ∗ Rest9 (F := F) c ∗ ∃ r, prngReg c r)
abbrev Outs : sProp 𝕄 := iprop(any c a3 ∗ any c a4 ∗ any c a5 ∗ ∃ W : Waits sig Unit, owes (c : Thread nD τ) 0 W)

theorem entry : iprop(Ph m c ∗ Outs (F := F) c a3 a4 a5) ⊢ iprop(RS c (V m c) a3 a4 a5 false f0 f0 ∗ Kept (F := F) c) := by
  rw [Ph_eq]
  unfold RS
  iintro ⟨⟨⟨M6, M7, M8, M9, M10, M11⟩, HG, ⟨SX, S0, S1, S2, S3, T0, T1, T2, T3⟩, ⟨A0, A1, A2⟩⟩, ⟨O3, O4, O5, HW⟩⟩
  ihave HX := (side_out c (V m c)) $$ [A0 M6 SX]
  · unfold Side
    isplitl [A0]; · iexact A0
    isplitl [M6]; · iexact M6
    iexact SX
  ihave H8 := (ring8_out c (V m c)) $$ [A1 M8 S0 S1 S2 S3]
  · unfold Ring8
    isplitl [A1]; · iexact A1
    isplitl [M8]; · iexact M8
    isplitl [S0]; · iexact S0
    isplitl [S1]; · iexact S1
    isplitl [S2]; · iexact S2
    iexact S3
  ihave H9 := (ring9_out c (V m c)) $$ [A2 M9 T0 T1 T2 T3]
  · unfold Ring9
    isplitl [A2]; · iexact A2
    isplitl [M9]; · iexact M9
    isplitl [T0]; · iexact T0
    isplitl [T1]; · iexact T1
    isplitl [T2]; · iexact T2
    iexact T3
  icases H8 with ⟨H8, R8⟩
  icases H9 with ⟨H9, R9⟩
  isplitl [HX H8 H9 M7 M10 M11 O3 O4 O5 HW]
  · isplitl [O3]; · iexact O3
    isplitl [O4]; · iexact O4
    isplitl [O5]; · iexact O5
    isplitl [HX]; · iexact HX
    isplitl [M7]; · iexact M7
    isplitl [H8]; · iexact H8
    isplitl [H9]; · iexact H9
    isplitl [M10]; · iexact M10
    isplitl [M11]; · iexact M11
    iexact HW
  isplitl [R8]; · iexact R8
  isplitl [R9]; · iexact R9
  iexact HG

theorem exit : iprop(RS c (V m c) a3 a4 a5 false f0 f0 ∗ Kept (F := F) c) ⊢ iprop(Ph m c ∗ Outs (F := F) c a3 a4 a5) := by
  rw [Ph_eq]
  unfold RS
  iintro ⟨⟨O3, O4, O5, HX, M7, H8, H9, M10, M11, HW⟩, ⟨R8, R9, HG⟩⟩
  ihave HX := (side_in c (V m c)) $$ HX
  ihave H8 := (ring8_in c (V m c)) $$ [H8 R8]
  · isplitl [H8]; · iexact H8
    iexact R8
  ihave H9 := (ring9_in c (V m c)) $$ [H9 R9]
  · isplitl [H9]; · iexact H9
    iexact R9
  unfold Side Ring8 Ring9
  icases HX with ⟨A0, M6, SX⟩
  icases H8 with ⟨A1, M8, ⟨S0, S1, S2, S3⟩⟩
  icases H9 with ⟨A2, M9, ⟨T0, T1, T2, T3⟩⟩
  isplitl [M6 M7 M8 M9 M10 M11 HG SX S0 S1 S2 S3 T0 T1 T2 T3 A0 A1 A2]
  · isplitl [M6 M7 M8 M9 M10 M11]
    · isplitl [M6]; · iexact M6
      isplitl [M7]; · iexact M7
      isplitl [M8]; · iexact M8
      isplitl [M9]; · iexact M9
      isplitl [M10]; · iexact M10
      iexact M11
    isplitl [HG]; · iexact HG
    isplitl [SX S0 S1 S2 S3 T0 T1 T2 T3]
    · isplitl [SX]; · iexact SX
      isplitl [S0]; · iexact S0
      isplitl [S1]; · iexact S1
      isplitl [S2]; · iexact S2
      isplitl [S3]; · iexact S3
      isplitl [T0]; · iexact T0
      isplitl [T1]; · iexact T1
      isplitl [T2]; · iexact T2
      iexact T3
    isplitl [A0]; · iexact A0
    isplitl [A1]; · iexact A1
    iexact A2
  isplitl [O3]; · iexact O3
  isplitl [O4]; · iexact O4
  isplitl [O5]; · iexact O5
  iexact HW

end

/-- The body from what the launch hands over back to it. -/
theorem body_wp (c : Dev nD) (a3 : Memref sig .tc .vmem S1x256 .i32) (a4 a5 : Memref sig .tc .vmem S1x256 .f32)
    (h0 : a0.IsWhole) (h1 : a1.IsWhole) (h2 : a2.IsWhole) (h3 : a3.IsWhole) (h4 : a4.IsWhole) (h5 : a5.IsWhole)
    (h6 : a6.IsWhole) (h7 : a7.IsWhole) (h8 : a8.IsWhole) (h9 : a9.IsWhole) (h10 : a10.IsWhole) (h11 : a11.IsWhole) :
    iprop(Ph m c ∗ Outs (F := F) c a3 a4 a5) ⊢ Wk c (cc0_q4_head a0 h0 a1 h1 a2 h2 a3 h3 a4 h4 a5 h5 a6 h6 a7 h7 a8 h8 a9 h9 a10 h10 a11 h11 cc0_scratch6 cc0_scratch7 cc0_scratch8)
      fun _ => iprop(Ph m c ∗ Outs (F := F) c a3 a4 a5) := by
  have hb := head_ok (c := c) (V := V m c) (a3 := a3) (a4 := a4) (a5 := a5) h0 h1 h2 h3 h4 h5 h6 h7 h8 h9 h10 h11
    fun _ => iprop(Ph m c ∗ Outs (F := F) c a3 a4 a5)
  have hx := exit m c a3 a4 a5
  refine (entry m c a3 a4 a5).trans ?_
  iintro ⟨HR, HK⟩
  iapply hb $$ HR
  iintro %r %hr HR
  iapply hx
  isplitl [HR]; · iexact HR
  iexact HK

/-! ## The run -/

def rdat (c : Dev nD) : Pipeline.RDat τ (Elt F) Unit ℕ (Pipeline.UD sig nD τ) ℕ cfg0 c where
  A w := V m c (Pipeline.arrRef spec0 w)
  after _ _ _ _ := True
  Φ _ := Ph m c
  q _ := fullShare
  owed _ := 0

theorem defs₀_row (t : Fin cfg0.N) : defs₀ (F := F) .tc cfg0.body (cfg0.bodyArgs t (cfg0.slots t)) = bodyAt0 t := by
  unfold defs₀; rw [Defs.onTc_tc]

theorem owns_any (c : Dev nD) (b : Ref sig .tc) (X : _) : owns (c : Thread nD τ) (Memref.whole b) fullShare X ⊢ (any (F := F) c (Memref.whole b) : sProp 𝕄) := by
  rw [owns_whole]
  unfold any
  iintro H
  iexists X
  iexact H
theorem any_owns (c : Dev nD) (b : Ref sig .tc) : any (F := F) c (Memref.whole b) ⊢ (iprop(∃ X, ⌜True⌝ ∗ owns (c : Thread nD τ) (Memref.whole b) fullShare X) : sProp 𝕄) := by
  unfold any
  iintro ⟨%f, H⟩
  iexists f
  isplitr; · ipureintro; trivial
  rw [owns_whole]
  iexact H

theorem body_obligation (c : Dev nD) : (rdat m c).BodyObligation (defs₀ (F := F)) Variants.none () Set.univ := fun t Y _ => by
  have e1 : (rdat m c).Φ t.castSucc = Ph m c := rfl
  have e2 : (rdat m c).Φ t.succ = Ph m c := rfl
  rw [bigSep_W0, bigSep_W0, defs₀_row, e1, e2]
  have hb := body_wp m c (Memref.whole cc0_stg0_0) (Memref.whole cc0_stg1_0) (Memref.whole cc0_stg2_0) (Memref.isWhole_whole _) (Memref.isWhole_whole _) (Memref.isWhole_whole _) (hstage0_0 0) (hstage0_1 0) (hstage0_2 0)
    (Memref.isWhole_whole _) (Memref.isWhole_whole _) (Memref.isWhole_whole _) (Memref.isWhole_whole _) (Memref.isWhole_whole _) (Memref.isWhole_whole _)
  refine BIBase.Entails.trans ?_ (hb.trans ?_)
  · iintro ⟨HP, HW, ⟨H0, H1, H2⟩⟩
    isplitl [HP]; · iexact HP
    isplitl [H0]; · iapply (owns_any c cc0_stg0_0 _) $$ H0
    isplitl [H1]; · iapply (owns_any c cc0_stg1_0 _) $$ H1
    isplitl [H2]; · iapply (owns_any c cc0_stg2_0 _) $$ H2
    unfold Pipeline.RDat.owesAt Pipeline.owesWithin
    icases HW with ⟨%W, -, HW⟩
    iexists W
    iexact HW
  · refine wp_mono _ _ _ fun _ => ?_
    iintro ⟨HP, ⟨H0, H1, H2, ⟨%W, HW⟩⟩⟩
    isplitl [HP]; · iexact HP
    isplitl [HW]
    · unfold Pipeline.RDat.owesAt Pipeline.owesWithin
      iexists W
      isplitr; · ipureintro; exact fun _ _ => Or.inl trivial
      iexact HW
    isplitl [H0]; · iapply (any_owns c cc0_stg0_0) $$ H0
    isplitl [H1]; · iapply (any_owns c cc0_stg1_0) $$ H1
    iapply (any_owns c cc0_stg2_0) $$ H2

/-- Up to the region, the host operations' contents. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_main : θ_run defs (onTc (τ := τ) (main (F := F))) (s₀ m ρ) (fun r => Pipeline.RDat.FramePost cfg0 (rdat m) (V m) r ∧ r.2.sem = fun _ => 0) :=
  Pipeline.RDat.θ_run_frame_dma (Q' := _) cfgs (0 : Fin 1) launch0 osem0 defs₀ Variants.none (rdat m) ownSemFacts0 H0 H0_sub m ρ main
    (hbody := body_obligation m) (hshare := fun c w => by unfold Pipeline.RDat.share; split <;> rfl)
    (howed := fun _ _ => rfl) (V := V m) (hmain := hmainD m Variants.none) (hA := fun _ _ => rfl)
    (hin := fun _ => .rfl) (hout := fun _ => .rfl)

/-- The run ends, its arguments are unchanged, and every semaphore counts zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main m ρ)

end Cert.Proof.Kernel
-- ==== Proof.RingV.lean ====
/-
  The idealized kernel's resource (Proof/RingI.lean) with what is known of every buffer's contents.
-/
module

public import proofs.«01_k».proof.Proof.RingI

@[expose] public section

noncomputable section

namespace Cert.Proof.KernelIdeal

open Cert.KernelIdeal Cert.KernelIdeal.Gen Cert.Proof
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A condition on contents. -/
abbrev Pr (F : FTy → Type) [FloatOps F] (s : Shape) (e : EltTy) : Type := (s.Idx → Elt F e) → Prop

/-- The condition on a buffer that what a memref reads of it satisfies `P`. -/
abbrev ofs (c : Dev nD) {sp : Space} {s : Shape} {e : EltTy} (M : Memref sig .tc sp s e) (P : Pr F s e) : Buf (Elt F) (M.view.loc (c : Thread nD τ)) → Prop :=
  fun f => P (M.view.read (Elt F) f)

/-- A whole buffer whose contents satisfy `P`. -/
def hv (c : Dev nD) {sp : Space} {s : Shape} {e : EltTy} (M : Memref sig .tc sp s e) (P : Pr F s e) : sProp 𝕄 :=
  iprop(∃ f : Buf (Elt F) (M.view.loc (c : Thread nD τ)), ⌜ofs c M P f⌝ ∗ M.view.loc (c : Thread nD τ) ↦{fullShare} f)

/-- Which copies run, and what is known of the buffers (of a running copy: of what it will have written). -/
structure SV (F : FTy → Type) [FloatOps F] where
  x : Bool × Pr F S256x3584 .bf16
  s8 : Fin 4 → Bool × Pr F S4x704x1792 .i8
  s9 : Fin 4 → Bool × Pr F S4x704x112 .bf16
  p3 : Pr F S1x256 .i32
  p4 : Pr F S1x256 .f32
  p5 : Pr F S1x256 .f32
  p7 : Pr F S14x128x2x256 .bf16
  p10 : Pr F S2x176x2x128 .bf16
  p11 : Pr F S2x176x2x256 .bf16

section
variable (c : Dev nD) (V : (b : Ref sig .tc) → Buf (Elt F) ((c : Thread nD τ).loc b))

abbrev H8V (j : Fin 4) (P : Pr F S4x704x1792 .i8) : sProp 𝕄 := iprop((a1.view.loc (c : Thread nD τ) ↦{qs j} (V main_arg1)) ∗ Copy.Held (ℓ8 c) (I8 c j) (ofs c a8 P) ∗ semVal ((c : Thread nD τ), .dma (q8 j)) 0)
abbrev T8V (j : Fin 4) (P : Pr F S4x704x1792 .i8) : sProp 𝕄 := iprop(∃ Sa, Copy.Fly EC (c : Thread nD τ) (.dma (q8 j)) () N8 (a1.view.loc (c : Thread nD τ)) Sa (qs j) (V main_arg1) (ℓ8 c) (I8 c j) (ofs c a8 P))
/-- A slot of the ring, its copy running or not. -/
def St8V (j : Fin 4) : Bool × Pr F S4x704x1792 .i8 → sProp 𝕄
  | (false, P) => H8V c V j P
  | (true, P) => T8V c V j P
abbrev H9V (j : Fin 4) (P : Pr F S4x704x112 .bf16) : sProp 𝕄 := iprop((a2.view.loc (c : Thread nD τ) ↦{qs j} (V main_arg2)) ∗ Copy.Held (ℓ9 c) (I9 c j) (ofs c a9 P) ∗ semVal ((c : Thread nD τ), .dma (q9 j)) 0)
abbrev T9V (j : Fin 4) (P : Pr F S4x704x112 .bf16) : sProp 𝕄 := iprop(∃ Sa, Copy.Fly EC (c : Thread nD τ) (.dma (q9 j)) () N9 (a2.view.loc (c : Thread nD τ)) Sa (qs j) (V main_arg2) (ℓ9 c) (I9 c j) (ofs c a9 P))
/-- A slot of the ring, its copy running or not. -/
def St9V (j : Fin 4) : Bool × Pr F S4x704x112 .bf16 → sProp 𝕄
  | (false, P) => H9V c V j P
  | (true, P) => T9V c V j P
abbrev HXV (P : Pr F S256x3584 .bf16) : sProp 𝕄 := iprop((a0.view.loc (c : Thread nD τ) ↦{fullShare} (V main_v0)) ∗ Copy.Held (a6.view.loc (c : Thread nD τ)) Finset.univ (ofs c a6 P) ∗ semVal ((c : Thread nD τ), .dma cc0_scratch6.sem) 0)
abbrev TXV (P : Pr F S256x3584 .bf16) : sProp 𝕄 := iprop(∃ Sa, Copy.Fly EC (c : Thread nD τ) (.dma cc0_scratch6.sem) () N6 (a0.view.loc (c : Thread nD τ)) Sa fullShare (V main_v0) (a6.view.loc (c : Thread nD τ)) Finset.univ (ofs c a6 P))
/-- The copy of `x`, running or not. -/
def StXV : Bool × Pr F S256x3584 .bf16 → sProp 𝕄
  | (false, P) => HXV c V P
  | (true, P) => TXV c V P
end

/-- Four slots at their states. -/
def FourV {β : Type} (P : Fin 4 → β → sProp 𝕄) (s : Fin 4 → β) : sProp 𝕄 := iprop(P 0 (s 0) ∗ P 1 (s 1) ∗ P 2 (s 2) ∗ P 3 (s 3))

/-- One of four slots taken out, and put back in any state. -/
theorem four_takeV {β : Type} (P : Fin 4 → β → sProp 𝕄) (s : Fin 4 → β) (j : Fin 4) :
    FourV P s ⊢ iprop(P j (s j) ∗ ∀ b, P j b -∗ FourV P (Function.update s j b)) := by
  unfold FourV
  have h : ∀ i, i ≠ j → ∀ b, Function.update s j b i = s i := fun i hi b => Function.update_of_ne hi _ _
  have e : ∀ b, Function.update s j b j = b := fun b => Function.update_self _ _ _
  match j, h, e with
  | 0, h, e =>
    iintro ⟨H0, H1, H2, H3⟩
    isplitl [H0]; · iexact H0
    iintro %b H
    rw [e, h 1 (by decide), h 2 (by decide), h 3 (by decide)]
    isplitl [H]; · iexact H
    isplitl [H1]; · iexact H1
    isplitl [H2]; · iexact H2
    iexact H3
  | 1, h, e =>
    iintro ⟨H0, H1, H2, H3⟩
    isplitl [H1]; · iexact H1
    iintro %b H
    rw [e, h 0 (by decide), h 2 (by decide), h 3 (by decide)]
    isplitl [H0]; · iexact H0
    isplitl [H]; · iexact H
    isplitl [H2]; · iexact H2
    iexact H3
  | 2, h, e =>
    iintro ⟨H0, H1, H2, H3⟩
    isplitl [H2]; · iexact H2
    iintro %b H
    rw [e, h 0 (by decide), h 1 (by decide), h 3 (by decide)]
    isplitl [H0]; · iexact H0
    isplitl [H1]; · iexact H1
    isplitl [H]; · iexact H
    iexact H3
  | 3, h, e =>
    iintro ⟨H0, H1, H2, H3⟩
    isplitl [H3]; · iexact H3
    iintro %b H
    rw [e, h 0 (by decide), h 1 (by decide), h 2 (by decide)]
    isplitl [H0]; · iexact H0
    isplitl [H1]; · iexact H1
    isplitl [H2]; · iexact H2
    iexact H

section
variable (c : Dev nD) (V : (b : Ref sig .tc) → Buf (Elt F) ((c : Thread nD τ).loc b))
variable (a3 : Memref sig .tc .vmem S1x256 .i32) (a4 a5 : Memref sig .tc .vmem S1x256 .f32)

/-- Everything the kernel holds in the state `s`. -/
def RV (s : SV F) : sProp 𝕄 :=
  iprop(hv c a3 s.p3 ∗ hv c a4 s.p4 ∗ hv c a5 s.p5 ∗ StXV c V s.x ∗ hv c a7 s.p7 ∗ FourV (St8V c V) s.s8 ∗ FourV (St9V c V) s.s9 ∗ hv c a10 s.p10 ∗ hv c a11 s.p11
    ∗ ∃ W : Waits sig Unit, owes (c : Thread nD τ) 0 W)

theorem RV_a3 (s : SV F) : RV c V a3 a4 a5 s ⊢ iprop(hv c a3 s.p3 ∗ ∀ P, hv c a3 P -∗ RV c V a3 a4 a5 { s with p3 := P }) := by
  unfold RV
  iintro ⟨Ha3, Ha4, Ha5, Hx, Ha7, Hs8, Hs9, Ha10, Ha11, HW⟩
  isplitl [Ha3]; · iexact Ha3
  iintro %P H
  isplitl [H]; · iexact H
  isplitl [Ha4]; · iexact Ha4
  isplitl [Ha5]; · iexact Ha5
  isplitl [Hx]; · iexact Hx
  isplitl [Ha7]; · iexact Ha7
  isplitl [Hs8]; · iexact Hs8
  isplitl [Hs9]; · iexact Hs9
  isplitl [Ha10]; · iexact Ha10
  isplitl [Ha11]; · iexact Ha11
  iexact HW

theorem RV_a4 (s : SV F) : RV c V a3 a4 a5 s ⊢ iprop(hv c a4 s.p4 ∗ ∀ P, hv c a4 P -∗ RV c V a3 a4 a5 { s with p4 := P }) := by
  unfold RV
  iintro ⟨Ha3, Ha4, Ha5, Hx, Ha7, Hs8, Hs9, Ha10, Ha11, HW⟩
  isplitl [Ha4]; · iexact Ha4
  iintro %P H
  isplitl [Ha3]; · iexact Ha3
  isplitl [H]; · iexact H
  isplitl [Ha5]; · iexact Ha5
  isplitl [Hx]; · iexact Hx
  isplitl [Ha7]; · iexact Ha7
  isplitl [Hs8]; · iexact Hs8
  isplitl [Hs9]; · iexact Hs9
  isplitl [Ha10]; · iexact Ha10
  isplitl [Ha11]; · iexact Ha11
  iexact HW

theorem RV_a5 (s : SV F) : RV c V a3 a4 a5 s ⊢ iprop(hv c a5 s.p5 ∗ ∀ P, hv c a5 P -∗ RV c V a3 a4 a5 { s with p5 := P }) := by
  unfold RV
  iintro ⟨Ha3, Ha4, Ha5, Hx, Ha7, Hs8, Hs9, Ha10, Ha11, HW⟩
  isplitl [Ha5]; · iexact Ha5
  iintro %P H
  isplitl [Ha3]; · iexact Ha3
  isplitl [Ha4]; · iexact Ha4
  isplitl [H]; · iexact H
  isplitl [Hx]; · iexact Hx
  isplitl [Ha7]; · iexact Ha7
  isplitl [Hs8]; · iexact Hs8
  isplitl [Hs9]; · iexact Hs9
  isplitl [Ha10]; · iexact Ha10
  isplitl [Ha11]; · iexact Ha11
  iexact HW

theorem RV_a7 (s : SV F) : RV c V a3 a4 a5 s ⊢ iprop(hv c a7 s.p7 ∗ ∀ P, hv c a7 P -∗ RV c V a3 a4 a5 { s with p7 := P }) := by
  unfold RV
  iintro ⟨Ha3, Ha4, Ha5, Hx, Ha7, Hs8, Hs9, Ha10, Ha11, HW⟩
  isplitl [Ha7]; · iexact Ha7
  iintro %P H
  isplitl [Ha3]; · iexact Ha3
  isplitl [Ha4]; · iexact Ha4
  isplitl [Ha5]; · iexact Ha5
  isplitl [Hx]; · iexact Hx
  isplitl [H]; · iexact H
  isplitl [Hs8]; · iexact Hs8
  isplitl [Hs9]; · iexact Hs9
  isplitl [Ha10]; · iexact Ha10
  isplitl [Ha11]; · iexact Ha11
  iexact HW

theorem RV_a10 (s : SV F) : RV c V a3 a4 a5 s ⊢ iprop(hv c a10 s.p10 ∗ ∀ P, hv c a10 P -∗ RV c V a3 a4 a5 { s with p10 := P }) := by
  unfold RV
  iintro ⟨Ha3, Ha4, Ha5, Hx, Ha7, Hs8, Hs9, Ha10, Ha11, HW⟩
  isplitl [Ha10]; · iexact Ha10
  iintro %P H
  isplitl [Ha3]; · iexact Ha3
  isplitl [Ha4]; · iexact Ha4
  isplitl [Ha5]; · iexact Ha5
  isplitl [Hx]; · iexact Hx
  isplitl [Ha7]; · iexact Ha7
  isplitl [Hs8]; · iexact Hs8
  isplitl [Hs9]; · iexact Hs9
  isplitl [H]; · iexact H
  isplitl [Ha11]; · iexact Ha11
  iexact HW

theorem RV_a11 (s : SV F) : RV c V a3 a4 a5 s ⊢ iprop(hv c a11 s.p11 ∗ ∀ P, hv c a11 P -∗ RV c V a3 a4 a5 { s with p11 := P }) := by
  unfold RV
  iintro ⟨Ha3, Ha4, Ha5, Hx, Ha7, Hs8, Hs9, Ha10, Ha11, HW⟩
  isplitl [Ha11]; · iexact Ha11
  iintro %P H
  isplitl [Ha3]; · iexact Ha3
  isplitl [Ha4]; · iexact Ha4
  isplitl [Ha5]; · iexact Ha5
  isplitl [Hx]; · iexact Hx
  isplitl [Ha7]; · iexact Ha7
  isplitl [Hs8]; · iexact Hs8
  isplitl [Hs9]; · iexact Hs9
  isplitl [Ha10]; · iexact Ha10
  isplitl [H]; · iexact H
  iexact HW

theorem RV_x (s : SV F) : RV c V a3 a4 a5 s ⊢ iprop((StXV c V s.x ∗ ∃ W : Waits sig Unit, owes (c : Thread nD τ) 0 W)
    ∗ ∀ b, (StXV c V b ∗ ∃ W : Waits sig Unit, owes (c : Thread nD τ) 0 W) -∗ RV c V a3 a4 a5 { s with x := b }) := by
  unfold RV
  iintro ⟨Ha3, Ha4, Ha5, Hx, Ha7, Hs8, Hs9, Ha10, Ha11, HW⟩
  isplitl [Hx HW]
  · isplitl [Hx]; · iexact Hx
    iexact HW
  iintro %b ⟨H, HW⟩
  isplitl [Ha3]; · iexact Ha3
  isplitl [Ha4]; · iexact Ha4
  isplitl [Ha5]; · iexact Ha5
  isplitl [H]; · iexact H
  isplitl [Ha7]; · iexact Ha7
  isplitl [Hs8]; · iexact Hs8
  isplitl [Hs9]; · iexact Hs9
  isplitl [Ha10]; · iexact Ha10
  isplitl [Ha11]; · iexact Ha11
  iexact HW

theorem RV_8 (s : SV F) (j : Fin 4) : RV c V a3 a4 a5 s ⊢ iprop((St8V c V j (s.s8 j) ∗ ∃ W : Waits sig Unit, owes (c : Thread nD τ) 0 W)
    ∗ ∀ b, (St8V c V j b ∗ ∃ W : Waits sig Unit, owes (c : Thread nD τ) 0 W) -∗ RV c V a3 a4 a5 { s with s8 := Function.update s.s8 j b }) := by
  unfold RV
  iintro ⟨Ha3, Ha4, Ha5, Hx, Ha7, Hs8, Hs9, Ha10, Ha11, HW⟩
  ihave Hs8 := (four_takeV (St8V c V) s.s8 j) $$ Hs8
  icases Hs8 with ⟨Hj, Hr⟩
  isplitl [Hj HW]
  · isplitl [Hj]; · iexact Hj
    iexact HW
  iintro %b ⟨H, HW⟩
  ispecialize Hr $$ %b H
  isplitl [Ha3]; · iexact Ha3
  isplitl [Ha4]; · iexact Ha4
  isplitl [Ha5]; · iexact Ha5
  isplitl [Hx]; · iexact Hx
  isplitl [Ha7]; · iexact Ha7
  isplitl [Hr]; · iexact Hr
  isplitl [Hs9]; · iexact Hs9
  isplitl [Ha10]; · iexact Ha10
  isplitl [Ha11]; · iexact Ha11
  iexact HW

theorem RV_9 (s : SV F) (j : Fin 4) : RV c V a3 a4 a5 s ⊢ iprop((St9V c V j (s.s9 j) ∗ ∃ W : Waits sig Unit, owes (c : Thread nD τ) 0 W)
    ∗ ∀ b, (St9V c V j b ∗ ∃ W : Waits sig Unit, owes (c : Thread nD τ) 0 W) -∗ RV c V a3 a4 a5 { s with s9 := Function.update s.s9 j b }) := by
  unfold RV
  iintro ⟨Ha3, Ha4, Ha5, Hx, Ha7, Hs8, Hs9, Ha10, Ha11, HW⟩
  ihave Hs9 := (four_takeV (St9V c V) s.s9 j) $$ Hs9
  icases Hs9 with ⟨Hj, Hr⟩
  isplitl [Hj HW]
  · isplitl [Hj]; · iexact Hj
    iexact HW
  iintro %b ⟨H, HW⟩
  ispecialize Hr $$ %b H
  isplitl [Ha3]; · iexact Ha3
  isplitl [Ha4]; · iexact Ha4
  isplitl [Ha5]; · iexact Ha5
  isplitl [Hx]; · iexact Hx
  isplitl [Ha7]; · iexact Ha7
  isplitl [Hs8]; · iexact Hs8
  isplitl [Hr]; · iexact Hr
  isplitl [Ha10]; · iexact Ha10
  isplitl [Ha11]; · iexact Ha11
  iexact HW

end

end Cert.Proof.KernelIdeal
-- ==== Proof.StepV.lean ====
/-
  The operations of the idealized kernel over its resource with what is known of every buffer's contents.
-/
module

public import proofs.«01_k».proof.Proof.RingV
public import proofs.«01_k».proof.Proof.OkI
public import Idealize.ShloMosaic.Lib.Pointwise
public import Idealize.ShloMosaic.Lib.ValueLayout

@[expose] public section

noncomputable section

namespace Cert.Proof.KernelIdeal

open Cert.KernelIdeal Cert.KernelIdeal.Gen Cert.Proof
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Loads and stores -/

section
variable (c : Dev nD)

/-- A load of a whole buffer. -/
theorem load_hv {α : Type} {Q : α → sProp 𝕄} {R : sProp 𝕄} {sp : CoreSpace} {s : Shape} {e : EltTy} {M : Memref sig .tc sp s e} {P : Pr F s e}
    (h : R ⊢ iprop(hv c M P ∗ (hv c M P -∗ R))) {r : LoadRect s} {hl : M.view.LoadsAt r}
    {k : (r.shape.Idx → Elt F e) → Prog (TpuEff nD τ sig (Elt F) Λ₀ .tc) α} :
    R ⊢ iprop((∀ v, ⌜∃ X, P X ∧ ∀ i, v i = X (r.idx i)⌝ -∗ R -∗ Wk c (k v) Q) -∗ Wk c (.op (.load M r hl) k) Q) := by
  iintro HP Hk
  ihave HP := h $$ HP
  icases HP with ⟨HM, HP⟩
  unfold hv
  icases HM with ⟨%f, %hf, HM⟩
  iapply (wp_load (c := (c : Thread nD τ)) Variants.none none Set.univ (Finset.subset_univ _)) $$ HM
  iintro HM
  ispecialize Hk $$ %(M.view.readAt (Elt F) r f)
  iapply Hk
  · ipureintro; exact ⟨M.view.read (Elt F) f, hf, fun _ => rfl⟩
  iapply HP
  iexists f
  isplitr; · ipureintro; exact hf
  iexact HM

/-- A store into a whole buffer. -/
theorem store_hv {α : Type} {Q : α → sProp 𝕄} {R R' : sProp 𝕄} {sp : CoreSpace} {s : Shape} {e : EltTy} {M : Memref sig .tc sp s e} {P P' : Pr F s e}
    (h : R ⊢ iprop(hv c M P ∗ (hv c M P' -∗ R'))) {r : Rect s} {w : r.shape.Idx → Elt F e} {hx : (M.access r).Stores Finset.univ} {hm : Finset.univ = Finset.univ ∨ _}
    (hP : ∀ X X' : s.Idx → Elt F e, P X → (∀ x, X' (r.emb x) = w x) → (∀ y, (∀ x, r.emb x ≠ y) → X' y = X y) → P' X')
    {k : PUnit → Prog (TpuEff nD τ sig (Elt F) Λ₀ .tc) α} :
    R ⊢ iprop((R' -∗ Wk c (k ⟨⟩) Q) -∗ Wk c (.op (.store M r w Finset.univ hx hm) k) Q) := by
  iintro HP Hk
  ihave HP := h $$ HP
  icases HP with ⟨HM, HP⟩
  unfold hv
  icases HM with ⟨%f, %hf, HM⟩
  iapply (wp_store (c := (c : Thread nD τ)) (m := M) (r := r) (f := f) Variants.none none Set.univ (Finset.subset_univ _)) $$ HM
  iintro HM
  iapply Hk
  iapply HP
  iexists _
  isplitr
  · ipureintro
    refine hP _ _ hf (fun x => View.read_slice_write_emb _ _ _ (Finset.mem_univ x)) fun y hy => View.read_slice_write_of_not_mem _ _ _ _ fun hmem => ?_
    obtain ⟨x, -, e⟩ := Finset.mem_map.1 hmem
    exact hy x e
  iexact HM

end

theorem held_of {b : Loc nD τ sig} {S : Finset (Idx b)} {P : Buf (Elt F) b → Prop} (f : Buf (Elt F) b) (hf : P f) : (b ↦[S]{fullShare} f : sProp 𝕄) ⊢ Copy.Held b S P := by
  unfold Copy.Held
  iintro H
  iexists f
  isplitr; · ipureintro; exact hf
  iexact H

/-! ## What a copy writes -/

theorem copied_8 (c : Dev nD) (j : Fin 4) (fd : Buf (Elt F) (a8.view.loc (c : Thread nD τ))) (w : S704x1792.Idx → Elt F _) (r : Fin 704) (k : Fin 1792) :
    a8.view.read (Elt F) ((d8 j).view.write (Elt F) fd w Finset.univ) (ix3 j r k) = w (ix2 r k) := by
  have e : a8.view.emb (ix3 j r k) = (d8 j).view.emb (ix2 r k) := by
    have hq : ∀ h : S704x1792.numel = S1x704x1792.numel, Shape.reshapeEquiv h (ix2 r k) = ix3 (0 : Fin 1) r k := fun h => ValueIdx.reshapeEquiv_ix2_1ab h r k
    refine congrArg a8.view.emb (Eq.trans ?_ (congrArg (R8 j).emb (hq _).symm))
    funext a
    apply Fin.ext
    match a with
    | 0 => show j.val = j.val + 1 * 0; omega
    | 1 => show r.val = 0 + 1 * r.val; omega
    | 2 => show k.val = 0 + 1 * k.val; omega
  rw [View.read_apply, e, View.write_emb_of_mem _ _ (Finset.mem_univ _), cast_cast, cast_eq]

theorem copied_9 (c : Dev nD) (j : Fin 4) (fd : Buf (Elt F) (a9.view.loc (c : Thread nD τ))) (w : S704x112.Idx → Elt F _) (r : Fin 704) (k : Fin 112) :
    a9.view.read (Elt F) ((d9 j).view.write (Elt F) fd w Finset.univ) (ix3 j r k) = w (ix2 r k) := by
  have e : a9.view.emb (ix3 j r k) = (d9 j).view.emb (ix2 r k) := by
    have hq : ∀ h : S704x112.numel = S1x704x112.numel, Shape.reshapeEquiv h (ix2 r k) = ix3 (0 : Fin 1) r k := fun h => ValueIdx.reshapeEquiv_ix2_1ab h r k
    refine congrArg a9.view.emb (Eq.trans ?_ (congrArg (R9 j).emb (hq _).symm))
    funext a
    apply Fin.ext
    match a with
    | 0 => show j.val = j.val + 1 * 0; omega
    | 1 => show r.val = 0 + 1 * r.val; omega
    | 2 => show k.val = 0 + 1 * k.val; omega
  rw [View.read_apply, e, View.write_emb_of_mem _ _ (Finset.mem_univ _), cast_cast, cast_eq]

section
variable (c : Dev nD) (V : (b : Ref sig .tc) → Buf (Elt F) ((c : Thread nD τ).loc b))
variable (a3 : Memref sig .tc .vmem S1x256 .i32) (a4 a5 : Memref sig .tc .vmem S1x256 .f32)

/-! ## The rings' slots -/

theorem takeV8 (s : SV F) (j : Fin 4) (b b' : Bool × Pr F S4x704x1792 .i8) (hj : s.s8 j = b) : RV c V a3 a4 a5 s ⊢ iprop((St8V c V j b ∗ OW c)
    ∗ ((St8V c V j b' ∗ OW c) -∗ RV c V a3 a4 a5 { s with s8 := Function.update s.s8 j b' })) := by
  subst hj
  iintro HP
  ihave HP := (RV_8 c V a3 a4 a5 s j) $$ HP
  icases HP with ⟨H, HP⟩
  isplitl [H]; · iexact H
  iapply HP
theorem takeV8_ft (s : SV F) (j : Fin 4) (P P' : Pr F S4x704x1792 .i8) (hj : s.s8 j = (false, P)) : RV c V a3 a4 a5 s ⊢ iprop((H8V c V j P ∗ OW c)
    ∗ ((T8V c V j P' ∗ OW c) -∗ RV c V a3 a4 a5 { s with s8 := Function.update s.s8 j (true, P') })) := takeV8 c V a3 a4 a5 s j _ (true, P') hj
theorem takeV8_tf (s : SV F) (j : Fin 4) (P P' : Pr F S4x704x1792 .i8) (hj : s.s8 j = (true, P)) : RV c V a3 a4 a5 s ⊢ iprop((T8V c V j P ∗ OW c)
    ∗ ((H8V c V j P' ∗ OW c) -∗ RV c V a3 a4 a5 { s with s8 := Function.update s.s8 j (false, P') })) := takeV8 c V a3 a4 a5 s j _ (false, P') hj
theorem takeV8_ff (s : SV F) (j : Fin 4) (P : Pr F S4x704x1792 .i8) (hj : s.s8 j = (false, P)) : RV c V a3 a4 a5 s ⊢ iprop((H8V c V j P ∗ OW c)
    ∗ ((H8V c V j P ∗ OW c) -∗ RV c V a3 a4 a5 s)) := by
  have hu : Function.update s.s8 j (false, P) = s.s8 := by rw [← hj]; exact Function.update_eq_self _ _
  have h := takeV8 c V a3 a4 a5 s j _ (false, P) hj
  rw [hu] at h
  exact h

/-- A load of a slot that no copy writes. -/
theorem loadV_8 {α : Type} {Q : α → sProp 𝕄} {s : SV F} (j : Fin 4) (P : Pr F S4x704x1792 .i8) (hj : s.s8 j = (false, P)) {r : LoadRect S4x704x1792} (hr : r.set ⊆ (R8 j).set) {hl : a8.view.LoadsAt r}
    {k : (r.shape.Idx → Elt F .i8) → Prog (TpuEff nD τ sig (Elt F) Λ₀ .tc) α} :
    RV c V a3 a4 a5 s ⊢ iprop((∀ v, ⌜∃ X, P X ∧ ∀ i, v i = X (r.idx i)⌝ -∗ RV c V a3 a4 a5 s -∗ Wk c (k v) Q) -∗ Wk c (.op (.load a8 r hl) k) Q) := by
  iintro HP Hk
  ihave HP := (takeV8_ff c V a3 a4 a5 s j P hj) $$ HP
  icases HP with ⟨⟨⟨HA, HM, HS⟩, HW⟩, HP⟩
  unfold Copy.Held
  icases HM with ⟨%f, %hf, HM⟩
  iapply (wp_load (c := (c : Thread nD τ)) (m := a8) (S := I8 c j) Variants.none none Set.univ ?_) $$ HM
  · unfold I8; rw [View.set_slice]; exact Finset.map_subset_map.2 hr
  iintro HM
  ispecialize Hk $$ %(a8.view.readAt (Elt F) r f)
  iapply Hk
  · ipureintro; exact ⟨a8.view.read (Elt F) f, hf, fun _ => rfl⟩
  iapply HP
  isplitl [HA HM HS]
  · isplitl [HA]; · iexact HA
    isplitl [HM]
    · iapply held_of f hf $$ HM
    iexact HS
  iexact HW

/-- A copy into a slot of the ring started. -/
theorem startV_8 {α : Type} {Q : α → sProp 𝕄} {s : SV F} (j : Fin 4) (P P' : Pr F S4x704x1792 .i8) (hj : s.s8 j = (false, P)) {o : Fin 3 → ℕ} (ho : o = ![j.val, 0, 0]) {io : ∀ a, o a + S1x704x1792.size a ≤ S4x704x1792.size a} {so : Fin 1 → ℕ} (hso : so = ![j.val]) {iso : ∀ a, so a + S1.size a ≤ S4.size a}
    {o1 : Fin 2 → ℕ} {io1 : ∀ a, o1 a + S704x1792.size a ≤ S38016x1792.size a}
    (hP : ∀ X : S4x704x1792.Idx → Elt F .i8, (∀ (r : Fin 704) (k : Fin 1792), X (ix3 j r k) = a1.view.read (Elt F) (V main_arg1) ((Rect.unit (s := S38016x1792) o1 S704x1792.size io1).emb (ix2 r k))) → P' X)
    {h1 : _} {h2 : _} {h3 : _} {k : PUnit → Prog (TpuEff nD τ sig (Elt F) Λ₀ .tc) α} :
    RV c V a3 a4 a5 s ⊢ iprop((RV c V a3 a4 a5 { s with s8 := Function.update s.s8 j (true, P') } -∗ Wk c (k ⟨⟩) Q)
      -∗ Wk c (.op (.enqueueDma (a1.slice (Rect.unit (s := S38016x1792) o1 S704x1792.size io1) (fun _ => rfl))
          (.here ((a8.slice (Rect.unit (s := S4x704x1792) o S1x704x1792.size io) (fun _ => rfl)).squeeze S704x1792 squeezes_S1x704x1792_S704x1792))
          (.dma ((cc0_scratch7.slice (Rect.unit (s := S4) so S1.size iso)).squeeze S_ squeezes_S1_S_).sem) h1 h2 h3) k) Q) := by
  subst ho hso
  iintro HP Hk
  ihave HP := (takeV8_ft c V a3 a4 a5 s j P P' hj) $$ HP
  icases HP with ⟨⟨HS, HW⟩, HP⟩
  iapply (Copy.start (c := (c : Thread nD τ)) EC Variants.none none (src := a1.slice (Rect.unit (s := S38016x1792) o1 S704x1792.size io1) (fun _ => rfl)) (dst := d8 j) (sm := .dma (q8 j)) (Sd := I8 c j) (ofs c a8 P) (ofs c a8 P') () N8 rfl (View.dmaCredit_pos _ (by decide)) (set8 c j).subset (fun fd _ => hP _ fun r k => copied_8 c j fd _ r k)) $$ HS
  iintro HF
  iapply Hk
  iapply HP
  isplitl [HF]
  · iexists _
    iexact HF
  iexact HW

/-- A copy into a slot of the ring waited for. -/
theorem waitV_8 {α : Type} {Q : α → sProp 𝕄} {s : SV F} (j : Fin 4) (P : Pr F S4x704x1792 .i8) (hj : s.s8 j = (true, P)) {o : Fin 3 → ℕ} (ho : o = ![j.val, 0, 0]) {io : ∀ a, o a + S1x704x1792.size a ≤ S4x704x1792.size a} {so : Fin 1 → ℕ} (hso : so = ![j.val]) {iso : ∀ a, so a + S1.size a ≤ S4.size a}
    {o1 : Fin 2 → ℕ} {io1 : ∀ a, o1 a + S704x1792.size a ≤ S38016x1792.size a}
    {h1 : _} {h2 : _} {k : PUnit → Prog (TpuEff nD τ sig (Elt F) Λ₀ .tc) α} :
    RV c V a3 a4 a5 s ⊢ iprop((RV c V a3 a4 a5 { s with s8 := Function.update s.s8 j (false, P) } -∗ Wk c (k ⟨⟩) Q)
      -∗ Wk c (.op (.waitDma2 ((cc0_scratch7.slice (Rect.unit (s := S4) so S1.size iso)).squeeze S_ squeezes_S1_S_).sem
          (a1.slice (Rect.unit (s := S38016x1792) o1 S704x1792.size io1) (fun _ => rfl))
          ((a8.slice (Rect.unit (s := S4x704x1792) o S1x704x1792.size io) (fun _ => rfl)).squeeze S704x1792 squeezes_S1x704x1792_S704x1792) h1 h2) k) Q) := by
  subst ho hso
  iintro HP Hk
  ihave HP := (takeV8_tf c V a3 a4 a5 s j P P hj) $$ HP
  icases HP with ⟨⟨HS, HW⟩, HP⟩
  icases HS with ⟨%Sa, HS⟩
  iapply (Copy.wait (c := (c : Thread nD τ)) EC Variants.none none () (sem := q8 j) (srcw := a1.slice (Rect.unit (s := S38016x1792) o1 S704x1792.size io1) (fun _ => rfl)) (dstw := d8 j) (hsrc := h1) (hdst := h2) (N := N8) rfl) $$ [HS HW]
  · isplitl [HS]; · iexact HS
    iexact HW
  iintro HF
  iapply Hk
  iapply HP
  iexact HF

theorem takeV9 (s : SV F) (j : Fin 4) (b b' : Bool × Pr F S4x704x112 .bf16) (hj : s.s9 j = b) : RV c V a3 a4 a5 s ⊢ iprop((St9V c V j b ∗ OW c)
    ∗ ((St9V c V j b' ∗ OW c) -∗ RV c V a3 a4 a5 { s with s9 := Function.update s.s9 j b' })) := by
  subst hj
  iintro HP
  ihave HP := (RV_9 c V a3 a4 a5 s j) $$ HP
  icases HP with ⟨H, HP⟩
  isplitl [H]; · iexact H
  iapply HP
theorem takeV9_ft (s : SV F) (j : Fin 4) (P P' : Pr F S4x704x112 .bf16) (hj : s.s9 j = (false, P)) : RV c V a3 a4 a5 s ⊢ iprop((H9V c V j P ∗ OW c)
    ∗ ((T9V c V j P' ∗ OW c) -∗ RV c V a3 a4 a5 { s with s9 := Function.update s.s9 j (true, P') })) := takeV9 c V a3 a4 a5 s j _ (true, P') hj
theorem takeV9_tf (s : SV F) (j : Fin 4) (P P' : Pr F S4x704x112 .bf16) (hj : s.s9 j = (true, P)) : RV c V a3 a4 a5 s ⊢ iprop((T9V c V j P ∗ OW c)
    ∗ ((H9V c V j P' ∗ OW c) -∗ RV c V a3 a4 a5 { s with s9 := Function.update s.s9 j (false, P') })) := takeV9 c V a3 a4 a5 s j _ (false, P') hj
theorem takeV9_ff (s : SV F) (j : Fin 4) (P : Pr F S4x704x112 .bf16) (hj : s.s9 j = (false, P)) : RV c V a3 a4 a5 s ⊢ iprop((H9V c V j P ∗ OW c)
    ∗ ((H9V c V j P ∗ OW c) -∗ RV c V a3 a4 a5 s)) := by
  have hu : Function.update s.s9 j (false, P) = s.s9 := by rw [← hj]; exact Function.update_eq_self _ _
  have h := takeV9 c V a3 a4 a5 s j _ (false, P) hj
  rw [hu] at h
  exact h

/-- A load of a slot that no copy writes. -/
theorem loadV_9 {α : Type} {Q : α → sProp 𝕄} {s : SV F} (j : Fin 4) (P : Pr F S4x704x112 .bf16) (hj : s.s9 j = (false, P)) {r : LoadRect S4x704x112} (hr : r.set ⊆ (R9 j).set) {hl : a9.view.LoadsAt r}
    {k : (r.shape.Idx → Elt F .bf16) → Prog (TpuEff nD τ sig (Elt F) Λ₀ .tc) α} :
    RV c V a3 a4 a5 s ⊢ iprop((∀ v, ⌜∃ X, P X ∧ ∀ i, v i = X (r.idx i)⌝ -∗ RV c V a3 a4 a5 s -∗ Wk c (k v) Q) -∗ Wk c (.op (.load a9 r hl) k) Q) := by
  iintro HP Hk
  ihave HP := (takeV9_ff c V a3 a4 a5 s j P hj) $$ HP
  icases HP with ⟨⟨⟨HA, HM, HS⟩, HW⟩, HP⟩
  unfold Copy.Held
  icases HM with ⟨%f, %hf, HM⟩
  iapply (wp_load (c := (c : Thread nD τ)) (m := a9) (S := I9 c j) Variants.none none Set.univ ?_) $$ HM
  · unfold I9; rw [View.set_slice]; exact Finset.map_subset_map.2 hr
  iintro HM
  ispecialize Hk $$ %(a9.view.readAt (Elt F) r f)
  iapply Hk
  · ipureintro; exact ⟨a9.view.read (Elt F) f, hf, fun _ => rfl⟩
  iapply HP
  isplitl [HA HM HS]
  · isplitl [HA]; · iexact HA
    isplitl [HM]
    · iapply held_of f hf $$ HM
    iexact HS
  iexact HW

/-- A copy into a slot of the ring started. -/
theorem startV_9 {α : Type} {Q : α → sProp 𝕄} {s : SV F} (j : Fin 4) (P P' : Pr F S4x704x112 .bf16) (hj : s.s9 j = (false, P)) {o : Fin 3 → ℕ} (ho : o = ![j.val, 0, 0]) {io : ∀ a, o a + S1x704x112.size a ≤ S4x704x112.size a} {so : Fin 1 → ℕ} (hso : so = ![j.val]) {iso : ∀ a, so a + S1.size a ≤ S4.size a}
    {o1 : Fin 2 → ℕ} {io1 : ∀ a, o1 a + S704x112.size a ≤ S38016x112.size a}
    (hP : ∀ X : S4x704x112.Idx → Elt F .bf16, (∀ (r : Fin 704) (k : Fin 112), X (ix3 j r k) = a2.view.read (Elt F) (V main_arg2) ((Rect.unit (s := S38016x112) o1 S704x112.size io1).emb (ix2 r k))) → P' X)
    {h1 : _} {h2 : _} {h3 : _} {k : PUnit → Prog (TpuEff nD τ sig (Elt F) Λ₀ .tc) α} :
    RV c V a3 a4 a5 s ⊢ iprop((RV c V a3 a4 a5 { s with s9 := Function.update s.s9 j (true, P') } -∗ Wk c (k ⟨⟩) Q)
      -∗ Wk c (.op (.enqueueDma (a2.slice (Rect.unit (s := S38016x112) o1 S704x112.size io1) (fun _ => rfl))
          (.here ((a9.slice (Rect.unit (s := S4x704x112) o S1x704x112.size io) (fun _ => rfl)).squeeze S704x112 squeezes_S1x704x112_S704x112))
          (.dma ((cc0_scratch8.slice (Rect.unit (s := S4) so S1.size iso)).squeeze S_ squeezes_S1_S_).sem) h1 h2 h3) k) Q) := by
  subst ho hso
  iintro HP Hk
  ihave HP := (takeV9_ft c V a3 a4 a5 s j P P' hj) $$ HP
  icases HP with ⟨⟨HS, HW⟩, HP⟩
  iapply (Copy.start (c := (c : Thread nD τ)) EC Variants.none none (src := a2.slice (Rect.unit (s := S38016x112) o1 S704x112.size io1) (fun _ => rfl)) (dst := d9 j) (sm := .dma (q9 j)) (Sd := I9 c j) (ofs c a9 P) (ofs c a9 P') () N9 rfl (View.dmaCredit_pos _ (by decide)) (set9 c j).subset (fun fd _ => hP _ fun r k => copied_9 c j fd _ r k)) $$ HS
  iintro HF
  iapply Hk
  iapply HP
  isplitl [HF]
  · iexists _
    iexact HF
  iexact HW

/-- A copy into a slot of the ring waited for. -/
theorem waitV_9 {α : Type} {Q : α → sProp 𝕄} {s : SV F} (j : Fin 4) (P : Pr F S4x704x112 .bf16) (hj : s.s9 j = (true, P)) {o : Fin 3 → ℕ} (ho : o = ![j.val, 0, 0]) {io : ∀ a, o a + S1x704x112.size a ≤ S4x704x112.size a} {so : Fin 1 → ℕ} (hso : so = ![j.val]) {iso : ∀ a, so a + S1.size a ≤ S4.size a}
    {o1 : Fin 2 → ℕ} {io1 : ∀ a, o1 a + S704x112.size a ≤ S38016x112.size a}
    {h1 : _} {h2 : _} {k : PUnit → Prog (TpuEff nD τ sig (Elt F) Λ₀ .tc) α} :
    RV c V a3 a4 a5 s ⊢ iprop((RV c V a3 a4 a5 { s with s9 := Function.update s.s9 j (false, P) } -∗ Wk c (k ⟨⟩) Q)
      -∗ Wk c (.op (.waitDma2 ((cc0_scratch8.slice (Rect.unit (s := S4) so S1.size iso)).squeeze S_ squeezes_S1_S_).sem
          (a2.slice (Rect.unit (s := S38016x112) o1 S704x112.size io1) (fun _ => rfl))
          ((a9.slice (Rect.unit (s := S4x704x112) o S1x704x112.size io) (fun _ => rfl)).squeeze S704x112 squeezes_S1x704x112_S704x112) h1 h2) k) Q) := by
  subst ho hso
  iintro HP Hk
  ihave HP := (takeV9_tf c V a3 a4 a5 s j P P hj) $$ HP
  icases HP with ⟨⟨HS, HW⟩, HP⟩
  icases HS with ⟨%Sa, HS⟩
  iapply (Copy.wait (c := (c : Thread nD τ)) EC Variants.none none () (sem := q9 j) (srcw := a2.slice (Rect.unit (s := S38016x112) o1 S704x112.size io1) (fun _ => rfl)) (dstw := d9 j) (hsrc := h1) (hdst := h2) (N := N9) rfl) $$ [HS HW]
  · isplitl [HS]; · iexact HS
    iexact HW
  iintro HF
  iapply Hk
  iapply HP
  iexact HF

/-! ## The copy of `x` -/

theorem takeVX (s : SV F) (b b' : Bool × Pr F S256x3584 .bf16) (hx : s.x = b) : RV c V a3 a4 a5 s ⊢ iprop((StXV c V b ∗ OW c)
    ∗ ((StXV c V b' ∗ OW c) -∗ RV c V a3 a4 a5 { s with x := b' })) := by
  subst hx
  iintro HP
  ihave HP := (RV_x c V a3 a4 a5 s) $$ HP
  icases HP with ⟨H, HP⟩
  isplitl [H]; · iexact H
  iapply HP
theorem takeVX_ft (s : SV F) (P P' : Pr F S256x3584 .bf16) (hx : s.x = (false, P)) : RV c V a3 a4 a5 s ⊢ iprop((HXV c V P ∗ OW c)
    ∗ ((TXV c V P' ∗ OW c) -∗ RV c V a3 a4 a5 { s with x := (true, P') })) := takeVX c V a3 a4 a5 s _ (true, P') hx
theorem takeVX_tf (s : SV F) (P P' : Pr F S256x3584 .bf16) (hx : s.x = (true, P)) : RV c V a3 a4 a5 s ⊢ iprop((TXV c V P ∗ OW c)
    ∗ ((HXV c V P' ∗ OW c) -∗ RV c V a3 a4 a5 { s with x := (false, P') })) := takeVX c V a3 a4 a5 s _ (false, P') hx
theorem takeVX_ff (s : SV F) (P : Pr F S256x3584 .bf16) (hx : s.x = (false, P)) : RV c V a3 a4 a5 s ⊢ iprop((HXV c V P ∗ OW c)
    ∗ ((HXV c V P ∗ OW c) -∗ RV c V a3 a4 a5 s)) := by
  have h := takeVX c V a3 a4 a5 s _ (false, P) hx
  have e : ({ s with x := (false, P) } : SV F) = s := by rw [← hx]
  rw [e] at h
  exact h

theorem startV_x {α : Type} {Q : α → sProp 𝕄} {s : SV F} (P P' : Pr F S256x3584 .bf16) (hx : s.x = (false, P)) (hP : ∀ X, X = a0.view.read (Elt F) (V main_v0) → P' X)
    {h1 : _} {h2 : _} {h3 : _} {k : PUnit → Prog (TpuEff nD τ sig (Elt F) Λ₀ .tc) α} :
    RV c V a3 a4 a5 s ⊢ iprop((RV c V a3 a4 a5 { s with x := (true, P') } -∗ Wk c (k ⟨⟩) Q)
      -∗ Wk c (.op (.enqueueDma a0 (.here a6) (.dma cc0_scratch6.sem) h1 h2 h3) k) Q) := by
  iintro HP Hk
  ihave HP := (takeVX_ft c V a3 a4 a5 s P P' hx) $$ HP
  icases HP with ⟨⟨HS, HW⟩, HP⟩
  iapply (Copy.start (c := (c : Thread nD τ)) EC Variants.none none (src := a0) (dst := a6) (sm := .dma cc0_scratch6.sem) (Sd := Finset.univ) (ofs c a6 P) (ofs c a6 P') () N6 rfl (View.dmaCredit_pos _ (by decide)) (Finset.subset_univ _) (fun fd _ => hP _ (View.read_write_univ _ _))) $$ HS
  iintro HF
  iapply Hk
  iapply HP
  isplitl [HF]
  · iexists _
    iexact HF
  iexact HW

theorem waitV_x {α : Type} {Q : α → sProp 𝕄} {s : SV F} (P : Pr F S256x3584 .bf16) (hx : s.x = (true, P)) {h1 : _} {h2 : _} {k : PUnit → Prog (TpuEff nD τ sig (Elt F) Λ₀ .tc) α} :
    RV c V a3 a4 a5 s ⊢ iprop((RV c V a3 a4 a5 { s with x := (false, P) } -∗ Wk c (k ⟨⟩) Q)
      -∗ Wk c (.op (.waitDma2 cc0_scratch6.sem a0 a6 h1 h2) k) Q) := by
  iintro HP Hk
  ihave HP := (takeVX_tf c V a3 a4 a5 s P P hx) $$ HP
  icases HP with ⟨⟨HS, HW⟩, HP⟩
  icases HS with ⟨%Sa, HS⟩
  iapply (Copy.wait (c := (c : Thread nD τ)) EC Variants.none none () (N := N6) rfl) $$ [HS HW]
  · isplitl [HS]; · iexact HS
    iexact HW
  iintro HF
  iapply Hk
  iapply HP
  iexact HF

/-- A load of the copied `x`. -/
theorem loadV_6 {α : Type} {Q : α → sProp 𝕄} {s : SV F} (P : Pr F S256x3584 .bf16) (hx : s.x = (false, P)) {r : LoadRect S256x3584} {hl : a6.view.LoadsAt r} {k : (r.shape.Idx → Elt F .bf16) → Prog (TpuEff nD τ sig (Elt F) Λ₀ .tc) α} :
    RV c V a3 a4 a5 s ⊢ iprop((∀ v, ⌜∃ X, P X ∧ ∀ i, v i = X (r.idx i)⌝ -∗ RV c V a3 a4 a5 s -∗ Wk c (k v) Q) -∗ Wk c (.op (.load a6 r hl) k) Q) := by
  iintro HP Hk
  ihave HP := (takeVX_ff c V a3 a4 a5 s P hx) $$ HP
  icases HP with ⟨⟨⟨HA, HM, HS⟩, HW⟩, HP⟩
  unfold Copy.Held
  icases HM with ⟨%f, %hf, HM⟩
  iapply (wp_load (c := (c : Thread nD τ)) (m := a6) (S := Finset.univ) Variants.none none Set.univ (Finset.subset_univ _)) $$ HM
  iintro HM
  ispecialize Hk $$ %(a6.view.readAt (Elt F) r f)
  iapply Hk
  · ipureintro; exact ⟨a6.view.read (Elt F) f, hf, fun _ => rfl⟩
  iapply HP
  isplitl [HA HM HS]
  · isplitl [HA]; · iexact HA
    isplitl [HM]
    · iapply held_of f hf $$ HM
    iexact HS
  iexact HW

/-! ## The whole buffers -/

theorem keepV_a3 (s : SV F) : RV c V a3 a4 a5 s ⊢ iprop(hv c a3 s.p3 ∗ (hv c a3 s.p3 -∗ RV c V a3 a4 a5 s)) := by
  iintro HP
  ihave HP := (RV_a3 c V a3 a4 a5 s) $$ HP
  icases HP with ⟨HM, HP⟩
  isplitl [HM]; · iexact HM
  iapply HP
theorem setV_a3 (s : SV F) (P : Pr F S1x256 .i32) : RV c V a3 a4 a5 s ⊢ iprop(hv c a3 s.p3 ∗ (hv c a3 P -∗ RV c V a3 a4 a5 { s with p3 := P })) := by
  iintro HP
  ihave HP := (RV_a3 c V a3 a4 a5 s) $$ HP
  icases HP with ⟨HM, HP⟩
  isplitl [HM]; · iexact HM
  iapply HP
theorem keepV_a4 (s : SV F) : RV c V a3 a4 a5 s ⊢ iprop(hv c a4 s.p4 ∗ (hv c a4 s.p4 -∗ RV c V a3 a4 a5 s)) := by
  iintro HP
  ihave HP := (RV_a4 c V a3 a4 a5 s) $$ HP
  icases HP with ⟨HM, HP⟩
  isplitl [HM]; · iexact HM
  iapply HP
theorem setV_a4 (s : SV F) (P : Pr F S1x256 .f32) : RV c V a3 a4 a5 s ⊢ iprop(hv c a4 s.p4 ∗ (hv c a4 P -∗ RV c V a3 a4 a5 { s with p4 := P })) := by
  iintro HP
  ihave HP := (RV_a4 c V a3 a4 a5 s) $$ HP
  icases HP with ⟨HM, HP⟩
  isplitl [HM]; · iexact HM
  iapply HP
theorem keepV_a5 (s : SV F) : RV c V a3 a4 a5 s ⊢ iprop(hv c a5 s.p5 ∗ (hv c a5 s.p5 -∗ RV c V a3 a4 a5 s)) := by
  iintro HP
  ihave HP := (RV_a5 c V a3 a4 a5 s) $$ HP
  icases HP with ⟨HM, HP⟩
  isplitl [HM]; · iexact HM
  iapply HP
theorem setV_a5 (s : SV F) (P : Pr F S1x256 .f32) : RV c V a3 a4 a5 s ⊢ iprop(hv c a5 s.p5 ∗ (hv c a5 P -∗ RV c V a3 a4 a5 { s with p5 := P })) := by
  iintro HP
  ihave HP := (RV_a5 c V a3 a4 a5 s) $$ HP
  icases HP with ⟨HM, HP⟩
  isplitl [HM]; · iexact HM
  iapply HP
theorem keepV_a7 (s : SV F) : RV c V a3 a4 a5 s ⊢ iprop(hv c a7 s.p7 ∗ (hv c a7 s.p7 -∗ RV c V a3 a4 a5 s)) := by
  iintro HP
  ihave HP := (RV_a7 c V a3 a4 a5 s) $$ HP
  icases HP with ⟨HM, HP⟩
  isplitl [HM]; · iexact HM
  iapply HP
theorem setV_a7 (s : SV F) (P : Pr F S14x128x2x256 .bf16) : RV c V a3 a4 a5 s ⊢ iprop(hv c a7 s.p7 ∗ (hv c a7 P -∗ RV c V a3 a4 a5 { s with p7 := P })) := by
  iintro HP
  ihave HP := (RV_a7 c V a3 a4 a5 s) $$ HP
  icases HP with ⟨HM, HP⟩
  isplitl [HM]; · iexact HM
  iapply HP
theorem keepV_a10 (s : SV F) : RV c V a3 a4 a5 s ⊢ iprop(hv c a10 s.p10 ∗ (hv c a10 s.p10 -∗ RV c V a3 a4 a5 s)) := by
  iintro HP
  ihave HP := (RV_a10 c V a3 a4 a5 s) $$ HP
  icases HP with ⟨HM, HP⟩
  isplitl [HM]; · iexact HM
  iapply HP
theorem setV_a10 (s : SV F) (P : Pr F S2x176x2x128 .bf16) : RV c V a3 a4 a5 s ⊢ iprop(hv c a10 s.p10 ∗ (hv c a10 P -∗ RV c V a3 a4 a5 { s with p10 := P })) := by
  iintro HP
  ihave HP := (RV_a10 c V a3 a4 a5 s) $$ HP
  icases HP with ⟨HM, HP⟩
  isplitl [HM]; · iexact HM
  iapply HP
theorem keepV_a11 (s : SV F) : RV c V a3 a4 a5 s ⊢ iprop(hv c a11 s.p11 ∗ (hv c a11 s.p11 -∗ RV c V a3 a4 a5 s)) := by
  iintro HP
  ihave HP := (RV_a11 c V a3 a4 a5 s) $$ HP
  icases HP with ⟨HM, HP⟩
  isplitl [HM]; · iexact HM
  iapply HP
theorem setV_a11 (s : SV F) (P : Pr F S2x176x2x256 .bf16) : RV c V a3 a4 a5 s ⊢ iprop(hv c a11 s.p11 ∗ (hv c a11 P -∗ RV c V a3 a4 a5 { s with p11 := P })) := by
  iintro HP
  ihave HP := (RV_a11 c V a3 a4 a5 s) $$ HP
  icases HP with ⟨HM, HP⟩
  isplitl [HM]; · iexact HM
  iapply HP

end

end Cert.Proof.KernelIdeal
-- ==== Proof.OkV.lean ====
/-
  Programs of the idealized kernel that take its resource from one state to another, with what is known of every
  buffer's contents, composed.
-/
module

public import proofs.«01_k».proof.Proof.StepV

@[expose] public section

noncomputable section

namespace Cert.Proof.KernelIdeal

open Cert.KernelIdeal Cert.KernelIdeal.Gen Cert.Proof
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (c : Dev nD) (V : (b : Ref sig .tc) → Buf (Elt F) ((c : Thread nD τ).loc b))
variable (a3 : Memref sig .tc .vmem S1x256 .i32) (a4 a5 : Memref sig .tc .vmem S1x256 .f32)

/-- `p` runs from the state `s` to the state `s'`, its result satisfying `φ`. -/
def OkV (s s' : SV F) {α : Type} (p : PI F α) (φ : α → Prop) : Prop :=
  ∀ Q : α → sProp 𝕄, RV c V a3 a4 a5 s ⊢ iprop((∀ r, ⌜φ r⌝ -∗ RV c V a3 a4 a5 s' -∗ Q r) -∗ Wk c p Q)

variable {c V a3 a4 a5}

theorem OkV.ret {s : SV F} {α : Type} {a : α} {φ : α → Prop} (h : φ a) : OkV c V a3 a4 a5 s s (.ret a) φ := by
  intro Q
  iintro HR Hk
  iapply (wk_ret c Q a)
  ispecialize Hk $$ %a
  iapply Hk
  · ipureintro; exact h
  · iexact HR

theorem OkV.bind {s s' s'' : SV F} {α β : Type} {p : PI F α} {f : α → PI F β} {φ : α → Prop} {ψ : β → Prop}
    (h : OkV c V a3 a4 a5 s s' p φ) (hf : ∀ a, φ a → OkV c V a3 a4 a5 s' s'' (f a) ψ) : OkV c V a3 a4 a5 s s'' (p >>= f) ψ := by
  intro Q
  have e : Wk c (p >>= f) Q = Wk c p (fun a => Wk c (f a) Q) := wp_bind ..
  rw [e]
  have h1 := h (fun a => Wk c (f a) Q)
  iintro HR Hk
  iapply h1 $$ HR
  iintro %a %ha HR
  iapply (hf a ha Q) $$ HR
  iexact Hk

theorem OkV.mono {s s' : SV F} {α : Type} {p : PI F α} {φ ψ : α → Prop} (h : OkV c V a3 a4 a5 s s' p φ) (hφ : ∀ a, φ a → ψ a) : OkV c V a3 a4 a5 s s' p ψ := by
  intro Q
  iintro HR Hk
  iapply (h Q) $$ HR
  iintro %a %ha HR
  ispecialize Hk $$ %a
  iapply Hk
  · ipureintro; exact hφ a ha
  · iexact HR

/-- From a rule for one operation in front of any continuation. -/
theorem OkV.of_op {s s' : SV F} {β : Type} {e : TpuEff nD τ sig (Elt F) Λ₀ .tc β} {φ : β → Prop}
    (h : ∀ Q : β → sProp 𝕄, RV c V a3 a4 a5 s ⊢ iprop((∀ v, ⌜φ v⌝ -∗ RV c V a3 a4 a5 s' -∗ Wk c (.ret v : PI F β) Q) -∗ Wk c (.op e .ret) Q)) :
    OkV c V a3 a4 a5 s s' (Prog.lift e) φ := by
  intro Q
  iintro HR Hk
  iapply (h Q) $$ HR
  iintro %v %hv HR
  iapply (wk_ret c Q v)
  ispecialize Hk $$ %v
  iapply Hk
  · ipureintro; exact hv
  · iexact HR

theorem OkV.of_unit {s s' : SV F} {e : TpuEff nD τ sig (Elt F) Λ₀ .tc PUnit}
    (h : ∀ (Q : PUnit → sProp 𝕄), RV c V a3 a4 a5 s ⊢ iprop((RV c V a3 a4 a5 s' -∗ Wk c (.ret ⟨⟩ : PI F PUnit) Q) -∗ Wk c (.op e .ret) Q)) :
    OkV c V a3 a4 a5 s s' (Prog.lift e) yes := by
  refine OkV.of_op fun Q => ?_
  iintro HR Hk
  iapply (h Q) $$ HR
  iintro HR
  ispecialize Hk $$ %(⟨⟩ : PUnit)
  iapply Hk
  · ipureintro; trivial
  iexact HR

theorem OkV.assume {s : SV F} {P : Prop} {d : Decidable P} (h : P) {s' : SV F} {β : Type} {k : PLift P → PI F β} {φ : β → Prop}
    (hk : OkV c V a3 a4 a5 s s' (k ⟨h⟩) φ) : OkV c V a3 a4 a5 s s' (.op (.assume P d) k) φ := by
  intro Q
  iintro HR Hk
  iapply (wp_assume (defs := defs₀ (F := F)) (Q := Q) (k := k) Variants.none (c : Thread nD τ) none Set.univ h)
  iapply (hk Q) $$ HR
  iexact Hk

theorem OkV.pushRhs {s : SV F} {m : Mxu F} {q r : Fin 2} {tr : Bool} {φ : FTy} {v : FVec F (Mxu.STile 256) φ} (h : m.PushOk q r tr) :
    OkV c V a3 a4 a5 s s (m.pushRhs q r tr v) (fun m' => m' = m.pushed q r tr v) := by
  unfold Mxu.pushRhs
  exact OkV.assume h (OkV.ret rfl)

theorem OkV.exit {s : SV F} {m : Mxu F} (h : m.Drained) : OkV c V a3 a4 a5 s s (m.exit) yes := by
  unfold Mxu.exit
  exact OkV.assume h (OkV.ret trivial)

/-- A counted loop whose every trip keeps to an invariant. -/
theorem OkV.for {w : ℕ} {σ : Type} (lb ub st : BitVec w) (hok : Scf.OK lb ub st) (init : σ) (body : Fin (Scf.trips lb ub st) → σ → PI F σ)
    (fl : ℕ → SV F) (I : ℕ → σ → Prop) (h0 : I 0 init)
    (hb : ∀ (k : Fin (Scf.trips lb ub st)) (acc : σ), I k.val acc → OkV c V a3 a4 a5 (fl k.val) (fl (k.val + 1)) (body k acc) (I (k.val + 1))) :
    OkV c V a3 a4 a5 (fl 0) (fl (Scf.trips lb ub st)) (Scf.for lb ub st hok init body) (I (Scf.trips lb ub st)) := by
  intro Q
  have h := Scf.wp_for (M := 𝕄) frame (wpE (defs₀ (F := F)) Variants.none (c : Thread nD τ) none) Set.univ lb ub st hok init body
    (fun n acc => iprop(⌜I n acc⌝ ∗ RV c V a3 a4 a5 (fl n))) (fun k acc => by
      iintro ⟨%hI, HR⟩
      iapply (hb k acc hI (fun r => iprop(⌜I (k.val + 1) r⌝ ∗ RV c V a3 a4 a5 (fl (k.val + 1))))) $$ HR
      iintro %r %hr HR
      isplitr; · ipureintro; exact hr
      iexact HR) (Q := Q)
  iintro HR Hk
  iapply h
  isplitl [HR]
  · isplitr; · ipureintro; exact h0
    iexact HR
  iintro %acc ⟨%hI, HR⟩
  ispecialize Hk $$ %acc
  iapply Hk
  · ipureintro; exact hI
  · iexact HR

/-! ## Knowing less -/

/-- Conditions that follow, the same copies running. -/
structure SV.Le (s t : SV F) : Prop where
  x : s.x.1 = t.x.1 ∧ ∀ X, s.x.2 X → t.x.2 X
  s8 : ∀ j, (s.s8 j).1 = (t.s8 j).1 ∧ ∀ X, (s.s8 j).2 X → (t.s8 j).2 X
  s9 : ∀ j, (s.s9 j).1 = (t.s9 j).1 ∧ ∀ X, (s.s9 j).2 X → (t.s9 j).2 X
  p3 : ∀ X, s.p3 X → t.p3 X
  p4 : ∀ X, s.p4 X → t.p4 X
  p5 : ∀ X, s.p5 X → t.p5 X
  p7 : ∀ X, s.p7 X → t.p7 X
  p10 : ∀ X, s.p10 X → t.p10 X
  p11 : ∀ X, s.p11 X → t.p11 X

theorem hv_mono {sp : Space} {s : Shape} {e : EltTy} {M : Memref sig .tc sp s e} {P P' : Pr F s e} (h : ∀ X, P X → P' X) : hv c M P ⊢ hv c M P' := by
  unfold hv
  iintro ⟨%f, %hf, H⟩
  iexists f
  isplitr; · ipureintro; exact h _ hf
  iexact H

theorem held_mono {b : Loc nD τ sig} {S : Finset (Idx b)} {P P' : Buf (Elt F) b → Prop} (h : ∀ f, P f → P' f) : Copy.Held (Name := ℕ) (U := Pipeline.UD sig nD τ) (Lvl := ℕ) (Ix := Unit) b S P ⊢ Copy.Held b S P' := by
  unfold Copy.Held
  iintro ⟨%f, %hf, H⟩
  iexists f
  isplitr; · ipureintro; exact h _ hf
  iexact H

theorem fly_mono {sm : SemLoc sig} {N : ℕ} {a : Loc nD τ sig} {Sa : Finset (Idx a)} {q : PosShare TreeShare} {fs : Buf (Elt F) a}
    {b : Loc nD τ sig} {Sd : Finset (Idx b)} {P P' : Buf (Elt F) b → Prop} (h : ∀ f, P f → P' f) :
    Copy.Fly EC (c : Thread nD τ) sm () N a Sa q fs b Sd P ⊢ Copy.Fly EC (c : Thread nD τ) sm () N a Sa q fs b Sd P' := by
  unfold Copy.Fly
  iintro ⟨HF, HR⟩
  isplitl [HF]
  · iapply (Flight_mono (EC := EC) (c := (c : Thread nD τ)) ?_) $$ HF
    iintro ⟨H1, H2⟩
    isplitl [H1]; · iapply (held_mono h) $$ H1
    iexact H2
  iexact HR

theorem st8_mono (j : Fin 4) {u v : Bool × Pr F S4x704x1792 .i8} (h : u.1 = v.1 ∧ ∀ X, u.2 X → v.2 X) : St8V c V j u ⊢ St8V c V j v := by
  obtain ⟨b, P⟩ := u
  obtain ⟨b', P'⟩ := v
  obtain ⟨h1, h2⟩ := h
  change b = b' at h1
  subst h1
  match b with
  | false =>
    change H8V c V j P ⊢ H8V c V j P'
    iintro ⟨H1, H2, H3⟩
    isplitl [H1]; · iexact H1
    isplitl [H2]; · iapply (held_mono fun f => h2 _) $$ H2
    iexact H3
  | true =>
    change T8V c V j P ⊢ T8V c V j P'
    iintro ⟨%Sa, H⟩
    iexists Sa
    iapply (fly_mono fun f => h2 _) $$ H

theorem four8_mono {u v : Fin 4 → Bool × Pr F S4x704x1792 .i8} (h : ∀ j, (u j).1 = (v j).1 ∧ ∀ X, (u j).2 X → (v j).2 X) : FourV (St8V c V) u ⊢ FourV (St8V c V) v := by
  unfold FourV
  iintro ⟨H0, H1, H2, H3⟩
  isplitl [H0]; · iapply (st8_mono 0 (h 0)) $$ H0
  isplitl [H1]; · iapply (st8_mono 1 (h 1)) $$ H1
  isplitl [H2]; · iapply (st8_mono 2 (h 2)) $$ H2
  iapply (st8_mono 3 (h 3)) $$ H3

theorem st9_mono (j : Fin 4) {u v : Bool × Pr F S4x704x112 .bf16} (h : u.1 = v.1 ∧ ∀ X, u.2 X → v.2 X) : St9V c V j u ⊢ St9V c V j v := by
  obtain ⟨b, P⟩ := u
  obtain ⟨b', P'⟩ := v
  obtain ⟨h1, h2⟩ := h
  change b = b' at h1
  subst h1
  match b with
  | false =>
    change H9V c V j P ⊢ H9V c V j P'
    iintro ⟨H1, H2, H3⟩
    isplitl [H1]; · iexact H1
    isplitl [H2]; · iapply (held_mono fun f => h2 _) $$ H2
    iexact H3
  | true =>
    change T9V c V j P ⊢ T9V c V j P'
    iintro ⟨%Sa, H⟩
    iexists Sa
    iapply (fly_mono fun f => h2 _) $$ H

theorem four9_mono {u v : Fin 4 → Bool × Pr F S4x704x112 .bf16} (h : ∀ j, (u j).1 = (v j).1 ∧ ∀ X, (u j).2 X → (v j).2 X) : FourV (St9V c V) u ⊢ FourV (St9V c V) v := by
  unfold FourV
  iintro ⟨H0, H1, H2, H3⟩
  isplitl [H0]; · iapply (st9_mono 0 (h 0)) $$ H0
  isplitl [H1]; · iapply (st9_mono 1 (h 1)) $$ H1
  isplitl [H2]; · iapply (st9_mono 2 (h 2)) $$ H2
  iapply (st9_mono 3 (h 3)) $$ H3

theorem stX_mono {u v : Bool × Pr F S256x3584 .bf16} (h : u.1 = v.1 ∧ ∀ X, u.2 X → v.2 X) : StXV c V u ⊢ StXV c V v := by
  obtain ⟨b, P⟩ := u
  obtain ⟨b', P'⟩ := v
  obtain ⟨h1, h2⟩ := h
  change b = b' at h1
  subst h1
  match b with
  | false =>
    change HXV c V P ⊢ HXV c V P'
    iintro ⟨H1, H2, H3⟩
    isplitl [H1]; · iexact H1
    isplitl [H2]; · iapply (held_mono fun f => h2 _) $$ H2
    iexact H3
  | true =>
    change TXV c V P ⊢ TXV c V P'
    iintro ⟨%Sa, H⟩
    iexists Sa
    iapply (fly_mono fun f => h2 _) $$ H

theorem RV_mono {s t : SV F} (h : s.Le t) : RV c V a3 a4 a5 s ⊢ RV c V a3 a4 a5 t := by
  unfold RV
  iintro ⟨Ha3, Ha4, Ha5, Hx, Ha7, Hs8, Hs9, Ha10, Ha11, HW⟩
  isplitl [Ha3]; · iapply (hv_mono h.p3) $$ Ha3
  isplitl [Ha4]; · iapply (hv_mono h.p4) $$ Ha4
  isplitl [Ha5]; · iapply (hv_mono h.p5) $$ Ha5
  isplitl [Hx]; · iapply (stX_mono h.x) $$ Hx
  isplitl [Ha7]; · iapply (hv_mono h.p7) $$ Ha7
  isplitl [Hs8]; · iapply (four8_mono h.s8) $$ Hs8
  isplitl [Hs9]; · iapply (four9_mono h.s9) $$ Hs9
  isplitl [Ha10]; · iapply (hv_mono h.p10) $$ Ha10
  isplitl [Ha11]; · iapply (hv_mono h.p11) $$ Ha11
  iexact HW

theorem OkV.pre {s s₀ s' : SV F} {α : Type} {p : PI F α} {φ : α → Prop} (hl : s.Le s₀) (h : OkV c V a3 a4 a5 s₀ s' p φ) : OkV c V a3 a4 a5 s s' p φ := by
  intro Q
  iintro HR Hk
  ihave HR := (RV_mono hl) $$ HR
  iapply (h Q) $$ HR
  iexact Hk

theorem OkV.post {s s₀ s' : SV F} {α : Type} {p : PI F α} {φ : α → Prop} (hl : s₀.Le s') (h : OkV c V a3 a4 a5 s s₀ p φ) : OkV c V a3 a4 a5 s s' p φ := by
  intro Q
  iintro HR Hk
  iapply (h Q) $$ HR
  iintro %r %hr HR
  ihave HR := (RV_mono hl) $$ HR
  ispecialize Hk $$ %r
  iapply Hk
  · ipureintro; exact hr
  iexact HR

/-! ## The operations -/

/-- What a load read. -/
abbrev Seen {s : Shape} {e : EltTy} (P : Pr F s e) (r : LoadRect s) (v : r.shape.Idx → Elt F e) : Prop := ∃ X, P X ∧ ∀ i, v i = X (r.idx i)

theorem okV_load_a3 {s : SV F} {r : LoadRect S1x256} {hl : a3.view.LoadsAt r} : OkV c V a3 a4 a5 s s (Prog.lift (.load a3 r hl)) (Seen s.p3 r) :=
  OkV.of_op fun _ => load_hv c (keepV_a3 c V a3 a4 a5 s)
theorem okV_store_a3 {s : SV F} (P : Pr F S1x256 .i32) {r : Rect S1x256} {w : r.shape.Idx → Elt F .i32} {hx : (a3.access r).Stores Finset.univ} {hm : Finset.univ = Finset.univ ∨ _}
    (hP : ∀ X X' : S1x256.Idx → Elt F .i32, s.p3 X → (∀ x, X' (r.emb x) = w x) → (∀ y, (∀ x, r.emb x ≠ y) → X' y = X y) → P X') :
    OkV c V a3 a4 a5 s { s with p3 := P } (Prog.lift (.store a3 r w Finset.univ hx hm)) yes :=
  OkV.of_unit fun _ => store_hv c (setV_a3 c V a3 a4 a5 s P) hP
theorem okV_load_a4 {s : SV F} {r : LoadRect S1x256} {hl : a4.view.LoadsAt r} : OkV c V a3 a4 a5 s s (Prog.lift (.load a4 r hl)) (Seen s.p4 r) :=
  OkV.of_op fun _ => load_hv c (keepV_a4 c V a3 a4 a5 s)
theorem okV_store_a4 {s : SV F} (P : Pr F S1x256 .f32) {r : Rect S1x256} {w : r.shape.Idx → Elt F .f32} {hx : (a4.access r).Stores Finset.univ} {hm : Finset.univ = Finset.univ ∨ _}
    (hP : ∀ X X' : S1x256.Idx → Elt F .f32, s.p4 X → (∀ x, X' (r.emb x) = w x) → (∀ y, (∀ x, r.emb x ≠ y) → X' y = X y) → P X') :
    OkV c V a3 a4 a5 s { s with p4 := P } (Prog.lift (.store a4 r w Finset.univ hx hm)) yes :=
  OkV.of_unit fun _ => store_hv c (setV_a4 c V a3 a4 a5 s P) hP
theorem okV_load_a5 {s : SV F} {r : LoadRect S1x256} {hl : a5.view.LoadsAt r} : OkV c V a3 a4 a5 s s (Prog.lift (.load a5 r hl)) (Seen s.p5 r) :=
  OkV.of_op fun _ => load_hv c (keepV_a5 c V a3 a4 a5 s)
theorem okV_store_a5 {s : SV F} (P : Pr F S1x256 .f32) {r : Rect S1x256} {w : r.shape.Idx → Elt F .f32} {hx : (a5.access r).Stores Finset.univ} {hm : Finset.univ = Finset.univ ∨ _}
    (hP : ∀ X X' : S1x256.Idx → Elt F .f32, s.p5 X → (∀ x, X' (r.emb x) = w x) → (∀ y, (∀ x, r.emb x ≠ y) → X' y = X y) → P X') :
    OkV c V a3 a4 a5 s { s with p5 := P } (Prog.lift (.store a5 r w Finset.univ hx hm)) yes :=
  OkV.of_unit fun _ => store_hv c (setV_a5 c V a3 a4 a5 s P) hP
theorem okV_load_a7 {s : SV F} {r : LoadRect S14x128x2x256} {hl : a7.view.LoadsAt r} : OkV c V a3 a4 a5 s s (Prog.lift (.load a7 r hl)) (Seen s.p7 r) :=
  OkV.of_op fun _ => load_hv c (keepV_a7 c V a3 a4 a5 s)
theorem okV_store_a7 {s : SV F} (P : Pr F S14x128x2x256 .bf16) {r : Rect S14x128x2x256} {w : r.shape.Idx → Elt F .bf16} {hx : (a7.access r).Stores Finset.univ} {hm : Finset.univ = Finset.univ ∨ _}
    (hP : ∀ X X' : S14x128x2x256.Idx → Elt F .bf16, s.p7 X → (∀ x, X' (r.emb x) = w x) → (∀ y, (∀ x, r.emb x ≠ y) → X' y = X y) → P X') :
    OkV c V a3 a4 a5 s { s with p7 := P } (Prog.lift (.store a7 r w Finset.univ hx hm)) yes :=
  OkV.of_unit fun _ => store_hv c (setV_a7 c V a3 a4 a5 s P) hP
theorem okV_load_a10 {s : SV F} {r : LoadRect S2x176x2x128} {hl : a10.view.LoadsAt r} : OkV c V a3 a4 a5 s s (Prog.lift (.load a10 r hl)) (Seen s.p10 r) :=
  OkV.of_op fun _ => load_hv c (keepV_a10 c V a3 a4 a5 s)
theorem okV_store_a10 {s : SV F} (P : Pr F S2x176x2x128 .bf16) {r : Rect S2x176x2x128} {w : r.shape.Idx → Elt F .bf16} {hx : (a10.access r).Stores Finset.univ} {hm : Finset.univ = Finset.univ ∨ _}
    (hP : ∀ X X' : S2x176x2x128.Idx → Elt F .bf16, s.p10 X → (∀ x, X' (r.emb x) = w x) → (∀ y, (∀ x, r.emb x ≠ y) → X' y = X y) → P X') :
    OkV c V a3 a4 a5 s { s with p10 := P } (Prog.lift (.store a10 r w Finset.univ hx hm)) yes :=
  OkV.of_unit fun _ => store_hv c (setV_a10 c V a3 a4 a5 s P) hP
theorem okV_load_a11 {s : SV F} {r : LoadRect S2x176x2x256} {hl : a11.view.LoadsAt r} : OkV c V a3 a4 a5 s s (Prog.lift (.load a11 r hl)) (Seen s.p11 r) :=
  OkV.of_op fun _ => load_hv c (keepV_a11 c V a3 a4 a5 s)
theorem okV_store_a11 {s : SV F} (P : Pr F S2x176x2x256 .bf16) {r : Rect S2x176x2x256} {w : r.shape.Idx → Elt F .bf16} {hx : (a11.access r).Stores Finset.univ} {hm : Finset.univ = Finset.univ ∨ _}
    (hP : ∀ X X' : S2x176x2x256.Idx → Elt F .bf16, s.p11 X → (∀ x, X' (r.emb x) = w x) → (∀ y, (∀ x, r.emb x ≠ y) → X' y = X y) → P X') :
    OkV c V a3 a4 a5 s { s with p11 := P } (Prog.lift (.store a11 r w Finset.univ hx hm)) yes :=
  OkV.of_unit fun _ => store_hv c (setV_a11 c V a3 a4 a5 s P) hP

/-- The rows a copy from row `b` brings. -/
abbrev Came8 (V : (b : Ref sig .tc) → Buf (Elt F) ((c : Thread nD τ).loc b)) (j : Fin 4) (o1 : Fin 2 → ℕ) (io1 : ∀ a, o1 a + S704x1792.size a ≤ S38016x1792.size a) (X : S4x704x1792.Idx → Elt F .i8) : Prop :=
  ∀ (r : Fin 704) (k : Fin 1792), X (ix3 j r k) = a1.view.read (Elt F) (V main_arg1) ((Rect.unit (s := S38016x1792) o1 S704x1792.size io1).emb (ix2 r k))
abbrev Came9 (V : (b : Ref sig .tc) → Buf (Elt F) ((c : Thread nD τ).loc b)) (j : Fin 4) (o1 : Fin 2 → ℕ) (io1 : ∀ a, o1 a + S704x112.size a ≤ S38016x112.size a) (X : S4x704x112.Idx → Elt F .bf16) : Prop :=
  ∀ (r : Fin 704) (k : Fin 112), X (ix3 j r k) = a2.view.read (Elt F) (V main_arg2) ((Rect.unit (s := S38016x112) o1 S704x112.size io1).emb (ix2 r k))

theorem okV_load_6 {s : SV F} (hx : s.x.1 = false) {r : LoadRect S256x3584} {hl : a6.view.LoadsAt r} : OkV c V a3 a4 a5 s s (Prog.lift (.load a6 r hl)) (Seen s.x.2 r) :=
  OkV.of_op fun _ => loadV_6 c V a3 a4 a5 s.x.2 (Prod.ext hx rfl)
theorem okV_start_x {s : SV F} (P' : Pr F S256x3584 .bf16) (hx : s.x.1 = false) (hP : ∀ X, X = a0.view.read (Elt F) (V main_v0) → P' X) {h1 : _} {h2 : _} {h3 : _} :
    OkV c V a3 a4 a5 s { s with x := (true, P') } (Prog.lift (.enqueueDma a0 (.here a6) (.dma cc0_scratch6.sem) h1 h2 h3)) yes :=
  OkV.of_unit fun _ => startV_x c V a3 a4 a5 s.x.2 P' (Prod.ext hx rfl) hP
theorem okV_wait_x {s : SV F} (hx : s.x.1 = true) {h1 : _} {h2 : _} :
    OkV c V a3 a4 a5 s { s with x := (false, s.x.2) } (Prog.lift (.waitDma2 cc0_scratch6.sem a0 a6 h1 h2)) yes :=
  OkV.of_unit fun _ => waitV_x c V a3 a4 a5 s.x.2 (Prod.ext hx rfl)

theorem okV_load_8 {s : SV F} (j : Fin 4) (hj : (s.s8 j).1 = false) {r : LoadRect S4x704x1792} (hr : r.set ⊆ (R8 j).set) {hl : a8.view.LoadsAt r} :
    OkV c V a3 a4 a5 s s (Prog.lift (.load a8 r hl)) (Seen (s.s8 j).2 r) :=
  OkV.of_op fun _ => loadV_8 c V a3 a4 a5 j (s.s8 j).2 (Prod.ext hj rfl) hr
theorem okV_start_8 {s : SV F} (j : Fin 4) (P' : Pr F S4x704x1792 .i8) (hj : (s.s8 j).1 = false) {o : Fin 3 → ℕ} (ho : o = ![j.val, 0, 0]) {io : ∀ a, o a + S1x704x1792.size a ≤ S4x704x1792.size a} {so : Fin 1 → ℕ} (hso : so = ![j.val]) {iso : ∀ a, so a + S1.size a ≤ S4.size a} {o1 : Fin 2 → ℕ} {io1 : ∀ a, o1 a + S704x1792.size a ≤ S38016x1792.size a} (hP : ∀ X, Came8 V j o1 io1 X → P' X)
    {h1 : _} {h2 : _} {h3 : _} : OkV c V a3 a4 a5 s { s with s8 := Function.update s.s8 j (true, P') } (Prog.lift (.enqueueDma (a1.slice (Rect.unit (s := S38016x1792) o1 S704x1792.size io1) (fun _ => rfl)) (.here ((a8.slice (Rect.unit (s := S4x704x1792) o S1x704x1792.size io) (fun _ => rfl)).squeeze S704x1792 squeezes_S1x704x1792_S704x1792)) (.dma ((cc0_scratch7.slice (Rect.unit (s := S4) so S1.size iso)).squeeze S_ squeezes_S1_S_).sem) h1 h2 h3)) yes :=
  OkV.of_unit fun _ => startV_8 c V a3 a4 a5 j (s.s8 j).2 P' (Prod.ext hj rfl) ho hso hP
theorem okV_wait_8 {s : SV F} (j : Fin 4) (hj : (s.s8 j).1 = true) {o : Fin 3 → ℕ} (ho : o = ![j.val, 0, 0]) {io : ∀ a, o a + S1x704x1792.size a ≤ S4x704x1792.size a} {so : Fin 1 → ℕ} (hso : so = ![j.val]) {iso : ∀ a, so a + S1.size a ≤ S4.size a} {o1 : Fin 2 → ℕ} {io1 : ∀ a, o1 a + S704x1792.size a ≤ S38016x1792.size a}
    {h1 : _} {h2 : _} : OkV c V a3 a4 a5 s { s with s8 := Function.update s.s8 j (false, (s.s8 j).2) } (Prog.lift (.waitDma2 ((cc0_scratch7.slice (Rect.unit (s := S4) so S1.size iso)).squeeze S_ squeezes_S1_S_).sem (a1.slice (Rect.unit (s := S38016x1792) o1 S704x1792.size io1) (fun _ => rfl)) ((a8.slice (Rect.unit (s := S4x704x1792) o S1x704x1792.size io) (fun _ => rfl)).squeeze S704x1792 squeezes_S1x704x1792_S704x1792) h1 h2)) yes :=
  OkV.of_unit fun _ => waitV_8 c V a3 a4 a5 j (s.s8 j).2 (Prod.ext hj rfl) ho hso

theorem okV_load_9 {s : SV F} (j : Fin 4) (hj : (s.s9 j).1 = false) {r : LoadRect S4x704x112} (hr : r.set ⊆ (R9 j).set) {hl : a9.view.LoadsAt r} :
    OkV c V a3 a4 a5 s s (Prog.lift (.load a9 r hl)) (Seen (s.s9 j).2 r) :=
  OkV.of_op fun _ => loadV_9 c V a3 a4 a5 j (s.s9 j).2 (Prod.ext hj rfl) hr
theorem okV_start_9 {s : SV F} (j : Fin 4) (P' : Pr F S4x704x112 .bf16) (hj : (s.s9 j).1 = false) {o : Fin 3 → ℕ} (ho : o = ![j.val, 0, 0]) {io : ∀ a, o a + S1x704x112.size a ≤ S4x704x112.size a} {so : Fin 1 → ℕ} (hso : so = ![j.val]) {iso : ∀ a, so a + S1.size a ≤ S4.size a} {o1 : Fin 2 → ℕ} {io1 : ∀ a, o1 a + S704x112.size a ≤ S38016x112.size a} (hP : ∀ X, Came9 V j o1 io1 X → P' X)
    {h1 : _} {h2 : _} {h3 : _} : OkV c V a3 a4 a5 s { s with s9 := Function.update s.s9 j (true, P') } (Prog.lift (.enqueueDma (a2.slice (Rect.unit (s := S38016x112) o1 S704x112.size io1) (fun _ => rfl)) (.here ((a9.slice (Rect.unit (s := S4x704x112) o S1x704x112.size io) (fun _ => rfl)).squeeze S704x112 squeezes_S1x704x112_S704x112)) (.dma ((cc0_scratch8.slice (Rect.unit (s := S4) so S1.size iso)).squeeze S_ squeezes_S1_S_).sem) h1 h2 h3)) yes :=
  OkV.of_unit fun _ => startV_9 c V a3 a4 a5 j (s.s9 j).2 P' (Prod.ext hj rfl) ho hso hP
theorem okV_wait_9 {s : SV F} (j : Fin 4) (hj : (s.s9 j).1 = true) {o : Fin 3 → ℕ} (ho : o = ![j.val, 0, 0]) {io : ∀ a, o a + S1x704x112.size a ≤ S4x704x112.size a} {so : Fin 1 → ℕ} (hso : so = ![j.val]) {iso : ∀ a, so a + S1.size a ≤ S4.size a} {o1 : Fin 2 → ℕ} {io1 : ∀ a, o1 a + S704x112.size a ≤ S38016x112.size a}
    {h1 : _} {h2 : _} : OkV c V a3 a4 a5 s { s with s9 := Function.update s.s9 j (false, (s.s9 j).2) } (Prog.lift (.waitDma2 ((cc0_scratch8.slice (Rect.unit (s := S4) so S1.size iso)).squeeze S_ squeezes_S1_S_).sem (a2.slice (Rect.unit (s := S38016x112) o1 S704x112.size io1) (fun _ => rfl)) ((a9.slice (Rect.unit (s := S4x704x112) o S1x704x112.size io) (fun _ => rfl)).squeeze S704x112 squeezes_S1x704x112_S704x112) h1 h2)) yes :=
  OkV.of_unit fun _ => waitV_9 c V a3 a4 a5 j (s.s9 j).2 (Prod.ext hj rfl) ho hso

end

end Cert.Proof.KernelIdeal
-- ==== Proof.ValI.lean ====
/-
  The vectors of the kernel's trip at an index, over the extended reals.
-/
module

public import proofs.«01_k».proof.Proof.TripI
public import proofs.«01_k».proof.Proof.TripMxu
public import Idealize.ShloMosaic.Lib.Pointwise
public import Idealize.ShloMosaic.Lib.BitcastPair

@[expose] public section

noncomputable section

namespace Cert.Proof.KernelIdeal

open Cert.KernelIdeal Cert.KernelIdeal.Gen Cert.Proof.Trip
open Idealize.ShloMosaic Idealize.ShloMosaic.TcCoe Idealize.SL.Sem

theorem wideVal_apply (raw : Vec Ideal S1x16x2x256 .bf16) (r : Fin 32) (j : Fin 256) :
    wideVal raw (ix2 r j) = raw (ix4 (0 : Fin 1) (⟨r.val / 2, by omega⟩ : Fin 16) (⟨r.val % 2, by omega⟩ : Fin 2) j) := by
  unfold wideVal
  pointwise
  split
  next h => congr 2; exact Fin.ext h.symm
  next h => congr 2; exact Fin.ext (by show 1 = r.val % 2; omega)

theorem tileVal_apply (raw : Vec Ideal S1x128x2x256 .bf16) (r : Fin 256) (j : Fin 256) :
    tileVal raw (ix2 r j) = raw (ix4 (0 : Fin 1) (⟨r.val / 2, by omega⟩ : Fin 128) (⟨r.val % 2, by omega⟩ : Fin 2) j) := by
  unfold tileVal
  pointwise
  split
  next h => congr 2; exact Fin.ext h.symm
  next h => congr 2; exact Fin.ext (by show 1 = r.val % 2; omega)

theorem prod_apply (l : FVec Ideal A32 .bf16) (t : FVec Ideal (Mxu.STile 256) .bf16) (r : Fin 32) (a : Fin 256) :
    prod l t (ix2 r a) = ∑ j : Fin 256, l (ix2 r j) * t (ix2 a j) := by
  have e : prod l t (ix2 r a) = Host.dotGeneral (DotDims.transposedRhs 32 256 256) none l t (ix2 r a) := by
    simp only [Host.dotGeneral]
    rw [Ideal.dotGeneral_apply]; rfl
  rw [e]
  pointwise

/-- The word four bytes make, read at a bit. -/
theorem down_bit (q : IVec A32 8) (r : Fin 32) (j : Fin 256) (i : ℕ) (hi : i < 8) :
    (bitcast A8 32 q bc_down (ix2 (⟨r.val / 4, by omega⟩ : Fin 8) j)).getLsbD (8 * (r.val % 4) + i) = (q (ix2 r j)).getLsbD i := by
  rw [bitcast_getLsbD _ _ _ _ (by omega) (by decide)]
  have e1 : (A8.row (ix2 (⟨r.val / 4, by omega⟩ : Fin 8) j) * 32 + (8 * (r.val % 4) + i)) / 8 = r.val := by
    show (r.val / 4 * 32 + (8 * (r.val % 4) + i)) / 8 = r.val
    omega
  have e2 : (A8.row (ix2 (⟨r.val / 4, by omega⟩ : Fin 8) j) * 32 + (8 * (r.val % 4) + i)) % 8 = i := by
    show (r.val / 4 * 32 + (8 * (r.val % 4) + i)) % 8 = i
    omega
  rw [e2]
  congr 2
  funext a
  apply Fin.ext
  match a with
  | 0 => exact e1
  | 1 => rfl

theorem up_bit (w : IVec A8 32) (r : Fin 32) (j : Fin 256) (i : ℕ) (hi : i < 8) :
    (bitcast A32 8 w bc_up (ix2 r j)).getLsbD i = (w (ix2 (⟨r.val / 4, by omega⟩ : Fin 8) j)).getLsbD (8 * (r.val % 4) + i) := by
  rw [bitcast_getLsbD _ _ _ _ hi (by decide)]
  have e1 : (A32.row (ix2 r j) * 8 + i) / 32 = r.val / 4 := by
    show (r.val * 8 + i) / 32 = r.val / 4
    omega
  have e2 : (A32.row (ix2 r j) * 8 + i) % 32 = 8 * (r.val % 4) + i := by
    show (r.val * 8 + i) % 32 = _
    omega
  rw [e2]
  congr 2
  funext a
  apply Fin.ext
  match a with
  | 0 => exact e1
  | 1 => rfl

theorem mask_bit (k i : ℕ) (hk : k < 4) (hi : i < 8) : (252645135#32).getLsbD (8 * k + i) = decide (i < 4) := by
  revert i; revert k; decide

theorem lo_byte (q : IVec A32 8) (r : Fin 32) (j : Fin 256) :
    bitcast A32 8 (andi (bitcast A8 32 q bc_down) (broadcast A8 252645135#32)) bc_up (ix2 r j) = q (ix2 r j) &&& 15#8 := by
  apply BitVec.eq_of_getLsbD_eq
  intro i hi
  rw [up_bit _ _ _ _ hi]
  show ((bitcast A8 32 q bc_down (ix2 (⟨r.val / 4, by omega⟩ : Fin 8) j)) &&& 252645135#32).getLsbD _ = _
  rw [BitVec.getLsbD_and, BitVec.getLsbD_and, down_bit _ _ _ _ hi, mask_bit _ _ (by omega) hi]
  congr 1
  revert i; decide

theorem hi_byte (q : IVec A32 8) (r : Fin 32) (j : Fin 256) :
    bitcast A32 8 (andi (shrui (bitcast A8 32 q bc_down) (broadcast A8 4#32)) (broadcast A8 252645135#32)) bc_up (ix2 r j) = q (ix2 r j) >>> 4 := by
  apply BitVec.eq_of_getLsbD_eq
  intro i hi
  rw [up_bit _ _ _ _ hi]
  show ((IntOp.shrui .vector (bitcast A8 32 q bc_down (ix2 (⟨r.val / 4, by omega⟩ : Fin 8) j)) 4#32) &&& 252645135#32).getLsbD _ = _
  have e : ∀ w : BitVec 32, IntOp.shrui .vector w 4#32 = w >>> 4 := by intro w; rfl
  rw [e]
  rw [BitVec.getLsbD_and, mask_bit _ _ (by omega) hi, BitVec.getLsbD_ushiftRight, BitVec.getLsbD_ushiftRight]
  by_cases h : i < 4
  · rw [show 4 + (8 * (r.val % 4) + i) = 8 * (r.val % 4) + (4 + i) by omega, down_bit _ _ _ _ (by omega)]
    simp [h]
  · simp only [h, decide_false, Bool.and_false]
    exact (BitVec.getLsbD_of_ge _ _ (by omega)).symm

/-- The low (0) or the high (1) four bits of a byte. -/
def nib (q : Fin 2) (w : BitVec 8) : ℕ := match q with | 0 => w.toNat % 16 | 1 => w.toNat / 16

/-- A nibble less eight. -/
def dq (q : Fin 2) (w : BitVec 8) : EReal := ((nib q w : ℝ) : EReal) - Ideal.ofBits .bf16 0x4100#16

theorem toInt_lo (w : BitVec 8) : (w &&& 15#8).toInt = (nib 0 w : ℤ) := by revert w; decide
theorem toInt_hi (w : BitVec 8) : (w >>> 4).toInt = (nib 1 w : ℤ) := by revert w; decide

theorem dqLo_apply (q : IVec A32 8) (sc : FVec Ideal A32 .bf16) (r : Fin 32) (j : Fin 256) :
    dqLo q sc (ix2 r j) = dq 0 (q (ix2 r j)) * sc (ix2 r j) := by
  unfold dqLo
  pointwise
  rw [lo_byte]
  show ((((_ : BitVec 8).toInt : ℝ) : EReal) - _) * _ = _
  rw [toInt_lo]
  rfl

theorem dqHi_apply (q : IVec A32 8) (sc : FVec Ideal A32 .bf16) (r : Fin 32) (j : Fin 256) :
    dqHi q sc (ix2 r j) = dq 1 (q (ix2 r j)) * sc (ix2 r j) := by
  unfold dqHi
  pointwise
  rw [hi_byte]
  show ((((_ : BitVec 8).toInt : ℝ) : EReal) - _) * _ = _
  rw [toInt_hi]
  rfl

theorem rows_apply (l : FVec Ideal A32 .f32) (q : Fin 4) (r : Fin 8) (a : Fin 256) :
    rows l q (ix2 r a) = l (ix2 (⟨8 * q.val + r.val, by omega⟩ : Fin 32) a) := by
  unfold rows
  pointwise

theorem stageVal_apply (raw : Vec Ideal S1x352x112 .bf16) (i : Fin 176) (p : Fin 2) (g : Fin 112) :
    stageVal raw (ix4 (0 : Fin 1) i p g) = raw (ix3 (0 : Fin 1) (⟨2 * i.val + p.val, by omega⟩ : Fin 352) g) := by
  unfold stageVal
  match p with
  | 0 => pointwise
  | 1 => pointwise

theorem halfWords_apply (p : Fin 2) (raw : Vec Ideal S1x176x2x128 .bf16) (i : Fin 176) (l : Fin 128) :
    halfWords p raw (ix2 i l) = raw (ix4 (0 : Fin 1) i p l) := by
  unfold halfWords
  pointwise

theorem gatherHalf_apply (w : FVec Ideal S176x128 .bf16) (idx : IVec S176x128 32) (i : Fin 176) (l : Fin 128) (n : ℕ) (hn : n < 128)
    (h : idx (ix2 i l) = BitVec.ofNat 32 n) :
    gatherHalf w idx (ix2 i l) = w (ix2 i (⟨n, hn⟩ : Fin 128)) := by
  unfold gatherHalf
  pointwise
  congr 2
  apply Fin.ext
  show (Scalar.select (IntOp.cmpi CmpIPredicate.slt (idx (ix2 i l)) 0#32) (IntOp.addi (idx (ix2 i l)) 128#32) (idx (ix2 i l))).toNat % 128 = n
  rw [h]
  clear h
  show (Scalar.select (IntOp.cmpi CmpIPredicate.slt (BitVec.ofNat 32 n) 0#32) (IntOp.addi (BitVec.ofNat 32 n) 128#32) (BitVec.ofNat 32 n)).toNat % 128 = n
  revert n; decide

theorem floor16_apply (v0 : IVec S176x128 32) (hv : ∀ (i : Fin 176) (l : Fin 128), v0 (ix2 i l) = BitVec.ofNat 32 l.val) (i : Fin 176) (l : Fin 128) :
    floor16 v0 (ix2 i l) = BitVec.ofNat 32 (l.val / 16) := by
  unfold floor16
  pointwise
  rw [hv]
  revert l; decide

theorem expandVal_apply (v0 : IVec S176x128 32) (hv : ∀ (i : Fin 176) (l : Fin 128), v0 (ix2 i l) = BitVec.ofNat 32 l.val) (n : ℕ) (hn : n ≤ 104)
    (raw : Vec Ideal S1x176x2x128 .bf16) (i : Fin 176) (p : Fin 2) (l : Fin 128) :
    expandVal v0 n raw (ix4 (0 : Fin 1) i p l) = raw (ix4 (0 : Fin 1) i p (⟨n + l.val / 16, by omega⟩ : Fin 128)) := by
  have hi : addi (floor16 v0) (broadcast S176x128 (BitVec.ofNat 32 n)) (ix2 i l) = BitVec.ofNat 32 (n + l.val / 16) := by
    show floor16 v0 (ix2 i l) + BitVec.ofNat 32 n = _
    rw [floor16_apply v0 hv, ← BitVec.ofNat_add, Nat.add_comm]
  have h : ∀ p, gatherHalf (halfWords p raw) (addi (floor16 v0) (broadcast S176x128 (BitVec.ofNat 32 n))) (ix2 i l) = raw (ix4 (0 : Fin 1) i p (⟨n + l.val / 16, by omega⟩ : Fin 128)) := by
    intro p
    rw [gatherHalf_apply _ _ i l (n + l.val / 16) (by omega) hi, halfWords_apply]
  unfold expandVal
  have h0 := h 0
  have h1 := h 1
  generalize gatherHalf (halfWords 0 raw) _ = g0 at h0 ⊢
  generalize gatherHalf (halfWords 1 raw) _ = g1 at h1 ⊢
  match p with
  | 0 =>
    pointwise
    exact h0
  | 1 =>
    pointwise
    exact h1

end Cert.Proof.KernelIdeal
-- ==== Proof.FoldV.lean ====
/-
  The running greatest, second greatest and first place of the greatest over the extended reals: what the fold of a
  trip carries, and that the three are determined.
-/
module

public import proofs.«01_k».proof.Proof.ValI

@[expose] public section

noncomputable section

namespace Cert.Proof.KernelIdeal

open Cert.KernelIdeal Cert.KernelIdeal.Gen Cert.Proof.Trip
open Idealize.ShloMosaic Idealize.ShloMosaic.TcCoe Idealize.SL.Sem

/-- Of the first `T` values: the greatest, the first place it stands at, the greatest of the others. -/
structure Best (f : ℕ → EReal) (T : ℕ) (top sec : EReal) (p : ℕ) : Prop where
  lt : p < T
  hit : f p = top
  before : ∀ t < p, f t < top
  le : ∀ t < T, f t ≤ top
  ub : ∀ t < T, t ≠ p → f t ≤ sec
  mem : sec = ⊥ ∨ ∃ t < T, t ≠ p ∧ f t = sec

theorem Best.unique {f : ℕ → EReal} {T : ℕ} {a b a' b' : EReal} {p p' : ℕ} (h : Best f T a b p) (h' : Best f T a' b' p') : a = a' ∧ b = b' ∧ p = p' := by
  have ea : a = a' := le_antisymm (h.hit ▸ h'.le p h.lt) (h'.hit ▸ h.le p' h'.lt)
  have ep : p = p' := by
    rcases Nat.lt_trichotomy p p' with hl | e | hl
    · have := h'.before p hl; rw [h.hit, ea] at this; exact absurd this (lt_irrefl _)
    · exact e
    · have := h.before p' hl; rw [h'.hit, ea] at this; exact absurd this (lt_irrefl _)
  refine ⟨ea, ?_, ep⟩
  subst ep
  apply le_antisymm
  · rcases h.mem with e | ⟨t, ht, hn, e⟩
    · rw [e]; exact bot_le
    · rw [← e]; exact h'.ub t ht hn
  · rcases h'.mem with e | ⟨t, ht, hn, e⟩
    · rw [e]; exact bot_le
    · rw [← e]; exact h.ub t ht hn

/-- One more value. -/
theorem Best.succ {f : ℕ → EReal} {T : ℕ} {a b : EReal} {p : ℕ} (h : Best f T a b p) :
    Best f (T + 1) (max a (f T)) (max b (min a (f T))) (if a < f T then T else p) := by
  by_cases hl : a < f T
  · rw [if_pos hl, max_eq_right hl.le, min_eq_left hl.le]
    have hba : b ≤ a := by
      rcases h.mem with e | ⟨t, ht, _, e⟩
      · rw [e]; exact bot_le
      · rw [← e]; exact h.le t ht
    rw [max_eq_right hba]
    refine ⟨Nat.lt_succ_self _, rfl, fun t ht => (h.le t ht).trans_lt hl, ?_, ?_, .inr ⟨p, by have := h.lt; omega, h.lt.ne, h.hit⟩⟩
    · intro t ht
      rcases Nat.lt_succ_iff_lt_or_eq.mp ht with h1 | rfl
      · exact (h.le t h1).trans hl.le
      · exact le_rfl
    · intro t ht hn
      exact h.le t (by omega)
  · rw [if_neg hl]
    have hl' := not_lt.mp hl
    rw [max_eq_left hl', min_eq_right hl']
    refine ⟨h.lt.trans (Nat.lt_succ_self _), h.hit, h.before, ?_, ?_, ?_⟩
    · intro t ht
      rcases Nat.lt_succ_iff_lt_or_eq.mp ht with h1 | rfl
      · exact h.le t h1
      · exact hl'
    · intro t ht hn
      rcases Nat.lt_succ_iff_lt_or_eq.mp ht with h1 | rfl
      · exact (h.ub t h1 hn).trans (le_max_left _ _)
      · exact le_max_right _ _
    · rcases le_total b (f T) with hb | hb
      · rw [max_eq_right hb]; exact .inr ⟨T, Nat.lt_succ_self _, h.lt.ne', rfl⟩
      · rw [max_eq_left hb]
        rcases h.mem with e | ⟨t, ht, hn, e⟩
        · exact .inl e
        · exact .inr ⟨t, by omega, hn, e⟩

/-- What the fold carries after `T` tiles, its tile numbers less `B`. -/
def FI (f : ℕ → EReal) (T B : ℕ) (top sec : EReal) (ix : BitVec 32) : Prop :=
  (T = 0 ∧ top = ⊥ ∧ sec = ⊥) ∨ ∃ p, Best f T top sec p ∧ ix = BitVec.ofNat 32 (p + 44) - BitVec.ofNat 32 B

theorem FI.succ {f : ℕ → EReal} {T B : ℕ} {top sec : EReal} {ix : BitVec 32} (h : FI f T B top sec ix) (hf : f T ≠ ⊥) {n : ℕ} (hn : T + 44 = B + n) :
    FI f (T + 1) B (max top (f T)) (max sec (min top (f T))) (if top < f T then BitVec.ofNat 32 n else ix) := by
  have en : BitVec.ofNat 32 (T + 44) - BitVec.ofNat 32 B = BitVec.ofNat 32 n := by
    rw [hn, BitVec.ofNat_add, BitVec.add_comm, BitVec.add_sub_cancel]
  rcases h with ⟨rfl, rfl, rfl⟩ | ⟨p, hp, rfl⟩
  · right
    refine ⟨0, ?_, ?_⟩
    · rw [max_eq_right bot_le, min_eq_left bot_le, max_self]
      refine ⟨Nat.zero_lt_one, rfl, fun t ht => absurd ht (Nat.not_lt_zero _), ?_, ?_, .inl rfl⟩
      · intro t ht; obtain rfl : t = 0 := by omega
        exact le_rfl
      · intro t ht hn; omega
    · rw [if_pos (bot_lt_iff_ne_bot.mpr hf), en]
  · right
    refine ⟨_, hp.succ, ?_⟩
    by_cases hl : top < f T
    · rw [if_pos hl, if_pos hl, en]
    · rw [if_neg hl, if_neg hl]

/-- The numbers less `88` more. -/
theorem FI.less {f : ℕ → EReal} {T B : ℕ} {top sec : EReal} {ix : BitVec 32} (h : FI f T B top sec ix) : FI f T (B + 88) top sec (ix - 88#32) := by
  rcases h with h | ⟨p, hp, rfl⟩
  · exact .inl h
  · refine .inr ⟨p, hp, ?_⟩
    rw [BitVec.ofNat_add B 88, show (88#32) = BitVec.ofNat 32 88 from rfl]
    generalize BitVec.ofNat 32 (p + 44) = x
    generalize BitVec.ofNat 32 B = y
    generalize BitVec.ofNat 32 88 = z
    bv_omega

/-- What a state of the fold carries at sublane `r` and column `a`. -/
abbrev SI (f : ℕ → EReal) (T B : ℕ) (s : St Ideal) (r : Fin 8) (a : Fin 256) : Prop := FI f T B (s.1 (ix2 r a)) (s.2.1 (ix2 r a)) (s.2.2 (ix2 r a))

theorem foldRow_at (s : St Ideal) (l : FVec Ideal A8 .f32) (n : BitVec 32) (r : Fin 8) (a : Fin 256) :
    (foldRow s l n).2.2 (ix2 r a) = if (s.1 (ix2 r a) : EReal) < l (ix2 r a) then n else s.2.2 (ix2 r a) := by
  show Scalar.select (Ideal.cmp .ogt (l (ix2 r a)) (s.1 (ix2 r a))) n (s.2.2 (ix2 r a)) = _
  unfold Scalar.select Ideal.cmp
  by_cases h : (s.1 (ix2 r a) : EReal) < l (ix2 r a) <;> simp [h]

theorem SI.row {f : ℕ → EReal} {T B : ℕ} {s : St Ideal} {r : Fin 8} {a : Fin 256} (h : SI f T B s r a) {l : FVec Ideal A8 .f32} (hl : (l (ix2 r a) : EReal) = f T) (hf : f T ≠ ⊥)
    {n : ℕ} (hn : T + 44 = B + n) : SI f (T + 1) B (foldRow s l (BitVec.ofNat 32 n)) r a := by
  unfold SI
  rw [foldRow_at, hl]
  have h1 : ((foldRow s l (BitVec.ofNat 32 n)).1 (ix2 r a) : EReal) = max (s.1 (ix2 r a)) (f T) := by rw [← hl]; rfl
  have h2 : ((foldRow s l (BitVec.ofNat 32 n)).2.1 (ix2 r a) : EReal) = max (s.2.1 (ix2 r a)) (min (s.1 (ix2 r a)) (f T)) := by rw [← hl]; rfl
  rw [h1, h2]
  exact h.succ hf hn

theorem SI.strip {f : ℕ → EReal} {T B : ℕ} {s : St Ideal} {r : Fin 8} {a : Fin 256} (h : SI f T B s r a) {l : FVec Ideal A32 .f32}
    (hl : ∀ q : Fin 4, (l (ix2 (⟨8 * q.val + r.val, by omega⟩ : Fin 32) a) : EReal) = f (T + q.val)) (hf : ∀ q < 4, f (T + q) ≠ ⊥)
    {n : ℕ} (hn : T + 44 = B + n) : SI f (T + 4) B (foldStrip s l n) r a := by
  unfold foldStrip
  refine SI.row (T := T + 3) (SI.row (T := T + 2) (SI.row (T := T + 1) (SI.row h ?_ (hf 0 (by omega)) hn) ?_ (hf 1 (by omega)) (by omega)) ?_ (hf 2 (by omega)) (by omega)) ?_ (hf 3 (by omega)) (by omega)
  · rw [rows_apply]; exact hl 0
  · rw [rows_apply]; exact hl 1
  · rw [rows_apply]; exact hl 2
  · rw [rows_apply]; exact hl 3

theorem negInf : (Ideal.ofBits .f32 0xFF800000#32 : EReal) = ⊥ := by
  simp [Ideal.ofBits, Ideal.ieee]

/-- The greatest of eight interleaved runs. -/
theorem Best.merge {L : ℕ → EReal} {T : ℕ} {top sec : Fin 8 → EReal} {p : Fin 8 → ℕ} (h : ∀ r, Best (fun t => L (8 * t + r.val)) T (top r) (sec r) (p r))
    {b : EReal} (hb : ∀ r, top r ≤ b) {r₀ : Fin 8} (h₀ : top r₀ = b) (hm : ∀ r, top r = b → 8 * p r₀ + r₀.val ≤ 8 * p r + r.val)
    {c : EReal} (hc : ∀ r, (if r = r₀ then sec r else top r) ≤ c) (hc' : ∃ r, (if r = r₀ then sec r else top r) = c) :
    Best L (8 * T) b c (8 * p r₀ + r₀.val) := by
  have key : ∀ v, v < 8 * T → ∃ (r : Fin 8) (t : ℕ), t < T ∧ v = 8 * t + r.val := fun v hv => ⟨⟨v % 8, by omega⟩, v / 8, by omega, by show v = 8 * (v / 8) + v % 8; omega⟩
  refine ⟨by have := (h r₀).lt; omega, ((h r₀).hit).trans h₀, ?_, ?_, ?_, ?_⟩
  · intro v hv
    obtain ⟨r, t, ht, rfl⟩ := key v (by have := (h r₀).lt; omega)
    refine lt_of_le_of_ne (((h r).le t ht).trans (hb r)) fun e => ?_
    have hr : top r = b := le_antisymm (hb r) (e ▸ (h r).le t ht)
    have h1 := hm r hr
    have h2 : t < p r := by omega
    have h3 := (h r).before t h2
    rw [hr] at h3
    exact absurd e h3.ne
  · intro v hv
    obtain ⟨r, t, ht, rfl⟩ := key v hv
    exact ((h r).le t ht).trans (hb r)
  · intro v hv hn
    obtain ⟨r, t, ht, rfl⟩ := key v hv
    refine le_trans ?_ (hc r)
    by_cases hr : r = r₀
    · subst hr
      rw [if_pos rfl]
      exact (h r).ub t ht fun e => hn (by rw [e])
    · rw [if_neg hr]
      exact (h r).le t ht
  · obtain ⟨r, hr⟩ := hc'
    by_cases e : r = r₀
    · subst e
      rw [if_pos rfl] at hr
      rcases (h r).mem with hh | ⟨t, ht, hn, hh⟩
      · exact .inl (hr ▸ hh)
      · exact .inr ⟨8 * t + r.val, by omega, by omega, hh.trans hr⟩
    · rw [if_neg e] at hr
      refine .inr ⟨8 * p r + r.val, by have := (h r).lt; omega, fun hh => e (Fin.ext (by omega)), ((h r).hit).trans hr⟩

end Cert.Proof.KernelIdeal
-- ==== Proof.SpecV.lean ====
/-
  What the values of the trips are over the extended reals: partial sums of the logits, and the fold's greatest and
  second greatest logits so far.
-/
module

public import proofs.«01_k».proof.Proof.FoldV

@[expose] public section

noncomputable section

namespace Cert.Proof.KernelIdeal

open Cert.KernelIdeal Cert.KernelIdeal.Gen Cert.Proof.Trip
open Idealize.ShloMosaic Idealize.ShloMosaic.TcCoe Idealize.SL.Sem

/-- The arguments by number: `X` the activations, `W` the packed codes, `S` the scales. -/
structure Data where
  X : ℕ → ℕ → EReal
  W : ℕ → ℕ → BitVec 8
  S : ℕ → ℕ → EReal

namespace Data
variable (D : Data)

/-- The weight of half `q` of byte `k` of row `v`. -/
def w (q : Fin 2) (v k : ℕ) : EReal := dq q (D.W v k) * D.S v (k / 16)

/-- The activation that meets it. -/
def x (q : Fin 2) (a k : ℕ) : EReal := D.X a (32 * (k / 16) + k % 16 + 16 * q.val)

/-- The sum over the first `n` bytes. -/
def part (q : Fin 2) (v a n : ℕ) : EReal := ∑ k ∈ Finset.range n, D.w q v k * D.x q a k

/-- The logit of row `v` of the weights and row `a` of the activations. -/
def L (v a : ℕ) : EReal := D.part 0 v a 1792 + D.part 1 v a 1792

theorem part_add (q : Fin 2) (v a n : ℕ) (l t : Fin 256 → EReal) (hl : ∀ j, l j = D.w q v (n + j.val)) (ht : ∀ j, t j = D.x q a (n + j.val)) :
    D.part q v a n + ∑ j, l j * t j = D.part q v a (n + 256) := by
  unfold part
  rw [Finset.sum_range_add, Finset.sum_range (n := 256)]
  congr 1
  exact Finset.sum_congr rfl fun j _ => by rw [hl, ht]

theorem part_zero (q : Fin 2) (v a : ℕ) : D.part q v a 0 = 0 := by
  unfold part; rw [Finset.range_zero, Finset.sum_empty]

/-- No logit is the least value. -/
def Fin (D : Data) : Prop := ∀ v a, v < 38016 → a < 256 → D.L v a ≠ ⊥

/-- The first of the tiles sub-block `b` of trip `i` folds. -/
abbrev T0 (i b : ℕ) : ℕ := 88 * i + 44 * b - 44

/-- What a fold carries after `T` tiles. -/
def Folded (T B : ℕ) (s : St Ideal) : Prop := ∀ (r : _root_.Fin 8) (a : _root_.Fin 256), SI (fun t => D.L (8 * t + r.val) a.val) T B s r a

/-- The rows a fold takes. -/
def Rows (q : _root_.Fin 2) (base : ℕ) (v : FVec Ideal A32 .f32) : Prop := ∀ (r : _root_.Fin 32) (a : _root_.Fin 256), (v (ix2 r a) : EReal) = D.part q (base + r.val) a.val 1792

theorem Folded.strip {D : Data} (hD : D.Fin) {T B : ℕ} {s : St Ideal} (h : D.Folded T B s) {v0 v1 : FVec Ideal A32 .f32} (h0 : D.Rows 0 (8 * T) v0) (h1 : D.Rows 1 (8 * T) v1)
    {n : ℕ} (hn : T + 44 = B + n) (hT : T + 4 ≤ 4752) : D.Folded (T + 4) B (foldStrip s (addf v0 v1) n) := by
  intro r a
  refine (h r a).strip (fun q => ?_) (fun q hq => hD _ _ (by have := r.isLt; omega) a.isLt) hn
  show (v0 (ix2 (⟨8 * q.val + r.val, by omega⟩ : _root_.Fin 32) a) : EReal) + v1 (ix2 (⟨8 * q.val + r.val, by omega⟩ : _root_.Fin 32) a) = D.L (8 * (T + q.val) + r.val) a.val
  rw [h0, h1]
  unfold L
  have e : 8 * T + (⟨8 * q.val + r.val, by omega⟩ : _root_.Fin 32).val = 8 * (T + q.val) + r.val := by show 8 * T + (8 * q.val + r.val) = _; omega
  rw [e]

/-- What trip `i`'s values are. -/
def spec (hD : D.Fin) (i : ℕ) (hi : i < 54) : Spec Ideal where
  tile ch q t := ∀ a j : _root_.Fin 256, (t (ix2 a j) : EReal) = D.x q a.val (256 * ch + j.val)
  lhs b ch st q l := ∀ (r : _root_.Fin 32) (j : _root_.Fin 256), (l (ix2 r j) : EReal) = D.w q (704 * i + 352 * b + 32 * st + r.val) (256 * ch + j.val)
  sum b st q n v := ∀ (r : _root_.Fin 32) (a : _root_.Fin 256), (v (ix2 r a) : EReal) = D.part q (704 * i + 352 * b + 32 * st + r.val) a.val (256 * n)
  old b st q v := (i = 0 ∧ b = 0) ∨ D.Rows q (8 * (T0 i b + 4 * st)) v
  fold b n s := (i = 0 ∧ b = 0) ∨ D.Folded (T0 i b + 4 * n) (88 * i) s
  sum_one b st q t l _ _ ht hl r a := by
    rw [prod_apply]
    have := D.part_add q (704 * i + 352 * b + 32 * st + r.val) a.val 0 (fun j => l (ix2 r j)) (fun j => t (ix2 a j)) (fun j => hl r j) (fun j => ht a j)
    rw [part_zero, zero_add] at this
    exact this
  sum_succ b st q c t l v _ _ _ _ ht hl hv r a := by
    have := D.part_add q (704 * i + 352 * b + 32 * st + r.val) a.val (256 * c) (fun j => l (ix2 r j)) (fun j => t (ix2 a j)) (fun j => hl r j) (fun j => ht a j)
    show (v (ix2 r a) : EReal) + prod l t (ix2 r a) = _
    rw [prod_apply, hv r a]
    exact this
  fold_succ b n s v0 v1 hb hn hf h0 h1 := by
    by_cases h : i = 0 ∧ b = 0
    · exact .inl h
    · right
      have hf' := hf.resolve_left h
      exact hf'.strip hD (h0.resolve_left h) (h1.resolve_left h) (by unfold T0; omega) (by unfold T0; omega)

variable {D}

/-- The state with which the fold starts. -/
theorem fresh_folded (hD : D.Fin) {i : ℕ} (hi : i < 54) {w : BitVec 1} (hw : w = if i = 0 then 1#1 else 0#1) {s : St Ideal} (h : (D.spec hD i hi).fold 0 11 s) :
    (D.spec hD i hi).fold 1 0 (fresh w s) := by
  subst hw
  by_cases h0 : i = 0
  · subst h0
    refine .inr fun r a => .inl ⟨rfl, negInf, negInf⟩
  · rw [if_neg h0]
    rcases h with h | h
    · exact absurd h.1 h0
    · right
      have e : T0 i 1 + 4 * 0 = T0 i 0 + 4 * 11 := by unfold T0; omega
      rw [e]
      exact h

theorem old_of_sum (hD : D.Fin) {i : ℕ} (hi : i < 54) {st : ℕ} {q : _root_.Fin 2} {v : FVec Ideal A32 .f32} (h : (D.spec hD i hi).sum 0 st q 7 v) : (D.spec hD i hi).old 1 st q v := by
  right
  intro r a
  have := h r a
  rw [this]
  congr 1
  unfold T0
  omega

theorem old_next (hD : D.Fin) {i : ℕ} (hi : i < 54) (hi' : i + 1 < 54) {st : ℕ} {q : _root_.Fin 2} {v : FVec Ideal A32 .f32} (h : (D.spec hD i hi).sum 1 st q 7 v) : (D.spec hD (i + 1) hi').old 0 st q v := by
  right
  intro r a
  have := h r a
  rw [this]
  congr 1
  unfold T0
  omega

/-- The carried tile numbers less a trip's. -/
theorem Folded.less {T B : ℕ} {s : St Ideal} (h : D.Folded T B s) : D.Folded T (B + 88) (s.1, s.2.1, subi s.2.2 (broadcast A8 88#32)) :=
  fun r a => (h r a).less

end Data

end Cert.Proof.KernelIdeal
-- ==== Proof.TripOkV.lean ====
/-
  The idealized kernel's trip with the buffers' contents: the blocks the ring's slots hold, the packed scale words, the
  expanded scales, the tiles of the activations.
-/
module

public import proofs.«01_k».proof.Proof.OkV
public import proofs.«01_k».proof.Proof.SpecV
public import proofs.«01_k».proof.Proof.TripOkI

@[expose] public section

noncomputable section

namespace Cert.Proof.KernelIdeal

open Cert.KernelIdeal Cert.KernelIdeal.Gen Cert.Proof Cert.Proof.Trip
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (Pipeline.UD sig nD τ) ℕ

/-! ## Indices by their numbers -/

theorem idx2_eq {n0 n1 : ℕ} (y : Shape.Idx ⟨2, ![n0, n1]⟩) (i : Fin n0) (j : Fin n1) (hi : (y 0).val = i.val) (hj : (y 1).val = j.val) : y = ix2 i j := by
  funext a
  apply Fin.ext
  match a with
  | 0 => exact hi
  | 1 => exact hj
theorem idx3_eq {n0 n1 n2 : ℕ} (y : Shape.Idx ⟨3, ![n0, n1, n2]⟩) (i : Fin n0) (j : Fin n1) (k : Fin n2) (hi : (y 0).val = i.val) (hj : (y 1).val = j.val) (hk : (y 2).val = k.val) : y = ix3 i j k := by
  funext a
  apply Fin.ext
  match a with
  | 0 => exact hi
  | 1 => exact hj
  | 2 => exact hk
theorem idx4_eq {n0 n1 n2 n3 : ℕ} (y : Shape.Idx ⟨4, ![n0, n1, n2, n3]⟩) (i : Fin n0) (j : Fin n1) (k : Fin n2) (l : Fin n3)
    (hi : (y 0).val = i.val) (hj : (y 1).val = j.val) (hk : (y 2).val = k.val) (hl : (y 3).val = l.val) : y = ix4 i j k l := by
  funext a
  apply Fin.ext
  match a with
  | 0 => exact hi
  | 1 => exact hj
  | 2 => exact hk
  | 3 => exact hl

/-! ## What the buffers hold -/

section
variable (D : Data)

/-- Slot `j` holds block `m` of the codes. -/
def C8 (m : ℕ) (j : Fin 4) (X : S4x704x1792.Idx → Elt Ideal .i8) : Prop := m < 54 → ∀ (r : Fin 704) (k : Fin 1792), X (ix3 j r k) = D.W (704 * m + r.val) k.val
/-- Slot `j` holds block `m` of the scales. -/
def C9 (m : ℕ) (j : Fin 4) (X : S4x704x112.Idx → Elt Ideal .bf16) : Prop := m < 54 → ∀ (r : Fin 704) (k : Fin 112), (X (ix3 j r k) : EReal) = D.S (704 * m + r.val) k.val
/-- Slot `j` holds that of the `w` blocks from `n` on that is its own. -/
def B8 (n w : ℕ) (j : Fin 4) (X : S4x704x1792.Idx → Elt Ideal .i8) : Prop := ∀ m, n ≤ m → m < n + w → m % 4 = j.val → C8 D m j X
def B9 (n w : ℕ) (j : Fin 4) (X : S4x704x112.Idx → Elt Ideal .bf16) : Prop := ∀ m, n ≤ m → m < n + w → m % 4 = j.val → C9 D m j X
/-- The tiles of the activations. -/
def A7 (X : S14x128x2x256.Idx → Elt Ideal .bf16) : Prop :=
  ∀ (t : Fin 14) (i : Fin 128) (p : Fin 2) (j : Fin 256), (X (ix4 t i p j) : EReal) = D.x ⟨t.val % 2, Nat.mod_lt _ (by decide)⟩ (2 * i.val + p.val) (256 * (t.val / 2) + j.val)
/-- Half `b` of the scale words holds sub-block `u`. -/
def Words (b : Fin 2) (u : ℕ) (X : S2x176x2x128.Idx → Elt Ideal .bf16) : Prop :=
  u < 108 → ∀ (i : Fin 176) (p : Fin 2) (g : Fin 128), g.val < 112 → (X (ix4 b i p g) : EReal) = D.S (352 * u + 2 * i.val + p.val) g.val
/-- Half `h` of half `d` of the expanded scales holds chunk `ch` of sub-block `u`. -/
def HalfE (d : Fin 2) (u ch h : ℕ) (X : S2x176x2x256.Idx → Elt Ideal .bf16) : Prop :=
  u < 108 → ∀ (i : Fin 176) (p : Fin 2) (j : Fin 256), 128 * h ≤ j.val → j.val < 128 * h + 128 → (X (ix4 d i p j) : EReal) = D.S (352 * u + 2 * i.val + p.val) (16 * ch + j.val / 16)
/-- Half `d` of the expanded scales holds step `t` of trip `i`. -/
def Exp (d : Fin 2) (i t : ℕ) (X : S2x176x2x256.Idx → Elt Ideal .bf16) : Prop := HalfE D d (2 * i + t / 7) (t % 7) 0 X ∧ HalfE D d (2 * i + t / 7) (t % 7) 1 X

def par (k : ℕ) : Fin 2 := ⟨k % 2, Nat.mod_lt _ (by decide)⟩

def R10 (i k : ℕ) (X : S2x176x2x128.Idx → Elt Ideal .bf16) : Prop := Words D 0 (if k ≤ 10 then 2 * i else 2 * i + 2) X ∧ (4 ≤ k → Words D 1 (2 * i + 1) X)
def R11 (i k : ℕ) (X : S2x176x2x256.Idx → Elt Ideal .bf16) : Prop := Exp D (par k) i k X ∧ (1 ≤ k → Exp D (par (k + 1)) i (k - 1) X)

/-- The state between the copies' flags `f`, with `w` blocks from `n` on in the slots, before step `k` of trip `i`. -/
def stT (f : Fin 4 → Bool) (n w : ℕ) (p10 : Pr Ideal S2x176x2x128 .bf16) (p11 : Pr Ideal S2x176x2x256 .bf16) : SV Ideal where
  x := (false, yes)
  s8 j := (f j, B8 D n w j)
  s9 j := (f j, B9 D n w j)
  p3 := yes
  p4 := yes
  p5 := yes
  p7 := A7 D
  p10 := p10
  p11 := p11

end

section
variable {c : Dev nD} {V : (b : Ref sig .tc) → Buf (Elt Ideal) ((c : Thread nD τ).loc b)}
variable {a3 : Memref sig .tc .vmem S1x256 .i32} {a4 a5 : Memref sig .tc .vmem S1x256 .f32}

/-- The arguments' arrays are the data. -/
structure Reads (D : Data) (V : (b : Ref sig .tc) → Buf (Elt Ideal) ((c : Thread nD τ).loc b)) : Prop where
  X : ∀ (a : Fin 256) (d : Fin 3584), (a0.view.read (Elt Ideal) (V main_v0) (ix2 a d) : EReal) = D.X a.val d.val
  W : ∀ (v : Fin 38016) (k : Fin 1792), a1.view.read (Elt Ideal) (V main_arg1) (ix2 v k) = D.W v.val k.val
  S : ∀ (v : Fin 38016) (g : Fin 112), (a2.view.read (Elt Ideal) (V main_arg2) (ix2 v g) : EReal) = D.S v.val g.val

variable {D : Data}

theorem Reads.came8 (h : Reads D V) {j : Fin 4} {m : ℕ} {o1 : Fin 2 → ℕ} (e : o1 = ![704 * m, 0]) {io1 : ∀ a, o1 a + S704x1792.size a ≤ S38016x1792.size a} {X : S4x704x1792.Idx → Elt Ideal .i8}
    (hX : Came8 V j o1 io1 X) : C8 D m j X := by
  subst e
  intro hm r k
  rw [hX r k, idx2_eq ((Rect.unit (s := S38016x1792) _ S704x1792.size io1).emb (ix2 r k)) (⟨704 * m + r.val, by omega⟩ : Fin 38016) k
    (by show 704 * m + 1 * r.val = 704 * m + r.val; omega) (by show 0 + 1 * k.val = k.val; omega)]
  exact h.W _ _
theorem Reads.came9 (h : Reads D V) {j : Fin 4} {m : ℕ} {o1 : Fin 2 → ℕ} (e : o1 = ![704 * m, 0]) {io1 : ∀ a, o1 a + S704x112.size a ≤ S38016x112.size a} {X : S4x704x112.Idx → Elt Ideal .bf16}
    (hX : Came9 V j o1 io1 X) : C9 D m j X := by
  subst e
  intro hm r k
  rw [hX r k, idx2_eq ((Rect.unit (s := S38016x112) _ S704x112.size io1).emb (ix2 r k)) (⟨704 * m + r.val, by omega⟩ : Fin 38016) k
    (by show 704 * m + 1 * r.val = 704 * m + r.val; omega) (by show 0 + 1 * k.val = k.val; omega)]
  exact h.S _ _

/-! ## The copies of a trip -/

theorem off10 (k : Fin k0_t2_loop.trips) : k0_off10 k = ![704 * (k.val + 3), 0] := by revert k; decide
theorem off12 (k : Fin k0_t2_loop.trips) : k0_off12 k = ![704 * (k.val + 3), 0] := by revert k; decide
theorem cond1_lt (k : Fin k0_t2_loop.trips) : k0_cond1 k = 1#1 ↔ k.val + 3 < 54 := by revert k; decide

theorem yes_le {α : Type} {P : α → Prop} (X : α) (_ : P X) : (yes : α → Prop) X := trivial

/-- Comparing two states that differ in the rings only. -/
theorem le_of_rings {s t : SV Ideal} (hx : s.x.1 = t.x.1 ∧ ∀ X, s.x.2 X → t.x.2 X) (h8 : ∀ j, (s.s8 j).1 = (t.s8 j).1 ∧ ∀ X, (s.s8 j).2 X → (t.s8 j).2 X) (h9 : ∀ j, (s.s9 j).1 = (t.s9 j).1 ∧ ∀ X, (s.s9 j).2 X → (t.s9 j).2 X)
    (e3 : s.p3 = t.p3) (e4 : s.p4 = t.p4) (e5 : s.p5 = t.p5) (e7 : s.p7 = t.p7) (e10 : s.p10 = t.p10) (e11 : s.p11 = t.p11) : s.Le t :=
  ⟨hx, h8, h9, by rw [e3]; exact fun _ h => h, by rw [e4]; exact fun _ h => h, by rw [e5]; exact fun _ h => h, by rw [e7]; exact fun _ h => h, by rw [e10]; exact fun _ h => h, by rw [e11]; exact fun _ h => h⟩

theorem OkV.done {s s' : SV Ideal} {α : Type} {v : α} {φ : α → Prop} (hv : φ v) (hl : s.Le s') : OkV c V a3 a4 a5 s s' (Prog.ret v) φ := OkV.pre hl (OkV.ret hv)

section
variable {f : Fin 4 → Bool} {n w : ℕ} {p10 : Pr Ideal S2x176x2x128 .bf16} {p11 : Pr Ideal S2x176x2x256 .bf16}
theorem keepT_7 : RV c V a3 a4 a5 (stT D f n w p10 p11) ⊢ iprop(hv c a7 (A7 D) ∗ (hv c a7 (A7 D) -∗ RV c V a3 a4 a5 (stT D f n w p10 p11))) := keepV_a7 c V a3 a4 a5 (stT D f n w p10 p11)
theorem keepT_10 : RV c V a3 a4 a5 (stT D f n w p10 p11) ⊢ iprop(hv c a10 p10 ∗ (hv c a10 p10 -∗ RV c V a3 a4 a5 (stT D f n w p10 p11))) := keepV_a10 c V a3 a4 a5 (stT D f n w p10 p11)
theorem keepT_11 : RV c V a3 a4 a5 (stT D f n w p10 p11) ⊢ iprop(hv c a11 p11 ∗ (hv c a11 p11 -∗ RV c V a3 a4 a5 (stT D f n w p10 p11))) := keepV_a11 c V a3 a4 a5 (stT D f n w p10 p11)
theorem setT_10 (P : Pr Ideal S2x176x2x128 .bf16) : RV c V a3 a4 a5 (stT D f n w p10 p11) ⊢ iprop(hv c a10 p10 ∗ (hv c a10 P -∗ RV c V a3 a4 a5 (stT D f n w P p11))) := setV_a10 c V a3 a4 a5 (stT D f n w p10 p11) P
theorem setT_11 (P : Pr Ideal S2x176x2x256 .bf16) : RV c V a3 a4 a5 (stT D f n w p10 p11) ⊢ iprop(hv c a11 p11 ∗ (hv c a11 P -∗ RV c V a3 a4 a5 (stT D f n w p10 P))) := setV_a11 c V a3 a4 a5 (stT D f n w p10 p11) P
end

theorem startOpV (h : Reads D V) (h1 : a1.IsWhole) (h2 : a2.IsWhole) (h8 : a8.IsWhole) (h9 : a9.IsWhole) (k : Fin k0_t2_loop.trips) (p10 : Pr Ideal S2x176x2x128 .bf16) (p11 : Pr Ideal S2x176x2x256 .bf16) :
    OkV c V a3 a4 a5 (stT D (fr k.val) k.val 3 p10 p11) (stT D (gr k) k.val 4 p10 p11) (startOp a1 h1 a2 h2 a8 h8 a9 h9 cc0_scratch7 cc0_scratch8 k) yes := by
  unfold startOp
  by_cases hc : k0_cond1 k = 1#1
  · rw [dif_pos hc]
    refine OkV.bind (okV_start_8 (jS k) (C8 D (k.val + 3) (jS k)) (fr_jS k) (off9 k) (off8 k) fun X hX => h.came8 (off10 k) hX) fun _ _ => ?_
    refine OkV.bind (okV_start_9 (jS k) (C9 D (k.val + 3) (jS k)) (fr_jS k) (off11 k) (off8 k) fun X hX => h.came9 (off12 k) hX) fun _ _ => ?_
    refine OkV.done trivial (le_of_rings ⟨rfl, fun _ h => h⟩ (fun j => ?_) (fun j => ?_) rfl rfl rfl rfl rfl rfl)
    all_goals
      unfold stT gr
      dsimp only
      rw [if_pos hc]
      by_cases e : j = jS k
      · subst e
        rw [Function.update_self, Function.update_self]
        refine ⟨rfl, fun X hX m hm1 hm2 hm3 => ?_⟩
        obtain rfl : m = k.val + 3 := by simp only [jS] at hm3; omega
        exact hX
      · rw [Function.update_of_ne e, Function.update_of_ne e]
        refine ⟨rfl, fun X hX m hm1 hm2 hm3 => hX m hm1 ?_ hm3⟩
        have : m ≠ k.val + 3 := fun hh => e (Fin.ext (by simp only [jS]; omega))
        omega
  · rw [dif_neg hc]
    have hk : ¬ k.val + 3 < 54 := fun hh => hc ((cond1_lt k).mpr hh)
    refine OkV.done trivial (le_of_rings ⟨rfl, fun _ h => h⟩ (fun j => ?_) (fun j => ?_) rfl rfl rfl rfl rfl rfl)
    all_goals
      unfold stT gr
      dsimp only
      rw [if_neg hc]
      refine ⟨rfl, fun X hX m hm1 hm2 hm3 hm4 => hX m hm1 (by omega) hm3 hm4⟩

theorem waitOpV (h1 : a1.IsWhole) (h2 : a2.IsWhole) (h8 : a8.IsWhole) (h9 : a9.IsWhole) (k : Fin k0_t2_loop.trips) (p10 : Pr Ideal S2x176x2x128 .bf16) (p11 : Pr Ideal S2x176x2x256 .bf16) :
    OkV c V a3 a4 a5 (stT D (gr k) k.val 4 p10 p11) (stT D (fr (k.val + 1)) k.val 4 p10 p11) (waitOp a1 h1 a2 h2 a8 h8 a9 h9 cc0_scratch7 cc0_scratch8 k) yes := by
  rw [← gr_next k]
  unfold waitOp
  by_cases hc : k0_cond2 k = 1#1
  · rw [dif_pos hc, if_pos hc]
    refine OkV.bind (okV_wait_8 (jW k) (gr_jW k hc) (off14 k) (off13 k)) fun _ _ => ?_
    refine OkV.bind (okV_wait_9 (jW k) (gr_jW k hc) (off16 k) (off13 k)) fun _ _ => ?_
    refine OkV.done trivial (le_of_rings ⟨rfl, fun _ h => h⟩ (fun j => ?_) (fun j => ?_) rfl rfl rfl rfl rfl rfl)
    all_goals
      unfold stT
      dsimp only
      by_cases e : j = jW k
      · subst e
        rw [Function.update_self, Function.update_self]
        exact ⟨rfl, fun _ h => h⟩
      · rw [Function.update_of_ne e, Function.update_of_ne e]
        exact ⟨rfl, fun _ h => h⟩
  · rw [dif_neg hc, if_neg hc]
    exact OkV.ret trivial

theorem slotNow_val (k : Fin k0_t2_loop.trips) : (slotNow k).val = k.val % 4 := by revert k; decide
theorem slotNext_val (k : Fin k0_t2_loop.trips) : (slotNext k).val = (k.val + 1) % 4 := by revert k; decide

/-! ## The buffers' operations of a trip -/

section
variable (c V a3 a4 a5 D) {R : Type}

/-- The state before step `t` of trip `k`. -/
abbrev stK (k : Fin k0_t2_loop.trips) (p10 : Pr Ideal S2x176x2x128 .bf16) (p11 : Pr Ideal S2x176x2x256 .bf16) : SV Ideal := stT D (fr (k.val + 1)) k.val 4 p10 p11

/-- The scale words with half `(b + 1) % 2` staged. -/
theorem stage_words {u b : ℕ} {raw : Vec Ideal S1x352x112 .bf16} (hraw : u < 108 → ∀ (r : Fin 352) (g : Fin 112), (raw (ix3 (0 : Fin 1) r g) : EReal) = D.S (352 * u + r.val) g.val)
    {X X' : S2x176x2x128.Idx → Elt Ideal .bf16}
    (hX : ∀ x, X' ((Rect.unit (s := S2x176x2x128) ![(b + 1) % 2, 0, 0, 0] S1x176x2x112.size (inb_stage (b + 1))).emb x) = stageVal raw x)
    (hk : ∀ y, (∀ x, (Rect.unit (s := S2x176x2x128) ![(b + 1) % 2, 0, 0, 0] S1x176x2x112.size (inb_stage (b + 1))).emb x ≠ y) → X' y = X y) :
    Words D (par (b + 1)) u X' ∧ ∀ u', Words D (par b) u' X → Words D (par b) u' X' := by
  constructor
  · intro hu i p g hg
    have e : (Rect.unit (s := S2x176x2x128) ![(b + 1) % 2, 0, 0, 0] S1x176x2x112.size (inb_stage (b + 1))).emb (ix4 (0 : Fin 1) i p (⟨g.val, hg⟩ : Fin 112)) = ix4 (par (b + 1)) i p g :=
      idx4_eq _ _ _ _ _ (by show (b + 1) % 2 + 1 * 0 = (b + 1) % 2; omega) (by show 0 + 1 * i.val = i.val; omega) (by show 0 + 1 * p.val = p.val; omega) (by show 0 + 1 * g.val = g.val; omega)
    have := hX (ix4 (0 : Fin 1) i p (⟨g.val, hg⟩ : Fin 112))
    rw [e] at this
    rw [this, stageVal_apply, hraw hu]
    congr 1
    show 352 * u + (2 * i.val + p.val) = _
    omega
  · intro u' hw hu i p g hg
    rw [hk _ fun x e => ?_]
    · exact hw hu i p g hg
    · have h0 := congrArg (fun y : S2x176x2x128.Idx => (y 0).val) e
      have h0' : (b + 1) % 2 + 1 * (x 0).val = b % 2 := h0
      have := (x 0).isLt
      change (x 0).val < 1 at this
      omega

/-- One half of half `t % 2` of the expanded scales stored. -/
theorem expand_half {v0 : IVec S176x128 32} (hv : ∀ (i : Fin 176) (l : Fin 128), v0 (ix2 i l) = BitVec.ofNat 32 l.val) {u ch t h : ℕ} (hch : ch < 7) (hh : h < 2)
    {raw : Vec Ideal S1x176x2x128 .bf16} (hraw : u < 108 → ∀ (i : Fin 176) (p : Fin 2) (g : Fin 128), g.val < 112 → (raw (ix4 (0 : Fin 1) i p g) : EReal) = D.S (352 * u + 2 * i.val + p.val) g.val)
    {X X' : S2x176x2x256.Idx → Elt Ideal .bf16}
    (hX : ∀ x, X' ((Rect.unit (s := S2x176x2x256) ![t % 2, 0, 0, 128 * (h % 2)] S1x176x2x128.size (inb_half t h)).emb x) = expandVal v0 (8 * (2 * ch + h)) raw x)
    (hk : ∀ y, (∀ x, (Rect.unit (s := S2x176x2x256) ![t % 2, 0, 0, 128 * (h % 2)] S1x176x2x128.size (inb_half t h)).emb x ≠ y) → X' y = X y) :
    HalfE D (par t) u ch h X' ∧ (∀ u' ch' h', h' < 2 → h' ≠ h → HalfE D (par t) u' ch' h' X → HalfE D (par t) u' ch' h' X') ∧ ∀ u' ch' h', HalfE D (par (t + 1)) u' ch' h' X → HalfE D (par (t + 1)) u' ch' h' X' := by
  have eh : h % 2 = h := Nat.mod_eq_of_lt hh
  refine ⟨?_, ?_, ?_⟩
  · intro hu i p j h1 h2
    have hl : j.val - 128 * h < 128 := by omega
    have e : (Rect.unit (s := S2x176x2x256) ![t % 2, 0, 0, 128 * (h % 2)] S1x176x2x128.size (inb_half t h)).emb (ix4 (0 : Fin 1) i p (⟨j.val - 128 * h, hl⟩ : Fin 128)) = ix4 (par t) i p j :=
      idx4_eq _ _ _ _ _ (by show t % 2 + 1 * 0 = t % 2; omega) (by show 0 + 1 * i.val = i.val; omega) (by show 0 + 1 * p.val = p.val; omega) (by show 128 * (h % 2) + 1 * (j.val - 128 * h) = j.val; omega)
    have := hX (ix4 (0 : Fin 1) i p (⟨j.val - 128 * h, hl⟩ : Fin 128))
    rw [e] at this
    rw [this, expandVal_apply v0 hv _ (by omega), hraw hu _ _ _ (by show 8 * (2 * ch + h) + (j.val - 128 * h) / 16 < 112; omega)]
    congr 1
    show 8 * (2 * ch + h) + (j.val - 128 * h) / 16 = _
    omega
  · intro u' ch' h' hh' hne hw hu i p j h1 h2
    rw [hk _ fun x e => ?_]
    · exact hw hu i p j h1 h2
    · have h0 := congrArg (fun y : S2x176x2x256.Idx => (y 3).val) e
      have h0' : 128 * (h % 2) + 1 * (x 3).val = j.val := h0
      have := (x 3).isLt
      change (x 3).val < 128 at this
      omega
  · intro u' ch' h' hw hu i p j h1 h2
    rw [hk _ fun x e => ?_]
    · exact hw hu i p j h1 h2
    · have h0 := congrArg (fun y : S2x176x2x256.Idx => (y 0).val) e
      have h0' : t % 2 + 1 * (x 0).val = (t + 1) % 2 := h0
      have := (x 0).isLt
      change (x 0).val < 1 at this
      omega

theorem load9T (k : Fin k0_t2_loop.trips) (j : Fin 4) (hj : fr (k.val + 1) j = false) {p10 : Pr Ideal S2x176x2x128 .bf16} {p11 : Pr Ideal S2x176x2x256 .bf16} {r : LoadRect S4x704x112} (hr : r.set ⊆ (R9 j).set) {hl : a9.view.LoadsAt r}
    {κ : (r.shape.Idx → Elt Ideal .bf16) → PI Ideal R} {Q : R → sProp 𝕄} :
    RV c V a3 a4 a5 (stK D k p10 p11) ⊢ iprop((∀ v, ⌜∃ X, B9 D k.val 4 j X ∧ ∀ i, v i = X (r.idx i)⌝ -∗ RV c V a3 a4 a5 (stK D k p10 p11) -∗ Wk c (κ v) Q) -∗ Wk c (.op (.load a9 r hl) κ) Q) :=
  loadV_9 c V a3 a4 a5 j (B9 D k.val 4 j) (Prod.ext hj rfl) hr
theorem load8T (k : Fin k0_t2_loop.trips) (j : Fin 4) (hj : fr (k.val + 1) j = false) {p10 : Pr Ideal S2x176x2x128 .bf16} {p11 : Pr Ideal S2x176x2x256 .bf16} {r : LoadRect S4x704x1792} (hr : r.set ⊆ (R8 j).set) {hl : a8.view.LoadsAt r}
    {κ : (r.shape.Idx → Elt Ideal .i8) → PI Ideal R} {Q : R → sProp 𝕄} :
    RV c V a3 a4 a5 (stK D k p10 p11) ⊢ iprop((∀ v, ⌜∃ X, B8 D k.val 4 j X ∧ ∀ i, v i = X (r.idx i)⌝ -∗ RV c V a3 a4 a5 (stK D k p10 p11) -∗ Wk c (κ v) Q) -∗ Wk c (.op (.load a8 r hl) κ) Q) :=
  loadV_8 c V a3 a4 a5 j (B8 D k.val 4 j) (Prod.ext hj rfl) hr

/-- A sub-block's scales out of the slot that holds its block. -/
theorem slot_rows {j : Fin 4} {n m b u : ℕ} (hm : n ≤ m) (hm' : m < n + 4) (hj : m % 4 = j.val) (hu : u = 2 * m + b % 2) {Y : S4x704x112.Idx → Elt Ideal .bf16} (hY : B9 D n 4 j Y) (h : u < 108) (r : Fin 352) (g : Fin 112) :
    (Y ((Rect.unit (s := S4x704x112) ![j.val, 352 * (b % 2), 0] S1x352x112.size (inb_rows j b)).toLoadRect.idx (ix3 (0 : Fin 1) r g)) : EReal) = D.S (352 * u + r.val) g.val := by
  have hb : b % 2 < 2 := Nat.mod_lt _ (by decide)
  have e : (Rect.unit (s := S4x704x112) ![j.val, 352 * (b % 2), 0] S1x352x112.size (inb_rows j b)).toLoadRect.idx (ix3 (0 : Fin 1) r g) = ix3 j (⟨352 * (b % 2) + r.val, by omega⟩ : Fin 704) g :=
    idx3_eq _ _ _ _ (by show j.val + 1 * 0 = _; omega) (by show 352 * (b % 2) + 1 * r.val = 352 * (b % 2) + r.val; omega) (by show 0 + 1 * g.val = _; omega)
  rw [e, hY m hm hm' hj (by omega)]
  congr 1
  show 704 * m + (352 * (b % 2) + r.val) = _
  omega

theorem stageV (h10 : a10.IsWhole) (k : Fin k0_t2_loop.trips) (b : ℕ) (hb : b < 2) (p10 p10' : Pr Ideal S2x176x2x128 .bf16) (p11 : Pr Ideal S2x176x2x256 .bf16)
    (hp : ∀ X X', p10 X → Words D (par (b + 1)) (2 * k.val + b + 1) X' → (∀ u', Words D (par b) u' X → Words D (par b) u' X') → p10' X')
    (κ : Unit → PI Ideal R) (Q : R → sProp 𝕄) :
    RV c V a3 a4 a5 (stK D k p10 p11) ⊢ iprop((RV c V a3 a4 a5 (stK D k p10' p11) -∗ Wk c (κ ()) Q) -∗ Wk c (stageOp a9 a10 h10 k b κ) Q) := by
  have hu : ∀ (v : Vec Ideal S1x352x112 .bf16), (∃ X, B9 D k.val 4 (match b with | 0 => slotNow k | _ => slotNext k) X ∧ ∀ i, v i = X ((Rect.unit (s := S4x704x112) ![(match b with | 0 => slotNow k | _ => slotNext k).val, 352 * ((b + 1) % 2), 0] S1x352x112.size (inb_rows _ (b + 1))).toLoadRect.idx i)) →
      2 * k.val + b + 1 < 108 → ∀ (r : Fin 352) (g : Fin 112), (v (ix3 (0 : Fin 1) r g) : EReal) = D.S (352 * (2 * k.val + b + 1) + r.val) g.val := by
    match b, hb with
    | 0, _ =>
      rintro v ⟨Y, hY, hv⟩ hu r g
      rw [hv]
      exact slot_rows D (n := k.val) (m := k.val) (b := 0 + 1) le_rfl (by omega) (slotNow_val k).symm (by omega) hY hu r g
    | 1, _ =>
      rintro v ⟨Y, hY, hv⟩ hu r g
      rw [hv]
      exact slot_rows D (n := k.val) (m := k.val + 1) (b := 1 + 1) (by omega) (by omega) (slotNext_val k).symm (by omega) hY hu r g
  have hf : fr (k.val + 1) (match b with | 0 => slotNow k | _ => slotNext k) = false := by
    split
    · exact fr_now k
    · exact fr_slotNext k
  unfold stageOp
  iintro HR Hk
  iapply (load9T c V a3 a4 a5 D k _ hf (sub_rows _ _)) $$ HR
  iintro %v %hv HR
  iapply (load_hv c keepT_10) $$ HR
  iintro %w %hw HR
  iapply (store_hv c (setT_10 p10') fun X X' h1 h2 h3 => hp X X' h1 (stage_words D (hu v hv) h2 h3).1 (stage_words D (hu v hv) h2 h3).2) $$ HR
  iexact Hk

theorem words_raw {b : ℕ} {u : ℕ} {raw : Vec Ideal S1x176x2x128 .bf16} (h : ∃ X, Words D (par b) u X ∧ ∀ i, raw i = X ((Rect.unit (s := S2x176x2x128) ![b % 2, 0, 0, 0] S1x176x2x128.size (inb_words b)).toLoadRect.idx i)) :
    u < 108 → ∀ (i : Fin 176) (p : Fin 2) (g : Fin 128), g.val < 112 → (raw (ix4 (0 : Fin 1) i p g) : EReal) = D.S (352 * u + 2 * i.val + p.val) g.val := by
  obtain ⟨X, hX, hv⟩ := h
  intro hu i p g hg
  rw [hv, idx4_eq ((Rect.unit (s := S2x176x2x128) ![b % 2, 0, 0, 0] S1x176x2x128.size (inb_words b)).toLoadRect.idx (ix4 (0 : Fin 1) i p g)) (par b) i p g
    (by show b % 2 + 1 * 0 = b % 2; omega) (by show 0 + 1 * i.val = i.val; omega) (by show 0 + 1 * p.val = p.val; omega) (by show 0 + 1 * g.val = g.val; omega)]
  exact hX hu i p g hg

/-- One half of step `t`'s scales expanded from sub-block `u`'s words. -/
theorem expandV (h11 : a11.IsWhole) {v0 : IVec S176x128 32} (hv : ∀ (i : Fin 176) (l : Fin 128), v0 (ix2 i l) = BitVec.ofNat 32 l.val) (k : Fin k0_t2_loop.trips) (t h u : ℕ) (hh : h < 2)
    (p10 : Pr Ideal S2x176x2x128 .bf16) (p11 p11' : Pr Ideal S2x176x2x256 .bf16) (h10 : ∀ X, p10 X → Words D (par (t / 7)) u X)
    (hp : ∀ X X', p11 X → HalfE D (par t) u (t % 7) h X' → (∀ u' ch' h', h' < 2 → h' ≠ h → HalfE D (par t) u' ch' h' X → HalfE D (par t) u' ch' h' X') →
      (∀ u' ch' h', HalfE D (par (t + 1)) u' ch' h' X → HalfE D (par (t + 1)) u' ch' h' X') → p11' X')
    (κ : Unit → PI Ideal R) (Q : R → sProp 𝕄) :
    RV c V a3 a4 a5 (stK D k p10 p11) ⊢ iprop((RV c V a3 a4 a5 (stK D k p10 p11') -∗ Wk c (κ ()) Q) -∗ Wk c (expandOp a10 a11 h11 v0 t h κ) Q) := by
  have hw : ∀ v : Vec Ideal S1x176x2x128 .bf16, (∃ X, p10 X ∧ ∀ i, v i = X ((Rect.unit (s := S2x176x2x128) ![t / 7 % 2, 0, 0, 0] S1x176x2x128.size (inb_words (t / 7))).toLoadRect.idx i)) → _ :=
    fun v ⟨X, hX, e⟩ => words_raw D (b := t / 7) (u := u) ⟨X, h10 X hX, e⟩
  unfold expandOp
  iintro HR Hk
  iapply (load_hv c keepT_10) $$ HR
  iintro %v %hraw HR
  iapply (load_hv c keepT_11) $$ HR
  iintro %w %_hw HR
  iapply (store_hv c (setT_11 p11') fun X X' h1 h2 h3 =>
    hp X X' h1 (expand_half D hv (Nat.mod_lt t (by decide)) hh (hw v hraw) h2 h3).1 (expand_half D hv (Nat.mod_lt t (by decide)) hh (hw v hraw) h2 h3).2.1 (expand_half D hv (Nat.mod_lt t (by decide)) hh (hw v hraw) h2 h3).2.2) $$ HR
  iexact Hk

theorem monoT {f : Fin 4 → Bool} {n w : ℕ} {p10 p10' : Pr Ideal S2x176x2x128 .bf16} {p11 p11' : Pr Ideal S2x176x2x256 .bf16} (h : ∀ X, p10 X → p10' X) (h' : ∀ X, p11 X → p11' X) : (stT D f n w p10 p11).Le (stT D f n w p10' p11') :=
  ⟨⟨rfl, fun _ h => h⟩, fun _ => ⟨rfl, fun _ h => h⟩, fun _ => ⟨rfl, fun _ h => h⟩, fun _ h => h, fun _ h => h, fun _ h => h, fun _ h => h, h, h'⟩

theorem par_eq {a b : ℕ} (h : a % 2 = b % 2) : par a = par b := Fin.ext h

/-- The next step's expansion. -/
theorem nextV (h11 : a11.IsWhole) {v0 : IVec S176x128 32} (hv : ∀ (i : Fin 176) (l : Fin 128), v0 (ix2 i l) = BitVec.ofNat 32 l.val) (k : Fin k0_t2_loop.trips) (t : ℕ) (ht : t < 14) (κ : Unit → PI Ideal R) (Q : R → sProp 𝕄) :
    RV c V a3 a4 a5 (stK D k (R10 D k.val (t + 1)) (R11 D k.val t)) ⊢ iprop((RV c V a3 a4 a5 (stK D k (R10 D k.val (t + 1)) (R11 D k.val (t + 1))) -∗ Wk c (κ ()) Q) -∗
      Wk c (expandOp a10 a11 h11 v0 ((t + 1) % 14) 0 fun _ => expandOp a10 a11 h11 v0 ((t + 1) % 14) 1 κ) Q) := by
  have hw : ∀ X, R10 D k.val (t + 1) X → Words D (par ((t + 1) % 14 / 7)) (2 * k.val + (t + 1) / 7) X := by
    rintro X ⟨h0, h1⟩
    by_cases c1 : t + 1 < 7
    · rw [if_pos (by omega)] at h0
      rw [par_eq (b := 0) (by omega), show 2 * k.val + (t + 1) / 7 = 2 * k.val by omega]
      exact h0
    by_cases c2 : t + 1 = 14
    · rw [if_neg (by omega)] at h0
      rw [par_eq (b := 0) (by omega), show 2 * k.val + (t + 1) / 7 = 2 * k.val + 2 by omega]
      exact h0
    · rw [par_eq (b := 1) (by omega), show 2 * k.val + (t + 1) / 7 = 2 * k.val + 1 by omega]
      exact h1 (by omega)
  have e1 : par ((t + 1) % 14) = par (t + 1) := par_eq (by omega)
  have e2 : par ((t + 1) % 14 + 1) = par t := par_eq (by omega)
  have e3 : par (t + 1 + 1) = par t := par_eq (by omega)
  have e4 : (t + 1) % 14 % 7 = (t + 1) % 7 := by omega
  iintro HR Hk
  iapply (expandV c V a3 a4 a5 D h11 hv k ((t + 1) % 14) 0 (2 * k.val + (t + 1) / 7) (by decide) _ _
    (fun X => HalfE D (par (t + 1)) (2 * k.val + (t + 1) / 7) ((t + 1) % 7) 0 X ∧ Exp D (par t) k.val t X) hw (by
      rintro X X' ⟨hX, _⟩ q1 _ q3
      rw [e1, e4] at q1
      rw [e2] at q3
      exact ⟨q1, q3 _ _ _ hX.1, q3 _ _ _ hX.2⟩) _ Q) $$ HR
  iintro HR
  iapply (expandV c V a3 a4 a5 D h11 hv k ((t + 1) % 14) 1 (2 * k.val + (t + 1) / 7) (by decide) _ _ (R11 D k.val (t + 1)) hw (by
      rintro X X' ⟨hX0, hX⟩ q1 q2 q3
      rw [e1, e4] at q1
      rw [e1] at q2
      rw [e2] at q3
      refine ⟨⟨q2 _ _ _ (by decide) (by decide) hX0, q1⟩, fun _ => ?_⟩
      rw [e3]
      exact ⟨q3 _ _ _ hX.1, q3 _ _ _ hX.2⟩) κ Q) $$ HR
  iexact Hk

theorem prepV (h10 : a10.IsWhole) (h11 : a11.IsWhole) {v0 : IVec S176x128 32} (hv : ∀ (i : Fin 176) (l : Fin 128), v0 (ix2 i l) = BitVec.ofNat 32 l.val) (k : Fin k0_t2_loop.trips)
    (b ch : ℕ) (hb : b < 2) (hc : ch < 7) (κ : Unit → PI Ideal R) (Q : R → sProp 𝕄) :
    RV c V a3 a4 a5 (stK D k (R10 D k.val (b * 7 + ch)) (R11 D k.val (b * 7 + ch))) ⊢ iprop((RV c V a3 a4 a5 (stK D k (R10 D k.val (b * 7 + ch + 1)) (R11 D k.val (b * 7 + ch + 1))) -∗ Wk c (κ ()) Q) -∗
      Wk c ((opsI a7 a8 a9 a10 h10 a11 h11 v0 k).prep b ch κ) Q) := by
  have hn := nextV c V a3 a4 a5 D h11 hv k (b * 7 + ch) (by omega) κ Q
  by_cases h3 : ch = 3
  · subst h3
    change RV c V a3 a4 a5 (stK D k (R10 D k.val (b * 7 + 3)) (R11 D k.val (b * 7 + 3))) ⊢ iprop((RV c V a3 a4 a5 (stK D k (R10 D k.val (b * 7 + 3 + 1)) (R11 D k.val (b * 7 + 3 + 1))) -∗ Wk c (κ ()) Q) -∗
      Wk c (stageOp a9 a10 h10 k b (fun _ => expandOp a10 a11 h11 v0 ((b * 7 + 3 + 1) % 14) 0 fun _ => expandOp a10 a11 h11 v0 ((b * 7 + 3 + 1) % 14) 1 κ)) Q)
    iintro HR Hk
    iapply (stageV c V a3 a4 a5 D h10 k b hb _ (R10 D k.val (b * 7 + 3 + 1)) _ (by
      rintro X X' ⟨q0, q1⟩ w1 w2
      match b, hb with
      | 0, _ => exact ⟨w2 _ q0, fun _ => w1⟩
      | 1, _ => exact ⟨w1, fun _ => w2 _ (q1 (by decide))⟩) _ Q) $$ HR
    iintro HR
    iapply hn $$ HR
    iexact Hk
  · have e : (opsI a7 a8 a9 a10 h10 a11 h11 v0 k).prep b ch κ = expandOp a10 a11 h11 v0 ((b * 7 + ch + 1) % 14) 0 fun _ => expandOp a10 a11 h11 v0 ((b * 7 + ch + 1) % 14) 1 κ := by
      unfold opsI
      dsimp only
      split
      · exact absurd rfl h3
      · rfl
    rw [e]
    have hm : ∀ X, R10 D k.val (b * 7 + ch) X → R10 D k.val (b * 7 + ch + 1) X := by
      rintro X ⟨q0, q1⟩
      refine ⟨?_, fun h => q1 (by omega)⟩
      by_cases h : b * 7 + ch ≤ 10
      · rw [if_pos h] at q0; rw [if_pos (by omega)]; exact q0
      · rw [if_neg h] at q0; rw [if_neg (by omega)]; exact q0
    iintro HR Hk
    ihave HR := (RV_mono (monoT D hm fun _ h => h)) $$ HR
    iapply hn $$ HR
    iexact Hk

/-- The buffers' operations of trip `k`. -/
noncomputable def opsV (hD : D.Fin) (h10 : a10.IsWhole) (h11 : a11.IsWhole) {v0 : IVec S176x128 32} (hv : ∀ (i : Fin 176) (l : Fin 128), v0 (ix2 i l) = BitVec.ofNat 32 l.val) (k : Fin k0_t2_loop.trips) (Q : R → sProp 𝕄) :
    OpsOk (D.spec hD k.val k.isLt) (opsI a7 a8 a9 a10 h10 a11 h11 v0 k) (fun p => Wk c p Q) (fun n => RV c V a3 a4 a5 (stK D k (R10 D k.val n) (R11 D k.val n))) where
  sc b ch st s := ∀ (r : Fin 32) (j : Fin 256), (s (ix2 r j) : EReal) = D.S (704 * k.val + 352 * b + 32 * st + r.val) ((256 * ch + j.val) / 16)
  co b ch st q := ∀ (r : Fin 32) (j : Fin 256), q (ix2 r j) = D.W (704 * k.val + 352 * b + 32 * st + r.val) (256 * ch + j.val)
  lhs b ch st s q _ _ _ hs hq := by
    constructor
    · intro r j
      rw [dqLo_apply, hs, hq]; rfl
    · intro r j
      rw [dqHi_apply, hs, hq]; rfl
  prep b ch κ hb hc := prepV c V a3 a4 a5 D h10 h11 hv k b ch hb hc κ Q
  wide b ch st κ hb hc hst := by
    have hw : ∀ v : Vec Ideal S1x16x2x256 .bf16, (∃ X, R11 D k.val (b * 7 + ch + 1) X ∧ ∀ i, v i = X ((Rect.unit (s := S2x176x2x256) ![(b * 7 + ch) % 2 % 2, 16 * (st % 11), 0, 0] S1x16x2x256.size (inb_wide ((b * 7 + ch) % 2) st)).toLoadRect.idx i)) →
        ∀ (r : Fin 32) (j : Fin 256), (wideVal v (ix2 r j) : EReal) = D.S (704 * k.val + 352 * b + 32 * st + r.val) ((256 * ch + j.val) / 16) := by
      rintro v ⟨X, ⟨_, hX⟩, e⟩ r j
      have hk : k.val < 54 := k.isLt
      obtain ⟨x0, x1⟩ := hX (by omega)
      have es : st % 11 = st := Nat.mod_eq_of_lt hst
      rw [wideVal_apply, e, idx4_eq (LoadRect.idx _ _) (par (b * 7 + ch + 1 + 1)) (⟨16 * st + r.val / 2, by omega⟩ : Fin 176) (⟨r.val % 2, by omega⟩ : Fin 2) j
        (by show (b * 7 + ch) % 2 % 2 + 1 * 0 = (b * 7 + ch + 1 + 1) % 2; omega) (by show 16 * (st % 11) + 1 * (r.val / 2) = 16 * st + r.val / 2; omega) (by show 0 + 1 * (r.val % 2) = r.val % 2; omega) (by show 0 + 1 * j.val = j.val; omega)]
      have eu : (b * 7 + ch + 1 - 1) / 7 = b := by omega
      have ec : (b * 7 + ch + 1 - 1) % 7 = ch := by omega
      rw [eu, ec] at x0 x1
      have hj := j.isLt
      have key : (X (ix4 (par (b * 7 + ch + 1 + 1)) (⟨16 * st + r.val / 2, by omega⟩ : Fin 176) (⟨r.val % 2, by omega⟩ : Fin 2) j) : EReal) = D.S (352 * (2 * k.val + b) + 2 * (16 * st + r.val / 2) + r.val % 2) (16 * ch + j.val / 16) := by
        by_cases h : j.val < 128
        · exact x0 (by omega) _ _ j (by omega) (by omega)
        · exact x1 (by omega) _ _ j (by omega) (by omega)
      rw [key]
      congr 1 <;> omega
    unfold opsI
    dsimp only
    iintro HR Hk
    iapply (load_hv c keepT_11) $$ HR
    iintro %v %hX HR
    ispecialize Hk $$ %(wideVal v)
    iapply Hk
    · ipureintro; exact hw v hX
    · iexact HR
  codes b ch st κ hb hc hst := by
    have hw : ∀ v : Vec Ideal S1x32x256 .i8, (∃ X, B8 D k.val 4 (slotNow k) X ∧ ∀ i, v i = X ((Rect.unit (s := S4x704x1792) ![(slotNow k).val, 352 * (b % 2) + 32 * (st % 11), 256 * (ch % 7)] S1x32x256.size (inb_codes (slotNow k) b ch st)).toLoadRect.idx i)) →
        ∀ (r : Fin 32) (j : Fin 256), (shapeCast S32x256 v shapeCasts_S1x32x256_S32x256) (ix2 r j) = D.W (704 * k.val + 352 * b + 32 * st + r.val) (256 * ch + j.val) := by
      rintro v ⟨X, hX, e⟩ r j
      have hk : k.val < 54 := k.isLt
      have es : (shapeCast S32x256 v shapeCasts_S1x32x256_S32x256) (ix2 r j) = v (ix3 (0 : Fin 1) r j) := by pointwise
      rw [es, e, idx3_eq (LoadRect.idx _ _) (slotNow k) (⟨352 * b + 32 * st + r.val, by omega⟩ : Fin 704) (⟨256 * ch + j.val, by omega⟩ : Fin 1792)
        (by show (slotNow k).val + 1 * 0 = _; omega) (by show 352 * (b % 2) + 32 * (st % 11) + 1 * r.val = 352 * b + 32 * st + r.val; rw [Nat.mod_eq_of_lt hb, Nat.mod_eq_of_lt hst]; omega)
        (by show 256 * (ch % 7) + 1 * j.val = 256 * ch + j.val; rw [Nat.mod_eq_of_lt hc]; omega)]
      rw [hX k.val le_rfl (by omega) (slotNow_val k).symm hk]
      congr 1
      show 704 * k.val + (352 * b + 32 * st + r.val) = _
      omega
    unfold opsI
    dsimp only
    iintro HR Hk
    iapply (load8T c V a3 a4 a5 D k (slotNow k) (fr_now k) (sub_codes _ _ _ _)) $$ HR
    iintro %v %hX HR
    ispecialize Hk $$ %_
    iapply Hk
    · ipureintro; exact hw v hX
    · iexact HR
  tile n ch q κ _ hc := by
    have hw : ∀ v : Vec Ideal S1x128x2x256 .bf16, (∃ X, A7 D X ∧ ∀ i, v i = X ((Rect.unit (s := S14x128x2x256) ![(2 * ch + q.val) % 14, 0, 0, 0] S1x128x2x256.size (inb_tile (2 * ch + q.val))).toLoadRect.idx i)) →
        ∀ (a j : Fin 256), (tileVal v (ix2 a j) : EReal) = D.x q a.val (256 * ch + j.val) := by
      rintro v ⟨X, hX, e⟩ a j
      rw [tileVal_apply, e, idx4_eq (LoadRect.idx _ _) (⟨2 * ch + q.val, by omega⟩ : Fin 14) (⟨a.val / 2, by omega⟩ : Fin 128) (⟨a.val % 2, by omega⟩ : Fin 2) j
        (by show (2 * ch + q.val) % 14 + 1 * 0 = 2 * ch + q.val; omega) (by show 0 + 1 * (a.val / 2) = a.val / 2; omega) (by show 0 + 1 * (a.val % 2) = a.val % 2; omega) (by show 0 + 1 * j.val = j.val; omega)]
      rw [hX]
      have e1 : (⟨(2 * ch + q.val) % 2, Nat.mod_lt _ (by decide)⟩ : Fin 2) = q := Fin.ext (by show (2 * ch + q.val) % 2 = q.val; omega)
      show D.x ⟨(2 * ch + q.val) % 2, Nat.mod_lt _ (by decide)⟩ (2 * (a.val / 2) + a.val % 2) (256 * ((2 * ch + q.val) / 2) + j.val) = _
      rw [e1]
      congr 1 <;> omega
    unfold opsI
    dsimp only
    iintro HR Hk
    iapply (load_hv c keepT_7) $$ HR
    iintro %v %hX HR
    ispecialize Hk $$ %(tileVal v)
    iapply Hk
    · ipureintro; exact hw v hX
    · iexact HR
  assume P d κ h := wp_assume (defs := defs₀ (F := Ideal)) (Q := Q) (k := κ) Variants.none (c : Thread nD τ) none Set.univ h

end

end

end Cert.Proof.KernelIdeal
-- ==== Proof.LayV.lean ====
/-
  How the activations are laid out: the kernel gathers each chunk's lanes of even groups of sixteen into one tile and
  those of odd groups into the next.
-/
module

public import proofs.«01_k».proof.Proof.TripOkV
public import proofs.«01_k».proof.Proof.Gen.KernelIdeal.Skeleton

@[expose] public section

noncomputable section

namespace Cert.Proof.KernelIdeal

open Cert.KernelIdeal Cert.KernelIdeal.Gen Cert.Proof Cert.Proof.Trip
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (Pipeline.UD sig nD τ) ℕ

/-! ## The gathered values -/

/-- The lanes of `w` that `idx` names. -/
def lanes (w : FVec Ideal S128x128 .bf16) (ix : IVec S128x128 32) : FVec Ideal S128x128 .bf16 :=
  truncf .bf16 (dynamicGather 1 (extf .f32 w : FVec Ideal S128x128 .f32) (shapeCast S128x128 (shapeCast S128x128x1
    (select (cmpi .slt ix (broadcast S128x128 0#32)) (addi ix (broadcast S128x128 128#32)) ix) shapeCasts_S128x128_S128x128x1) shapeCasts_S128x128x1_S128x128))

theorem lanes_apply (w : FVec Ideal S128x128 .bf16) (ix : IVec S128x128 32) (i : Fin 128) (l : Fin 128) (n : ℕ) (hn : n < 128) (h : ix (ix2 i l) = BitVec.ofNat 32 n) :
    lanes w ix (ix2 i l) = w (ix2 i (⟨n, hn⟩ : Fin 128)) := by
  unfold lanes
  pointwise
  congr 2
  apply Fin.ext
  show (Scalar.select (IntOp.cmpi CmpIPredicate.slt (ix (ix2 i l)) 0#32) (IntOp.addi (ix (ix2 i l)) 128#32) (ix (ix2 i l))).toNat % 128 = n
  rw [h]
  clear h
  show (Scalar.select (IntOp.cmpi CmpIPredicate.slt (BitVec.ofNat 32 n) 0#32) (IntOp.addi (BitVec.ofNat 32 n) 128#32) (BitVec.ofNat 32 n)).toNat % 128 = n
  revert n; decide

/-- What is stored of two chunks of `128` columns: the named lanes of the first, then of the second. -/
def layVal (sel : IVec S128x128 1) (ix : IVec S128x128 32) (v v' : Vec Ideal S256x128 .bf16) : Vec Ideal S1x128x2x128 .bf16 :=
  interleaveRows S1x128x2x128
    (shapeCast S1x128x1x128 (shapeCast S1x128x128 (select sel (lanes (rowsOfParity 0 S128x128 v bitcasts_S256x128_w16_S128x128_w32) ix) (lanes (rowsOfParity 0 S128x128 v' bitcasts_S256x128_w16_S128x128_w32) ix)) shapeCasts_S128x128_S1x128x128) shapeCasts_S1x128x128_S1x128x1x128)
    (shapeCast S1x128x1x128 (shapeCast S1x128x128 (select sel (lanes (rowsOfParity 1 S128x128 v bitcasts_S256x128_w16_S128x128_w32) ix) (lanes (rowsOfParity 1 S128x128 v' bitcasts_S256x128_w16_S128x128_w32) ix)) shapeCasts_S128x128_S1x128x128) shapeCasts_S1x128x128_S1x128x1x128)
    bitcasts_S1x128x2x128_w16_S1x128x1x128_w32

theorem layVal_apply {sel : IVec S128x128 1} {ix : IVec S128x128 32} (v v' : Vec Ideal S256x128 .bf16) (i : Fin 128) (p : Fin 2) (l : Fin 128) (n : ℕ) (hn : n < 128)
    (hs : sel (ix2 i l) = if l.val < 64 then 1#1 else 0#1) (h : ix (ix2 i l) = BitVec.ofNat 32 n) :
    layVal sel ix v v' (ix4 (0 : Fin 1) i p l) = if l.val < 64 then v (ix2 (⟨2 * i.val + p.val, by omega⟩ : Fin 256) (⟨n, hn⟩ : Fin 128)) else v' (ix2 (⟨2 * i.val + p.val, by omega⟩ : Fin 256) (⟨n, hn⟩ : Fin 128)) := by
  have g : ∀ (q : Fin 2) (u : Vec Ideal S256x128 .bf16), lanes (rowsOfParity q S128x128 u bitcasts_S256x128_w16_S128x128_w32) ix (ix2 i l) = u (ix2 (⟨2 * i.val + q.val, by omega⟩ : Fin 256) (⟨n, hn⟩ : Fin 128)) := by
    intro q u
    rw [lanes_apply _ _ i l n hn h]
    pointwise
  have s : ∀ (A B : FVec Ideal S128x128 .bf16), select sel A B (ix2 i l) = if l.val < 64 then A (ix2 i l) else B (ix2 i l) := by
    intro A B
    show Scalar.select (sel (ix2 i l)) _ _ = _
    rw [hs]
    by_cases hl : l.val < 64
    · rw [if_pos hl, if_pos hl]; rfl
    · rw [if_neg hl, if_neg hl]; rfl
  have k0 := s (lanes (rowsOfParity 0 S128x128 v bitcasts_S256x128_w16_S128x128_w32) ix) (lanes (rowsOfParity 0 S128x128 v' bitcasts_S256x128_w16_S128x128_w32) ix)
  have k1 := s (lanes (rowsOfParity 1 S128x128 v bitcasts_S256x128_w16_S128x128_w32) ix) (lanes (rowsOfParity 1 S128x128 v' bitcasts_S256x128_w16_S128x128_w32) ix)
  rw [g, g] at k0 k1
  unfold layVal
  generalize select sel (lanes (rowsOfParity 0 S128x128 v bitcasts_S256x128_w16_S128x128_w32) ix) _ = g0 at k0 ⊢
  generalize select sel (lanes (rowsOfParity 1 S128x128 v bitcasts_S256x128_w16_S128x128_w32) ix) _ = g1 at k1 ⊢
  match p with
  | 0 => pointwise; exact k0
  | 1 => pointwise; exact k1

/-- The lane of the source that lane `l` takes. -/
def src (l : ℕ) : ℕ := (l / 16 * 32 + l % 16) % 128

section
variable (D : Data)

/-- A window of `128` columns of the activations. -/
def Win (n : ℕ) (v : Vec Ideal S256x128 .bf16) : Prop := ∀ (a : Fin 256) (l : Fin 128), (v (ix2 a l) : EReal) = D.X a.val (n + l.val)

/-- The activations in their buffer. -/
def X6 (X : S256x3584.Idx → Elt Ideal .bf16) : Prop := ∀ (a : Fin 256) (d : Fin 3584), (X (ix2 a d) : EReal) = D.X a.val d.val

/-- The halves of the tiles that `P` names hold their activations. -/
def A7s (P : ℕ → ℕ → Prop) (X : S14x128x2x256.Idx → Elt Ideal .bf16) : Prop :=
  ∀ (t : Fin 14) (i : Fin 128) (p : Fin 2) (j : Fin 256), P t.val (j.val / 128) → (X (ix4 t i p j) : EReal) = D.x ⟨t.val % 2, Nat.mod_lt _ (by decide)⟩ (2 * i.val + p.val) (256 * (t.val / 2) + j.val)

variable {D}

theorem lay_val {sel : IVec S128x128 1} {ix ix' : IVec S128x128 32} (hs : ∀ (i l : Fin 128), sel (ix2 i l) = if l.val < 64 then 1#1 else 0#1)
    (h : ∀ (i l : Fin 128), ix (ix2 i l) = BitVec.ofNat 32 (src l.val)) (q : Fin 2) (hq : ∀ y, ix' y = ix y + BitVec.ofNat 32 (16 * q.val)) {n : ℕ} {v v' : Vec Ideal S256x128 .bf16} (hv : Win D n v) (hv' : Win D (n + 128) v')
    {k : ℕ} (hk : n = 2 * k) (hk' : k % 128 = 0) (i : Fin 128) (p : Fin 2) (l : Fin 128) :
    (layVal sel ix' v v' (ix4 (0 : Fin 1) i p l) : EReal) = D.x q (2 * i.val + p.val) (k + l.val) := by
  have hb : src l.val + 16 * q.val < 128 := by unfold src; omega
  have e := hq (ix2 i l)
  rw [h, ← BitVec.ofNat_add] at e
  rw [layVal_apply v v' i p l _ hb (hs i l) e]
  have e1 : (k + l.val) / 16 = k / 16 + l.val / 16 := by omega
  have e2 : (k + l.val) % 16 = l.val % 16 := by omega
  unfold Data.x
  by_cases hl : l.val < 64
  · rw [if_pos hl, hv]
    congr 1
    show n + (src l.val + 16 * q.val) = _
    unfold src
    omega
  · rw [if_neg hl, hv']
    congr 1
    show n + 128 + (src l.val + 16 * q.val) = _
    unfold src
    omega

theorem lay_store {P : ℕ → ℕ → Prop} {t0 h0 : ℕ} (ht : t0 < 14) (hh : h0 < 2) {o : Fin 4 → ℕ} (e : o = ![t0, 0, 0, 128 * h0]) {io : ∀ a, o a + S1x128x2x128.size a ≤ S14x128x2x256.size a}
    {w : Vec Ideal S1x128x2x128 .bf16} {q : Fin 2} (hq : q.val = t0 % 2) (hw : ∀ (i : Fin 128) (p : Fin 2) (l : Fin 128), (w (ix4 (0 : Fin 1) i p l) : EReal) = D.x q (2 * i.val + p.val) (256 * (t0 / 2) + 128 * h0 + l.val))
    (X X' : S14x128x2x256.Idx → Elt Ideal .bf16) (hX : A7s D P X) (h1 : ∀ x, X' ((Rect.unit (s := S14x128x2x256) o S1x128x2x128.size io).emb x) = w x)
    (h2 : ∀ y, (∀ x, (Rect.unit (s := S14x128x2x256) o S1x128x2x128.size io).emb x ≠ y) → X' y = X y) : A7s D (fun t h => P t h ∨ (t = t0 ∧ h = h0)) X' := by
  subst e
  intro t i p j hP
  by_cases hc : t.val = t0 ∧ j.val / 128 = h0
  · have hl : j.val - 128 * h0 < 128 := by omega
    have := h1 (ix4 (0 : Fin 1) i p (⟨j.val - 128 * h0, hl⟩ : Fin 128))
    rw [idx4_eq (Rect.emb _ _) t i p j (by show t0 + 1 * 0 = t.val; omega) (by show 0 + 1 * i.val = i.val; omega) (by show 0 + 1 * p.val = p.val; omega)
      (by show 128 * h0 + 1 * (j.val - 128 * h0) = j.val; omega)] at this
    rw [this, hw]
    have eq : q = ⟨t.val % 2, Nat.mod_lt _ (by decide)⟩ := Fin.ext (by show q.val = t.val % 2; rw [hq, hc.1])
    rw [eq]
    congr 1
    show 256 * (t0 / 2) + 128 * h0 + (j.val - 128 * h0) = _
    rw [hc.1]
    omega
  · rw [h2 _ fun x e => ?_]
    · exact hX t i p j (hP.resolve_right hc)
    · have e0 : t0 + 1 * (x 0).val = t.val := congrArg (fun y : S14x128x2x256.Idx => (y 0).val) e
      have e3 : 128 * h0 + 1 * (x 3).val = j.val := congrArg (fun y : S14x128x2x256.Idx => (y 3).val) e
      have x0 : (x 0).val < 1 := (x 0).isLt
      have x3 : (x 3).val < 128 := (x 3).isLt
      exact hc ⟨by omega, by omega⟩

theorem off4_eq (k : Fin k0_t1_loop.trips) (q : Fin 2) : k0_off4 k (BitVec.ofNat 32 q.val) = ![0, 512 * k.val + 256 * q.val] := by revert k q; decide
theorem off5_eq (k : Fin k0_t1_loop.trips) (q : Fin 2) : k0_off5 k (BitVec.ofNat 32 q.val) = ![0, 512 * k.val + 256 * q.val + 128] := by revert k q; decide
theorem off6_eq (k : Fin k0_t1_loop.trips) (q : Fin 2) : k0_off6 k (BitVec.ofNat 32 q.val) = ![2 * k.val + q.val, 0, 0, 128 * 0] := by revert k q; decide
theorem off7_eq (k : Fin k0_t1_loop.trips) (q : Fin 2) : k0_off7 k (BitVec.ofNat 32 q.val) = ![2 * k.val + q.val, 0, 0, 128 * 1] := by revert k q; decide

theorem win_of {n : ℕ} {o : Fin 2 → ℕ} (e : o = ![0, n]) {io : ∀ a, o a + S256x128.size a ≤ S256x3584.size a} {v : Vec Ideal S256x128 .bf16}
    (h : Seen (X6 D) (Rect.unit (s := S256x3584) o S256x128.size io).toLoadRect v) : Win D n v := by
  subst e
  obtain ⟨X, hX, hv⟩ := h
  intro a l
  have hb : n + 128 ≤ 3584 := io 1
  rw [hv, idx2_eq (LoadRect.idx _ _) a (⟨n + l.val, by omega⟩ : Fin 3584) (by show 0 + 1 * a.val = a.val; omega) (by show n + 1 * l.val = n + l.val; omega)]
  exact hX _ _

end

/-! ## The loop's trips -/

/-- The state while the activations are laid out. -/
def stL (D : Data) (Y8 : Fin 4 → Bool × Pr Ideal S4x704x1792 .i8) (Y9 : Fin 4 → Bool × Pr Ideal S4x704x112 .bf16) (P : ℕ → ℕ → Prop) : SV Ideal where
  x := (false, X6 D)
  s8 := Y8
  s9 := Y9
  p3 := yes
  p4 := yes
  p5 := yes
  p7 := A7s D P
  p10 := yes
  p11 := yes

section
variable {c : Dev nD} {V : (b : Ref sig .tc) → Buf (Elt Ideal) ((c : Thread nD τ).loc b)}
variable {a3 : Memref sig .tc .vmem S1x256 .i32} {a4 a5 : Memref sig .tc .vmem S1x256 .f32}
variable (h0 : a0.IsWhole) (h1 : a1.IsWhole) (h2 : a2.IsWhole) (h3 : a3.IsWhole) (h4 : a4.IsWhole) (h5 : a5.IsWhole)
  (h6 : a6.IsWhole) (h7 : a7.IsWhole) (h8 : a8.IsWhole) (h9 : a9.IsWhole) (h10 : a10.IsWhole) (h11 : a11.IsWhole)
variable {D : Data} {Y8 : Fin 4 → Bool × Pr Ideal S4x704x1792 .i8} {Y9 : Fin 4 → Bool × Pr Ideal S4x704x112 .bf16} {P : ℕ → ℕ → Prop}

theorem load6L {r : LoadRect S256x3584} {hl : a6.view.LoadsAt r} : OkV c V a3 a4 a5 (stL D Y8 Y9 P) (stL D Y8 Y9 P) (Prog.lift (.load a6 r hl)) (Seen (X6 D) r) := okV_load_6 rfl
theorem load7L {r : LoadRect S14x128x2x256} {hl : a7.view.LoadsAt r} : OkV c V a3 a4 a5 (stL D Y8 Y9 P) (stL D Y8 Y9 P) (Prog.lift (.load a7 r hl)) (Seen (A7s D P) r) := okV_load_a7
theorem store7L (P' : ℕ → ℕ → Prop) {r : Rect S14x128x2x256} {w : r.shape.Idx → Elt Ideal .bf16} {hx : (a7.access r).Stores Finset.univ} {hm : Finset.univ = Finset.univ ∨ _}
    (hP : ∀ X X' : S14x128x2x256.Idx → Elt Ideal .bf16, A7s D P X → (∀ x, X' (r.emb x) = w x) → (∀ y, (∀ x, r.emb x ≠ y) → X' y = X y) → A7s D P' X') :
    OkV c V a3 a4 a5 (stL D Y8 Y9 P) (stL D Y8 Y9 P') (Prog.lift (.store a7 r w Finset.univ hx hm)) yes := okV_store_a7 (A7s D P') hP

theorem part1_V (v79_r0 : IVec S128x128 32) (k0_t1 : Fin k0_t1_loop.trips) :
    OkV c V a3 a4 a5 (stL D Y8 Y9 P) (stL D Y8 Y9 P) (k0_part1 a0 h0 a1 h1 a2 h2 a3 h3 a4 h4 a5 h5 a6 h6 a7 h7 a8 h8 a9 h9 a10 h10 a11 h11 cc0_scratch6 cc0_scratch7 cc0_scratch8 v79_r0 0#32 1#32 k0_t1)
      (fun r => ∃ v v', Win D (512 * k0_t1.val) v ∧ Win D (512 * k0_t1.val + 128) v' ∧
        r = ⟨Scf.iv 0#32 1#32 k0_t1, k0_pay2 v, k0_pay3 v, k0_pay4 v', k0_pay5 v', k0_pay6 v79_r0, k0_pay7 v79_r0 v, k0_pay8 v79_r0 v, k0_pay9 v', k0_pay10 v79_r0, 128#32⟩) := by
  rw [k0_part1_eq_skeleton]
  unfold k0_part1_skel
  refine OkV.bind load6L fun v hv => ?_
  refine OkV.bind load6L fun v' hv' => ?_
  exact OkV.ret ⟨v, v', win_of (off4_eq k0_t1 0) hv, win_of (off5_eq k0_t1 0) hv', rfl⟩

theorem part2_V {v79_r0 : IVec S128x128 32} {v81_r0 : IVec S128x128 1} (k0_t1 : Fin k0_t1_loop.trips) (arg15_r0 : BitVec 32) {v v' : Vec Ideal S256x128 .bf16}
    (hs : ∀ (i l : Fin 128), v81_r0 (ix2 i l) = if l.val < 64 then 1#1 else 0#1) (hi : ∀ (i l : Fin 128), v79_r0 (ix2 i l) = BitVec.ofNat 32 (src l.val)) (hv : Win D (512 * k0_t1.val) v) (hv' : Win D (512 * k0_t1.val + 128) v') :
    OkV c V a3 a4 a5 (stL D Y8 Y9 P) (stL D Y8 Y9 (fun t h => P t h ∨ (t = 2 * k0_t1.val ∧ h = 0)))
      (k0_part2 a0 h0 a1 h1 a2 h2 a3 h3 a4 h4 a5 h5 a6 h6 a7 h7 a8 h8 a9 h9 a10 h10 a11 h11 cc0_scratch6 cc0_scratch7 cc0_scratch8 v79_r0 v81_r0 k0_t1 arg15_r0 (k0_pay2 v) (k0_pay3 v) (k0_pay5 v') (k0_pay6 v79_r0) (k0_pay7 v79_r0 v) (k0_pay8 v79_r0 v) (k0_pay9 v') (k0_pay10 v79_r0) 128#32)
      (fun r => r = ⟨k0_pay12 v79_r0, k0_pay13 v79_r0 (k0_pay2 v), k0_pay14 (k0_pay3 v), k0_pay15 v79_r0, 128#32⟩) := by
  have hk : k0_t1.val < 7 := k0_t1.isLt
  rw [k0_part2_eq_skeleton]
  unfold k0_part2_skel
  refine OkV.bind load7L fun _ _ => ?_
  refine OkV.bind (store7L _ (lay_store (q := 0) (by omega) (by decide) (off6_eq k0_t1 0) (by show 0 = _; simp) fun i p l => ?_)) fun _ _ => ?_
  · have := lay_val (ix' := k0_pay6 v79_r0) hs hi 0 (fun y => rfl) hv hv' (k := 256 * k0_t1.val) (by omega) (by omega) i p l
    refine Eq.trans this ?_
    congr 1
    omega
  exact OkV.ret rfl

theorem part3_V {v79_r0 : IVec S128x128 32} {v81_r0 : IVec S128x128 1} (k0_t1 : Fin k0_t1_loop.trips) (arg15_r0 : BitVec 32) {v v' : Vec Ideal S256x128 .bf16}
    (hs : ∀ (i l : Fin 128), v81_r0 (ix2 i l) = if l.val < 64 then 1#1 else 0#1) (hi : ∀ (i l : Fin 128), v79_r0 (ix2 i l) = BitVec.ofNat 32 (src l.val)) (hv : Win D (512 * k0_t1.val) v) (hv' : Win D (512 * k0_t1.val + 128) v') :
    OkV c V a3 a4 a5 (stL D Y8 Y9 P) (stL D Y8 Y9 (fun t h => P t h ∨ (t = 2 * k0_t1.val + 1 ∧ h = 0)))
      (k0_part3 a0 h0 a1 h1 a2 h2 a3 h3 a4 h4 a5 h5 a6 h6 a7 h7 a8 h8 a9 h9 a10 h10 a11 h11 cc0_scratch6 cc0_scratch7 cc0_scratch8 v81_r0 k0_t1 arg15_r0 (k0_pay4 v') (k0_pay5 v') (k0_pay12 v79_r0) (k0_pay13 v79_r0 (k0_pay2 v)) (k0_pay14 (k0_pay3 v)) (k0_pay15 v79_r0) 128#32) yes := by
  have hk : k0_t1.val < 7 := k0_t1.isLt
  rw [k0_part3_eq_skeleton]
  unfold k0_part3_skel
  refine OkV.bind load7L fun _ _ => ?_
  refine OkV.bind (store7L _ (lay_store (q := 1) (by omega) (by decide) (off6_eq k0_t1 1) (by show 1 = (2 * k0_t1.val + 1) % 2; omega) fun i p l => ?_)) fun _ _ => ?_
  · have := lay_val (ix' := k0_pay12 v79_r0) hs hi 1 (fun y => rfl) hv hv' (k := 256 * k0_t1.val) (by omega) (by omega) i p l
    refine Eq.trans this ?_
    congr 1
    show _ = 256 * ((2 * k0_t1.val + 1) / 2) + 128 * 0 + l.val
    omega
  exact OkV.ret trivial

theorem part4_V (v79_r0 : IVec S128x128 32) (k0_t1 : Fin k0_t1_loop.trips) (v710_r0 : BitVec 32) :
    OkV c V a3 a4 a5 (stL D Y8 Y9 P) (stL D Y8 Y9 P) (k0_part4 a0 h0 a1 h1 a2 h2 a3 h3 a4 h4 a5 h5 a6 h6 a7 h7 a8 h8 a9 h9 a10 h10 a11 h11 cc0_scratch6 cc0_scratch7 cc0_scratch8 v79_r0 k0_t1 v710_r0)
      (fun r => ∃ v v', Win D (512 * k0_t1.val + 256) v ∧ Win D (512 * k0_t1.val + 256 + 128) v' ∧
        r = ⟨k0_pay17 v, k0_pay18 v, k0_pay19 v', k0_pay20 v', k0_pay21 v79_r0, k0_pay22 v79_r0 v, k0_pay23 v79_r0 v, k0_pay24 v79_r0 v', k0_pay25 v'⟩) := by
  rw [k0_part4_eq_skeleton]
  unfold k0_part4_skel
  refine OkV.bind load6L fun v hv => ?_
  refine OkV.bind load6L fun v' hv' => ?_
  exact OkV.ret ⟨v, v', win_of (off4_eq k0_t1 1) hv, win_of (off5_eq k0_t1 1) hv', rfl⟩

theorem part5_V {v79_r0 : IVec S128x128 32} {v81_r0 : IVec S128x128 1} (k0_t1 : Fin k0_t1_loop.trips) (arg15_r0 : BitVec 32) {v v' : Vec Ideal S256x128 .bf16}
    (hs : ∀ (i l : Fin 128), v81_r0 (ix2 i l) = if l.val < 64 then 1#1 else 0#1) (hi : ∀ (i l : Fin 128), v79_r0 (ix2 i l) = BitVec.ofNat 32 (src l.val)) (hv : Win D (512 * k0_t1.val + 256) v) (hv' : Win D (512 * k0_t1.val + 256 + 128) v') :
    OkV c V a3 a4 a5 (stL D Y8 Y9 P) (stL D Y8 Y9 (fun t h => P t h ∨ (t = 2 * k0_t1.val ∧ h = 1)))
      (k0_part5 a0 h0 a1 h1 a2 h2 a3 h3 a4 h4 a5 h5 a6 h6 a7 h7 a8 h8 a9 h9 a10 h10 a11 h11 cc0_scratch6 cc0_scratch7 cc0_scratch8 v79_r0 v81_r0 k0_t1 arg15_r0 (k0_pay17 v) (k0_pay18 v) (k0_pay21 v79_r0) (k0_pay22 v79_r0 v) (k0_pay23 v79_r0 v) (k0_pay24 v79_r0 v') (k0_pay25 v'))
      (fun r => r = ⟨k0_pay27 v79_r0, k0_pay28 v79_r0 (k0_pay18 v), k0_pay29 v79_r0 (k0_pay17 v)⟩) := by
  have hk : k0_t1.val < 7 := k0_t1.isLt
  rw [k0_part5_eq_skeleton]
  unfold k0_part5_skel
  refine OkV.bind load7L fun _ _ => ?_
  refine OkV.bind (store7L _ (lay_store (q := 0) (by omega) (by decide) (off7_eq k0_t1 0) (by show 0 = (2 * k0_t1.val) % 2; omega) fun i p l => ?_)) fun _ _ => ?_
  · have := lay_val (ix' := k0_pay21 v79_r0) hs hi 0 (fun y => rfl) hv hv' (k := 256 * k0_t1.val + 128) (by omega) (by omega) i p l
    refine Eq.trans this ?_
    congr 1
    show _ = 256 * ((2 * k0_t1.val) / 2) + 128 * 1 + l.val
    omega
  exact OkV.ret rfl

/-- A trip of the loop that lays out the activations. -/
theorem t1_V (k0_mxu1 : Mxu Ideal) {v34_r0 : IVec S128x128 32} {v60_r0 : IVec S128x128 32} {v62_r0 : BitVec 32} {v64_r0 : IVec S128x128 32} {v66_r0 : IVec S128x128 1} {v67_r0 : IVec S128x128 32}
    (hs : ∀ (i l : Fin 128), k0_pay1162 v34_r0 (ix2 i l) = if l.val < 64 then 1#1 else 0#1) (hi : ∀ (i l : Fin 128), k0_pay1161 v60_r0 v62_r0 v64_r0 v66_r0 v67_r0 (ix2 i l) = BitVec.ofNat 32 (src l.val)) (k : Fin k0_t1_loop.trips) (u : Unit) :
    OkV c V a3 a4 a5 (stL D Y8 Y9 (fun t _ => t < 2 * k.val)) (stL D Y8 Y9 (fun t _ => t < 2 * (k.val + 1)))
      (k0_t1_body a0 h0 a1 h1 a2 h2 a3 h3 a4 h4 a5 h5 a6 h6 a7 h7 a8 h8 a9 h9 a10 h10 a11 h11 cc0_scratch6 cc0_scratch7 cc0_scratch8 k0_mxu1 v34_r0 v60_r0 v62_r0 v64_r0 v66_r0 v67_r0 k u) yes := by
  have hk : k.val < 7 := k.isLt
  unfold k0_t1_body
  refine OkV.bind (part1_V h0 h1 h2 h3 h4 h5 h6 h7 h8 h9 h10 h11 _ k) fun r hr => ?_
  obtain ⟨v, v', hv, hv', rfl⟩ := hr
  refine OkV.bind (part2_V h0 h1 h2 h3 h4 h5 h6 h7 h8 h9 h10 h11 k _ hs hi hv hv') fun r hr => ?_
  subst hr
  refine OkV.bind (part3_V h0 h1 h2 h3 h4 h5 h6 h7 h8 h9 h10 h11 k _ hs hi hv hv') fun _ _ => ?_
  refine OkV.bind (part4_V h0 h1 h2 h3 h4 h5 h6 h7 h8 h9 h10 h11 _ k _) fun r hr => ?_
  obtain ⟨u, u', hu, hu', rfl⟩ := hr
  refine OkV.bind (part5_V h0 h1 h2 h3 h4 h5 h6 h7 h8 h9 h10 h11 k _ hs hi hu hu') fun r hr => ?_
  subst hr
  refine OkV.bind load7L fun _ _ => ?_
  refine OkV.bind (store7L _ (lay_store (q := 1) (by omega) (by decide) (off7_eq k 1) (by show 1 = (2 * k.val + 1) % 2; omega) fun i p l => ?_)) fun _ _ => ?_
  · have := lay_val (ix' := k0_pay27 (k0_pay1161 v60_r0 v62_r0 v64_r0 v66_r0 v67_r0)) hs hi 1 (fun y => rfl) hu hu' (k := 256 * k.val + 128) (by omega) (by omega) i p l
    refine Eq.trans this ?_
    congr 1
    show _ = 256 * ((2 * k.val + 1) / 2) + 128 * 1 + l.val
    omega
  refine OkV.done trivial ⟨⟨rfl, fun _ h => h⟩, fun _ => ⟨rfl, fun _ h => h⟩, fun _ => ⟨rfl, fun _ h => h⟩, fun _ h => h, fun _ h => h, fun _ h => h, fun X hX t i p j ht => hX t i p j ?_, fun _ h => h, fun _ h => h⟩
  have hj := j.isLt
  show ((((t.val < 2 * k.val) ∨ (t.val = 2 * k.val ∧ j.val / 128 = 0)) ∨ (t.val = 2 * k.val + 1 ∧ j.val / 128 = 0)) ∨ (t.val = 2 * k.val ∧ j.val / 128 = 1)) ∨ (t.val = 2 * k.val + 1 ∧ j.val / 128 = 1)
  have h2 : t.val < 2 * (k.val + 1) := ht
  omega

end

end Cert.Proof.KernelIdeal
-- ==== Proof.DrainV.lean ====
/-
  The last fold over the extended reals: the strips left in the matrix unit are popped and folded a tile at a time, and
  what is carried at the end is the greatest and the second greatest of every eighth row's logits.
-/
module

public import proofs.«01_k».proof.Proof.TripOkV
public import proofs.«01_k».proof.Proof.BodyI

@[expose] public section

noncomputable section

namespace Cert.Proof.KernelIdeal

open Cert.KernelIdeal Cert.KernelIdeal.Gen Cert.Proof Cert.Proof.Trip
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (Pipeline.UD sig nD τ) ℕ

/-- One tile of a strip folded, numbered `n`. -/
abbrev row (s : St Ideal) (l : FVec Ideal A32 .f32) (q : Fin 4) (n : ℕ) : St Ideal := foldRow s (rows l q) (BitVec.ofNat 32 n)

namespace Data
variable {D : Data}

/-- A strip of logits from tile `T` on. -/
def Strip (D : Data) (T : ℕ) (l : FVec Ideal A32 .f32) : Prop :=
  ∀ (q : _root_.Fin 4) (r : _root_.Fin 8) (a : _root_.Fin 256), (l (ix2 (⟨8 * q.val + r.val, by omega⟩ : _root_.Fin 32) a) : EReal) = D.L (8 * (T + q.val) + r.val) a.val

theorem Strip.of {T : ℕ} {v0 v1 : FVec Ideal A32 .f32} (h0 : D.Rows 0 (8 * T) v0) (h1 : D.Rows 1 (8 * T) v1) : D.Strip T (addf v0 v1) := by
  intro q r a
  show (v0 (ix2 (⟨8 * q.val + r.val, by omega⟩ : _root_.Fin 32) a) : EReal) + v1 (ix2 (⟨8 * q.val + r.val, by omega⟩ : _root_.Fin 32) a) = D.L (8 * (T + q.val) + r.val) a.val
  rw [h0, h1]
  unfold L
  have e : 8 * T + (⟨8 * q.val + r.val, by omega⟩ : _root_.Fin 32).val = 8 * (T + q.val) + r.val := by show 8 * T + (8 * q.val + r.val) = _; omega
  rw [e]

theorem Folded.row (hD : D.Fin) {t B : ℕ} {s : St Ideal} (h : D.Folded t B s) (T : ℕ) {l : FVec Ideal A32 .f32} (hl : D.Strip T l) (q : _root_.Fin 4) (ht : t = T + q.val) (hT : t < 4752)
    {n : ℕ} (hn : t + 44 = B + n) : D.Folded (t + 1) B (KernelIdeal.row s l q n) := by
  intro r a
  refine SI.row (h r a) ?_ (hD _ _ (by have := r.isLt; omega) a.isLt) hn
  rw [rows_apply, hl, ht]

end Data

/-- The matrix unit before strip `n` of the last eleven is popped: the strips left are whole sums. -/
def DrV (D : Data) (n : ℕ) (m : Mxu Ideal) : Prop :=
  Dr n m ∧ ∀ st, n ≤ st → st < 11 → ∀ (q : Fin 2) (f : Mxu.Fits (88 + 8 * st) 32), D.Rows q (8 * (4708 + 4 * st)) (m.read q (88 + 8 * st) f)

theorem DrV.pops {D : Data} {n : ℕ} {m : Mxu Ideal} (h : DrV D n m) (hn : n < 11) {a : ℕ} (ha : a = 88 + 8 * n) (f0 f f1 f' : Mxu.Fits a 32) {T : ℕ} (hT : T = 4708 + 4 * n) :
    DrV D (n + 1) ((m.pop 0 a 32 f).pop 1 a 32 f') ∧ D.Strip T (addf (m.read 0 a f0) ((m.pop 0 a 32 f).read 1 a f1)) := by
  refine ⟨⟨h.1.pops ha f f', fun st hs hst q g => ?_⟩, ?_⟩
  · rw [Mxu.read_pop_ne _ _ _ _ _ _ _ (.inr (by omega)), Mxu.read_pop_ne _ _ _ _ _ _ _ (.inr (by omega))]
    exact h.2 st (by omega) hst q g
  · subst ha hT
    rw [Mxu.read_pop_ne _ _ _ _ _ _ _ (.inl (by decide))]
    exact Data.Strip.of (h.2 n le_rfl hn 0 _) (h.2 n le_rfl hn 1 _)

section
variable {c : Dev nD} {V : (b : Ref sig .tc) → Buf (Elt Ideal) ((c : Thread nD τ).loc b)}
variable {a3 : Memref sig .tc .vmem S1x256 .i32} {a4 a5 : Memref sig .tc .vmem S1x256 .f32}
variable (h0 : a0.IsWhole) (h1 : a1.IsWhole) (h2 : a2.IsWhole) (h3 : a3.IsWhole) (h4 : a4.IsWhole) (h5 : a5.IsWhole)
  (h6 : a6.IsWhole) (h7 : a7.IsWhole) (h8 : a8.IsWhole) (h9 : a9.IsWhole) (h10 : a10.IsWhole) (h11 : a11.IsWhole)
variable {D : Data} (hD : D.Fin) {e : SV Ideal}
include hD

theorem part170_V {m : Mxu Ideal} {s : St Ideal} {l0 : FVec Ideal A32 .f32} (hm : DrV D 1 m) (hs : D.Folded 4710 4664 s) (hl0 : D.Strip 4708 l0) :
    OkV c V a3 a4 a5 e e (k0_part170 a0 h0 a1 h1 a2 h2 a3 h3 a4 h4 a5 h5 a6 h6 a7 h7 a8 h8 a9 h9 a10 h10 a11 h11 cc0_scratch6 cc0_scratch7 cc0_scratch8 m l0 s.2.2 s.1 (rows l0 2) ((row s l0 2 90).2.1) (cmpf .ogt (rows l0 2) s.1) (broadcast S8x256 90#32))
      (fun r => ∃ (m : Mxu Ideal) (s : St Ideal) (l2 : FVec Ideal A32 .f32), DrV D 3 m ∧ D.Folded 4717 4664 s ∧ D.Strip 4716 l2 ∧ r = ⟨m, l2, s.2.1, s.2.2, s.1⟩) := by
  rw [k0_part170_eq_skeleton]
  unfold k0_part170_skel
  have p1 := hm.pops (T := 4712) (by decide) rfl fits_96_32 fits_96_32 fits_96_32 fits_96_32 (by decide)
  have p2 := p1.1.pops (T := 4716) (by decide) rfl fits_104_32 fits_104_32 fits_104_32 fits_104_32 (by decide)
  exact OkV.ret ⟨_, _, _, p2.1, (((((((hs.row hD 4708 hl0 2 rfl (by decide) rfl).row hD 4708 hl0 3 rfl (by decide) rfl).row hD 4712 p1.2 0 rfl (by decide) rfl).row hD 4712 p1.2 1 rfl (by decide) rfl).row hD 4712 p1.2 2 rfl (by decide) rfl).row hD 4712 p1.2 3 rfl (by decide) rfl).row hD 4716 p2.2 0 rfl (by decide) rfl), p2.2, rfl⟩

theorem part171_V {m : Mxu Ideal} {s : St Ideal} {l2 : FVec Ideal A32 .f32} (hm : DrV D 3 m) (hs : D.Folded 4717 4664 s) (hl2 : D.Strip 4716 l2) :
    OkV c V a3 a4 a5 e e (k0_part171 a0 h0 a1 h1 a2 h2 a3 h3 a4 h4 a5 h5 a6 h6 a7 h7 a8 h8 a9 h9 a10 h10 a11 h11 cc0_scratch6 cc0_scratch7 cc0_scratch8 m l2 s.2.1 s.2.2 s.1)
      (fun r => ∃ (m : Mxu Ideal) (s : St Ideal) (l3 : FVec Ideal A32 .f32), DrV D 4 m ∧ D.Folded 4723 4664 s ∧ D.Strip 4720 l3 ∧ r = ⟨m, s.1, rows l3 3, (row s l3 3 103).2.1, (row s l3 3 103).2.2⟩) := by
  rw [k0_part171_eq_skeleton]
  unfold k0_part171_skel
  have p3 := hm.pops (T := 4720) (by decide) rfl fits_112_32 fits_112_32 fits_112_32 fits_112_32 (by decide)
  exact OkV.ret ⟨_, _, _, p3.1, ((((((hs.row hD 4716 hl2 1 rfl (by decide) rfl).row hD 4716 hl2 2 rfl (by decide) rfl).row hD 4716 hl2 3 rfl (by decide) rfl).row hD 4720 p3.2 0 rfl (by decide) rfl).row hD 4720 p3.2 1 rfl (by decide) rfl).row hD 4720 p3.2 2 rfl (by decide) rfl), p3.2, rfl⟩

theorem part172_V {m : Mxu Ideal} {s : St Ideal} {l3 : FVec Ideal A32 .f32} (hm : DrV D 4 m) (hs : D.Folded 4723 4664 s) (hl3 : D.Strip 4720 l3) :
    OkV c V a3 a4 a5 e e (k0_part172 a0 h0 a1 h1 a2 h2 a3 h3 a4 h4 a5 h5 a6 h6 a7 h7 a8 h8 a9 h9 a10 h10 a11 h11 cc0_scratch6 cc0_scratch7 cc0_scratch8 m s.1 (rows l3 3) ((row s l3 3 103).2.1) ((row s l3 3 103).2.2))
      (fun r => ∃ (m : Mxu Ideal) (s : St Ideal) (l5 : FVec Ideal A32 .f32), DrV D 6 m ∧ D.Folded 4730 4664 s ∧ D.Strip 4728 l5 ∧ r = ⟨m, l5, s.2.1, s.2.2, s.1, rows l5 2⟩) := by
  rw [k0_part172_eq_skeleton]
  unfold k0_part172_skel
  have p4 := hm.pops (T := 4724) (by decide) rfl fits_120_32 fits_120_32 fits_120_32 fits_120_32 (by decide)
  have p5 := p4.1.pops (T := 4728) (by decide) rfl fits_128_32 fits_128_32 fits_128_32 fits_128_32 (by decide)
  exact OkV.ret ⟨_, _, _, p5.1, (((((((hs.row hD 4720 hl3 3 rfl (by decide) rfl).row hD 4724 p4.2 0 rfl (by decide) rfl).row hD 4724 p4.2 1 rfl (by decide) rfl).row hD 4724 p4.2 2 rfl (by decide) rfl).row hD 4724 p4.2 3 rfl (by decide) rfl).row hD 4728 p5.2 0 rfl (by decide) rfl).row hD 4728 p5.2 1 rfl (by decide) rfl), p5.2, rfl⟩

theorem part173_V {m : Mxu Ideal} {s : St Ideal} {l5 : FVec Ideal A32 .f32} (hm : DrV D 6 m) (hs : D.Folded 4730 4664 s) (hl5 : D.Strip 4728 l5) :
    OkV c V a3 a4 a5 e e (k0_part173 a0 h0 a1 h1 a2 h2 a3 h3 a4 h4 a5 h5 a6 h6 a7 h7 a8 h8 a9 h9 a10 h10 a11 h11 cc0_scratch6 cc0_scratch7 cc0_scratch8 m l5 s.2.1 s.2.2 s.1 (rows l5 2))
      (fun r => ∃ (m : Mxu Ideal) (s : St Ideal) (l7 : FVec Ideal A32 .f32), DrV D 8 m ∧ D.Folded 4736 4664 s ∧ D.Strip 4736 l7 ∧ r = ⟨s.2.2, s.1, m, l7, rows l7 0, (row s l7 0 116).2.1⟩) := by
  rw [k0_part173_eq_skeleton]
  unfold k0_part173_skel
  have p6 := hm.pops (T := 4732) (by decide) rfl fits_136_32 fits_136_32 fits_136_32 fits_136_32 (by decide)
  have p7 := p6.1.pops (T := 4736) (by decide) rfl fits_144_32 fits_144_32 fits_144_32 fits_144_32 (by decide)
  exact OkV.ret ⟨_, _, _, p7.1, ((((((hs.row hD 4728 hl5 2 rfl (by decide) rfl).row hD 4728 hl5 3 rfl (by decide) rfl).row hD 4732 p6.2 0 rfl (by decide) rfl).row hD 4732 p6.2 1 rfl (by decide) rfl).row hD 4732 p6.2 2 rfl (by decide) rfl).row hD 4732 p6.2 3 rfl (by decide) rfl), p7.2, rfl⟩

theorem part174_V {m : Mxu Ideal} {s : St Ideal} {l7 : FVec Ideal A32 .f32} (hm : DrV D 8 m) (hs : D.Folded 4736 4664 s) (hl7 : D.Strip 4736 l7) :
    OkV c V a3 a4 a5 e e (k0_part174 a0 h0 a1 h1 a2 h2 a3 h3 a4 h4 a5 h5 a6 h6 a7 h7 a8 h8 a9 h9 a10 h10 a11 h11 cc0_scratch6 cc0_scratch7 cc0_scratch8 s.2.2 s.1 m l7 (rows l7 0) ((row s l7 0 116).2.1))
      (fun r => ∃ (m : Mxu Ideal) (s : St Ideal) (l8 : FVec Ideal A32 .f32), DrV D 9 m ∧ D.Folded 4743 4664 s ∧ D.Strip 4740 l8 ∧ r = ⟨m, s.2.1, s.2.2, s.1, rows l8 3, minimumf s.1 (rows l8 3)⟩) := by
  rw [k0_part174_eq_skeleton]
  unfold k0_part174_skel
  have p8 := hm.pops (T := 4740) (by decide) rfl fits_152_32 fits_152_32 fits_152_32 fits_152_32 (by decide)
  exact OkV.ret ⟨_, _, _, p8.1, (((((((hs.row hD 4736 hl7 0 rfl (by decide) rfl).row hD 4736 hl7 1 rfl (by decide) rfl).row hD 4736 hl7 2 rfl (by decide) rfl).row hD 4736 hl7 3 rfl (by decide) rfl).row hD 4740 p8.2 0 rfl (by decide) rfl).row hD 4740 p8.2 1 rfl (by decide) rfl).row hD 4740 p8.2 2 rfl (by decide) rfl), p8.2, rfl⟩

theorem part175_V {m : Mxu Ideal} {s : St Ideal} {l8 : FVec Ideal A32 .f32} (hm : DrV D 9 m) (hs : D.Folded 4743 4664 s) (hl8 : D.Strip 4740 l8) :
    OkV c V a3 a4 a5 e e (k0_part175 a0 h0 a1 h1 a2 h2 a3 h3 a4 h4 a5 h5 a6 h6 a7 h7 a8 h8 a9 h9 a10 h10 a11 h11 cc0_scratch6 cc0_scratch7 cc0_scratch8 m s.2.1 s.2.2 s.1 (rows l8 3) (minimumf s.1 (rows l8 3)))
      (fun r => ∃ (m : Mxu Ideal) (s : St Ideal) (l10 : FVec Ideal A32 .f32), DrV D 11 m ∧ D.Folded 4749 4664 s ∧ D.Strip 4748 l10 ∧ r = ⟨m, l10, s.2.2, s.1, rows l10 1, (row s l10 1 129).2.1, cmpf .ogt (rows l10 1) s.1⟩) := by
  rw [k0_part175_eq_skeleton]
  unfold k0_part175_skel
  have p9 := hm.pops (T := 4744) (by decide) rfl fits_160_32 fits_160_32 fits_160_32 fits_160_32 (by decide)
  have p10 := p9.1.pops (T := 4748) (by decide) rfl fits_168_32 fits_168_32 fits_168_32 fits_168_32 (by decide)
  exact OkV.ret ⟨_, _, _, p10.1, ((((((hs.row hD 4740 hl8 3 rfl (by decide) rfl).row hD 4744 p9.2 0 rfl (by decide) rfl).row hD 4744 p9.2 1 rfl (by decide) rfl).row hD 4744 p9.2 2 rfl (by decide) rfl).row hD 4744 p9.2 3 rfl (by decide) rfl).row hD 4748 p10.2 0 rfl (by decide) rfl), p10.2, rfl⟩

end

end Cert.Proof.KernelIdeal
-- ==== Proof.BodyV.lean ====
/-
  The idealized kernel's body up to the last fold, over the extended reals: the copies in flight, the activations laid
  out, the first block's scales expanded, and the trips of the main loop.
-/
module

public import proofs.«01_k».proof.Proof.LayV
public import proofs.«01_k».proof.Proof.DrainV

@[expose] public section

noncomputable section

namespace Cert.Proof.KernelIdeal

open Cert.KernelIdeal Cert.KernelIdeal.Gen Cert.Proof Cert.Proof.Trip
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (Pipeline.UD sig nD τ) ℕ

/-! ## Between the trips -/

/-- What the matrix unit holds between the trips, before trip `n`. -/
def endSpec (D : Data) (n : ℕ) : Spec Ideal where
  tile ch q t := ∀ a j : Fin 256, (t (ix2 a j) : EReal) = D.x q a.val (256 * ch + j.val)
  lhs _ _ _ _ _ := True
  sum _ _ _ _ _ := True
  old _ st q v := n = 0 ∨ D.Rows q (8 * (Data.T0 n 0 + 4 * st)) v
  fold _ _ _ := True
  sum_one _ _ _ _ _ _ _ _ _ := trivial
  sum_succ _ _ _ _ _ _ _ _ _ _ _ _ _ _ := trivial
  fold_succ _ _ _ _ _ _ _ _ _ _ := trivial

/-- Another reading of a unit no strip of whose block is begun. -/
theorem both_weak {S S' : Spec Ideal} {m : Mxu Ideal} {s s' : St Ideal} {b : ℕ} (h : Both S (m, s) b 0 0 0) (ht : ∀ q t, S.tile 0 q t → S'.tile 0 q t)
    (ho : ∀ st q v, st < 11 → S.old b st q v → S'.old b st q v) (hf : S'.fold b 0 s') : Both S' (m, s') b 0 0 0 where
  u q := ⟨(h.u q).spare, fun e => let ⟨t, e1, e2⟩ := (h.u q).staged e; ⟨t, e1, ht q t e2⟩, fun h => absurd h (by decide), (h.u q).dead, (h.u q).live,
    fun _ _ h => absurd h (by simp), (h.u q).gone, fun st hs hn => ho st q _ hs ((h.u q).old st hs hn), (h.u q).rest⟩
  f := hf

/-- What is carried between the trips, before trip `n`. -/
def Inv (D : Data) (n : ℕ) (acc : FVec Ideal A8 .f32 × FVec Ideal A8 .f32 × IVec A8 32 × Mxu Ideal) : Prop :=
  Both (endSpec D n) (acc.2.2.2, (acc.1, acc.2.1, acc.2.2.1)) 0 0 0 0 ∧ (n = 0 ∨ D.Folded (Data.T0 n 0) (88 * (n - 1)) (acc.1, acc.2.1, acc.2.2.1))

section
variable {c : Dev nD} {V : (b : Ref sig .tc) → Buf (Elt Ideal) ((c : Thread nD τ).loc b)}
variable {a3 : Memref sig .tc .vmem S1x256 .i32} {a4 a5 : Memref sig .tc .vmem S1x256 .f32}
variable (h0 : a0.IsWhole) (h1 : a1.IsWhole) (h2 : a2.IsWhole) (h3 : a3.IsWhole) (h4 : a4.IsWhole) (h5 : a5.IsWhole)
  (h6 : a6.IsWhole) (h7 : a7.IsWhole) (h8 : a8.IsWhole) (h9 : a9.IsWhole) (h10 : a10.IsWhole) (h11 : a11.IsWhole)
variable {D : Data}

/-- The state before trip `n`. -/
abbrev stN (D : Data) (n : ℕ) : SV Ideal := stT D (fr n) n 3 (R10 D n 0) (R11 D n 0)

theorem stK_next (k : ℕ) : (stT D (fr (k + 1)) k 4 (R10 D k 14) (R11 D k 14)).Le (stN D (k + 1)) := by
  refine ⟨⟨rfl, fun _ h => h⟩, fun j => ⟨rfl, fun X h m hm hm' hj => h m (by omega) (by omega) hj⟩, fun j => ⟨rfl, fun X h m hm hm' hj => h m (by omega) (by omega) hj⟩,
    fun _ h => h, fun _ h => h, fun _ h => h, fun _ h => h, fun X h => ⟨?_, fun h => absurd h (by decide)⟩, fun X h => ⟨?_, fun h => absurd h (by decide)⟩⟩
  · have := h.1
    rw [if_neg (by decide)] at this
    rw [if_pos (by decide)]
    exact this
  · exact h.1

theorem fresh_flag (k : Fin k0_t2_loop.trips) : Scalar.cmpi .eq (Scf.iv 0#32 1#32 k) 0#32 = if k.val = 0 then 1#1 else 0#1 := by revert k; decide

/-- A trip of the main loop. -/
theorem t2_V (hD : D.Fin) (hV : Reads D V) {v0 : IVec S176x128 32} (hv : ∀ (i : Fin 176) (l : Fin 128), v0 (ix2 i l) = BitVec.ofNat 32 l.val) (k0_mxu3 : Mxu Ideal) (v210_r0 : FVec Ideal S176x128 .f32) (v211_r0_lo : FVec Ideal S176x128 .bf16) (k : Fin k0_t2_loop.trips)
    (acc : FVec Ideal A8 .f32 × FVec Ideal A8 .f32 × IVec A8 32 × Mxu Ideal) (h : Inv D k.val acc) :
    OkV c V a3 a4 a5 (stN D k.val) (stN D (k.val + 1)) (k0_t2_body a0 h0 a1 h1 a2 h2 a3 h3 a4 h4 a5 h5 a6 h6 a7 h7 a8 h8 a9 h9 a10 h10 a11 h11 cc0_scratch6 cc0_scratch7 cc0_scratch8 v0 k0_mxu3 v210_r0 v211_r0_lo k acc) (Inv D (k.val + 1)) := by
  obtain ⟨top, sec, ix, m⟩ := acc
  have hk : k.val < 54 := k.isLt
  rw [body_eq]
  refine OkV.post (stK_next k.val) ?_
  refine OkV.bind (OkV.bind (startOpV hV h1 h2 h8 h9 k _ _) fun _ _ => waitOpV h1 h2 h8 h9 k _ _) fun _ _ => ?_
  have hm : Both (D.spec hD k.val hk) (m, (top, sec, subi ix (broadcast A8 88#32))) 0 0 0 0 := by
    refine both_weak h.1 (fun _ _ h => h) (fun st q v _ ho => ?_) ?_
    · rcases ho with e | ho
      · exact .inl ⟨e, rfl⟩
      · exact .inr ho
    · rcases h.2 with e | hf
      · exact .inl ⟨e, rfl⟩
      · rcases Nat.eq_zero_or_pos k.val with e | hp
        · exact .inl ⟨e, rfl⟩
        · right
          have := hf.less
          rw [show 88 * (k.val - 1) + 88 = 88 * k.val by omega] at this
          exact this
  intro Q
  iintro HR Hk
  iapply (trip_ok (opsV c V a3 a4 a5 D hD h10 h11 hv k Q) _ (ms := (m, (top, sec, ix))) hm (fun _ _ _ _ h => Data.old_of_sum hD hk h) (fun _ h => Data.fresh_folded hD hk (fresh_flag k) h) _) $$ HR
  iintro %ms %hb HR
  iapply (wk_ret c Q _)
  ispecialize Hk $$ %(ms.2.1, ms.2.2.1, ms.2.2.2, ms.1)
  iapply Hk
  · ipureintro
    refine ⟨hb.turn _ (by decide) (fun _ _ h => h) (fun st q v hst hs => .inr ?_) trivial, .inr ?_⟩
    · intro r a
      rw [hs r a]
      congr 1
      unfold Data.T0
      omega
    · have hf := hb.f.resolve_left (fun h => absurd h.2 (by decide))
      rw [show Data.T0 k.val 1 + 4 * 11 = Data.T0 (k.val + 1) 0 by unfold Data.T0; omega] at hf
      exact hf
  · iexact HR

/-! ## The copies in flight -/

/-- Nothing known, no copy running. -/
def stZ : SV Ideal where
  x := (false, yes)
  s8 _ := (false, yes)
  s9 _ := (false, yes)
  p3 := yes
  p4 := yes
  p5 := yes
  p7 := yes
  p10 := yes
  p11 := yes

/-- The activations' copy and the first two blocks' running. -/
def stA (D : Data) : SV Ideal where
  x := (true, X6 D)
  s8 := Function.update (Function.update (fun _ => (false, yes)) 0 (true, C8 D 0 0)) 1 (true, C8 D 1 1)
  s9 := Function.update (Function.update (fun _ => (false, yes)) 0 (true, C9 D 0 0)) 1 (true, C9 D 1 1)
  p3 := yes
  p4 := yes
  p5 := yes
  p7 := yes
  p10 := yes
  p11 := yes

theorem part163_V (hV : Reads D V) :
    OkV c V a3 a4 a5 stZ (stA D) (k0_part163 a0 h0 a1 h1 a2 h2 a3 h3 a4 h4 a5 h5 a6 h6 a7 h7 a8 h8 a9 h9 a10 h10 a11 h11 cc0_scratch6 cc0_scratch7 cc0_scratch8) (fun r => r = ⟨Mxu.init, iota .tc S176x128 32 [1] iota_S176x128_d1_w32⟩) := by
  rw [k0_part163_eq_skeleton]
  unfold k0_part163_skel
  refine OkV.bind (okV_start_x (X6 D) rfl fun X hX a d => by rw [hX]; exact hV.X a d) fun _ _ => ?_
  refine OkV.bind (okV_start_8 0 (C8 D 0 0) rfl rfl (by decide) fun X hX => hV.came8 rfl hX) fun _ _ => ?_
  refine OkV.bind (okV_start_9 0 (C9 D 0 0) rfl rfl (by decide) fun X hX => hV.came9 rfl hX) fun _ _ => ?_
  refine OkV.bind (okV_start_8 1 (C8 D 1 1) rfl rfl (by decide) fun X hX => hV.came8 rfl hX) fun _ _ => ?_
  refine OkV.bind (okV_start_9 1 (C9 D 1 1) rfl rfl (by decide) fun X hX => hV.came9 rfl hX) fun _ _ => ?_
  exact OkV.done rfl (le_of_rings ⟨rfl, fun _ h => h⟩ (fun j => ⟨rfl, fun _ h => h⟩) (fun j => ⟨rfl, fun _ h => h⟩) rfl rfl rfl rfl rfl rfl)

/-- The first three blocks' copies running in the slots that `f` names. -/
abbrev Y8 (D : Data) (f : Fin 4 → Bool) : Fin 4 → Bool × Pr Ideal S4x704x1792 .i8 := fun j => (f j, B8 D 0 3 j)
abbrev Y9 (D : Data) (f : Fin 4 → Bool) : Fin 4 → Bool × Pr Ideal S4x704x112 .bf16 := fun j => (f j, B9 D 0 3 j)

theorem three8 (j : Fin 4) : (Function.update (Function.update (Function.update (fun _ => (false, yes)) 0 (true, C8 D 0 0)) 1 (true, C8 D 1 1)) 2 (true, C8 D 2 2) j : Bool × Pr Ideal S4x704x1792 .i8).1 = f3 j ∧
    ∀ X, (Function.update (Function.update (Function.update (fun _ => (false, yes)) 0 (true, C8 D 0 0)) 1 (true, C8 D 1 1)) 2 (true, C8 D 2 2) j : Bool × Pr Ideal S4x704x1792 .i8).2 X → B8 D 0 3 j X := by
  match j with
  | 0 => exact ⟨rfl, fun X h m _ hm hj => by obtain rfl : m = 0 := by { have : m % 4 = 0 := hj; omega }; exact h⟩
  | 1 => exact ⟨rfl, fun X h m _ hm hj => by obtain rfl : m = 1 := by { have : m % 4 = 1 := hj; omega }; exact h⟩
  | 2 => exact ⟨rfl, fun X h m _ hm hj => by obtain rfl : m = 2 := by { have : m % 4 = 2 := hj; omega }; exact h⟩
  | 3 => exact ⟨rfl, fun X h m _ hm hj => by have : m % 4 = 3 := hj; omega⟩

theorem three9 (j : Fin 4) : (Function.update (Function.update (Function.update (fun _ => (false, yes)) 0 (true, C9 D 0 0)) 1 (true, C9 D 1 1)) 2 (true, C9 D 2 2) j : Bool × Pr Ideal S4x704x112 .bf16).1 = f3 j ∧
    ∀ X, (Function.update (Function.update (Function.update (fun _ => (false, yes)) 0 (true, C9 D 0 0)) 1 (true, C9 D 1 1)) 2 (true, C9 D 2 2) j : Bool × Pr Ideal S4x704x112 .bf16).2 X → B9 D 0 3 j X := by
  match j with
  | 0 => exact ⟨rfl, fun X h m _ hm hj => by obtain rfl : m = 0 := by { have : m % 4 = 0 := hj; omega }; exact h⟩
  | 1 => exact ⟨rfl, fun X h m _ hm hj => by obtain rfl : m = 1 := by { have : m % 4 = 1 := hj; omega }; exact h⟩
  | 2 => exact ⟨rfl, fun X h m _ hm hj => by obtain rfl : m = 2 := by { have : m % 4 = 2 := hj; omega }; exact h⟩
  | 3 => exact ⟨rfl, fun X h m _ hm hj => by have : m % 4 = 3 := hj; omega⟩

theorem part164_V (hV : Reads D V) :
    OkV c V a3 a4 a5 (stA D) (stL D (Y8 D f3) (Y9 D f3) (fun t _ => t < 2 * 0)) (k0_part164 a0 h0 a1 h1 a2 h2 a3 h3 a4 h4 a5 h5 a6 h6 a7 h7 a8 h8 a9 h9 a10 h10 a11 h11 cc0_scratch6 cc0_scratch7 cc0_scratch8)
      (fun r => r = ⟨iota .tc S128x128 32 [1] iota_S128x128_d1_w32, k0_pay1157, Scalar.select (Scalar.cmpi .eq 16#32 0#32) 1#32 16#32, k0_pay1158, k0_pay1159, k0_pay1160⟩) := by
  rw [k0_part164_eq_skeleton]
  unfold k0_part164_skel
  refine OkV.bind (okV_start_8 2 (C8 D 2 2) rfl rfl (by decide) fun X hX => hV.came8 rfl hX) fun _ _ => ?_
  refine OkV.bind (okV_start_9 2 (C9 D 2 2) rfl rfl (by decide) fun X hX => hV.came9 rfl hX) fun _ _ => ?_
  refine OkV.bind (okV_wait_x rfl) fun _ _ => ?_
  exact OkV.done rfl ⟨⟨rfl, fun _ h => h⟩, three8, three9, fun _ h => h, fun _ h => h, fun _ h => h, fun _ _ t _ _ _ h => absurd h (Nat.not_lt_zero _), fun _ h => h, fun _ h => h⟩

/-! ## The activations -/

theorem sel_at (i l : Fin 128) : k0_pay1162 (iota .tc S128x128 32 [1] iota_S128x128_d1_w32) (ix2 i l) = if l.val < 64 then 1#1 else 0#1 := by
  unfold_payloads
  pointwise
  revert l; decide

theorem src_at (i l : Fin 128) : k0_pay1161 k0_pay1157 (Scalar.select (Scalar.cmpi .eq 16#32 0#32) 1#32 16#32) k0_pay1158 k0_pay1159 k0_pay1160 (ix2 i l) = BitVec.ofNat 32 (src l.val) := by
  unfold_payloads
  pointwise
  revert l; decide

/-- A tile read back. -/
theorem tile_of (q : Fin 2) {P : ℕ → ℕ → Prop} (hP : ∀ h, P q.val h) {o : Fin 4 → ℕ} (ho : o = ![q.val, 0, 0, 0]) {io : ∀ a, o a + S1x128x2x256.size a ≤ S14x128x2x256.size a} {raw : Vec Ideal S1x128x2x256 .bf16}
    (h : Seen (A7s D P) (Rect.unit (s := S14x128x2x256) o S1x128x2x256.size io).toLoadRect raw) (a j : Fin 256) : (tileVal raw (ix2 a j) : EReal) = D.x q a.val (256 * 0 + j.val) := by
  subst ho
  obtain ⟨X, hX, hv⟩ := h
  rw [tileVal_apply, hv, idx4_eq ((Rect.unit (s := S14x128x2x256) ![q.val, 0, 0, 0] S1x128x2x256.size io).toLoadRect.idx _) (⟨q.val, by omega⟩ : Fin 14) (⟨a.val / 2, by omega⟩ : Fin 128) (⟨a.val % 2, by omega⟩ : Fin 2) j
    (by show q.val + 1 * 0 = q.val; omega) (by show 0 + 1 * (a.val / 2) = a.val / 2; omega) (by show 0 + 1 * (a.val % 2) = a.val % 2; omega) (by show 0 + 1 * j.val = j.val; omega),
    hX _ _ _ _ (hP _)]
  have e0 : (⟨q.val % 2, Nat.mod_lt _ (by decide)⟩ : Fin 2) = q := Fin.ext (Nat.mod_eq_of_lt q.isLt)
  have e1 : 2 * (a.val / 2) + a.val % 2 = a.val := by omega
  have e2 : q.val / 2 = 0 := by omega
  show D.x (⟨q.val % 2, Nat.mod_lt _ (by decide)⟩ : Fin 2) (2 * (a.val / 2) + a.val % 2) (256 * (q.val / 2) + j.val) = _
  rw [e0, e1, e2]

/-- The first tiles staged, and no row live. -/
def StagedV (D : Data) (m : Mxu Ideal) : Prop :=
  (∀ q, m.reg q 1 = none) ∧ (∀ q, ∃ t, m.reg q 0 = some ⟨.bf16, true, t⟩ ∧ ∀ a j : Fin 256, (t (ix2 a j) : EReal) = D.x q a.val (256 * 0 + j.val)) ∧ ∀ q R, m.live q R = false

theorem init_stagedV {t t' : FVec Ideal (Mxu.STile 256) .bf16} (h : ∀ a j : Fin 256, (t (ix2 a j) : EReal) = D.x 0 a.val (256 * 0 + j.val)) (h' : ∀ a j : Fin 256, (t' (ix2 a j) : EReal) = D.x 1 a.val (256 * 0 + j.val)) :
    StagedV D (((Mxu.init : Mxu Ideal).pushed 0 0 true t).pushed 1 0 true t') := by
  refine ⟨fun q => ?_, fun q => ?_, fun q R => rfl⟩
  · match q with
    | 0 => rfl
    | 1 => rfl
  · match q with
    | 0 => exact ⟨_, rfl, h⟩
    | 1 => exact ⟨_, rfl, h'⟩

theorem StagedV.inv {m : Mxu Ideal} (h : StagedV D m) (s : FVec Ideal A8 .f32 × FVec Ideal A8 .f32 × IVec A8 32) : Inv D 0 (s.1, s.2.1, s.2.2, m) := by
  refine ⟨⟨fun q => ⟨h.1 q, fun _ => h.2.1 q, fun h => absurd h (by decide), fun _ _ _ R _ _ => h.2.2 q R, fun _ _ h => absurd h (by simp), fun _ _ h => absurd h (by simp), fun _ h => absurd h (by simp),
    fun _ _ _ => .inl rfl, fun R _ => h.2.2 q R⟩, trivial⟩, .inl rfl⟩

theorem trips1 : k0_t1_loop.trips = 7 := by decide

theorem part165_V {k0_mxu1 : Mxu Ideal} (hm : k0_mxu1 = Mxu.init) :
    OkV c V a3 a4 a5 (stL D (Y8 D f3) (Y9 D f3) (fun t _ => t < 2 * 0)) (stL D (Y8 D (fr 0)) (Y9 D f3) (fun t _ => t < 2 * 7))
      (k0_part165 a0 h0 a1 h1 a2 h2 a3 h3 a4 h4 a5 h5 a6 h6 a7 h7 a8 h8 a9 h9 a10 h10 a11 h11 cc0_scratch6 cc0_scratch7 cc0_scratch8 k0_mxu1 (iota .tc S128x128 32 [1] iota_S128x128_d1_w32) k0_pay1157 (Scalar.select (Scalar.cmpi .eq 16#32 0#32) 1#32 16#32) k0_pay1158 k0_pay1159 k0_pay1160) (StagedV D) := by
  rw [k0_part165_eq_skeleton]
  unfold k0_part165_skel
  have hl := OkV.for (c := c) (V := V) (a3 := a3) (a4 := a4) (a5 := a5) _ _ _ k0_t1_ok ⟨⟩
    (k0_t1_body a0 h0 a1 h1 a2 h2 a3 h3 a4 h4 a5 h5 a6 h6 a7 h7 a8 h8 a9 h9 a10 h10 a11 h11 cc0_scratch6 cc0_scratch7 cc0_scratch8 k0_mxu1 (iota .tc S128x128 32 [1] iota_S128x128_d1_w32) k0_pay1157 (Scalar.select (Scalar.cmpi .eq 16#32 0#32) 1#32 16#32) k0_pay1158 k0_pay1159 k0_pay1160)
    (fun n => stL D (Y8 D f3) (Y9 D f3) (fun t _ => t < 2 * n)) (fun _ => yes) trivial fun k u _ => t1_V h0 h1 h2 h3 h4 h5 h6 h7 h8 h9 h10 h11 _ sel_at src_at k u
  rw [show Scf.trips _ _ _ = 7 from trips1] at hl
  refine OkV.bind hl fun _ _ => ?_
  refine OkV.bind load7L fun v hv => ?_
  refine OkV.bind (OkV.pushRhs (Mxu.pushOk_of_none _ _ _ _ (by rw [hm]; rfl))) fun m1 e1 => ?_
  refine OkV.bind load7L fun v' hv' => ?_
  refine OkV.bind (OkV.pushRhs (Mxu.pushOk_of_none _ _ _ _ (by rw [e1, hm]; rfl))) fun m2 e2 => ?_
  refine OkV.bind (okV_wait_8 0 rfl rfl (by decide)) fun _ _ => ?_
  refine OkV.done ?_ (le_of_rings ⟨rfl, fun _ h => h⟩ (fun j => ?_) (fun j => ⟨rfl, fun _ h => h⟩) rfl rfl rfl rfl rfl rfl)
  · rw [e2, e1, hm]
    exact init_stagedV (tile_of 0 (P := fun t _ => t < 2 * 7) (fun _ => by decide) rfl hv) (tile_of 1 (P := fun t _ => t < 2 * 7) (fun _ => by decide) rfl hv')
  · match j with
    | 0 => exact ⟨rfl, fun _ h => h⟩
    | 1 => exact ⟨rfl, fun _ h => h⟩
    | 2 => exact ⟨rfl, fun _ h => h⟩
    | 3 => exact ⟨rfl, fun _ h => h⟩

/-! ## The first block's scales -/

theorem part166_V (v0 : IVec S176x128 32) :
    OkV c V a3 a4 a5 (stL D (Y8 D (fr 0)) (Y9 D f3) (fun t _ => t < 2 * 7)) (stT D (fr 0) 0 3 (R10 D 0 0) yes) (k0_part166 a0 h0 a1 h1 a2 h2 a3 h3 a4 h4 a5 h5 a6 h6 a7 h7 a8 h8 a9 h9 a10 h10 a11 h11 cc0_scratch6 cc0_scratch7 cc0_scratch8 v0) (fun r => r = k0_pay1167 v0) := by
  rw [k0_part166_eq_skeleton]
  unfold k0_part166_skel
  refine OkV.bind (okV_wait_9 0 rfl rfl (by decide)) fun _ _ => ?_
  refine OkV.pre (s₀ := stT D (fr 0) 0 3 yes yes) ⟨⟨rfl, fun _ _ => trivial⟩, fun j => ⟨rfl, fun _ h => h⟩, fun j => ?_, fun _ h => h, fun _ h => h, fun _ h => h, fun X h t i p j => h t i p j t.isLt, fun _ h => h, fun _ h => h⟩ ?_
  · match j with
    | 0 => exact ⟨rfl, fun _ h => h⟩
    | 1 => exact ⟨rfl, fun _ h => h⟩
    | 2 => exact ⟨rfl, fun _ h => h⟩
    | 3 => exact ⟨rfl, fun _ h => h⟩
  refine OkV.bind (okV_load_9 0 rfl (sub_rows 0 0)) fun raw hraw => ?_
  refine OkV.bind okV_load_a10 fun _ _ => ?_
  refine OkV.bind (okV_store_a10 (R10 D 0 0) fun X X' _ hX hk => ?_) fun _ _ => ?_
  · obtain ⟨Y, hY, hv⟩ := hraw
    have hY' : B9 D 0 4 0 Y := fun m h1 h2 h3 => hY m h1 (by have : m % 4 = 0 := h3; omega) h3
    have hr : 0 < 108 → ∀ (r : Fin 352) (g : Fin 112), (raw (ix3 (0 : Fin 1) r g) : EReal) = D.S (352 * 0 + r.val) g.val := fun hu r g => by
      rw [hv]
      exact slot_rows D (j := 0) (n := 0) (m := 0) (b := 0) (u := 0) (by decide) (by decide) (by decide) (by decide) hY' hu r g
    exact ⟨(stage_words D (b := 1) (u := 0) hr hX hk).1, fun h => absurd h (by decide)⟩
  · exact OkV.done rfl (monoT D (fun _ h => h) (fun _ h => h))

theorem part167_V {v0 : IVec S176x128 32} (hv0 : ∀ (i : Fin 176) (l : Fin 128), v0 (ix2 i l) = BitVec.ofNat 32 l.val) :
    OkV c V a3 a4 a5 (stT D (fr 0) 0 3 (R10 D 0 0) yes) (stT D (fr 0) 0 3 (R10 D 0 0) (HalfE D (par 0) 0 0 0)) (k0_part167 a0 h0 a1 h1 a2 h2 a3 h3 a4 h4 a5 h5 a6 h6 a7 h7 a8 h8 a9 h9 a10 h10 a11 h11 cc0_scratch6 cc0_scratch7 cc0_scratch8 v0 (k0_pay1167 v0))
      (fun r => r = ⟨16#32, k0_pay1169 v0, k0_pay1170 v0, k0_pay1171⟩) := by
  rw [k0_part167_eq_skeleton]
  unfold k0_part167_skel
  refine OkV.bind okV_load_a10 fun raw hraw => ?_
  refine OkV.bind okV_load_a11 fun _ _ => ?_
  refine OkV.bind (okV_store_a11 (HalfE D (par 0) 0 0 0) fun X X' _ hX hk => ?_) fun _ _ => ?_
  · obtain ⟨Y, hY, hv⟩ := hraw
    exact (expand_half D hv0 (u := 0) (ch := 0) (t := 0) (h := 0) (by decide) (by decide) (words_raw D (b := 0) (u := 0) ⟨Y, hY.1, hv⟩) hX hk).1
  · exact OkV.done rfl (monoT D (fun _ h => h) (fun _ h => h))

theorem part168_V (v0 : IVec S176x128 32) :
    OkV c V a3 a4 a5 (stT D (fr 0) 0 3 (R10 D 0 0) (HalfE D (par 0) 0 0 0)) (stT D (fr 0) 0 3 (R10 D 0 0) (HalfE D (par 0) 0 0 0))
      (k0_part168 a0 h0 a1 h1 a2 h2 a3 h3 a4 h4 a5 h5 a6 h6 a7 h7 a8 h8 a9 h9 a10 h10 a11 h11 cc0_scratch6 cc0_scratch7 cc0_scratch8 v0 16#32 (k0_pay1169 v0) (k0_pay1170 v0) k0_pay1171)
      (fun r => ∃ raw : Vec Ideal S1x176x2x128 .bf16, (0 < 108 → ∀ (i : Fin 176) (p : Fin 2) (g : Fin 128), g.val < 112 → (raw (ix4 (0 : Fin 1) i p g) : EReal) = D.S (352 * 0 + 2 * i.val + p.val) g.val) ∧
        r = ⟨k0_pay1173 v0 16#32 (k0_pay1169 v0) (k0_pay1170 v0) k0_pay1171 raw, k0_pay1174 v0 16#32 (k0_pay1169 v0) (k0_pay1170 v0) k0_pay1171 raw⟩) := by
  rw [k0_part168_eq_skeleton]
  unfold k0_part168_skel
  refine OkV.bind okV_load_a10 fun raw hraw => ?_
  obtain ⟨Y, hY, hv⟩ := hraw
  exact OkV.done ⟨raw, words_raw D (b := 0) (u := 0) ⟨Y, hY.1, hv⟩, rfl⟩ (monoT D (fun _ h => h) (fun _ h => h))

/-! ## The loop and the first strip of the last fold -/

theorem read_at {m : Mxu Ideal} {q : Fin 2} {A B : ℕ} (e : A = B) (f : Mxu.Fits A 32) (g : Mxu.Fits B 32) : m.read q A f = m.read q B g := by
  subst e; rfl

theorem last_V {m : Mxu Ideal} {s : St Ideal} (h : Both (endSpec D 54) (m, s) 0 0 0 0) (v v' : FVec Ideal (Mxu.STile 32) .bf16) (f f' f'' f4 : Mxu.Fits 0 32) (g1 g g2 g' : Mxu.Fits 88 32) :
    DrV D 1 ((((((m.accLhs 0 0 0 v f).pop 0 0 32 f').accLhs 1 0 0 v' f'').pop 1 0 32 f4).pop 0 88 32 g).pop 1 88 32 g') ∧
      D.Strip 4708 (addf (((((m.accLhs 0 0 0 v f).pop 0 0 32 f').accLhs 1 0 0 v' f'').pop 1 0 32 f4).read 0 88 g1) ((((((m.accLhs 0 0 0 v f).pop 0 0 32 f').accLhs 1 0 0 v' f'').pop 1 0 32 f4).pop 0 88 32 g).read 1 88 g2)) := by
  have hr : ∀ st, st < 11 → ∀ (q : Fin 2) (k : Mxu.Fits (88 + 8 * st) 32), D.Rows q (8 * (4708 + 4 * st)) (((((m.accLhs 0 0 0 v f).pop 0 0 32 f').accLhs 1 0 0 v' f'').pop 1 0 32 f4).read q (88 + 8 * st) k) := by
    intro st hst q k
    rw [Mxu.read_pop_ne _ _ _ _ _ _ _ (.inr (.inr (by omega))), Mxu.read_accLhs_ne _ _ _ _ _ _ _ _ _ (.inr (.inr (by omega))), Mxu.read_pop_ne _ _ _ _ _ _ _ (.inr (.inr (by omega))),
      Mxu.read_accLhs_ne _ _ _ _ _ _ _ _ _ (.inr (.inr (by omega)))]
    have ho := ((h.u q).old st hst (Nat.zero_le _)).resolve_left (by decide)
    rw [read_at (show addr (0 + 1) st = 88 + 8 * st by unfold addr; omega) _ k] at ho
    exact ho
  refine ⟨⟨last_ok (s := s) (both_weak h (S' := trivS Ideal) (fun _ _ _ => trivial) (fun _ _ _ _ _ => trivial) trivial) v v' f f' f'' f4 g g', fun st h1 hst q k => ?_⟩, ?_⟩
  · rw [Mxu.read_pop_ne _ _ _ _ _ _ _ (.inr (.inr (by omega))), Mxu.read_pop_ne _ _ _ _ _ _ _ (.inr (.inr (by omega)))]
    exact hr st hst q k
  · rw [Mxu.read_pop_ne _ 0 88 g 1 88 g2 (.inl (by decide))]
    exact Data.Strip.of (hr 0 (by decide) 0 _) (hr 0 (by decide) 1 _)

theorem part169_V (hD : D.Fin) (hV : Reads D V) {v0 : IVec S176x128 32} (hv0 : ∀ (i : Fin 176) (l : Fin 128), v0 (ix2 i l) = BitVec.ofNat 32 l.val) {k0_mxu3 : Mxu Ideal} (hm : StagedV D k0_mxu3)
    {raw : Vec Ideal S1x176x2x128 .bf16} (hraw : 0 < 108 → ∀ (i : Fin 176) (p : Fin 2) (g : Fin 128), g.val < 112 → (raw (ix4 (0 : Fin 1) i p g) : EReal) = D.S (352 * 0 + 2 * i.val + p.val) g.val) :
    OkV c V a3 a4 a5 (stT D (fr 0) 0 3 (R10 D 0 0) (HalfE D (par 0) 0 0 0)) stZ
      (k0_part169 a0 h0 a1 h1 a2 h2 a3 h3 a4 h4 a5 h5 a6 h6 a7 h7 a8 h8 a9 h9 a10 h10 a11 h11 cc0_scratch6 cc0_scratch7 cc0_scratch8 v0 k0_mxu3 (k0_pay1173 v0 16#32 (k0_pay1169 v0) (k0_pay1170 v0) k0_pay1171 raw) (k0_pay1174 v0 16#32 (k0_pay1169 v0) (k0_pay1170 v0) k0_pay1171 raw))
      (fun r => ∃ (m : Mxu Ideal) (s : St Ideal) (l0 : FVec Ideal A32 .f32), DrV D 1 m ∧ D.Folded 4710 4664 s ∧ D.Strip 4708 l0 ∧ r = ⟨m, l0, s.2.2, s.1, rows l0 2, (row s l0 2 90).2.1, cmpf .ogt (rows l0 2) s.1, broadcast S8x256 90#32⟩) := by
  rw [k0_part169_eq_skeleton]
  unfold k0_part169_skel
  refine OkV.bind okV_load_a11 fun _ _ => ?_
  refine OkV.bind (okV_store_a11 (R11 D 0 0) fun X X' h hX hk => ?_) fun _ _ => ?_
  · have := expand_half D hv0 (u := 0) (ch := 0) (t := 0) (h := 1) (by decide) (by decide) hraw hX hk
    exact ⟨⟨this.2.1 0 0 0 (by decide) (by decide) h, this.1⟩, fun h => absurd h (by decide)⟩
  refine OkV.bind (s' := stN D 54) (OkV.for _ _ _ k0_t2_ok (k0_pay1176 (F := Ideal), k0_pay1176 (F := Ideal), k0_pay1177, k0_mxu3) _ (fun n => stN D n) (Inv D) (hm.inv (k0_pay1176 (F := Ideal), k0_pay1176 (F := Ideal), k0_pay1177))
    fun k acc h => t2_V h0 h1 h2 h3 h4 h5 h6 h7 h8 h9 h10 h11 hD hV hv0 _ _ _ k acc h) fun r hr => ?_
  obtain ⟨top, sec, ix, m⟩ := r
  have hs : D.Folded 4708 4664 (top, sec, ix) := hr.2.resolve_left (by decide)
  have hl := last_V hr.1 (k0_pay1185 (F := Ideal)) (k0_pay1186 (F := Ideal)) fits_0_32 fits_0_32 fits_0_32 fits_0_32 fits_88_32 fits_88_32 fits_88_32 fits_88_32
  refine OkV.done ⟨_, _, _, hl.1, ((hs.row hD 4708 hl.2 0 rfl (by decide) (n := 88) rfl).row hD 4708 hl.2 1 rfl (by decide) (n := 89) rfl), hl.2, rfl⟩ ?_
  refine ⟨⟨rfl, fun _ h => h⟩, fun j => ⟨congrFun fr_end j, fun _ _ => trivial⟩, fun j => ⟨congrFun fr_end j, fun _ _ => trivial⟩, fun _ h => h, fun _ h => h, fun _ h => h, fun _ _ => trivial, fun _ _ => trivial, fun _ _ => trivial⟩

end

end Cert.Proof.KernelIdeal
-- ==== Proof.EndV.lean ====
/-
  What the idealized kernel leaves: of each row of the activations the first of its greatest logits, that logit, and how far
  it stands above the next.
-/
module

public import proofs.«01_k».proof.Proof.BodyV

@[expose] public section

noncomputable section

namespace Cert.Proof.KernelIdeal

open Cert.KernelIdeal Cert.KernelIdeal.Gen Cert.Proof Cert.Proof.Trip
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (Pipeline.UD sig nD τ) ℕ

/-! ## What is stored -/

/-- The greatest of the eight runs. -/
def topV (s : St Ideal) : FVec Ideal S1x256 .f32 :=
  shapeCast S1x256 (multiReduction .maximumf [0] S256 (s.1 : FVec Ideal S8x256 .f32) 0xFF800000#32 reduces_S8x256_S256 (.inl rfl) rfl) shapeCasts_S256_S1x256

/-- The rows' numbers. -/
def idxV (s : St Ideal) : IVec S8x256 32 :=
  addi (addi (muli s.2.2 (broadcast S8x256 8#32)) (broadcast S8x256 36960#32)) (iota .tc S8x256 32 [0] iota_S8x256_d0_w32)

/-- The least number of a row that is the greatest. -/
def tokV (s : St Ideal) : IVec S1x256 32 :=
  shapeCast S1x256 (multiReductionI .minsi [0] S256 (select (cmpf .oeq s.1 (broadcastTo S8x256 (topV s) broadcasts_S1x256_S8x256)) (idxV s) (broadcast S8x256 38016#32)) 2147483647#32 reduces_S8x256_S256 rfl)
    shapeCasts_S256_S1x256

/-- The greatest of the others. -/
def secV (s : St Ideal) : FVec Ideal S1x256 .f32 :=
  shapeCast S1x256 (multiReduction .maximumf [0] S256 (select (cmpi .eq (idxV s) (broadcastTo S8x256 (tokV s) broadcasts_S1x256_S8x256)) s.2.1 s.1) 0xFF800000#32 reduces_S8x256_S256 (.inl rfl) rfl) shapeCasts_S256_S1x256

theorem topV_apply (s : St Ideal) (a : Fin 256) : (topV s (ix2 (0 : Fin 1) a) : EReal) = Finset.univ.fold max ⊥ fun r : Fin 8 => (s.1 (ix2 r a) : EReal) := by
  unfold topV
  rw [← negInf]
  pointwise

theorem idxV_apply (s : St Ideal) (r : Fin 8) (a : Fin 256) {p : ℕ} (hp : s.2.2 (ix2 r a) = BitVec.ofNat 32 (p + 44) - BitVec.ofNat 32 4664) (h : p < 4752) : idxV s (ix2 r a) = BitVec.ofNat 32 (8 * p + r.val) := by
  show (s.2.2 (ix2 r a) * 8#32 + 36960#32) + iota .tc S8x256 32 [0] iota_S8x256_d0_w32 (ix2 r a) = _
  have : iota .tc S8x256 32 [0] iota_S8x256_d0_w32 (ix2 r a) = BitVec.ofNat 32 r.val := by pointwise
  rw [this, hp]
  have hr := r.isLt
  apply BitVec.eq_of_toNat_eq
  simp only [BitVec.toNat_add, BitVec.toNat_sub, BitVec.toNat_mul, BitVec.toNat_ofNat]
  omega

theorem tokV_apply (s : St Ideal) (a : Fin 256) : tokV s (ix2 (0 : Fin 1) a) = Finset.univ.fold IntOp.minsi 2147483647#32 fun r : Fin 8 => if (s.1 (ix2 r a) : EReal) = topV s (ix2 (0 : Fin 1) a) then idxV s (ix2 r a) else 38016#32 := by
  unfold tokV
  pointwise

theorem secV_apply (s : St Ideal) (a : Fin 256) : (secV s (ix2 (0 : Fin 1) a) : EReal) = Finset.univ.fold max ⊥ fun r : Fin 8 => (if idxV s (ix2 r a) = tokV s (ix2 (0 : Fin 1) a) then s.2.1 (ix2 r a) else s.1 (ix2 r a) : EReal) := by
  unfold secV
  rw [← negInf]
  pointwise
  congr 1
  funext x
  by_cases e : idxV s (ix2 x a) = tokV s (ix2 (0 : Fin 1) a)
  · rw [if_pos e, e]; simp [Scalar.select, IntOp.cmpi]
  · rw [if_neg e]
    show (if BitVec.ofBool (idxV s (ix2 x a) == tokV s (ix2 (0 : Fin 1) a)) = 1#1 then s.2.1 (ix2 x a) else s.1 (ix2 x a)) = s.1 (ix2 x a)
    rw [beq_false_of_ne e]
    rfl

theorem minsi_ofNat {a b : ℕ} (ha : a < 2147483648) (hb : b < 2147483648) : IntOp.minsi (BitVec.ofNat 32 a) (BitVec.ofNat 32 b) = BitVec.ofNat 32 (min a b) := by
  have ta : (BitVec.ofNat 32 a).toInt = a := by rw [BitVec.toInt_eq_toNat_of_lt (by simp only [BitVec.toNat_ofNat]; omega), BitVec.toNat_ofNat]; omega
  have tb : (BitVec.ofNat 32 b).toInt = b := by rw [BitVec.toInt_eq_toNat_of_lt (by simp only [BitVec.toNat_ofNat]; omega), BitVec.toNat_ofNat]; omega
  unfold IntOp.minsi
  by_cases h : a < b
  · rw [if_pos (BitVec.slt_iff_toInt_lt.mpr (by rw [ta, tb]; exact_mod_cast h)), min_eq_left h.le]
  · rw [if_neg (fun e => h (by have := BitVec.slt_iff_toInt_lt.mp e; rw [ta, tb] at this; exact_mod_cast this)), min_eq_right (by omega)]

theorem fold_minsi (S : Finset (Fin 8)) (g : Fin 8 → ℕ) (hg : ∀ r, g r < 2147483648) :
    S.fold IntOp.minsi 2147483647#32 (fun r => BitVec.ofNat 32 (g r)) = BitVec.ofNat 32 (S.fold min 2147483647 g) ∧ S.fold min 2147483647 g < 2147483648 := by
  induction S using Finset.induction_on with
  | empty => exact ⟨rfl, by rw [Finset.fold_empty]; omega⟩
  | insert x T hx ih =>
    rw [Finset.fold_insert hx, Finset.fold_insert hx, ih.1, minsi_ofNat (hg x) ih.2]
    exact ⟨rfl, lt_of_le_of_lt (min_le_right _ _) ih.2⟩

/-- What is stored is the first greatest logit's place, that logit and the next. -/
theorem out_best {D : Data} {s : St Ideal} (h : D.Folded 4752 4664 s) (a : Fin 256) :
    ∃ p, Best (fun v => D.L v a.val) 38016 (topV s (ix2 (0 : Fin 1) a)) (secV s (ix2 (0 : Fin 1) a)) p ∧ tokV s (ix2 (0 : Fin 1) a) = BitVec.ofNat 32 p := by
  have h1 : ∀ r : Fin 8, ∃ p, Best (fun t => D.L (8 * t + r.val) a.val) 4752 (s.1 (ix2 r a)) (s.2.1 (ix2 r a)) p ∧ s.2.2 (ix2 r a) = BitVec.ofNat 32 (p + 44) - BitVec.ofNat 32 4664 := fun r =>
    (h r a).resolve_left fun e => absurd e.1 (by decide)
  choose p hb hi using h1
  have hidx : ∀ r, idxV s (ix2 r a) = BitVec.ofNat 32 (8 * p r + r.val) := fun r => idxV_apply s r a (hi r) (hb r).lt
  have hlt : ∀ r : Fin 8, 8 * p r + r.val < 38016 := fun r => by have := (hb r).lt; have := r.isLt; omega
  have et := topV_apply s a
  have ek := tokV_apply s a
  have es := secV_apply s a
  generalize (topV s (ix2 (0 : Fin 1) a) : EReal) = b at et ek ⊢
  generalize tokV s (ix2 (0 : Fin 1) a) = k at ek es ⊢
  generalize (secV s (ix2 (0 : Fin 1) a) : EReal) = c at es ⊢
  have hle : ∀ r : Fin 8, (s.1 (ix2 r a) : EReal) ≤ b := fun r => et ▸ Finset.le_fold_max _ |>.mpr (.inr ⟨r, Finset.mem_univ r, le_rfl⟩)
  have hex : ∃ r : Fin 8, (s.1 (ix2 r a) : EReal) = b := by
    rcases (Finset.le_fold_max b).mp et.le with e | ⟨r, _, e⟩
    · exact ⟨0, le_antisymm (hle 0) (e.trans bot_le)⟩
    · exact ⟨r, le_antisymm (hle r) e⟩
  let g : Fin 8 → ℕ := fun r => if (s.1 (ix2 r a) : EReal) = b then 8 * p r + r.val else 38016
  have hg : ∀ r, g r < 2147483648 := fun r => by
    show (if (s.1 (ix2 r a) : EReal) = b then 8 * p r + r.val else 38016) < 2147483648
    have := hlt r
    split <;> omega
  have eg : (fun r : Fin 8 => if (s.1 (ix2 r a) : EReal) = b then idxV s (ix2 r a) else 38016#32) = fun r => BitVec.ofNat 32 (g r) := by
    funext r
    show _ = BitVec.ofNat 32 (if (s.1 (ix2 r a) : EReal) = b then 8 * p r + r.val else 38016)
    rw [hidx]
    split <;> rfl
  rw [eg, (fold_minsi Finset.univ g hg).1] at ek
  generalize hM : Finset.univ.fold min 2147483647 g = M at ek
  have hMle : ∀ r, M ≤ g r := fun r => hM ▸ (Finset.fold_min_le _).mpr (.inr ⟨r, Finset.mem_univ r, le_rfl⟩)
  have gpos : ∀ r, (s.1 (ix2 r a) : EReal) = b → g r = 8 * p r + r.val := fun r e => if_pos e
  obtain ⟨r₁, e₁⟩ := hex
  have hM1 : M < 38016 := lt_of_le_of_lt (hMle r₁) (by rw [gpos r₁ e₁]; exact hlt r₁)
  obtain ⟨r₀, hr₀⟩ : ∃ r, g r ≤ M := by
    rcases (Finset.fold_min_le M).mp hM.le with e | ⟨r, _, e⟩
    · omega
    · exact ⟨r, e⟩
  have e₀ : (s.1 (ix2 r₀ a) : EReal) = b := by
    by_contra hn
    have : g r₀ = 38016 := if_neg hn
    omega
  have eM : M = 8 * p r₀ + r₀.val := by rw [← gpos r₀ e₀]; exact le_antisymm (hMle r₀) hr₀
  have hk : ∀ r, idxV s (ix2 r a) = k ↔ r = r₀ := fun r => by
    rw [hidx, ek, eM]
    have h1 := hlt r
    have h2 := hlt r₀
    constructor
    · intro e
      have := congrArg BitVec.toNat e
      rw [BitVec.toNat_ofNat, BitVec.toNat_ofNat, Nat.mod_eq_of_lt (by omega), Nat.mod_eq_of_lt (by omega)] at this
      apply Fin.ext
      omega
    · rintro rfl; rfl
  have ec : (fun r : Fin 8 => (if idxV s (ix2 r a) = k then s.2.1 (ix2 r a) else s.1 (ix2 r a) : EReal)) = fun r => if r = r₀ then s.2.1 (ix2 r a) else s.1 (ix2 r a) := by
    funext r
    by_cases e : r = r₀
    · rw [if_pos ((hk r).mpr e), if_pos e]
    · rw [if_neg (fun h => e ((hk r).mp h)), if_neg e]
  rw [ec] at es
  have hc : ∀ r : Fin 8, (if r = r₀ then s.2.1 (ix2 r a) else s.1 (ix2 r a) : EReal) ≤ c := fun r => es ▸ (Finset.le_fold_max _).mpr (.inr ⟨r, Finset.mem_univ r, le_rfl⟩)
  refine ⟨M, ?_, ek⟩
  rw [eM]
  refine Best.merge (L := fun v => D.L v a.val) (T := 4752) hb hle e₀ (fun r e => ?_) hc ?_
  · rw [← eM, ← gpos r e]; exact hMle r
  · rcases (Finset.le_fold_max c).mp es.le with e | ⟨r, _, e⟩
    · exact ⟨r₀, le_antisymm (hc r₀) (e.trans bot_le)⟩
    · exact ⟨r, le_antisymm (hc r) e⟩

/-! ## The body -/

/-- What the three results say. -/
def O3 (D : Data) : Pr Ideal S1x256 .i32 := fun X => ∀ (a : Fin 256) (b c : EReal) (p : ℕ), Best (fun v => D.L v a.val) 38016 b c p → X (ix2 (0 : Fin 1) a) = BitVec.ofNat 32 p
def O4 (D : Data) : Pr Ideal S1x256 .f32 := fun X => ∀ (a : Fin 256) (b c : EReal) (p : ℕ), Best (fun v => D.L v a.val) 38016 b c p → (X (ix2 (0 : Fin 1) a) : EReal) = b - c
def O5 (D : Data) : Pr Ideal S1x256 .f32 := fun X => ∀ (a : Fin 256) (b c : EReal) (p : ℕ), Best (fun v => D.L v a.val) 38016 b c p → (X (ix2 (0 : Fin 1) a) : EReal) = b

/-- At the end: nothing runs, and the three results are there. -/
def stO (D : Data) : SV Ideal := { stZ with p3 := O3 D, p4 := O4 D, p5 := O5 D }

theorem emb_out (a : Fin 256) : (Rect.unit (s := S1x256) ![0, 0] S1x256.size inb_S1x256_S1x256_0_0).emb (ix2 (0 : Fin 1) a) = ix2 (0 : Fin 1) a := by
  refine idx2_eq _ _ _ ?_ ?_
  · show 0 + 1 * 0 = 0; rfl
  · show 0 + 1 * a.val = a.val; omega

section
variable {c : Dev nD} {V : (b : Ref sig .tc) → Buf (Elt Ideal) ((c : Thread nD τ).loc b)}
variable {a3 : Memref sig .tc .vmem S1x256 .i32} {a4 a5 : Memref sig .tc .vmem S1x256 .f32}
variable (h0 : a0.IsWhole) (h1 : a1.IsWhole) (h2 : a2.IsWhole) (h3 : a3.IsWhole) (h4 : a4.IsWhole) (h5 : a5.IsWhole)
  (h6 : a6.IsWhole) (h7 : a7.IsWhole) (h8 : a8.IsWhole) (h9 : a9.IsWhole) (h10 : a10.IsWhole) (h11 : a11.IsWhole)
variable {D : Data}

theorem lane_at (i : Fin 176) (l : Fin 128) : iota .tc S176x128 32 [1] iota_S176x128_d1_w32 (ix2 i l) = BitVec.ofNat 32 l.val := by
  pointwise

theorem part176_V (hD : D.Fin) (hV : Reads D V) :
    OkV c V a3 a4 a5 stZ stZ (k0_part176 a0 h0 a1 h1 a2 h2 a3 h3 a4 h4 a5 h5 a6 h6 a7 h7 a8 h8 a9 h9 a10 h10 a11 h11 cc0_scratch6 cc0_scratch7 cc0_scratch8) (fun r => ∃ (m : Mxu Ideal) (s : St Ideal), DrV D 11 m ∧ D.Folded 4752 4664 s ∧ r = ⟨m, topV s, tokV s, secV s⟩) := by
  rw [k0_part176_eq_skeleton]
  unfold k0_part176_skel
  refine OkV.bind (part163_V h0 h1 h2 h3 h4 h5 h6 h7 h8 h9 h10 h11 hV) fun r hr => ?_
  subst hr
  refine OkV.bind (part164_V h0 h1 h2 h3 h4 h5 h6 h7 h8 h9 h10 h11 hV) fun r hr => ?_
  subst hr
  refine OkV.bind (part165_V h0 h1 h2 h3 h4 h5 h6 h7 h8 h9 h10 h11 rfl) fun m3 hm3 => ?_
  refine OkV.bind (part166_V h0 h1 h2 h3 h4 h5 h6 h7 h8 h9 h10 h11 _) fun r hr => ?_
  subst hr
  refine OkV.bind (part167_V h0 h1 h2 h3 h4 h5 h6 h7 h8 h9 h10 h11 lane_at) fun r hr => ?_
  subst hr
  refine OkV.bind (part168_V h0 h1 h2 h3 h4 h5 h6 h7 h8 h9 h10 h11 _) fun r hr => ?_
  obtain ⟨raw, hraw, rfl⟩ := hr
  refine OkV.bind (part169_V h0 h1 h2 h3 h4 h5 h6 h7 h8 h9 h10 h11 hD hV lane_at hm3 hraw) fun r hr => ?_
  obtain ⟨m, s, l, hm, hs, hl, rfl⟩ := hr
  refine OkV.bind (part170_V h0 h1 h2 h3 h4 h5 h6 h7 h8 h9 h10 h11 hD hm hs hl) fun r hr => ?_
  clear hm hs hl
  obtain ⟨m, s, l, hm, hs, hl, rfl⟩ := hr
  refine OkV.bind (part171_V h0 h1 h2 h3 h4 h5 h6 h7 h8 h9 h10 h11 hD hm hs hl) fun r hr => ?_
  clear hm hs hl
  obtain ⟨m, s, l, hm, hs, hl, rfl⟩ := hr
  refine OkV.bind (part172_V h0 h1 h2 h3 h4 h5 h6 h7 h8 h9 h10 h11 hD hm hs hl) fun r hr => ?_
  clear hm hs hl
  obtain ⟨m, s, l, hm, hs, hl, rfl⟩ := hr
  refine OkV.bind (part173_V h0 h1 h2 h3 h4 h5 h6 h7 h8 h9 h10 h11 hD hm hs hl) fun r hr => ?_
  clear hm hs hl
  obtain ⟨m, s, l, hm, hs, hl, rfl⟩ := hr
  refine OkV.bind (part174_V h0 h1 h2 h3 h4 h5 h6 h7 h8 h9 h10 h11 hD hm hs hl) fun r hr => ?_
  clear hm hs hl
  obtain ⟨m, s, l, hm, hs, hl, rfl⟩ := hr
  refine OkV.bind (part175_V h0 h1 h2 h3 h4 h5 h6 h7 h8 h9 h10 h11 hD hm hs hl) fun r hr => ?_
  clear hm hs hl
  obtain ⟨m, s, l, hm, hs, hl, rfl⟩ := hr
  exact OkV.ret ⟨_, row (row (row s l 1 129) l 2 130) l 3 131, hm, ((hs.row hD 4748 hl 1 rfl (by decide) rfl).row hD 4748 hl 2 rfl (by decide) rfl).row hD 4748 hl 3 rfl (by decide) rfl, rfl⟩

/-- The body leaves the results. -/
theorem head_V (hD : D.Fin) (hV : Reads D V) : OkV c V a3 a4 a5 stZ (stO D) (cc0_q4_head a0 h0 a1 h1 a2 h2 a3 h3 a4 h4 a5 h5 a6 h6 a7 h7 a8 h8 a9 h9 a10 h10 a11 h11 cc0_scratch6 cc0_scratch7 cc0_scratch8) yes := by
  rw [cc0_q4_head_eq_skeleton]
  unfold cc0_q4_head_skel
  refine OkV.bind (part176_V h0 h1 h2 h3 h4 h5 h6 h7 h8 h9 h10 h11 hD hV) fun r hr => ?_
  obtain ⟨m, s, hm, hs, rfl⟩ := hr
  have ho := out_best hs
  refine OkV.bind okV_load_a3 fun _ _ => ?_
  refine OkV.bind (okV_store_a3 (O3 D) fun X X' _ hX _ a b c p hb => ?_) fun _ _ => ?_
  · obtain ⟨p', h1, h2⟩ := ho a
    have := hX (ix2 (0 : Fin 1) a)
    rw [emb_out] at this
    rw [this, (Best.unique hb h1).2.2]
    exact h2
  refine OkV.bind okV_load_a4 fun _ _ => ?_
  refine OkV.bind (okV_store_a4 (O4 D) fun X X' _ hX _ a b c p hb => ?_) fun _ _ => ?_
  · obtain ⟨p', h1, h2⟩ := ho a
    have := hX (ix2 (0 : Fin 1) a)
    rw [emb_out] at this
    rw [this, (Best.unique hb h1).1, (Best.unique hb h1).2.1]
    rfl
  refine OkV.bind okV_load_a5 fun _ _ => ?_
  refine OkV.bind (okV_store_a5 (O5 D) fun X X' _ hX _ a b c p hb => ?_) fun _ _ => ?_
  · obtain ⟨p', h1, h2⟩ := ho a
    have := hX (ix2 (0 : Fin 1) a)
    rw [emb_out] at this
    rw [this, (Best.unique hb h1).1]
  refine OkV.bind (OkV.exit hm.1.drained) fun _ _ => ?_
  exact OkV.ret trivial

end

end Cert.Proof.KernelIdeal
-- ==== Proof.ArgsV.lean ====
/-
  The arguments by number, of the arrays that hold them.
-/
module

public import proofs.«01_k».proof.Proof.SpecV

@[expose] public section

noncomputable section

namespace Cert.Proof.KernelIdeal

open Idealize.ShloMosaic

/-- The arguments by number, of the three arrays. -/
def ofArgs (x : (⟨3, ![256, 1, 3584]⟩ : Shape).Idx → EReal) (w : (⟨2, ![38016, 1792]⟩ : Shape).Idx → BitVec 8) (s : (⟨2, ![38016, 112]⟩ : Shape).Idx → EReal) : Data where
  X a d := if h : a < 256 ∧ d < 3584 then x (ix3 (⟨a, h.1⟩ : Fin 256) (0 : Fin 1) (⟨d, h.2⟩ : Fin 3584)) else 0
  W v k := if h : v < 38016 ∧ k < 1792 then w (ix2 (⟨v, h.1⟩ : Fin 38016) (⟨k, h.2⟩ : Fin 1792)) else 0
  S v g := if h : v < 38016 ∧ g < 112 then s (ix2 (⟨v, h.1⟩ : Fin 38016) (⟨g, h.2⟩ : Fin 112)) else 0

section
variable (x : (⟨3, ![256, 1, 3584]⟩ : Shape).Idx → EReal) (w : (⟨2, ![38016, 1792]⟩ : Shape).Idx → BitVec 8) (s : (⟨2, ![38016, 112]⟩ : Shape).Idx → EReal)
theorem ofArgs_X (a : Fin 256) (d : Fin 3584) : (ofArgs x w s).X a.val d.val = x (ix3 a (0 : Fin 1) d) := dif_pos ⟨a.isLt, d.isLt⟩
theorem ofArgs_W (v : Fin 38016) (k : Fin 1792) : (ofArgs x w s).W v.val k.val = w (ix2 v k) := dif_pos ⟨v.isLt, k.isLt⟩
theorem ofArgs_S (v : Fin 38016) (g : Fin 112) : (ofArgs x w s).S v.val g.val = s (ix2 v g) := dif_pos ⟨v.isLt, g.isLt⟩
end

end Cert.Proof.KernelIdeal
-- ==== Proof.RunV.lean ====
/-
  The idealized kernel's run over the extended reals: it ends with the three results in their arrays.
-/
module

public import proofs.«01_k».proof.Proof.RunI
public import proofs.«01_k».proof.Proof.EndV
public import proofs.«01_k».proof.Proof.ArgsV
public import Idealize.ShloMosaic.Lib.Pipeline.ArrRel

@[expose] public section

noncomputable section

namespace Cert.Proof.KernelIdeal

open Cert.KernelIdeal Cert.KernelIdeal.Gen Cert.Proof
open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (Pipeline.UD sig nD τ) ℕ

variable (m : (ℓ : Loc nD τ sig) → Buf (Elt Ideal) ℓ) (ρ : Dev nD → PrngReg)

/-- The arguments by number, of device `c`'s memory. -/
def dat (c : Dev nD) : Data := ofArgs (m ((c : Thread nD τ).loc main_arg0)) (m ((c : Thread nD τ).loc main_arg1)) (m ((c : Thread nD τ).loc main_arg2))

theorem V_main_v0 (c : Dev nD) : V m c main_v0 = shapeCast S256x3584 (m ((c : Thread nD τ).loc main_arg0) : FVec Ideal S256x1x3584 .bf16) shapeCasts_S256x1x3584_S256x3584 := by
  simp only [V, hostOps0]; after_results_simp <;> rfl

theorem rows_at (x : FVec Ideal S256x1x3584 .bf16) (a : Fin 256) (d : Fin 3584) : (shapeCast S256x3584 x shapeCasts_S256x1x3584_S256x3584 (ix2 a d) : EReal) = x (ix3 a (0 : Fin 1) d) := by
  pointwise

theorem reads (c : Dev nD) : Reads (c := c) (dat m c) (V m c) := by
  refine ⟨fun a d => ?_, fun v k => ?_, fun v g => ?_⟩
  · show (V m c main_v0 (ix2 a d) : EReal) = _
    rw [V_main_v0]
    unfold dat
    rw [ofArgs_X]
    exact rows_at _ a d
  · show V m c main_arg1 (ix2 v k) = _
    rw [V_main_arg1]
    unfold dat
    rw [ofArgs_W]
  · show (V m c main_arg2 (ix2 v g) : EReal) = _
    rw [V_main_arg2]
    unfold dat
    rw [ofArgs_S]

/-! ## The resources at entry and at exit -/

theorem hv_any (c : Dev nD) {sp : Space} {s : Shape} {e : EltTy} (M : Memref sig .tc sp s e) : any (F := Ideal) c M ⊢ (hv c M yes : sProp 𝕄) := by
  unfold any hv
  iintro ⟨%f, H⟩
  iexists f
  isplitr; · ipureintro; trivial
  iexact H
theorem any_hv (c : Dev nD) {sp : Space} {s : Shape} {e : EltTy} (M : Memref sig .tc sp s e) : (hv c M yes : sProp 𝕄) ⊢ any (F := Ideal) c M := by
  unfold any hv
  iintro ⟨%f, -, H⟩
  iexists f
  iexact H

section
variable (c : Dev nD) (V : (b : Ref sig .tc) → Buf (Elt Ideal) ((c : Thread nD τ).loc b))
variable (a3 : Memref sig .tc .vmem S1x256 .i32) (a4 a5 : Memref sig .tc .vmem S1x256 .f32)

/-- The results, outside the rest. -/
abbrev OutsV (P3 : Pr Ideal S1x256 .i32) (P4 P5 : Pr Ideal S1x256 .f32) : sProp 𝕄 := iprop(hv c a3 P3 ∗ hv c a4 P4 ∗ hv c a5 P5)

/-- The rest, with no copy running. -/
abbrev RestS : sProp 𝕄 := iprop(StX c V false ∗ any c a7 ∗ Four (St8 c V) f0 ∗ Four (St9 c V) f0 ∗ any c a10 ∗ any c a11 ∗ ∃ W : Waits sig Unit, owes (c : Thread nD τ) 0 W)

theorem RV_in : RS c V a3 a4 a5 false f0 f0 ⊢ RV c V a3 a4 a5 stZ := by
  have e : RV c V a3 a4 a5 stZ = iprop(hv c a3 yes ∗ hv c a4 yes ∗ hv c a5 yes ∗ StX c V false ∗ hv c a7 yes ∗ Four (St8 c V) f0 ∗ Four (St9 c V) f0 ∗ hv c a10 yes ∗ hv c a11 yes ∗ ∃ W : Waits sig Unit, owes (c : Thread nD τ) 0 W) := rfl
  rw [e]
  unfold RS
  iintro ⟨O3, O4, O5, HX, M7, H8, H9, M10, M11, HW⟩
  isplitl [O3]; · iapply (hv_any c a3) $$ O3
  isplitl [O4]; · iapply (hv_any c a4) $$ O4
  isplitl [O5]; · iapply (hv_any c a5) $$ O5
  isplitl [HX]; · iexact HX
  isplitl [M7]; · iapply (hv_any c a7) $$ M7
  isplitl [H8]; · iexact H8
  isplitl [H9]; · iexact H9
  isplitl [M10]; · iapply (hv_any c a10) $$ M10
  isplitl [M11]; · iapply (hv_any c a11) $$ M11
  iexact HW

theorem RV_out (D : Data) : RV c V a3 a4 a5 (stO D) ⊢ iprop(OutsV c a3 a4 a5 (O3 D) (O4 D) (O5 D) ∗ RestS c V) := by
  have e : RV c V a3 a4 a5 (stO D) = iprop(hv c a3 (O3 D) ∗ hv c a4 (O4 D) ∗ hv c a5 (O5 D) ∗ StX c V false ∗ hv c a7 yes ∗ Four (St8 c V) f0 ∗ Four (St9 c V) f0 ∗ hv c a10 yes ∗ hv c a11 yes ∗ ∃ W : Waits sig Unit, owes (c : Thread nD τ) 0 W) := rfl
  rw [e]
  iintro ⟨O3, O4, O5, HX, M7, H8, H9, M10, M11, HW⟩
  isplitl [O3 O4 O5]
  · isplitl [O3]; · iexact O3
    isplitl [O4]; · iexact O4
    iexact O5
  isplitl [HX]; · iexact HX
  isplitl [M7]; · iapply (any_hv c a7) $$ M7
  isplitl [H8]; · iexact H8
  isplitl [H9]; · iexact H9
  isplitl [M10]; · iapply (any_hv c a10) $$ M10
  isplitl [M11]; · iapply (any_hv c a11) $$ M11
  iexact HW

end

section
variable (c : Dev nD) (a3 : Memref sig .tc .vmem S1x256 .i32) (a4 a5 : Memref sig .tc .vmem S1x256 .f32)

theorem exitV (D : Data) : iprop(RV c (V m c) a3 a4 a5 (stO D) ∗ Kept (F := Ideal) c) ⊢ iprop(Ph m c ∗ OutsV c a3 a4 a5 (O3 D) (O4 D) (O5 D) ∗ ∃ W : Waits sig Unit, owes (c : Thread nD τ) 0 W) := by
  rw [Ph_eq]
  iintro ⟨HR, ⟨R8, R9, HG⟩⟩
  ihave HR := (RV_out c (V m c) a3 a4 a5 D) $$ HR
  icases HR with ⟨HO, ⟨HX, M7, H8, H9, M10, M11, HW⟩⟩
  ihave HX := (side_in c (V m c)) $$ HX
  ihave H8 := (ring8_in c (V m c)) $$ [H8 R8]
  · isplitl [H8]; · iexact H8
    iexact R8
  ihave H9 := (ring9_in c (V m c)) $$ [H9 R9]
  · isplitl [H9]; · iexact H9
    iexact R9
  unfold Side Ring8 Ring9
  icases HX with ⟨A0, M6, SX⟩
  icases H8 with ⟨A1, M8, ⟨S0, S1, S2, S3⟩⟩
  icases H9 with ⟨A2, M9, ⟨T0, T1, T2, T3⟩⟩
  isplitl [M6 M7 M8 M9 M10 M11 HG SX S0 S1 S2 S3 T0 T1 T2 T3 A0 A1 A2]
  · isplitl [M6 M7 M8 M9 M10 M11]
    · isplitl [M6]; · iexact M6
      isplitl [M7]; · iexact M7
      isplitl [M8]; · iexact M8
      isplitl [M9]; · iexact M9
      isplitl [M10]; · iexact M10
      iexact M11
    isplitl [HG]; · iexact HG
    isplitl [SX S0 S1 S2 S3 T0 T1 T2 T3]
    · isplitl [SX]; · iexact SX
      isplitl [S0]; · iexact S0
      isplitl [S1]; · iexact S1
      isplitl [S2]; · iexact S2
      isplitl [S3]; · iexact S3
      isplitl [T0]; · iexact T0
      isplitl [T1]; · iexact T1
      isplitl [T2]; · iexact T2
      iexact T3
    isplitl [A0]; · iexact A0
    isplitl [A1]; · iexact A1
    iexact A2
  isplitl [HO]; · iexact HO
  iexact HW

end

/-- The body from what the launch hands over back to it, with the results. -/
theorem body_wpV (c : Dev nD) (hD : (dat m c).Fin) (a3 : Memref sig .tc .vmem S1x256 .i32) (a4 a5 : Memref sig .tc .vmem S1x256 .f32)
    (h0 : a0.IsWhole) (h1 : a1.IsWhole) (h2 : a2.IsWhole) (h3 : a3.IsWhole) (h4 : a4.IsWhole) (h5 : a5.IsWhole)
    (h6 : a6.IsWhole) (h7 : a7.IsWhole) (h8 : a8.IsWhole) (h9 : a9.IsWhole) (h10 : a10.IsWhole) (h11 : a11.IsWhole) :
    iprop(Ph m c ∗ Outs (F := Ideal) c a3 a4 a5) ⊢ Wk c (cc0_q4_head a0 h0 a1 h1 a2 h2 a3 h3 a4 h4 a5 h5 a6 h6 a7 h7 a8 h8 a9 h9 a10 h10 a11 h11 cc0_scratch6 cc0_scratch7 cc0_scratch8)
      fun _ => iprop(Ph m c ∗ OutsV c a3 a4 a5 (O3 (dat m c)) (O4 (dat m c)) (O5 (dat m c)) ∗ ∃ W : Waits sig Unit, owes (c : Thread nD τ) 0 W) := by
  have hb := head_V (c := c) (V := V m c) (a3 := a3) (a4 := a4) (a5 := a5) h0 h1 h2 h3 h4 h5 h6 h7 h8 h9 h10 h11 hD (reads m c)
    fun _ => iprop(Ph m c ∗ OutsV c a3 a4 a5 (O3 (dat m c)) (O4 (dat m c)) (O5 (dat m c)) ∗ ∃ W : Waits sig Unit, owes (c : Thread nD τ) 0 W)
  have hx := exitV m c a3 a4 a5 (dat m c)
  refine (entry m c a3 a4 a5).trans ?_
  iintro ⟨HR, HK⟩
  ihave HR := (RV_in c (V m c) a3 a4 a5) $$ HR
  iapply hb $$ HR
  iintro %r %hr HR
  iapply hx
  isplitl [HR]; · iexact HR
  iexact HK

/-! ## The run -/

/-- What the body leaves in a result's staging buffer. -/
def outOf (D : Data) : (w : Fin 3) → ((cfg0.win w).block.Idx → Elt Ideal (cfg0.win w).elt) → Prop
  | 0, X => O3 D X
  | 1, X => O4 D X
  | 2, X => O5 D X

def rdatV (c : Dev nD) : Pipeline.RDat τ (Elt Ideal) Unit ℕ (Pipeline.UD sig nD τ) ℕ cfg0 c where
  A w := V m c (Pipeline.arrRef spec0 w)
  after w _ _ X := outOf (dat m c) w X
  Φ _ := Ph m c
  q _ := fullShare
  owed _ := 0

theorem hv_owns (c : Dev nD) (b : Ref sig .tc) (P : Pr Ideal b.ty.shape b.ty.elt) : (hv c (Memref.whole b) P : sProp 𝕄) ⊢ iprop(∃ X, ⌜P X⌝ ∗ owns (c : Thread nD τ) (Memref.whole b) fullShare X) := by
  unfold hv
  iintro ⟨%f, %hf, H⟩
  iexists f
  isplitr; · ipureintro; exact hf
  rw [owns_whole]
  iexact H

theorem body_obligationV (hD : ∀ c, (dat m c).Fin) (c : Dev nD) : (rdatV m c).BodyObligation (defs₀ (F := Ideal)) Variants.none () Set.univ := fun t Y _ => by
  have e1 : (rdatV m c).Φ t.castSucc = Ph m c := rfl
  have e2 : (rdatV m c).Φ t.succ = Ph m c := rfl
  rw [bigSep_W0, bigSep_W0, defs₀_row, e1, e2]
  have hb := body_wpV m c (hD c) (Memref.whole cc0_stg0_0) (Memref.whole cc0_stg1_0) (Memref.whole cc0_stg2_0) (Memref.isWhole_whole _) (Memref.isWhole_whole _) (Memref.isWhole_whole _) (hstage0_0 0) (hstage0_1 0) (hstage0_2 0)
    (Memref.isWhole_whole _) (Memref.isWhole_whole _) (Memref.isWhole_whole _) (Memref.isWhole_whole _) (Memref.isWhole_whole _) (Memref.isWhole_whole _)
  refine BIBase.Entails.trans ?_ (hb.trans ?_)
  · iintro ⟨HP, HW, ⟨H0, H1, H2⟩⟩
    isplitl [HP]; · iexact HP
    isplitl [H0]; · iapply (owns_any c cc0_stg0_0 _) $$ H0
    isplitl [H1]; · iapply (owns_any c cc0_stg1_0 _) $$ H1
    isplitl [H2]; · iapply (owns_any c cc0_stg2_0 _) $$ H2
    unfold Pipeline.RDat.owesAt Pipeline.owesWithin
    icases HW with ⟨%W, -, HW⟩
    iexists W
    iexact HW
  · refine wp_mono _ _ _ fun _ => ?_
    iintro ⟨HP, ⟨⟨H0, H1, H2⟩, ⟨%W, HW⟩⟩⟩
    isplitl [HP]; · iexact HP
    isplitl [HW]
    · unfold Pipeline.RDat.owesAt Pipeline.owesWithin
      iexists W
      isplitr; · ipureintro; exact fun _ _ => Or.inl trivial
      iexact HW
    isplitl [H0]; · iapply (hv_owns c cc0_stg0_0 (O3 (dat m c))) $$ H0
    isplitl [H1]; · iapply (hv_owns c cc0_stg1_0 (O4 (dat m c))) $$ H1
    iapply (hv_owns c cc0_stg2_0 (O5 (dat m c))) $$ H2

set_option backward.isDefEq.respectTransparency.types false in
theorem run_mainV (hD : ∀ c, (dat m c).Fin) : θ_run defs (onTc (τ := τ) (main (F := Ideal))) (s₀ m ρ) (fun r => Pipeline.RDat.FramePost cfg0 (rdatV m) (V m) r ∧ r.2.sem = fun _ => 0) :=
  Pipeline.RDat.θ_run_frame_dma (Q' := _) cfgs (0 : Fin 1) launch0 osem0 defs₀ Variants.none (rdatV m) ownSemFacts0 H0 H0_sub m ρ main
    (hbody := body_obligationV m hD) (hshare := fun c w => by unfold Pipeline.RDat.share; split <;> rfl)
    (howed := fun _ _ => rfl) (V := V m) (hmain := hmainD m Variants.none) (hA := fun _ _ => rfl)
    (hin := fun _ => .rfl) (hout := fun _ => .rfl)

theorem whole0 (w : Fin 3) : (cfg0.win w).WholeAt (⟨0, by decide⟩ : Fin cfg0.N) := by revert w; decide

/-- What the run leaves. -/
theorem runV (hD : ∀ c, (dat m c).Fin) : θ_run defs (onTc (τ := τ) (main (F := Ideal))) ⟨m, fun _ => 0, ρ⟩ (fun r => ∀ c : Dev nD,
      O3 (dat m c) (r.2.mem ((c.tc : Thread nD τ).loc main_v1_0)) ∧ O4 (dat m c) (r.2.mem ((c.tc : Thread nD τ).loc main_v1_1)) ∧ O5 (dat m c) (r.2.mem ((c.tc : Thread nD τ).loc main_v1_2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
    refine ⟨?_, ?_, ?_, ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩
    · obtain ⟨X, ⟨Y, _, hX⟩, e⟩ := ((h.1 c).1 0).emb_eq_of_wholeAt (whole0 0)
      have e' : r.2.mem ((c.tc : Thread nD τ).loc main_v1_0) = X := funext e
      rw [e']; exact hX
    · obtain ⟨X, ⟨Y, _, hX⟩, e⟩ := ((h.1 c).1 1).emb_eq_of_wholeAt (whole0 1)
      have e' : r.2.mem ((c.tc : Thread nD τ).loc main_v1_1) = X := funext e
      rw [e']; exact hX
    · obtain ⟨X, ⟨Y, _, hX⟩, e⟩ := ((h.1 c).1 2).emb_eq_of_wholeAt (whole0 2)
      have e' : r.2.mem ((c.tc : Thread nD τ).loc main_v1_2) = X := funext e
      rw [e']; exact hX) (run_mainV m ρ hD)

end Cert.Proof.KernelIdeal
-- ==== Proof.RefV.lean ====
/-
  The reference's results over the extended reals: of each row of the activations the first of its greatest logits, that
  logit, and how far it stands above the next.
-/
module

public import proofs.«01_k».proof.Proof.RefRun
public import proofs.«01_k».proof.Proof.ArgsV
public import Idealize.ShloMosaic.Lib.Pointwise

@[expose] public section

noncomputable section

namespace Cert.ReferenceIdeal.Value

open Cert.ReferenceIdeal Cert.ReferenceIdeal.Gen Cert.Proof.KernelIdeal
open Idealize.ShloMosaic Idealize.ShloMosaic.TcCoe Idealize.SL.Sem

variable (x : FVec Ideal S256x1x3584 .bf16) (w : IVec S38016x1792 8) (s : FVec Ideal S38016x112 .bf16)

theorem toInt_lo32 (w : BitVec 8) : (BitVec.setWidth 32 w &&& 15#32).toInt = (nib 0 w : ℤ) := by revert w; decide
theorem toInt_hi32 (w : BitVec 8) : (IntOp.shrsi ArithUnit.host (BitVec.setWidth 32 w) 4#32).toInt = (nib 1 w : ℤ) := by revert w; decide

theorem wLo_at (v : Fin 38016) (k : Fin 1792) : (wLo w s (ix2 v k) : EReal) = dq 0 (w (ix2 v k)) * s (ix2 v (⟨k.val / 16, by omega⟩ : Fin 112)) := by
  unfold wLo codes scales eights
  pointwise
  show ((((BitVec.setWidth 32 (w (ix2 v k)) &&& 15#32).toInt : ℝ) : EReal) - _) * _ = _
  rw [toInt_lo32]
  rfl

theorem wHi_at (v : Fin 38016) (k : Fin 1792) : (wHi w s (ix2 v k) : EReal) = dq 1 (w (ix2 v k)) * s (ix2 v (⟨k.val / 16, by omega⟩ : Fin 112)) := by
  unfold wHi codes scales eights
  pointwise
  show ((((IntOp.shrsi ArithUnit.host (BitVec.setWidth 32 (w (ix2 v k))) 4#32).toInt : ℝ) : EReal) - _) * _ = _
  rw [toInt_hi32]
  rfl

theorem xLo_at (a : Fin 256) (k : Fin 1792) : (xLo x (ix2 a k) : EReal) = x (ix3 a (0 : Fin 1) (⟨32 * (k.val / 16) + k.val % 16, by omega⟩ : Fin 3584)) := by
  unfold xLo
  pointwise
  congr 2
  apply Fin.ext
  show k.val / 16 * 32 + k.val % 16 = 32 * (k.val / 16) + k.val % 16
  omega

theorem xHi_at (a : Fin 256) (k : Fin 1792) : (xHi x (ix2 a k) : EReal) = x (ix3 a (0 : Fin 1) (⟨32 * (k.val / 16) + k.val % 16 + 16, by omega⟩ : Fin 3584)) := by
  unfold xHi
  pointwise
  congr 2
  apply Fin.ext
  show k.val / 16 * 32 + (16 + k.val % 16) = 32 * (k.val / 16) + k.val % 16 + 16
  omega

theorem logits_at (a : Fin 256) (v : Fin 38016) : (logits x w s (ix2 a v) : EReal) = ((ofArgs x w s).L v.val a.val) := by
  unfold logits
  pointwise
  unfold Data.L Data.part
  rw [Finset.sum_range (n := 1792), Finset.sum_range (n := 1792)]
  congr 1
  · refine Finset.sum_congr rfl fun k _ => ?_
    rw [xLo_at, wLo_at, mul_comm]
    unfold Data.w Data.x
    rw [ofArgs_W, ← ofArgs_S x w s, ← ofArgs_X x w s]
    rfl
  · refine Finset.sum_congr rfl fun k _ => ?_
    rw [xHi_at, wHi_at, mul_comm]
    unfold Data.w Data.x
    rw [ofArgs_W, ← ofArgs_S x w s, ← ofArgs_X x w s]
    rfl

theorem topOf_at (L : FVec Ideal S256x38016 .f32) (a : Fin 256) : (topOf L (ix1 a) : EReal) = Finset.univ.fold max ⊥ fun v : Fin 38016 => (L (ix2 a v) : EReal) := by
  rw [← negInf]
  unfold topOf
  pointwise

theorem secondOf_at (L : FVec Ideal S256x38016 .f32) (t : IVec S256 32) (a : Fin 256) : (secondOf L t (ix1 a) : EReal) = Finset.univ.fold max ⊥ fun v : Fin 38016 => if BitVec.ofNat 32 v.val = t (ix1 a) then ⊥ else (L (ix2 a v) : EReal) := by
  rw [← negInf]
  unfold secondOf
  pointwise
  congr 1
  funext v
  by_cases e : BitVec.ofNat 32 v.val = t (ix1 a)
  · rw [if_pos e, e]; simp [Scalar.select, IntOp.cmpi]
  · rw [if_neg e]
    show (if BitVec.ofBool (BitVec.ofNat 32 v.val == t (ix1 a)) = 1#1 then _ else _) = _
    rw [beq_false_of_ne e]
    rfl

/-! ## The arg-max -/

theorem red_apply (a b : EReal × BitVec 32) : reducer_argmax_f32_i32 (F := Ideal) a b
    = (if b.1 < a.1 then a.1 else b.1, if b.1 < a.1 ∨ (a.1 = b.1 ∧ a.2.slt b.2 = true) then a.2 else b.2) := by
  obtain ⟨a1, a2⟩ := a
  obtain ⟨b1, b2⟩ := b
  simp only [reducer_argmax_f32_i32, Ideal.cmpf_def, Ideal.cmp, Scalar.select, IntOp.cmpi, IntOp.ori, IntOp.andi]
  by_cases h1 : b1 < a1 <;> by_cases h2 : a1 = b1 <;> by_cases h3 : a2.slt b2 = true <;> simp [h1, h2, h3]

/-- The first greatest of the numbers of `S` so far. -/
def AM (f : ℕ → EReal) (S : ℕ → Prop) (r : EReal × BitVec 32) : Prop :=
  (r.1 = ⊥ ∧ ∀ v, ¬ S v) ∨ ∃ p, S p ∧ p < 38016 ∧ r.1 = f p ∧ r.2 = BitVec.ofNat 32 p ∧ ∀ v, S v → f v ≤ f p ∧ (f v = f p → p ≤ v)

theorem slt_small {a b : ℕ} (ha : a < 38016) (hb : b < 38016) : (BitVec.ofNat 32 a).slt (BitVec.ofNat 32 b) = true ↔ a < b := by
  have ta : (BitVec.ofNat 32 a).toInt = a := by rw [BitVec.toInt_eq_toNat_of_lt (by simp only [BitVec.toNat_ofNat]; omega), BitVec.toNat_ofNat]; omega
  have tb : (BitVec.ofNat 32 b).toInt = b := by rw [BitVec.toInt_eq_toNat_of_lt (by simp only [BitVec.toNat_ofNat]; omega), BitVec.toNat_ofNat]; omega
  rw [BitVec.slt_iff_toInt_lt, ta, tb]
  exact Int.ofNat_lt

theorem AM.step {f : ℕ → EReal} (hf : ∀ v, v < 38016 → f v ≠ ⊥) {S : ℕ → Prop} {r : EReal × BitVec 32} (h : AM f S r) {v : ℕ} (hv : v < 38016) {b : EReal × BitVec 32}
    (hb : b.1 = f v) (hb' : b.2 = BitVec.ofNat 32 v) : AM f (fun u => S u ∨ u = v) (reducer_argmax_f32_i32 (F := Ideal) r b) := by
  rw [red_apply, hb, hb']
  rcases h with ⟨e, hS⟩ | ⟨p, hp, hp', e, e', hm⟩
  · have h1 : ¬ f v < r.1 := by rw [e]; exact not_lt_bot
    have h2 : r.1 ≠ f v := by rw [e]; exact fun h => hf v hv h.symm
    rw [if_neg h1, if_neg (by rintro (h | ⟨h, _⟩); exacts [h1 h, h2 h])]
    refine .inr ⟨v, .inr rfl, hv, rfl, rfl, ?_⟩
    rintro u (hu | rfl)
    · exact absurd hu (hS u)
    · exact ⟨le_rfl, fun _ => le_rfl⟩
  · rw [e, e']
    rcases lt_trichotomy (f v) (f p) with h1 | h1 | h1
    · rw [if_pos h1, if_pos (.inl h1)]
      refine .inr ⟨p, .inl hp, hp', rfl, rfl, ?_⟩
      rintro u (hu | rfl)
      · exact hm u hu
      · exact ⟨h1.le, fun h => absurd h h1.ne⟩
    · rw [if_neg (by rw [h1]; exact lt_irrefl _)]
      by_cases hl : p < v
      · rw [if_pos (.inr ⟨h1.symm, (slt_small hp' hv).mpr hl⟩)]
        refine .inr ⟨p, .inl hp, hp', h1, rfl, ?_⟩
        rintro u (hu | rfl)
        · exact hm u hu
        · exact ⟨h1.le, fun _ => hl.le⟩
      · rw [if_neg (by rintro (h | ⟨_, h⟩); exacts [absurd h1 h.ne, hl ((slt_small hp' hv).mp h)])]
        refine .inr ⟨v, .inr rfl, hv, rfl, rfl, ?_⟩
        rintro u (hu | rfl)
        · rw [h1]; exact ⟨(hm u hu).1, fun h => (Nat.le_of_not_lt hl).trans ((hm u hu).2 h)⟩
        · exact ⟨le_rfl, fun _ => le_rfl⟩
    · have h2 : ¬ f v < f p := not_lt.mpr h1.le
      rw [if_neg h2, if_neg (by rintro (h | ⟨h, _⟩); exacts [h2 h, h1.ne h])]
      refine .inr ⟨v, .inr rfl, hv, rfl, rfl, ?_⟩
      rintro u (hu | rfl)
      · have := lt_of_le_of_lt (hm u hu).1 h1
        exact ⟨this.le, fun h => absurd h this.ne⟩
      · exact ⟨le_rfl, fun _ => le_rfl⟩

theorem AM.fold {ι : Type} {f : ℕ → EReal} (hf : ∀ v, v < 38016 → f v ≠ ⊥) (g : ι → ℕ) (b : ι → EReal × BitVec 32) (l : List ι) :
    ∀ {S : ℕ → Prop} {r : EReal × BitVec 32}, AM f S r → (∀ n ∈ l, g n < 38016 ∧ (b n).1 = f (g n) ∧ (b n).2 = BitVec.ofNat 32 (g n)) →
      AM f (fun u => S u ∨ ∃ n ∈ l, u = g n) (l.foldl (fun r n => reducer_argmax_f32_i32 (F := Ideal) r (b n)) r) := by
  induction l with
  | nil =>
    intro S r h _
    have : (fun u => S u ∨ ∃ n ∈ ([] : List ι), u = g n) = S := by funext u; simp
    rw [this]; exact h
  | cons n l ih =>
    intro S r h hl
    have hn := hl n (List.mem_cons_self ..)
    have := ih (h.step hf hn.1 hn.2.1 hn.2.2) fun k hk => hl k (List.mem_cons_of_mem _ hk)
    have e : (fun u => S u ∨ ∃ k ∈ n :: l, u = g k) = fun u => (S u ∨ u = g n) ∨ ∃ k ∈ l, u = g k := by
      funext u
      simp only [List.mem_cons, exists_eq_or_imp, or_assoc]
    rw [e]; exact this

theorem drop_at (i : S256x38016.Idx) : reducesTo_S256x38016_S256_d1.drop i = ix1 (i 0) := by
  funext b
  match b with
  | ⟨0, _⟩ => rfl

/-- An arg-max over any axes, of values by number. -/
theorem arg_at {s t u : Shape} {axes : List (Fin s.rank)} (h : s.ReducesTo axes t) (hu : 0 < u.numel) (L : FVec Ideal s .f32) (y : IVec s 32) (ix : FVec Ideal u .f32) (iy : IVec u 32) (j : t.Idx)
    (g : s.Idx → ℕ) (f : ℕ → EReal) (hf : ∀ v, v < 38016 → f v ≠ ⊥) (hL : ∀ i, h.drop i = j → g i < 38016 ∧ (L i : EReal) = f (g i) ∧ y i = BitVec.ofNat 32 (g i))
    (hall : ∀ v, v < 38016 → ∃ i, h.drop i = j ∧ v = g i) (hix : (ix (Shape.Idx.first hu) : EReal) = ⊥) :
    ∃ p, p < 38016 ∧ (Host.argReduce (reducer_argmax_f32_i32 (F := Ideal)) L y ix iy h hu j).2 = BitVec.ofNat 32 p ∧ ∀ v, v < 38016 → f v ≤ f p ∧ (f v = f p → p ≤ v) := by
  have h0 : AM f (fun _ => False) ((ix (Shape.Idx.first hu) : EReal), iy (Shape.Idx.first hu)) := .inl ⟨hix, fun _ h => h⟩
  have h1 := AM.fold hf (fun n : Fin s.numel => g (s.rowMajor.symm n)) (fun n => ((L (s.rowMajor.symm n) : EReal), y (s.rowMajor.symm n)))
    ((List.finRange s.numel).filter fun n => h.drop (s.rowMajor.symm n) = j) h0 fun n hn => hL _ (of_decide_eq_true (List.mem_filter.mp hn).2)
  rw [Ideal.argReduce_eq_reduce2]
  have hall' : ∀ v, v < 38016 → (False ∨ ∃ n ∈ ((List.finRange s.numel).filter fun n => h.drop (s.rowMajor.symm n) = j), v = g (s.rowMajor.symm n)) := fun v hv => by
    obtain ⟨i, hi, e⟩ := hall v hv
    exact .inr ⟨s.rowMajor i, List.mem_filter.mpr ⟨List.mem_finRange _, decide_eq_true (by rw [Equiv.symm_apply_apply]; exact hi)⟩, by rw [Equiv.symm_apply_apply]; exact e⟩
  rcases h1 with ⟨_, h⟩ | ⟨p, hp, hp', _, e', hm⟩
  · exact absurd (hall' 0 (Nat.succ_pos _)) (h 0)
  · exact ⟨p, hp', e', fun v hv => hm v (hall' v hv)⟩

theorem iota_at (i : S256x38016.Idx) : iotaInDim S256x38016 32 1 i = BitVec.ofNat 32 (i 1).val := rfl

theorem idx_at (a : Fin 256) (i : S256x38016.Idx) (e : i 0 = a) : i = ix2 a (i 1) := by
  subst e
  funext k
  match k with
  | ⟨0, _⟩ => rfl
  | ⟨1, _⟩ => rfl

theorem col_lt (i : S256x38016.Idx) : (i 1).val < 38016 := (i 1).isLt

theorem at_col (L : FVec Ideal S256x38016 .f32) (a : Fin 256) (f : ℕ → EReal) (hL : ∀ v : Fin 38016, (L (ix2 a v) : EReal) = f v.val) (i : S256x38016.Idx) (hd : reducesTo_S256x38016_S256_d1.drop i = ix1 a) : (L i : EReal) = f (i 1).val := by
  rw [drop_at] at hd
  have ha : i 0 = a := congrFun hd 0
  rw [idx_at a i ha]
  exact hL _

theorem col_all (a : Fin 256) (v : ℕ) (hv : v < 38016) : ∃ i : S256x38016.Idx, reducesTo_S256x38016_S256_d1.drop i = ix1 a ∧ v = (i 1).val :=
  ⟨ix2 a (⟨v, hv⟩ : Fin 38016), by rw [drop_at]; rfl, rfl⟩

theorem tokOf_eq (L : FVec Ideal S256x38016 .f32) : tokOf L = fun j => (Host.argReduce (reducer_argmax_f32_i32 (F := Ideal)) L (iotaInDim S256x38016 32 1) (constant S_ .f32 0xFF800000#32) (constantI S_ 32 0#32) reducesTo_S256x38016_S256_d1 h_S_ j).2 := rfl

theorem tokOf_at (L : FVec Ideal S256x38016 .f32) (a : Fin 256) (f : ℕ → EReal) (hL : ∀ v : Fin 38016, (L (ix2 a v) : EReal) = f v.val) (hf : ∀ v, v < 38016 → f v ≠ ⊥) :
    ∃ p, p < 38016 ∧ tokOf L (ix1 a) = BitVec.ofNat 32 p ∧ ∀ v, v < 38016 → f v ≤ f p ∧ (f v = f p → p ≤ v) := by
  have h := arg_at reducesTo_S256x38016_S256_d1 h_S_ L (iotaInDim S256x38016 32 1) (constant S_ .f32 0xFF800000#32) (constantI S_ 32 0#32) (ix1 a) (fun i => (i 1).val) f hf
    (fun i hd => ⟨col_lt i, at_col L a f hL i hd, iota_at i⟩) (col_all a) negInf
  rw [congrFun (tokOf_eq L) (ix1 a)]
  exact h

/-- The reference's results are the first greatest logit's place, that logit and the next. -/
theorem ref_best (hD : (ofArgs x w s).Fin) (a : Fin 256) : ∃ p,
    Best (fun v => (ofArgs x w s).L v a.val) 38016 (topOf (logits x w s) (ix1 a)) (secondOf (logits x w s) (tokOf (logits x w s)) (ix1 a)) p
      ∧ tokOf (logits x w s) (ix1 a) = BitVec.ofNat 32 p := by
  have hL : ∀ v : Fin 38016, (logits x w s (ix2 a v) : EReal) = (ofArgs x w s).L v.val a.val := fun v => logits_at x w s a v
  obtain ⟨p, hp, ht, hm⟩ := tokOf_at (logits x w s) a (fun v => (ofArgs x w s).L v a.val) hL fun v hv => hD v a.val hv a.isLt
  have et := topOf_at (logits x w s) a
  have es := secondOf_at (logits x w s) (tokOf (logits x w s)) a
  rw [ht] at es
  simp only [hL] at et es
  generalize (topOf (logits x w s) (ix1 a) : EReal) = b at et ⊢
  generalize (secondOf (logits x w s) (tokOf (logits x w s)) (ix1 a) : EReal) = c at es ⊢
  have hi : ∀ v : Fin 38016, BitVec.ofNat 32 v.val = BitVec.ofNat 32 p ↔ v.val = p := fun v => by
    constructor
    · intro e
      have := congrArg BitVec.toNat e
      have := v.isLt
      simp only [BitVec.toNat_ofNat] at *
      omega
    · intro e; rw [e]
  have hb : (ofArgs x w s).L p a.val = b := by
    refine le_antisymm ?_ ?_
    · rw [et]; exact (Finset.le_fold_max _).mpr (.inr ⟨⟨p, hp⟩, Finset.mem_univ _, le_rfl⟩)
    · rw [et]; exact (Finset.fold_max_le _).mpr ⟨bot_le, fun v _ => (hm v.val v.isLt).1⟩
  refine ⟨p, ⟨hp, hb, ?_, ?_, ?_, ?_⟩, ht⟩
  · intro t hl
    have := hm t (hl.trans hp)
    exact hb ▸ lt_of_le_of_ne this.1 fun e => absurd (this.2 e) (Nat.not_le.mpr hl)
  · intro t hl
    exact hb ▸ (hm t hl).1
  · intro t hl hne
    rw [es]
    refine (Finset.le_fold_max _).mpr (.inr ⟨⟨t, hl⟩, Finset.mem_univ _, ?_⟩)
    rw [if_neg fun e => hne ((hi ⟨t, hl⟩).mp e)]
  · rcases (Finset.le_fold_max c).mp es.le with e | ⟨v, _, e⟩
    · exact .inl (le_bot_iff.mp e)
    · by_cases hv : BitVec.ofNat 32 v.val = BitVec.ofNat 32 p
      · rw [if_pos hv] at e
        exact .inl (le_bot_iff.mp e)
      · rw [if_neg hv] at e
        refine .inr ⟨v.val, v.isLt, fun h => hv ((hi v).mpr h), le_antisymm ?_ e⟩
        rw [es]
        refine (Finset.le_fold_max _).mpr (.inr ⟨v, Finset.mem_univ _, ?_⟩)
        rw [if_neg hv]

end Cert.ReferenceIdeal.Value
-- ==== Proof.FinV.lean ====
/-
  Finite activations and scales give logits that are real numbers.
-/
module

public import proofs.«01_k».proof.Pre_finite
public import proofs.«01_k».proof.Proof.ArgsV
public import Idealize.ShloMosaic.Lib.ReduceAll
public import Idealize.ShloMosaic.Lib.Pointwise

@[expose] public section

noncomputable section

namespace Cert.Proof.KernelIdeal

open Idealize.ShloMosaic

/-- The shape relations the precondition takes. -/
instance preFacts : Cert.Pre_finite.Facts where
  bcast_S_S256x1x3584 := by decide
  reducesTo_S256x1x3584_S_d0_1_2 := by decide
  h_S_ := by decide
  bcast_S_S38016x112 := by decide
  reducesTo_S38016x112_S_d0_1 := by decide

theorem and_one {a b : BitVec 1} (h : a &&& b = 1#1) : a = 1#1 ∧ b = 1#1 := by revert a b; decide

theorem posInf_bf16 : (Ideal.ofBits .bf16 0x7F80#16 : EReal) = ⊤ := by simp [Ideal.ofBits, Ideal.ieee]

theorem eight_bf16 : ∃ r : ℝ, (Ideal.ofBits .bf16 0x4100#16 : EReal) = (r : EReal) := by
  simp [Ideal.ofBits, Ideal.ieee, -EReal.coe_mul]

/-- A number less in size than the greatest value is real. -/
theorem real_of_lt {a : EReal} (h : Ideal.cmp .olt (max a (-a)) ⊤ = 1#1) : ∃ r : ℝ, a = (r : EReal) := by
  have h' : max a (-a) < ⊤ := by
    simp only [Ideal.cmp] at h
    by_contra hn
    simp [hn] at h
  have h1 : a ≠ ⊤ := fun e => by rw [e] at h'; simp at h'
  have h2 : a ≠ ⊥ := fun e => by rw [e] at h'; simp at h'
  exact ⟨a.toReal, (EReal.coe_toReal h1 h2).symm⟩

theorem sum_real {ι : Type} (t : Finset ι) (f : ι → EReal) (h : ∀ i ∈ t, ∃ r : ℝ, f i = (r : EReal)) : ∃ r : ℝ, ∑ i ∈ t, f i = (r : EReal) := by
  classical
  induction t using Finset.induction_on with
  | empty => exact ⟨0, by simp⟩
  | insert a t ha ih =>
    obtain ⟨r, hr⟩ := ih fun i hi => h i (Finset.mem_insert_of_mem hi)
    obtain ⟨q, hq⟩ := h a (Finset.mem_insert_self a t)
    exact ⟨q + r, by rw [Finset.sum_insert ha, hr, hq, EReal.coe_add]⟩

theorem dq_real (q : Fin 2) (w : BitVec 8) : ∃ r : ℝ, dq q w = (r : EReal) := by
  obtain ⟨r, hr⟩ := eight_bf16
  exact ⟨(nib q w : ℝ) - r, by unfold dq; rw [hr, EReal.coe_sub]⟩

section
variable (x : FVec Ideal (⟨3, ![256, 1, 3584]⟩ : Shape) .bf16) (w : IVec (⟨2, ![38016, 1792]⟩ : Shape) 8) (s : FVec Ideal (⟨2, ![38016, 112]⟩ : Shape) .bf16)

instance : Subsingleton Cert.Pre_finite.S_.Idx := ⟨fun a b => funext fun k => k.elim0⟩

/-- The precondition, at an activation and at a scale. -/
theorem pre_real (h : Cert.Pre_finite.fn (F := Ideal) x w s = fun _ => 1#1) : (∀ i, ∃ r : ℝ, (x i : EReal) = (r : EReal)) ∧ ∀ i, ∃ r : ℝ, (s i : EReal) = (r : EReal) := by
  have h' := congrFun h (fun k => k.elim0)
  dsimp only [Cert.Pre_finite.fn] at h'
  have ⟨h1, h2⟩ := and_one h'
  refine ⟨fun i => real_of_lt ?_, fun i => real_of_lt ?_⟩
  · rw [← posInf_bf16]
    exact Host.reduce_andi_all _ _ _ _ _ h1 i
  · rw [← posInf_bf16]
    exact Host.reduce_andi_all _ _ _ _ _ h2 i

/-- Under the precondition, no logit is the least value. -/
theorem pre_fin (h : Cert.Pre_finite.fn (F := Ideal) x w s = fun _ => 1#1) : (ofArgs x w s).Fin := by
  have ⟨hx, hs⟩ := pre_real x w s h
  have hX : ∀ a d, ∃ r : ℝ, (ofArgs x w s).X a d = (r : EReal) := fun a d => by
    by_cases e : a < 256 ∧ d < 3584
    · obtain ⟨r, hr⟩ := hx (ix3 (⟨a, e.1⟩ : Fin 256) (0 : Fin 1) (⟨d, e.2⟩ : Fin 3584))
      exact ⟨r, (ofArgs_X x w s ⟨a, e.1⟩ ⟨d, e.2⟩).trans hr⟩
    · exact ⟨0, (dif_neg e).trans (by simp)⟩
  have hS : ∀ v g, ∃ r : ℝ, (ofArgs x w s).S v g = (r : EReal) := fun v g => by
    by_cases e : v < 38016 ∧ g < 112
    · obtain ⟨r, hr⟩ := hs (ix2 (⟨v, e.1⟩ : Fin 38016) (⟨g, e.2⟩ : Fin 112))
      exact ⟨r, (ofArgs_S x w s ⟨v, e.1⟩ ⟨g, e.2⟩).trans hr⟩
    · exact ⟨0, (dif_neg e).trans (by simp)⟩
  have hp : ∀ (q : Fin 2) v a n, ∃ r : ℝ, (ofArgs x w s).part q v a n = (r : EReal) := fun q v a n => by
    refine sum_real _ _ fun k _ => ?_
    obtain ⟨r1, h1⟩ := dq_real q ((ofArgs x w s).W v k)
    obtain ⟨r2, h2⟩ := hS v (k / 16)
    obtain ⟨r3, h3⟩ := hX a (32 * (k / 16) + k % 16 + 16 * q.val)
    exact ⟨r1 * r2 * r3, by unfold Data.w Data.x; rw [h1, h2, h3, EReal.coe_mul, EReal.coe_mul]⟩
  intro v a _ _
  obtain ⟨r0, h0⟩ := hp 0 v a 1792
  obtain ⟨r1, h1⟩ := hp 1 v a 1792
  unfold Data.L
  rw [h0, h1, ← EReal.coe_add]
  exact EReal.coe_ne_bot _
end

end Cert.Proof.KernelIdeal
-- ==== Proof.AlgV.lean ====
/-
  The idealized kernel and the reference give the same three results.
-/
module

public import proofs.«01_k».proof.Defs
public import proofs.«01_k».proof.Proof.RunV
public import proofs.«01_k».proof.Proof.RefV
public import proofs.«01_k».proof.Proof.FinV

@[expose] public section

noncomputable section

namespace Cert.Proof.KernelIdeal

open Idealize.ShloMosaic
open Cert.ReferenceIdeal.Value (topOf tokOf secondOf logits ref_best)

section
variable (x : FVec Ideal (⟨3, ![256, 1, 3584]⟩ : Shape) .bf16) (w : IVec (⟨2, ![38016, 1792]⟩ : Shape) 8) (s : FVec Ideal (⟨2, ![38016, 112]⟩ : Shape) .bf16)

/-- The reference's three results, of the arguments. -/
def res0 : IVec (⟨2, ![1, 256]⟩ : Shape) 32 := shapeCast _ (tokOf (logits x w s)) Cert.ReferenceIdeal.Gen.shapeCasts_S256_S1x256
def res1 : FVec Ideal (⟨2, ![1, 256]⟩ : Shape) .f32 := shapeCast _ (subf (topOf (logits x w s)) (secondOf (logits x w s) (tokOf (logits x w s)))) Cert.ReferenceIdeal.Gen.shapeCasts_S256_S1x256
def res2 : FVec Ideal (⟨2, ![1, 256]⟩ : Shape) .f32 := shapeCast _ (topOf (logits x w s)) Cert.ReferenceIdeal.Gen.shapeCasts_S256_S1x256

theorem row_cast {α : Type} (f : (⟨1, ![256]⟩ : Shape).Idx → α) (h : (⟨1, ![256]⟩ : Shape).ShapeCasts (⟨2, ![1, 256]⟩ : Shape)) (a : Fin 256) : shapeCast (⟨2, ![1, 256]⟩ : Shape) f h (ix2 (0 : Fin 1) a) = f (ix1 a) := by
  pointwise

theorem ext_row {α : Type} (f g : (⟨2, ![1, 256]⟩ : Shape).Idx → α) (h : ∀ a : Fin 256, f (ix2 (0 : Fin 1) a) = g (ix2 (0 : Fin 1) a)) : f = g := by
  funext i
  have e : i = ix2 (0 : Fin 1) (i 1) := by
    funext k
    match k with
    | ⟨0, _⟩ => exact Subsingleton.elim (α := Fin 1) _ _
    | ⟨1, _⟩ => rfl
  rw [e]
  exact h (i 1)

theorem sub_at (u v : FVec Ideal (⟨1, ![256]⟩ : Shape) .f32) (i : (⟨1, ![256]⟩ : Shape).Idx) : (subf u v i : EReal) = (u i : EReal) - v i := rfl

theorem O3_of {D : Data} {X : IVec (⟨2, ![1, 256]⟩ : Shape) 32} (h : O3 D X) (T : IVec (⟨1, ![256]⟩ : Shape) 32) (hc : (⟨1, ![256]⟩ : Shape).ShapeCasts (⟨2, ![1, 256]⟩ : Shape))
    (hb : ∀ a : Fin 256, ∃ (b c : EReal) (p : ℕ), Best (fun v => D.L v a.val) 38016 b c p ∧ T (ix1 a) = BitVec.ofNat 32 p) : X = shapeCast _ T hc := by
  refine ext_row _ _ fun a => ?_
  obtain ⟨b, c, p, hb, ht⟩ := hb a
  rw [row_cast, ht]
  exact h a b c p hb

theorem O4_of {D : Data} {X : FVec Ideal (⟨2, ![1, 256]⟩ : Shape) .f32} (h : O4 D X) (T U : FVec Ideal (⟨1, ![256]⟩ : Shape) .f32) (hc : (⟨1, ![256]⟩ : Shape).ShapeCasts (⟨2, ![1, 256]⟩ : Shape))
    (hb : ∀ a : Fin 256, ∃ p : ℕ, Best (fun v => D.L v a.val) 38016 (T (ix1 a)) (U (ix1 a)) p) : X = shapeCast _ (subf T U) hc := by
  refine ext_row _ _ fun a => ?_
  obtain ⟨p, hb⟩ := hb a
  rw [row_cast, sub_at]
  exact h a _ _ p hb

theorem O5_of {D : Data} {X : FVec Ideal (⟨2, ![1, 256]⟩ : Shape) .f32} (h : O5 D X) (T U : FVec Ideal (⟨1, ![256]⟩ : Shape) .f32) (hc : (⟨1, ![256]⟩ : Shape).ShapeCasts (⟨2, ![1, 256]⟩ : Shape))
    (hb : ∀ a : Fin 256, ∃ p : ℕ, Best (fun v => D.L v a.val) 38016 (T (ix1 a)) (U (ix1 a)) p) : X = shapeCast _ T hc := by
  refine ext_row _ _ fun a => ?_
  obtain ⟨p, hb⟩ := hb a
  rw [row_cast]
  exact h a _ _ p hb

variable (hD : (ofArgs x w s).Fin)
include hD

theorem best_tok (a : Fin 256) : ∃ (b c : EReal) (p : ℕ), Best (fun v => (ofArgs x w s).L v a.val) 38016 b c p ∧ tokOf (logits x w s) (ix1 a) = BitVec.ofNat 32 p := by
  obtain ⟨p, h⟩ := ref_best x w s hD a
  exact ⟨_, _, p, h⟩

theorem best_val (a : Fin 256) : ∃ p : ℕ, Best (fun v => (ofArgs x w s).L v a.val) 38016 (topOf (logits x w s) (ix1 a)) (secondOf (logits x w s) (tokOf (logits x w s)) (ix1 a)) p := by
  obtain ⟨p, h, _⟩ := ref_best x w s hD a
  exact ⟨p, h⟩

theorem O3_eq {X : IVec (⟨2, ![1, 256]⟩ : Shape) 32} (h : O3 (ofArgs x w s) X) : X = res0 x w s := by
  rw [res0]
  exact O3_of h (tokOf (logits x w s)) _ (best_tok x w s hD)

theorem O4_eq {X : FVec Ideal (⟨2, ![1, 256]⟩ : Shape) .f32} (h : O4 (ofArgs x w s) X) : X = res1 x w s := by
  rw [res1]
  exact O4_of h (topOf (logits x w s)) (secondOf (logits x w s) (tokOf (logits x w s))) _ (best_val x w s hD)

theorem O5_eq {X : FVec Ideal (⟨2, ![1, 256]⟩ : Shape) .f32} (h : O5 (ofArgs x w s) X) : X = res2 x w s := by
  rw [res2]
  exact O5_of h (topOf (logits x w s)) (secondOf (logits x w s) (tokOf (logits x w s))) _ (best_val x w s hD)
end

/-- The idealized kernel and the reference give the same results where the activations and the scales are finite. -/
theorem algebraic : Cert.algebraic_KernelIdeal_ReferenceIdeal_pre_finite := by
  intro m g m' g' hpre hargs
  have hD : ∀ c, (dat m c).Fin := fun c => pre_fin _ _ _ (hpre c)
  refine ⟨fun c => res0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => res1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => res2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · exact (θ_run _ _ _).mono (fun r h c => ⟨O3_eq _ _ _ (hD c) (h c).1, O4_eq _ _ _ (hD c) (h c).2.1, O5_eq _ _ _ (hD c) (h c).2.2.1, (h c).2.2.2⟩) (runV m g hD)
  · refine (θ_run _ _ _).mono (fun r h c => ?_) (Cert.ReferenceIdeal.Value.run (F := Ideal) m' g')
    obtain ⟨e0, e1, e2⟩ := hargs c
    obtain ⟨h0, h1, h2, h3⟩ := h c
    have eL : Cert.ReferenceIdeal.Value.L m' c = logits (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) := by
      unfold Cert.ReferenceIdeal.Value.L
      rw [e0, e1, e2]
    rw [eL] at h0 h1 h2
    exact ⟨h0, h1, h2, h3⟩

end Cert.Proof.KernelIdeal
-- ==== Proof.lean ====
module

public import proofs.«01_k».proof.Defs
public import proofs.«01_k».proof.Proof.Gen.ReferenceIdeal
public import proofs.«01_k».proof.Proof.RefRun
public import proofs.«01_k».proof.Proof.Gen.Kernel.Frame
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.RunI
public import proofs.«01_k».proof.Proof.RunK
public import proofs.«01_k».proof.Proof.AlgV
public import Idealize.ShloMosaic.Adequacy
public import Idealize.ShloMosaic.Init
public import Idealize.ShloMosaic.Lib.Bf16Pair
public import Idealize.ShloMosaic.Lib.Bf16PairInverse

@[expose] public section

noncomputable section

namespace Cert.Proof

open Idealize.ShloMosaic

/-- The kernel's idealization keeps its meaning: the words of packed halves and the packed buffers read as the rows they hold. -/
theorem preserves : Cert.preserves_Kernel_KernelIdeal :=
  open Cert.KernelIdeal IdealRules.bf16_pair in
  ⟨bufferStatement S14x128x2x256 S14x128x1x256, bufferStatement S2x176x2x128 S2x176x1x128, bufferStatement S2x176x2x256 S2x176x1x256,
    statement S256x128 S128x128, packStatement S128x128, statement S1x128x2x128 S1x128x1x128, statement S1x128x2x256 S1x128x1x256,
    statement S256x256 S128x256, statement S1x352x112 S1x176x112, statement S1x176x2x112 S1x176x1x112, statement S1x176x2x128 S1x176x1x128,
    statement S352x128 S176x128, packStatement S176x128, statement S1x16x2x256 S1x16x1x256, statement S32x256 S16x256⟩

/-- The reference runs, leaves its arguments unchanged and ends with every semaphore at zero. -/
theorem reference_frame : Cert.quiescent_ReferenceIdeal :=
  fun m ρ _ => (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- Every claim: the kernel, its idealization and the reference run, leave their arguments unchanged and end with every
    semaphore at zero; the idealization keeps the kernel's meaning; and it gives the reference's results where the
    activations and the scales are finite. -/
theorem claim : Cert.Claim :=
  ⟨inferInstance, inferInstance, inferInstance, inferInstance,
   fun m ρ _ => Cert.Proof.Kernel.frame (F := Bits) m ρ,
   fun m ρ _ => Cert.Proof.KernelIdeal.frame (F := Ideal) m ρ,
   fun m ρ _ => Cert.Proof.KernelIdeal.frame (F := Ideal) m ρ,
   reference_frame,
   fun m ρ _ => reference_frame m ρ trivial,
   preserves, Cert.Proof.KernelIdeal.algebraic⟩

end Cert.Proof

end
